-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DWDown (m : (ℓ : Loc Cert.DWDown.nD Cert.DWDown.τ Cert.DWDown.sig) → Buf (Elt Bits) ℓ) : Prop :=
  True

def Pre_DWDownIdeal (m : (ℓ : Loc Cert.DWDownIdeal.nD Cert.DWDownIdeal.τ Cert.DWDownIdeal.sig) → Buf (Elt Ideal) ℓ) : Prop :=
  True

def Pre_DWDownRefIdeal (m : (ℓ : Loc Cert.DWDownRefIdeal.nD Cert.DWDownRefIdeal.τ Cert.DWDownRefIdeal.sig) → Buf (Elt Ideal) ℓ) : Prop :=
  True

def Pre_DWUp (m : (ℓ : Loc Cert.DWUp.nD Cert.DWUp.τ Cert.DWUp.sig) → Buf (Elt Bits) ℓ) : Prop :=
  True

def Pre_DWUpIdeal (m : (ℓ : Loc Cert.DWUpIdeal.nD Cert.DWUpIdeal.τ Cert.DWUpIdeal.sig) → Buf (Elt Ideal) ℓ) : Prop :=
  True

def Pre_DWUpRefIdeal (m : (ℓ : Loc Cert.DWUpRefIdeal.nD Cert.DWUpRefIdeal.τ Cert.DWUpRefIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActRefIdeal (m : (ℓ : Loc Cert.DActRefIdeal.nD Cert.DActRefIdeal.τ Cert.DActRefIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_DWOut (m : (ℓ : Loc Cert.DWOut.nD Cert.DWOut.τ Cert.DWOut.sig) → Buf (Elt Bits) ℓ) : Prop :=
  True

def Pre_DWOutIdeal (m : (ℓ : Loc Cert.DWOutIdeal.nD Cert.DWOutIdeal.τ Cert.DWOutIdeal.sig) → Buf (Elt Ideal) ℓ) : Prop :=
  True

def Pre_DWOutRefIdeal (m : (ℓ : Loc Cert.DWOutRefIdeal.nD Cert.DWOutRefIdeal.τ Cert.DWOutRefIdeal.sig) → Buf (Elt Ideal) ℓ) : Prop :=
  True

def Pre_DWBranch (m : (ℓ : Loc Cert.DWBranch.nD Cert.DWBranch.τ Cert.DWBranch.sig) → Buf (Elt Bits) ℓ) : Prop :=
  True

def Pre_DWBranchIdeal (m : (ℓ : Loc Cert.DWBranchIdeal.nD Cert.DWBranchIdeal.τ Cert.DWBranchIdeal.sig) → Buf (Elt Ideal) ℓ) : Prop :=
  True

def Pre_DWBranchRefIdeal (m : (ℓ : Loc Cert.DWBranchRefIdeal.nD Cert.DWBranchRefIdeal.τ Cert.DWBranchRefIdeal.sig) → Buf (Elt Ideal) ℓ) : Prop :=
  True

def Pre_DWPle (m : (ℓ : Loc Cert.DWPle.nD Cert.DWPle.τ Cert.DWPle.sig) → Buf (Elt Bits) ℓ) : Prop :=
  True

def Pre_DWPleIdeal (m : (ℓ : Loc Cert.DWPleIdeal.nD Cert.DWPleIdeal.τ Cert.DWPleIdeal.sig) → Buf (Elt Ideal) ℓ) : Prop :=
  True

def Pre_DWPleRefIdeal (m : (ℓ : Loc Cert.DWPleRefIdeal.nD Cert.DWPleRefIdeal.τ Cert.DWPleRefIdeal.sig) → Buf (Elt Ideal) ℓ) : Prop :=
  True

def Pre_ProjQkv (m : (ℓ : Loc Cert.ProjQkv.nD Cert.ProjQkv.τ Cert.ProjQkv.sig) → Buf (Elt Bits) ℓ) : Prop :=
  True

def Pre_ProjQkvIdeal (m : (ℓ : Loc Cert.ProjQkvIdeal.nD Cert.ProjQkvIdeal.τ Cert.ProjQkvIdeal.sig) → Buf (Elt Ideal) ℓ) : Prop :=
  True

def Pre_ProjQkvRefIdeal (m : (ℓ : Loc Cert.ProjQkvRefIdeal.nD Cert.ProjQkvRefIdeal.τ Cert.ProjQkvRefIdeal.sig) → Buf (Elt Ideal) ℓ) : Prop :=
  True

def Pre_ProjGate (m : (ℓ : Loc Cert.ProjGate.nD Cert.ProjGate.τ Cert.ProjGate.sig) → Buf (Elt Bits) ℓ) : Prop :=
  True

def Pre_ProjGateIdeal (m : (ℓ : Loc Cert.ProjGateIdeal.nD Cert.ProjGateIdeal.τ Cert.ProjGateIdeal.sig) → Buf (Elt Ideal) ℓ) : Prop :=
  True

def Pre_ProjGateRefIdeal (m : (ℓ : Loc Cert.ProjGateRefIdeal.nD Cert.ProjGateRefIdeal.τ Cert.ProjGateRefIdeal.sig) → Buf (Elt Ideal) ℓ) : Prop :=
  True

def Pre_OutNorm (m : (ℓ : Loc Cert.OutNorm.nD Cert.OutNorm.τ Cert.OutNorm.sig) → Buf (Elt Bits) ℓ) : Prop :=
  True

def Pre_OutNormIdeal (m : (ℓ : Loc Cert.OutNormIdeal.nD Cert.OutNormIdeal.τ Cert.OutNormIdeal.sig) → Buf (Elt Ideal) ℓ) : Prop :=
  True

def Pre_OutNormRefIdeal (m : (ℓ : Loc Cert.OutNormRefIdeal.nD Cert.OutNormRefIdeal.τ Cert.OutNormRefIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def Pre_DHMlp (m : (ℓ : Loc Cert.DHMlp.nD Cert.DHMlp.τ Cert.DHMlp.sig) → Buf (Elt Bits) ℓ) : Prop :=
  True

def Pre_DHMlpIdeal (m : (ℓ : Loc Cert.DHMlpIdeal.nD Cert.DHMlpIdeal.τ Cert.DHMlpIdeal.sig) → Buf (Elt Ideal) ℓ) : Prop :=
  True

def Pre_DHMlpRefIdeal (m : (ℓ : Loc Cert.DHMlpRefIdeal.nD Cert.DHMlpRefIdeal.τ Cert.DHMlpRefIdeal.sig) → Buf (Elt Ideal) ℓ) : Prop :=
  True

def Pre_DHPle (m : (ℓ : Loc Cert.DHPle.nD Cert.DHPle.τ Cert.DHPle.sig) → Buf (Elt Bits) ℓ) : Prop :=
  True

def Pre_DHPleIdeal (m : (ℓ : Loc Cert.DHPleIdeal.nD Cert.DHPleIdeal.τ Cert.DHPleIdeal.sig) → Buf (Elt Ideal) ℓ) : Prop :=
  True

def Pre_DHPleRefIdeal (m : (ℓ : Loc Cert.DHPleRefIdeal.nD Cert.DHPleRefIdeal.τ Cert.DHPleRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def Pre_ProjForget (m : (ℓ : Loc Cert.ProjForget.nD Cert.ProjForget.τ Cert.ProjForget.sig) → Buf (Elt Bits) ℓ) : Prop :=
  True

def Pre_ProjForgetIdeal (m : (ℓ : Loc Cert.ProjForgetIdeal.nD Cert.ProjForgetIdeal.τ Cert.ProjForgetIdeal.sig) → Buf (Elt Ideal) ℓ) : Prop :=
  True

def Pre_ProjForgetRefIdeal (m : (ℓ : Loc Cert.ProjForgetRefIdeal.nD Cert.ProjForgetRefIdeal.τ Cert.ProjForgetRefIdeal.sig) → Buf (Elt Ideal) ℓ) : Prop :=
  True

def Pre_DWGate (m : (ℓ : Loc Cert.DWGate.nD Cert.DWGate.τ Cert.DWGate.sig) → Buf (Elt Bits) ℓ) : Prop :=
  True

def Pre_DWGateIdeal (m : (ℓ : Loc Cert.DWGateIdeal.nD Cert.DWGateIdeal.τ Cert.DWGateIdeal.sig) → Buf (Elt Ideal) ℓ) : Prop :=
  True

def Pre_DWGateRefIdeal (m : (ℓ : Loc Cert.DWGateRefIdeal.nD Cert.DWGateRefIdeal.τ Cert.DWGateRefIdeal.sig) → Buf (Elt Ideal) ℓ) : Prop :=
  True

def Pre_DWForget (m : (ℓ : Loc Cert.DWForget.nD Cert.DWForget.τ Cert.DWForget.sig) → Buf (Elt Bits) ℓ) : Prop :=
  True

def Pre_DWForgetIdeal (m : (ℓ : Loc Cert.DWForgetIdeal.nD Cert.DWForgetIdeal.τ Cert.DWForgetIdeal.sig) → Buf (Elt Ideal) ℓ) : Prop :=
  True

def Pre_DWForgetRefIdeal (m : (ℓ : Loc Cert.DWForgetRefIdeal.nD Cert.DWForgetRefIdeal.τ Cert.DWForgetRefIdeal.sig) → Buf (Elt Ideal) ℓ) : Prop :=
  True

def Pre_FoxPost (m : (ℓ : Loc Cert.FoxPost.nD Cert.FoxPost.τ Cert.FoxPost.sig) → Buf (Elt Bits) ℓ) : Prop :=
  True

def Pre_FoxPostIdeal (m : (ℓ : Loc Cert.FoxPostIdeal.nD Cert.FoxPostIdeal.τ Cert.FoxPostIdeal.sig) → Buf (Elt Ideal) ℓ) : Prop :=
  True

def Pre_FoxPostIdeal_finite_differences [hPre_finite_differences : Cert.Pre_finite_differences.Facts] (m : (ℓ : Loc Cert.FoxPostIdeal.nD Cert.FoxPostIdeal.τ Cert.FoxPostIdeal.sig) → Buf (Elt Ideal) ℓ) : Prop :=
  ∀ c : Dev Cert.FoxPostIdeal.nD,
    (Cert.Pre_finite_differences.fn (F := Ideal) (m ((c.tc : Thread Cert.FoxPostIdeal.nD Cert.FoxPostIdeal.τ).loc Cert.FoxPostIdeal.main_arg0)) (m ((c.tc : Thread Cert.FoxPostIdeal.nD Cert.FoxPostIdeal.τ).loc Cert.FoxPostIdeal.main_arg1)) (m ((c.tc : Thread Cert.FoxPostIdeal.nD Cert.FoxPostIdeal.τ).loc Cert.FoxPostIdeal.main_arg2)) (m ((c.tc : Thread Cert.FoxPostIdeal.nD Cert.FoxPostIdeal.τ).loc Cert.FoxPostIdeal.main_arg3))) = (fun _ => 1#1)

def Pre_FoxPostRefIdeal (m : (ℓ : Loc Cert.FoxPostRefIdeal.nD Cert.FoxPostRefIdeal.τ Cert.FoxPostRefIdeal.sig) → Buf (Elt Ideal) ℓ) : Prop :=
  True

def Pre_FoxPostRefIdeal_finite_differences [hPre_finite_differences : Cert.Pre_finite_differences.Facts] (m : (ℓ : Loc Cert.FoxPostRefIdeal.nD Cert.FoxPostRefIdeal.τ Cert.FoxPostRefIdeal.sig) → Buf (Elt Ideal) ℓ) : Prop :=
  ∀ c : Dev Cert.FoxPostRefIdeal.nD,
    (Cert.Pre_finite_differences.fn (F := Ideal) (m ((c.tc : Thread Cert.FoxPostRefIdeal.nD Cert.FoxPostRefIdeal.τ).loc Cert.FoxPostRefIdeal.main_arg0)) (m ((c.tc : Thread Cert.FoxPostRefIdeal.nD Cert.FoxPostRefIdeal.τ).loc Cert.FoxPostRefIdeal.main_arg1)) (m ((c.tc : Thread Cert.FoxPostRefIdeal.nD Cert.FoxPostRefIdeal.τ).loc Cert.FoxPostRefIdeal.main_arg2)) (m ((c.tc : Thread Cert.FoxPostRefIdeal.nD Cert.FoxPostRefIdeal.τ).loc Cert.FoxPostRefIdeal.main_arg3))) = (fun _ => 1#1)

def Pre_FoxPrep (m : (ℓ : Loc Cert.FoxPrep.nD Cert.FoxPrep.τ Cert.FoxPrep.sig) → Buf (Elt Bits) ℓ) : Prop :=
  True

def Pre_FoxPrepIdeal (m : (ℓ : Loc Cert.FoxPrepIdeal.nD Cert.FoxPrepIdeal.τ Cert.FoxPrepIdeal.sig) → Buf (Elt Ideal) ℓ) : Prop :=
  True

def Pre_FoxPrepRefIdeal (m : (ℓ : Loc Cert.FoxPrepRefIdeal.nD Cert.FoxPrepRefIdeal.τ Cert.FoxPrepRefIdeal.sig) → Buf (Elt Ideal) ℓ) : Prop :=
  True

def Pre_AdamVec (m : (ℓ : Loc Cert.AdamVec.nD Cert.AdamVec.τ Cert.AdamVec.sig) → Buf (Elt Bits) ℓ) : Prop :=
  True

def Pre_AdamVecIdeal (m : (ℓ : Loc Cert.AdamVecIdeal.nD Cert.AdamVecIdeal.τ Cert.AdamVecIdeal.sig) → Buf (Elt Ideal) ℓ) : Prop :=
  True

def Pre_AdamVecRefIdeal (m : (ℓ : Loc Cert.AdamVecRefIdeal.nD Cert.AdamVecRefIdeal.τ Cert.AdamVecRefIdeal.sig) → Buf (Elt Ideal) ℓ) : Prop :=
  True

def Pre_AdamBig [hPre_place_named : Cert.Pre_place_named.Facts] (m : (ℓ : Loc Cert.AdamBig.nD Cert.AdamBig.τ Cert.AdamBig.sig) → Buf (Elt Bits) ℓ) : Prop :=
  ∀ c : Dev Cert.AdamBig.nD,
    (Cert.Pre_place_named.fn (F := Bits) (m ((c.tc : Thread Cert.AdamBig.nD Cert.AdamBig.τ).loc Cert.AdamBig.main_arg0)) (m ((c.tc : Thread Cert.AdamBig.nD Cert.AdamBig.τ).loc Cert.AdamBig.main_arg1)) (m ((c.tc : Thread Cert.AdamBig.nD Cert.AdamBig.τ).loc Cert.AdamBig.main_arg2)) (m ((c.tc : Thread Cert.AdamBig.nD Cert.AdamBig.τ).loc Cert.AdamBig.main_arg3)) (m ((c.tc : Thread Cert.AdamBig.nD Cert.AdamBig.τ).loc Cert.AdamBig.main_arg4)) (m ((c.tc : Thread Cert.AdamBig.nD Cert.AdamBig.τ).loc Cert.AdamBig.main_arg5))) = (fun _ => 1#1)

def Pre_AdamBigIdeal [hPre_place_named : Cert.Pre_place_named.Facts] (m : (ℓ : Loc Cert.AdamBigIdeal.nD Cert.AdamBigIdeal.τ Cert.AdamBigIdeal.sig) → Buf (Elt Ideal) ℓ) : Prop :=
  ∀ c : Dev Cert.AdamBigIdeal.nD,
    (Cert.Pre_place_named.fn (F := Ideal) (m ((c.tc : Thread Cert.AdamBigIdeal.nD Cert.AdamBigIdeal.τ).loc Cert.AdamBigIdeal.main_arg0)) (m ((c.tc : Thread Cert.AdamBigIdeal.nD Cert.AdamBigIdeal.τ).loc Cert.AdamBigIdeal.main_arg1)) (m ((c.tc : Thread Cert.AdamBigIdeal.nD Cert.AdamBigIdeal.τ).loc Cert.AdamBigIdeal.main_arg2)) (m ((c.tc : Thread Cert.AdamBigIdeal.nD Cert.AdamBigIdeal.τ).loc Cert.AdamBigIdeal.main_arg3)) (m ((c.tc : Thread Cert.AdamBigIdeal.nD Cert.AdamBigIdeal.τ).loc Cert.AdamBigIdeal.main_arg4)) (m ((c.tc : Thread Cert.AdamBigIdeal.nD Cert.AdamBigIdeal.τ).loc Cert.AdamBigIdeal.main_arg5))) = (fun _ => 1#1)

def Pre_AdamBigRefIdeal (m : (ℓ : Loc Cert.AdamBigRefIdeal.nD Cert.AdamBigRefIdeal.τ Cert.AdamBigRefIdeal.sig) → Buf (Elt Ideal) ℓ) : Prop :=
  True

def Pre_AdamBigRefIdeal_place_named [hPre_place_named : Cert.Pre_place_named.Facts] (m : (ℓ : Loc Cert.AdamBigRefIdeal.nD Cert.AdamBigRefIdeal.τ Cert.AdamBigRefIdeal.sig) → Buf (Elt Ideal) ℓ) : Prop :=
  ∀ c : Dev Cert.AdamBigRefIdeal.nD,
    (Cert.Pre_place_named.fn (F := Ideal) (m ((c.tc : Thread Cert.AdamBigRefIdeal.nD Cert.AdamBigRefIdeal.τ).loc Cert.AdamBigRefIdeal.main_arg0)) (m ((c.tc : Thread Cert.AdamBigRefIdeal.nD Cert.AdamBigRefIdeal.τ).loc Cert.AdamBigRefIdeal.main_arg1)) (m ((c.tc : Thread Cert.AdamBigRefIdeal.nD Cert.AdamBigRefIdeal.τ).loc Cert.AdamBigRefIdeal.main_arg2)) (m ((c.tc : Thread Cert.AdamBigRefIdeal.nD Cert.AdamBigRefIdeal.τ).loc Cert.AdamBigRefIdeal.main_arg3)) (m ((c.tc : Thread Cert.AdamBigRefIdeal.nD Cert.AdamBigRefIdeal.τ).loc Cert.AdamBigRefIdeal.main_arg4)) (m ((c.tc : Thread Cert.AdamBigRefIdeal.nD Cert.AdamBigRefIdeal.τ).loc Cert.AdamBigRefIdeal.main_arg5))) = (fun _ => 1#1)

def Pre_AdamIn [hPre_place_named_in : Cert.Pre_place_named_in.Facts] (m : (ℓ : Loc Cert.AdamIn.nD Cert.AdamIn.τ Cert.AdamIn.sig) → Buf (Elt Bits) ℓ) : Prop :=
  ∀ c : Dev Cert.AdamIn.nD,
    (Cert.Pre_place_named_in.fn (F := Bits) (m ((c.tc : Thread Cert.AdamIn.nD Cert.AdamIn.τ).loc Cert.AdamIn.main_arg0)) (m ((c.tc : Thread Cert.AdamIn.nD Cert.AdamIn.τ).loc Cert.AdamIn.main_arg1)) (m ((c.tc : Thread Cert.AdamIn.nD Cert.AdamIn.τ).loc Cert.AdamIn.main_arg2)) (m ((c.tc : Thread Cert.AdamIn.nD Cert.AdamIn.τ).loc Cert.AdamIn.main_arg3)) (m ((c.tc : Thread Cert.AdamIn.nD Cert.AdamIn.τ).loc Cert.AdamIn.main_arg4)) (m ((c.tc : Thread Cert.AdamIn.nD Cert.AdamIn.τ).loc Cert.AdamIn.main_arg5))) = (fun _ => 1#1)

def Pre_AdamInIdeal [hPre_place_named_in : Cert.Pre_place_named_in.Facts] (m : (ℓ : Loc Cert.AdamInIdeal.nD Cert.AdamInIdeal.τ Cert.AdamInIdeal.sig) → Buf (Elt Ideal) ℓ) : Prop :=
  ∀ c : Dev Cert.AdamInIdeal.nD,
    (Cert.Pre_place_named_in.fn (F := Ideal) (m ((c.tc : Thread Cert.AdamInIdeal.nD Cert.AdamInIdeal.τ).loc Cert.AdamInIdeal.main_arg0)) (m ((c.tc : Thread Cert.AdamInIdeal.nD Cert.AdamInIdeal.τ).loc Cert.AdamInIdeal.main_arg1)) (m ((c.tc : Thread Cert.AdamInIdeal.nD Cert.AdamInIdeal.τ).loc Cert.AdamInIdeal.main_arg2)) (m ((c.tc : Thread Cert.AdamInIdeal.nD Cert.AdamInIdeal.τ).loc Cert.AdamInIdeal.main_arg3)) (m ((c.tc : Thread Cert.AdamInIdeal.nD Cert.AdamInIdeal.τ).loc Cert.AdamInIdeal.main_arg4)) (m ((c.tc : Thread Cert.AdamInIdeal.nD Cert.AdamInIdeal.τ).loc Cert.AdamInIdeal.main_arg5))) = (fun _ => 1#1)

def Pre_AdamInRefIdeal (m : (ℓ : Loc Cert.AdamInRefIdeal.nD Cert.AdamInRefIdeal.τ Cert.AdamInRefIdeal.sig) → Buf (Elt Ideal) ℓ) : Prop :=
  True

def Pre_AdamInRefIdeal_place_named_in [hPre_place_named_in : Cert.Pre_place_named_in.Facts] (m : (ℓ : Loc Cert.AdamInRefIdeal.nD Cert.AdamInRefIdeal.τ Cert.AdamInRefIdeal.sig) → Buf (Elt Ideal) ℓ) : Prop :=
  ∀ c : Dev Cert.AdamInRefIdeal.nD,
    (Cert.Pre_place_named_in.fn (F := Ideal) (m ((c.tc : Thread Cert.AdamInRefIdeal.nD Cert.AdamInRefIdeal.τ).loc Cert.AdamInRefIdeal.main_arg0)) (m ((c.tc : Thread Cert.AdamInRefIdeal.nD Cert.AdamInRefIdeal.τ).loc Cert.AdamInRefIdeal.main_arg1)) (m ((c.tc : Thread Cert.AdamInRefIdeal.nD Cert.AdamInRefIdeal.τ).loc Cert.AdamInRefIdeal.main_arg2)) (m ((c.tc : Thread Cert.AdamInRefIdeal.nD Cert.AdamInRefIdeal.τ).loc Cert.AdamInRefIdeal.main_arg3)) (m ((c.tc : Thread Cert.AdamInRefIdeal.nD Cert.AdamInRefIdeal.τ).loc Cert.AdamInRefIdeal.main_arg4)) (m ((c.tc : Thread Cert.AdamInRefIdeal.nD Cert.AdamInRefIdeal.τ).loc Cert.AdamInRefIdeal.main_arg5))) = (fun _ => 1#1)

def Pre_SumSibling [hPre_place_named_sibling : Cert.Pre_place_named_sibling.Facts] (m : (ℓ : Loc Cert.SumSibling.nD Cert.SumSibling.τ Cert.SumSibling.sig) → Buf (Elt Bits) ℓ) : Prop :=
  ∀ c : Dev Cert.SumSibling.nD,
    (Cert.Pre_place_named_sibling.fn (F := Bits) (m ((c.tc : Thread Cert.SumSibling.nD Cert.SumSibling.τ).loc Cert.SumSibling.main_arg0)) (m ((c.tc : Thread Cert.SumSibling.nD Cert.SumSibling.τ).loc Cert.SumSibling.main_arg1)) (m ((c.tc : Thread Cert.SumSibling.nD Cert.SumSibling.τ).loc Cert.SumSibling.main_arg2))) = (fun _ => 1#1)

def Pre_SumSiblingIdeal [hPre_place_named_sibling : Cert.Pre_place_named_sibling.Facts] (m : (ℓ : Loc Cert.SumSiblingIdeal.nD Cert.SumSiblingIdeal.τ Cert.SumSiblingIdeal.sig) → Buf (Elt Ideal) ℓ) : Prop :=
  ∀ c : Dev Cert.SumSiblingIdeal.nD,
    (Cert.Pre_place_named_sibling.fn (F := Ideal) (m ((c.tc : Thread Cert.SumSiblingIdeal.nD Cert.SumSiblingIdeal.τ).loc Cert.SumSiblingIdeal.main_arg0)) (m ((c.tc : Thread Cert.SumSiblingIdeal.nD Cert.SumSiblingIdeal.τ).loc Cert.SumSiblingIdeal.main_arg1)) (m ((c.tc : Thread Cert.SumSiblingIdeal.nD Cert.SumSiblingIdeal.τ).loc Cert.SumSiblingIdeal.main_arg2))) = (fun _ => 1#1)

def Pre_SumSiblingRefIdeal (m : (ℓ : Loc Cert.SumSiblingRefIdeal.nD Cert.SumSiblingRefIdeal.τ Cert.SumSiblingRefIdeal.sig) → Buf (Elt Ideal) ℓ) : Prop :=
  True

def Pre_SumSiblingRefIdeal_place_named_sibling [hPre_place_named_sibling : Cert.Pre_place_named_sibling.Facts] (m : (ℓ : Loc Cert.SumSiblingRefIdeal.nD Cert.SumSiblingRefIdeal.τ Cert.SumSiblingRefIdeal.sig) → Buf (Elt Ideal) ℓ) : Prop :=
  ∀ c : Dev Cert.SumSiblingRefIdeal.nD,
    (Cert.Pre_place_named_sibling.fn (F := Ideal) (m ((c.tc : Thread Cert.SumSiblingRefIdeal.nD Cert.SumSiblingRefIdeal.τ).loc Cert.SumSiblingRefIdeal.main_arg0)) (m ((c.tc : Thread Cert.SumSiblingRefIdeal.nD Cert.SumSiblingRefIdeal.τ).loc Cert.SumSiblingRefIdeal.main_arg1)) (m ((c.tc : Thread Cert.SumSiblingRefIdeal.nD Cert.SumSiblingRefIdeal.τ).loc Cert.SumSiblingRefIdeal.main_arg2))) = (fun _ => 1#1)

def Pre_SumChips [hPre_place_named_chips : Cert.Pre_place_named_chips.Facts] (m : (ℓ : Loc Cert.SumChips.nD Cert.SumChips.τ Cert.SumChips.sig) → Buf (Elt Bits) ℓ) : Prop :=
  ∀ c : Dev Cert.SumChips.nD,
    (Cert.Pre_place_named_chips.fn (F := Bits) (m ((c.tc : Thread Cert.SumChips.nD Cert.SumChips.τ).loc Cert.SumChips.main_arg0)) (m ((c.tc : Thread Cert.SumChips.nD Cert.SumChips.τ).loc Cert.SumChips.main_arg1)) (m ((c.tc : Thread Cert.SumChips.nD Cert.SumChips.τ).loc Cert.SumChips.main_arg2)) (m ((c.tc : Thread Cert.SumChips.nD Cert.SumChips.τ).loc Cert.SumChips.main_arg3))) = (fun _ => 1#1)

def Pre_SumChipsIdeal [hPre_place_named_chips : Cert.Pre_place_named_chips.Facts] (m : (ℓ : Loc Cert.SumChipsIdeal.nD Cert.SumChipsIdeal.τ Cert.SumChipsIdeal.sig) → Buf (Elt Ideal) ℓ) : Prop :=
  ∀ c : Dev Cert.SumChipsIdeal.nD,
    (Cert.Pre_place_named_chips.fn (F := Ideal) (m ((c.tc : Thread Cert.SumChipsIdeal.nD Cert.SumChipsIdeal.τ).loc Cert.SumChipsIdeal.main_arg0)) (m ((c.tc : Thread Cert.SumChipsIdeal.nD Cert.SumChipsIdeal.τ).loc Cert.SumChipsIdeal.main_arg1)) (m ((c.tc : Thread Cert.SumChipsIdeal.nD Cert.SumChipsIdeal.τ).loc Cert.SumChipsIdeal.main_arg2)) (m ((c.tc : Thread Cert.SumChipsIdeal.nD Cert.SumChipsIdeal.τ).loc Cert.SumChipsIdeal.main_arg3))) = (fun _ => 1#1)

def Pre_SumChipsRefIdeal (m : (ℓ : Loc Cert.SumChipsRefIdeal.nD Cert.SumChipsRefIdeal.τ Cert.SumChipsRefIdeal.sig) → Buf (Elt Ideal) ℓ) : Prop :=
  True

def Pre_SumChipsRefIdeal_place_named_chips [hPre_place_named_chips : Cert.Pre_place_named_chips.Facts] (m : (ℓ : Loc Cert.SumChipsRefIdeal.nD Cert.SumChipsRefIdeal.τ Cert.SumChipsRefIdeal.sig) → Buf (Elt Ideal) ℓ) : Prop :=
  ∀ c : Dev Cert.SumChipsRefIdeal.nD,
    (Cert.Pre_place_named_chips.fn (F := Ideal) (m ((c.tc : Thread Cert.SumChipsRefIdeal.nD Cert.SumChipsRefIdeal.τ).loc Cert.SumChipsRefIdeal.main_arg0)) (m ((c.tc : Thread Cert.SumChipsRefIdeal.nD Cert.SumChipsRefIdeal.τ).loc Cert.SumChipsRefIdeal.main_arg1)) (m ((c.tc : Thread Cert.SumChipsRefIdeal.nD Cert.SumChipsRefIdeal.τ).loc Cert.SumChipsRefIdeal.main_arg2)) (m ((c.tc : Thread Cert.SumChipsRefIdeal.nD Cert.SumChipsRefIdeal.τ).loc Cert.SumChipsRefIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_DWDown [hDWDown : Cert.DWDown.Facts] : Prop :=
  ∀ (m : (ℓ : Loc Cert.DWDown.nD Cert.DWDown.τ Cert.DWDown.sig) → Buf (Elt Bits) ℓ) (g : Dev Cert.DWDown.nD → PrngReg), Pre_DWDown m →
    θ_run (Cert.DWDown.defs (F := Bits)) (onTc (τ := Cert.DWDown.τ) (Cert.DWDown.main (F := Bits))) ⟨m, fun _ => 0, g⟩ (fun r => (∀ c : Dev Cert.DWDown.nD,
      r.2.mem ((c.tc : Thread Cert.DWDown.nD Cert.DWDown.τ).loc Cert.DWDown.main_arg0) = m ((c.tc : Thread Cert.DWDown.nD Cert.DWDown.τ).loc Cert.DWDown.main_arg0)
      ∧ r.2.mem ((c.tc : Thread Cert.DWDown.nD Cert.DWDown.τ).loc Cert.DWDown.main_arg1) = m ((c.tc : Thread Cert.DWDown.nD Cert.DWDown.τ).loc Cert.DWDown.main_arg1))
      ∧ r.2.sem = fun _ => 0)

def quiescent_DWDownIdeal [hDWDownIdeal : Cert.DWDownIdeal.Facts] : Prop :=
  ∀ (m : (ℓ : Loc Cert.DWDownIdeal.nD Cert.DWDownIdeal.τ Cert.DWDownIdeal.sig) → Buf (Elt Ideal) ℓ) (g : Dev Cert.DWDownIdeal.nD → PrngReg), Pre_DWDownIdeal m →
    θ_run (Cert.DWDownIdeal.defs (F := Ideal)) (onTc (τ := Cert.DWDownIdeal.τ) (Cert.DWDownIdeal.main (F := Ideal))) ⟨m, fun _ => 0, g⟩ (fun r => (∀ c : Dev Cert.DWDownIdeal.nD,
      r.2.mem ((c.tc : Thread Cert.DWDownIdeal.nD Cert.DWDownIdeal.τ).loc Cert.DWDownIdeal.main_arg0) = m ((c.tc : Thread Cert.DWDownIdeal.nD Cert.DWDownIdeal.τ).loc Cert.DWDownIdeal.main_arg0)
      ∧ r.2.mem ((c.tc : Thread Cert.DWDownIdeal.nD Cert.DWDownIdeal.τ).loc Cert.DWDownIdeal.main_arg1) = m ((c.tc : Thread Cert.DWDownIdeal.nD Cert.DWDownIdeal.τ).loc Cert.DWDownIdeal.main_arg1))
      ∧ r.2.sem = fun _ => 0)

def quiescent_DWDownRefIdeal [hDWDownRefIdeal : Cert.DWDownRefIdeal.Facts] : Prop :=
  ∀ (m : (ℓ : Loc Cert.DWDownRefIdeal.nD Cert.DWDownRefIdeal.τ Cert.DWDownRefIdeal.sig) → Buf (Elt Ideal) ℓ) (g : Dev Cert.DWDownRefIdeal.nD → PrngReg), Pre_DWDownRefIdeal m →
    θ_run (Cert.DWDownRefIdeal.defs (F := Ideal)) (onTc (τ := Cert.DWDownRefIdeal.τ) (Cert.DWDownRefIdeal.main (F := Ideal))) ⟨m, fun _ => 0, g⟩ (fun r => (∀ c : Dev Cert.DWDownRefIdeal.nD,
      r.2.mem ((c.tc : Thread Cert.DWDownRefIdeal.nD Cert.DWDownRefIdeal.τ).loc Cert.DWDownRefIdeal.main_arg0) = m ((c.tc : Thread Cert.DWDownRefIdeal.nD Cert.DWDownRefIdeal.τ).loc Cert.DWDownRefIdeal.main_arg0)
      ∧ r.2.mem ((c.tc : Thread Cert.DWDownRefIdeal.nD Cert.DWDownRefIdeal.τ).loc Cert.DWDownRefIdeal.main_arg1) = m ((c.tc : Thread Cert.DWDownRefIdeal.nD Cert.DWDownRefIdeal.τ).loc Cert.DWDownRefIdeal.main_arg1))
      ∧ r.2.sem = fun _ => 0)

def quiescent_DWUp [hDWUp : Cert.DWUp.Facts] : Prop :=
  ∀ (m : (ℓ : Loc Cert.DWUp.nD Cert.DWUp.τ Cert.DWUp.sig) → Buf (Elt Bits) ℓ) (g : Dev Cert.DWUp.nD → PrngReg), Pre_DWUp m →
    θ_run (Cert.DWUp.defs (F := Bits)) (onTc (τ := Cert.DWUp.τ) (Cert.DWUp.main (F := Bits))) ⟨m, fun _ => 0, g⟩ (fun r => (∀ c : Dev Cert.DWUp.nD,
      r.2.mem ((c.tc : Thread Cert.DWUp.nD Cert.DWUp.τ).loc Cert.DWUp.main_arg0) = m ((c.tc : Thread Cert.DWUp.nD Cert.DWUp.τ).loc Cert.DWUp.main_arg0)
      ∧ r.2.mem ((c.tc : Thread Cert.DWUp.nD Cert.DWUp.τ).loc Cert.DWUp.main_arg1) = m ((c.tc : Thread Cert.DWUp.nD Cert.DWUp.τ).loc Cert.DWUp.main_arg1))
      ∧ r.2.sem = fun _ => 0)

def quiescent_DWUpIdeal [hDWUpIdeal : Cert.DWUpIdeal.Facts] : Prop :=
  ∀ (m : (ℓ : Loc Cert.DWUpIdeal.nD Cert.DWUpIdeal.τ Cert.DWUpIdeal.sig) → Buf (Elt Ideal) ℓ) (g : Dev Cert.DWUpIdeal.nD → PrngReg), Pre_DWUpIdeal m →
    θ_run (Cert.DWUpIdeal.defs (F := Ideal)) (onTc (τ := Cert.DWUpIdeal.τ) (Cert.DWUpIdeal.main (F := Ideal))) ⟨m, fun _ => 0, g⟩ (fun r => (∀ c : Dev Cert.DWUpIdeal.nD,
      r.2.mem ((c.tc : Thread Cert.DWUpIdeal.nD Cert.DWUpIdeal.τ).loc Cert.DWUpIdeal.main_arg0) = m ((c.tc : Thread Cert.DWUpIdeal.nD Cert.DWUpIdeal.τ).loc Cert.DWUpIdeal.main_arg0)
      ∧ r.2.mem ((c.tc : Thread Cert.DWUpIdeal.nD Cert.DWUpIdeal.τ).loc Cert.DWUpIdeal.main_arg1) = m ((c.tc : Thread Cert.DWUpIdeal.nD Cert.DWUpIdeal.τ).loc Cert.DWUpIdeal.main_arg1))
      ∧ r.2.sem = fun _ => 0)

def quiescent_DWUpRefIdeal [hDWUpRefIdeal : Cert.DWUpRefIdeal.Facts] : Prop :=
  ∀ (m : (ℓ : Loc Cert.DWUpRefIdeal.nD Cert.DWUpRefIdeal.τ Cert.DWUpRefIdeal.sig) → Buf (Elt Ideal) ℓ) (g : Dev Cert.DWUpRefIdeal.nD → PrngReg), Pre_DWUpRefIdeal m →
    θ_run (Cert.DWUpRefIdeal.defs (F := Ideal)) (onTc (τ := Cert.DWUpRefIdeal.τ) (Cert.DWUpRefIdeal.main (F := Ideal))) ⟨m, fun _ => 0, g⟩ (fun r => (∀ c : Dev Cert.DWUpRefIdeal.nD,
      r.2.mem ((c.tc : Thread Cert.DWUpRefIdeal.nD Cert.DWUpRefIdeal.τ).loc Cert.DWUpRefIdeal.main_arg0) = m ((c.tc : Thread Cert.DWUpRefIdeal.nD Cert.DWUpRefIdeal.τ).loc Cert.DWUpRefIdeal.main_arg0)
      ∧ r.2.mem ((c.tc : Thread Cert.DWUpRefIdeal.nD Cert.DWUpRefIdeal.τ).loc Cert.DWUpRefIdeal.main_arg1) = m ((c.tc : Thread Cert.DWUpRefIdeal.nD Cert.DWUpRefIdeal.τ).loc Cert.DWUpRefIdeal.main_arg1))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1)
      ∧ r.2.mem ((c.tc : Thread Cert.DAct.nD Cert.DAct.τ).loc Cert.DAct.main_arg2) = m ((c.tc : Thread Cert.DAct.nD Cert.DAct.τ).loc Cert.DAct.main_arg2))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
      ∧ r.2.mem ((c.tc : Thread Cert.DActIdeal.nD Cert.DActIdeal.τ).loc Cert.DActIdeal.main_arg2) = m ((c.tc : Thread Cert.DActIdeal.nD Cert.DActIdeal.τ).loc Cert.DActIdeal.main_arg2))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1)
      ∧ r.2.mem ((c.tc : Thread Cert.DActRefIdeal.nD Cert.DActRefIdeal.τ).loc Cert.DActRefIdeal.main_arg2) = m ((c.tc : Thread Cert.DActRefIdeal.nD Cert.DActRefIdeal.τ).loc Cert.DActRefIdeal.main_arg2))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2)
      ∧ r.2.mem ((c.tc : Thread Cert.MlpDown.nD Cert.MlpDown.τ).loc Cert.MlpDown.main_arg3) = m ((c.tc : Thread Cert.MlpDown.nD Cert.MlpDown.τ).loc Cert.MlpDown.main_arg3))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
      ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1)
      ∧ r.2.mem ((c.tc : Thread Cert.MlpDownRefIdeal.nD Cert.MlpDownRefIdeal.τ).loc Cert.MlpDownRefIdeal.main_arg2) = m ((c.tc : Thread Cert.MlpDownRefIdeal.nD Cert.MlpDownRefIdeal.τ).loc Cert.MlpDownRefIdeal.main_arg2)
      ∧ r.2.mem ((c.tc : Thread Cert.MlpDownRefIdeal.nD Cert.MlpDownRefIdeal.τ).loc Cert.MlpDownRefIdeal.main_arg3) = m ((c.tc : Thread Cert.MlpDownRefIdeal.nD Cert.MlpDownRefIdeal.τ).loc Cert.MlpDownRefIdeal.main_arg3))
      ∧ r.2.sem = fun _ => 0)

def quiescent_DWOut [hDWOut : Cert.DWOut.Facts] : Prop :=
  ∀ (m : (ℓ : Loc Cert.DWOut.nD Cert.DWOut.τ Cert.DWOut.sig) → Buf (Elt Bits) ℓ) (g : Dev Cert.DWOut.nD → PrngReg), Pre_DWOut m →
    θ_run (Cert.DWOut.defs (F := Bits)) (onTc (τ := Cert.DWOut.τ) (Cert.DWOut.main (F := Bits))) ⟨m, fun _ => 0, g⟩ (fun r => (∀ c : Dev Cert.DWOut.nD,
      r.2.mem ((c.tc : Thread Cert.DWOut.nD Cert.DWOut.τ).loc Cert.DWOut.main_arg0) = m ((c.tc : Thread Cert.DWOut.nD Cert.DWOut.τ).loc Cert.DWOut.main_arg0)
      ∧ r.2.mem ((c.tc : Thread Cert.DWOut.nD Cert.DWOut.τ).loc Cert.DWOut.main_arg1) = m ((c.tc : Thread Cert.DWOut.nD Cert.DWOut.τ).loc Cert.DWOut.main_arg1))
      ∧ r.2.sem = fun _ => 0)

def quiescent_DWOutIdeal [hDWOutIdeal : Cert.DWOutIdeal.Facts] : Prop :=
  ∀ (m : (ℓ : Loc Cert.DWOutIdeal.nD Cert.DWOutIdeal.τ Cert.DWOutIdeal.sig) → Buf (Elt Ideal) ℓ) (g : Dev Cert.DWOutIdeal.nD → PrngReg), Pre_DWOutIdeal m →
    θ_run (Cert.DWOutIdeal.defs (F := Ideal)) (onTc (τ := Cert.DWOutIdeal.τ) (Cert.DWOutIdeal.main (F := Ideal))) ⟨m, fun _ => 0, g⟩ (fun r => (∀ c : Dev Cert.DWOutIdeal.nD,
      r.2.mem ((c.tc : Thread Cert.DWOutIdeal.nD Cert.DWOutIdeal.τ).loc Cert.DWOutIdeal.main_arg0) = m ((c.tc : Thread Cert.DWOutIdeal.nD Cert.DWOutIdeal.τ).loc Cert.DWOutIdeal.main_arg0)
      ∧ r.2.mem ((c.tc : Thread Cert.DWOutIdeal.nD Cert.DWOutIdeal.τ).loc Cert.DWOutIdeal.main_arg1) = m ((c.tc : Thread Cert.DWOutIdeal.nD Cert.DWOutIdeal.τ).loc Cert.DWOutIdeal.main_arg1))
      ∧ r.2.sem = fun _ => 0)

def quiescent_DWOutRefIdeal [hDWOutRefIdeal : Cert.DWOutRefIdeal.Facts] : Prop :=
  ∀ (m : (ℓ : Loc Cert.DWOutRefIdeal.nD Cert.DWOutRefIdeal.τ Cert.DWOutRefIdeal.sig) → Buf (Elt Ideal) ℓ) (g : Dev Cert.DWOutRefIdeal.nD → PrngReg), Pre_DWOutRefIdeal m →
    θ_run (Cert.DWOutRefIdeal.defs (F := Ideal)) (onTc (τ := Cert.DWOutRefIdeal.τ) (Cert.DWOutRefIdeal.main (F := Ideal))) ⟨m, fun _ => 0, g⟩ (fun r => (∀ c : Dev Cert.DWOutRefIdeal.nD,
      r.2.mem ((c.tc : Thread Cert.DWOutRefIdeal.nD Cert.DWOutRefIdeal.τ).loc Cert.DWOutRefIdeal.main_arg0) = m ((c.tc : Thread Cert.DWOutRefIdeal.nD Cert.DWOutRefIdeal.τ).loc Cert.DWOutRefIdeal.main_arg0)
      ∧ r.2.mem ((c.tc : Thread Cert.DWOutRefIdeal.nD Cert.DWOutRefIdeal.τ).loc Cert.DWOutRefIdeal.main_arg1) = m ((c.tc : Thread Cert.DWOutRefIdeal.nD Cert.DWOutRefIdeal.τ).loc Cert.DWOutRefIdeal.main_arg1))
      ∧ r.2.sem = fun _ => 0)

def quiescent_DWBranch [hDWBranch : Cert.DWBranch.Facts] : Prop :=
  ∀ (m : (ℓ : Loc Cert.DWBranch.nD Cert.DWBranch.τ Cert.DWBranch.sig) → Buf (Elt Bits) ℓ) (g : Dev Cert.DWBranch.nD → PrngReg), Pre_DWBranch m →
    θ_run (Cert.DWBranch.defs (F := Bits)) (onTc (τ := Cert.DWBranch.τ) (Cert.DWBranch.main (F := Bits))) ⟨m, fun _ => 0, g⟩ (fun r => (∀ c : Dev Cert.DWBranch.nD,
      r.2.mem ((c.tc : Thread Cert.DWBranch.nD Cert.DWBranch.τ).loc Cert.DWBranch.main_arg0) = m ((c.tc : Thread Cert.DWBranch.nD Cert.DWBranch.τ).loc Cert.DWBranch.main_arg0)
      ∧ r.2.mem ((c.tc : Thread Cert.DWBranch.nD Cert.DWBranch.τ).loc Cert.DWBranch.main_arg1) = m ((c.tc : Thread Cert.DWBranch.nD Cert.DWBranch.τ).loc Cert.DWBranch.main_arg1))
      ∧ r.2.sem = fun _ => 0)

def quiescent_DWBranchIdeal [hDWBranchIdeal : Cert.DWBranchIdeal.Facts] : Prop :=
  ∀ (m : (ℓ : Loc Cert.DWBranchIdeal.nD Cert.DWBranchIdeal.τ Cert.DWBranchIdeal.sig) → Buf (Elt Ideal) ℓ) (g : Dev Cert.DWBranchIdeal.nD → PrngReg), Pre_DWBranchIdeal m →
    θ_run (Cert.DWBranchIdeal.defs (F := Ideal)) (onTc (τ := Cert.DWBranchIdeal.τ) (Cert.DWBranchIdeal.main (F := Ideal))) ⟨m, fun _ => 0, g⟩ (fun r => (∀ c : Dev Cert.DWBranchIdeal.nD,
      r.2.mem ((c.tc : Thread Cert.DWBranchIdeal.nD Cert.DWBranchIdeal.τ).loc Cert.DWBranchIdeal.main_arg0) = m ((c.tc : Thread Cert.DWBranchIdeal.nD Cert.DWBranchIdeal.τ).loc Cert.DWBranchIdeal.main_arg0)
      ∧ r.2.mem ((c.tc : Thread Cert.DWBranchIdeal.nD Cert.DWBranchIdeal.τ).loc Cert.DWBranchIdeal.main_arg1) = m ((c.tc : Thread Cert.DWBranchIdeal.nD Cert.DWBranchIdeal.τ).loc Cert.DWBranchIdeal.main_arg1))
      ∧ r.2.sem = fun _ => 0)

def quiescent_DWBranchRefIdeal [hDWBranchRefIdeal : Cert.DWBranchRefIdeal.Facts] : Prop :=
  ∀ (m : (ℓ : Loc Cert.DWBranchRefIdeal.nD Cert.DWBranchRefIdeal.τ Cert.DWBranchRefIdeal.sig) → Buf (Elt Ideal) ℓ) (g : Dev Cert.DWBranchRefIdeal.nD → PrngReg), Pre_DWBranchRefIdeal m →
    θ_run (Cert.DWBranchRefIdeal.defs (F := Ideal)) (onTc (τ := Cert.DWBranchRefIdeal.τ) (Cert.DWBranchRefIdeal.main (F := Ideal))) ⟨m, fun _ => 0, g⟩ (fun r => (∀ c : Dev Cert.DWBranchRefIdeal.nD,
      r.2.mem ((c.tc : Thread Cert.DWBranchRefIdeal.nD Cert.DWBranchRefIdeal.τ).loc Cert.DWBranchRefIdeal.main_arg0) = m ((c.tc : Thread Cert.DWBranchRefIdeal.nD Cert.DWBranchRefIdeal.τ).loc Cert.DWBranchRefIdeal.main_arg0)
      ∧ r.2.mem ((c.tc : Thread Cert.DWBranchRefIdeal.nD Cert.DWBranchRefIdeal.τ).loc Cert.DWBranchRefIdeal.main_arg1) = m ((c.tc : Thread Cert.DWBranchRefIdeal.nD Cert.DWBranchRefIdeal.τ).loc Cert.DWBranchRefIdeal.main_arg1))
      ∧ r.2.sem = fun _ => 0)

def quiescent_DWPle [hDWPle : Cert.DWPle.Facts] : Prop :=
  ∀ (m : (ℓ : Loc Cert.DWPle.nD Cert.DWPle.τ Cert.DWPle.sig) → Buf (Elt Bits) ℓ) (g : Dev Cert.DWPle.nD → PrngReg), Pre_DWPle m →
    θ_run (Cert.DWPle.defs (F := Bits)) (onTc (τ := Cert.DWPle.τ) (Cert.DWPle.main (F := Bits))) ⟨m, fun _ => 0, g⟩ (fun r => (∀ c : Dev Cert.DWPle.nD,
      r.2.mem ((c.tc : Thread Cert.DWPle.nD Cert.DWPle.τ).loc Cert.DWPle.main_arg0) = m ((c.tc : Thread Cert.DWPle.nD Cert.DWPle.τ).loc Cert.DWPle.main_arg0)
      ∧ r.2.mem ((c.tc : Thread Cert.DWPle.nD Cert.DWPle.τ).loc Cert.DWPle.main_arg1) = m ((c.tc : Thread Cert.DWPle.nD Cert.DWPle.τ).loc Cert.DWPle.main_arg1))
      ∧ r.2.sem = fun _ => 0)

def quiescent_DWPleIdeal [hDWPleIdeal : Cert.DWPleIdeal.Facts] : Prop :=
  ∀ (m : (ℓ : Loc Cert.DWPleIdeal.nD Cert.DWPleIdeal.τ Cert.DWPleIdeal.sig) → Buf (Elt Ideal) ℓ) (g : Dev Cert.DWPleIdeal.nD → PrngReg), Pre_DWPleIdeal m →
    θ_run (Cert.DWPleIdeal.defs (F := Ideal)) (onTc (τ := Cert.DWPleIdeal.τ) (Cert.DWPleIdeal.main (F := Ideal))) ⟨m, fun _ => 0, g⟩ (fun r => (∀ c : Dev Cert.DWPleIdeal.nD,
      r.2.mem ((c.tc : Thread Cert.DWPleIdeal.nD Cert.DWPleIdeal.τ).loc Cert.DWPleIdeal.main_arg0) = m ((c.tc : Thread Cert.DWPleIdeal.nD Cert.DWPleIdeal.τ).loc Cert.DWPleIdeal.main_arg0)
      ∧ r.2.mem ((c.tc : Thread Cert.DWPleIdeal.nD Cert.DWPleIdeal.τ).loc Cert.DWPleIdeal.main_arg1) = m ((c.tc : Thread Cert.DWPleIdeal.nD Cert.DWPleIdeal.τ).loc Cert.DWPleIdeal.main_arg1))
      ∧ r.2.sem = fun _ => 0)

def quiescent_DWPleRefIdeal [hDWPleRefIdeal : Cert.DWPleRefIdeal.Facts] : Prop :=
  ∀ (m : (ℓ : Loc Cert.DWPleRefIdeal.nD Cert.DWPleRefIdeal.τ Cert.DWPleRefIdeal.sig) → Buf (Elt Ideal) ℓ) (g : Dev Cert.DWPleRefIdeal.nD → PrngReg), Pre_DWPleRefIdeal m →
    θ_run (Cert.DWPleRefIdeal.defs (F := Ideal)) (onTc (τ := Cert.DWPleRefIdeal.τ) (Cert.DWPleRefIdeal.main (F := Ideal))) ⟨m, fun _ => 0, g⟩ (fun r => (∀ c : Dev Cert.DWPleRefIdeal.nD,
      r.2.mem ((c.tc : Thread Cert.DWPleRefIdeal.nD Cert.DWPleRefIdeal.τ).loc Cert.DWPleRefIdeal.main_arg0) = m ((c.tc : Thread Cert.DWPleRefIdeal.nD Cert.DWPleRefIdeal.τ).loc Cert.DWPleRefIdeal.main_arg0)
      ∧ r.2.mem ((c.tc : Thread Cert.DWPleRefIdeal.nD Cert.DWPleRefIdeal.τ).loc Cert.DWPleRefIdeal.main_arg1) = m ((c.tc : Thread Cert.DWPleRefIdeal.nD Cert.DWPleRefIdeal.τ).loc Cert.DWPleRefIdeal.main_arg1))
      ∧ r.2.sem = fun _ => 0)

def quiescent_ProjQkv [hProjQkv : Cert.ProjQkv.Facts] : Prop :=
  ∀ (m : (ℓ : Loc Cert.ProjQkv.nD Cert.ProjQkv.τ Cert.ProjQkv.sig) → Buf (Elt Bits) ℓ) (g : Dev Cert.ProjQkv.nD → PrngReg), Pre_ProjQkv m →
    θ_run (Cert.ProjQkv.defs (F := Bits)) (onTc (τ := Cert.ProjQkv.τ) (Cert.ProjQkv.main (F := Bits))) ⟨m, fun _ => 0, g⟩ (fun r => (∀ c : Dev Cert.ProjQkv.nD,
      r.2.mem ((c.tc : Thread Cert.ProjQkv.nD Cert.ProjQkv.τ).loc Cert.ProjQkv.main_arg0) = m ((c.tc : Thread Cert.ProjQkv.nD Cert.ProjQkv.τ).loc Cert.ProjQkv.main_arg0)
      ∧ r.2.mem ((c.tc : Thread Cert.ProjQkv.nD Cert.ProjQkv.τ).loc Cert.ProjQkv.main_arg1) = m ((c.tc : Thread Cert.ProjQkv.nD Cert.ProjQkv.τ).loc Cert.ProjQkv.main_arg1))
      ∧ r.2.sem = fun _ => 0)

def quiescent_ProjQkvIdeal [hProjQkvIdeal : Cert.ProjQkvIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg), Pre_ProjQkvIdeal m →
    θ_run (Cert.ProjQkvIdeal.defs (F := Ideal)) (onTc (τ := Cert.ProjQkvIdeal.τ) (Cert.ProjQkvIdeal.main (F := Ideal))) ⟨m, fun _ => 0, g⟩ (fun r => (∀ c : Dev Cert.ProjQkvIdeal.nD,
      r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
      ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1))
      ∧ r.2.sem = fun _ => 0)

def quiescent_ProjQkvRefIdeal [hProjQkvRefIdeal : Cert.ProjQkvRefIdeal.Facts] : Prop :=
  ∀ (m : (ℓ : Loc Cert.ProjQkvRefIdeal.nD Cert.ProjQkvRefIdeal.τ Cert.ProjQkvRefIdeal.sig) → Buf (Elt Ideal) ℓ) (g : Dev Cert.ProjQkvRefIdeal.nD → PrngReg), Pre_ProjQkvRefIdeal m →
    θ_run (Cert.ProjQkvRefIdeal.defs (F := Ideal)) (onTc (τ := Cert.ProjQkvRefIdeal.τ) (Cert.ProjQkvRefIdeal.main (F := Ideal))) ⟨m, fun _ => 0, g⟩ (fun r => (∀ c : Dev Cert.ProjQkvRefIdeal.nD,
      r.2.mem ((c.tc : Thread Cert.ProjQkvRefIdeal.nD Cert.ProjQkvRefIdeal.τ).loc Cert.ProjQkvRefIdeal.main_arg0) = m ((c.tc : Thread Cert.ProjQkvRefIdeal.nD Cert.ProjQkvRefIdeal.τ).loc Cert.ProjQkvRefIdeal.main_arg0)
      ∧ r.2.mem ((c.tc : Thread Cert.ProjQkvRefIdeal.nD Cert.ProjQkvRefIdeal.τ).loc Cert.ProjQkvRefIdeal.main_arg1) = m ((c.tc : Thread Cert.ProjQkvRefIdeal.nD Cert.ProjQkvRefIdeal.τ).loc Cert.ProjQkvRefIdeal.main_arg1))
      ∧ r.2.sem = fun _ => 0)

def quiescent_ProjGate [hProjGate : Cert.ProjGate.Facts] : Prop :=
  ∀ (m : (ℓ : Loc Cert.ProjGate.nD Cert.ProjGate.τ Cert.ProjGate.sig) → Buf (Elt Bits) ℓ) (g : Dev Cert.ProjGate.nD → PrngReg), Pre_ProjGate m →
    θ_run (Cert.ProjGate.defs (F := Bits)) (onTc (τ := Cert.ProjGate.τ) (Cert.ProjGate.main (F := Bits))) ⟨m, fun _ => 0, g⟩ (fun r => (∀ c : Dev Cert.ProjGate.nD,
      r.2.mem ((c.tc : Thread Cert.ProjGate.nD Cert.ProjGate.τ).loc Cert.ProjGate.main_arg0) = m ((c.tc : Thread Cert.ProjGate.nD Cert.ProjGate.τ).loc Cert.ProjGate.main_arg0)
      ∧ r.2.mem ((c.tc : Thread Cert.ProjGate.nD Cert.ProjGate.τ).loc Cert.ProjGate.main_arg1) = m ((c.tc : Thread Cert.ProjGate.nD Cert.ProjGate.τ).loc Cert.ProjGate.main_arg1))
      ∧ r.2.sem = fun _ => 0)

def quiescent_ProjGateIdeal [hProjGateIdeal : Cert.ProjGateIdeal.Facts] : Prop :=
  ∀ (m : (ℓ : Loc Cert.ProjGateIdeal.nD Cert.ProjGateIdeal.τ Cert.ProjGateIdeal.sig) → Buf (Elt Ideal) ℓ) (g : Dev Cert.ProjGateIdeal.nD → PrngReg), Pre_ProjGateIdeal m →
    θ_run (Cert.ProjGateIdeal.defs (F := Ideal)) (onTc (τ := Cert.ProjGateIdeal.τ) (Cert.ProjGateIdeal.main (F := Ideal))) ⟨m, fun _ => 0, g⟩ (fun r => (∀ c : Dev Cert.ProjGateIdeal.nD,
      r.2.mem ((c.tc : Thread Cert.ProjGateIdeal.nD Cert.ProjGateIdeal.τ).loc Cert.ProjGateIdeal.main_arg0) = m ((c.tc : Thread Cert.ProjGateIdeal.nD Cert.ProjGateIdeal.τ).loc Cert.ProjGateIdeal.main_arg0)
      ∧ r.2.mem ((c.tc : Thread Cert.ProjGateIdeal.nD Cert.ProjGateIdeal.τ).loc Cert.ProjGateIdeal.main_arg1) = m ((c.tc : Thread Cert.ProjGateIdeal.nD Cert.ProjGateIdeal.τ).loc Cert.ProjGateIdeal.main_arg1))
      ∧ r.2.sem = fun _ => 0)

def quiescent_ProjGateRefIdeal [hProjGateRefIdeal : Cert.ProjGateRefIdeal.Facts] : Prop :=
  ∀ (m : (ℓ : Loc Cert.ProjGateRefIdeal.nD Cert.ProjGateRefIdeal.τ Cert.ProjGateRefIdeal.sig) → Buf (Elt Ideal) ℓ) (g : Dev Cert.ProjGateRefIdeal.nD → PrngReg), Pre_ProjGateRefIdeal m →
    θ_run (Cert.ProjGateRefIdeal.defs (F := Ideal)) (onTc (τ := Cert.ProjGateRefIdeal.τ) (Cert.ProjGateRefIdeal.main (F := Ideal))) ⟨m, fun _ => 0, g⟩ (fun r => (∀ c : Dev Cert.ProjGateRefIdeal.nD,
      r.2.mem ((c.tc : Thread Cert.ProjGateRefIdeal.nD Cert.ProjGateRefIdeal.τ).loc Cert.ProjGateRefIdeal.main_arg0) = m ((c.tc : Thread Cert.ProjGateRefIdeal.nD Cert.ProjGateRefIdeal.τ).loc Cert.ProjGateRefIdeal.main_arg0)
      ∧ r.2.mem ((c.tc : Thread Cert.ProjGateRefIdeal.nD Cert.ProjGateRefIdeal.τ).loc Cert.ProjGateRefIdeal.main_arg1) = m ((c.tc : Thread Cert.ProjGateRefIdeal.nD Cert.ProjGateRefIdeal.τ).loc Cert.ProjGateRefIdeal.main_arg1))
      ∧ r.2.sem = fun _ => 0)

def quiescent_OutNorm [hOutNorm : Cert.OutNorm.Facts] : Prop :=
  ∀ (m : (ℓ : Loc Cert.OutNorm.nD Cert.OutNorm.τ Cert.OutNorm.sig) → Buf (Elt Bits) ℓ) (g : Dev Cert.OutNorm.nD → PrngReg), Pre_OutNorm m →
    θ_run (Cert.OutNorm.defs (F := Bits)) (onTc (τ := Cert.OutNorm.τ) (Cert.OutNorm.main (F := Bits))) ⟨m, fun _ => 0, g⟩ (fun r => (∀ c : Dev Cert.OutNorm.nD,
      r.2.mem ((c.tc : Thread Cert.OutNorm.nD Cert.OutNorm.τ).loc Cert.OutNorm.main_arg0) = m ((c.tc : Thread Cert.OutNorm.nD Cert.OutNorm.τ).loc Cert.OutNorm.main_arg0)
      ∧ r.2.mem ((c.tc : Thread Cert.OutNorm.nD Cert.OutNorm.τ).loc Cert.OutNorm.main_arg1) = m ((c.tc : Thread Cert.OutNorm.nD Cert.OutNorm.τ).loc Cert.OutNorm.main_arg1)
      ∧ r.2.mem ((c.tc : Thread Cert.OutNorm.nD Cert.OutNorm.τ).loc Cert.OutNorm.main_arg2) = m ((c.tc : Thread Cert.OutNorm.nD Cert.OutNorm.τ).loc Cert.OutNorm.main_arg2)
      ∧ r.2.mem ((c.tc : Thread Cert.OutNorm.nD Cert.OutNorm.τ).loc Cert.OutNorm.main_arg3) = m ((c.tc : Thread Cert.OutNorm.nD Cert.OutNorm.τ).loc Cert.OutNorm.main_arg3))
      ∧ r.2.sem = fun _ => 0)

def quiescent_OutNormIdeal [hOutNormIdeal : Cert.OutNormIdeal.Facts] : Prop :=
  ∀ (m : (ℓ : Loc Cert.OutNormIdeal.nD Cert.OutNormIdeal.τ Cert.OutNormIdeal.sig) → Buf (Elt Ideal) ℓ) (g : Dev Cert.OutNormIdeal.nD → PrngReg), Pre_OutNormIdeal m →
    θ_run (Cert.OutNormIdeal.defs (F := Ideal)) (onTc (τ := Cert.OutNormIdeal.τ) (Cert.OutNormIdeal.main (F := Ideal))) ⟨m, fun _ => 0, g⟩ (fun r => (∀ c : Dev Cert.OutNormIdeal.nD,
      r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
      ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
      ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
      ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3))
      ∧ r.2.sem = fun _ => 0)

def quiescent_OutNormRefIdeal [hOutNormRefIdeal : Cert.OutNormRefIdeal.Facts] : Prop :=
  ∀ (m : (ℓ : Loc Cert.OutNormRefIdeal.nD Cert.OutNormRefIdeal.τ Cert.OutNormRefIdeal.sig) → Buf (Elt Ideal) ℓ) (g : Dev Cert.OutNormRefIdeal.nD → PrngReg), Pre_OutNormRefIdeal m →
    θ_run (Cert.OutNormRefIdeal.defs (F := Ideal)) (onTc (τ := Cert.OutNormRefIdeal.τ) (Cert.OutNormRefIdeal.main (F := Ideal))) ⟨m, fun _ => 0, g⟩ (fun r => (∀ c : Dev Cert.OutNormRefIdeal.nD,
      r.2.mem ((c.tc : Thread Cert.OutNormRefIdeal.nD Cert.OutNormRefIdeal.τ).loc Cert.OutNormRefIdeal.main_arg0) = m ((c.tc : Thread Cert.OutNormRefIdeal.nD Cert.OutNormRefIdeal.τ).loc Cert.OutNormRefIdeal.main_arg0)
      ∧ r.2.mem ((c.tc : Thread Cert.OutNormRefIdeal.nD Cert.OutNormRefIdeal.τ).loc Cert.OutNormRefIdeal.main_arg1) = m ((c.tc : Thread Cert.OutNormRefIdeal.nD Cert.OutNormRefIdeal.τ).loc Cert.OutNormRefIdeal.main_arg1)
      ∧ r.2.mem ((c.tc : Thread Cert.OutNormRefIdeal.nD Cert.OutNormRefIdeal.τ).loc Cert.OutNormRefIdeal.main_arg2) = m ((c.tc : Thread Cert.OutNormRefIdeal.nD Cert.OutNormRefIdeal.τ).loc Cert.OutNormRefIdeal.main_arg2)
      ∧ r.2.mem ((c.tc : Thread Cert.OutNormRefIdeal.nD Cert.OutNormRefIdeal.τ).loc Cert.OutNormRefIdeal.main_arg3) = m ((c.tc : Thread Cert.OutNormRefIdeal.nD Cert.OutNormRefIdeal.τ).loc Cert.OutNormRefIdeal.main_arg3))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2)
      ∧ r.2.mem ((c.tc : Thread Cert.GateFwd.nD Cert.GateFwd.τ).loc Cert.GateFwd.main_arg3) = m ((c.tc : Thread Cert.GateFwd.nD Cert.GateFwd.τ).loc Cert.GateFwd.main_arg3)
      ∧ r.2.mem ((c.tc : Thread Cert.GateFwd.nD Cert.GateFwd.τ).loc Cert.GateFwd.main_arg4) = m ((c.tc : Thread Cert.GateFwd.nD Cert.GateFwd.τ).loc Cert.GateFwd.main_arg4)
      ∧ r.2.mem ((c.tc : Thread Cert.GateFwd.nD Cert.GateFwd.τ).loc Cert.GateFwd.main_arg5) = m ((c.tc : Thread Cert.GateFwd.nD Cert.GateFwd.τ).loc Cert.GateFwd.main_arg5))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
      ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3)
      ∧ r.2.mem ((c.tc : Thread Cert.GateFwdIdeal.nD Cert.GateFwdIdeal.τ).loc Cert.GateFwdIdeal.main_arg4) = m ((c.tc : Thread Cert.GateFwdIdeal.nD Cert.GateFwdIdeal.τ).loc Cert.GateFwdIdeal.main_arg4)
      ∧ r.2.mem ((c.tc : Thread Cert.GateFwdIdeal.nD Cert.GateFwdIdeal.τ).loc Cert.GateFwdIdeal.main_arg5) = m ((c.tc : Thread Cert.GateFwdIdeal.nD Cert.GateFwdIdeal.τ).loc Cert.GateFwdIdeal.main_arg5))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1)
      ∧ r.2.mem ((c.tc : Thread Cert.GateFwdRefIdeal.nD Cert.GateFwdRefIdeal.τ).loc Cert.GateFwdRefIdeal.main_arg2) = m ((c.tc : Thread Cert.GateFwdRefIdeal.nD Cert.GateFwdRefIdeal.τ).loc Cert.GateFwdRefIdeal.main_arg2)
      ∧ r.2.mem ((c.tc : Thread Cert.GateFwdRefIdeal.nD Cert.GateFwdRefIdeal.τ).loc Cert.GateFwdRefIdeal.main_arg3) = m ((c.tc : Thread Cert.GateFwdRefIdeal.nD Cert.GateFwdRefIdeal.τ).loc Cert.GateFwdRefIdeal.main_arg3)
      ∧ r.2.mem ((c.tc : Thread Cert.GateFwdRefIdeal.nD Cert.GateFwdRefIdeal.τ).loc Cert.GateFwdRefIdeal.main_arg4) = m ((c.tc : Thread Cert.GateFwdRefIdeal.nD Cert.GateFwdRefIdeal.τ).loc Cert.GateFwdRefIdeal.main_arg4)
      ∧ r.2.mem ((c.tc : Thread Cert.GateFwdRefIdeal.nD Cert.GateFwdRefIdeal.τ).loc Cert.GateFwdRefIdeal.main_arg5) = m ((c.tc : Thread Cert.GateFwdRefIdeal.nD Cert.GateFwdRefIdeal.τ).loc Cert.GateFwdRefIdeal.main_arg5))
      ∧ r.2.sem = fun _ => 0)

def quiescent_DHMlp [hDHMlp : Cert.DHMlp.Facts] : Prop :=
  ∀ (m : (ℓ : Loc Cert.DHMlp.nD Cert.DHMlp.τ Cert.DHMlp.sig) → Buf (Elt Bits) ℓ) (g : Dev Cert.DHMlp.nD → PrngReg), Pre_DHMlp m →
    θ_run (Cert.DHMlp.defs (F := Bits)) (onTc (τ := Cert.DHMlp.τ) (Cert.DHMlp.main (F := Bits))) ⟨m, fun _ => 0, g⟩ (fun r => (∀ c : Dev Cert.DHMlp.nD,
      r.2.mem ((c.tc : Thread Cert.DHMlp.nD Cert.DHMlp.τ).loc Cert.DHMlp.main_arg0) = m ((c.tc : Thread Cert.DHMlp.nD Cert.DHMlp.τ).loc Cert.DHMlp.main_arg0)
      ∧ r.2.mem ((c.tc : Thread Cert.DHMlp.nD Cert.DHMlp.τ).loc Cert.DHMlp.main_arg1) = m ((c.tc : Thread Cert.DHMlp.nD Cert.DHMlp.τ).loc Cert.DHMlp.main_arg1)
      ∧ r.2.mem ((c.tc : Thread Cert.DHMlp.nD Cert.DHMlp.τ).loc Cert.DHMlp.main_arg2) = m ((c.tc : Thread Cert.DHMlp.nD Cert.DHMlp.τ).loc Cert.DHMlp.main_arg2)
      ∧ r.2.mem ((c.tc : Thread Cert.DHMlp.nD Cert.DHMlp.τ).loc Cert.DHMlp.main_arg3) = m ((c.tc : Thread Cert.DHMlp.nD Cert.DHMlp.τ).loc Cert.DHMlp.main_arg3)
      ∧ r.2.mem ((c.tc : Thread Cert.DHMlp.nD Cert.DHMlp.τ).loc Cert.DHMlp.main_arg4) = m ((c.tc : Thread Cert.DHMlp.nD Cert.DHMlp.τ).loc Cert.DHMlp.main_arg4))
      ∧ r.2.sem = fun _ => 0)

def quiescent_DHMlpIdeal [hDHMlpIdeal : Cert.DHMlpIdeal.Facts] : Prop :=
  ∀ (m : (ℓ : Loc Cert.DHMlpIdeal.nD Cert.DHMlpIdeal.τ Cert.DHMlpIdeal.sig) → Buf (Elt Ideal) ℓ) (g : Dev Cert.DHMlpIdeal.nD → PrngReg), Pre_DHMlpIdeal m →
    θ_run (Cert.DHMlpIdeal.defs (F := Ideal)) (onTc (τ := Cert.DHMlpIdeal.τ) (Cert.DHMlpIdeal.main (F := Ideal))) ⟨m, fun _ => 0, g⟩ (fun r => (∀ c : Dev Cert.DHMlpIdeal.nD,
      r.2.mem ((c.tc : Thread Cert.DHMlpIdeal.nD Cert.DHMlpIdeal.τ).loc Cert.DHMlpIdeal.main_arg0) = m ((c.tc : Thread Cert.DHMlpIdeal.nD Cert.DHMlpIdeal.τ).loc Cert.DHMlpIdeal.main_arg0)
      ∧ r.2.mem ((c.tc : Thread Cert.DHMlpIdeal.nD Cert.DHMlpIdeal.τ).loc Cert.DHMlpIdeal.main_arg1) = m ((c.tc : Thread Cert.DHMlpIdeal.nD Cert.DHMlpIdeal.τ).loc Cert.DHMlpIdeal.main_arg1)
      ∧ r.2.mem ((c.tc : Thread Cert.DHMlpIdeal.nD Cert.DHMlpIdeal.τ).loc Cert.DHMlpIdeal.main_arg2) = m ((c.tc : Thread Cert.DHMlpIdeal.nD Cert.DHMlpIdeal.τ).loc Cert.DHMlpIdeal.main_arg2)
      ∧ r.2.mem ((c.tc : Thread Cert.DHMlpIdeal.nD Cert.DHMlpIdeal.τ).loc Cert.DHMlpIdeal.main_arg3) = m ((c.tc : Thread Cert.DHMlpIdeal.nD Cert.DHMlpIdeal.τ).loc Cert.DHMlpIdeal.main_arg3)
      ∧ r.2.mem ((c.tc : Thread Cert.DHMlpIdeal.nD Cert.DHMlpIdeal.τ).loc Cert.DHMlpIdeal.main_arg4) = m ((c.tc : Thread Cert.DHMlpIdeal.nD Cert.DHMlpIdeal.τ).loc Cert.DHMlpIdeal.main_arg4))
      ∧ r.2.sem = fun _ => 0)

def quiescent_DHMlpRefIdeal [hDHMlpRefIdeal : Cert.DHMlpRefIdeal.Facts] : Prop :=
  ∀ (m : (ℓ : Loc Cert.DHMlpRefIdeal.nD Cert.DHMlpRefIdeal.τ Cert.DHMlpRefIdeal.sig) → Buf (Elt Ideal) ℓ) (g : Dev Cert.DHMlpRefIdeal.nD → PrngReg), Pre_DHMlpRefIdeal m →
    θ_run (Cert.DHMlpRefIdeal.defs (F := Ideal)) (onTc (τ := Cert.DHMlpRefIdeal.τ) (Cert.DHMlpRefIdeal.main (F := Ideal))) ⟨m, fun _ => 0, g⟩ (fun r => (∀ c : Dev Cert.DHMlpRefIdeal.nD,
      r.2.mem ((c.tc : Thread Cert.DHMlpRefIdeal.nD Cert.DHMlpRefIdeal.τ).loc Cert.DHMlpRefIdeal.main_arg0) = m ((c.tc : Thread Cert.DHMlpRefIdeal.nD Cert.DHMlpRefIdeal.τ).loc Cert.DHMlpRefIdeal.main_arg0)
      ∧ r.2.mem ((c.tc : Thread Cert.DHMlpRefIdeal.nD Cert.DHMlpRefIdeal.τ).loc Cert.DHMlpRefIdeal.main_arg1) = m ((c.tc : Thread Cert.DHMlpRefIdeal.nD Cert.DHMlpRefIdeal.τ).loc Cert.DHMlpRefIdeal.main_arg1)
      ∧ r.2.mem ((c.tc : Thread Cert.DHMlpRefIdeal.nD Cert.DHMlpRefIdeal.τ).loc Cert.DHMlpRefIdeal.main_arg2) = m ((c.tc : Thread Cert.DHMlpRefIdeal.nD Cert.DHMlpRefIdeal.τ).loc Cert.DHMlpRefIdeal.main_arg2)
      ∧ r.2.mem ((c.tc : Thread Cert.DHMlpRefIdeal.nD Cert.DHMlpRefIdeal.τ).loc Cert.DHMlpRefIdeal.main_arg3) = m ((c.tc : Thread Cert.DHMlpRefIdeal.nD Cert.DHMlpRefIdeal.τ).loc Cert.DHMlpRefIdeal.main_arg3)
      ∧ r.2.mem ((c.tc : Thread Cert.DHMlpRefIdeal.nD Cert.DHMlpRefIdeal.τ).loc Cert.DHMlpRefIdeal.main_arg4) = m ((c.tc : Thread Cert.DHMlpRefIdeal.nD Cert.DHMlpRefIdeal.τ).loc Cert.DHMlpRefIdeal.main_arg4))
      ∧ r.2.sem = fun _ => 0)

def quiescent_DHPle [hDHPle : Cert.DHPle.Facts] : Prop :=
  ∀ (m : (ℓ : Loc Cert.DHPle.nD Cert.DHPle.τ Cert.DHPle.sig) → Buf (Elt Bits) ℓ) (g : Dev Cert.DHPle.nD → PrngReg), Pre_DHPle m →
    θ_run (Cert.DHPle.defs (F := Bits)) (onTc (τ := Cert.DHPle.τ) (Cert.DHPle.main (F := Bits))) ⟨m, fun _ => 0, g⟩ (fun r => (∀ c : Dev Cert.DHPle.nD,
      r.2.mem ((c.tc : Thread Cert.DHPle.nD Cert.DHPle.τ).loc Cert.DHPle.main_arg0) = m ((c.tc : Thread Cert.DHPle.nD Cert.DHPle.τ).loc Cert.DHPle.main_arg0)
      ∧ r.2.mem ((c.tc : Thread Cert.DHPle.nD Cert.DHPle.τ).loc Cert.DHPle.main_arg1) = m ((c.tc : Thread Cert.DHPle.nD Cert.DHPle.τ).loc Cert.DHPle.main_arg1)
      ∧ r.2.mem ((c.tc : Thread Cert.DHPle.nD Cert.DHPle.τ).loc Cert.DHPle.main_arg2) = m ((c.tc : Thread Cert.DHPle.nD Cert.DHPle.τ).loc Cert.DHPle.main_arg2)
      ∧ r.2.mem ((c.tc : Thread Cert.DHPle.nD Cert.DHPle.τ).loc Cert.DHPle.main_arg3) = m ((c.tc : Thread Cert.DHPle.nD Cert.DHPle.τ).loc Cert.DHPle.main_arg3)
      ∧ r.2.mem ((c.tc : Thread Cert.DHPle.nD Cert.DHPle.τ).loc Cert.DHPle.main_arg4) = m ((c.tc : Thread Cert.DHPle.nD Cert.DHPle.τ).loc Cert.DHPle.main_arg4))
      ∧ r.2.sem = fun _ => 0)

def quiescent_DHPleIdeal [hDHPleIdeal : Cert.DHPleIdeal.Facts] : Prop :=
  ∀ (m : (ℓ : Loc Cert.DHPleIdeal.nD Cert.DHPleIdeal.τ Cert.DHPleIdeal.sig) → Buf (Elt Ideal) ℓ) (g : Dev Cert.DHPleIdeal.nD → PrngReg), Pre_DHPleIdeal m →
    θ_run (Cert.DHPleIdeal.defs (F := Ideal)) (onTc (τ := Cert.DHPleIdeal.τ) (Cert.DHPleIdeal.main (F := Ideal))) ⟨m, fun _ => 0, g⟩ (fun r => (∀ c : Dev Cert.DHPleIdeal.nD,
      r.2.mem ((c.tc : Thread Cert.DHPleIdeal.nD Cert.DHPleIdeal.τ).loc Cert.DHPleIdeal.main_arg0) = m ((c.tc : Thread Cert.DHPleIdeal.nD Cert.DHPleIdeal.τ).loc Cert.DHPleIdeal.main_arg0)
      ∧ r.2.mem ((c.tc : Thread Cert.DHPleIdeal.nD Cert.DHPleIdeal.τ).loc Cert.DHPleIdeal.main_arg1) = m ((c.tc : Thread Cert.DHPleIdeal.nD Cert.DHPleIdeal.τ).loc Cert.DHPleIdeal.main_arg1)
      ∧ r.2.mem ((c.tc : Thread Cert.DHPleIdeal.nD Cert.DHPleIdeal.τ).loc Cert.DHPleIdeal.main_arg2) = m ((c.tc : Thread Cert.DHPleIdeal.nD Cert.DHPleIdeal.τ).loc Cert.DHPleIdeal.main_arg2)
      ∧ r.2.mem ((c.tc : Thread Cert.DHPleIdeal.nD Cert.DHPleIdeal.τ).loc Cert.DHPleIdeal.main_arg3) = m ((c.tc : Thread Cert.DHPleIdeal.nD Cert.DHPleIdeal.τ).loc Cert.DHPleIdeal.main_arg3)
      ∧ r.2.mem ((c.tc : Thread Cert.DHPleIdeal.nD Cert.DHPleIdeal.τ).loc Cert.DHPleIdeal.main_arg4) = m ((c.tc : Thread Cert.DHPleIdeal.nD Cert.DHPleIdeal.τ).loc Cert.DHPleIdeal.main_arg4))
      ∧ r.2.sem = fun _ => 0)

def quiescent_DHPleRefIdeal [hDHPleRefIdeal : Cert.DHPleRefIdeal.Facts] : Prop :=
  ∀ (m : (ℓ : Loc Cert.DHPleRefIdeal.nD Cert.DHPleRefIdeal.τ Cert.DHPleRefIdeal.sig) → Buf (Elt Ideal) ℓ) (g : Dev Cert.DHPleRefIdeal.nD → PrngReg), Pre_DHPleRefIdeal m →
    θ_run (Cert.DHPleRefIdeal.defs (F := Ideal)) (onTc (τ := Cert.DHPleRefIdeal.τ) (Cert.DHPleRefIdeal.main (F := Ideal))) ⟨m, fun _ => 0, g⟩ (fun r => (∀ c : Dev Cert.DHPleRefIdeal.nD,
      r.2.mem ((c.tc : Thread Cert.DHPleRefIdeal.nD Cert.DHPleRefIdeal.τ).loc Cert.DHPleRefIdeal.main_arg0) = m ((c.tc : Thread Cert.DHPleRefIdeal.nD Cert.DHPleRefIdeal.τ).loc Cert.DHPleRefIdeal.main_arg0)
      ∧ r.2.mem ((c.tc : Thread Cert.DHPleRefIdeal.nD Cert.DHPleRefIdeal.τ).loc Cert.DHPleRefIdeal.main_arg1) = m ((c.tc : Thread Cert.DHPleRefIdeal.nD Cert.DHPleRefIdeal.τ).loc Cert.DHPleRefIdeal.main_arg1)
      ∧ r.2.mem ((c.tc : Thread Cert.DHPleRefIdeal.nD Cert.DHPleRefIdeal.τ).loc Cert.DHPleRefIdeal.main_arg2) = m ((c.tc : Thread Cert.DHPleRefIdeal.nD Cert.DHPleRefIdeal.τ).loc Cert.DHPleRefIdeal.main_arg2)
      ∧ r.2.mem ((c.tc : Thread Cert.DHPleRefIdeal.nD Cert.DHPleRefIdeal.τ).loc Cert.DHPleRefIdeal.main_arg3) = m ((c.tc : Thread Cert.DHPleRefIdeal.nD Cert.DHPleRefIdeal.τ).loc Cert.DHPleRefIdeal.main_arg3)
      ∧ r.2.mem ((c.tc : Thread Cert.DHPleRefIdeal.nD Cert.DHPleRefIdeal.τ).loc Cert.DHPleRefIdeal.main_arg4) = m ((c.tc : Thread Cert.DHPleRefIdeal.nD Cert.DHPleRefIdeal.τ).loc Cert.DHPleRefIdeal.main_arg4))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6))
      ∧ r.2.sem = fun _ => 0)

def quiescent_ProjForget [hProjForget : Cert.ProjForget.Facts] : Prop :=
  ∀ (m : (ℓ : Loc Cert.ProjForget.nD Cert.ProjForget.τ Cert.ProjForget.sig) → Buf (Elt Bits) ℓ) (g : Dev Cert.ProjForget.nD → PrngReg), Pre_ProjForget m →
    θ_run (Cert.ProjForget.defs (F := Bits)) (onTc (τ := Cert.ProjForget.τ) (Cert.ProjForget.main (F := Bits))) ⟨m, fun _ => 0, g⟩ (fun r => (∀ c : Dev Cert.ProjForget.nD,
      r.2.mem ((c.tc : Thread Cert.ProjForget.nD Cert.ProjForget.τ).loc Cert.ProjForget.main_arg0) = m ((c.tc : Thread Cert.ProjForget.nD Cert.ProjForget.τ).loc Cert.ProjForget.main_arg0)
      ∧ r.2.mem ((c.tc : Thread Cert.ProjForget.nD Cert.ProjForget.τ).loc Cert.ProjForget.main_arg1) = m ((c.tc : Thread Cert.ProjForget.nD Cert.ProjForget.τ).loc Cert.ProjForget.main_arg1))
      ∧ r.2.sem = fun _ => 0)

def quiescent_ProjForgetIdeal [hProjForgetIdeal : Cert.ProjForgetIdeal.Facts] : Prop :=
  ∀ (m : (ℓ : Loc Cert.ProjForgetIdeal.nD Cert.ProjForgetIdeal.τ Cert.ProjForgetIdeal.sig) → Buf (Elt Ideal) ℓ) (g : Dev Cert.ProjForgetIdeal.nD → PrngReg), Pre_ProjForgetIdeal m →
    θ_run (Cert.ProjForgetIdeal.defs (F := Ideal)) (onTc (τ := Cert.ProjForgetIdeal.τ) (Cert.ProjForgetIdeal.main (F := Ideal))) ⟨m, fun _ => 0, g⟩ (fun r => (∀ c : Dev Cert.ProjForgetIdeal.nD,
      r.2.mem ((c.tc : Thread Cert.ProjForgetIdeal.nD Cert.ProjForgetIdeal.τ).loc Cert.ProjForgetIdeal.main_arg0) = m ((c.tc : Thread Cert.ProjForgetIdeal.nD Cert.ProjForgetIdeal.τ).loc Cert.ProjForgetIdeal.main_arg0)
      ∧ r.2.mem ((c.tc : Thread Cert.ProjForgetIdeal.nD Cert.ProjForgetIdeal.τ).loc Cert.ProjForgetIdeal.main_arg1) = m ((c.tc : Thread Cert.ProjForgetIdeal.nD Cert.ProjForgetIdeal.τ).loc Cert.ProjForgetIdeal.main_arg1))
      ∧ r.2.sem = fun _ => 0)

def quiescent_ProjForgetRefIdeal [hProjForgetRefIdeal : Cert.ProjForgetRefIdeal.Facts] : Prop :=
  ∀ (m : (ℓ : Loc Cert.ProjForgetRefIdeal.nD Cert.ProjForgetRefIdeal.τ Cert.ProjForgetRefIdeal.sig) → Buf (Elt Ideal) ℓ) (g : Dev Cert.ProjForgetRefIdeal.nD → PrngReg), Pre_ProjForgetRefIdeal m →
    θ_run (Cert.ProjForgetRefIdeal.defs (F := Ideal)) (onTc (τ := Cert.ProjForgetRefIdeal.τ) (Cert.ProjForgetRefIdeal.main (F := Ideal))) ⟨m, fun _ => 0, g⟩ (fun r => (∀ c : Dev Cert.ProjForgetRefIdeal.nD,
      r.2.mem ((c.tc : Thread Cert.ProjForgetRefIdeal.nD Cert.ProjForgetRefIdeal.τ).loc Cert.ProjForgetRefIdeal.main_arg0) = m ((c.tc : Thread Cert.ProjForgetRefIdeal.nD Cert.ProjForgetRefIdeal.τ).loc Cert.ProjForgetRefIdeal.main_arg0)
      ∧ r.2.mem ((c.tc : Thread Cert.ProjForgetRefIdeal.nD Cert.ProjForgetRefIdeal.τ).loc Cert.ProjForgetRefIdeal.main_arg1) = m ((c.tc : Thread Cert.ProjForgetRefIdeal.nD Cert.ProjForgetRefIdeal.τ).loc Cert.ProjForgetRefIdeal.main_arg1))
      ∧ r.2.sem = fun _ => 0)

def quiescent_DWGate [hDWGate : Cert.DWGate.Facts] : Prop :=
  ∀ (m : (ℓ : Loc Cert.DWGate.nD Cert.DWGate.τ Cert.DWGate.sig) → Buf (Elt Bits) ℓ) (g : Dev Cert.DWGate.nD → PrngReg), Pre_DWGate m →
    θ_run (Cert.DWGate.defs (F := Bits)) (onTc (τ := Cert.DWGate.τ) (Cert.DWGate.main (F := Bits))) ⟨m, fun _ => 0, g⟩ (fun r => (∀ c : Dev Cert.DWGate.nD,
      r.2.mem ((c.tc : Thread Cert.DWGate.nD Cert.DWGate.τ).loc Cert.DWGate.main_arg0) = m ((c.tc : Thread Cert.DWGate.nD Cert.DWGate.τ).loc Cert.DWGate.main_arg0)
      ∧ r.2.mem ((c.tc : Thread Cert.DWGate.nD Cert.DWGate.τ).loc Cert.DWGate.main_arg1) = m ((c.tc : Thread Cert.DWGate.nD Cert.DWGate.τ).loc Cert.DWGate.main_arg1))
      ∧ r.2.sem = fun _ => 0)

def quiescent_DWGateIdeal [hDWGateIdeal : Cert.DWGateIdeal.Facts] : Prop :=
  ∀ (m : (ℓ : Loc Cert.DWGateIdeal.nD Cert.DWGateIdeal.τ Cert.DWGateIdeal.sig) → Buf (Elt Ideal) ℓ) (g : Dev Cert.DWGateIdeal.nD → PrngReg), Pre_DWGateIdeal m →
    θ_run (Cert.DWGateIdeal.defs (F := Ideal)) (onTc (τ := Cert.DWGateIdeal.τ) (Cert.DWGateIdeal.main (F := Ideal))) ⟨m, fun _ => 0, g⟩ (fun r => (∀ c : Dev Cert.DWGateIdeal.nD,
      r.2.mem ((c.tc : Thread Cert.DWGateIdeal.nD Cert.DWGateIdeal.τ).loc Cert.DWGateIdeal.main_arg0) = m ((c.tc : Thread Cert.DWGateIdeal.nD Cert.DWGateIdeal.τ).loc Cert.DWGateIdeal.main_arg0)
      ∧ r.2.mem ((c.tc : Thread Cert.DWGateIdeal.nD Cert.DWGateIdeal.τ).loc Cert.DWGateIdeal.main_arg1) = m ((c.tc : Thread Cert.DWGateIdeal.nD Cert.DWGateIdeal.τ).loc Cert.DWGateIdeal.main_arg1))
      ∧ r.2.sem = fun _ => 0)

def quiescent_DWGateRefIdeal [hDWGateRefIdeal : Cert.DWGateRefIdeal.Facts] : Prop :=
  ∀ (m : (ℓ : Loc Cert.DWGateRefIdeal.nD Cert.DWGateRefIdeal.τ Cert.DWGateRefIdeal.sig) → Buf (Elt Ideal) ℓ) (g : Dev Cert.DWGateRefIdeal.nD → PrngReg), Pre_DWGateRefIdeal m →
    θ_run (Cert.DWGateRefIdeal.defs (F := Ideal)) (onTc (τ := Cert.DWGateRefIdeal.τ) (Cert.DWGateRefIdeal.main (F := Ideal))) ⟨m, fun _ => 0, g⟩ (fun r => (∀ c : Dev Cert.DWGateRefIdeal.nD,
      r.2.mem ((c.tc : Thread Cert.DWGateRefIdeal.nD Cert.DWGateRefIdeal.τ).loc Cert.DWGateRefIdeal.main_arg0) = m ((c.tc : Thread Cert.DWGateRefIdeal.nD Cert.DWGateRefIdeal.τ).loc Cert.DWGateRefIdeal.main_arg0)
      ∧ r.2.mem ((c.tc : Thread Cert.DWGateRefIdeal.nD Cert.DWGateRefIdeal.τ).loc Cert.DWGateRefIdeal.main_arg1) = m ((c.tc : Thread Cert.DWGateRefIdeal.nD Cert.DWGateRefIdeal.τ).loc Cert.DWGateRefIdeal.main_arg1))
      ∧ r.2.sem = fun _ => 0)

def quiescent_DWForget [hDWForget : Cert.DWForget.Facts] : Prop :=
  ∀ (m : (ℓ : Loc Cert.DWForget.nD Cert.DWForget.τ Cert.DWForget.sig) → Buf (Elt Bits) ℓ) (g : Dev Cert.DWForget.nD → PrngReg), Pre_DWForget m →
    θ_run (Cert.DWForget.defs (F := Bits)) (onTc (τ := Cert.DWForget.τ) (Cert.DWForget.main (F := Bits))) ⟨m, fun _ => 0, g⟩ (fun r => (∀ c : Dev Cert.DWForget.nD,
      r.2.mem ((c.tc : Thread Cert.DWForget.nD Cert.DWForget.τ).loc Cert.DWForget.main_arg0) = m ((c.tc : Thread Cert.DWForget.nD Cert.DWForget.τ).loc Cert.DWForget.main_arg0)
      ∧ r.2.mem ((c.tc : Thread Cert.DWForget.nD Cert.DWForget.τ).loc Cert.DWForget.main_arg1) = m ((c.tc : Thread Cert.DWForget.nD Cert.DWForget.τ).loc Cert.DWForget.main_arg1))
      ∧ r.2.sem = fun _ => 0)

def quiescent_DWForgetIdeal [hDWForgetIdeal : Cert.DWForgetIdeal.Facts] : Prop :=
  ∀ (m : (ℓ : Loc Cert.DWForgetIdeal.nD Cert.DWForgetIdeal.τ Cert.DWForgetIdeal.sig) → Buf (Elt Ideal) ℓ) (g : Dev Cert.DWForgetIdeal.nD → PrngReg), Pre_DWForgetIdeal m →
    θ_run (Cert.DWForgetIdeal.defs (F := Ideal)) (onTc (τ := Cert.DWForgetIdeal.τ) (Cert.DWForgetIdeal.main (F := Ideal))) ⟨m, fun _ => 0, g⟩ (fun r => (∀ c : Dev Cert.DWForgetIdeal.nD,
      r.2.mem ((c.tc : Thread Cert.DWForgetIdeal.nD Cert.DWForgetIdeal.τ).loc Cert.DWForgetIdeal.main_arg0) = m ((c.tc : Thread Cert.DWForgetIdeal.nD Cert.DWForgetIdeal.τ).loc Cert.DWForgetIdeal.main_arg0)
      ∧ r.2.mem ((c.tc : Thread Cert.DWForgetIdeal.nD Cert.DWForgetIdeal.τ).loc Cert.DWForgetIdeal.main_arg1) = m ((c.tc : Thread Cert.DWForgetIdeal.nD Cert.DWForgetIdeal.τ).loc Cert.DWForgetIdeal.main_arg1))
      ∧ r.2.sem = fun _ => 0)

def quiescent_DWForgetRefIdeal [hDWForgetRefIdeal : Cert.DWForgetRefIdeal.Facts] : Prop :=
  ∀ (m : (ℓ : Loc Cert.DWForgetRefIdeal.nD Cert.DWForgetRefIdeal.τ Cert.DWForgetRefIdeal.sig) → Buf (Elt Ideal) ℓ) (g : Dev Cert.DWForgetRefIdeal.nD → PrngReg), Pre_DWForgetRefIdeal m →
    θ_run (Cert.DWForgetRefIdeal.defs (F := Ideal)) (onTc (τ := Cert.DWForgetRefIdeal.τ) (Cert.DWForgetRefIdeal.main (F := Ideal))) ⟨m, fun _ => 0, g⟩ (fun r => (∀ c : Dev Cert.DWForgetRefIdeal.nD,
      r.2.mem ((c.tc : Thread Cert.DWForgetRefIdeal.nD Cert.DWForgetRefIdeal.τ).loc Cert.DWForgetRefIdeal.main_arg0) = m ((c.tc : Thread Cert.DWForgetRefIdeal.nD Cert.DWForgetRefIdeal.τ).loc Cert.DWForgetRefIdeal.main_arg0)
      ∧ r.2.mem ((c.tc : Thread Cert.DWForgetRefIdeal.nD Cert.DWForgetRefIdeal.τ).loc Cert.DWForgetRefIdeal.main_arg1) = m ((c.tc : Thread Cert.DWForgetRefIdeal.nD Cert.DWForgetRefIdeal.τ).loc Cert.DWForgetRefIdeal.main_arg1))
      ∧ r.2.sem = fun _ => 0)

def quiescent_FoxPost [hFoxPost : Cert.FoxPost.Facts] : Prop :=
  ∀ (m : (ℓ : Loc Cert.FoxPost.nD Cert.FoxPost.τ Cert.FoxPost.sig) → Buf (Elt Bits) ℓ) (g : Dev Cert.FoxPost.nD → PrngReg), Pre_FoxPost m →
    θ_run (Cert.FoxPost.defs (F := Bits)) (onTc (τ := Cert.FoxPost.τ) (Cert.FoxPost.main (F := Bits))) ⟨m, fun _ => 0, g⟩ (fun r => (∀ c : Dev Cert.FoxPost.nD,
      r.2.mem ((c.tc : Thread Cert.FoxPost.nD Cert.FoxPost.τ).loc Cert.FoxPost.main_arg0) = m ((c.tc : Thread Cert.FoxPost.nD Cert.FoxPost.τ).loc Cert.FoxPost.main_arg0)
      ∧ r.2.mem ((c.tc : Thread Cert.FoxPost.nD Cert.FoxPost.τ).loc Cert.FoxPost.main_arg1) = m ((c.tc : Thread Cert.FoxPost.nD Cert.FoxPost.τ).loc Cert.FoxPost.main_arg1)
      ∧ r.2.mem ((c.tc : Thread Cert.FoxPost.nD Cert.FoxPost.τ).loc Cert.FoxPost.main_arg2) = m ((c.tc : Thread Cert.FoxPost.nD Cert.FoxPost.τ).loc Cert.FoxPost.main_arg2)
      ∧ r.2.mem ((c.tc : Thread Cert.FoxPost.nD Cert.FoxPost.τ).loc Cert.FoxPost.main_arg3) = m ((c.tc : Thread Cert.FoxPost.nD Cert.FoxPost.τ).loc Cert.FoxPost.main_arg3))
      ∧ r.2.sem = fun _ => 0)

def quiescent_FoxPostIdeal [hFoxPostIdeal : Cert.FoxPostIdeal.Facts] : Prop :=
  ∀ (m : (ℓ : Loc Cert.FoxPostIdeal.nD Cert.FoxPostIdeal.τ Cert.FoxPostIdeal.sig) → Buf (Elt Ideal) ℓ) (g : Dev Cert.FoxPostIdeal.nD → PrngReg), Pre_FoxPostIdeal m →
    θ_run (Cert.FoxPostIdeal.defs (F := Ideal)) (onTc (τ := Cert.FoxPostIdeal.τ) (Cert.FoxPostIdeal.main (F := Ideal))) ⟨m, fun _ => 0, g⟩ (fun r => (∀ c : Dev Cert.FoxPostIdeal.nD,
      r.2.mem ((c.tc : Thread Cert.FoxPostIdeal.nD Cert.FoxPostIdeal.τ).loc Cert.FoxPostIdeal.main_arg0) = m ((c.tc : Thread Cert.FoxPostIdeal.nD Cert.FoxPostIdeal.τ).loc Cert.FoxPostIdeal.main_arg0)
      ∧ r.2.mem ((c.tc : Thread Cert.FoxPostIdeal.nD Cert.FoxPostIdeal.τ).loc Cert.FoxPostIdeal.main_arg1) = m ((c.tc : Thread Cert.FoxPostIdeal.nD Cert.FoxPostIdeal.τ).loc Cert.FoxPostIdeal.main_arg1)
      ∧ r.2.mem ((c.tc : Thread Cert.FoxPostIdeal.nD Cert.FoxPostIdeal.τ).loc Cert.FoxPostIdeal.main_arg2) = m ((c.tc : Thread Cert.FoxPostIdeal.nD Cert.FoxPostIdeal.τ).loc Cert.FoxPostIdeal.main_arg2)
      ∧ r.2.mem ((c.tc : Thread Cert.FoxPostIdeal.nD Cert.FoxPostIdeal.τ).loc Cert.FoxPostIdeal.main_arg3) = m ((c.tc : Thread Cert.FoxPostIdeal.nD Cert.FoxPostIdeal.τ).loc Cert.FoxPostIdeal.main_arg3))
      ∧ r.2.sem = fun _ => 0)

def quiescent_FoxPostIdeal_pre_finite_differences [hFoxPostIdeal : Cert.FoxPostIdeal.Facts] [hPre_finite_differences : Cert.Pre_finite_differences.Facts] : Prop :=
  ∀ (m : (ℓ : Loc Cert.FoxPostIdeal.nD Cert.FoxPostIdeal.τ Cert.FoxPostIdeal.sig) → Buf (Elt Ideal) ℓ) (g : Dev Cert.FoxPostIdeal.nD → PrngReg), Pre_FoxPostIdeal_finite_differences m →
    θ_run (Cert.FoxPostIdeal.defs (F := Ideal)) (onTc (τ := Cert.FoxPostIdeal.τ) (Cert.FoxPostIdeal.main (F := Ideal))) ⟨m, fun _ => 0, g⟩ (fun r => (∀ c : Dev Cert.FoxPostIdeal.nD,
      r.2.mem ((c.tc : Thread Cert.FoxPostIdeal.nD Cert.FoxPostIdeal.τ).loc Cert.FoxPostIdeal.main_arg0) = m ((c.tc : Thread Cert.FoxPostIdeal.nD Cert.FoxPostIdeal.τ).loc Cert.FoxPostIdeal.main_arg0)
      ∧ r.2.mem ((c.tc : Thread Cert.FoxPostIdeal.nD Cert.FoxPostIdeal.τ).loc Cert.FoxPostIdeal.main_arg1) = m ((c.tc : Thread Cert.FoxPostIdeal.nD Cert.FoxPostIdeal.τ).loc Cert.FoxPostIdeal.main_arg1)
      ∧ r.2.mem ((c.tc : Thread Cert.FoxPostIdeal.nD Cert.FoxPostIdeal.τ).loc Cert.FoxPostIdeal.main_arg2) = m ((c.tc : Thread Cert.FoxPostIdeal.nD Cert.FoxPostIdeal.τ).loc Cert.FoxPostIdeal.main_arg2)
      ∧ r.2.mem ((c.tc : Thread Cert.FoxPostIdeal.nD Cert.FoxPostIdeal.τ).loc Cert.FoxPostIdeal.main_arg3) = m ((c.tc : Thread Cert.FoxPostIdeal.nD Cert.FoxPostIdeal.τ).loc Cert.FoxPostIdeal.main_arg3))
      ∧ r.2.sem = fun _ => 0)

def quiescent_FoxPostRefIdeal [hFoxPostRefIdeal : Cert.FoxPostRefIdeal.Facts] : Prop :=
  ∀ (m : (ℓ : Loc Cert.FoxPostRefIdeal.nD Cert.FoxPostRefIdeal.τ Cert.FoxPostRefIdeal.sig) → Buf (Elt Ideal) ℓ) (g : Dev Cert.FoxPostRefIdeal.nD → PrngReg), Pre_FoxPostRefIdeal m →
    θ_run (Cert.FoxPostRefIdeal.defs (F := Ideal)) (onTc (τ := Cert.FoxPostRefIdeal.τ) (Cert.FoxPostRefIdeal.main (F := Ideal))) ⟨m, fun _ => 0, g⟩ (fun r => (∀ c : Dev Cert.FoxPostRefIdeal.nD,
      r.2.mem ((c.tc : Thread Cert.FoxPostRefIdeal.nD Cert.FoxPostRefIdeal.τ).loc Cert.FoxPostRefIdeal.main_arg0) = m ((c.tc : Thread Cert.FoxPostRefIdeal.nD Cert.FoxPostRefIdeal.τ).loc Cert.FoxPostRefIdeal.main_arg0)
      ∧ r.2.mem ((c.tc : Thread Cert.FoxPostRefIdeal.nD Cert.FoxPostRefIdeal.τ).loc Cert.FoxPostRefIdeal.main_arg1) = m ((c.tc : Thread Cert.FoxPostRefIdeal.nD Cert.FoxPostRefIdeal.τ).loc Cert.FoxPostRefIdeal.main_arg1)
      ∧ r.2.mem ((c.tc : Thread Cert.FoxPostRefIdeal.nD Cert.FoxPostRefIdeal.τ).loc Cert.FoxPostRefIdeal.main_arg2) = m ((c.tc : Thread Cert.FoxPostRefIdeal.nD Cert.FoxPostRefIdeal.τ).loc Cert.FoxPostRefIdeal.main_arg2)
      ∧ r.2.mem ((c.tc : Thread Cert.FoxPostRefIdeal.nD Cert.FoxPostRefIdeal.τ).loc Cert.FoxPostRefIdeal.main_arg3) = m ((c.tc : Thread Cert.FoxPostRefIdeal.nD Cert.FoxPostRefIdeal.τ).loc Cert.FoxPostRefIdeal.main_arg3))
      ∧ r.2.sem = fun _ => 0)

def quiescent_FoxPostRefIdeal_pre_finite_differences [hFoxPostRefIdeal : Cert.FoxPostRefIdeal.Facts] [hPre_finite_differences : Cert.Pre_finite_differences.Facts] : Prop :=
  ∀ (m : (ℓ : Loc Cert.FoxPostRefIdeal.nD Cert.FoxPostRefIdeal.τ Cert.FoxPostRefIdeal.sig) → Buf (Elt Ideal) ℓ) (g : Dev Cert.FoxPostRefIdeal.nD → PrngReg), Pre_FoxPostRefIdeal_finite_differences m →
    θ_run (Cert.FoxPostRefIdeal.defs (F := Ideal)) (onTc (τ := Cert.FoxPostRefIdeal.τ) (Cert.FoxPostRefIdeal.main (F := Ideal))) ⟨m, fun _ => 0, g⟩ (fun r => (∀ c : Dev Cert.FoxPostRefIdeal.nD,
      r.2.mem ((c.tc : Thread Cert.FoxPostRefIdeal.nD Cert.FoxPostRefIdeal.τ).loc Cert.FoxPostRefIdeal.main_arg0) = m ((c.tc : Thread Cert.FoxPostRefIdeal.nD Cert.FoxPostRefIdeal.τ).loc Cert.FoxPostRefIdeal.main_arg0)
      ∧ r.2.mem ((c.tc : Thread Cert.FoxPostRefIdeal.nD Cert.FoxPostRefIdeal.τ).loc Cert.FoxPostRefIdeal.main_arg1) = m ((c.tc : Thread Cert.FoxPostRefIdeal.nD Cert.FoxPostRefIdeal.τ).loc Cert.FoxPostRefIdeal.main_arg1)
      ∧ r.2.mem ((c.tc : Thread Cert.FoxPostRefIdeal.nD Cert.FoxPostRefIdeal.τ).loc Cert.FoxPostRefIdeal.main_arg2) = m ((c.tc : Thread Cert.FoxPostRefIdeal.nD Cert.FoxPostRefIdeal.τ).loc Cert.FoxPostRefIdeal.main_arg2)
      ∧ r.2.mem ((c.tc : Thread Cert.FoxPostRefIdeal.nD Cert.FoxPostRefIdeal.τ).loc Cert.FoxPostRefIdeal.main_arg3) = m ((c.tc : Thread Cert.FoxPostRefIdeal.nD Cert.FoxPostRefIdeal.τ).loc Cert.FoxPostRefIdeal.main_arg3))
      ∧ r.2.sem = fun _ => 0)

def quiescent_FoxPrep [hFoxPrep : Cert.FoxPrep.Facts] : Prop :=
  ∀ (m : (ℓ : Loc Cert.FoxPrep.nD Cert.FoxPrep.τ Cert.FoxPrep.sig) → Buf (Elt Bits) ℓ) (g : Dev Cert.FoxPrep.nD → PrngReg), Pre_FoxPrep m →
    θ_run (Cert.FoxPrep.defs (F := Bits)) (onTc (τ := Cert.FoxPrep.τ) (Cert.FoxPrep.main (F := Bits))) ⟨m, fun _ => 0, g⟩ (fun r => (∀ c : Dev Cert.FoxPrep.nD,
      r.2.mem ((c.tc : Thread Cert.FoxPrep.nD Cert.FoxPrep.τ).loc Cert.FoxPrep.main_arg0) = m ((c.tc : Thread Cert.FoxPrep.nD Cert.FoxPrep.τ).loc Cert.FoxPrep.main_arg0)
      ∧ r.2.mem ((c.tc : Thread Cert.FoxPrep.nD Cert.FoxPrep.τ).loc Cert.FoxPrep.main_arg1) = m ((c.tc : Thread Cert.FoxPrep.nD Cert.FoxPrep.τ).loc Cert.FoxPrep.main_arg1))
      ∧ r.2.sem = fun _ => 0)

def quiescent_FoxPrepIdeal [hFoxPrepIdeal : Cert.FoxPrepIdeal.Facts] : Prop :=
  ∀ (m : (ℓ : Loc Cert.FoxPrepIdeal.nD Cert.FoxPrepIdeal.τ Cert.FoxPrepIdeal.sig) → Buf (Elt Ideal) ℓ) (g : Dev Cert.FoxPrepIdeal.nD → PrngReg), Pre_FoxPrepIdeal m →
    θ_run (Cert.FoxPrepIdeal.defs (F := Ideal)) (onTc (τ := Cert.FoxPrepIdeal.τ) (Cert.FoxPrepIdeal.main (F := Ideal))) ⟨m, fun _ => 0, g⟩ (fun r => (∀ c : Dev Cert.FoxPrepIdeal.nD,
      r.2.mem ((c.tc : Thread Cert.FoxPrepIdeal.nD Cert.FoxPrepIdeal.τ).loc Cert.FoxPrepIdeal.main_arg0) = m ((c.tc : Thread Cert.FoxPrepIdeal.nD Cert.FoxPrepIdeal.τ).loc Cert.FoxPrepIdeal.main_arg0)
      ∧ r.2.mem ((c.tc : Thread Cert.FoxPrepIdeal.nD Cert.FoxPrepIdeal.τ).loc Cert.FoxPrepIdeal.main_arg1) = m ((c.tc : Thread Cert.FoxPrepIdeal.nD Cert.FoxPrepIdeal.τ).loc Cert.FoxPrepIdeal.main_arg1))
      ∧ r.2.sem = fun _ => 0)

def quiescent_FoxPrepRefIdeal [hFoxPrepRefIdeal : Cert.FoxPrepRefIdeal.Facts] : Prop :=
  ∀ (m : (ℓ : Loc Cert.FoxPrepRefIdeal.nD Cert.FoxPrepRefIdeal.τ Cert.FoxPrepRefIdeal.sig) → Buf (Elt Ideal) ℓ) (g : Dev Cert.FoxPrepRefIdeal.nD → PrngReg), Pre_FoxPrepRefIdeal m →
    θ_run (Cert.FoxPrepRefIdeal.defs (F := Ideal)) (onTc (τ := Cert.FoxPrepRefIdeal.τ) (Cert.FoxPrepRefIdeal.main (F := Ideal))) ⟨m, fun _ => 0, g⟩ (fun r => (∀ c : Dev Cert.FoxPrepRefIdeal.nD,
      r.2.mem ((c.tc : Thread Cert.FoxPrepRefIdeal.nD Cert.FoxPrepRefIdeal.τ).loc Cert.FoxPrepRefIdeal.main_arg0) = m ((c.tc : Thread Cert.FoxPrepRefIdeal.nD Cert.FoxPrepRefIdeal.τ).loc Cert.FoxPrepRefIdeal.main_arg0)
      ∧ r.2.mem ((c.tc : Thread Cert.FoxPrepRefIdeal.nD Cert.FoxPrepRefIdeal.τ).loc Cert.FoxPrepRefIdeal.main_arg1) = m ((c.tc : Thread Cert.FoxPrepRefIdeal.nD Cert.FoxPrepRefIdeal.τ).loc Cert.FoxPrepRefIdeal.main_arg1))
      ∧ r.2.sem = fun _ => 0)

def quiescent_AdamVec [hAdamVec : Cert.AdamVec.Facts] : Prop :=
  ∀ (m : (ℓ : Loc Cert.AdamVec.nD Cert.AdamVec.τ Cert.AdamVec.sig) → Buf (Elt Bits) ℓ) (g : Dev Cert.AdamVec.nD → PrngReg), Pre_AdamVec m →
    θ_run (Cert.AdamVec.defs (F := Bits)) (onTc (τ := Cert.AdamVec.τ) (Cert.AdamVec.main (F := Bits))) ⟨m, fun _ => 0, g⟩ (fun r => (∀ c : Dev Cert.AdamVec.nD,
      r.2.mem ((c.tc : Thread Cert.AdamVec.nD Cert.AdamVec.τ).loc Cert.AdamVec.main_arg0) = m ((c.tc : Thread Cert.AdamVec.nD Cert.AdamVec.τ).loc Cert.AdamVec.main_arg0)
      ∧ r.2.mem ((c.tc : Thread Cert.AdamVec.nD Cert.AdamVec.τ).loc Cert.AdamVec.main_arg1) = m ((c.tc : Thread Cert.AdamVec.nD Cert.AdamVec.τ).loc Cert.AdamVec.main_arg1)
      ∧ r.2.mem ((c.tc : Thread Cert.AdamVec.nD Cert.AdamVec.τ).loc Cert.AdamVec.main_arg2) = m ((c.tc : Thread Cert.AdamVec.nD Cert.AdamVec.τ).loc Cert.AdamVec.main_arg2)
      ∧ r.2.mem ((c.tc : Thread Cert.AdamVec.nD Cert.AdamVec.τ).loc Cert.AdamVec.main_arg3) = m ((c.tc : Thread Cert.AdamVec.nD Cert.AdamVec.τ).loc Cert.AdamVec.main_arg3))
      ∧ r.2.sem = fun _ => 0)

def quiescent_AdamVecIdeal [hAdamVecIdeal : Cert.AdamVecIdeal.Facts] : Prop :=
  ∀ (m : (ℓ : Loc Cert.AdamVecIdeal.nD Cert.AdamVecIdeal.τ Cert.AdamVecIdeal.sig) → Buf (Elt Ideal) ℓ) (g : Dev Cert.AdamVecIdeal.nD → PrngReg), Pre_AdamVecIdeal m →
    θ_run (Cert.AdamVecIdeal.defs (F := Ideal)) (onTc (τ := Cert.AdamVecIdeal.τ) (Cert.AdamVecIdeal.main (F := Ideal))) ⟨m, fun _ => 0, g⟩ (fun r => (∀ c : Dev Cert.AdamVecIdeal.nD,
      r.2.mem ((c.tc : Thread Cert.AdamVecIdeal.nD Cert.AdamVecIdeal.τ).loc Cert.AdamVecIdeal.main_arg0) = m ((c.tc : Thread Cert.AdamVecIdeal.nD Cert.AdamVecIdeal.τ).loc Cert.AdamVecIdeal.main_arg0)
      ∧ r.2.mem ((c.tc : Thread Cert.AdamVecIdeal.nD Cert.AdamVecIdeal.τ).loc Cert.AdamVecIdeal.main_arg1) = m ((c.tc : Thread Cert.AdamVecIdeal.nD Cert.AdamVecIdeal.τ).loc Cert.AdamVecIdeal.main_arg1)
      ∧ r.2.mem ((c.tc : Thread Cert.AdamVecIdeal.nD Cert.AdamVecIdeal.τ).loc Cert.AdamVecIdeal.main_arg2) = m ((c.tc : Thread Cert.AdamVecIdeal.nD Cert.AdamVecIdeal.τ).loc Cert.AdamVecIdeal.main_arg2)
      ∧ r.2.mem ((c.tc : Thread Cert.AdamVecIdeal.nD Cert.AdamVecIdeal.τ).loc Cert.AdamVecIdeal.main_arg3) = m ((c.tc : Thread Cert.AdamVecIdeal.nD Cert.AdamVecIdeal.τ).loc Cert.AdamVecIdeal.main_arg3))
      ∧ r.2.sem = fun _ => 0)

def quiescent_AdamVecRefIdeal [hAdamVecRefIdeal : Cert.AdamVecRefIdeal.Facts] : Prop :=
  ∀ (m : (ℓ : Loc Cert.AdamVecRefIdeal.nD Cert.AdamVecRefIdeal.τ Cert.AdamVecRefIdeal.sig) → Buf (Elt Ideal) ℓ) (g : Dev Cert.AdamVecRefIdeal.nD → PrngReg), Pre_AdamVecRefIdeal m →
    θ_run (Cert.AdamVecRefIdeal.defs (F := Ideal)) (onTc (τ := Cert.AdamVecRefIdeal.τ) (Cert.AdamVecRefIdeal.main (F := Ideal))) ⟨m, fun _ => 0, g⟩ (fun r => (∀ c : Dev Cert.AdamVecRefIdeal.nD,
      r.2.mem ((c.tc : Thread Cert.AdamVecRefIdeal.nD Cert.AdamVecRefIdeal.τ).loc Cert.AdamVecRefIdeal.main_arg0) = m ((c.tc : Thread Cert.AdamVecRefIdeal.nD Cert.AdamVecRefIdeal.τ).loc Cert.AdamVecRefIdeal.main_arg0)
      ∧ r.2.mem ((c.tc : Thread Cert.AdamVecRefIdeal.nD Cert.AdamVecRefIdeal.τ).loc Cert.AdamVecRefIdeal.main_arg1) = m ((c.tc : Thread Cert.AdamVecRefIdeal.nD Cert.AdamVecRefIdeal.τ).loc Cert.AdamVecRefIdeal.main_arg1)
      ∧ r.2.mem ((c.tc : Thread Cert.AdamVecRefIdeal.nD Cert.AdamVecRefIdeal.τ).loc Cert.AdamVecRefIdeal.main_arg2) = m ((c.tc : Thread Cert.AdamVecRefIdeal.nD Cert.AdamVecRefIdeal.τ).loc Cert.AdamVecRefIdeal.main_arg2)
      ∧ r.2.mem ((c.tc : Thread Cert.AdamVecRefIdeal.nD Cert.AdamVecRefIdeal.τ).loc Cert.AdamVecRefIdeal.main_arg3) = m ((c.tc : Thread Cert.AdamVecRefIdeal.nD Cert.AdamVecRefIdeal.τ).loc Cert.AdamVecRefIdeal.main_arg3))
      ∧ r.2.sem = fun _ => 0)

def quiescent_AdamBig [hAdamBig : Cert.AdamBig.Facts] [hPre_place_named : Cert.Pre_place_named.Facts] : Prop :=
  ∀ (m : (ℓ : Loc Cert.AdamBig.nD Cert.AdamBig.τ Cert.AdamBig.sig) → Buf (Elt Bits) ℓ) (g : Dev Cert.AdamBig.nD → PrngReg), Pre_AdamBig m →
    θ_run (Cert.AdamBig.defs (F := Bits)) (onTc (τ := Cert.AdamBig.τ) (Cert.AdamBig.main (F := Bits))) ⟨m, fun _ => 0, g⟩ (fun r => (∀ c : Dev Cert.AdamBig.nD,
      r.2.mem ((c.tc : Thread Cert.AdamBig.nD Cert.AdamBig.τ).loc Cert.AdamBig.main_arg0) = m ((c.tc : Thread Cert.AdamBig.nD Cert.AdamBig.τ).loc Cert.AdamBig.main_arg0)
      ∧ r.2.mem ((c.tc : Thread Cert.AdamBig.nD Cert.AdamBig.τ).loc Cert.AdamBig.main_arg1) = m ((c.tc : Thread Cert.AdamBig.nD Cert.AdamBig.τ).loc Cert.AdamBig.main_arg1)
      ∧ r.2.mem ((c.tc : Thread Cert.AdamBig.nD Cert.AdamBig.τ).loc Cert.AdamBig.main_arg2) = m ((c.tc : Thread Cert.AdamBig.nD Cert.AdamBig.τ).loc Cert.AdamBig.main_arg2)
      ∧ r.2.mem ((c.tc : Thread Cert.AdamBig.nD Cert.AdamBig.τ).loc Cert.AdamBig.main_arg3) = m ((c.tc : Thread Cert.AdamBig.nD Cert.AdamBig.τ).loc Cert.AdamBig.main_arg3)
      ∧ r.2.mem ((c.tc : Thread Cert.AdamBig.nD Cert.AdamBig.τ).loc Cert.AdamBig.main_arg4) = m ((c.tc : Thread Cert.AdamBig.nD Cert.AdamBig.τ).loc Cert.AdamBig.main_arg4)
      ∧ r.2.mem ((c.tc : Thread Cert.AdamBig.nD Cert.AdamBig.τ).loc Cert.AdamBig.main_arg5) = m ((c.tc : Thread Cert.AdamBig.nD Cert.AdamBig.τ).loc Cert.AdamBig.main_arg5))
      ∧ r.2.sem = fun _ => 0)

def quiescent_AdamBigIdeal [hAdamBigIdeal : Cert.AdamBigIdeal.Facts] [hPre_place_named : Cert.Pre_place_named.Facts] : Prop :=
  ∀ (m : (ℓ : Loc Cert.AdamBigIdeal.nD Cert.AdamBigIdeal.τ Cert.AdamBigIdeal.sig) → Buf (Elt Ideal) ℓ) (g : Dev Cert.AdamBigIdeal.nD → PrngReg), Pre_AdamBigIdeal m →
    θ_run (Cert.AdamBigIdeal.defs (F := Ideal)) (onTc (τ := Cert.AdamBigIdeal.τ) (Cert.AdamBigIdeal.main (F := Ideal))) ⟨m, fun _ => 0, g⟩ (fun r => (∀ c : Dev Cert.AdamBigIdeal.nD,
      r.2.mem ((c.tc : Thread Cert.AdamBigIdeal.nD Cert.AdamBigIdeal.τ).loc Cert.AdamBigIdeal.main_arg0) = m ((c.tc : Thread Cert.AdamBigIdeal.nD Cert.AdamBigIdeal.τ).loc Cert.AdamBigIdeal.main_arg0)
      ∧ r.2.mem ((c.tc : Thread Cert.AdamBigIdeal.nD Cert.AdamBigIdeal.τ).loc Cert.AdamBigIdeal.main_arg1) = m ((c.tc : Thread Cert.AdamBigIdeal.nD Cert.AdamBigIdeal.τ).loc Cert.AdamBigIdeal.main_arg1)
      ∧ r.2.mem ((c.tc : Thread Cert.AdamBigIdeal.nD Cert.AdamBigIdeal.τ).loc Cert.AdamBigIdeal.main_arg2) = m ((c.tc : Thread Cert.AdamBigIdeal.nD Cert.AdamBigIdeal.τ).loc Cert.AdamBigIdeal.main_arg2)
      ∧ r.2.mem ((c.tc : Thread Cert.AdamBigIdeal.nD Cert.AdamBigIdeal.τ).loc Cert.AdamBigIdeal.main_arg3) = m ((c.tc : Thread Cert.AdamBigIdeal.nD Cert.AdamBigIdeal.τ).loc Cert.AdamBigIdeal.main_arg3)
      ∧ r.2.mem ((c.tc : Thread Cert.AdamBigIdeal.nD Cert.AdamBigIdeal.τ).loc Cert.AdamBigIdeal.main_arg4) = m ((c.tc : Thread Cert.AdamBigIdeal.nD Cert.AdamBigIdeal.τ).loc Cert.AdamBigIdeal.main_arg4)
      ∧ r.2.mem ((c.tc : Thread Cert.AdamBigIdeal.nD Cert.AdamBigIdeal.τ).loc Cert.AdamBigIdeal.main_arg5) = m ((c.tc : Thread Cert.AdamBigIdeal.nD Cert.AdamBigIdeal.τ).loc Cert.AdamBigIdeal.main_arg5))
      ∧ r.2.sem = fun _ => 0)

def quiescent_AdamBigRefIdeal [hAdamBigRefIdeal : Cert.AdamBigRefIdeal.Facts] : Prop :=
  ∀ (m : (ℓ : Loc Cert.AdamBigRefIdeal.nD Cert.AdamBigRefIdeal.τ Cert.AdamBigRefIdeal.sig) → Buf (Elt Ideal) ℓ) (g : Dev Cert.AdamBigRefIdeal.nD → PrngReg), Pre_AdamBigRefIdeal m →
    θ_run (Cert.AdamBigRefIdeal.defs (F := Ideal)) (onTc (τ := Cert.AdamBigRefIdeal.τ) (Cert.AdamBigRefIdeal.main (F := Ideal))) ⟨m, fun _ => 0, g⟩ (fun r => (∀ c : Dev Cert.AdamBigRefIdeal.nD,
      r.2.mem ((c.tc : Thread Cert.AdamBigRefIdeal.nD Cert.AdamBigRefIdeal.τ).loc Cert.AdamBigRefIdeal.main_arg0) = m ((c.tc : Thread Cert.AdamBigRefIdeal.nD Cert.AdamBigRefIdeal.τ).loc Cert.AdamBigRefIdeal.main_arg0)
      ∧ r.2.mem ((c.tc : Thread Cert.AdamBigRefIdeal.nD Cert.AdamBigRefIdeal.τ).loc Cert.AdamBigRefIdeal.main_arg1) = m ((c.tc : Thread Cert.AdamBigRefIdeal.nD Cert.AdamBigRefIdeal.τ).loc Cert.AdamBigRefIdeal.main_arg1)
      ∧ r.2.mem ((c.tc : Thread Cert.AdamBigRefIdeal.nD Cert.AdamBigRefIdeal.τ).loc Cert.AdamBigRefIdeal.main_arg2) = m ((c.tc : Thread Cert.AdamBigRefIdeal.nD Cert.AdamBigRefIdeal.τ).loc Cert.AdamBigRefIdeal.main_arg2)
      ∧ r.2.mem ((c.tc : Thread Cert.AdamBigRefIdeal.nD Cert.AdamBigRefIdeal.τ).loc Cert.AdamBigRefIdeal.main_arg3) = m ((c.tc : Thread Cert.AdamBigRefIdeal.nD Cert.AdamBigRefIdeal.τ).loc Cert.AdamBigRefIdeal.main_arg3)
      ∧ r.2.mem ((c.tc : Thread Cert.AdamBigRefIdeal.nD Cert.AdamBigRefIdeal.τ).loc Cert.AdamBigRefIdeal.main_arg4) = m ((c.tc : Thread Cert.AdamBigRefIdeal.nD Cert.AdamBigRefIdeal.τ).loc Cert.AdamBigRefIdeal.main_arg4)
      ∧ r.2.mem ((c.tc : Thread Cert.AdamBigRefIdeal.nD Cert.AdamBigRefIdeal.τ).loc Cert.AdamBigRefIdeal.main_arg5) = m ((c.tc : Thread Cert.AdamBigRefIdeal.nD Cert.AdamBigRefIdeal.τ).loc Cert.AdamBigRefIdeal.main_arg5))
      ∧ r.2.sem = fun _ => 0)

def quiescent_AdamBigRefIdeal_pre_place_named [hAdamBigRefIdeal : Cert.AdamBigRefIdeal.Facts] [hPre_place_named : Cert.Pre_place_named.Facts] : Prop :=
  ∀ (m : (ℓ : Loc Cert.AdamBigRefIdeal.nD Cert.AdamBigRefIdeal.τ Cert.AdamBigRefIdeal.sig) → Buf (Elt Ideal) ℓ) (g : Dev Cert.AdamBigRefIdeal.nD → PrngReg), Pre_AdamBigRefIdeal_place_named m →
    θ_run (Cert.AdamBigRefIdeal.defs (F := Ideal)) (onTc (τ := Cert.AdamBigRefIdeal.τ) (Cert.AdamBigRefIdeal.main (F := Ideal))) ⟨m, fun _ => 0, g⟩ (fun r => (∀ c : Dev Cert.AdamBigRefIdeal.nD,
      r.2.mem ((c.tc : Thread Cert.AdamBigRefIdeal.nD Cert.AdamBigRefIdeal.τ).loc Cert.AdamBigRefIdeal.main_arg0) = m ((c.tc : Thread Cert.AdamBigRefIdeal.nD Cert.AdamBigRefIdeal.τ).loc Cert.AdamBigRefIdeal.main_arg0)
      ∧ r.2.mem ((c.tc : Thread Cert.AdamBigRefIdeal.nD Cert.AdamBigRefIdeal.τ).loc Cert.AdamBigRefIdeal.main_arg1) = m ((c.tc : Thread Cert.AdamBigRefIdeal.nD Cert.AdamBigRefIdeal.τ).loc Cert.AdamBigRefIdeal.main_arg1)
      ∧ r.2.mem ((c.tc : Thread Cert.AdamBigRefIdeal.nD Cert.AdamBigRefIdeal.τ).loc Cert.AdamBigRefIdeal.main_arg2) = m ((c.tc : Thread Cert.AdamBigRefIdeal.nD Cert.AdamBigRefIdeal.τ).loc Cert.AdamBigRefIdeal.main_arg2)
      ∧ r.2.mem ((c.tc : Thread Cert.AdamBigRefIdeal.nD Cert.AdamBigRefIdeal.τ).loc Cert.AdamBigRefIdeal.main_arg3) = m ((c.tc : Thread Cert.AdamBigRefIdeal.nD Cert.AdamBigRefIdeal.τ).loc Cert.AdamBigRefIdeal.main_arg3)
      ∧ r.2.mem ((c.tc : Thread Cert.AdamBigRefIdeal.nD Cert.AdamBigRefIdeal.τ).loc Cert.AdamBigRefIdeal.main_arg4) = m ((c.tc : Thread Cert.AdamBigRefIdeal.nD Cert.AdamBigRefIdeal.τ).loc Cert.AdamBigRefIdeal.main_arg4)
      ∧ r.2.mem ((c.tc : Thread Cert.AdamBigRefIdeal.nD Cert.AdamBigRefIdeal.τ).loc Cert.AdamBigRefIdeal.main_arg5) = m ((c.tc : Thread Cert.AdamBigRefIdeal.nD Cert.AdamBigRefIdeal.τ).loc Cert.AdamBigRefIdeal.main_arg5))
      ∧ r.2.sem = fun _ => 0)

def quiescent_AdamIn [hAdamIn : Cert.AdamIn.Facts] [hPre_place_named_in : Cert.Pre_place_named_in.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5))
      ∧ r.2.sem = fun _ => 0)

def quiescent_AdamInIdeal [hAdamInIdeal : Cert.AdamInIdeal.Facts] [hPre_place_named_in : Cert.Pre_place_named_in.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5))
      ∧ r.2.sem = fun _ => 0)

def quiescent_AdamInRefIdeal_pre_place_named_in [hAdamInRefIdeal : Cert.AdamInRefIdeal.Facts] [hPre_place_named_in : Cert.Pre_place_named_in.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal_place_named_in m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5))
      ∧ r.2.sem = fun _ => 0)

def quiescent_SumSibling [hSumSibling : Cert.SumSibling.Facts] [hPre_place_named_sibling : Cert.Pre_place_named_sibling.Facts] : Prop :=
  ∀ (m : (ℓ : Loc Cert.SumSibling.nD Cert.SumSibling.τ Cert.SumSibling.sig) → Buf (Elt Bits) ℓ) (g : Dev Cert.SumSibling.nD → PrngReg), Pre_SumSibling m →
    θ_run (Cert.SumSibling.defs (F := Bits)) (onTc (τ := Cert.SumSibling.τ) (Cert.SumSibling.main (F := Bits))) ⟨m, fun _ => 0, g⟩ (fun r => (∀ c : Dev Cert.SumSibling.nD,
      r.2.mem ((c.tc : Thread Cert.SumSibling.nD Cert.SumSibling.τ).loc Cert.SumSibling.main_arg0) = m ((c.tc : Thread Cert.SumSibling.nD Cert.SumSibling.τ).loc Cert.SumSibling.main_arg0)
      ∧ r.2.mem ((c.tc : Thread Cert.SumSibling.nD Cert.SumSibling.τ).loc Cert.SumSibling.main_arg1) = m ((c.tc : Thread Cert.SumSibling.nD Cert.SumSibling.τ).loc Cert.SumSibling.main_arg1)
      ∧ r.2.mem ((c.tc : Thread Cert.SumSibling.nD Cert.SumSibling.τ).loc Cert.SumSibling.main_arg2) = m ((c.tc : Thread Cert.SumSibling.nD Cert.SumSibling.τ).loc Cert.SumSibling.main_arg2))
      ∧ r.2.sem = fun _ => 0)

def quiescent_SumSiblingIdeal [hSumSiblingIdeal : Cert.SumSiblingIdeal.Facts] [hPre_place_named_sibling : Cert.Pre_place_named_sibling.Facts] : Prop :=
  ∀ (m : (ℓ : Loc Cert.SumSiblingIdeal.nD Cert.SumSiblingIdeal.τ Cert.SumSiblingIdeal.sig) → Buf (Elt Ideal) ℓ) (g : Dev Cert.SumSiblingIdeal.nD → PrngReg), Pre_SumSiblingIdeal m →
    θ_run (Cert.SumSiblingIdeal.defs (F := Ideal)) (onTc (τ := Cert.SumSiblingIdeal.τ) (Cert.SumSiblingIdeal.main (F := Ideal))) ⟨m, fun _ => 0, g⟩ (fun r => (∀ c : Dev Cert.SumSiblingIdeal.nD,
      r.2.mem ((c.tc : Thread Cert.SumSiblingIdeal.nD Cert.SumSiblingIdeal.τ).loc Cert.SumSiblingIdeal.main_arg0) = m ((c.tc : Thread Cert.SumSiblingIdeal.nD Cert.SumSiblingIdeal.τ).loc Cert.SumSiblingIdeal.main_arg0)
      ∧ r.2.mem ((c.tc : Thread Cert.SumSiblingIdeal.nD Cert.SumSiblingIdeal.τ).loc Cert.SumSiblingIdeal.main_arg1) = m ((c.tc : Thread Cert.SumSiblingIdeal.nD Cert.SumSiblingIdeal.τ).loc Cert.SumSiblingIdeal.main_arg1)
      ∧ r.2.mem ((c.tc : Thread Cert.SumSiblingIdeal.nD Cert.SumSiblingIdeal.τ).loc Cert.SumSiblingIdeal.main_arg2) = m ((c.tc : Thread Cert.SumSiblingIdeal.nD Cert.SumSiblingIdeal.τ).loc Cert.SumSiblingIdeal.main_arg2))
      ∧ r.2.sem = fun _ => 0)

def quiescent_SumSiblingRefIdeal [hSumSiblingRefIdeal : Cert.SumSiblingRefIdeal.Facts] : Prop :=
  ∀ (m : (ℓ : Loc Cert.SumSiblingRefIdeal.nD Cert.SumSiblingRefIdeal.τ Cert.SumSiblingRefIdeal.sig) → Buf (Elt Ideal) ℓ) (g : Dev Cert.SumSiblingRefIdeal.nD → PrngReg), Pre_SumSiblingRefIdeal m →
    θ_run (Cert.SumSiblingRefIdeal.defs (F := Ideal)) (onTc (τ := Cert.SumSiblingRefIdeal.τ) (Cert.SumSiblingRefIdeal.main (F := Ideal))) ⟨m, fun _ => 0, g⟩ (fun r => (∀ c : Dev Cert.SumSiblingRefIdeal.nD,
      r.2.mem ((c.tc : Thread Cert.SumSiblingRefIdeal.nD Cert.SumSiblingRefIdeal.τ).loc Cert.SumSiblingRefIdeal.main_arg0) = m ((c.tc : Thread Cert.SumSiblingRefIdeal.nD Cert.SumSiblingRefIdeal.τ).loc Cert.SumSiblingRefIdeal.main_arg0)
      ∧ r.2.mem ((c.tc : Thread Cert.SumSiblingRefIdeal.nD Cert.SumSiblingRefIdeal.τ).loc Cert.SumSiblingRefIdeal.main_arg1) = m ((c.tc : Thread Cert.SumSiblingRefIdeal.nD Cert.SumSiblingRefIdeal.τ).loc Cert.SumSiblingRefIdeal.main_arg1)
      ∧ r.2.mem ((c.tc : Thread Cert.SumSiblingRefIdeal.nD Cert.SumSiblingRefIdeal.τ).loc Cert.SumSiblingRefIdeal.main_arg2) = m ((c.tc : Thread Cert.SumSiblingRefIdeal.nD Cert.SumSiblingRefIdeal.τ).loc Cert.SumSiblingRefIdeal.main_arg2))
      ∧ r.2.sem = fun _ => 0)

def quiescent_SumSiblingRefIdeal_pre_place_named_sibling [hSumSiblingRefIdeal : Cert.SumSiblingRefIdeal.Facts] [hPre_place_named_sibling : Cert.Pre_place_named_sibling.Facts] : Prop :=
  ∀ (m : (ℓ : Loc Cert.SumSiblingRefIdeal.nD Cert.SumSiblingRefIdeal.τ Cert.SumSiblingRefIdeal.sig) → Buf (Elt Ideal) ℓ) (g : Dev Cert.SumSiblingRefIdeal.nD → PrngReg), Pre_SumSiblingRefIdeal_place_named_sibling m →
    θ_run (Cert.SumSiblingRefIdeal.defs (F := Ideal)) (onTc (τ := Cert.SumSiblingRefIdeal.τ) (Cert.SumSiblingRefIdeal.main (F := Ideal))) ⟨m, fun _ => 0, g⟩ (fun r => (∀ c : Dev Cert.SumSiblingRefIdeal.nD,
      r.2.mem ((c.tc : Thread Cert.SumSiblingRefIdeal.nD Cert.SumSiblingRefIdeal.τ).loc Cert.SumSiblingRefIdeal.main_arg0) = m ((c.tc : Thread Cert.SumSiblingRefIdeal.nD Cert.SumSiblingRefIdeal.τ).loc Cert.SumSiblingRefIdeal.main_arg0)
      ∧ r.2.mem ((c.tc : Thread Cert.SumSiblingRefIdeal.nD Cert.SumSiblingRefIdeal.τ).loc Cert.SumSiblingRefIdeal.main_arg1) = m ((c.tc : Thread Cert.SumSiblingRefIdeal.nD Cert.SumSiblingRefIdeal.τ).loc Cert.SumSiblingRefIdeal.main_arg1)
      ∧ r.2.mem ((c.tc : Thread Cert.SumSiblingRefIdeal.nD Cert.SumSiblingRefIdeal.τ).loc Cert.SumSiblingRefIdeal.main_arg2) = m ((c.tc : Thread Cert.SumSiblingRefIdeal.nD Cert.SumSiblingRefIdeal.τ).loc Cert.SumSiblingRefIdeal.main_arg2))
      ∧ r.2.sem = fun _ => 0)

def quiescent_SumChips [hSumChips : Cert.SumChips.Facts] [hPre_place_named_chips : Cert.Pre_place_named_chips.Facts] : Prop :=
  ∀ (m : (ℓ : Loc Cert.SumChips.nD Cert.SumChips.τ Cert.SumChips.sig) → Buf (Elt Bits) ℓ) (g : Dev Cert.SumChips.nD → PrngReg), Pre_SumChips m →
    θ_run (Cert.SumChips.defs (F := Bits)) (onTc (τ := Cert.SumChips.τ) (Cert.SumChips.main (F := Bits))) ⟨m, fun _ => 0, g⟩ (fun r => (∀ c : Dev Cert.SumChips.nD,
      r.2.mem ((c.tc : Thread Cert.SumChips.nD Cert.SumChips.τ).loc Cert.SumChips.main_arg0) = m ((c.tc : Thread Cert.SumChips.nD Cert.SumChips.τ).loc Cert.SumChips.main_arg0)
      ∧ r.2.mem ((c.tc : Thread Cert.SumChips.nD Cert.SumChips.τ).loc Cert.SumChips.main_arg1) = m ((c.tc : Thread Cert.SumChips.nD Cert.SumChips.τ).loc Cert.SumChips.main_arg1)
      ∧ r.2.mem ((c.tc : Thread Cert.SumChips.nD Cert.SumChips.τ).loc Cert.SumChips.main_arg2) = m ((c.tc : Thread Cert.SumChips.nD Cert.SumChips.τ).loc Cert.SumChips.main_arg2)
      ∧ r.2.mem ((c.tc : Thread Cert.SumChips.nD Cert.SumChips.τ).loc Cert.SumChips.main_arg3) = m ((c.tc : Thread Cert.SumChips.nD Cert.SumChips.τ).loc Cert.SumChips.main_arg3))
      ∧ r.2.sem = fun _ => 0)

def quiescent_SumChipsIdeal [hSumChipsIdeal : Cert.SumChipsIdeal.Facts] [hPre_place_named_chips : Cert.Pre_place_named_chips.Facts] : Prop :=
  ∀ (m : (ℓ : Loc Cert.SumChipsIdeal.nD Cert.SumChipsIdeal.τ Cert.SumChipsIdeal.sig) → Buf (Elt Ideal) ℓ) (g : Dev Cert.SumChipsIdeal.nD → PrngReg), Pre_SumChipsIdeal m →
    θ_run (Cert.SumChipsIdeal.defs (F := Ideal)) (onTc (τ := Cert.SumChipsIdeal.τ) (Cert.SumChipsIdeal.main (F := Ideal))) ⟨m, fun _ => 0, g⟩ (fun r => (∀ c : Dev Cert.SumChipsIdeal.nD,
      r.2.mem ((c.tc : Thread Cert.SumChipsIdeal.nD Cert.SumChipsIdeal.τ).loc Cert.SumChipsIdeal.main_arg0) = m ((c.tc : Thread Cert.SumChipsIdeal.nD Cert.SumChipsIdeal.τ).loc Cert.SumChipsIdeal.main_arg0)
      ∧ r.2.mem ((c.tc : Thread Cert.SumChipsIdeal.nD Cert.SumChipsIdeal.τ).loc Cert.SumChipsIdeal.main_arg1) = m ((c.tc : Thread Cert.SumChipsIdeal.nD Cert.SumChipsIdeal.τ).loc Cert.SumChipsIdeal.main_arg1)
      ∧ r.2.mem ((c.tc : Thread Cert.SumChipsIdeal.nD Cert.SumChipsIdeal.τ).loc Cert.SumChipsIdeal.main_arg2) = m ((c.tc : Thread Cert.SumChipsIdeal.nD Cert.SumChipsIdeal.τ).loc Cert.SumChipsIdeal.main_arg2)
      ∧ r.2.mem ((c.tc : Thread Cert.SumChipsIdeal.nD Cert.SumChipsIdeal.τ).loc Cert.SumChipsIdeal.main_arg3) = m ((c.tc : Thread Cert.SumChipsIdeal.nD Cert.SumChipsIdeal.τ).loc Cert.SumChipsIdeal.main_arg3))
      ∧ r.2.sem = fun _ => 0)

def quiescent_SumChipsRefIdeal [hSumChipsRefIdeal : Cert.SumChipsRefIdeal.Facts] : Prop :=
  ∀ (m : (ℓ : Loc Cert.SumChipsRefIdeal.nD Cert.SumChipsRefIdeal.τ Cert.SumChipsRefIdeal.sig) → Buf (Elt Ideal) ℓ) (g : Dev Cert.SumChipsRefIdeal.nD → PrngReg), Pre_SumChipsRefIdeal m →
    θ_run (Cert.SumChipsRefIdeal.defs (F := Ideal)) (onTc (τ := Cert.SumChipsRefIdeal.τ) (Cert.SumChipsRefIdeal.main (F := Ideal))) ⟨m, fun _ => 0, g⟩ (fun r => (∀ c : Dev Cert.SumChipsRefIdeal.nD,
      r.2.mem ((c.tc : Thread Cert.SumChipsRefIdeal.nD Cert.SumChipsRefIdeal.τ).loc Cert.SumChipsRefIdeal.main_arg0) = m ((c.tc : Thread Cert.SumChipsRefIdeal.nD Cert.SumChipsRefIdeal.τ).loc Cert.SumChipsRefIdeal.main_arg0)
      ∧ r.2.mem ((c.tc : Thread Cert.SumChipsRefIdeal.nD Cert.SumChipsRefIdeal.τ).loc Cert.SumChipsRefIdeal.main_arg1) = m ((c.tc : Thread Cert.SumChipsRefIdeal.nD Cert.SumChipsRefIdeal.τ).loc Cert.SumChipsRefIdeal.main_arg1)
      ∧ r.2.mem ((c.tc : Thread Cert.SumChipsRefIdeal.nD Cert.SumChipsRefIdeal.τ).loc Cert.SumChipsRefIdeal.main_arg2) = m ((c.tc : Thread Cert.SumChipsRefIdeal.nD Cert.SumChipsRefIdeal.τ).loc Cert.SumChipsRefIdeal.main_arg2)
      ∧ r.2.mem ((c.tc : Thread Cert.SumChipsRefIdeal.nD Cert.SumChipsRefIdeal.τ).loc Cert.SumChipsRefIdeal.main_arg3) = m ((c.tc : Thread Cert.SumChipsRefIdeal.nD Cert.SumChipsRefIdeal.τ).loc Cert.SumChipsRefIdeal.main_arg3))
      ∧ r.2.sem = fun _ => 0)

def quiescent_SumChipsRefIdeal_pre_place_named_chips [hSumChipsRefIdeal : Cert.SumChipsRefIdeal.Facts] [hPre_place_named_chips : Cert.Pre_place_named_chips.Facts] : Prop :=
  ∀ (m : (ℓ : Loc Cert.SumChipsRefIdeal.nD Cert.SumChipsRefIdeal.τ Cert.SumChipsRefIdeal.sig) → Buf (Elt Ideal) ℓ) (g : Dev Cert.SumChipsRefIdeal.nD → PrngReg), Pre_SumChipsRefIdeal_place_named_chips m →
    θ_run (Cert.SumChipsRefIdeal.defs (F := Ideal)) (onTc (τ := Cert.SumChipsRefIdeal.τ) (Cert.SumChipsRefIdeal.main (F := Ideal))) ⟨m, fun _ => 0, g⟩ (fun r => (∀ c : Dev Cert.SumChipsRefIdeal.nD,
      r.2.mem ((c.tc : Thread Cert.SumChipsRefIdeal.nD Cert.SumChipsRefIdeal.τ).loc Cert.SumChipsRefIdeal.main_arg0) = m ((c.tc : Thread Cert.SumChipsRefIdeal.nD Cert.SumChipsRefIdeal.τ).loc Cert.SumChipsRefIdeal.main_arg0)
      ∧ r.2.mem ((c.tc : Thread Cert.SumChipsRefIdeal.nD Cert.SumChipsRefIdeal.τ).loc Cert.SumChipsRefIdeal.main_arg1) = m ((c.tc : Thread Cert.SumChipsRefIdeal.nD Cert.SumChipsRefIdeal.τ).loc Cert.SumChipsRefIdeal.main_arg1)
      ∧ r.2.mem ((c.tc : Thread Cert.SumChipsRefIdeal.nD Cert.SumChipsRefIdeal.τ).loc Cert.SumChipsRefIdeal.main_arg2) = m ((c.tc : Thread Cert.SumChipsRefIdeal.nD Cert.SumChipsRefIdeal.τ).loc Cert.SumChipsRefIdeal.main_arg2)
      ∧ r.2.mem ((c.tc : Thread Cert.SumChipsRefIdeal.nD Cert.SumChipsRefIdeal.τ).loc Cert.SumChipsRefIdeal.main_arg3) = m ((c.tc : Thread Cert.SumChipsRefIdeal.nD Cert.SumChipsRefIdeal.τ).loc Cert.SumChipsRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_v80) = v3 c
          ∧ r.2.mem ((c.tc : Thread Cert.ReferenceIdeal.nD Cert.ReferenceIdeal.τ).loc Cert.ReferenceIdeal.main_v91) = v4 c
          ∧ r.2.mem ((c.tc : Thread Cert.ReferenceIdeal.nD Cert.ReferenceIdeal.τ).loc Cert.ReferenceIdeal.main_v92) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_DWDown_DWDownIdeal : Prop :=
  True

def algebraic_DWDownIdeal_DWDownRefIdeal [hDWDownIdeal : Cert.DWDownIdeal.Facts] [hDWDownRefIdeal : Cert.DWDownRefIdeal.Facts] : Prop :=
  ∀ (m : (ℓ : Loc Cert.DWDownIdeal.nD Cert.DWDownIdeal.τ Cert.DWDownIdeal.sig) → Buf (Elt Ideal) ℓ) (g : Dev Cert.DWDownIdeal.nD → PrngReg)
    (m' : (ℓ : Loc Cert.DWDownRefIdeal.nD Cert.DWDownRefIdeal.τ Cert.DWDownRefIdeal.sig) → Buf (Elt Ideal) ℓ) (g' : Dev Cert.DWDownRefIdeal.nD → PrngReg), Pre_DWDownIdeal m →
    (∀ c : Dev Cert.DWDownIdeal.nD,
      m' ((c.tc : Thread Cert.DWDownRefIdeal.nD Cert.DWDownRefIdeal.τ).loc Cert.DWDownRefIdeal.main_arg0) = m ((c.tc : Thread Cert.DWDownIdeal.nD Cert.DWDownIdeal.τ).loc Cert.DWDownIdeal.main_arg0)
      ∧ m' ((c.tc : Thread Cert.DWDownRefIdeal.nD Cert.DWDownRefIdeal.τ).loc Cert.DWDownRefIdeal.main_arg1) = m ((c.tc : Thread Cert.DWDownIdeal.nD Cert.DWDownIdeal.τ).loc Cert.DWDownIdeal.main_arg1)) →
    ∃ (v0 : (c : Dev Cert.DWDownIdeal.nD) → Buf (Elt Ideal) ((c.tc : Thread Cert.DWDownIdeal.nD Cert.DWDownIdeal.τ).loc Cert.DWDownIdeal.main_v0)),
      θ_run (Cert.DWDownIdeal.defs (F := Ideal)) (onTc (τ := Cert.DWDownIdeal.τ) (Cert.DWDownIdeal.main (F := Ideal))) ⟨m, fun _ => 0, g⟩ (fun r => ∀ c : Dev Cert.DWDownIdeal.nD,
          r.2.mem ((c.tc : Thread Cert.DWDownIdeal.nD Cert.DWDownIdeal.τ).loc Cert.DWDownIdeal.main_v0) = v0 c
          ∧ r.2.mem ((c.tc : Thread Cert.DWDownIdeal.nD Cert.DWDownIdeal.τ).loc Cert.DWDownIdeal.main_arg0) = m ((c.tc : Thread Cert.DWDownIdeal.nD Cert.DWDownIdeal.τ).loc Cert.DWDownIdeal.main_arg0)
          ∧ r.2.mem ((c.tc : Thread Cert.DWDownIdeal.nD Cert.DWDownIdeal.τ).loc Cert.DWDownIdeal.main_arg1) = m ((c.tc : Thread Cert.DWDownIdeal.nD Cert.DWDownIdeal.τ).loc Cert.DWDownIdeal.main_arg1))
      ∧ θ_run (Cert.DWDownRefIdeal.defs (F := Ideal)) (onTc (τ := Cert.DWDownRefIdeal.τ) (Cert.DWDownRefIdeal.main (F := Ideal))) ⟨m', fun _ => 0, g'⟩ (fun r => ∀ c : Dev Cert.DWDownRefIdeal.nD,
          r.2.mem ((c.tc : Thread Cert.DWDownRefIdeal.nD Cert.DWDownRefIdeal.τ).loc Cert.DWDownRefIdeal.main_v6) = v0 c
          ∧ r.2.mem ((c.tc : Thread Cert.DWDownRefIdeal.nD Cert.DWDownRefIdeal.τ).loc Cert.DWDownRefIdeal.main_arg0) = m' ((c.tc : Thread Cert.DWDownRefIdeal.nD Cert.DWDownRefIdeal.τ).loc Cert.DWDownRefIdeal.main_arg0)
          ∧ r.2.mem ((c.tc : Thread Cert.DWDownRefIdeal.nD Cert.DWDownRefIdeal.τ).loc Cert.DWDownRefIdeal.main_arg1) = m' ((c.tc : Thread Cert.DWDownRefIdeal.nD Cert.DWDownRefIdeal.τ).loc Cert.DWDownRefIdeal.main_arg1))

def preserves_DWUp_DWUpIdeal : Prop :=
  True

def algebraic_DWUpIdeal_DWUpRefIdeal [hDWUpIdeal : Cert.DWUpIdeal.Facts] [hDWUpRefIdeal : Cert.DWUpRefIdeal.Facts] : Prop :=
  ∀ (m : (ℓ : Loc Cert.DWUpIdeal.nD Cert.DWUpIdeal.τ Cert.DWUpIdeal.sig) → Buf (Elt Ideal) ℓ) (g : Dev Cert.DWUpIdeal.nD → PrngReg)
    (m' : (ℓ : Loc Cert.DWUpRefIdeal.nD Cert.DWUpRefIdeal.τ Cert.DWUpRefIdeal.sig) → Buf (Elt Ideal) ℓ) (g' : Dev Cert.DWUpRefIdeal.nD → PrngReg), Pre_DWUpIdeal m →
    (∀ c : Dev Cert.DWUpIdeal.nD,
      m' ((c.tc : Thread Cert.DWUpRefIdeal.nD Cert.DWUpRefIdeal.τ).loc Cert.DWUpRefIdeal.main_arg0) = m ((c.tc : Thread Cert.DWUpIdeal.nD Cert.DWUpIdeal.τ).loc Cert.DWUpIdeal.main_arg0)
      ∧ m' ((c.tc : Thread Cert.DWUpRefIdeal.nD Cert.DWUpRefIdeal.τ).loc Cert.DWUpRefIdeal.main_arg1) = m ((c.tc : Thread Cert.DWUpIdeal.nD Cert.DWUpIdeal.τ).loc Cert.DWUpIdeal.main_arg1)) →
    ∃ (v0 : (c : Dev Cert.DWUpIdeal.nD) → Buf (Elt Ideal) ((c.tc : Thread Cert.DWUpIdeal.nD Cert.DWUpIdeal.τ).loc Cert.DWUpIdeal.main_v0)),
      θ_run (Cert.DWUpIdeal.defs (F := Ideal)) (onTc (τ := Cert.DWUpIdeal.τ) (Cert.DWUpIdeal.main (F := Ideal))) ⟨m, fun _ => 0, g⟩ (fun r => ∀ c : Dev Cert.DWUpIdeal.nD,
          r.2.mem ((c.tc : Thread Cert.DWUpIdeal.nD Cert.DWUpIdeal.τ).loc Cert.DWUpIdeal.main_v0) = v0 c
          ∧ r.2.mem ((c.tc : Thread Cert.DWUpIdeal.nD Cert.DWUpIdeal.τ).loc Cert.DWUpIdeal.main_arg0) = m ((c.tc : Thread Cert.DWUpIdeal.nD Cert.DWUpIdeal.τ).loc Cert.DWUpIdeal.main_arg0)
          ∧ r.2.mem ((c.tc : Thread Cert.DWUpIdeal.nD Cert.DWUpIdeal.τ).loc Cert.DWUpIdeal.main_arg1) = m ((c.tc : Thread Cert.DWUpIdeal.nD Cert.DWUpIdeal.τ).loc Cert.DWUpIdeal.main_arg1))
      ∧ θ_run (Cert.DWUpRefIdeal.defs (F := Ideal)) (onTc (τ := Cert.DWUpRefIdeal.τ) (Cert.DWUpRefIdeal.main (F := Ideal))) ⟨m', fun _ => 0, g'⟩ (fun r => ∀ c : Dev Cert.DWUpRefIdeal.nD,
          r.2.mem ((c.tc : Thread Cert.DWUpRefIdeal.nD Cert.DWUpRefIdeal.τ).loc Cert.DWUpRefIdeal.main_v29) = v0 c
          ∧ r.2.mem ((c.tc : Thread Cert.DWUpRefIdeal.nD Cert.DWUpRefIdeal.τ).loc Cert.DWUpRefIdeal.main_arg0) = m' ((c.tc : Thread Cert.DWUpRefIdeal.nD Cert.DWUpRefIdeal.τ).loc Cert.DWUpRefIdeal.main_arg0)
          ∧ r.2.mem ((c.tc : Thread Cert.DWUpRefIdeal.nD Cert.DWUpRefIdeal.τ).loc Cert.DWUpRefIdeal.main_arg1) = m' ((c.tc : Thread Cert.DWUpRefIdeal.nD Cert.DWUpRefIdeal.τ).loc Cert.DWUpRefIdeal.main_arg1))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v0)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v0) = v0 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v13) = v0 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1))

def preserves_DAct_DActIdeal : Prop :=
  True

def algebraic_DActIdeal_DActRefIdeal [hDActIdeal : Cert.DActIdeal.Facts] [hDActRefIdeal : Cert.DActRefIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)
      ∧ m' ((c.tc : Thread Cert.DActRefIdeal.nD Cert.DActRefIdeal.τ).loc Cert.DActRefIdeal.main_arg2) = m ((c.tc : Thread Cert.DActIdeal.nD Cert.DActIdeal.τ).loc Cert.DActIdeal.main_arg2)) →
    ∃ (v0 : (c : Dev Cert.DActIdeal.nD) → Buf (Elt Ideal) ((c.tc : Thread Cert.DActIdeal.nD Cert.DActIdeal.τ).loc Cert.DActIdeal.main_v3)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v3) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
          ∧ r.2.mem ((c.tc : Thread Cert.DActIdeal.nD Cert.DActIdeal.τ).loc Cert.DActIdeal.main_arg2) = m ((c.tc : Thread Cert.DActIdeal.nD Cert.DActIdeal.τ).loc Cert.DActIdeal.main_arg2))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v14) = v0 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1)
          ∧ r.2.mem ((c.tc : Thread Cert.DActRefIdeal.nD Cert.DActRefIdeal.τ).loc Cert.DActRefIdeal.main_arg2) = m' ((c.tc : Thread Cert.DActRefIdeal.nD Cert.DActRefIdeal.τ).loc Cert.DActRefIdeal.main_arg2))

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)
      ∧ m' ((c.tc : Thread Cert.MlpDownRefIdeal.nD Cert.MlpDownRefIdeal.τ).loc Cert.MlpDownRefIdeal.main_arg2) = m ((c.tc : Thread Cert.MlpDownIdeal.nD Cert.MlpDownIdeal.τ).loc Cert.MlpDownIdeal.main_arg2)
      ∧ m' ((c.tc : Thread Cert.MlpDownRefIdeal.nD Cert.MlpDownRefIdeal.τ).loc Cert.MlpDownRefIdeal.main_arg3) = m ((c.tc : Thread Cert.MlpDownIdeal.nD Cert.MlpDownIdeal.τ).loc Cert.MlpDownIdeal.main_arg3)) →
    ∃ (v0 : (c : Dev Cert.MlpDownIdeal.nD) → Buf (Elt Ideal) ((c.tc : Thread Cert.MlpDownIdeal.nD Cert.MlpDownIdeal.τ).loc Cert.MlpDownIdeal.main_v0_0)) (v1 : (c : Dev Cert.MlpDownIdeal.nD) → Buf (Elt Ideal) ((c.tc : Thread Cert.MlpDownIdeal.nD Cert.MlpDownIdeal.τ).loc Cert.MlpDownIdeal.main_v0_1)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v0_0) = v0 c
          ∧ r.2.mem ((c.tc : Thread Cert.MlpDownIdeal.nD Cert.MlpDownIdeal.τ).loc Cert.MlpDownIdeal.main_v0_1) = v1 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
          ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v4) = v0 c
          ∧ r.2.mem ((c.tc : Thread Cert.MlpDownRefIdeal.nD Cert.MlpDownRefIdeal.τ).loc Cert.MlpDownRefIdeal.main_v17) = v1 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1)
          ∧ r.2.mem ((c.tc : Thread Cert.MlpDownRefIdeal.nD Cert.MlpDownRefIdeal.τ).loc Cert.MlpDownRefIdeal.main_arg2) = m' ((c.tc : Thread Cert.MlpDownRefIdeal.nD Cert.MlpDownRefIdeal.τ).loc Cert.MlpDownRefIdeal.main_arg2)
          ∧ r.2.mem ((c.tc : Thread Cert.MlpDownRefIdeal.nD Cert.MlpDownRefIdeal.τ).loc Cert.MlpDownRefIdeal.main_arg3) = m' ((c.tc : Thread Cert.MlpDownRefIdeal.nD Cert.MlpDownRefIdeal.τ).loc Cert.MlpDownRefIdeal.main_arg3))

def preserves_DWOut_DWOutIdeal : Prop :=
  True

def algebraic_DWOutIdeal_DWOutRefIdeal [hDWOutIdeal : Cert.DWOutIdeal.Facts] [hDWOutRefIdeal : Cert.DWOutRefIdeal.Facts] : Prop :=
  ∀ (m : (ℓ : Loc Cert.DWOutIdeal.nD Cert.DWOutIdeal.τ Cert.DWOutIdeal.sig) → Buf (Elt Ideal) ℓ) (g : Dev Cert.DWOutIdeal.nD → PrngReg)
    (m' : (ℓ : Loc Cert.DWOutRefIdeal.nD Cert.DWOutRefIdeal.τ Cert.DWOutRefIdeal.sig) → Buf (Elt Ideal) ℓ) (g' : Dev Cert.DWOutRefIdeal.nD → PrngReg), Pre_DWOutIdeal m →
    (∀ c : Dev Cert.DWOutIdeal.nD,
      m' ((c.tc : Thread Cert.DWOutRefIdeal.nD Cert.DWOutRefIdeal.τ).loc Cert.DWOutRefIdeal.main_arg0) = m ((c.tc : Thread Cert.DWOutIdeal.nD Cert.DWOutIdeal.τ).loc Cert.DWOutIdeal.main_arg0)
      ∧ m' ((c.tc : Thread Cert.DWOutRefIdeal.nD Cert.DWOutRefIdeal.τ).loc Cert.DWOutRefIdeal.main_arg1) = m ((c.tc : Thread Cert.DWOutIdeal.nD Cert.DWOutIdeal.τ).loc Cert.DWOutIdeal.main_arg1)) →
    ∃ (v0 : (c : Dev Cert.DWOutIdeal.nD) → Buf (Elt Ideal) ((c.tc : Thread Cert.DWOutIdeal.nD Cert.DWOutIdeal.τ).loc Cert.DWOutIdeal.main_v0)),
      θ_run (Cert.DWOutIdeal.defs (F := Ideal)) (onTc (τ := Cert.DWOutIdeal.τ) (Cert.DWOutIdeal.main (F := Ideal))) ⟨m, fun _ => 0, g⟩ (fun r => ∀ c : Dev Cert.DWOutIdeal.nD,
          r.2.mem ((c.tc : Thread Cert.DWOutIdeal.nD Cert.DWOutIdeal.τ).loc Cert.DWOutIdeal.main_v0) = v0 c
          ∧ r.2.mem ((c.tc : Thread Cert.DWOutIdeal.nD Cert.DWOutIdeal.τ).loc Cert.DWOutIdeal.main_arg0) = m ((c.tc : Thread Cert.DWOutIdeal.nD Cert.DWOutIdeal.τ).loc Cert.DWOutIdeal.main_arg0)
          ∧ r.2.mem ((c.tc : Thread Cert.DWOutIdeal.nD Cert.DWOutIdeal.τ).loc Cert.DWOutIdeal.main_arg1) = m ((c.tc : Thread Cert.DWOutIdeal.nD Cert.DWOutIdeal.τ).loc Cert.DWOutIdeal.main_arg1))
      ∧ θ_run (Cert.DWOutRefIdeal.defs (F := Ideal)) (onTc (τ := Cert.DWOutRefIdeal.τ) (Cert.DWOutRefIdeal.main (F := Ideal))) ⟨m', fun _ => 0, g'⟩ (fun r => ∀ c : Dev Cert.DWOutRefIdeal.nD,
          r.2.mem ((c.tc : Thread Cert.DWOutRefIdeal.nD Cert.DWOutRefIdeal.τ).loc Cert.DWOutRefIdeal.main_v5) = v0 c
          ∧ r.2.mem ((c.tc : Thread Cert.DWOutRefIdeal.nD Cert.DWOutRefIdeal.τ).loc Cert.DWOutRefIdeal.main_arg0) = m' ((c.tc : Thread Cert.DWOutRefIdeal.nD Cert.DWOutRefIdeal.τ).loc Cert.DWOutRefIdeal.main_arg0)
          ∧ r.2.mem ((c.tc : Thread Cert.DWOutRefIdeal.nD Cert.DWOutRefIdeal.τ).loc Cert.DWOutRefIdeal.main_arg1) = m' ((c.tc : Thread Cert.DWOutRefIdeal.nD Cert.DWOutRefIdeal.τ).loc Cert.DWOutRefIdeal.main_arg1))

def preserves_DWBranch_DWBranchIdeal : Prop :=
  True

def algebraic_DWBranchIdeal_DWBranchRefIdeal [hDWBranchIdeal : Cert.DWBranchIdeal.Facts] [hDWBranchRefIdeal : Cert.DWBranchRefIdeal.Facts] : Prop :=
  ∀ (m : (ℓ : Loc Cert.DWBranchIdeal.nD Cert.DWBranchIdeal.τ Cert.DWBranchIdeal.sig) → Buf (Elt Ideal) ℓ) (g : Dev Cert.DWBranchIdeal.nD → PrngReg)
    (m' : (ℓ : Loc Cert.DWBranchRefIdeal.nD Cert.DWBranchRefIdeal.τ Cert.DWBranchRefIdeal.sig) → Buf (Elt Ideal) ℓ) (g' : Dev Cert.DWBranchRefIdeal.nD → PrngReg), Pre_DWBranchIdeal m →
    (∀ c : Dev Cert.DWBranchIdeal.nD,
      m' ((c.tc : Thread Cert.DWBranchRefIdeal.nD Cert.DWBranchRefIdeal.τ).loc Cert.DWBranchRefIdeal.main_arg0) = m ((c.tc : Thread Cert.DWBranchIdeal.nD Cert.DWBranchIdeal.τ).loc Cert.DWBranchIdeal.main_arg0)
      ∧ m' ((c.tc : Thread Cert.DWBranchRefIdeal.nD Cert.DWBranchRefIdeal.τ).loc Cert.DWBranchRefIdeal.main_arg1) = m ((c.tc : Thread Cert.DWBranchIdeal.nD Cert.DWBranchIdeal.τ).loc Cert.DWBranchIdeal.main_arg1)) →
    ∃ (v0 : (c : Dev Cert.DWBranchIdeal.nD) → Buf (Elt Ideal) ((c.tc : Thread Cert.DWBranchIdeal.nD Cert.DWBranchIdeal.τ).loc Cert.DWBranchIdeal.main_v0)),
      θ_run (Cert.DWBranchIdeal.defs (F := Ideal)) (onTc (τ := Cert.DWBranchIdeal.τ) (Cert.DWBranchIdeal.main (F := Ideal))) ⟨m, fun _ => 0, g⟩ (fun r => ∀ c : Dev Cert.DWBranchIdeal.nD,
          r.2.mem ((c.tc : Thread Cert.DWBranchIdeal.nD Cert.DWBranchIdeal.τ).loc Cert.DWBranchIdeal.main_v0) = v0 c
          ∧ r.2.mem ((c.tc : Thread Cert.DWBranchIdeal.nD Cert.DWBranchIdeal.τ).loc Cert.DWBranchIdeal.main_arg0) = m ((c.tc : Thread Cert.DWBranchIdeal.nD Cert.DWBranchIdeal.τ).loc Cert.DWBranchIdeal.main_arg0)
          ∧ r.2.mem ((c.tc : Thread Cert.DWBranchIdeal.nD Cert.DWBranchIdeal.τ).loc Cert.DWBranchIdeal.main_arg1) = m ((c.tc : Thread Cert.DWBranchIdeal.nD Cert.DWBranchIdeal.τ).loc Cert.DWBranchIdeal.main_arg1))
      ∧ θ_run (Cert.DWBranchRefIdeal.defs (F := Ideal)) (onTc (τ := Cert.DWBranchRefIdeal.τ) (Cert.DWBranchRefIdeal.main (F := Ideal))) ⟨m', fun _ => 0, g'⟩ (fun r => ∀ c : Dev Cert.DWBranchRefIdeal.nD,
          r.2.mem ((c.tc : Thread Cert.DWBranchRefIdeal.nD Cert.DWBranchRefIdeal.τ).loc Cert.DWBranchRefIdeal.main_v29) = v0 c
          ∧ r.2.mem ((c.tc : Thread Cert.DWBranchRefIdeal.nD Cert.DWBranchRefIdeal.τ).loc Cert.DWBranchRefIdeal.main_arg0) = m' ((c.tc : Thread Cert.DWBranchRefIdeal.nD Cert.DWBranchRefIdeal.τ).loc Cert.DWBranchRefIdeal.main_arg0)
          ∧ r.2.mem ((c.tc : Thread Cert.DWBranchRefIdeal.nD Cert.DWBranchRefIdeal.τ).loc Cert.DWBranchRefIdeal.main_arg1) = m' ((c.tc : Thread Cert.DWBranchRefIdeal.nD Cert.DWBranchRefIdeal.τ).loc Cert.DWBranchRefIdeal.main_arg1))

def preserves_DWPle_DWPleIdeal : Prop :=
  True

def algebraic_DWPleIdeal_DWPleRefIdeal [hDWPleIdeal : Cert.DWPleIdeal.Facts] [hDWPleRefIdeal : Cert.DWPleRefIdeal.Facts] : Prop :=
  ∀ (m : (ℓ : Loc Cert.DWPleIdeal.nD Cert.DWPleIdeal.τ Cert.DWPleIdeal.sig) → Buf (Elt Ideal) ℓ) (g : Dev Cert.DWPleIdeal.nD → PrngReg)
    (m' : (ℓ : Loc Cert.DWPleRefIdeal.nD Cert.DWPleRefIdeal.τ Cert.DWPleRefIdeal.sig) → Buf (Elt Ideal) ℓ) (g' : Dev Cert.DWPleRefIdeal.nD → PrngReg), Pre_DWPleIdeal m →
    (∀ c : Dev Cert.DWPleIdeal.nD,
      m' ((c.tc : Thread Cert.DWPleRefIdeal.nD Cert.DWPleRefIdeal.τ).loc Cert.DWPleRefIdeal.main_arg0) = m ((c.tc : Thread Cert.DWPleIdeal.nD Cert.DWPleIdeal.τ).loc Cert.DWPleIdeal.main_arg0)
      ∧ m' ((c.tc : Thread Cert.DWPleRefIdeal.nD Cert.DWPleRefIdeal.τ).loc Cert.DWPleRefIdeal.main_arg1) = m ((c.tc : Thread Cert.DWPleIdeal.nD Cert.DWPleIdeal.τ).loc Cert.DWPleIdeal.main_arg1)) →
    ∃ (v0 : (c : Dev Cert.DWPleIdeal.nD) → Buf (Elt Ideal) ((c.tc : Thread Cert.DWPleIdeal.nD Cert.DWPleIdeal.τ).loc Cert.DWPleIdeal.main_v0)),
      θ_run (Cert.DWPleIdeal.defs (F := Ideal)) (onTc (τ := Cert.DWPleIdeal.τ) (Cert.DWPleIdeal.main (F := Ideal))) ⟨m, fun _ => 0, g⟩ (fun r => ∀ c : Dev Cert.DWPleIdeal.nD,
          r.2.mem ((c.tc : Thread Cert.DWPleIdeal.nD Cert.DWPleIdeal.τ).loc Cert.DWPleIdeal.main_v0) = v0 c
          ∧ r.2.mem ((c.tc : Thread Cert.DWPleIdeal.nD Cert.DWPleIdeal.τ).loc Cert.DWPleIdeal.main_arg0) = m ((c.tc : Thread Cert.DWPleIdeal.nD Cert.DWPleIdeal.τ).loc Cert.DWPleIdeal.main_arg0)
          ∧ r.2.mem ((c.tc : Thread Cert.DWPleIdeal.nD Cert.DWPleIdeal.τ).loc Cert.DWPleIdeal.main_arg1) = m ((c.tc : Thread Cert.DWPleIdeal.nD Cert.DWPleIdeal.τ).loc Cert.DWPleIdeal.main_arg1))
      ∧ θ_run (Cert.DWPleRefIdeal.defs (F := Ideal)) (onTc (τ := Cert.DWPleRefIdeal.τ) (Cert.DWPleRefIdeal.main (F := Ideal))) ⟨m', fun _ => 0, g'⟩ (fun r => ∀ c : Dev Cert.DWPleRefIdeal.nD,
          r.2.mem ((c.tc : Thread Cert.DWPleRefIdeal.nD Cert.DWPleRefIdeal.τ).loc Cert.DWPleRefIdeal.main_v28) = v0 c
          ∧ r.2.mem ((c.tc : Thread Cert.DWPleRefIdeal.nD Cert.DWPleRefIdeal.τ).loc Cert.DWPleRefIdeal.main_arg0) = m' ((c.tc : Thread Cert.DWPleRefIdeal.nD Cert.DWPleRefIdeal.τ).loc Cert.DWPleRefIdeal.main_arg0)
          ∧ r.2.mem ((c.tc : Thread Cert.DWPleRefIdeal.nD Cert.DWPleRefIdeal.τ).loc Cert.DWPleRefIdeal.main_arg1) = m' ((c.tc : Thread Cert.DWPleRefIdeal.nD Cert.DWPleRefIdeal.τ).loc Cert.DWPleRefIdeal.main_arg1))

def preserves_ProjQkv_ProjQkvIdeal : Prop :=
  True

def algebraic_ProjQkvIdeal_ProjQkvRefIdeal [hProjQkvIdeal : Cert.ProjQkvIdeal.Facts] [hProjQkvRefIdeal : Cert.ProjQkvRefIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg)
    (m' : (ℓ : Loc Cert.ProjQkvRefIdeal.nD Cert.ProjQkvRefIdeal.τ Cert.ProjQkvRefIdeal.sig) → Buf (Elt Ideal) ℓ) (g' : Dev Cert.ProjQkvRefIdeal.nD → PrngReg), Pre_ProjQkvIdeal m →
    (∀ c : Dev Cert.ProjQkvIdeal.nD,
      m' ((c.tc : Thread Cert.ProjQkvRefIdeal.nD Cert.ProjQkvRefIdeal.τ).loc Cert.ProjQkvRefIdeal.main_arg0) = m ((c.tc : Thread Cert.ProjQkvIdeal.nD Cert.ProjQkvIdeal.τ).loc Cert.ProjQkvIdeal.main_arg0)
      ∧ m' ((c.tc : Thread Cert.ProjQkvRefIdeal.nD Cert.ProjQkvRefIdeal.τ).loc Cert.ProjQkvRefIdeal.main_arg1) = m ((c.tc : Thread Cert.ProjQkvIdeal.nD Cert.ProjQkvIdeal.τ).loc Cert.ProjQkvIdeal.main_arg1)) →
    ∃ (v0 : (c : Dev Cert.ProjQkvIdeal.nD) → Buf (Elt Ideal) ((c.tc : Thread Cert.ProjQkvIdeal.nD Cert.ProjQkvIdeal.τ).loc Cert.ProjQkvIdeal.main_v0)),
      θ_run (Cert.ProjQkvIdeal.defs (F := Ideal)) (onTc (τ := Cert.ProjQkvIdeal.τ) (Cert.ProjQkvIdeal.main (F := Ideal))) ⟨m, fun _ => 0, g⟩ (fun r => ∀ c : Dev Cert.ProjQkvIdeal.nD,
          r.2.mem ((c.tc : Thread Cert.ProjQkvIdeal.nD Cert.ProjQkvIdeal.τ).loc Cert.ProjQkvIdeal.main_v0) = v0 c
          ∧ r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
          ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1))
      ∧ θ_run (Cert.ProjQkvRefIdeal.defs (F := Ideal)) (onTc (τ := Cert.ProjQkvRefIdeal.τ) (Cert.ProjQkvRefIdeal.main (F := Ideal))) ⟨m', fun _ => 0, g'⟩ (fun r => ∀ c : Dev Cert.ProjQkvRefIdeal.nD,
          r.2.mem ((c.tc : Thread Cert.ProjQkvRefIdeal.nD Cert.ProjQkvRefIdeal.τ).loc Cert.ProjQkvRefIdeal.main_v3) = v0 c
          ∧ r.2.mem ((c.tc : Thread Cert.ProjQkvRefIdeal.nD Cert.ProjQkvRefIdeal.τ).loc Cert.ProjQkvRefIdeal.main_arg0) = m' ((c.tc : Thread Cert.ProjQkvRefIdeal.nD Cert.ProjQkvRefIdeal.τ).loc Cert.ProjQkvRefIdeal.main_arg0)
          ∧ r.2.mem ((c.tc : Thread Cert.ProjQkvRefIdeal.nD Cert.ProjQkvRefIdeal.τ).loc Cert.ProjQkvRefIdeal.main_arg1) = m' ((c.tc : Thread Cert.ProjQkvRefIdeal.nD Cert.ProjQkvRefIdeal.τ).loc Cert.ProjQkvRefIdeal.main_arg1))

def preserves_ProjGate_ProjGateIdeal : Prop :=
  True

def algebraic_ProjGateIdeal_ProjGateRefIdeal [hProjGateIdeal : Cert.ProjGateIdeal.Facts] [hProjGateRefIdeal : Cert.ProjGateRefIdeal.Facts] : Prop :=
  ∀ (m : (ℓ : Loc Cert.ProjGateIdeal.nD Cert.ProjGateIdeal.τ Cert.ProjGateIdeal.sig) → Buf (Elt Ideal) ℓ) (g : Dev Cert.ProjGateIdeal.nD → PrngReg)
    (m' : (ℓ : Loc Cert.ProjGateRefIdeal.nD Cert.ProjGateRefIdeal.τ Cert.ProjGateRefIdeal.sig) → Buf (Elt Ideal) ℓ) (g' : Dev Cert.ProjGateRefIdeal.nD → PrngReg), Pre_ProjGateIdeal m →
    (∀ c : Dev Cert.ProjGateIdeal.nD,
      m' ((c.tc : Thread Cert.ProjGateRefIdeal.nD Cert.ProjGateRefIdeal.τ).loc Cert.ProjGateRefIdeal.main_arg0) = m ((c.tc : Thread Cert.ProjGateIdeal.nD Cert.ProjGateIdeal.τ).loc Cert.ProjGateIdeal.main_arg0)
      ∧ m' ((c.tc : Thread Cert.ProjGateRefIdeal.nD Cert.ProjGateRefIdeal.τ).loc Cert.ProjGateRefIdeal.main_arg1) = m ((c.tc : Thread Cert.ProjGateIdeal.nD Cert.ProjGateIdeal.τ).loc Cert.ProjGateIdeal.main_arg1)) →
    ∃ (v0 : (c : Dev Cert.ProjGateIdeal.nD) → Buf (Elt Ideal) ((c.tc : Thread Cert.ProjGateIdeal.nD Cert.ProjGateIdeal.τ).loc Cert.ProjGateIdeal.main_v0)),
      θ_run (Cert.ProjGateIdeal.defs (F := Ideal)) (onTc (τ := Cert.ProjGateIdeal.τ) (Cert.ProjGateIdeal.main (F := Ideal))) ⟨m, fun _ => 0, g⟩ (fun r => ∀ c : Dev Cert.ProjGateIdeal.nD,
          r.2.mem ((c.tc : Thread Cert.ProjGateIdeal.nD Cert.ProjGateIdeal.τ).loc Cert.ProjGateIdeal.main_v0) = v0 c
          ∧ r.2.mem ((c.tc : Thread Cert.ProjGateIdeal.nD Cert.ProjGateIdeal.τ).loc Cert.ProjGateIdeal.main_arg0) = m ((c.tc : Thread Cert.ProjGateIdeal.nD Cert.ProjGateIdeal.τ).loc Cert.ProjGateIdeal.main_arg0)
          ∧ r.2.mem ((c.tc : Thread Cert.ProjGateIdeal.nD Cert.ProjGateIdeal.τ).loc Cert.ProjGateIdeal.main_arg1) = m ((c.tc : Thread Cert.ProjGateIdeal.nD Cert.ProjGateIdeal.τ).loc Cert.ProjGateIdeal.main_arg1))
      ∧ θ_run (Cert.ProjGateRefIdeal.defs (F := Ideal)) (onTc (τ := Cert.ProjGateRefIdeal.τ) (Cert.ProjGateRefIdeal.main (F := Ideal))) ⟨m', fun _ => 0, g'⟩ (fun r => ∀ c : Dev Cert.ProjGateRefIdeal.nD,
          r.2.mem ((c.tc : Thread Cert.ProjGateRefIdeal.nD Cert.ProjGateRefIdeal.τ).loc Cert.ProjGateRefIdeal.main_v2) = v0 c
          ∧ r.2.mem ((c.tc : Thread Cert.ProjGateRefIdeal.nD Cert.ProjGateRefIdeal.τ).loc Cert.ProjGateRefIdeal.main_arg0) = m' ((c.tc : Thread Cert.ProjGateRefIdeal.nD Cert.ProjGateRefIdeal.τ).loc Cert.ProjGateRefIdeal.main_arg0)
          ∧ r.2.mem ((c.tc : Thread Cert.ProjGateRefIdeal.nD Cert.ProjGateRefIdeal.τ).loc Cert.ProjGateRefIdeal.main_arg1) = m' ((c.tc : Thread Cert.ProjGateRefIdeal.nD Cert.ProjGateRefIdeal.τ).loc Cert.ProjGateRefIdeal.main_arg1))

def preserves_OutNorm_OutNormIdeal : Prop :=
  True

def algebraic_OutNormIdeal_OutNormRefIdeal [hOutNormIdeal : Cert.OutNormIdeal.Facts] [hOutNormRefIdeal : Cert.OutNormRefIdeal.Facts] : Prop :=
  ∀ (m : (ℓ : Loc Cert.OutNormIdeal.nD Cert.OutNormIdeal.τ Cert.OutNormIdeal.sig) → Buf (Elt Ideal) ℓ) (g : Dev Cert.OutNormIdeal.nD → PrngReg)
    (m' : (ℓ : Loc Cert.OutNormRefIdeal.nD Cert.OutNormRefIdeal.τ Cert.OutNormRefIdeal.sig) → Buf (Elt Ideal) ℓ) (g' : Dev Cert.OutNormRefIdeal.nD → PrngReg), Pre_OutNormIdeal m →
    (∀ c : Dev Cert.OutNormIdeal.nD,
      m' ((c.tc : Thread Cert.OutNormRefIdeal.nD Cert.OutNormRefIdeal.τ).loc Cert.OutNormRefIdeal.main_arg0) = m ((c.tc : Thread Cert.OutNormIdeal.nD Cert.OutNormIdeal.τ).loc Cert.OutNormIdeal.main_arg0)
      ∧ m' ((c.tc : Thread Cert.OutNormRefIdeal.nD Cert.OutNormRefIdeal.τ).loc Cert.OutNormRefIdeal.main_arg1) = m ((c.tc : Thread Cert.OutNormIdeal.nD Cert.OutNormIdeal.τ).loc Cert.OutNormIdeal.main_arg1)
      ∧ m' ((c.tc : Thread Cert.OutNormRefIdeal.nD Cert.OutNormRefIdeal.τ).loc Cert.OutNormRefIdeal.main_arg2) = m ((c.tc : Thread Cert.OutNormIdeal.nD Cert.OutNormIdeal.τ).loc Cert.OutNormIdeal.main_arg2)
      ∧ m' ((c.tc : Thread Cert.OutNormRefIdeal.nD Cert.OutNormRefIdeal.τ).loc Cert.OutNormRefIdeal.main_arg3) = m ((c.tc : Thread Cert.OutNormIdeal.nD Cert.OutNormIdeal.τ).loc Cert.OutNormIdeal.main_arg3)) →
    ∃ (v0 : (c : Dev Cert.OutNormIdeal.nD) → Buf (Elt Ideal) ((c.tc : Thread Cert.OutNormIdeal.nD Cert.OutNormIdeal.τ).loc Cert.OutNormIdeal.main_v0_0)) (v1 : (c : Dev Cert.OutNormIdeal.nD) → Buf (Elt Ideal) ((c.tc : Thread Cert.OutNormIdeal.nD Cert.OutNormIdeal.τ).loc Cert.OutNormIdeal.main_v0_1)),
      θ_run (Cert.OutNormIdeal.defs (F := Ideal)) (onTc (τ := Cert.OutNormIdeal.τ) (Cert.OutNormIdeal.main (F := Ideal))) ⟨m, fun _ => 0, g⟩ (fun r => ∀ c : Dev Cert.OutNormIdeal.nD,
          r.2.mem ((c.tc : Thread Cert.OutNormIdeal.nD Cert.OutNormIdeal.τ).loc Cert.OutNormIdeal.main_v0_0) = v0 c
          ∧ r.2.mem ((c.tc : Thread Cert.OutNormIdeal.nD Cert.OutNormIdeal.τ).loc Cert.OutNormIdeal.main_v0_1) = v1 c
          ∧ r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
          ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
          ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
          ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3))
      ∧ θ_run (Cert.OutNormRefIdeal.defs (F := Ideal)) (onTc (τ := Cert.OutNormRefIdeal.τ) (Cert.OutNormRefIdeal.main (F := Ideal))) ⟨m', fun _ => 0, g'⟩ (fun r => ∀ c : Dev Cert.OutNormRefIdeal.nD,
          r.2.mem ((c.tc : Thread Cert.OutNormRefIdeal.nD Cert.OutNormRefIdeal.τ).loc Cert.OutNormRefIdeal.main_v3) = v0 c
          ∧ r.2.mem ((c.tc : Thread Cert.OutNormRefIdeal.nD Cert.OutNormRefIdeal.τ).loc Cert.OutNormRefIdeal.main_v16) = v1 c
          ∧ r.2.mem ((c.tc : Thread Cert.OutNormRefIdeal.nD Cert.OutNormRefIdeal.τ).loc Cert.OutNormRefIdeal.main_arg0) = m' ((c.tc : Thread Cert.OutNormRefIdeal.nD Cert.OutNormRefIdeal.τ).loc Cert.OutNormRefIdeal.main_arg0)
          ∧ r.2.mem ((c.tc : Thread Cert.OutNormRefIdeal.nD Cert.OutNormRefIdeal.τ).loc Cert.OutNormRefIdeal.main_arg1) = m' ((c.tc : Thread Cert.OutNormRefIdeal.nD Cert.OutNormRefIdeal.τ).loc Cert.OutNormRefIdeal.main_arg1)
          ∧ r.2.mem ((c.tc : Thread Cert.OutNormRefIdeal.nD Cert.OutNormRefIdeal.τ).loc Cert.OutNormRefIdeal.main_arg2) = m' ((c.tc : Thread Cert.OutNormRefIdeal.nD Cert.OutNormRefIdeal.τ).loc Cert.OutNormRefIdeal.main_arg2)
          ∧ r.2.mem ((c.tc : Thread Cert.OutNormRefIdeal.nD Cert.OutNormRefIdeal.τ).loc Cert.OutNormRefIdeal.main_arg3) = m' ((c.tc : Thread Cert.OutNormRefIdeal.nD Cert.OutNormRefIdeal.τ).loc Cert.OutNormRefIdeal.main_arg3))

def preserves_GateFwd_GateFwdIdeal : Prop :=
  True

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)
      ∧ m' ((c.tc : Thread Cert.GateFwdRefIdeal.nD Cert.GateFwdRefIdeal.τ).loc Cert.GateFwdRefIdeal.main_arg2) = m ((c.tc : Thread Cert.GateFwdIdeal.nD Cert.GateFwdIdeal.τ).loc Cert.GateFwdIdeal.main_arg2)
      ∧ m' ((c.tc : Thread Cert.GateFwdRefIdeal.nD Cert.GateFwdRefIdeal.τ).loc Cert.GateFwdRefIdeal.main_arg3) = m ((c.tc : Thread Cert.GateFwdIdeal.nD Cert.GateFwdIdeal.τ).loc Cert.GateFwdIdeal.main_arg3)
      ∧ m' ((c.tc : Thread Cert.GateFwdRefIdeal.nD Cert.GateFwdRefIdeal.τ).loc Cert.GateFwdRefIdeal.main_arg4) = m ((c.tc : Thread Cert.GateFwdIdeal.nD Cert.GateFwdIdeal.τ).loc Cert.GateFwdIdeal.main_arg4)
      ∧ m' ((c.tc : Thread Cert.GateFwdRefIdeal.nD Cert.GateFwdRefIdeal.τ).loc Cert.GateFwdRefIdeal.main_arg5) = m ((c.tc : Thread Cert.GateFwdIdeal.nD Cert.GateFwdIdeal.τ).loc Cert.GateFwdIdeal.main_arg5)) →
    ∃ (v0 : (c : Dev Cert.GateFwdIdeal.nD) → Buf (Elt Ideal) ((c.tc : Thread Cert.GateFwdIdeal.nD Cert.GateFwdIdeal.τ).loc Cert.GateFwdIdeal.main_v0_0)) (v1 : (c : Dev Cert.GateFwdIdeal.nD) → Buf (Elt Ideal) ((c.tc : Thread Cert.GateFwdIdeal.nD Cert.GateFwdIdeal.τ).loc Cert.GateFwdIdeal.main_v0_1)) (v2 : (c : Dev Cert.GateFwdIdeal.nD) → Buf (Elt Ideal) ((c.tc : Thread Cert.GateFwdIdeal.nD Cert.GateFwdIdeal.τ).loc Cert.GateFwdIdeal.main_v0_2)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v0_0) = v0 c
          ∧ r.2.mem ((c.tc : Thread Cert.GateFwdIdeal.nD Cert.GateFwdIdeal.τ).loc Cert.GateFwdIdeal.main_v0_1) = v1 c
          ∧ r.2.mem ((c.tc : Thread Cert.GateFwdIdeal.nD Cert.GateFwdIdeal.τ).loc Cert.GateFwdIdeal.main_v0_2) = v2 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
          ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3)
          ∧ r.2.mem ((c.tc : Thread Cert.GateFwdIdeal.nD Cert.GateFwdIdeal.τ).loc Cert.GateFwdIdeal.main_arg4) = m ((c.tc : Thread Cert.GateFwdIdeal.nD Cert.GateFwdIdeal.τ).loc Cert.GateFwdIdeal.main_arg4)
          ∧ r.2.mem ((c.tc : Thread Cert.GateFwdIdeal.nD Cert.GateFwdIdeal.τ).loc Cert.GateFwdIdeal.main_arg5) = m ((c.tc : Thread Cert.GateFwdIdeal.nD Cert.GateFwdIdeal.τ).loc Cert.GateFwdIdeal.main_arg5))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v51) = v0 c
          ∧ r.2.mem ((c.tc : Thread Cert.GateFwdRefIdeal.nD Cert.GateFwdRefIdeal.τ).loc Cert.GateFwdRefIdeal.main_v11) = v1 c
          ∧ r.2.mem ((c.tc : Thread Cert.GateFwdRefIdeal.nD Cert.GateFwdRefIdeal.τ).loc Cert.GateFwdRefIdeal.main_v23) = v2 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1)
          ∧ r.2.mem ((c.tc : Thread Cert.GateFwdRefIdeal.nD Cert.GateFwdRefIdeal.τ).loc Cert.GateFwdRefIdeal.main_arg2) = m' ((c.tc : Thread Cert.GateFwdRefIdeal.nD Cert.GateFwdRefIdeal.τ).loc Cert.GateFwdRefIdeal.main_arg2)
          ∧ r.2.mem ((c.tc : Thread Cert.GateFwdRefIdeal.nD Cert.GateFwdRefIdeal.τ).loc Cert.GateFwdRefIdeal.main_arg3) = m' ((c.tc : Thread Cert.GateFwdRefIdeal.nD Cert.GateFwdRefIdeal.τ).loc Cert.GateFwdRefIdeal.main_arg3)
          ∧ r.2.mem ((c.tc : Thread Cert.GateFwdRefIdeal.nD Cert.GateFwdRefIdeal.τ).loc Cert.GateFwdRefIdeal.main_arg4) = m' ((c.tc : Thread Cert.GateFwdRefIdeal.nD Cert.GateFwdRefIdeal.τ).loc Cert.GateFwdRefIdeal.main_arg4)
          ∧ r.2.mem ((c.tc : Thread Cert.GateFwdRefIdeal.nD Cert.GateFwdRefIdeal.τ).loc Cert.GateFwdRefIdeal.main_arg5) = m' ((c.tc : Thread Cert.GateFwdRefIdeal.nD Cert.GateFwdRefIdeal.τ).loc Cert.GateFwdRefIdeal.main_arg5))

def preserves_DHMlp_DHMlpIdeal : Prop :=
  True

def algebraic_DHMlpIdeal_DHMlpRefIdeal [hDHMlpIdeal : Cert.DHMlpIdeal.Facts] [hDHMlpRefIdeal : Cert.DHMlpRefIdeal.Facts] : Prop :=
  ∀ (m : (ℓ : Loc Cert.DHMlpIdeal.nD Cert.DHMlpIdeal.τ Cert.DHMlpIdeal.sig) → Buf (Elt Ideal) ℓ) (g : Dev Cert.DHMlpIdeal.nD → PrngReg)
    (m' : (ℓ : Loc Cert.DHMlpRefIdeal.nD Cert.DHMlpRefIdeal.τ Cert.DHMlpRefIdeal.sig) → Buf (Elt Ideal) ℓ) (g' : Dev Cert.DHMlpRefIdeal.nD → PrngReg), Pre_DHMlpIdeal m →
    (∀ c : Dev Cert.DHMlpIdeal.nD,
      m' ((c.tc : Thread Cert.DHMlpRefIdeal.nD Cert.DHMlpRefIdeal.τ).loc Cert.DHMlpRefIdeal.main_arg0) = m ((c.tc : Thread Cert.DHMlpIdeal.nD Cert.DHMlpIdeal.τ).loc Cert.DHMlpIdeal.main_arg0)
      ∧ m' ((c.tc : Thread Cert.DHMlpRefIdeal.nD Cert.DHMlpRefIdeal.τ).loc Cert.DHMlpRefIdeal.main_arg1) = m ((c.tc : Thread Cert.DHMlpIdeal.nD Cert.DHMlpIdeal.τ).loc Cert.DHMlpIdeal.main_arg1)
      ∧ m' ((c.tc : Thread Cert.DHMlpRefIdeal.nD Cert.DHMlpRefIdeal.τ).loc Cert.DHMlpRefIdeal.main_arg2) = m ((c.tc : Thread Cert.DHMlpIdeal.nD Cert.DHMlpIdeal.τ).loc Cert.DHMlpIdeal.main_arg2)
      ∧ m' ((c.tc : Thread Cert.DHMlpRefIdeal.nD Cert.DHMlpRefIdeal.τ).loc Cert.DHMlpRefIdeal.main_arg3) = m ((c.tc : Thread Cert.DHMlpIdeal.nD Cert.DHMlpIdeal.τ).loc Cert.DHMlpIdeal.main_arg3)
      ∧ m' ((c.tc : Thread Cert.DHMlpRefIdeal.nD Cert.DHMlpRefIdeal.τ).loc Cert.DHMlpRefIdeal.main_arg4) = m ((c.tc : Thread Cert.DHMlpIdeal.nD Cert.DHMlpIdeal.τ).loc Cert.DHMlpIdeal.main_arg4)) →
    ∃ (v0 : (c : Dev Cert.DHMlpIdeal.nD) → Buf (Elt Ideal) ((c.tc : Thread Cert.DHMlpIdeal.nD Cert.DHMlpIdeal.τ).loc Cert.DHMlpIdeal.main_v0_0)) (v1 : (c : Dev Cert.DHMlpIdeal.nD) → Buf (Elt Ideal) ((c.tc : Thread Cert.DHMlpIdeal.nD Cert.DHMlpIdeal.τ).loc Cert.DHMlpIdeal.main_v0_1)) (v2 : (c : Dev Cert.DHMlpIdeal.nD) → Buf (Elt Ideal) ((c.tc : Thread Cert.DHMlpIdeal.nD Cert.DHMlpIdeal.τ).loc Cert.DHMlpIdeal.main_v0_2)),
      θ_run (Cert.DHMlpIdeal.defs (F := Ideal)) (onTc (τ := Cert.DHMlpIdeal.τ) (Cert.DHMlpIdeal.main (F := Ideal))) ⟨m, fun _ => 0, g⟩ (fun r => ∀ c : Dev Cert.DHMlpIdeal.nD,
          r.2.mem ((c.tc : Thread Cert.DHMlpIdeal.nD Cert.DHMlpIdeal.τ).loc Cert.DHMlpIdeal.main_v0_0) = v0 c
          ∧ r.2.mem ((c.tc : Thread Cert.DHMlpIdeal.nD Cert.DHMlpIdeal.τ).loc Cert.DHMlpIdeal.main_v0_1) = v1 c
          ∧ r.2.mem ((c.tc : Thread Cert.DHMlpIdeal.nD Cert.DHMlpIdeal.τ).loc Cert.DHMlpIdeal.main_v0_2) = v2 c
          ∧ r.2.mem ((c.tc : Thread Cert.DHMlpIdeal.nD Cert.DHMlpIdeal.τ).loc Cert.DHMlpIdeal.main_arg0) = m ((c.tc : Thread Cert.DHMlpIdeal.nD Cert.DHMlpIdeal.τ).loc Cert.DHMlpIdeal.main_arg0)
          ∧ r.2.mem ((c.tc : Thread Cert.DHMlpIdeal.nD Cert.DHMlpIdeal.τ).loc Cert.DHMlpIdeal.main_arg1) = m ((c.tc : Thread Cert.DHMlpIdeal.nD Cert.DHMlpIdeal.τ).loc Cert.DHMlpIdeal.main_arg1)
          ∧ r.2.mem ((c.tc : Thread Cert.DHMlpIdeal.nD Cert.DHMlpIdeal.τ).loc Cert.DHMlpIdeal.main_arg2) = m ((c.tc : Thread Cert.DHMlpIdeal.nD Cert.DHMlpIdeal.τ).loc Cert.DHMlpIdeal.main_arg2)
          ∧ r.2.mem ((c.tc : Thread Cert.DHMlpIdeal.nD Cert.DHMlpIdeal.τ).loc Cert.DHMlpIdeal.main_arg3) = m ((c.tc : Thread Cert.DHMlpIdeal.nD Cert.DHMlpIdeal.τ).loc Cert.DHMlpIdeal.main_arg3)
          ∧ r.2.mem ((c.tc : Thread Cert.DHMlpIdeal.nD Cert.DHMlpIdeal.τ).loc Cert.DHMlpIdeal.main_arg4) = m ((c.tc : Thread Cert.DHMlpIdeal.nD Cert.DHMlpIdeal.τ).loc Cert.DHMlpIdeal.main_arg4))
      ∧ θ_run (Cert.DHMlpRefIdeal.defs (F := Ideal)) (onTc (τ := Cert.DHMlpRefIdeal.τ) (Cert.DHMlpRefIdeal.main (F := Ideal))) ⟨m', fun _ => 0, g'⟩ (fun r => ∀ c : Dev Cert.DHMlpRefIdeal.nD,
          r.2.mem ((c.tc : Thread Cert.DHMlpRefIdeal.nD Cert.DHMlpRefIdeal.τ).loc Cert.DHMlpRefIdeal.main_v47) = v0 c
          ∧ r.2.mem ((c.tc : Thread Cert.DHMlpRefIdeal.nD Cert.DHMlpRefIdeal.τ).loc Cert.DHMlpRefIdeal.main_v48) = v1 c
          ∧ r.2.mem ((c.tc : Thread Cert.DHMlpRefIdeal.nD Cert.DHMlpRefIdeal.τ).loc Cert.DHMlpRefIdeal.main_v30) = v2 c
          ∧ r.2.mem ((c.tc : Thread Cert.DHMlpRefIdeal.nD Cert.DHMlpRefIdeal.τ).loc Cert.DHMlpRefIdeal.main_arg0) = m' ((c.tc : Thread Cert.DHMlpRefIdeal.nD Cert.DHMlpRefIdeal.τ).loc Cert.DHMlpRefIdeal.main_arg0)
          ∧ r.2.mem ((c.tc : Thread Cert.DHMlpRefIdeal.nD Cert.DHMlpRefIdeal.τ).loc Cert.DHMlpRefIdeal.main_arg1) = m' ((c.tc : Thread Cert.DHMlpRefIdeal.nD Cert.DHMlpRefIdeal.τ).loc Cert.DHMlpRefIdeal.main_arg1)
          ∧ r.2.mem ((c.tc : Thread Cert.DHMlpRefIdeal.nD Cert.DHMlpRefIdeal.τ).loc Cert.DHMlpRefIdeal.main_arg2) = m' ((c.tc : Thread Cert.DHMlpRefIdeal.nD Cert.DHMlpRefIdeal.τ).loc Cert.DHMlpRefIdeal.main_arg2)
          ∧ r.2.mem ((c.tc : Thread Cert.DHMlpRefIdeal.nD Cert.DHMlpRefIdeal.τ).loc Cert.DHMlpRefIdeal.main_arg3) = m' ((c.tc : Thread Cert.DHMlpRefIdeal.nD Cert.DHMlpRefIdeal.τ).loc Cert.DHMlpRefIdeal.main_arg3)
          ∧ r.2.mem ((c.tc : Thread Cert.DHMlpRefIdeal.nD Cert.DHMlpRefIdeal.τ).loc Cert.DHMlpRefIdeal.main_arg4) = m' ((c.tc : Thread Cert.DHMlpRefIdeal.nD Cert.DHMlpRefIdeal.τ).loc Cert.DHMlpRefIdeal.main_arg4))

def preserves_DHPle_DHPleIdeal : Prop :=
  True

def algebraic_DHPleIdeal_DHPleRefIdeal [hDHPleIdeal : Cert.DHPleIdeal.Facts] [hDHPleRefIdeal : Cert.DHPleRefIdeal.Facts] : Prop :=
  ∀ (m : (ℓ : Loc Cert.DHPleIdeal.nD Cert.DHPleIdeal.τ Cert.DHPleIdeal.sig) → Buf (Elt Ideal) ℓ) (g : Dev Cert.DHPleIdeal.nD → PrngReg)
    (m' : (ℓ : Loc Cert.DHPleRefIdeal.nD Cert.DHPleRefIdeal.τ Cert.DHPleRefIdeal.sig) → Buf (Elt Ideal) ℓ) (g' : Dev Cert.DHPleRefIdeal.nD → PrngReg), Pre_DHPleIdeal m →
    (∀ c : Dev Cert.DHPleIdeal.nD,
      m' ((c.tc : Thread Cert.DHPleRefIdeal.nD Cert.DHPleRefIdeal.τ).loc Cert.DHPleRefIdeal.main_arg0) = m ((c.tc : Thread Cert.DHPleIdeal.nD Cert.DHPleIdeal.τ).loc Cert.DHPleIdeal.main_arg0)
      ∧ m' ((c.tc : Thread Cert.DHPleRefIdeal.nD Cert.DHPleRefIdeal.τ).loc Cert.DHPleRefIdeal.main_arg1) = m ((c.tc : Thread Cert.DHPleIdeal.nD Cert.DHPleIdeal.τ).loc Cert.DHPleIdeal.main_arg1)
      ∧ m' ((c.tc : Thread Cert.DHPleRefIdeal.nD Cert.DHPleRefIdeal.τ).loc Cert.DHPleRefIdeal.main_arg2) = m ((c.tc : Thread Cert.DHPleIdeal.nD Cert.DHPleIdeal.τ).loc Cert.DHPleIdeal.main_arg2)
      ∧ m' ((c.tc : Thread Cert.DHPleRefIdeal.nD Cert.DHPleRefIdeal.τ).loc Cert.DHPleRefIdeal.main_arg3) = m ((c.tc : Thread Cert.DHPleIdeal.nD Cert.DHPleIdeal.τ).loc Cert.DHPleIdeal.main_arg3)
      ∧ m' ((c.tc : Thread Cert.DHPleRefIdeal.nD Cert.DHPleRefIdeal.τ).loc Cert.DHPleRefIdeal.main_arg4) = m ((c.tc : Thread Cert.DHPleIdeal.nD Cert.DHPleIdeal.τ).loc Cert.DHPleIdeal.main_arg4)) →
    ∃ (v0 : (c : Dev Cert.DHPleIdeal.nD) → Buf (Elt Ideal) ((c.tc : Thread Cert.DHPleIdeal.nD Cert.DHPleIdeal.τ).loc Cert.DHPleIdeal.main_v0_0)) (v1 : (c : Dev Cert.DHPleIdeal.nD) → Buf (Elt Ideal) ((c.tc : Thread Cert.DHPleIdeal.nD Cert.DHPleIdeal.τ).loc Cert.DHPleIdeal.main_v0_1)) (v2 : (c : Dev Cert.DHPleIdeal.nD) → Buf (Elt Ideal) ((c.tc : Thread Cert.DHPleIdeal.nD Cert.DHPleIdeal.τ).loc Cert.DHPleIdeal.main_v0_2)),
      θ_run (Cert.DHPleIdeal.defs (F := Ideal)) (onTc (τ := Cert.DHPleIdeal.τ) (Cert.DHPleIdeal.main (F := Ideal))) ⟨m, fun _ => 0, g⟩ (fun r => ∀ c : Dev Cert.DHPleIdeal.nD,
          r.2.mem ((c.tc : Thread Cert.DHPleIdeal.nD Cert.DHPleIdeal.τ).loc Cert.DHPleIdeal.main_v0_0) = v0 c
          ∧ r.2.mem ((c.tc : Thread Cert.DHPleIdeal.nD Cert.DHPleIdeal.τ).loc Cert.DHPleIdeal.main_v0_1) = v1 c
          ∧ r.2.mem ((c.tc : Thread Cert.DHPleIdeal.nD Cert.DHPleIdeal.τ).loc Cert.DHPleIdeal.main_v0_2) = v2 c
          ∧ r.2.mem ((c.tc : Thread Cert.DHPleIdeal.nD Cert.DHPleIdeal.τ).loc Cert.DHPleIdeal.main_arg0) = m ((c.tc : Thread Cert.DHPleIdeal.nD Cert.DHPleIdeal.τ).loc Cert.DHPleIdeal.main_arg0)
          ∧ r.2.mem ((c.tc : Thread Cert.DHPleIdeal.nD Cert.DHPleIdeal.τ).loc Cert.DHPleIdeal.main_arg1) = m ((c.tc : Thread Cert.DHPleIdeal.nD Cert.DHPleIdeal.τ).loc Cert.DHPleIdeal.main_arg1)
          ∧ r.2.mem ((c.tc : Thread Cert.DHPleIdeal.nD Cert.DHPleIdeal.τ).loc Cert.DHPleIdeal.main_arg2) = m ((c.tc : Thread Cert.DHPleIdeal.nD Cert.DHPleIdeal.τ).loc Cert.DHPleIdeal.main_arg2)
          ∧ r.2.mem ((c.tc : Thread Cert.DHPleIdeal.nD Cert.DHPleIdeal.τ).loc Cert.DHPleIdeal.main_arg3) = m ((c.tc : Thread Cert.DHPleIdeal.nD Cert.DHPleIdeal.τ).loc Cert.DHPleIdeal.main_arg3)
          ∧ r.2.mem ((c.tc : Thread Cert.DHPleIdeal.nD Cert.DHPleIdeal.τ).loc Cert.DHPleIdeal.main_arg4) = m ((c.tc : Thread Cert.DHPleIdeal.nD Cert.DHPleIdeal.τ).loc Cert.DHPleIdeal.main_arg4))
      ∧ θ_run (Cert.DHPleRefIdeal.defs (F := Ideal)) (onTc (τ := Cert.DHPleRefIdeal.τ) (Cert.DHPleRefIdeal.main (F := Ideal))) ⟨m', fun _ => 0, g'⟩ (fun r => ∀ c : Dev Cert.DHPleRefIdeal.nD,
          r.2.mem ((c.tc : Thread Cert.DHPleRefIdeal.nD Cert.DHPleRefIdeal.τ).loc Cert.DHPleRefIdeal.main_v38) = v0 c
          ∧ r.2.mem ((c.tc : Thread Cert.DHPleRefIdeal.nD Cert.DHPleRefIdeal.τ).loc Cert.DHPleRefIdeal.main_v39) = v1 c
          ∧ r.2.mem ((c.tc : Thread Cert.DHPleRefIdeal.nD Cert.DHPleRefIdeal.τ).loc Cert.DHPleRefIdeal.main_v21) = v2 c
          ∧ r.2.mem ((c.tc : Thread Cert.DHPleRefIdeal.nD Cert.DHPleRefIdeal.τ).loc Cert.DHPleRefIdeal.main_arg0) = m' ((c.tc : Thread Cert.DHPleRefIdeal.nD Cert.DHPleRefIdeal.τ).loc Cert.DHPleRefIdeal.main_arg0)
          ∧ r.2.mem ((c.tc : Thread Cert.DHPleRefIdeal.nD Cert.DHPleRefIdeal.τ).loc Cert.DHPleRefIdeal.main_arg1) = m' ((c.tc : Thread Cert.DHPleRefIdeal.nD Cert.DHPleRefIdeal.τ).loc Cert.DHPleRefIdeal.main_arg1)
          ∧ r.2.mem ((c.tc : Thread Cert.DHPleRefIdeal.nD Cert.DHPleRefIdeal.τ).loc Cert.DHPleRefIdeal.main_arg2) = m' ((c.tc : Thread Cert.DHPleRefIdeal.nD Cert.DHPleRefIdeal.τ).loc Cert.DHPleRefIdeal.main_arg2)
          ∧ r.2.mem ((c.tc : Thread Cert.DHPleRefIdeal.nD Cert.DHPleRefIdeal.τ).loc Cert.DHPleRefIdeal.main_arg3) = m' ((c.tc : Thread Cert.DHPleRefIdeal.nD Cert.DHPleRefIdeal.τ).loc Cert.DHPleRefIdeal.main_arg3)
          ∧ r.2.mem ((c.tc : Thread Cert.DHPleRefIdeal.nD Cert.DHPleRefIdeal.τ).loc Cert.DHPleRefIdeal.main_arg4) = m' ((c.tc : Thread Cert.DHPleRefIdeal.nD Cert.DHPleRefIdeal.τ).loc Cert.DHPleRefIdeal.main_arg4))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)
      ∧ m' ((c.tc : Thread Cert.HeadRefIdeal.nD Cert.HeadRefIdeal.τ).loc Cert.HeadRefIdeal.main_arg6) = m ((c.tc : Thread Cert.HeadIdeal.nD Cert.HeadIdeal.τ).loc Cert.HeadIdeal.main_arg6)) →
    ∃ (v0 : (c : Dev Cert.HeadIdeal.nD) → Buf (Elt Ideal) ((c.tc : Thread Cert.HeadIdeal.nD Cert.HeadIdeal.τ).loc Cert.HeadIdeal.main_v0_0)) (v1 : (c : Dev Cert.HeadIdeal.nD) → Buf (Elt Ideal) ((c.tc : Thread Cert.HeadIdeal.nD Cert.HeadIdeal.τ).loc Cert.HeadIdeal.main_v0_1)) (v2 : (c : Dev Cert.HeadIdeal.nD) → Buf (Elt Ideal) ((c.tc : Thread Cert.HeadIdeal.nD Cert.HeadIdeal.τ).loc Cert.HeadIdeal.main_v0_2)) (v3 : (c : Dev Cert.HeadIdeal.nD) → Buf (Elt Ideal) ((c.tc : Thread Cert.HeadIdeal.nD Cert.HeadIdeal.τ).loc Cert.HeadIdeal.main_v0_3)) (v4 : (c : Dev Cert.HeadIdeal.nD) → Buf (Elt Ideal) ((c.tc : Thread Cert.HeadIdeal.nD Cert.HeadIdeal.τ).loc Cert.HeadIdeal.main_v0_4)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v0_0) = v0 c
          ∧ r.2.mem ((c.tc : Thread Cert.HeadIdeal.nD Cert.HeadIdeal.τ).loc Cert.HeadIdeal.main_v0_1) = v1 c
          ∧ r.2.mem ((c.tc : Thread Cert.HeadIdeal.nD Cert.HeadIdeal.τ).loc Cert.HeadIdeal.main_v0_2) = v2 c
          ∧ r.2.mem ((c.tc : Thread Cert.HeadIdeal.nD Cert.HeadIdeal.τ).loc Cert.HeadIdeal.main_v0_3) = v3 c
          ∧ r.2.mem ((c.tc : Thread Cert.HeadIdeal.nD Cert.HeadIdeal.τ).loc Cert.HeadIdeal.main_v0_4) = v4 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v73) = v0 c
          ∧ r.2.mem ((c.tc : Thread Cert.HeadRefIdeal.nD Cert.HeadRefIdeal.τ).loc Cert.HeadRefIdeal.main_v77) = v1 c
          ∧ r.2.mem ((c.tc : Thread Cert.HeadRefIdeal.nD Cert.HeadRefIdeal.τ).loc Cert.HeadRefIdeal.main_v78) = v2 c
          ∧ r.2.mem ((c.tc : Thread Cert.HeadRefIdeal.nD Cert.HeadRefIdeal.τ).loc Cert.HeadRefIdeal.main_v57) = v3 c
          ∧ r.2.mem ((c.tc : Thread Cert.HeadRefIdeal.nD Cert.HeadRefIdeal.τ).loc Cert.HeadRefIdeal.main_v79) = v4 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5)
          ∧ r.2.mem ((c.tc : Thread Cert.HeadRefIdeal.nD Cert.HeadRefIdeal.τ).loc Cert.HeadRefIdeal.main_arg6) = m' ((c.tc : Thread Cert.HeadRefIdeal.nD Cert.HeadRefIdeal.τ).loc Cert.HeadRefIdeal.main_arg6))

def preserves_ProjForget_ProjForgetIdeal : Prop :=
  True

def algebraic_ProjForgetIdeal_ProjForgetRefIdeal [hProjForgetIdeal : Cert.ProjForgetIdeal.Facts] [hProjForgetRefIdeal : Cert.ProjForgetRefIdeal.Facts] : Prop :=
  ∀ (m : (ℓ : Loc Cert.ProjForgetIdeal.nD Cert.ProjForgetIdeal.τ Cert.ProjForgetIdeal.sig) → Buf (Elt Ideal) ℓ) (g : Dev Cert.ProjForgetIdeal.nD → PrngReg)
    (m' : (ℓ : Loc Cert.ProjForgetRefIdeal.nD Cert.ProjForgetRefIdeal.τ Cert.ProjForgetRefIdeal.sig) → Buf (Elt Ideal) ℓ) (g' : Dev Cert.ProjForgetRefIdeal.nD → PrngReg), Pre_ProjForgetIdeal m →
    (∀ c : Dev Cert.ProjForgetIdeal.nD,
      m' ((c.tc : Thread Cert.ProjForgetRefIdeal.nD Cert.ProjForgetRefIdeal.τ).loc Cert.ProjForgetRefIdeal.main_arg0) = m ((c.tc : Thread Cert.ProjForgetIdeal.nD Cert.ProjForgetIdeal.τ).loc Cert.ProjForgetIdeal.main_arg0)
      ∧ m' ((c.tc : Thread Cert.ProjForgetRefIdeal.nD Cert.ProjForgetRefIdeal.τ).loc Cert.ProjForgetRefIdeal.main_arg1) = m ((c.tc : Thread Cert.ProjForgetIdeal.nD Cert.ProjForgetIdeal.τ).loc Cert.ProjForgetIdeal.main_arg1)) →
    ∃ (v0 : (c : Dev Cert.ProjForgetIdeal.nD) → Buf (Elt Ideal) ((c.tc : Thread Cert.ProjForgetIdeal.nD Cert.ProjForgetIdeal.τ).loc Cert.ProjForgetIdeal.main_v0)),
      θ_run (Cert.ProjForgetIdeal.defs (F := Ideal)) (onTc (τ := Cert.ProjForgetIdeal.τ) (Cert.ProjForgetIdeal.main (F := Ideal))) ⟨m, fun _ => 0, g⟩ (fun r => ∀ c : Dev Cert.ProjForgetIdeal.nD,
          r.2.mem ((c.tc : Thread Cert.ProjForgetIdeal.nD Cert.ProjForgetIdeal.τ).loc Cert.ProjForgetIdeal.main_v0) = v0 c
          ∧ r.2.mem ((c.tc : Thread Cert.ProjForgetIdeal.nD Cert.ProjForgetIdeal.τ).loc Cert.ProjForgetIdeal.main_arg0) = m ((c.tc : Thread Cert.ProjForgetIdeal.nD Cert.ProjForgetIdeal.τ).loc Cert.ProjForgetIdeal.main_arg0)
          ∧ r.2.mem ((c.tc : Thread Cert.ProjForgetIdeal.nD Cert.ProjForgetIdeal.τ).loc Cert.ProjForgetIdeal.main_arg1) = m ((c.tc : Thread Cert.ProjForgetIdeal.nD Cert.ProjForgetIdeal.τ).loc Cert.ProjForgetIdeal.main_arg1))
      ∧ θ_run (Cert.ProjForgetRefIdeal.defs (F := Ideal)) (onTc (τ := Cert.ProjForgetRefIdeal.τ) (Cert.ProjForgetRefIdeal.main (F := Ideal))) ⟨m', fun _ => 0, g'⟩ (fun r => ∀ c : Dev Cert.ProjForgetRefIdeal.nD,
          r.2.mem ((c.tc : Thread Cert.ProjForgetRefIdeal.nD Cert.ProjForgetRefIdeal.τ).loc Cert.ProjForgetRefIdeal.main_v2) = v0 c
          ∧ r.2.mem ((c.tc : Thread Cert.ProjForgetRefIdeal.nD Cert.ProjForgetRefIdeal.τ).loc Cert.ProjForgetRefIdeal.main_arg0) = m' ((c.tc : Thread Cert.ProjForgetRefIdeal.nD Cert.ProjForgetRefIdeal.τ).loc Cert.ProjForgetRefIdeal.main_arg0)
          ∧ r.2.mem ((c.tc : Thread Cert.ProjForgetRefIdeal.nD Cert.ProjForgetRefIdeal.τ).loc Cert.ProjForgetRefIdeal.main_arg1) = m' ((c.tc : Thread Cert.ProjForgetRefIdeal.nD Cert.ProjForgetRefIdeal.τ).loc Cert.ProjForgetRefIdeal.main_arg1))

def preserves_DWGate_DWGateIdeal : Prop :=
  True

def algebraic_DWGateIdeal_DWGateRefIdeal [hDWGateIdeal : Cert.DWGateIdeal.Facts] [hDWGateRefIdeal : Cert.DWGateRefIdeal.Facts] : Prop :=
  ∀ (m : (ℓ : Loc Cert.DWGateIdeal.nD Cert.DWGateIdeal.τ Cert.DWGateIdeal.sig) → Buf (Elt Ideal) ℓ) (g : Dev Cert.DWGateIdeal.nD → PrngReg)
    (m' : (ℓ : Loc Cert.DWGateRefIdeal.nD Cert.DWGateRefIdeal.τ Cert.DWGateRefIdeal.sig) → Buf (Elt Ideal) ℓ) (g' : Dev Cert.DWGateRefIdeal.nD → PrngReg), Pre_DWGateIdeal m →
    (∀ c : Dev Cert.DWGateIdeal.nD,
      m' ((c.tc : Thread Cert.DWGateRefIdeal.nD Cert.DWGateRefIdeal.τ).loc Cert.DWGateRefIdeal.main_arg0) = m ((c.tc : Thread Cert.DWGateIdeal.nD Cert.DWGateIdeal.τ).loc Cert.DWGateIdeal.main_arg0)
      ∧ m' ((c.tc : Thread Cert.DWGateRefIdeal.nD Cert.DWGateRefIdeal.τ).loc Cert.DWGateRefIdeal.main_arg1) = m ((c.tc : Thread Cert.DWGateIdeal.nD Cert.DWGateIdeal.τ).loc Cert.DWGateIdeal.main_arg1)) →
    ∃ (v0 : (c : Dev Cert.DWGateIdeal.nD) → Buf (Elt Ideal) ((c.tc : Thread Cert.DWGateIdeal.nD Cert.DWGateIdeal.τ).loc Cert.DWGateIdeal.main_v0)),
      θ_run (Cert.DWGateIdeal.defs (F := Ideal)) (onTc (τ := Cert.DWGateIdeal.τ) (Cert.DWGateIdeal.main (F := Ideal))) ⟨m, fun _ => 0, g⟩ (fun r => ∀ c : Dev Cert.DWGateIdeal.nD,
          r.2.mem ((c.tc : Thread Cert.DWGateIdeal.nD Cert.DWGateIdeal.τ).loc Cert.DWGateIdeal.main_v0) = v0 c
          ∧ r.2.mem ((c.tc : Thread Cert.DWGateIdeal.nD Cert.DWGateIdeal.τ).loc Cert.DWGateIdeal.main_arg0) = m ((c.tc : Thread Cert.DWGateIdeal.nD Cert.DWGateIdeal.τ).loc Cert.DWGateIdeal.main_arg0)
          ∧ r.2.mem ((c.tc : Thread Cert.DWGateIdeal.nD Cert.DWGateIdeal.τ).loc Cert.DWGateIdeal.main_arg1) = m ((c.tc : Thread Cert.DWGateIdeal.nD Cert.DWGateIdeal.τ).loc Cert.DWGateIdeal.main_arg1))
      ∧ θ_run (Cert.DWGateRefIdeal.defs (F := Ideal)) (onTc (τ := Cert.DWGateRefIdeal.τ) (Cert.DWGateRefIdeal.main (F := Ideal))) ⟨m', fun _ => 0, g'⟩ (fun r => ∀ c : Dev Cert.DWGateRefIdeal.nD,
          r.2.mem ((c.tc : Thread Cert.DWGateRefIdeal.nD Cert.DWGateRefIdeal.τ).loc Cert.DWGateRefIdeal.main_v7) = v0 c
          ∧ r.2.mem ((c.tc : Thread Cert.DWGateRefIdeal.nD Cert.DWGateRefIdeal.τ).loc Cert.DWGateRefIdeal.main_arg0) = m' ((c.tc : Thread Cert.DWGateRefIdeal.nD Cert.DWGateRefIdeal.τ).loc Cert.DWGateRefIdeal.main_arg0)
          ∧ r.2.mem ((c.tc : Thread Cert.DWGateRefIdeal.nD Cert.DWGateRefIdeal.τ).loc Cert.DWGateRefIdeal.main_arg1) = m' ((c.tc : Thread Cert.DWGateRefIdeal.nD Cert.DWGateRefIdeal.τ).loc Cert.DWGateRefIdeal.main_arg1))

def preserves_DWForget_DWForgetIdeal : Prop :=
  True

def algebraic_DWForgetIdeal_DWForgetRefIdeal [hDWForgetIdeal : Cert.DWForgetIdeal.Facts] [hDWForgetRefIdeal : Cert.DWForgetRefIdeal.Facts] : Prop :=
  ∀ (m : (ℓ : Loc Cert.DWForgetIdeal.nD Cert.DWForgetIdeal.τ Cert.DWForgetIdeal.sig) → Buf (Elt Ideal) ℓ) (g : Dev Cert.DWForgetIdeal.nD → PrngReg)
    (m' : (ℓ : Loc Cert.DWForgetRefIdeal.nD Cert.DWForgetRefIdeal.τ Cert.DWForgetRefIdeal.sig) → Buf (Elt Ideal) ℓ) (g' : Dev Cert.DWForgetRefIdeal.nD → PrngReg), Pre_DWForgetIdeal m →
    (∀ c : Dev Cert.DWForgetIdeal.nD,
      m' ((c.tc : Thread Cert.DWForgetRefIdeal.nD Cert.DWForgetRefIdeal.τ).loc Cert.DWForgetRefIdeal.main_arg0) = m ((c.tc : Thread Cert.DWForgetIdeal.nD Cert.DWForgetIdeal.τ).loc Cert.DWForgetIdeal.main_arg0)
      ∧ m' ((c.tc : Thread Cert.DWForgetRefIdeal.nD Cert.DWForgetRefIdeal.τ).loc Cert.DWForgetRefIdeal.main_arg1) = m ((c.tc : Thread Cert.DWForgetIdeal.nD Cert.DWForgetIdeal.τ).loc Cert.DWForgetIdeal.main_arg1)) →
    ∃ (v0 : (c : Dev Cert.DWForgetIdeal.nD) → Buf (Elt Ideal) ((c.tc : Thread Cert.DWForgetIdeal.nD Cert.DWForgetIdeal.τ).loc Cert.DWForgetIdeal.main_v0)),
      θ_run (Cert.DWForgetIdeal.defs (F := Ideal)) (onTc (τ := Cert.DWForgetIdeal.τ) (Cert.DWForgetIdeal.main (F := Ideal))) ⟨m, fun _ => 0, g⟩ (fun r => ∀ c : Dev Cert.DWForgetIdeal.nD,
          r.2.mem ((c.tc : Thread Cert.DWForgetIdeal.nD Cert.DWForgetIdeal.τ).loc Cert.DWForgetIdeal.main_v0) = v0 c
          ∧ r.2.mem ((c.tc : Thread Cert.DWForgetIdeal.nD Cert.DWForgetIdeal.τ).loc Cert.DWForgetIdeal.main_arg0) = m ((c.tc : Thread Cert.DWForgetIdeal.nD Cert.DWForgetIdeal.τ).loc Cert.DWForgetIdeal.main_arg0)
          ∧ r.2.mem ((c.tc : Thread Cert.DWForgetIdeal.nD Cert.DWForgetIdeal.τ).loc Cert.DWForgetIdeal.main_arg1) = m ((c.tc : Thread Cert.DWForgetIdeal.nD Cert.DWForgetIdeal.τ).loc Cert.DWForgetIdeal.main_arg1))
      ∧ θ_run (Cert.DWForgetRefIdeal.defs (F := Ideal)) (onTc (τ := Cert.DWForgetRefIdeal.τ) (Cert.DWForgetRefIdeal.main (F := Ideal))) ⟨m', fun _ => 0, g'⟩ (fun r => ∀ c : Dev Cert.DWForgetRefIdeal.nD,
          r.2.mem ((c.tc : Thread Cert.DWForgetRefIdeal.nD Cert.DWForgetRefIdeal.τ).loc Cert.DWForgetRefIdeal.main_v7) = v0 c
          ∧ r.2.mem ((c.tc : Thread Cert.DWForgetRefIdeal.nD Cert.DWForgetRefIdeal.τ).loc Cert.DWForgetRefIdeal.main_arg0) = m' ((c.tc : Thread Cert.DWForgetRefIdeal.nD Cert.DWForgetRefIdeal.τ).loc Cert.DWForgetRefIdeal.main_arg0)
          ∧ r.2.mem ((c.tc : Thread Cert.DWForgetRefIdeal.nD Cert.DWForgetRefIdeal.τ).loc Cert.DWForgetRefIdeal.main_arg1) = m' ((c.tc : Thread Cert.DWForgetRefIdeal.nD Cert.DWForgetRefIdeal.τ).loc Cert.DWForgetRefIdeal.main_arg1))

def preserves_FoxPost_FoxPostIdeal : Prop :=
  True

def algebraic_FoxPostIdeal_FoxPostRefIdeal_pre_finite_differences [hFoxPostIdeal : Cert.FoxPostIdeal.Facts] [hFoxPostRefIdeal : Cert.FoxPostRefIdeal.Facts] [hPre_finite_differences : Cert.Pre_finite_differences.Facts] : Prop :=
  ∀ (m : (ℓ : Loc Cert.FoxPostIdeal.nD Cert.FoxPostIdeal.τ Cert.FoxPostIdeal.sig) → Buf (Elt Ideal) ℓ) (g : Dev Cert.FoxPostIdeal.nD → PrngReg)
    (m' : (ℓ : Loc Cert.FoxPostRefIdeal.nD Cert.FoxPostRefIdeal.τ Cert.FoxPostRefIdeal.sig) → Buf (Elt Ideal) ℓ) (g' : Dev Cert.FoxPostRefIdeal.nD → PrngReg), Pre_FoxPostIdeal_finite_differences m →
    (∀ c : Dev Cert.FoxPostIdeal.nD,
      m' ((c.tc : Thread Cert.FoxPostRefIdeal.nD Cert.FoxPostRefIdeal.τ).loc Cert.FoxPostRefIdeal.main_arg0) = m ((c.tc : Thread Cert.FoxPostIdeal.nD Cert.FoxPostIdeal.τ).loc Cert.FoxPostIdeal.main_arg0)
      ∧ m' ((c.tc : Thread Cert.FoxPostRefIdeal.nD Cert.FoxPostRefIdeal.τ).loc Cert.FoxPostRefIdeal.main_arg1) = m ((c.tc : Thread Cert.FoxPostIdeal.nD Cert.FoxPostIdeal.τ).loc Cert.FoxPostIdeal.main_arg1)
      ∧ m' ((c.tc : Thread Cert.FoxPostRefIdeal.nD Cert.FoxPostRefIdeal.τ).loc Cert.FoxPostRefIdeal.main_arg2) = m ((c.tc : Thread Cert.FoxPostIdeal.nD Cert.FoxPostIdeal.τ).loc Cert.FoxPostIdeal.main_arg2)
      ∧ m' ((c.tc : Thread Cert.FoxPostRefIdeal.nD Cert.FoxPostRefIdeal.τ).loc Cert.FoxPostRefIdeal.main_arg3) = m ((c.tc : Thread Cert.FoxPostIdeal.nD Cert.FoxPostIdeal.τ).loc Cert.FoxPostIdeal.main_arg3)) →
    ∃ (v0 : (c : Dev Cert.FoxPostIdeal.nD) → Buf (Elt Ideal) ((c.tc : Thread Cert.FoxPostIdeal.nD Cert.FoxPostIdeal.τ).loc Cert.FoxPostIdeal.main_v0_0)) (v1 : (c : Dev Cert.FoxPostIdeal.nD) → Buf (Elt Ideal) ((c.tc : Thread Cert.FoxPostIdeal.nD Cert.FoxPostIdeal.τ).loc Cert.FoxPostIdeal.main_v0_1)),
      θ_run (Cert.FoxPostIdeal.defs (F := Ideal)) (onTc (τ := Cert.FoxPostIdeal.τ) (Cert.FoxPostIdeal.main (F := Ideal))) ⟨m, fun _ => 0, g⟩ (fun r => ∀ c : Dev Cert.FoxPostIdeal.nD,
          r.2.mem ((c.tc : Thread Cert.FoxPostIdeal.nD Cert.FoxPostIdeal.τ).loc Cert.FoxPostIdeal.main_v0_0) = v0 c
          ∧ r.2.mem ((c.tc : Thread Cert.FoxPostIdeal.nD Cert.FoxPostIdeal.τ).loc Cert.FoxPostIdeal.main_v0_1) = v1 c
          ∧ r.2.mem ((c.tc : Thread Cert.FoxPostIdeal.nD Cert.FoxPostIdeal.τ).loc Cert.FoxPostIdeal.main_arg0) = m ((c.tc : Thread Cert.FoxPostIdeal.nD Cert.FoxPostIdeal.τ).loc Cert.FoxPostIdeal.main_arg0)
          ∧ r.2.mem ((c.tc : Thread Cert.FoxPostIdeal.nD Cert.FoxPostIdeal.τ).loc Cert.FoxPostIdeal.main_arg1) = m ((c.tc : Thread Cert.FoxPostIdeal.nD Cert.FoxPostIdeal.τ).loc Cert.FoxPostIdeal.main_arg1)
          ∧ r.2.mem ((c.tc : Thread Cert.FoxPostIdeal.nD Cert.FoxPostIdeal.τ).loc Cert.FoxPostIdeal.main_arg2) = m ((c.tc : Thread Cert.FoxPostIdeal.nD Cert.FoxPostIdeal.τ).loc Cert.FoxPostIdeal.main_arg2)
          ∧ r.2.mem ((c.tc : Thread Cert.FoxPostIdeal.nD Cert.FoxPostIdeal.τ).loc Cert.FoxPostIdeal.main_arg3) = m ((c.tc : Thread Cert.FoxPostIdeal.nD Cert.FoxPostIdeal.τ).loc Cert.FoxPostIdeal.main_arg3))
      ∧ θ_run (Cert.FoxPostRefIdeal.defs (F := Ideal)) (onTc (τ := Cert.FoxPostRefIdeal.τ) (Cert.FoxPostRefIdeal.main (F := Ideal))) ⟨m', fun _ => 0, g'⟩ (fun r => ∀ c : Dev Cert.FoxPostRefIdeal.nD,
          r.2.mem ((c.tc : Thread Cert.FoxPostRefIdeal.nD Cert.FoxPostRefIdeal.τ).loc Cert.FoxPostRefIdeal.main_v16) = v0 c
          ∧ r.2.mem ((c.tc : Thread Cert.FoxPostRefIdeal.nD Cert.FoxPostRefIdeal.τ).loc Cert.FoxPostRefIdeal.main_v17) = v1 c
          ∧ r.2.mem ((c.tc : Thread Cert.FoxPostRefIdeal.nD Cert.FoxPostRefIdeal.τ).loc Cert.FoxPostRefIdeal.main_arg0) = m' ((c.tc : Thread Cert.FoxPostRefIdeal.nD Cert.FoxPostRefIdeal.τ).loc Cert.FoxPostRefIdeal.main_arg0)
          ∧ r.2.mem ((c.tc : Thread Cert.FoxPostRefIdeal.nD Cert.FoxPostRefIdeal.τ).loc Cert.FoxPostRefIdeal.main_arg1) = m' ((c.tc : Thread Cert.FoxPostRefIdeal.nD Cert.FoxPostRefIdeal.τ).loc Cert.FoxPostRefIdeal.main_arg1)
          ∧ r.2.mem ((c.tc : Thread Cert.FoxPostRefIdeal.nD Cert.FoxPostRefIdeal.τ).loc Cert.FoxPostRefIdeal.main_arg2) = m' ((c.tc : Thread Cert.FoxPostRefIdeal.nD Cert.FoxPostRefIdeal.τ).loc Cert.FoxPostRefIdeal.main_arg2)
          ∧ r.2.mem ((c.tc : Thread Cert.FoxPostRefIdeal.nD Cert.FoxPostRefIdeal.τ).loc Cert.FoxPostRefIdeal.main_arg3) = m' ((c.tc : Thread Cert.FoxPostRefIdeal.nD Cert.FoxPostRefIdeal.τ).loc Cert.FoxPostRefIdeal.main_arg3))

def preserves_FoxPrep_FoxPrepIdeal : Prop :=
  True

def algebraic_FoxPrepIdeal_FoxPrepRefIdeal [hFoxPrepIdeal : Cert.FoxPrepIdeal.Facts] [hFoxPrepRefIdeal : Cert.FoxPrepRefIdeal.Facts] : Prop :=
  ∀ (m : (ℓ : Loc Cert.FoxPrepIdeal.nD Cert.FoxPrepIdeal.τ Cert.FoxPrepIdeal.sig) → Buf (Elt Ideal) ℓ) (g : Dev Cert.FoxPrepIdeal.nD → PrngReg)
    (m' : (ℓ : Loc Cert.FoxPrepRefIdeal.nD Cert.FoxPrepRefIdeal.τ Cert.FoxPrepRefIdeal.sig) → Buf (Elt Ideal) ℓ) (g' : Dev Cert.FoxPrepRefIdeal.nD → PrngReg), Pre_FoxPrepIdeal m →
    (∀ c : Dev Cert.FoxPrepIdeal.nD,
      m' ((c.tc : Thread Cert.FoxPrepRefIdeal.nD Cert.FoxPrepRefIdeal.τ).loc Cert.FoxPrepRefIdeal.main_arg0) = m ((c.tc : Thread Cert.FoxPrepIdeal.nD Cert.FoxPrepIdeal.τ).loc Cert.FoxPrepIdeal.main_arg0)
      ∧ m' ((c.tc : Thread Cert.FoxPrepRefIdeal.nD Cert.FoxPrepRefIdeal.τ).loc Cert.FoxPrepRefIdeal.main_arg1) = m ((c.tc : Thread Cert.FoxPrepIdeal.nD Cert.FoxPrepIdeal.τ).loc Cert.FoxPrepIdeal.main_arg1)) →
    ∃ (v0 : (c : Dev Cert.FoxPrepIdeal.nD) → Buf (Elt Ideal) ((c.tc : Thread Cert.FoxPrepIdeal.nD Cert.FoxPrepIdeal.τ).loc Cert.FoxPrepIdeal.main_v0_0)) (v1 : (c : Dev Cert.FoxPrepIdeal.nD) → Buf (Elt Ideal) ((c.tc : Thread Cert.FoxPrepIdeal.nD Cert.FoxPrepIdeal.τ).loc Cert.FoxPrepIdeal.main_v0_1)),
      θ_run (Cert.FoxPrepIdeal.defs (F := Ideal)) (onTc (τ := Cert.FoxPrepIdeal.τ) (Cert.FoxPrepIdeal.main (F := Ideal))) ⟨m, fun _ => 0, g⟩ (fun r => ∀ c : Dev Cert.FoxPrepIdeal.nD,
          r.2.mem ((c.tc : Thread Cert.FoxPrepIdeal.nD Cert.FoxPrepIdeal.τ).loc Cert.FoxPrepIdeal.main_v0_0) = v0 c
          ∧ r.2.mem ((c.tc : Thread Cert.FoxPrepIdeal.nD Cert.FoxPrepIdeal.τ).loc Cert.FoxPrepIdeal.main_v0_1) = v1 c
          ∧ r.2.mem ((c.tc : Thread Cert.FoxPrepIdeal.nD Cert.FoxPrepIdeal.τ).loc Cert.FoxPrepIdeal.main_arg0) = m ((c.tc : Thread Cert.FoxPrepIdeal.nD Cert.FoxPrepIdeal.τ).loc Cert.FoxPrepIdeal.main_arg0)
          ∧ r.2.mem ((c.tc : Thread Cert.FoxPrepIdeal.nD Cert.FoxPrepIdeal.τ).loc Cert.FoxPrepIdeal.main_arg1) = m ((c.tc : Thread Cert.FoxPrepIdeal.nD Cert.FoxPrepIdeal.τ).loc Cert.FoxPrepIdeal.main_arg1))
      ∧ θ_run (Cert.FoxPrepRefIdeal.defs (F := Ideal)) (onTc (τ := Cert.FoxPrepRefIdeal.τ) (Cert.FoxPrepRefIdeal.main (F := Ideal))) ⟨m', fun _ => 0, g'⟩ (fun r => ∀ c : Dev Cert.FoxPrepRefIdeal.nD,
          r.2.mem ((c.tc : Thread Cert.FoxPrepRefIdeal.nD Cert.FoxPrepRefIdeal.τ).loc Cert.FoxPrepRefIdeal.main_v11) = v0 c
          ∧ r.2.mem ((c.tc : Thread Cert.FoxPrepRefIdeal.nD Cert.FoxPrepRefIdeal.τ).loc Cert.FoxPrepRefIdeal.main_v12) = v1 c
          ∧ r.2.mem ((c.tc : Thread Cert.FoxPrepRefIdeal.nD Cert.FoxPrepRefIdeal.τ).loc Cert.FoxPrepRefIdeal.main_arg0) = m' ((c.tc : Thread Cert.FoxPrepRefIdeal.nD Cert.FoxPrepRefIdeal.τ).loc Cert.FoxPrepRefIdeal.main_arg0)
          ∧ r.2.mem ((c.tc : Thread Cert.FoxPrepRefIdeal.nD Cert.FoxPrepRefIdeal.τ).loc Cert.FoxPrepRefIdeal.main_arg1) = m' ((c.tc : Thread Cert.FoxPrepRefIdeal.nD Cert.FoxPrepRefIdeal.τ).loc Cert.FoxPrepRefIdeal.main_arg1))

def preserves_AdamVec_AdamVecIdeal : Prop :=
  True

def algebraic_AdamVecIdeal_AdamVecRefIdeal [hAdamVecIdeal : Cert.AdamVecIdeal.Facts] [hAdamVecRefIdeal : Cert.AdamVecRefIdeal.Facts] : Prop :=
  ∀ (m : (ℓ : Loc Cert.AdamVecIdeal.nD Cert.AdamVecIdeal.τ Cert.AdamVecIdeal.sig) → Buf (Elt Ideal) ℓ) (g : Dev Cert.AdamVecIdeal.nD → PrngReg)
    (m' : (ℓ : Loc Cert.AdamVecRefIdeal.nD Cert.AdamVecRefIdeal.τ Cert.AdamVecRefIdeal.sig) → Buf (Elt Ideal) ℓ) (g' : Dev Cert.AdamVecRefIdeal.nD → PrngReg), Pre_AdamVecIdeal m →
    (∀ c : Dev Cert.AdamVecIdeal.nD,
      m' ((c.tc : Thread Cert.AdamVecRefIdeal.nD Cert.AdamVecRefIdeal.τ).loc Cert.AdamVecRefIdeal.main_arg0) = m ((c.tc : Thread Cert.AdamVecIdeal.nD Cert.AdamVecIdeal.τ).loc Cert.AdamVecIdeal.main_arg0)
      ∧ m' ((c.tc : Thread Cert.AdamVecRefIdeal.nD Cert.AdamVecRefIdeal.τ).loc Cert.AdamVecRefIdeal.main_arg1) = m ((c.tc : Thread Cert.AdamVecIdeal.nD Cert.AdamVecIdeal.τ).loc Cert.AdamVecIdeal.main_arg1)
      ∧ m' ((c.tc : Thread Cert.AdamVecRefIdeal.nD Cert.AdamVecRefIdeal.τ).loc Cert.AdamVecRefIdeal.main_arg2) = m ((c.tc : Thread Cert.AdamVecIdeal.nD Cert.AdamVecIdeal.τ).loc Cert.AdamVecIdeal.main_arg2)
      ∧ m' ((c.tc : Thread Cert.AdamVecRefIdeal.nD Cert.AdamVecRefIdeal.τ).loc Cert.AdamVecRefIdeal.main_arg3) = m ((c.tc : Thread Cert.AdamVecIdeal.nD Cert.AdamVecIdeal.τ).loc Cert.AdamVecIdeal.main_arg3)) →
    ∃ (v0 : (c : Dev Cert.AdamVecIdeal.nD) → Buf (Elt Ideal) ((c.tc : Thread Cert.AdamVecIdeal.nD Cert.AdamVecIdeal.τ).loc Cert.AdamVecIdeal.main_v0_0)) (v1 : (c : Dev Cert.AdamVecIdeal.nD) → Buf (Elt Ideal) ((c.tc : Thread Cert.AdamVecIdeal.nD Cert.AdamVecIdeal.τ).loc Cert.AdamVecIdeal.main_v0_1)) (v2 : (c : Dev Cert.AdamVecIdeal.nD) → Buf (Elt Ideal) ((c.tc : Thread Cert.AdamVecIdeal.nD Cert.AdamVecIdeal.τ).loc Cert.AdamVecIdeal.main_v0_2)),
      θ_run (Cert.AdamVecIdeal.defs (F := Ideal)) (onTc (τ := Cert.AdamVecIdeal.τ) (Cert.AdamVecIdeal.main (F := Ideal))) ⟨m, fun _ => 0, g⟩ (fun r => ∀ c : Dev Cert.AdamVecIdeal.nD,
          r.2.mem ((c.tc : Thread Cert.AdamVecIdeal.nD Cert.AdamVecIdeal.τ).loc Cert.AdamVecIdeal.main_v0_0) = v0 c
          ∧ r.2.mem ((c.tc : Thread Cert.AdamVecIdeal.nD Cert.AdamVecIdeal.τ).loc Cert.AdamVecIdeal.main_v0_1) = v1 c
          ∧ r.2.mem ((c.tc : Thread Cert.AdamVecIdeal.nD Cert.AdamVecIdeal.τ).loc Cert.AdamVecIdeal.main_v0_2) = v2 c
          ∧ r.2.mem ((c.tc : Thread Cert.AdamVecIdeal.nD Cert.AdamVecIdeal.τ).loc Cert.AdamVecIdeal.main_arg0) = m ((c.tc : Thread Cert.AdamVecIdeal.nD Cert.AdamVecIdeal.τ).loc Cert.AdamVecIdeal.main_arg0)
          ∧ r.2.mem ((c.tc : Thread Cert.AdamVecIdeal.nD Cert.AdamVecIdeal.τ).loc Cert.AdamVecIdeal.main_arg1) = m ((c.tc : Thread Cert.AdamVecIdeal.nD Cert.AdamVecIdeal.τ).loc Cert.AdamVecIdeal.main_arg1)
          ∧ r.2.mem ((c.tc : Thread Cert.AdamVecIdeal.nD Cert.AdamVecIdeal.τ).loc Cert.AdamVecIdeal.main_arg2) = m ((c.tc : Thread Cert.AdamVecIdeal.nD Cert.AdamVecIdeal.τ).loc Cert.AdamVecIdeal.main_arg2)
          ∧ r.2.mem ((c.tc : Thread Cert.AdamVecIdeal.nD Cert.AdamVecIdeal.τ).loc Cert.AdamVecIdeal.main_arg3) = m ((c.tc : Thread Cert.AdamVecIdeal.nD Cert.AdamVecIdeal.τ).loc Cert.AdamVecIdeal.main_arg3))
      ∧ θ_run (Cert.AdamVecRefIdeal.defs (F := Ideal)) (onTc (τ := Cert.AdamVecRefIdeal.τ) (Cert.AdamVecRefIdeal.main (F := Ideal))) ⟨m', fun _ => 0, g'⟩ (fun r => ∀ c : Dev Cert.AdamVecRefIdeal.nD,
          r.2.mem ((c.tc : Thread Cert.AdamVecRefIdeal.nD Cert.AdamVecRefIdeal.τ).loc Cert.AdamVecRefIdeal.main_v23) = v0 c
          ∧ r.2.mem ((c.tc : Thread Cert.AdamVecRefIdeal.nD Cert.AdamVecRefIdeal.τ).loc Cert.AdamVecRefIdeal.main_v4) = v1 c
          ∧ r.2.mem ((c.tc : Thread Cert.AdamVecRefIdeal.nD Cert.AdamVecRefIdeal.τ).loc Cert.AdamVecRefIdeal.main_v10) = v2 c
          ∧ r.2.mem ((c.tc : Thread Cert.AdamVecRefIdeal.nD Cert.AdamVecRefIdeal.τ).loc Cert.AdamVecRefIdeal.main_arg0) = m' ((c.tc : Thread Cert.AdamVecRefIdeal.nD Cert.AdamVecRefIdeal.τ).loc Cert.AdamVecRefIdeal.main_arg0)
          ∧ r.2.mem ((c.tc : Thread Cert.AdamVecRefIdeal.nD Cert.AdamVecRefIdeal.τ).loc Cert.AdamVecRefIdeal.main_arg1) = m' ((c.tc : Thread Cert.AdamVecRefIdeal.nD Cert.AdamVecRefIdeal.τ).loc Cert.AdamVecRefIdeal.main_arg1)
          ∧ r.2.mem ((c.tc : Thread Cert.AdamVecRefIdeal.nD Cert.AdamVecRefIdeal.τ).loc Cert.AdamVecRefIdeal.main_arg2) = m' ((c.tc : Thread Cert.AdamVecRefIdeal.nD Cert.AdamVecRefIdeal.τ).loc Cert.AdamVecRefIdeal.main_arg2)
          ∧ r.2.mem ((c.tc : Thread Cert.AdamVecRefIdeal.nD Cert.AdamVecRefIdeal.τ).loc Cert.AdamVecRefIdeal.main_arg3) = m' ((c.tc : Thread Cert.AdamVecRefIdeal.nD Cert.AdamVecRefIdeal.τ).loc Cert.AdamVecRefIdeal.main_arg3))

def preserves_AdamBig_AdamBigIdeal : Prop :=
  True

def algebraic_AdamBigIdeal_AdamBigRefIdeal [hAdamBigIdeal : Cert.AdamBigIdeal.Facts] [hAdamBigRefIdeal : Cert.AdamBigRefIdeal.Facts] [hPre_place_named : Cert.Pre_place_named.Facts] : Prop :=
  ∀ (m : (ℓ : Loc Cert.AdamBigIdeal.nD Cert.AdamBigIdeal.τ Cert.AdamBigIdeal.sig) → Buf (Elt Ideal) ℓ) (g : Dev Cert.AdamBigIdeal.nD → PrngReg)
    (m' : (ℓ : Loc Cert.AdamBigRefIdeal.nD Cert.AdamBigRefIdeal.τ Cert.AdamBigRefIdeal.sig) → Buf (Elt Ideal) ℓ) (g' : Dev Cert.AdamBigRefIdeal.nD → PrngReg), Pre_AdamBigIdeal m →
    (∀ c : Dev Cert.AdamBigIdeal.nD,
      m' ((c.tc : Thread Cert.AdamBigRefIdeal.nD Cert.AdamBigRefIdeal.τ).loc Cert.AdamBigRefIdeal.main_arg0) = m ((c.tc : Thread Cert.AdamBigIdeal.nD Cert.AdamBigIdeal.τ).loc Cert.AdamBigIdeal.main_arg0)
      ∧ m' ((c.tc : Thread Cert.AdamBigRefIdeal.nD Cert.AdamBigRefIdeal.τ).loc Cert.AdamBigRefIdeal.main_arg1) = m ((c.tc : Thread Cert.AdamBigIdeal.nD Cert.AdamBigIdeal.τ).loc Cert.AdamBigIdeal.main_arg1)
      ∧ m' ((c.tc : Thread Cert.AdamBigRefIdeal.nD Cert.AdamBigRefIdeal.τ).loc Cert.AdamBigRefIdeal.main_arg2) = m ((c.tc : Thread Cert.AdamBigIdeal.nD Cert.AdamBigIdeal.τ).loc Cert.AdamBigIdeal.main_arg2)
      ∧ m' ((c.tc : Thread Cert.AdamBigRefIdeal.nD Cert.AdamBigRefIdeal.τ).loc Cert.AdamBigRefIdeal.main_arg3) = m ((c.tc : Thread Cert.AdamBigIdeal.nD Cert.AdamBigIdeal.τ).loc Cert.AdamBigIdeal.main_arg3)
      ∧ m' ((c.tc : Thread Cert.AdamBigRefIdeal.nD Cert.AdamBigRefIdeal.τ).loc Cert.AdamBigRefIdeal.main_arg4) = m ((c.tc : Thread Cert.AdamBigIdeal.nD Cert.AdamBigIdeal.τ).loc Cert.AdamBigIdeal.main_arg4)
      ∧ m' ((c.tc : Thread Cert.AdamBigRefIdeal.nD Cert.AdamBigRefIdeal.τ).loc Cert.AdamBigRefIdeal.main_arg5) = m ((c.tc : Thread Cert.AdamBigIdeal.nD Cert.AdamBigIdeal.τ).loc Cert.AdamBigIdeal.main_arg5)) →
    ∃ (v0 : (c : Dev Cert.AdamBigIdeal.nD) → Buf (Elt Ideal) ((c.tc : Thread Cert.AdamBigIdeal.nD Cert.AdamBigIdeal.τ).loc Cert.AdamBigIdeal.main_v0_0)) (v1 : (c : Dev Cert.AdamBigIdeal.nD) → Buf (Elt Ideal) ((c.tc : Thread Cert.AdamBigIdeal.nD Cert.AdamBigIdeal.τ).loc Cert.AdamBigIdeal.main_v0_1)) (v2 : (c : Dev Cert.AdamBigIdeal.nD) → Buf (Elt Ideal) ((c.tc : Thread Cert.AdamBigIdeal.nD Cert.AdamBigIdeal.τ).loc Cert.AdamBigIdeal.main_v0_2)) (v3 : (c : Dev Cert.AdamBigIdeal.nD) → Buf (Elt Ideal) ((c.tc : Thread Cert.AdamBigIdeal.nD Cert.AdamBigIdeal.τ).loc Cert.AdamBigIdeal.main_v0_3)),
      θ_run (Cert.AdamBigIdeal.defs (F := Ideal)) (onTc (τ := Cert.AdamBigIdeal.τ) (Cert.AdamBigIdeal.main (F := Ideal))) ⟨m, fun _ => 0, g⟩ (fun r => ∀ c : Dev Cert.AdamBigIdeal.nD,
          r.2.mem ((c.tc : Thread Cert.AdamBigIdeal.nD Cert.AdamBigIdeal.τ).loc Cert.AdamBigIdeal.main_v0_0) = v0 c
          ∧ r.2.mem ((c.tc : Thread Cert.AdamBigIdeal.nD Cert.AdamBigIdeal.τ).loc Cert.AdamBigIdeal.main_v0_1) = v1 c
          ∧ r.2.mem ((c.tc : Thread Cert.AdamBigIdeal.nD Cert.AdamBigIdeal.τ).loc Cert.AdamBigIdeal.main_v0_2) = v2 c
          ∧ r.2.mem ((c.tc : Thread Cert.AdamBigIdeal.nD Cert.AdamBigIdeal.τ).loc Cert.AdamBigIdeal.main_v0_3) = v3 c
          ∧ r.2.mem ((c.tc : Thread Cert.AdamBigIdeal.nD Cert.AdamBigIdeal.τ).loc Cert.AdamBigIdeal.main_arg0) = m ((c.tc : Thread Cert.AdamBigIdeal.nD Cert.AdamBigIdeal.τ).loc Cert.AdamBigIdeal.main_arg0)
          ∧ r.2.mem ((c.tc : Thread Cert.AdamBigIdeal.nD Cert.AdamBigIdeal.τ).loc Cert.AdamBigIdeal.main_arg1) = m ((c.tc : Thread Cert.AdamBigIdeal.nD Cert.AdamBigIdeal.τ).loc Cert.AdamBigIdeal.main_arg1)
          ∧ r.2.mem ((c.tc : Thread Cert.AdamBigIdeal.nD Cert.AdamBigIdeal.τ).loc Cert.AdamBigIdeal.main_arg2) = m ((c.tc : Thread Cert.AdamBigIdeal.nD Cert.AdamBigIdeal.τ).loc Cert.AdamBigIdeal.main_arg2)
          ∧ r.2.mem ((c.tc : Thread Cert.AdamBigIdeal.nD Cert.AdamBigIdeal.τ).loc Cert.AdamBigIdeal.main_arg3) = m ((c.tc : Thread Cert.AdamBigIdeal.nD Cert.AdamBigIdeal.τ).loc Cert.AdamBigIdeal.main_arg3)
          ∧ r.2.mem ((c.tc : Thread Cert.AdamBigIdeal.nD Cert.AdamBigIdeal.τ).loc Cert.AdamBigIdeal.main_arg4) = m ((c.tc : Thread Cert.AdamBigIdeal.nD Cert.AdamBigIdeal.τ).loc Cert.AdamBigIdeal.main_arg4)
          ∧ r.2.mem ((c.tc : Thread Cert.AdamBigIdeal.nD Cert.AdamBigIdeal.τ).loc Cert.AdamBigIdeal.main_arg5) = m ((c.tc : Thread Cert.AdamBigIdeal.nD Cert.AdamBigIdeal.τ).loc Cert.AdamBigIdeal.main_arg5))
      ∧ θ_run (Cert.AdamBigRefIdeal.defs (F := Ideal)) (onTc (τ := Cert.AdamBigRefIdeal.τ) (Cert.AdamBigRefIdeal.main (F := Ideal))) ⟨m', fun _ => 0, g'⟩ (fun r => ∀ c : Dev Cert.AdamBigRefIdeal.nD,
          r.2.mem ((c.tc : Thread Cert.AdamBigRefIdeal.nD Cert.AdamBigRefIdeal.τ).loc Cert.AdamBigRefIdeal.main_v5) = v0 c
          ∧ r.2.mem ((c.tc : Thread Cert.AdamBigRefIdeal.nD Cert.AdamBigRefIdeal.τ).loc Cert.AdamBigRefIdeal.main_v29) = v1 c
          ∧ r.2.mem ((c.tc : Thread Cert.AdamBigRefIdeal.nD Cert.AdamBigRefIdeal.τ).loc Cert.AdamBigRefIdeal.main_v10) = v2 c
          ∧ r.2.mem ((c.tc : Thread Cert.AdamBigRefIdeal.nD Cert.AdamBigRefIdeal.τ).loc Cert.AdamBigRefIdeal.main_v16) = v3 c
          ∧ r.2.mem ((c.tc : Thread Cert.AdamBigRefIdeal.nD Cert.AdamBigRefIdeal.τ).loc Cert.AdamBigRefIdeal.main_arg0) = m' ((c.tc : Thread Cert.AdamBigRefIdeal.nD Cert.AdamBigRefIdeal.τ).loc Cert.AdamBigRefIdeal.main_arg0)
          ∧ r.2.mem ((c.tc : Thread Cert.AdamBigRefIdeal.nD Cert.AdamBigRefIdeal.τ).loc Cert.AdamBigRefIdeal.main_arg1) = m' ((c.tc : Thread Cert.AdamBigRefIdeal.nD Cert.AdamBigRefIdeal.τ).loc Cert.AdamBigRefIdeal.main_arg1)
          ∧ r.2.mem ((c.tc : Thread Cert.AdamBigRefIdeal.nD Cert.AdamBigRefIdeal.τ).loc Cert.AdamBigRefIdeal.main_arg2) = m' ((c.tc : Thread Cert.AdamBigRefIdeal.nD Cert.AdamBigRefIdeal.τ).loc Cert.AdamBigRefIdeal.main_arg2)
          ∧ r.2.mem ((c.tc : Thread Cert.AdamBigRefIdeal.nD Cert.AdamBigRefIdeal.τ).loc Cert.AdamBigRefIdeal.main_arg3) = m' ((c.tc : Thread Cert.AdamBigRefIdeal.nD Cert.AdamBigRefIdeal.τ).loc Cert.AdamBigRefIdeal.main_arg3)
          ∧ r.2.mem ((c.tc : Thread Cert.AdamBigRefIdeal.nD Cert.AdamBigRefIdeal.τ).loc Cert.AdamBigRefIdeal.main_arg4) = m' ((c.tc : Thread Cert.AdamBigRefIdeal.nD Cert.AdamBigRefIdeal.τ).loc Cert.AdamBigRefIdeal.main_arg4)
          ∧ r.2.mem ((c.tc : Thread Cert.AdamBigRefIdeal.nD Cert.AdamBigRefIdeal.τ).loc Cert.AdamBigRefIdeal.main_arg5) = m' ((c.tc : Thread Cert.AdamBigRefIdeal.nD Cert.AdamBigRefIdeal.τ).loc Cert.AdamBigRefIdeal.main_arg5))

def preserves_AdamIn_AdamInIdeal : Prop :=
  True

def algebraic_AdamInIdeal_AdamInRefIdeal [hAdamInIdeal : Cert.AdamInIdeal.Facts] [hAdamInRefIdeal : Cert.AdamInRefIdeal.Facts] [hPre_place_named_in : Cert.Pre_place_named_in.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)
      ∧ m' ((c.tc : Thread Cert.AdamInRefIdeal.nD Cert.AdamInRefIdeal.τ).loc Cert.AdamInRefIdeal.main_arg5) = m ((c.tc : Thread Cert.AdamInIdeal.nD Cert.AdamInIdeal.τ).loc Cert.AdamInIdeal.main_arg5)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v5) = v0 c
          ∧ r.2.mem ((c.tc : Thread Cert.AdamInRefIdeal.nD Cert.AdamInRefIdeal.τ).loc Cert.AdamInRefIdeal.main_v29) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_v16) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4)
          ∧ r.2.mem ((c.tc : Thread Cert.AdamInRefIdeal.nD Cert.AdamInRefIdeal.τ).loc Cert.AdamInRefIdeal.main_arg5) = m' ((c.tc : Thread Cert.AdamInRefIdeal.nD Cert.AdamInRefIdeal.τ).loc Cert.AdamInRefIdeal.main_arg5))

def preserves_SumSibling_SumSiblingIdeal : Prop :=
  True

def algebraic_SumSiblingIdeal_SumSiblingRefIdeal [hSumSiblingIdeal : Cert.SumSiblingIdeal.Facts] [hSumSiblingRefIdeal : Cert.SumSiblingRefIdeal.Facts] [hPre_place_named_sibling : Cert.Pre_place_named_sibling.Facts] : Prop :=
  ∀ (m : (ℓ : Loc Cert.SumSiblingIdeal.nD Cert.SumSiblingIdeal.τ Cert.SumSiblingIdeal.sig) → Buf (Elt Ideal) ℓ) (g : Dev Cert.SumSiblingIdeal.nD → PrngReg)
    (m' : (ℓ : Loc Cert.SumSiblingRefIdeal.nD Cert.SumSiblingRefIdeal.τ Cert.SumSiblingRefIdeal.sig) → Buf (Elt Ideal) ℓ) (g' : Dev Cert.SumSiblingRefIdeal.nD → PrngReg), Pre_SumSiblingIdeal m →
    (∀ c : Dev Cert.SumSiblingIdeal.nD,
      m' ((c.tc : Thread Cert.SumSiblingRefIdeal.nD Cert.SumSiblingRefIdeal.τ).loc Cert.SumSiblingRefIdeal.main_arg0) = m ((c.tc : Thread Cert.SumSiblingIdeal.nD Cert.SumSiblingIdeal.τ).loc Cert.SumSiblingIdeal.main_arg0)
      ∧ m' ((c.tc : Thread Cert.SumSiblingRefIdeal.nD Cert.SumSiblingRefIdeal.τ).loc Cert.SumSiblingRefIdeal.main_arg1) = m ((c.tc : Thread Cert.SumSiblingIdeal.nD Cert.SumSiblingIdeal.τ).loc Cert.SumSiblingIdeal.main_arg1)
      ∧ m' ((c.tc : Thread Cert.SumSiblingRefIdeal.nD Cert.SumSiblingRefIdeal.τ).loc Cert.SumSiblingRefIdeal.main_arg2) = m ((c.tc : Thread Cert.SumSiblingIdeal.nD Cert.SumSiblingIdeal.τ).loc Cert.SumSiblingIdeal.main_arg2)) →
    ∃ (v0 : (c : Dev Cert.SumSiblingIdeal.nD) → Buf (Elt Ideal) ((c.tc : Thread Cert.SumSiblingIdeal.nD Cert.SumSiblingIdeal.τ).loc Cert.SumSiblingIdeal.main_v0)),
      θ_run (Cert.SumSiblingIdeal.defs (F := Ideal)) (onTc (τ := Cert.SumSiblingIdeal.τ) (Cert.SumSiblingIdeal.main (F := Ideal))) ⟨m, fun _ => 0, g⟩ (fun r => ∀ c : Dev Cert.SumSiblingIdeal.nD,
          r.2.mem ((c.tc : Thread Cert.SumSiblingIdeal.nD Cert.SumSiblingIdeal.τ).loc Cert.SumSiblingIdeal.main_v0) = v0 c
          ∧ r.2.mem ((c.tc : Thread Cert.SumSiblingIdeal.nD Cert.SumSiblingIdeal.τ).loc Cert.SumSiblingIdeal.main_arg0) = m ((c.tc : Thread Cert.SumSiblingIdeal.nD Cert.SumSiblingIdeal.τ).loc Cert.SumSiblingIdeal.main_arg0)
          ∧ r.2.mem ((c.tc : Thread Cert.SumSiblingIdeal.nD Cert.SumSiblingIdeal.τ).loc Cert.SumSiblingIdeal.main_arg1) = m ((c.tc : Thread Cert.SumSiblingIdeal.nD Cert.SumSiblingIdeal.τ).loc Cert.SumSiblingIdeal.main_arg1)
          ∧ r.2.mem ((c.tc : Thread Cert.SumSiblingIdeal.nD Cert.SumSiblingIdeal.τ).loc Cert.SumSiblingIdeal.main_arg2) = m ((c.tc : Thread Cert.SumSiblingIdeal.nD Cert.SumSiblingIdeal.τ).loc Cert.SumSiblingIdeal.main_arg2))
      ∧ θ_run (Cert.SumSiblingRefIdeal.defs (F := Ideal)) (onTc (τ := Cert.SumSiblingRefIdeal.τ) (Cert.SumSiblingRefIdeal.main (F := Ideal))) ⟨m', fun _ => 0, g'⟩ (fun r => ∀ c : Dev Cert.SumSiblingRefIdeal.nD,
          r.2.mem ((c.tc : Thread Cert.SumSiblingRefIdeal.nD Cert.SumSiblingRefIdeal.τ).loc Cert.SumSiblingRefIdeal.main_v7) = v0 c
          ∧ r.2.mem ((c.tc : Thread Cert.SumSiblingRefIdeal.nD Cert.SumSiblingRefIdeal.τ).loc Cert.SumSiblingRefIdeal.main_arg0) = m' ((c.tc : Thread Cert.SumSiblingRefIdeal.nD Cert.SumSiblingRefIdeal.τ).loc Cert.SumSiblingRefIdeal.main_arg0)
          ∧ r.2.mem ((c.tc : Thread Cert.SumSiblingRefIdeal.nD Cert.SumSiblingRefIdeal.τ).loc Cert.SumSiblingRefIdeal.main_arg1) = m' ((c.tc : Thread Cert.SumSiblingRefIdeal.nD Cert.SumSiblingRefIdeal.τ).loc Cert.SumSiblingRefIdeal.main_arg1)
          ∧ r.2.mem ((c.tc : Thread Cert.SumSiblingRefIdeal.nD Cert.SumSiblingRefIdeal.τ).loc Cert.SumSiblingRefIdeal.main_arg2) = m' ((c.tc : Thread Cert.SumSiblingRefIdeal.nD Cert.SumSiblingRefIdeal.τ).loc Cert.SumSiblingRefIdeal.main_arg2))

def preserves_SumChips_SumChipsIdeal : Prop :=
  True

def algebraic_SumChipsIdeal_SumChipsRefIdeal [hSumChipsIdeal : Cert.SumChipsIdeal.Facts] [hSumChipsRefIdeal : Cert.SumChipsRefIdeal.Facts] [hPre_place_named_chips : Cert.Pre_place_named_chips.Facts] : Prop :=
  ∀ (m : (ℓ : Loc Cert.SumChipsIdeal.nD Cert.SumChipsIdeal.τ Cert.SumChipsIdeal.sig) → Buf (Elt Ideal) ℓ) (g : Dev Cert.SumChipsIdeal.nD → PrngReg)
    (m' : (ℓ : Loc Cert.SumChipsRefIdeal.nD Cert.SumChipsRefIdeal.τ Cert.SumChipsRefIdeal.sig) → Buf (Elt Ideal) ℓ) (g' : Dev Cert.SumChipsRefIdeal.nD → PrngReg), Pre_SumChipsIdeal m →
    (∀ c : Dev Cert.SumChipsIdeal.nD,
      m' ((c.tc : Thread Cert.SumChipsRefIdeal.nD Cert.SumChipsRefIdeal.τ).loc Cert.SumChipsRefIdeal.main_arg0) = m ((c.tc : Thread Cert.SumChipsIdeal.nD Cert.SumChipsIdeal.τ).loc Cert.SumChipsIdeal.main_arg0)
      ∧ m' ((c.tc : Thread Cert.SumChipsRefIdeal.nD Cert.SumChipsRefIdeal.τ).loc Cert.SumChipsRefIdeal.main_arg1) = m ((c.tc : Thread Cert.SumChipsIdeal.nD Cert.SumChipsIdeal.τ).loc Cert.SumChipsIdeal.main_arg1)
      ∧ m' ((c.tc : Thread Cert.SumChipsRefIdeal.nD Cert.SumChipsRefIdeal.τ).loc Cert.SumChipsRefIdeal.main_arg2) = m ((c.tc : Thread Cert.SumChipsIdeal.nD Cert.SumChipsIdeal.τ).loc Cert.SumChipsIdeal.main_arg2)
      ∧ m' ((c.tc : Thread Cert.SumChipsRefIdeal.nD Cert.SumChipsRefIdeal.τ).loc Cert.SumChipsRefIdeal.main_arg3) = m ((c.tc : Thread Cert.SumChipsIdeal.nD Cert.SumChipsIdeal.τ).loc Cert.SumChipsIdeal.main_arg3)) →
    ∃ (v0 : (c : Dev Cert.SumChipsIdeal.nD) → Buf (Elt Ideal) ((c.tc : Thread Cert.SumChipsIdeal.nD Cert.SumChipsIdeal.τ).loc Cert.SumChipsIdeal.main_v0)),
      θ_run (Cert.SumChipsIdeal.defs (F := Ideal)) (onTc (τ := Cert.SumChipsIdeal.τ) (Cert.SumChipsIdeal.main (F := Ideal))) ⟨m, fun _ => 0, g⟩ (fun r => ∀ c : Dev Cert.SumChipsIdeal.nD,
          r.2.mem ((c.tc : Thread Cert.SumChipsIdeal.nD Cert.SumChipsIdeal.τ).loc Cert.SumChipsIdeal.main_v0) = v0 c
          ∧ r.2.mem ((c.tc : Thread Cert.SumChipsIdeal.nD Cert.SumChipsIdeal.τ).loc Cert.SumChipsIdeal.main_arg0) = m ((c.tc : Thread Cert.SumChipsIdeal.nD Cert.SumChipsIdeal.τ).loc Cert.SumChipsIdeal.main_arg0)
          ∧ r.2.mem ((c.tc : Thread Cert.SumChipsIdeal.nD Cert.SumChipsIdeal.τ).loc Cert.SumChipsIdeal.main_arg1) = m ((c.tc : Thread Cert.SumChipsIdeal.nD Cert.SumChipsIdeal.τ).loc Cert.SumChipsIdeal.main_arg1)
          ∧ r.2.mem ((c.tc : Thread Cert.SumChipsIdeal.nD Cert.SumChipsIdeal.τ).loc Cert.SumChipsIdeal.main_arg2) = m ((c.tc : Thread Cert.SumChipsIdeal.nD Cert.SumChipsIdeal.τ).loc Cert.SumChipsIdeal.main_arg2)
          ∧ r.2.mem ((c.tc : Thread Cert.SumChipsIdeal.nD Cert.SumChipsIdeal.τ).loc Cert.SumChipsIdeal.main_arg3) = m ((c.tc : Thread Cert.SumChipsIdeal.nD Cert.SumChipsIdeal.τ).loc Cert.SumChipsIdeal.main_arg3))
      ∧ θ_run (Cert.SumChipsRefIdeal.defs (F := Ideal)) (onTc (τ := Cert.SumChipsRefIdeal.τ) (Cert.SumChipsRefIdeal.main (F := Ideal))) ⟨m', fun _ => 0, g'⟩ (fun r => ∀ c : Dev Cert.SumChipsRefIdeal.nD,
          r.2.mem ((c.tc : Thread Cert.SumChipsRefIdeal.nD Cert.SumChipsRefIdeal.τ).loc Cert.SumChipsRefIdeal.main_v50) = v0 c
          ∧ r.2.mem ((c.tc : Thread Cert.SumChipsRefIdeal.nD Cert.SumChipsRefIdeal.τ).loc Cert.SumChipsRefIdeal.main_arg0) = m' ((c.tc : Thread Cert.SumChipsRefIdeal.nD Cert.SumChipsRefIdeal.τ).loc Cert.SumChipsRefIdeal.main_arg0)
          ∧ r.2.mem ((c.tc : Thread Cert.SumChipsRefIdeal.nD Cert.SumChipsRefIdeal.τ).loc Cert.SumChipsRefIdeal.main_arg1) = m' ((c.tc : Thread Cert.SumChipsRefIdeal.nD Cert.SumChipsRefIdeal.τ).loc Cert.SumChipsRefIdeal.main_arg1)
          ∧ r.2.mem ((c.tc : Thread Cert.SumChipsRefIdeal.nD Cert.SumChipsRefIdeal.τ).loc Cert.SumChipsRefIdeal.main_arg2) = m' ((c.tc : Thread Cert.SumChipsRefIdeal.nD Cert.SumChipsRefIdeal.τ).loc Cert.SumChipsRefIdeal.main_arg2)
          ∧ r.2.mem ((c.tc : Thread Cert.SumChipsRefIdeal.nD Cert.SumChipsRefIdeal.τ).loc Cert.SumChipsRefIdeal.main_arg3) = m' ((c.tc : Thread Cert.SumChipsRefIdeal.nD Cert.SumChipsRefIdeal.τ).loc Cert.SumChipsRefIdeal.main_arg3))

def Claim : Prop :=
  ∃ (hKernel : Cert.Kernel.Facts) (hKernelIdeal : Cert.KernelIdeal.Facts) (hReferenceIdeal : Cert.ReferenceIdeal.Facts) (hDWDown : Cert.DWDown.Facts) (hDWDownIdeal : Cert.DWDownIdeal.Facts) (hDWDownRefIdeal : Cert.DWDownRefIdeal.Facts) (hDWUp : Cert.DWUp.Facts) (hDWUpIdeal : Cert.DWUpIdeal.Facts) (hDWUpRefIdeal : Cert.DWUpRefIdeal.Facts) (hMlpUp : Cert.MlpUp.Facts) (hMlpUpIdeal : Cert.MlpUpIdeal.Facts) (hMlpUpRefIdeal : Cert.MlpUpRefIdeal.Facts) (hDAct : Cert.DAct.Facts) (hDActIdeal : Cert.DActIdeal.Facts) (hDActRefIdeal : Cert.DActRefIdeal.Facts) (hMlpDown : Cert.MlpDown.Facts) (hMlpDownIdeal : Cert.MlpDownIdeal.Facts) (hMlpDownRefIdeal : Cert.MlpDownRefIdeal.Facts) (hDWOut : Cert.DWOut.Facts) (hDWOutIdeal : Cert.DWOutIdeal.Facts) (hDWOutRefIdeal : Cert.DWOutRefIdeal.Facts) (hDWBranch : Cert.DWBranch.Facts) (hDWBranchIdeal : Cert.DWBranchIdeal.Facts) (hDWBranchRefIdeal : Cert.DWBranchRefIdeal.Facts) (hDWPle : Cert.DWPle.Facts) (hDWPleIdeal : Cert.DWPleIdeal.Facts) (hDWPleRefIdeal : Cert.DWPleRefIdeal.Facts) (hProjQkv : Cert.ProjQkv.Facts) (hProjQkvIdeal : Cert.ProjQkvIdeal.Facts) (hProjQkvRefIdeal : Cert.ProjQkvRefIdeal.Facts) (hProjGate : Cert.ProjGate.Facts) (hProjGateIdeal : Cert.ProjGateIdeal.Facts) (hProjGateRefIdeal : Cert.ProjGateRefIdeal.Facts) (hOutNorm : Cert.OutNorm.Facts) (hOutNormIdeal : Cert.OutNormIdeal.Facts) (hOutNormRefIdeal : Cert.OutNormRefIdeal.Facts) (hGateFwd : Cert.GateFwd.Facts) (hGateFwdIdeal : Cert.GateFwdIdeal.Facts) (hGateFwdRefIdeal : Cert.GateFwdRefIdeal.Facts) (hDHMlp : Cert.DHMlp.Facts) (hDHMlpIdeal : Cert.DHMlpIdeal.Facts) (hDHMlpRefIdeal : Cert.DHMlpRefIdeal.Facts) (hDHPle : Cert.DHPle.Facts) (hDHPleIdeal : Cert.DHPleIdeal.Facts) (hDHPleRefIdeal : Cert.DHPleRefIdeal.Facts) (hHead : Cert.Head.Facts) (hHeadIdeal : Cert.HeadIdeal.Facts) (hHeadRefIdeal : Cert.HeadRefIdeal.Facts) (hProjForget : Cert.ProjForget.Facts) (hProjForgetIdeal : Cert.ProjForgetIdeal.Facts) (hProjForgetRefIdeal : Cert.ProjForgetRefIdeal.Facts) (hDWGate : Cert.DWGate.Facts) (hDWGateIdeal : Cert.DWGateIdeal.Facts) (hDWGateRefIdeal : Cert.DWGateRefIdeal.Facts) (hDWForget : Cert.DWForget.Facts) (hDWForgetIdeal : Cert.DWForgetIdeal.Facts) (hDWForgetRefIdeal : Cert.DWForgetRefIdeal.Facts) (hFoxPost : Cert.FoxPost.Facts) (hFoxPostIdeal : Cert.FoxPostIdeal.Facts) (hFoxPostRefIdeal : Cert.FoxPostRefIdeal.Facts) (hFoxPrep : Cert.FoxPrep.Facts) (hFoxPrepIdeal : Cert.FoxPrepIdeal.Facts) (hFoxPrepRefIdeal : Cert.FoxPrepRefIdeal.Facts) (hAdamVec : Cert.AdamVec.Facts) (hAdamVecIdeal : Cert.AdamVecIdeal.Facts) (hAdamVecRefIdeal : Cert.AdamVecRefIdeal.Facts) (hAdamBig : Cert.AdamBig.Facts) (hAdamBigIdeal : Cert.AdamBigIdeal.Facts) (hAdamBigRefIdeal : Cert.AdamBigRefIdeal.Facts) (hAdamIn : Cert.AdamIn.Facts) (hAdamInIdeal : Cert.AdamInIdeal.Facts) (hAdamInRefIdeal : Cert.AdamInRefIdeal.Facts) (hSumSibling : Cert.SumSibling.Facts) (hSumSiblingIdeal : Cert.SumSiblingIdeal.Facts) (hSumSiblingRefIdeal : Cert.SumSiblingRefIdeal.Facts) (hSumChips : Cert.SumChips.Facts) (hSumChipsIdeal : Cert.SumChipsIdeal.Facts) (hSumChipsRefIdeal : Cert.SumChipsRefIdeal.Facts) (hPre_finite_differences : Cert.Pre_finite_differences.Facts) (hPre_place_named : Cert.Pre_place_named.Facts) (hPre_place_named_in : Cert.Pre_place_named_in.Facts) (hPre_place_named_sibling : Cert.Pre_place_named_sibling.Facts) (hPre_place_named_chips : Cert.Pre_place_named_chips.Facts),
    quiescent_Kernel (hKernel := hKernel)
    ∧ quiescent_KernelIdeal (hKernelIdeal := hKernelIdeal)
    ∧ quiescent_ReferenceIdeal (hReferenceIdeal := hReferenceIdeal)
    ∧ quiescent_DWDown (hDWDown := hDWDown)
    ∧ quiescent_DWDownIdeal (hDWDownIdeal := hDWDownIdeal)
    ∧ quiescent_DWDownRefIdeal (hDWDownRefIdeal := hDWDownRefIdeal)
    ∧ quiescent_DWUp (hDWUp := hDWUp)
    ∧ quiescent_DWUpIdeal (hDWUpIdeal := hDWUpIdeal)
    ∧ quiescent_DWUpRefIdeal (hDWUpRefIdeal := hDWUpRefIdeal)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_DAct (hDAct := hDAct)
    ∧ quiescent_DActIdeal (hDActIdeal := hDActIdeal)
    ∧ quiescent_DActRefIdeal (hDActRefIdeal := hDActRefIdeal)
    ∧ quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_DWOut (hDWOut := hDWOut)
    ∧ quiescent_DWOutIdeal (hDWOutIdeal := hDWOutIdeal)
    ∧ quiescent_DWOutRefIdeal (hDWOutRefIdeal := hDWOutRefIdeal)
    ∧ quiescent_DWBranch (hDWBranch := hDWBranch)
    ∧ quiescent_DWBranchIdeal (hDWBranchIdeal := hDWBranchIdeal)
    ∧ quiescent_DWBranchRefIdeal (hDWBranchRefIdeal := hDWBranchRefIdeal)
    ∧ quiescent_DWPle (hDWPle := hDWPle)
    ∧ quiescent_DWPleIdeal (hDWPleIdeal := hDWPleIdeal)
    ∧ quiescent_DWPleRefIdeal (hDWPleRefIdeal := hDWPleRefIdeal)
    ∧ quiescent_ProjQkv (hProjQkv := hProjQkv)
    ∧ quiescent_ProjQkvIdeal (hProjQkvIdeal := hProjQkvIdeal)
    ∧ quiescent_ProjQkvRefIdeal (hProjQkvRefIdeal := hProjQkvRefIdeal)
    ∧ quiescent_ProjGate (hProjGate := hProjGate)
    ∧ quiescent_ProjGateIdeal (hProjGateIdeal := hProjGateIdeal)
    ∧ quiescent_ProjGateRefIdeal (hProjGateRefIdeal := hProjGateRefIdeal)
    ∧ quiescent_OutNorm (hOutNorm := hOutNorm)
    ∧ quiescent_OutNormIdeal (hOutNormIdeal := hOutNormIdeal)
    ∧ quiescent_OutNormRefIdeal (hOutNormRefIdeal := hOutNormRefIdeal)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ quiescent_DHMlp (hDHMlp := hDHMlp)
    ∧ quiescent_DHMlpIdeal (hDHMlpIdeal := hDHMlpIdeal)
    ∧ quiescent_DHMlpRefIdeal (hDHMlpRefIdeal := hDHMlpRefIdeal)
    ∧ quiescent_DHPle (hDHPle := hDHPle)
    ∧ quiescent_DHPleIdeal (hDHPleIdeal := hDHPleIdeal)
    ∧ quiescent_DHPleRefIdeal (hDHPleRefIdeal := hDHPleRefIdeal)
    ∧ quiescent_Head (hHead := hHead)
    ∧ quiescent_HeadIdeal (hHeadIdeal := hHeadIdeal)
    ∧ quiescent_HeadRefIdeal (hHeadRefIdeal := hHeadRefIdeal)
    ∧ quiescent_ProjForget (hProjForget := hProjForget)
    ∧ quiescent_ProjForgetIdeal (hProjForgetIdeal := hProjForgetIdeal)
    ∧ quiescent_ProjForgetRefIdeal (hProjForgetRefIdeal := hProjForgetRefIdeal)
    ∧ quiescent_DWGate (hDWGate := hDWGate)
    ∧ quiescent_DWGateIdeal (hDWGateIdeal := hDWGateIdeal)
    ∧ quiescent_DWGateRefIdeal (hDWGateRefIdeal := hDWGateRefIdeal)
    ∧ quiescent_DWForget (hDWForget := hDWForget)
    ∧ quiescent_DWForgetIdeal (hDWForgetIdeal := hDWForgetIdeal)
    ∧ quiescent_DWForgetRefIdeal (hDWForgetRefIdeal := hDWForgetRefIdeal)
    ∧ quiescent_FoxPost (hFoxPost := hFoxPost)
    ∧ quiescent_FoxPostIdeal (hFoxPostIdeal := hFoxPostIdeal)
    ∧ quiescent_FoxPostIdeal_pre_finite_differences (hFoxPostIdeal := hFoxPostIdeal) (hPre_finite_differences := hPre_finite_differences)
    ∧ quiescent_FoxPostRefIdeal (hFoxPostRefIdeal := hFoxPostRefIdeal)
    ∧ quiescent_FoxPostRefIdeal_pre_finite_differences (hFoxPostRefIdeal := hFoxPostRefIdeal) (hPre_finite_differences := hPre_finite_differences)
    ∧ quiescent_FoxPrep (hFoxPrep := hFoxPrep)
    ∧ quiescent_FoxPrepIdeal (hFoxPrepIdeal := hFoxPrepIdeal)
    ∧ quiescent_FoxPrepRefIdeal (hFoxPrepRefIdeal := hFoxPrepRefIdeal)
    ∧ quiescent_AdamVec (hAdamVec := hAdamVec)
    ∧ quiescent_AdamVecIdeal (hAdamVecIdeal := hAdamVecIdeal)
    ∧ quiescent_AdamVecRefIdeal (hAdamVecRefIdeal := hAdamVecRefIdeal)
    ∧ quiescent_AdamBig (hAdamBig := hAdamBig) (hPre_place_named := hPre_place_named)
    ∧ quiescent_AdamBigIdeal (hAdamBigIdeal := hAdamBigIdeal) (hPre_place_named := hPre_place_named)
    ∧ quiescent_AdamBigRefIdeal (hAdamBigRefIdeal := hAdamBigRefIdeal)
    ∧ quiescent_AdamBigRefIdeal_pre_place_named (hAdamBigRefIdeal := hAdamBigRefIdeal) (hPre_place_named := hPre_place_named)
    ∧ quiescent_AdamIn (hAdamIn := hAdamIn) (hPre_place_named_in := hPre_place_named_in)
    ∧ quiescent_AdamInIdeal (hAdamInIdeal := hAdamInIdeal) (hPre_place_named_in := hPre_place_named_in)
    ∧ quiescent_AdamInRefIdeal (hAdamInRefIdeal := hAdamInRefIdeal)
    ∧ quiescent_AdamInRefIdeal_pre_place_named_in (hAdamInRefIdeal := hAdamInRefIdeal) (hPre_place_named_in := hPre_place_named_in)
    ∧ quiescent_SumSibling (hSumSibling := hSumSibling) (hPre_place_named_sibling := hPre_place_named_sibling)
    ∧ quiescent_SumSiblingIdeal (hSumSiblingIdeal := hSumSiblingIdeal) (hPre_place_named_sibling := hPre_place_named_sibling)
    ∧ quiescent_SumSiblingRefIdeal (hSumSiblingRefIdeal := hSumSiblingRefIdeal)
    ∧ quiescent_SumSiblingRefIdeal_pre_place_named_sibling (hSumSiblingRefIdeal := hSumSiblingRefIdeal) (hPre_place_named_sibling := hPre_place_named_sibling)
    ∧ quiescent_SumChips (hSumChips := hSumChips) (hPre_place_named_chips := hPre_place_named_chips)
    ∧ quiescent_SumChipsIdeal (hSumChipsIdeal := hSumChipsIdeal) (hPre_place_named_chips := hPre_place_named_chips)
    ∧ quiescent_SumChipsRefIdeal (hSumChipsRefIdeal := hSumChipsRefIdeal)
    ∧ quiescent_SumChipsRefIdeal_pre_place_named_chips (hSumChipsRefIdeal := hSumChipsRefIdeal) (hPre_place_named_chips := hPre_place_named_chips)
    ∧ preserves_Kernel_KernelIdeal
    ∧ algebraic_KernelIdeal_ReferenceIdeal (hKernelIdeal := hKernelIdeal) (hReferenceIdeal := hReferenceIdeal)
    ∧ preserves_DWDown_DWDownIdeal
    ∧ algebraic_DWDownIdeal_DWDownRefIdeal (hDWDownIdeal := hDWDownIdeal) (hDWDownRefIdeal := hDWDownRefIdeal)
    ∧ preserves_DWUp_DWUpIdeal
    ∧ algebraic_DWUpIdeal_DWUpRefIdeal (hDWUpIdeal := hDWUpIdeal) (hDWUpRefIdeal := hDWUpRefIdeal)
    ∧ preserves_MlpUp_MlpUpIdeal
    ∧ algebraic_MlpUpIdeal_MlpUpRefIdeal (hMlpUpIdeal := hMlpUpIdeal) (hMlpUpRefIdeal := hMlpUpRefIdeal)
    ∧ preserves_DAct_DActIdeal
    ∧ algebraic_DActIdeal_DActRefIdeal (hDActIdeal := hDActIdeal) (hDActRefIdeal := hDActRefIdeal)
    ∧ preserves_MlpDown_MlpDownIdeal
    ∧ algebraic_MlpDownIdeal_MlpDownRefIdeal (hMlpDownIdeal := hMlpDownIdeal) (hMlpDownRefIdeal := hMlpDownRefIdeal)
    ∧ preserves_DWOut_DWOutIdeal
    ∧ algebraic_DWOutIdeal_DWOutRefIdeal (hDWOutIdeal := hDWOutIdeal) (hDWOutRefIdeal := hDWOutRefIdeal)
    ∧ preserves_DWBranch_DWBranchIdeal
    ∧ algebraic_DWBranchIdeal_DWBranchRefIdeal (hDWBranchIdeal := hDWBranchIdeal) (hDWBranchRefIdeal := hDWBranchRefIdeal)
    ∧ preserves_DWPle_DWPleIdeal
    ∧ algebraic_DWPleIdeal_DWPleRefIdeal (hDWPleIdeal := hDWPleIdeal) (hDWPleRefIdeal := hDWPleRefIdeal)
    ∧ preserves_ProjQkv_ProjQkvIdeal
    ∧ algebraic_ProjQkvIdeal_ProjQkvRefIdeal (hProjQkvIdeal := hProjQkvIdeal) (hProjQkvRefIdeal := hProjQkvRefIdeal)
    ∧ preserves_ProjGate_ProjGateIdeal
    ∧ algebraic_ProjGateIdeal_ProjGateRefIdeal (hProjGateIdeal := hProjGateIdeal) (hProjGateRefIdeal := hProjGateRefIdeal)
    ∧ preserves_OutNorm_OutNormIdeal
    ∧ algebraic_OutNormIdeal_OutNormRefIdeal (hOutNormIdeal := hOutNormIdeal) (hOutNormRefIdeal := hOutNormRefIdeal)
    ∧ preserves_GateFwd_GateFwdIdeal
    ∧ algebraic_GateFwdIdeal_GateFwdRefIdeal (hGateFwdIdeal := hGateFwdIdeal) (hGateFwdRefIdeal := hGateFwdRefIdeal)
    ∧ preserves_DHMlp_DHMlpIdeal
    ∧ algebraic_DHMlpIdeal_DHMlpRefIdeal (hDHMlpIdeal := hDHMlpIdeal) (hDHMlpRefIdeal := hDHMlpRefIdeal)
    ∧ preserves_DHPle_DHPleIdeal
    ∧ algebraic_DHPleIdeal_DHPleRefIdeal (hDHPleIdeal := hDHPleIdeal) (hDHPleRefIdeal := hDHPleRefIdeal)
    ∧ preserves_Head_HeadIdeal
    ∧ algebraic_HeadIdeal_HeadRefIdeal (hHeadIdeal := hHeadIdeal) (hHeadRefIdeal := hHeadRefIdeal)
    ∧ preserves_ProjForget_ProjForgetIdeal
    ∧ algebraic_ProjForgetIdeal_ProjForgetRefIdeal (hProjForgetIdeal := hProjForgetIdeal) (hProjForgetRefIdeal := hProjForgetRefIdeal)
    ∧ preserves_DWGate_DWGateIdeal
    ∧ algebraic_DWGateIdeal_DWGateRefIdeal (hDWGateIdeal := hDWGateIdeal) (hDWGateRefIdeal := hDWGateRefIdeal)
    ∧ preserves_DWForget_DWForgetIdeal
    ∧ algebraic_DWForgetIdeal_DWForgetRefIdeal (hDWForgetIdeal := hDWForgetIdeal) (hDWForgetRefIdeal := hDWForgetRefIdeal)
    ∧ preserves_FoxPost_FoxPostIdeal
    ∧ algebraic_FoxPostIdeal_FoxPostRefIdeal_pre_finite_differences (hFoxPostIdeal := hFoxPostIdeal) (hFoxPostRefIdeal := hFoxPostRefIdeal) (hPre_finite_differences := hPre_finite_differences)
    ∧ preserves_FoxPrep_FoxPrepIdeal
    ∧ algebraic_FoxPrepIdeal_FoxPrepRefIdeal (hFoxPrepIdeal := hFoxPrepIdeal) (hFoxPrepRefIdeal := hFoxPrepRefIdeal)
    ∧ preserves_AdamVec_AdamVecIdeal
    ∧ algebraic_AdamVecIdeal_AdamVecRefIdeal (hAdamVecIdeal := hAdamVecIdeal) (hAdamVecRefIdeal := hAdamVecRefIdeal)
    ∧ preserves_AdamBig_AdamBigIdeal
    ∧ algebraic_AdamBigIdeal_AdamBigRefIdeal (hAdamBigIdeal := hAdamBigIdeal) (hAdamBigRefIdeal := hAdamBigRefIdeal) (hPre_place_named := hPre_place_named)
    ∧ preserves_AdamIn_AdamInIdeal
    ∧ algebraic_AdamInIdeal_AdamInRefIdeal (hAdamInIdeal := hAdamInIdeal) (hAdamInRefIdeal := hAdamInRefIdeal) (hPre_place_named_in := hPre_place_named_in)
    ∧ preserves_SumSibling_SumSiblingIdeal
    ∧ algebraic_SumSiblingIdeal_SumSiblingRefIdeal (hSumSiblingIdeal := hSumSiblingIdeal) (hSumSiblingRefIdeal := hSumSiblingRefIdeal) (hPre_place_named_sibling := hPre_place_named_sibling)
    ∧ preserves_SumChips_SumChipsIdeal
    ∧ algebraic_SumChipsIdeal_SumChipsRefIdeal (hSumChipsIdeal := hSumChipsIdeal) (hSumChipsRefIdeal := hSumChipsRefIdeal) (hPre_place_named_chips := hPre_place_named_chips)
-- ==== Pre_finite_differences.lean ====
abbrev S4096x512 : Shape := ⟨2, ![4096, 512]⟩
abbrev S4096x128 : Shape := ⟨2, ![4096, 128]⟩
abbrev S1x128 : Shape := ⟨2, ![1, 128]⟩
abbrev S4096x8 : Shape := ⟨2, ![4096, 8]⟩
abbrev S_ : Shape := ⟨0, ![]⟩

class Facts : Prop where
  slicesBy_S4096x512_S4096x8_0s1_0s64 : S4096x512.SlicesBy (![0, 0] : Fin 2 → Nat) ![1, 64] S4096x8
  bcast_S_S4096x8 : S_.BroadcastsInDim S4096x8 (![] : Fin 0 → Fin S4096x8.rank)

variable [Facts]

def fn {F : FTy → Type} [FloatOps F] (main_arg0 : FVec F S4096x512 .f32) (main_arg1 : FVec F S4096x512 .f32) (main_arg2 : FVec F S4096x128 .f32) (main_arg3 : FVec F S1x128 .f32) : IVec S4096x8 1 :=
  let main_v0 : FVec F S4096x512 .f32 := subf main_arg1 main_arg0
  let main_v1 : FVec F S4096x8 .f32 := (Host.slice S4096x8 ![0, 0] ![1, 64] · slicesBy_S4096x512_S4096x8_0s1_0s64) main_v0
  let main_v2 : FVec F S4096x8 .f32 := Host.absf main_v1
  let main_cst : FVec F S_ .f32 := constant S_ .f32 0x7F800000#32
  let main_v3 : FVec F S4096x8 .f32 := broadcastInDim S4096x8 ![] bcast_S_S4096x8 main_cst
  let main_v4 : IVec S4096x8 1 := cmpf .olt main_v2 main_v3
  main_v4
-- ==== Pre_place_named.lean ====
abbrev S2 : Shape := ⟨1, ![2]⟩
abbrev S1024x1024 : Shape := ⟨2, ![1024, 1024]⟩
abbrev S512x1024 : Shape := ⟨2, ![512, 1024]⟩
abbrev S1 : Shape := ⟨1, ![1]⟩
abbrev S_ : Shape := ⟨0, ![]⟩

class Facts : Prop where
  slices_S2_S1_0 : S2.Slices ![0] S1
  slices_S2_S1_1 : S2.Slices ![1] S1
  bcast_S_S1 : S_.BroadcastsInDim S1 (![] : Fin 0 → Fin S1.rank)

variable [Facts]

def fn {F : FTy → Type} [FloatOps F] (main_arg0 : IVec S2 32) (main_arg1 : FVec F S1024x1024 .f32) (main_arg2 : FVec F S1024x1024 .f32) (main_arg3 : FVec F S1024x1024 .f32) (main_arg4 : FVec F S512x1024 .f32) (main_arg5 : FVec F S512x1024 .f32) : IVec S1 1 :=
  let main_v0 : IVec S1 32 := (extractStridedSlice S1 ![0] · slices_S2_S1_0) main_arg0
  let main_v1 : IVec S1 32 := (extractStridedSlice S1 ![1] · slices_S2_S1_1) main_arg0
  let main_c : IVec S_ 32 := constantI S_ 32 0#32
  let main_v2 : IVec S1 32 := broadcastInDim S1 ![] bcast_S_S1 main_c
  let main_v3 : IVec S1 1 := cmpi .sge main_v0 main_v2
  let main_c_0 : IVec S_ 32 := constantI S_ 32 4#32
  let main_v4 : IVec S1 32 := broadcastInDim S1 ![] bcast_S_S1 main_c_0
  let main_v5 : IVec S1 1 := cmpi .slt main_v0 main_v4
  let main_v6 : IVec S1 1 := andi main_v3 main_v5
  let main_c_1 : IVec S_ 32 := constantI S_ 32 0#32
  let main_v7 : IVec S1 32 := broadcastInDim S1 ![] bcast_S_S1 main_c_1
  let main_v8 : IVec S1 1 := cmpi .sge main_v1 main_v7
  let main_v9 : IVec S1 1 := andi main_v6 main_v8
  let main_c_2 : IVec S_ 32 := constantI S_ 32 2#32
  let main_v10 : IVec S1 32 := broadcastInDim S1 ![] bcast_S_S1 main_c_2
  let main_v11 : IVec S1 1 := cmpi .slt main_v1 main_v10
  let main_v12 : IVec S1 1 := andi main_v9 main_v11
  main_v12
-- ==== Pre_place_named_chips.lean ====
abbrev S2 : Shape := ⟨1, ![2]⟩
abbrev S4x10256x128 : Shape := ⟨3, ![4, 10256, 128]⟩
abbrev S4x5128x128 : Shape := ⟨3, ![4, 5128, 128]⟩
abbrev S3x5128x128 : Shape := ⟨3, ![3, 5128, 128]⟩
abbrev S1 : Shape := ⟨1, ![1]⟩
abbrev S_ : Shape := ⟨0, ![]⟩

class Facts : Prop where
  slices_S2_S1_0 : S2.Slices ![0] S1
  slices_S2_S1_1 : S2.Slices ![1] S1
  bcast_S_S1 : S_.BroadcastsInDim S1 (![] : Fin 0 → Fin S1.rank)

variable [Facts]

def fn {F : FTy → Type} [FloatOps F] (main_arg0 : IVec S2 32) (main_arg1 : FVec F S4x10256x128 .f32) (main_arg2 : FVec F S4x5128x128 .f32) (main_arg3 : FVec F S3x5128x128 .bf16) : IVec S1 1 :=
  let main_v0 : IVec S1 32 := (extractStridedSlice S1 ![0] · slices_S2_S1_0) main_arg0
  let main_v1 : IVec S1 32 := (extractStridedSlice S1 ![1] · slices_S2_S1_1) main_arg0
  let main_c : IVec S_ 32 := constantI S_ 32 0#32
  let main_v2 : IVec S1 32 := broadcastInDim S1 ![] bcast_S_S1 main_c
  let main_v3 : IVec S1 1 := cmpi .sge main_v0 main_v2
  let main_c_0 : IVec S_ 32 := constantI S_ 32 4#32
  let main_v4 : IVec S1 32 := broadcastInDim S1 ![] bcast_S_S1 main_c_0
  let main_v5 : IVec S1 1 := cmpi .slt main_v0 main_v4
  let main_v6 : IVec S1 1 := andi main_v3 main_v5
  let main_c_1 : IVec S_ 32 := constantI S_ 32 0#32
  let main_v7 : IVec S1 32 := broadcastInDim S1 ![] bcast_S_S1 main_c_1
  let main_v8 : IVec S1 1 := cmpi .sge main_v1 main_v7
  let main_v9 : IVec S1 1 := andi main_v6 main_v8
  let main_c_2 : IVec S_ 32 := constantI S_ 32 2#32
  let main_v10 : IVec S1 32 := broadcastInDim S1 ![] bcast_S_S1 main_c_2
  let main_v11 : IVec S1 1 := cmpi .slt main_v1 main_v10
  let main_v12 : IVec S1 1 := andi main_v9 main_v11
  main_v12
-- ==== Pre_place_named_in.lean ====
abbrev S2 : Shape := ⟨1, ![2]⟩
abbrev S10256x128 : Shape := ⟨2, ![10256, 128]⟩
abbrev S5128x128 : Shape := ⟨2, ![5128, 128]⟩
abbrev S1 : Shape := ⟨1, ![1]⟩
abbrev S_ : Shape := ⟨0, ![]⟩

class Facts : Prop where
  slices_S2_S1_0 : S2.Slices ![0] S1
  slices_S2_S1_1 : S2.Slices ![1] S1
  bcast_S_S1 : S_.BroadcastsInDim S1 (![] : Fin 0 → Fin S1.rank)

variable [Facts]

def fn {F : FTy → Type} [FloatOps F] (main_arg0 : IVec S2 32) (main_arg1 : FVec F S10256x128 .f32) (main_arg2 : FVec F S10256x128 .f32) (main_arg3 : FVec F S10256x128 .f32) (main_arg4 : FVec F S5128x128 .f32) (main_arg5 : FVec F S5128x128 .f32) : IVec S1 1 :=
  let main_v0 : IVec S1 32 := (extractStridedSlice S1 ![0] · slices_S2_S1_0) main_arg0
  let main_v1 : IVec S1 32 := (extractStridedSlice S1 ![1] · slices_S2_S1_1) main_arg0
  let main_c : IVec S_ 32 := constantI S_ 32 0#32
  let main_v2 : IVec S1 32 := broadcastInDim S1 ![] bcast_S_S1 main_c
  let main_v3 : IVec S1 1 := cmpi .sge main_v0 main_v2
  let main_c_0 : IVec S_ 32 := constantI S_ 32 4#32
  let main_v4 : IVec S1 32 := broadcastInDim S1 ![] bcast_S_S1 main_c_0
  let main_v5 : IVec S1 1 := cmpi .slt main_v0 main_v4
  let main_v6 : IVec S1 1 := andi main_v3 main_v5
  let main_c_1 : IVec S_ 32 := constantI S_ 32 0#32
  let main_v7 : IVec S1 32 := broadcastInDim S1 ![] bcast_S_S1 main_c_1
  let main_v8 : IVec S1 1 := cmpi .sge main_v1 main_v7
  let main_v9 : IVec S1 1 := andi main_v6 main_v8
  let main_c_2 : IVec S_ 32 := constantI S_ 32 2#32
  let main_v10 : IVec S1 32 := broadcastInDim S1 ![] bcast_S_S1 main_c_2
  let main_v11 : IVec S1 1 := cmpi .slt main_v1 main_v10
  let main_v12 : IVec S1 1 := andi main_v9 main_v11
  main_v12
-- ==== Pre_place_named_sibling.lean ====
abbrev S2 : Shape := ⟨1, ![2]⟩
abbrev S4x10256x128 : Shape := ⟨3, ![4, 10256, 128]⟩
abbrev S4x5128x128 : Shape := ⟨3, ![4, 5128, 128]⟩
abbrev S1 : Shape := ⟨1, ![1]⟩
abbrev S_ : Shape := ⟨0, ![]⟩

class Facts : Prop where
  slices_S2_S1_1 : S2.Slices ![1] S1
  bcast_S_S1 : S_.BroadcastsInDim S1 (![] : Fin 0 → Fin S1.rank)

variable [Facts]

def fn {F : FTy → Type} [FloatOps F] (main_arg0 : IVec S2 32) (main_arg1 : FVec F S4x10256x128 .f32) (main_arg2 : FVec F S4x5128x128 .f32) : IVec S1 1 :=
  let main_v0 : IVec S1 32 := (extractStridedSlice S1 ![1] · slices_S2_S1_1) main_arg0
  let main_c : IVec S_ 32 := constantI S_ 32 0#32
  let main_v1 : IVec S1 32 := broadcastInDim S1 ![] bcast_S_S1 main_c
  let main_v2 : IVec S1 1 := cmpi .sge main_v0 main_v1
  let main_c_0 : IVec S_ 32 := constantI S_ 32 2#32
  let main_v3 : IVec S1 32 := broadcastInDim S1 ![] bcast_S_S1 main_c_0
  let main_v4 : IVec S1 1 := cmpi .slt main_v0 main_v3
  let main_v5 : IVec S1 1 := andi main_v2 main_v4
  main_v5
-- ==== Kernel.lean ====
abbrev S4096x2048 : Shape := ⟨2, ![4096, 2048]⟩
abbrev S2x1024 : Shape := ⟨2, ![2, 1024]⟩
abbrev S4096x1024 : Shape := ⟨2, ![4096, 1024]⟩
abbrev S1024x1024 : Shape := ⟨2, ![1024, 1024]⟩
abbrev S4x512x256 : Shape := ⟨3, ![4, 512, 256]⟩
abbrev S4096x512 : Shape := ⟨2, ![4096, 512]⟩
abbrev S512x1024 : Shape := ⟨2, ![512, 1024]⟩
abbrev S512x2048 : Shape := ⟨2, ![512, 2048]⟩
abbrev S512x512 : Shape := ⟨2, ![512, 512]⟩
abbrev S1x1024 : Shape := ⟨2, ![1, 1024]⟩
abbrev S512x256 : Shape := ⟨2, ![512, 256]⟩
abbrev S1x512x256 : Shape := ⟨3, ![1, 512, 256]⟩
abbrev S1024 : Shape := ⟨1, ![1024]⟩

abbrev nBuf : Space → Nat
  | .hbm => 14
  | .vmem => 25
  | .smem => 0
  | _ => 0

abbrev bufTy : (tb : Table) → Fin (tcTables nBuf tb) → BufTy
  | .hbm, ⟨0, _⟩ => ⟨S4096x2048, .f32⟩
  | .hbm, ⟨1, _⟩ => ⟨S2x1024, .f32⟩
  | .hbm, ⟨2, _⟩ => ⟨S4096x1024, .f32⟩
  | .hbm, ⟨3, _⟩ => ⟨S4096x1024, .f32⟩
  | .hbm, ⟨4, _⟩ => ⟨S4096x1024, .bf16⟩
  | .hbm, ⟨5, _⟩ => ⟨S1024x1024, .bf16⟩
  | .hbm, ⟨6, _⟩ => ⟨S4x512x256, .bf16⟩
  | .hbm, ⟨7, _⟩ => ⟨S4x512x256, .bf16⟩
  | .hbm, ⟨8, _⟩ => ⟨S4096x1024, .bf16⟩
  | .hbm, ⟨9, _⟩ => ⟨S4096x1024, .bf16⟩
  | .hbm, ⟨10, _⟩ => ⟨S4096x2048, .bf16⟩
  | .hbm, ⟨11, _⟩ => ⟨S2x1024, .f32⟩
  | .hbm, ⟨12, _⟩ => ⟨S4096x512, .bf16⟩
  | .hbm, ⟨13, _⟩ => ⟨S4096x512, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S2x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S4x512x256, .bf16⟩
  | .local _ .vmem, ⟨13, _⟩ => ⟨S4x512x256, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x2048, .bf16⟩
  | .local _ .vmem, ⟨19, _⟩ => ⟨S512x2048, .bf16⟩
  | .local _ .vmem, ⟨20, _⟩ => ⟨S2x1024, .f32⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x512x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S4096x2048 : Shape := ⟨2, ![4096, 2048]⟩
abbrev S2x1024 : Shape := ⟨2, ![2, 1024]⟩
abbrev S4096x1024 : Shape := ⟨2, ![4096, 1024]⟩
abbrev S1024x1024 : Shape := ⟨2, ![1024, 1024]⟩
abbrev S4x512x256 : Shape := ⟨3, ![4, 512, 256]⟩
abbrev S1x512x256 : Shape := ⟨3, ![1, 512, 256]⟩
abbrev S512x256 : Shape := ⟨2, ![512, 256]⟩
abbrev S512x1024 : Shape := ⟨2, ![512, 1024]⟩
abbrev S1x1024 : Shape := ⟨2, ![1, 1024]⟩
abbrev S1024 : Shape := ⟨1, ![1024]⟩
abbrev S_ : Shape := ⟨0, ![]⟩
abbrev S4096x512 : Shape := ⟨2, ![4096, 512]⟩

abbrev nBuf : Space → Nat
  | .hbm => 116
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2x1024, .f32⟩
  | .hbm, ⟨2, _⟩ => ⟨S4096x1024, .f32⟩
  | .hbm, ⟨3, _⟩ => ⟨S4096x1024, .f32⟩
  | .hbm, ⟨4, _⟩ => ⟨S4096x1024, .bf16⟩
  | .hbm, ⟨5, _⟩ => ⟨S1024x1024, .bf16⟩
  | .hbm, ⟨6, _⟩ => ⟨S4x512x256, .bf16⟩
  | .hbm, ⟨7, _⟩ => ⟨S4x512x256, .bf16⟩
  | .hbm, ⟨8, _⟩ => ⟨S1024x1024, .f32⟩
  | .hbm, ⟨9, _⟩ => ⟨S4096x1024, .f32⟩
  | .hbm, ⟨10, _⟩ => ⟨S4x512x256, .f32⟩
  | .hbm, ⟨11, _⟩ => ⟨S1x512x256, .f32⟩
  | .hbm, ⟨12, _⟩ => ⟨S512x256, .f32⟩
  | .hbm, ⟨13, _⟩ => ⟨S4x512x256, .f32⟩
  | .hbm, ⟨14, _⟩ => ⟨S1x512x256, .f32⟩
  | .hbm, ⟨15, _⟩ => ⟨S512x256, .f32⟩
  | .hbm, ⟨16, _⟩ => ⟨S4x512x256, .f32⟩
  | .hbm, ⟨17, _⟩ => ⟨S1x512x256, .f32⟩
  | .hbm, ⟨18, _⟩ => ⟨S512x256, .f32⟩
  | .hbm, ⟨19, _⟩ => ⟨S4x512x256, .f32⟩
  | .hbm, ⟨20, _⟩ => ⟨S1x512x256, .f32⟩
  | .hbm, ⟨21, _⟩ => ⟨S512x256, .f32⟩
  | .hbm, ⟨22, _⟩ => ⟨S512x1024, .f32⟩
  | .hbm, ⟨23, _⟩ => ⟨S4x512x256, .f32⟩
  | .hbm, ⟨24, _⟩ => ⟨S1x512x256, .f32⟩
  | .hbm, ⟨25, _⟩ => ⟨S512x256, .f32⟩
  | .hbm, ⟨26, _⟩ => ⟨S4x512x256, .f32⟩
  | .hbm, ⟨27, _⟩ => ⟨S1x512x256, .f32⟩
  | .hbm, ⟨28, _⟩ => ⟨S512x256, .f32⟩
  | .hbm, ⟨29, _⟩ => ⟨S4x512x256, .f32⟩
  | .hbm, ⟨30, _⟩ => ⟨S1x512x256, .f32⟩
  | .hbm, ⟨31, _⟩ => ⟨S512x256, .f32⟩
  | .hbm, ⟨32, _⟩ => ⟨S4x512x256, .f32⟩
  | .hbm, ⟨33, _⟩ => ⟨S1x512x256, .f32⟩
  | .hbm, ⟨34, _⟩ => ⟨S512x256, .f32⟩
  | .hbm, ⟨35, _⟩ => ⟨S512x1024, .f32⟩
  | .hbm, ⟨36, _⟩ => ⟨S4096x1024, .f32⟩
  | .hbm, ⟨37, _⟩ => ⟨S1x1024, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S1x1024, .f32⟩
  | .hbm, ⟨57, _⟩ => ⟨S1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S_, .f32⟩
  | .hbm, ⟨87, _⟩ => ⟨S2x1024, .f32⟩
  | .hbm, ⟨88, _⟩ => ⟨S_, .f32⟩
  | .hbm, ⟨89, _⟩ => ⟨S4096x2048, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S_, .f32⟩
  | .hbm, ⟨94, _⟩ => ⟨S1024, .f32⟩
  | .hbm, ⟨95, _⟩ => ⟨S1x1024, .f32⟩
  | .hbm, ⟨96, _⟩ => ⟨S_, .f32⟩
  | .hbm, ⟨97, _⟩ => ⟨S1024, .f32⟩
  | .hbm, ⟨98, _⟩ => ⟨S1x1024, .f32⟩
  | .hbm, ⟨99, _⟩ => ⟨S_, .f32⟩
  | .hbm, ⟨100, _⟩ => ⟨S2x1024, .f32⟩
  | .hbm, ⟨101, _⟩ => ⟨S2x1024, .f32⟩
  | .hbm, ⟨102, _⟩ => ⟨S_, .f32⟩
  | .hbm, ⟨103, _⟩ => ⟨S4096x2048, .f32⟩
  | .hbm, ⟨104, _⟩ => ⟨S4096x2048, .f32⟩
  | .hbm, ⟨105, _⟩ => ⟨S_, .f32⟩
  | .hbm, ⟨106, _⟩ => ⟨S4096x512, .f32⟩
  | .hbm, ⟨107, _⟩ => ⟨S4096x1024, .f32⟩
  | .hbm, ⟨108, _⟩ => ⟨S4096x512, .f32⟩
  | .hbm, ⟨109, _⟩ => ⟨S4096x1024, .f32⟩
  | .hbm, ⟨110, _⟩ => ⟨S4096x512, .f32⟩
  | .hbm, ⟨111, _⟩ => ⟨S4096x1024, .bf16⟩
  | .hbm, ⟨112, _⟩ => ⟨S4096x1024, .bf16⟩
  | .hbm, ⟨113, _⟩ => ⟨S4096x2048, .bf16⟩
  | .hbm, ⟨114, _⟩ => ⟨S4096x512, .bf16⟩
  | .hbm, ⟨115, _⟩ => ⟨S4096x512, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst : Ref sig .tc := ⟨.hbm, 44, rfl⟩
abbrev main_v36 : Ref sig .tc := ⟨.hbm, 45, rfl⟩
abbrev main_v37 : Ref sig .tc := ⟨.hbm, 46, rfl⟩
abbrev main_cst_0 : Ref sig .tc := ⟨.hbm, 47, rfl⟩
abbrev main_v38 : Ref sig .tc := ⟨.hbm, 48, rfl⟩
abbrev main_v39 : Ref sig .tc := ⟨.hbm, 49, rfl⟩
abbrev main_cst_1 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_2 : Ref sig .tc := ⟨.hbm, 63, rfl⟩
abbrev main_v52 : Ref sig .tc := ⟨.hbm, 64, rfl⟩
abbrev main_v53 : Ref sig .tc := ⟨.hbm, 65, rfl⟩
abbrev main_cst_3 : Ref sig .tc := ⟨.hbm, 66, rfl⟩
abbrev main_v54 : Ref sig .tc := ⟨.hbm, 67, rfl⟩
abbrev main_v55 : Ref sig .tc := ⟨.hbm, 68, rfl⟩
abbrev main_cst_4 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_5 : Ref sig .tc := ⟨.hbm, 80, rfl⟩
abbrev main_v66 : Ref sig .tc := ⟨.hbm, 81, rfl⟩
abbrev main_v67 : Ref sig .tc := ⟨.hbm, 82, rfl⟩
abbrev main_cst_6 : Ref sig .tc := ⟨.hbm, 83, rfl⟩
abbrev main_v68 : Ref sig .tc := ⟨.hbm, 84, rfl⟩
abbrev main_v69 : Ref sig .tc := ⟨.hbm, 85, rfl⟩
abbrev main_cst_7 : Ref sig .tc := ⟨.hbm, 86, rfl⟩
abbrev main_v70 : Ref sig .tc := ⟨.hbm, 87, rfl⟩
abbrev main_cst_8 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_9 : Ref sig .tc := ⟨.hbm, 93, rfl⟩
abbrev main_v75 : Ref sig .tc := ⟨.hbm, 94, rfl⟩
abbrev main_v76 : Ref sig .tc := ⟨.hbm, 95, rfl⟩
abbrev main_cst_10 : Ref sig .tc := ⟨.hbm, 96, rfl⟩
abbrev main_v77 : Ref sig .tc := ⟨.hbm, 97, rfl⟩
abbrev main_v78 : Ref sig .tc := ⟨.hbm, 98, rfl⟩
abbrev main_cst_11 : Ref sig .tc := ⟨.hbm, 99, rfl⟩
abbrev main_v79 : Ref sig .tc := ⟨.hbm, 100, rfl⟩
abbrev main_v80 : Ref sig .tc := ⟨.hbm, 101, rfl⟩
abbrev main_cst_12 : Ref sig .tc := ⟨.hbm, 102, rfl⟩
abbrev main_v81 : Ref sig .tc := ⟨.hbm, 103, rfl⟩
abbrev main_v82 : Ref sig .tc := ⟨.hbm, 104, rfl⟩
abbrev main_cst_13 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩

abbrev nD : Nat := 1
abbrev τ : Topo := Topo.v7x

variable {F : FTy → Type} [FloatOps F]
-- ==== DWDown.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWDownRefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x4096, .f32⟩
  | .hbm, ⟨6, _⟩ => ⟨S4096x1024, .f32⟩
  | .hbm, ⟨7, _⟩ => ⟨S4096x1024, .f32⟩
  | .hbm, ⟨8, _⟩ => ⟨S1024x4096, .f32⟩
  | .hbm, ⟨9, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DWUp.lean ====
abbrev S4096x1024 : Shape := ⟨2, ![4096, 1024]⟩
abbrev S4096x4096 : Shape := ⟨2, ![4096, 4096]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWUpRefIdeal.lean ====
abbrev S4096x1024 : Shape := ⟨2, ![4096, 1024]⟩
abbrev S4096x4096 : Shape := ⟨2, ![4096, 4096]⟩
abbrev S_ : Shape := ⟨0, ![]⟩
abbrev S4x1024x1024 : Shape := ⟨3, ![4, 1024, 1024]⟩
abbrev S1x1024x1024 : Shape := ⟨3, ![1, 1024, 1024]⟩
abbrev S1024x1024 : Shape := ⟨2, ![1024, 1024]⟩
abbrev S1024x4096 : Shape := ⟨2, ![1024, 4096]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S4x1024x1024, .f32⟩
  | .hbm, ⟨4, _⟩ => ⟨S4096x1024, .f32⟩
  | .hbm, ⟨5, _⟩ => ⟨S1x1024x1024, .f32⟩
  | .hbm, ⟨6, _⟩ => ⟨S1024x1024, .f32⟩
  | .hbm, ⟨7, _⟩ => ⟨S1x1024x1024, .f32⟩
  | .hbm, ⟨8, _⟩ => ⟨S1024x1024, .f32⟩
  | .hbm, ⟨9, _⟩ => ⟨S1x1024x1024, .f32⟩
  | .hbm, ⟨10, _⟩ => ⟨S1024x1024, .f32⟩
  | .hbm, ⟨11, _⟩ => ⟨S1x1024x1024, .f32⟩
  | .hbm, ⟨12, _⟩ => ⟨S1024x1024, .f32⟩
  | .hbm, ⟨13, _⟩ => ⟨S1024x4096, .f32⟩
  | .hbm, ⟨14, _⟩ => ⟨S4096x4096, .f32⟩
  | .hbm, ⟨15, _⟩ => ⟨S4096x4096, .f32⟩
  | .hbm, ⟨16, _⟩ => ⟨S4096x1024, .f32⟩
  | .hbm, ⟨17, _⟩ => ⟨S1024x4096, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1x1024x1024, .f32⟩
  | .hbm, ⟨23, _⟩ => ⟨S_, .f32⟩
  | .hbm, ⟨24, _⟩ => ⟨S4x1024x1024, .f32⟩
  | .hbm, ⟨25, _⟩ => ⟨S1x1024x1024, .f32⟩
  | .hbm, ⟨26, _⟩ => ⟨S_, .f32⟩
  | .hbm, ⟨27, _⟩ => ⟨S4x1024x1024, .f32⟩
  | .hbm, ⟨28, _⟩ => ⟨S4x1024x1024, .f32⟩
  | .hbm, ⟨29, _⟩ => ⟨S1x1024x1024, .f32⟩
  | .hbm, ⟨30, _⟩ => ⟨S_, .f32⟩
  | .hbm, ⟨31, _⟩ => ⟨S4x1024x1024, .f32⟩
  | .hbm, ⟨32, _⟩ => ⟨S4x1024x1024, .f32⟩
  | .hbm, ⟨33, _⟩ => ⟨S1x1024x1024, .f32⟩
  | .hbm, ⟨34, _⟩ => ⟨S_, .f32⟩
  | .hbm, ⟨35, _⟩ => ⟨S4x1024x1024, .f32⟩
  | .hbm, ⟨36, _⟩ => ⟨S4x1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== MlpUp.lean ====
abbrev S4096x1024 : Shape := ⟨2, ![4096, 1024]⟩
abbrev S4x1024x1024 : Shape := ⟨3, ![4, 1024, 1024]⟩
abbrev S4096x4096 : Shape := ⟨2, ![4096, 4096]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpUpRefIdeal.lean ====
abbrev S4096x1024 : Shape := ⟨2, ![4096, 1024]⟩
abbrev S4x1024x1024 : Shape := ⟨3, ![4, 1024, 1024]⟩
abbrev S1x1024x1024 : Shape := ⟨3, ![1, 1024, 1024]⟩
abbrev S1024x1024 : Shape := ⟨2, ![1024, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .f32⟩
  | .hbm, ⟨3, _⟩ => ⟨S4x1024x1024, .f32⟩
  | .hbm, ⟨4, _⟩ => ⟨S1x1024x1024, .f32⟩
  | .hbm, ⟨5, _⟩ => ⟨S1024x1024, .f32⟩
  | .hbm, ⟨6, _⟩ => ⟨S1x1024x1024, .f32⟩
  | .hbm, ⟨7, _⟩ => ⟨S1024x1024, .f32⟩
  | .hbm, ⟨8, _⟩ => ⟨S1x1024x1024, .f32⟩
  | .hbm, ⟨9, _⟩ => ⟨S1024x1024, .f32⟩
  | .hbm, ⟨10, _⟩ => ⟨S1x1024x1024, .f32⟩
  | .hbm, ⟨11, _⟩ => ⟨S1024x1024, .f32⟩
  | .hbm, ⟨12, _⟩ => ⟨S1024x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_call0_cst : Ref sig .tc := ⟨.hbm, 14, rfl⟩
abbrev main_call0_v0 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== DAct.lean ====
abbrev S4096x4096 : Shape := ⟨2, ![4096, 4096]⟩
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S4096x1024, .bf16⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DActRefIdeal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S4096x1024, .bf16⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== MlpDown.lean ====
abbrev S4096x4096 : Shape := ⟨2, ![4096, 4096]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpDownRefIdeal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 25
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x4096, .f32⟩
  | .hbm, ⟨5, _⟩ => ⟨S4096x4096, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== DWOut.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DWOutRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DWBranch.lean ====
abbrev S4096x512 : Shape := ⟨2, ![4096, 512]⟩
abbrev S4096x1024 : Shape := ⟨2, ![4096, 1024]⟩
abbrev S4x512x256 : Shape := ⟨3, ![4, 512, 256]⟩
abbrev S1024x512 : Shape := ⟨2, ![1024, 512]⟩
abbrev S1024x1024 : Shape := ⟨2, ![1024, 1024]⟩
abbrev S512x1024 : Shape := ⟨2, ![512, 1024]⟩
abbrev S512x256 : Shape := ⟨2, ![512, 256]⟩
abbrev S1x512x256 : Shape := ⟨3, ![1, 512, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4x512x256, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S4x512x256, .f32⟩
  | .local _ .vmem, ⟨5, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S4x512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]
-- ==== DWBranchRefIdeal.lean ====
abbrev S4096x512 : Shape := ⟨2, ![4096, 512]⟩
abbrev S4096x1024 : Shape := ⟨2, ![4096, 1024]⟩
abbrev S_ : Shape := ⟨0, ![]⟩
abbrev S4x512x256 : Shape := ⟨3, ![4, 512, 256]⟩
abbrev S1x512x256 : Shape := ⟨3, ![1, 512, 256]⟩
abbrev S512x256 : Shape := ⟨2, ![512, 256]⟩
abbrev S512x1024 : Shape := ⟨2, ![512, 1024]⟩
abbrev S1024x512 : Shape := ⟨2, ![1024, 512]⟩

abbrev nBuf : Space → Nat
  | .hbm => 37
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S_, .f32⟩
  | .hbm, ⟨3, _⟩ => ⟨S4x512x256, .f32⟩
  | .hbm, ⟨4, _⟩ => ⟨S4096x512, .f32⟩
  | .hbm, ⟨5, _⟩ => ⟨S1x512x256, .f32⟩
  | .hbm, ⟨6, _⟩ => ⟨S512x256, .f32⟩
  | .hbm, ⟨7, _⟩ => ⟨S1x512x256, .f32⟩
  | .hbm, ⟨8, _⟩ => ⟨S512x256, .f32⟩
  | .hbm, ⟨9, _⟩ => ⟨S1x512x256, .f32⟩
  | .hbm, ⟨10, _⟩ => ⟨S512x256, .f32⟩
  | .hbm, ⟨11, _⟩ => ⟨S1x512x256, .f32⟩
  | .hbm, ⟨12, _⟩ => ⟨S512x256, .f32⟩
  | .hbm, ⟨13, _⟩ => ⟨S512x1024, .f32⟩
  | .hbm, ⟨14, _⟩ => ⟨S4096x1024, .f32⟩
  | .hbm, ⟨15, _⟩ => ⟨S4096x1024, .f32⟩
  | .hbm, ⟨16, _⟩ => ⟨S1024x512, .f32⟩
  | .hbm, ⟨17, _⟩ => ⟨S512x1024, .f32⟩
  | .hbm, ⟨18, _⟩ => ⟨S512x256, .f32⟩
  | .hbm, ⟨19, _⟩ => ⟨S512x256, .f32⟩
  | .hbm, ⟨20, _⟩ => ⟨S512x256, .f32⟩
  | .hbm, ⟨21, _⟩ => ⟨S512x256, .f32⟩
  | .hbm, ⟨22, _⟩ => ⟨S1x512x256, .f32⟩
  | .hbm, ⟨23, _⟩ => ⟨S_, .f32⟩
  | .hbm, ⟨24, _⟩ => ⟨S4x512x256, .f32⟩
  | .hbm, ⟨25, _⟩ => ⟨S1x512x256, .f32⟩
  | .hbm, ⟨26, _⟩ => ⟨S_, .f32⟩
  | .hbm, ⟨27, _⟩ => ⟨S4x512x256, .f32⟩
  | .hbm, ⟨28, _⟩ => ⟨S4x512x256, .f32⟩
  | .hbm, ⟨29, _⟩ => ⟨S1x512x256, .f32⟩
  | .hbm, ⟨30, _⟩ => ⟨S_, .f32⟩
  | .hbm, ⟨31, _⟩ => ⟨S4x512x256, .f32⟩
  | .hbm, ⟨32, _⟩ => ⟨S4x512x256, .f32⟩
  | .hbm, ⟨33, _⟩ => ⟨S1x512x256, .f32⟩
  | .hbm, ⟨34, _⟩ => ⟨S_, .f32⟩
  | .hbm, ⟨35, _⟩ => ⟨S4x512x256, .f32⟩
  | .hbm, ⟨36, _⟩ => ⟨S4x512x256, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== DWPle.lean ====
abbrev S4096x256 : Shape := ⟨2, ![4096, 256]⟩
abbrev S4096x1024 : Shape := ⟨2, ![4096, 1024]⟩
abbrev S4x256x256 : Shape := ⟨3, ![4, 256, 256]⟩
abbrev S1024x256 : Shape := ⟨2, ![1024, 256]⟩
abbrev S1024x1024 : Shape := ⟨2, ![1024, 1024]⟩
abbrev S256x1024 : Shape := ⟨2, ![256, 1024]⟩
abbrev S256x256 : Shape := ⟨2, ![256, 256]⟩
abbrev S1x256x256 : Shape := ⟨3, ![1, 256, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x1024, .bf16⟩
  | .hbm, ⟨2, _⟩ => ⟨S4x256x256, .f32⟩
  | .local _ .vmem, ⟨0, _⟩ => ⟨S1024x256, .f32⟩
  | .local _ .vmem, ⟨1, _⟩ => ⟨S1024x256, .f32⟩
  | .local _ .vmem, ⟨2, _⟩ => ⟨S1024x1024, .bf16⟩
  | .local _ .vmem, ⟨3, _⟩ => ⟨S1024x1024, .bf16⟩
  | .local _ .vmem, ⟨4, _⟩ => ⟨S4x256x256, .f32⟩
  | .local _ .vmem, ⟨5, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S4x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]
-- ==== DWPleRefIdeal.lean ====
abbrev S4096x256 : Shape := ⟨2, ![4096, 256]⟩
abbrev S4096x1024 : Shape := ⟨2, ![4096, 1024]⟩
abbrev S_ : Shape := ⟨0, ![]⟩
abbrev S4x256x256 : Shape := ⟨3, ![4, 256, 256]⟩
abbrev S1x256x256 : Shape := ⟨3, ![1, 256, 256]⟩
abbrev S256x256 : Shape := ⟨2, ![256, 256]⟩
abbrev S256x1024 : Shape := ⟨2, ![256, 1024]⟩
abbrev S1024x256 : Shape := ⟨2, ![1024, 256]⟩

abbrev nBuf : Space → Nat
  | .hbm => 36
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1024, .bf16⟩
  | .hbm, ⟨2, _⟩ => ⟨S_, .f32⟩
  | .hbm, ⟨3, _⟩ => ⟨S4x256x256, .f32⟩
  | .hbm, ⟨4, _⟩ => ⟨S1x256x256, .f32⟩
  | .hbm, ⟨5, _⟩ => ⟨S256x256, .f32⟩
  | .hbm, ⟨6, _⟩ => ⟨S1x256x256, .f32⟩
  | .hbm, ⟨7, _⟩ => ⟨S256x256, .f32⟩
  | .hbm, ⟨8, _⟩ => ⟨S1x256x256, .f32⟩
  | .hbm, ⟨9, _⟩ => ⟨S256x256, .f32⟩
  | .hbm, ⟨10, _⟩ => ⟨S1x256x256, .f32⟩
  | .hbm, ⟨11, _⟩ => ⟨S256x256, .f32⟩
  | .hbm, ⟨12, _⟩ => ⟨S256x1024, .f32⟩
  | .hbm, ⟨13, _⟩ => ⟨S4096x1024, .f32⟩
  | .hbm, ⟨14, _⟩ => ⟨S4096x1024, .f32⟩
  | .hbm, ⟨15, _⟩ => ⟨S1024x256, .f32⟩
  | .hbm, ⟨16, _⟩ => ⟨S256x1024, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S1x256x256, .f32⟩
  | .hbm, ⟨22, _⟩ => ⟨S_, .f32⟩
  | .hbm, ⟨23, _⟩ => ⟨S4x256x256, .f32⟩
  | .hbm, ⟨24, _⟩ => ⟨S1x256x256, .f32⟩
  | .hbm, ⟨25, _⟩ => ⟨S_, .f32⟩
  | .hbm, ⟨26, _⟩ => ⟨S4x256x256, .f32⟩
  | .hbm, ⟨27, _⟩ => ⟨S4x256x256, .f32⟩
  | .hbm, ⟨28, _⟩ => ⟨S1x256x256, .f32⟩
  | .hbm, ⟨29, _⟩ => ⟨S_, .f32⟩
  | .hbm, ⟨30, _⟩ => ⟨S4x256x256, .f32⟩
  | .hbm, ⟨31, _⟩ => ⟨S4x256x256, .f32⟩
  | .hbm, ⟨32, _⟩ => ⟨S1x256x256, .f32⟩
  | .hbm, ⟨33, _⟩ => ⟨S_, .f32⟩
  | .hbm, ⟨34, _⟩ => ⟨S4x256x256, .f32⟩
  | .hbm, ⟨35, _⟩ => ⟨S4x256x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_2 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_3 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== ProjQkv.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjQkvRefIdeal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x1024, .f32⟩
  | .hbm, ⟨3, _⟩ => ⟨S1024x3072, .f32⟩
  | .hbm, ⟨4, _⟩ => ⟨S4096x3072, .f32⟩
  | .hbm, ⟨5, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjGate.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjGateRefIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutNorm.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutNormRefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== GateFwd.lean ====
abbrev S4096x2048 : Shape := ⟨2, ![4096, 2048]⟩
abbrev S2x1024 : Shape := ⟨2, ![2, 1024]⟩
abbrev S4096x512 : Shape := ⟨2, ![4096, 512]⟩
abbrev S4x512x256 : Shape := ⟨3, ![4, 512, 256]⟩
abbrev S4096x1024 : Shape := ⟨2, ![4096, 1024]⟩
abbrev S512x1024 : Shape := ⟨2, ![512, 1024]⟩
abbrev S512x512 : Shape := ⟨2, ![512, 512]⟩
abbrev S1x512x256 : Shape := ⟨3, ![1, 512, 256]⟩
abbrev S512x256 : Shape := ⟨2, ![512, 256]⟩
abbrev S1x1024 : Shape := ⟨2, ![1, 1024]⟩

abbrev nBuf : Space → Nat
  | .hbm => 9
  | .vmem => 17
  | .smem => 0
  | _ => 0

abbrev bufTy : (tb : Table) → Fin (tcTables nBuf tb) → BufTy
  | .hbm, ⟨0, _⟩ => ⟨S4096x2048, .f32⟩
  | .hbm, ⟨1, _⟩ => ⟨S2x1024, .f32⟩
  | .hbm, ⟨2, _⟩ => ⟨S4096x512, .bf16⟩
  | .hbm, ⟨3, _⟩ => ⟨S4096x512, .bf16⟩
  | .hbm, ⟨4, _⟩ => ⟨S4x512x256, .bf16⟩
  | .hbm, ⟨5, _⟩ => ⟨S4x512x256, .bf16⟩
  | .hbm, ⟨6, _⟩ => ⟨S4096x1024, .bf16⟩
  | .hbm, ⟨7, _⟩ => ⟨S4096x1024, .f32⟩
  | .hbm, ⟨8, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S2x1024, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S4x512x256, .bf16⟩
  | .local _ .vmem, ⟨10, _⟩ => ⟨S4x512x256, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== GateFwdRefIdeal.lean ====
abbrev S4096x2048 : Shape := ⟨2, ![4096, 2048]⟩
abbrev S2x1024 : Shape := ⟨2, ![2, 1024]⟩
abbrev S4096x512 : Shape := ⟨2, ![4096, 512]⟩
abbrev S4x512x256 : Shape := ⟨3, ![4, 512, 256]⟩
abbrev S1x512x256 : Shape := ⟨3, ![1, 512, 256]⟩
abbrev S512x256 : Shape := ⟨2, ![512, 256]⟩
abbrev S512x1024 : Shape := ⟨2, ![512, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2x1024, .f32⟩
  | .hbm, ⟨2, _⟩ => ⟨S4096x512, .bf16⟩
  | .hbm, ⟨3, _⟩ => ⟨S4096x512, .bf16⟩
  | .hbm, ⟨4, _⟩ => ⟨S4x512x256, .bf16⟩
  | .hbm, ⟨5, _⟩ => ⟨S4x512x256, .bf16⟩
  | .hbm, ⟨6, _⟩ => ⟨S4096x512, .f32⟩
  | .hbm, ⟨7, _⟩ => ⟨S4x512x256, .f32⟩
  | .hbm, ⟨8, _⟩ => ⟨S1x512x256, .f32⟩
  | .hbm, ⟨9, _⟩ => ⟨S512x256, .f32⟩
  | .hbm, ⟨10, _⟩ => ⟨S1x512x256, .f32⟩
  | .hbm, ⟨11, _⟩ => ⟨S512x256, .f32⟩
  | .hbm, ⟨12, _⟩ => ⟨S1x512x256, .f32⟩
  | .hbm, ⟨13, _⟩ => ⟨S512x256, .f32⟩
  | .hbm, ⟨14, _⟩ => ⟨S1x512x256, .f32⟩
  | .hbm, ⟨15, _⟩ => ⟨S512x256, .f32⟩
  | .hbm, ⟨16, _⟩ => ⟨S512x1024, .f32⟩
  | .hbm, ⟨17, _⟩ => ⟨S4096x1024, .f32⟩
  | .hbm, ⟨18, _⟩ => ⟨S4096x512, .f32⟩
  | .hbm, ⟨19, _⟩ => ⟨S4x512x256, .f32⟩
  | .hbm, ⟨20, _⟩ => ⟨S1x512x256, .f32⟩
  | .hbm, ⟨21, _⟩ => ⟨S512x256, .f32⟩
  | .hbm, ⟨22, _⟩ => ⟨S1x512x256, .f32⟩
  | .hbm, ⟨23, _⟩ => ⟨S512x256, .f32⟩
  | .hbm, ⟨24, _⟩ => ⟨S1x512x256, .f32⟩
  | .hbm, ⟨25, _⟩ => ⟨S512x256, .f32⟩
  | .hbm, ⟨26, _⟩ => ⟨S1x512x256, .f32⟩
  | .hbm, ⟨27, _⟩ => ⟨S512x256, .f32⟩
  | .hbm, ⟨28, _⟩ => ⟨S512x1024, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S1x1024, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst : Ref sig .tc := ⟨.hbm, 38, rfl⟩
abbrev main_v32 : Ref sig .tc := ⟨.hbm, 39, rfl⟩
abbrev main_v33 : Ref sig .tc := ⟨.hbm, 40, rfl⟩
abbrev main_cst_0 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_1 : Ref sig .tc := ⟨.hbm, 53, rfl⟩
abbrev main_v45 : Ref sig .tc := ⟨.hbm, 54, rfl⟩
abbrev main_v46 : Ref sig .tc := ⟨.hbm, 55, rfl⟩
abbrev main_cst_2 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩

abbrev nD : Nat := 1
abbrev τ : Topo := Topo.v7x

variable {F : FTy → Type} [FloatOps F]
-- ==== DHMlp.lean ====
abbrev S4096x4096 : Shape := ⟨2, ![4096, 4096]⟩
abbrev S4x1024x1024 : Shape := ⟨3, ![4, 1024, 1024]⟩
abbrev S4096x1024 : Shape := ⟨2, ![4096, 1024]⟩
abbrev S1x1024 : Shape := ⟨2, ![1, 1024]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 22
  | .smem => 0
  | _ => 0

abbrev bufTy : (tb : Table) → Fin (tcTables nBuf tb) → BufTy
  | .hbm, ⟨0, _⟩ => ⟨S4096x4096, .bf16⟩
  | .hbm, ⟨1, _⟩ => ⟨S4x1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .bf16⟩
  | .local _ .vmem, ⟨4, _⟩ => ⟨S512x1024, .bf16⟩
  | .local _ .vmem, ⟨5, _⟩ => ⟨S1x1024x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1024x1024, .bf16⟩
  | .local _ .vmem, ⟨9, _⟩ => ⟨S512x1024, .bf16⟩
  | .local _ .vmem, ⟨10, _⟩ => ⟨S512x1024, .bf16⟩
  | .local _ .vmem, ⟨11, _⟩ => ⟨S1x1024x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== DHMlpRefIdeal.lean ====
abbrev S4096x4096 : Shape := ⟨2, ![4096, 4096]⟩
abbrev S4x1024x1024 : Shape := ⟨3, ![4, 1024, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1x1024x1024 : Shape := ⟨3, ![1, 1024, 1024]⟩
abbrev S1024x1024 : Shape := ⟨2, ![1024, 1024]⟩
abbrev S1024x4096 : Shape := ⟨2, ![1024, 4096]⟩
abbrev S1024 : Shape := ⟨1, ![1024]⟩

abbrev nBuf : Space → Nat
  | .hbm => 62
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4x1024x1024, .f32⟩
  | .hbm, ⟨25, _⟩ => ⟨S1x1024x1024, .f32⟩
  | .hbm, ⟨26, _⟩ => ⟨S1024x1024, .f32⟩
  | .hbm, ⟨27, _⟩ => ⟨S1x1024x1024, .f32⟩
  | .hbm, ⟨28, _⟩ => ⟨S1024x1024, .f32⟩
  | .hbm, ⟨29, _⟩ => ⟨S1x1024x1024, .f32⟩
  | .hbm, ⟨30, _⟩ => ⟨S1024x1024, .f32⟩
  | .hbm, ⟨31, _⟩ => ⟨S1x1024x1024, .f32⟩
  | .hbm, ⟨32, _⟩ => ⟨S1024x1024, .f32⟩
  | .hbm, ⟨33, _⟩ => ⟨S1024x4096, .f32⟩
  | .hbm, ⟨34, _⟩ => ⟨S4096x4096, .f32⟩
  | .hbm, ⟨35, _⟩ => ⟨S4096x4096, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩

abbrev nD : Nat := 1
abbrev τ : Topo := Topo.v7x

variable {F : FTy → Type} [FloatOps F]
-- ==== DHPle.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== DHPleRefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Head.lean ====
abbrev S4096x1024 : Shape := ⟨2, ![4096, 1024]⟩
abbrev S4096x256 : Shape := ⟨2, ![4096, 256]⟩
abbrev S1024x1024 : Shape := ⟨2, ![1024, 1024]⟩
abbrev S4x256x256 : Shape := ⟨3, ![4, 256, 256]⟩
abbrev S1x1024 : Shape := ⟨2, ![1, 1024]⟩
abbrev S1x128 : Shape := ⟨2, ![1, 128]⟩
abbrev S512x1024 : Shape := ⟨2, ![512, 1024]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 12
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x256, .f32⟩
  | .hbm, ⟨3, _⟩ => ⟨S1024x1024, .bf16⟩
  | .hbm, ⟨4, _⟩ => ⟨S4x256x256, .bf16⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | .hbm, ⟨9, _⟩ => ⟨S4096x1024, .bf16⟩
  | .hbm, ⟨10, _⟩ => ⟨S1x1024, .f32⟩
  | .hbm, ⟨11, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x256, .f32⟩
  | .local _ .vmem, ⟨5, _⟩ => ⟨S512x256, .f32⟩
  | .local _ .vmem, ⟨6, _⟩ => ⟨S1024x1024, .bf16⟩
  | .local _ .vmem, ⟨7, _⟩ => ⟨S4x256x256, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== HeadRefIdeal.lean ====
abbrev S4096x1024 : Shape := ⟨2, ![4096, 1024]⟩
abbrev S4096x256 : Shape := ⟨2, ![4096, 256]⟩
abbrev S1024x1024 : Shape := ⟨2, ![1024, 1024]⟩
abbrev S4x256x256 : Shape := ⟨3, ![4, 256, 256]⟩
abbrev S1x1024 : Shape := ⟨2, ![1, 1024]⟩
abbrev S1x256x256 : Shape := ⟨3, ![1, 256, 256]⟩
abbrev S256x256 : Shape := ⟨2, ![256, 256]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 106
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x256, .f32⟩
  | .hbm, ⟨3, _⟩ => ⟨S1024x1024, .bf16⟩
  | .hbm, ⟨4, _⟩ => ⟨S4x256x256, .bf16⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S1024x1024, .f32⟩
  | .hbm, ⟨9, _⟩ => ⟨S4096x1024, .f32⟩
  | .hbm, ⟨10, _⟩ => ⟨S4x256x256, .f32⟩
  | .hbm, ⟨11, _⟩ => ⟨S1x256x256, .f32⟩
  | .hbm, ⟨12, _⟩ => ⟨S256x256, .f32⟩
  | .hbm, ⟨13, _⟩ => ⟨S1x256x256, .f32⟩
  | .hbm, ⟨14, _⟩ => ⟨S256x256, .f32⟩
  | .hbm, ⟨15, _⟩ => ⟨S1x256x256, .f32⟩
  | .hbm, ⟨16, _⟩ => ⟨S256x256, .f32⟩
  | .hbm, ⟨17, _⟩ => ⟨S1x256x256, .f32⟩
  | .hbm, ⟨18, _⟩ => ⟨S256x256, .f32⟩
  | .hbm, ⟨19, _⟩ => ⟨S256x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S_, .f32⟩
  | .hbm, ⟨62, _⟩ => ⟨S4096, .f32⟩
  | .hbm, ⟨63, _⟩ => ⟨S4096, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S4096, .f32⟩
  | .hbm, ⟨72, _⟩ => ⟨S_, .f32⟩
  | .hbm, ⟨73, _⟩ => ⟨S4096, .f32⟩
  | .hbm, ⟨74, _⟩ => ⟨S4096, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S_, .f32⟩
  | .hbm, ⟨85, _⟩ => ⟨S4096, .f32⟩
  | .hbm, ⟨86, _⟩ => ⟨S4096x1, .f32⟩
  | .hbm, ⟨87, _⟩ => ⟨S4096x1024, .f32⟩
  | .hbm, ⟨88, _⟩ => ⟨S4096x1024, .f32⟩
  | .hbm, ⟨89, _⟩ => ⟨S4096x1, .f32⟩
  | .hbm, ⟨90, _⟩ => ⟨S_, .f32⟩
  | .hbm, ⟨91, _⟩ => ⟨S4096x1, .f32⟩
  | .hbm, ⟨92, _⟩ => ⟨S4096x1, .f32⟩
  | .hbm, ⟨93, _⟩ => ⟨S_, .f32⟩
  | .hbm, ⟨94, _⟩ => ⟨S4096, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .bf16⟩
  | .hbm, ⟨104, _⟩ => ⟨S4096x1024, .bf16⟩
  | .hbm, ⟨105, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_cst_11 : Ref sig .tc := ⟨.hbm, 68, rfl⟩
abbrev main_cst_12 : Ref sig .tc := ⟨.hbm, 69, rfl⟩
abbrev main_v49 : Ref sig .tc := ⟨.hbm, 70, rfl⟩
abbrev main_v50 : Ref sig .tc := ⟨.hbm, 71, rfl⟩
abbrev main_cst_13 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_14 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_15 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_16 : Ref sig .tc := ⟨.hbm, 90, rfl⟩
abbrev main_v66 : Ref sig .tc := ⟨.hbm, 91, rfl⟩
abbrev main_v67 : Ref sig .tc := ⟨.hbm, 92, rfl⟩
abbrev main_cst_17 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩

abbrev nD : Nat := 1
abbrev τ : Topo := Topo.v7x

variable {F : FTy → Type} [FloatOps F]
-- ==== ProjForget.lean ====
abbrev S4096x1024 : Shape := ⟨2, ![4096, 1024]⟩
abbrev S1024x128 : Shape := ⟨2, ![1024, 128]⟩
abbrev S4096x128 : Shape := ⟨2, ![4096, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjForgetRefIdeal.lean ====
abbrev S4096x1024 : Shape := ⟨2, ![4096, 1024]⟩
abbrev S1024x128 : Shape := ⟨2, ![1024, 128]⟩
abbrev S4096x128 : Shape := ⟨2, ![4096, 128]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x1024, .f32⟩
  | .hbm, ⟨3, _⟩ => ⟨S1024x128, .f32⟩
  | .hbm, ⟨4, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DWGate.lean ====
abbrev S4096x2048 : Shape := ⟨2, ![4096, 2048]⟩
abbrev S4096x1024 : Shape := ⟨2, ![4096, 1024]⟩
abbrev S16384x128 : Shape := ⟨2, ![16384, 128]⟩
abbrev S1024x1024 : Shape := ⟨2, ![1024, 1024]⟩
abbrev S8192x128 : Shape := ⟨2, ![8192, 128]⟩
abbrev S1024x128 : Shape := ⟨2, ![1024, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S16384x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S8192x128, .f32⟩
  | .local _ .vmem, ⟨5, _⟩ => ⟨S8192x128, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DWGateRefIdeal.lean ====
abbrev S4096x2048 : Shape := ⟨2, ![4096, 2048]⟩
abbrev S4096x1024 : Shape := ⟨2, ![4096, 1024]⟩
abbrev S_ : Shape := ⟨0, ![]⟩
abbrev S1024x2048 : Shape := ⟨2, ![1024, 2048]⟩
abbrev S2048x1024 : Shape := ⟨2, ![2048, 1024]⟩
abbrev S16384x128 : Shape := ⟨2, ![16384, 128]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S2048x1024, .f32⟩
  | .hbm, ⟨10, _⟩ => ⟨S16384x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DWForget.lean ====
abbrev S4096x128 : Shape := ⟨2, ![4096, 128]⟩
abbrev S4096x1024 : Shape := ⟨2, ![4096, 1024]⟩
abbrev S1024x128 : Shape := ⟨2, ![1024, 128]⟩
abbrev S1024x1024 : Shape := ⟨2, ![1024, 1024]⟩
abbrev S128x1024 : Shape := ⟨2, ![128, 1024]⟩
abbrev S128x128 : Shape := ⟨2, ![128, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x128, .bf16⟩
  | .hbm, ⟨1, _⟩ => ⟨S4096x1024, .bf16⟩
  | .hbm, ⟨2, _⟩ => ⟨S1024x128, .f32⟩
  | .local _ .vmem, ⟨0, _⟩ => ⟨S1024x128, .bf16⟩
  | .local _ .vmem, ⟨1, _⟩ => ⟨S1024x128, .bf16⟩
  | .local _ .vmem, ⟨2, _⟩ => ⟨S1024x1024, .bf16⟩
  | .local _ .vmem, ⟨3, _⟩ => ⟨S1024x1024, .bf16⟩
  | .local _ .vmem, ⟨4, _⟩ => ⟨S1024x128, .f32⟩
  | .local _ .vmem, ⟨5, _⟩ => ⟨S128x1024, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]
-- ==== DWForgetRefIdeal.lean ====
abbrev S4096x128 : Shape := ⟨2, ![4096, 128]⟩
abbrev S4096x1024 : Shape := ⟨2, ![4096, 1024]⟩
abbrev S_ : Shape := ⟨0, ![]⟩
abbrev S1024x128 : Shape := ⟨2, ![1024, 128]⟩
abbrev S128x1024 : Shape := ⟨2, ![128, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S4096x1024, .bf16⟩
  | .hbm, ⟨2, _⟩ => ⟨S_, .f32⟩
  | .hbm, ⟨3, _⟩ => ⟨S1024x128, .f32⟩
  | .hbm, ⟨4, _⟩ => ⟨S4096x1024, .f32⟩
  | .hbm, ⟨5, _⟩ => ⟨S4096x128, .f32⟩
  | .hbm, ⟨6, _⟩ => ⟨S4096x128, .f32⟩
  | .hbm, ⟨7, _⟩ => ⟨S128x1024, .f32⟩
  | .hbm, ⟨8, _⟩ => ⟨S1024x128, .f32⟩
  | .hbm, ⟨9, _⟩ => ⟨S128x1024, .f32⟩
  | .hbm, ⟨10, _⟩ => ⟨S1024x128, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== FoxPost.lean ====
abbrev S4096x512 : Shape := ⟨2, ![4096, 512]⟩
abbrev S4096x128 : Shape := ⟨2, ![4096, 128]⟩
abbrev S1x128 : Shape := ⟨2, ![1, 128]⟩
abbrev S2048x512 : Shape := ⟨2, ![2048, 512]⟩
abbrev S2048x128 : Shape := ⟨2, ![2048, 128]⟩
abbrev S512x128 : Shape := ⟨2, ![512, 128]⟩
abbrev S256x256 : Shape := ⟨2, ![256, 256]⟩
abbrev S256x128 : Shape := ⟨2, ![256, 128]⟩
abbrev S256x512 : Shape := ⟨2, ![256, 512]⟩
abbrev S128 : Shape := ⟨1, ![128]⟩

abbrev nBuf : Space → Nat
  | .hbm => 6
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x128, .f32⟩
  | .hbm, ⟨3, _⟩ => ⟨S1x128, .f32⟩
  | .hbm, ⟨4, _⟩ => ⟨S4096x128, .bf16⟩
  | .hbm, ⟨5, _⟩ => ⟨S1x128, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x128, .f32⟩
  | .local _ .vmem, ⟨5, _⟩ => ⟨S2048x128, .f32⟩
  | .local _ .vmem, ⟨6, _⟩ => ⟨S1x128, .f32⟩
  | .local _ .vmem, ⟨7, _⟩ => ⟨S2048x128, .bf16⟩
  | .local _ .vmem, ⟨8, _⟩ => ⟨S2048x128, .bf16⟩
  | .local _ .vmem, ⟨9, _⟩ => ⟨S1x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== FoxPostRefIdeal.lean ====
abbrev S4096x512 : Shape := ⟨2, ![4096, 512]⟩
abbrev S4096x128 : Shape := ⟨2, ![4096, 128]⟩
abbrev S1x128 : Shape := ⟨2, ![1, 128]⟩
abbrev S4096x8 : Shape := ⟨2, ![4096, 8]⟩
abbrev S2x2048x8 : Shape := ⟨3, ![2, 2048, 8]⟩
abbrev S1x8 : Shape := ⟨2, ![1, 8]⟩
abbrev S_ : Shape := ⟨0, ![]⟩
abbrev S8 : Shape := ⟨1, ![8]⟩

abbrev nBuf : Space → Nat
  | .hbm => 80
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x128, .f32⟩
  | .hbm, ⟨3, _⟩ => ⟨S1x128, .f32⟩
  | .hbm, ⟨4, _⟩ => ⟨S4096x512, .f32⟩
  | .hbm, ⟨5, _⟩ => ⟨S4096x8, .f32⟩
  | .hbm, ⟨6, _⟩ => ⟨S2x2048x8, .f32⟩
  | .hbm, ⟨7, _⟩ => ⟨S4096x8, .f32⟩
  | .hbm, ⟨8, _⟩ => ⟨S1x8, .f32⟩
  | .hbm, ⟨9, _⟩ => ⟨S4096x8, .f32⟩
  | .hbm, ⟨10, _⟩ => ⟨S4096x8, .f32⟩
  | .hbm, ⟨11, _⟩ => ⟨S4096x8, .f32⟩
  | .hbm, ⟨12, _⟩ => ⟨S_, .f32⟩
  | .hbm, ⟨13, _⟩ => ⟨S4096x8, .f32⟩
  | .hbm, ⟨14, _⟩ => ⟨S4096x8, .f32⟩
  | .hbm, ⟨15, _⟩ => ⟨S4096x8, .f32⟩
  | .hbm, ⟨16, _⟩ => ⟨S4096x8, .f32⟩
  | .hbm, ⟨17, _⟩ => ⟨S4096x8, .i1⟩
  | .hbm, ⟨18, _⟩ => ⟨S4096x8, .f32⟩
  | .hbm, ⟨19, _⟩ => ⟨S4096x8, .f32⟩
  | .hbm, ⟨20, _⟩ => ⟨S4096x8, .f32⟩
  | .hbm, ⟨21, _⟩ => ⟨S4096x8, .f32⟩
  | .hbm, ⟨22, _⟩ => ⟨S4096x8, .f32⟩
  | .hbm, ⟨23, _⟩ => ⟨S4096x8, .f32⟩
  | .hbm, ⟨24, _⟩ => ⟨S4096x8, .f32⟩
  | .hbm, ⟨25, _⟩ => ⟨S4096x8, .f32⟩
  | .hbm, ⟨26, _⟩ => ⟨S_, .f32⟩
  | .hbm, ⟨27, _⟩ => ⟨S4096x8, .f32⟩
  | .hbm, ⟨28, _⟩ => ⟨S4096x8, .i1⟩
  | .hbm, ⟨29, _⟩ => ⟨S_, .f32⟩
  | .hbm, ⟨30, _⟩ => ⟨S4096x8, .f32⟩
  | .hbm, ⟨31, _⟩ => ⟨S4096x8, .f32⟩
  | .hbm, ⟨32, _⟩ => ⟨S_, .f32⟩
  | .hbm, ⟨33, _⟩ => ⟨S4096x8, .f32⟩
  | .hbm, ⟨34, _⟩ => ⟨S4096x8, .i1⟩
  | .hbm, ⟨35, _⟩ => ⟨S_, .f32⟩
  | .hbm, ⟨36, _⟩ => ⟨S4096x8, .f32⟩
  | .hbm, ⟨37, _⟩ => ⟨S4096x8, .f32⟩
  | .hbm, ⟨38, _⟩ => ⟨S4096x8, .f32⟩
  | .hbm, ⟨39, _⟩ => ⟨S4096x8, .f32⟩
  | .hbm, ⟨40, _⟩ => ⟨S_, .f32⟩
  | .hbm, ⟨41, _⟩ => ⟨S_, .f32⟩
  | .hbm, ⟨42, _⟩ => ⟨S_, .i1⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4096x8, .f32⟩
  | .hbm, ⟨48, _⟩ => ⟨S4096x8, .i1⟩
  | .hbm, ⟨49, _⟩ => ⟨S_, .f32⟩
  | .hbm, ⟨50, _⟩ => ⟨S4096x8, .f32⟩
  | .hbm, ⟨51, _⟩ => ⟨S4096x8, .f32⟩
  | .hbm, ⟨52, _⟩ => ⟨S4096x8, .f32⟩
  | .hbm, ⟨53, _⟩ => ⟨S4096x8, .f32⟩
  | .hbm, ⟨54, _⟩ => ⟨S4096x8, .f32⟩
  | .hbm, ⟨55, _⟩ => ⟨S_, .f32⟩
  | .hbm, ⟨56, _⟩ => ⟨S4096x8, .f32⟩
  | .hbm, ⟨57, _⟩ => ⟨S4096x8, .f32⟩
  | .hbm, ⟨58, _⟩ => ⟨S4096x8, .f32⟩
  | .hbm, ⟨59, _⟩ => ⟨S2x2048x8, .f32⟩
  | .hbm, ⟨60, _⟩ => ⟨S_, .f32⟩
  | .hbm, ⟨61, _⟩ => ⟨S_, .f32⟩
  | .hbm, ⟨62, _⟩ => ⟨S2x2048x8, .f32⟩
  | .hbm, ⟨63, _⟩ => ⟨S_, .f32⟩
  | .hbm, ⟨64, _⟩ => ⟨S_, .f32⟩
  | .hbm, ⟨65, _⟩ => ⟨S2x2048x8, .f32⟩
  | .hbm, ⟨66, _⟩ => ⟨S4096x8, .f32⟩
  | .hbm, ⟨67, _⟩ => ⟨S4096x8, .f32⟩
  | .hbm, ⟨68, _⟩ => ⟨S4096x8, .f32⟩
  | .hbm, ⟨69, _⟩ => ⟨S4096x8, .f32⟩
  | .hbm, ⟨70, _⟩ => ⟨S_, .f32⟩
  | .hbm, ⟨71, _⟩ => ⟨S8, .f32⟩
  | .hbm, ⟨72, _⟩ => ⟨S1x8, .f32⟩
  | .hbm, ⟨73, _⟩ => ⟨S_, .i32⟩
  | .hbm, ⟨74, _⟩ => ⟨S_, .f32⟩
  | .hbm, ⟨75, _⟩ => ⟨S4096x128, .f32⟩
  | .hbm, ⟨76, _⟩ => ⟨S4096x128, .bf16⟩
  | .hbm, ⟨77, _⟩ => ⟨S_, .i32⟩
  | .hbm, ⟨78, _⟩ => ⟨S_, .f32⟩
  | .hbm, ⟨79, _⟩ => ⟨S1x128, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_v1_0 : Ref sig .tc := ⟨.hbm, 25, rfl⟩
abbrev main_call0_call0_cst_0 : Ref sig .tc := ⟨.hbm, 26, rfl⟩
abbrev main_call0_call0_v13 : Ref sig .tc := ⟨.hbm, 27, rfl⟩
abbrev main_call0_call0_v14 : Ref sig .tc := ⟨.hbm, 28, rfl⟩
abbrev main_call0_call0_cst_1 : Ref sig .tc := ⟨.hbm, 29, rfl⟩
abbrev main_call0_call0_v15 : Ref sig .tc := ⟨.hbm, 30, rfl⟩
abbrev main_call0_call0_v16 : Ref sig .tc := ⟨.hbm, 31, rfl⟩
abbrev main_call0_call0_cst_2 : Ref sig .tc := ⟨.hbm, 32, rfl⟩
abbrev main_call0_call0_v17 : Ref sig .tc := ⟨.hbm, 33, rfl⟩
abbrev main_call0_call0_v18 : Ref sig .tc := ⟨.hbm, 34, rfl⟩
abbrev main_call0_call0_cst_3 : Ref sig .tc := ⟨.hbm, 35, rfl⟩
abbrev main_call0_call0_v19 : Ref sig .tc := ⟨.hbm, 36, rfl⟩
abbrev main_call0_call0_v20 : Ref sig .tc := ⟨.hbm, 37, rfl⟩
abbrev main_call0_call0_v21 : Ref sig .tc := ⟨.hbm, 38, rfl⟩
abbrev main_v7_1 : Ref sig .tc := ⟨.hbm, 39, rfl⟩
abbrev main_call0_call0_cst_4 : Ref sig .tc := ⟨.hbm, 40, rfl⟩
abbrev main_call0_call0_cst_5 : Ref sig .tc := ⟨.hbm, 41, rfl⟩
abbrev main_call0_call0_v23 : Ref sig .tc := ⟨.hbm, 42, rfl⟩
abbrev main_call0_call0_cst_6 : Ref sig .tc := ⟨.hbm, 43, rfl⟩
abbrev main_call0_call0_cst_7 : Ref sig .tc := ⟨.hbm, 44, rfl⟩
abbrev main_call0_call0_v24 : Ref sig .tc := ⟨.hbm, 45, rfl⟩
abbrev main_call0_call0_cst_8 : Ref sig .tc := ⟨.hbm, 46, rfl⟩
abbrev main_call0_call0_v25 : Ref sig .tc := ⟨.hbm, 47, rfl⟩
abbrev main_call0_call0_v26 : Ref sig .tc := ⟨.hbm, 48, rfl⟩
abbrev main_call0_call0_cst_9 : Ref sig .tc := ⟨.hbm, 49, rfl⟩
abbrev main_call0_call0_v27 : Ref sig .tc := ⟨.hbm, 50, rfl⟩
abbrev main_call0_call0_v28 : Ref sig .tc := ⟨.hbm, 51, rfl⟩
abbrev main_call0_call0_v29 : Ref sig .tc := ⟨.hbm, 52, rfl⟩
abbrev main_call0_call0_v30 : Ref sig .tc := ⟨.hbm, 53, rfl⟩
abbrev main_call0_call0_v31 : Ref sig .tc := ⟨.hbm, 54, rfl⟩
abbrev main_call0_call0_cst_10 : Ref sig .tc := ⟨.hbm, 55, rfl⟩
abbrev main_call0_call0_v32 : Ref sig .tc := ⟨.hbm, 56, rfl⟩
abbrev main_v7_2 : Ref sig .tc := ⟨.hbm, 57, rfl⟩
abbrev main_v7_0 : Ref sig .tc := ⟨.hbm, 58, rfl⟩
abbrev main_v8 : Ref sig .tc := ⟨.hbm, 59, rfl⟩
abbrev main_call1_call0_cst : Ref sig .tc := ⟨.hbm, 60, rfl⟩
abbrev main_call1_call0_v0 : Ref sig .tc := ⟨.hbm, 61, rfl⟩
abbrev main_v9 : Ref sig .tc := ⟨.hbm, 62, rfl⟩
abbrev main_call2_call0_cst : Ref sig .tc := ⟨.hbm, 63, rfl⟩
abbrev main_call2_call0_v0 : Ref sig .tc := ⟨.hbm, 64, rfl⟩
abbrev main_v10 : Ref sig .tc := ⟨.hbm, 65, rfl⟩
abbrev main_v11 : Ref sig .tc := ⟨.hbm, 66, rfl⟩
abbrev main_call3_v0 : Ref sig .tc := ⟨.hbm, 67, rfl⟩
abbrev main_call3_v1 : Ref sig .tc := ⟨.hbm, 68, rfl⟩
abbrev main_v12 : Ref sig .tc := ⟨.hbm, 69, rfl⟩
abbrev main_cst : Ref sig .tc := ⟨.hbm, 70, rfl⟩
abbrev main_v13 : Ref sig .tc := ⟨.hbm, 71, rfl⟩
abbrev main_v14 : Ref sig .tc := ⟨.hbm, 72, rfl⟩
abbrev main_c : Ref sig .tc := ⟨.hbm, 73, rfl⟩
abbrev main_call4_v0 : Ref sig .tc := ⟨.hbm, 74, rfl⟩
abbrev main_v15 : Ref sig .tc := ⟨.hbm, 75, rfl⟩
abbrev main_v16 : Ref sig .tc := ⟨.hbm, 76, rfl⟩
abbrev main_c_0 : Ref sig .tc := ⟨.hbm, 77, rfl⟩
abbrev main_call5_v0 : Ref sig .tc := ⟨.hbm, 78, rfl⟩
abbrev main_v17 : Ref sig .tc := ⟨.hbm, 79, rfl⟩

abbrev nD : Nat := 1
abbrev τ : Topo := Topo.v7x

variable {F : FTy → Type} [FloatOps F]
-- ==== FoxPrep.lean ====
abbrev S4096x128 : Shape := ⟨2, ![4096, 128]⟩
abbrev S1x128 : Shape := ⟨2, ![1, 128]⟩
abbrev S4096x512 : Shape := ⟨2, ![4096, 512]⟩
abbrev S16x2048 : Shape := ⟨2, ![16, 2048]⟩
abbrev S2048x128 : Shape := ⟨2, ![2048, 128]⟩
abbrev S2048x512 : Shape := ⟨2, ![2048, 512]⟩
abbrev S8x2048 : Shape := ⟨2, ![8, 2048]⟩
abbrev S256x128 : Shape := ⟨2, ![256, 128]⟩
abbrev S256x256 : Shape := ⟨2, ![256, 256]⟩
abbrev S128x512 : Shape := ⟨2, ![128, 512]⟩
abbrev S1x512 : Shape := ⟨2, ![1, 512]⟩
abbrev S128x1 : Shape := ⟨2, ![128, 1]⟩
abbrev S256x512 : Shape := ⟨2, ![256, 512]⟩
abbrev S128x256 : Shape := ⟨2, ![128, 256]⟩
abbrev S8x256 : Shape := ⟨2, ![8, 256]⟩

abbrev nBuf : Space → Nat
  | .hbm => 4
  | .vmem => 7
  | .smem => 0
  | _ => 0

abbrev bufTy : (tb : Table) → Fin (tcTables nBuf tb) → BufTy
  | .hbm, ⟨0, _⟩ => ⟨S4096x128, .f32⟩
  | .hbm, ⟨1, _⟩ => ⟨S1x128, .f32⟩
  | .hbm, ⟨2, _⟩ => ⟨S4096x512, .f32⟩
  | .hbm, ⟨3, _⟩ => ⟨S16x2048, .f32⟩
  | .local _ .vmem, ⟨0, _⟩ => ⟨S2048x128, .f32⟩
  | .local _ .vmem, ⟨1, _⟩ => ⟨S2048x128, .f32⟩
  | .local _ .vmem, ⟨2, _⟩ => ⟨S1x128, .f32⟩
  | .local _ .vmem, ⟨3, _⟩ => ⟨S2048x512, .f32⟩
  | .local _ .vmem, ⟨4, _⟩ => ⟨S2048x512, .f32⟩
  | .local _ .vmem, ⟨5, _⟩ => ⟨S8x2048, .f32⟩
  | .local _ .vmem, ⟨6, _⟩ => ⟨S8x2048, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FoxPrepRefIdeal.lean ====
abbrev S4096x128 : Shape := ⟨2, ![4096, 128]⟩
abbrev S1x128 : Shape := ⟨2, ![1, 128]⟩
abbrev S4096x8 : Shape := ⟨2, ![4096, 8]⟩
abbrev S1x8 : Shape := ⟨2, ![1, 8]⟩
abbrev S_ : Shape := ⟨0, ![]⟩
abbrev S2x2048x8 : Shape := ⟨3, ![2, 2048, 8]⟩
abbrev S2x8x2048 : Shape := ⟨3, ![2, 8, 2048]⟩
abbrev S4096x8x64 : Shape := ⟨3, ![4096, 8, 64]⟩
abbrev S4096x512 : Shape := ⟨2, ![4096, 512]⟩
abbrev S16x2048 : Shape := ⟨2, ![16, 2048]⟩

abbrev nBuf : Space → Nat
  | .hbm => 32
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S1x128, .f32⟩
  | .hbm, ⟨2, _⟩ => ⟨S4096x8, .f32⟩
  | .hbm, ⟨3, _⟩ => ⟨S1x8, .f32⟩
  | .hbm, ⟨4, _⟩ => ⟨S4096x8, .f32⟩
  | .hbm, ⟨5, _⟩ => ⟨S4096x8, .f32⟩
  | .hbm, ⟨6, _⟩ => ⟨S4096x8, .f32⟩
  | .hbm, ⟨7, _⟩ => ⟨S_, .f32⟩
  | .hbm, ⟨8, _⟩ => ⟨S4096x8, .f32⟩
  | .hbm, ⟨9, _⟩ => ⟨S4096x8, .f32⟩
  | .hbm, ⟨10, _⟩ => ⟨S4096x8, .f32⟩
  | .hbm, ⟨11, _⟩ => ⟨S4096x8, .f32⟩
  | .hbm, ⟨12, _⟩ => ⟨S4096x8, .i1⟩
  | .hbm, ⟨13, _⟩ => ⟨S4096x8, .f32⟩
  | .hbm, ⟨14, _⟩ => ⟨S4096x8, .f32⟩
  | .hbm, ⟨15, _⟩ => ⟨S4096x8, .f32⟩
  | .hbm, ⟨16, _⟩ => ⟨S4096x8, .f32⟩
  | .hbm, ⟨17, _⟩ => ⟨S4096x8, .f32⟩
  | .hbm, ⟨18, _⟩ => ⟨S4096x8, .f32⟩
  | .hbm, ⟨19, _⟩ => ⟨S4096x8, .f32⟩
  | .hbm, ⟨20, _⟩ => ⟨S4096x8, .f32⟩
  | .hbm, ⟨21, _⟩ => ⟨S4096x8, .f32⟩
  | .hbm, ⟨22, _⟩ => ⟨S2x2048x8, .f32⟩
  | .hbm, ⟨23, _⟩ => ⟨S2x8x2048, .f32⟩
  | .hbm, ⟨24, _⟩ => ⟨S_, .f32⟩
  | .hbm, ⟨25, _⟩ => ⟨S_, .f32⟩
  | .hbm, ⟨26, _⟩ => ⟨S2x8x2048, .f32⟩
  | .hbm, ⟨27, _⟩ => ⟨S2x2048x8, .f32⟩
  | .hbm, ⟨28, _⟩ => ⟨S4096x8, .f32⟩
  | .hbm, ⟨29, _⟩ => ⟨S4096x8x64, .f32⟩
  | .hbm, ⟨30, _⟩ => ⟨S4096x512, .f32⟩
  | .hbm, ⟨31, _⟩ => ⟨S16x2048, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_call1_call0_cst : Ref sig .tc := ⟨.hbm, 24, rfl⟩
abbrev main_call1_call0_v0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== AdamVec.lean ====
abbrev S8x1024 : Shape := ⟨2, ![8, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamVecRefIdeal.lean ====
abbrev S8x1024 : Shape := ⟨2, ![8, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S_, .f32⟩
  | .hbm, ⟨16, _⟩ => ⟨S8x1024, .f32⟩
  | .hbm, ⟨17, _⟩ => ⟨S8x1024, .f32⟩
  | .hbm, ⟨18, _⟩ => ⟨S8x1024, .f32⟩
  | .hbm, ⟨19, _⟩ => ⟨S_, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S8x1024, .f32⟩
  | .hbm, ⟨26, _⟩ => ⟨S_, .f32⟩
  | .hbm, ⟨27, _⟩ => ⟨S8x1024, .f32⟩
  | .hbm, ⟨28, _⟩ => ⟨S8x1024, .f32⟩
  | .hbm, ⟨29, _⟩ => ⟨S8x1024, .f32⟩
  | .hbm, ⟨30, _⟩ => ⟨S_, .f32⟩
  | .hbm, ⟨31, _⟩ => ⟨S8x1024, .f32⟩
  | .hbm, ⟨32, _⟩ => ⟨S8x1024, .f32⟩
  | .hbm, ⟨33, _⟩ => ⟨S8x1024, .f32⟩
  | .hbm, ⟨34, _⟩ => ⟨S_, .f32⟩
  | .hbm, ⟨35, _⟩ => ⟨S8x1024, .f32⟩
  | .hbm, ⟨36, _⟩ => ⟨S8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBig.lean ====
abbrev S2 : Shape := ⟨1, ![2]⟩
abbrev S1024x1024 : Shape := ⟨2, ![1024, 1024]⟩
abbrev S512x1024 : Shape := ⟨2, ![512, 1024]⟩
abbrev S1 : Shape := ⟨1, ![1]⟩

abbrev nBuf : Space → Nat
  | .hbm => 9
  | .vmem => 16
  | .smem => 1
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S512x1024, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .smem, ⟨0, _⟩ => ⟨S2, .i32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let v3 : BitVec 32 := Scalar.extui v2
  let c0_i32_0 : BitVec 32 := 0#32
  let v4 : BitVec 1 := Scalar.cmpi .ne v3 c0_i32_0
  v4

def cc0_transform_0 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c1 : Index := 1#32
  let v3 : BitVec 32 := pf.at 0 (Rect.unit (s := S2) ![1] S1.size inb_S2_S1_1) numel1_S1
  let v4 : BitVec 32 := Scalar.addi v3 v2
  let c1_1 : Index := 1#32
  let v5 : BitVec 32 := pf.at 0 (Rect.unit (s := S2) ![1] S1.size inb_S2_S1_1) numel1_S1
  let c2_i32 : BitVec 32 := 2#32
  let v6 : BitVec 32 := Scalar.muli c2_i32 v5
  let v7 : BitVec 32 := Scalar.muli v6 v2
  let v8 : BitVec 32 := Scalar.subi v4 v7
  let c0_i32_2 : BitVec 32 := 0#32
  let c0_i32_3 : BitVec 32 := 0#32
  ![v8.toNat, c0_i32_2.toNat]

def cc0_transform_1 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c1 : Index := 1#32
  let v3 : BitVec 32 := pf.at 0 (Rect.unit (s := S2) ![1] S1.size inb_S2_S1_1) numel1_S1
  let v4 : BitVec 32 := Scalar.addi v3 v2
  let c1_1 : Index := 1#32
  let v5 : BitVec 32 := pf.at 0 (Rect.unit (s := S2) ![1] S1.size inb_S2_S1_1) numel1_S1
  let c2_i32 : BitVec 32 := 2#32
  let v6 : BitVec 32 := Scalar.muli c2_i32 v5
  let v7 : BitVec 32 := Scalar.muli v6 v2
  let v8 : BitVec 32 := Scalar.subi v4 v7
  let c0_i32_2 : BitVec 32 := 0#32
  let c0_i32_3 : BitVec 32 := 0#32
  ![v8.toNat, c0_i32_2.toNat]

def cc0_transform_2 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c1 : Index := 1#32
  let v3 : BitVec 32 := pf.at 0 (Rect.unit (s := S2) ![1] S1.size inb_S2_S1_1) numel1_S1
  let v4 : BitVec 32 := Scalar.addi v3 v2
  let c1_1 : Index := 1#32
  let v5 : BitVec 32 := pf.at 0 (Rect.unit (s := S2) ![1] S1.size inb_S2_S1_1) numel1_S1
  let c2_i32 : BitVec 32 := 2#32
  let v6 : BitVec 32 := Scalar.muli c2_i32 v5
  let v7 : BitVec 32 := Scalar.muli v6 v2
  let v8 : BitVec 32 := Scalar.subi v4 v7
  let c0_i32_2 : BitVec 32 := 0#32
  let c0_i32_3 : BitVec 32 := 0#32
  ![v8.toNat, c0_i32_2.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, c0_i32_2.toNat]

def cc0_transform_4 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, c0_i32_2.toNat]

def cc0_transform_5 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c1 : Index := 1#32
  let v3 : BitVec 32 := pf.at 0 (Rect.unit (s := S2) ![1] S1.size inb_S2_S1_1) numel1_S1
  let v4 : BitVec 32 := Scalar.addi v3 v2
  let c1_1 : Index := 1#32
  let v5 : BitVec 32 := pf.at 0 (Rect.unit (s := S2) ![1] S1.size inb_S2_S1_1) numel1_S1
  let c2_i32 : BitVec 32 := 2#32
  let v6 : BitVec 32 := Scalar.muli c2_i32 v5
  let v7 : BitVec 32 := Scalar.muli v6 v2
  let v8 : BitVec 32 := Scalar.subi v4 v7
  let c0_i32_2 : BitVec 32 := 0#32
  let c0_i32_3 : BitVec 32 := 0#32
  ![v8.toNat, c0_i32_2.toNat]

def cc0_transform_6 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c1 : Index := 1#32
  let v3 : BitVec 32 := pf.at 0 (Rect.unit (s := S2) ![1] S1.size inb_S2_S1_1) numel1_S1
  let v4 : BitVec 32 := Scalar.addi v3 v2
  let c1_1 : Index := 1#32
  let v5 : BitVec 32 := pf.at 0 (Rect.unit (s := S2) ![1] S1.size inb_S2_S1_1) numel1_S1
  let c2_i32 : BitVec 32 := 2#32
  let v6 : BitVec 32 := Scalar.muli c2_i32 v5
  let v7 : BitVec 32 := Scalar.muli v6 v2
  let v8 : BitVec 32 := Scalar.subi v4 v7
  let c0_i32_2 : BitVec 32 := 0#32
  let c0_i32_3 : BitVec 32 := 0#32
  ![v8.toNat, c0_i32_2.toNat]

def cc0_transform_7 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c1 : Index := 1#32
  let v3 : BitVec 32 := pf.at 0 (Rect.unit (s := S2) ![1] S1.size inb_S2_S1_1) numel1_S1
  let v4 : BitVec 32 := Scalar.addi v3 v2
  let c1_1 : Index := 1#32
  let v5 : BitVec 32 := pf.at 0 (Rect.unit (s := S2) ![1] S1.size inb_S2_S1_1) numel1_S1
  let c2_i32 : BitVec 32 := 2#32
  let v6 : BitVec 32 := Scalar.muli c2_i32 v5
  let v7 : BitVec 32 := Scalar.muli v6 v2
  let v8 : BitVec 32 := Scalar.subi v4 v7
  let c0_i32_2 : BitVec 32 := 0#32
  let c0_i32_3 : BitVec 32 := 0#32
  ![v8.toNat, c0_i32_2.toNat]

def cc0_transform_8 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c1 : Index := 1#32
  let v3 : BitVec 32 := pf.at 0 (Rect.unit (s := S2) ![1] S1.size inb_S2_S1_1) numel1_S1
  let v4 : BitVec 32 := Scalar.addi v3 v2
  let c1_1 : Index := 1#32
  let v5 : BitVec 32 := pf.at 0 (Rect.unit (s := S2) ![1] S1.size inb_S2_S1_1) numel1_S1
  let c2_i32 : BitVec 32 := 2#32
  let v6 : BitVec 32 := Scalar.muli c2_i32 v5
  let v7 : BitVec 32 := Scalar.muli v6 v2
  let v8 : BitVec 32 := Scalar.subi v4 v7
  let c0_i32_2 : BitVec 32 := 0#32
  let c0_i32_3 : BitVec 32 := 0#32
  ![v8.toNat, c0_i32_2.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamBigRefIdeal.lean ====
abbrev S2 : Shape := ⟨1, ![2]⟩
abbrev S1024x1024 : Shape := ⟨2, ![1024, 1024]⟩
abbrev S512x1024 : Shape := ⟨2, ![512, 1024]⟩
abbrev S1 : Shape := ⟨1, ![1]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S2, .i32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S512x1024, .f32⟩
  | .hbm, ⟨5, _⟩ => ⟨S512x1024, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S_, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S_, .f32⟩
  | .hbm, ⟨32, _⟩ => ⟨S1024x1024, .f32⟩
  | .hbm, ⟨33, _⟩ => ⟨S1024x1024, .f32⟩
  | .hbm, ⟨34, _⟩ => ⟨S1024x1024, .f32⟩
  | .hbm, ⟨35, _⟩ => ⟨S_, .f32⟩
  | .hbm, ⟨36, _⟩ => ⟨S1024x1024, .f32⟩
  | .hbm, ⟨37, _⟩ => ⟨S1024x1024, .f32⟩
  | .hbm, ⟨38, _⟩ => ⟨S1024x1024, .f32⟩
  | .hbm, ⟨39, _⟩ => ⟨S_, .f32⟩
  | .hbm, ⟨40, _⟩ => ⟨S1024x1024, .f32⟩
  | .hbm, ⟨41, _⟩ => ⟨S1024x1024, .f32⟩
  | .hbm, ⟨42, _⟩ => ⟨S1024x1024, .f32⟩
  | .hbm, ⟨43, _⟩ => ⟨S_, .f32⟩
  | .hbm, ⟨44, _⟩ => ⟨S1024x1024, .f32⟩
  | .hbm, ⟨45, _⟩ => ⟨S1024x1024, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== AdamIn.lean ====
abbrev S2 : Shape := ⟨1, ![2]⟩
abbrev S10256x128 : Shape := ⟨2, ![10256, 128]⟩
abbrev S5128x128 : Shape := ⟨2, ![5128, 128]⟩
abbrev S1 : Shape := ⟨1, ![1]⟩

abbrev nBuf : Space → Nat
  | .hbm => 9
  | .vmem => 16
  | .smem => 1
  | _ => 0

abbrev bufTy : (tb : Table) → Fin (tcTables nBuf tb) → BufTy
  | .hbm, ⟨0, _⟩ => ⟨S10256x128, .f32⟩
  | .hbm, ⟨1, _⟩ => ⟨S10256x128, .f32⟩
  | .hbm, ⟨2, _⟩ => ⟨S10256x128, .f32⟩
  | .hbm, ⟨3, _⟩ => ⟨S5128x128, .f32⟩
  | .hbm, ⟨4, _⟩ => ⟨S5128x128, .f32⟩
  | .hbm, ⟨5, _⟩ => ⟨S10256x128, .f32⟩
  | .hbm, ⟨6, _⟩ => ⟨S10256x128, .f32⟩
  | .hbm, ⟨7, _⟩ => ⟨S10256x128, .f32⟩
  | .hbm, ⟨8, _⟩ => ⟨S10256x128, .f32⟩
  | .local _ .vmem, ⟨0, _⟩ => ⟨S5128x128, .f32⟩
  | .local _ .vmem, ⟨1, _⟩ => ⟨S5128x128, .f32⟩
  | .local _ .vmem, ⟨2, _⟩ => ⟨S5128x128, .f32⟩
  | .local _ .vmem, ⟨3, _⟩ => ⟨S5128x128, .f32⟩
  | .local _ .vmem, ⟨4, _⟩ => ⟨S5128x128, .f32⟩
  | .local _ .vmem, ⟨5, _⟩ => ⟨S5128x128, .f32⟩
  | .local _ .vmem, ⟨6, _⟩ => ⟨S5128x128, .f32⟩
  | .local _ .vmem, ⟨7, _⟩ => ⟨S5128x128, .f32⟩
  | .local _ .vmem, ⟨8, _⟩ => ⟨S5128x128, .f32⟩
  | .local _ .vmem, ⟨9, _⟩ => ⟨S5128x128, .f32⟩
  | .local _ .vmem, ⟨10, _⟩ => ⟨S5128x128, .f32⟩
  | .local _ .vmem, ⟨11, _⟩ => ⟨S5128x128, .f32⟩
  | .local _ .vmem, ⟨12, _⟩ => ⟨S5128x128, .f32⟩
  | .local _ .vmem, ⟨13, _⟩ => ⟨S5128x128, .f32⟩
  | .local _ .vmem, ⟨14, _⟩ => ⟨S5128x128, .f32⟩
  | .local _ .vmem, ⟨15, _⟩ => ⟨S5128x128, .f32⟩
  | .local _ .smem, ⟨0, _⟩ => ⟨S2, .i32⟩
  | _, _ => ⟨S10256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let v3 : BitVec 32 := Scalar.extui v2
  let c0_i32_0 : BitVec 32 := 0#32
  let v4 : BitVec 1 := Scalar.cmpi .ne v3 c0_i32_0
  v4

def cc0_transform_0 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c1 : Index := 1#32
  let v3 : BitVec 32 := pf.at 0 (Rect.unit (s := S2) ![1] S1.size inb_S2_S1_1) numel1_S1
  let v4 : BitVec 32 := Scalar.addi v3 v2
  let c1_1 : Index := 1#32
  let v5 : BitVec 32 := pf.at 0 (Rect.unit (s := S2) ![1] S1.size inb_S2_S1_1) numel1_S1
  let c2_i32 : BitVec 32 := 2#32
  let v6 : BitVec 32 := Scalar.muli c2_i32 v5
  let v7 : BitVec 32 := Scalar.muli v6 v2
  let v8 : BitVec 32 := Scalar.subi v4 v7
  let c0_i32_2 : BitVec 32 := 0#32
  let c0_i32_3 : BitVec 32 := 0#32
  ![v8.toNat, c0_i32_2.toNat]

def cc0_transform_1 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c1 : Index := 1#32
  let v3 : BitVec 32 := pf.at 0 (Rect.unit (s := S2) ![1] S1.size inb_S2_S1_1) numel1_S1
  let v4 : BitVec 32 := Scalar.addi v3 v2
  let c1_1 : Index := 1#32
  let v5 : BitVec 32 := pf.at 0 (Rect.unit (s := S2) ![1] S1.size inb_S2_S1_1) numel1_S1
  let c2_i32 : BitVec 32 := 2#32
  let v6 : BitVec 32 := Scalar.muli c2_i32 v5
  let v7 : BitVec 32 := Scalar.muli v6 v2
  let v8 : BitVec 32 := Scalar.subi v4 v7
  let c0_i32_2 : BitVec 32 := 0#32
  let c0_i32_3 : BitVec 32 := 0#32
  ![v8.toNat, c0_i32_2.toNat]

def cc0_transform_2 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c1 : Index := 1#32
  let v3 : BitVec 32 := pf.at 0 (Rect.unit (s := S2) ![1] S1.size inb_S2_S1_1) numel1_S1
  let v4 : BitVec 32 := Scalar.addi v3 v2
  let c1_1 : Index := 1#32
  let v5 : BitVec 32 := pf.at 0 (Rect.unit (s := S2) ![1] S1.size inb_S2_S1_1) numel1_S1
  let c2_i32 : BitVec 32 := 2#32
  let v6 : BitVec 32 := Scalar.muli c2_i32 v5
  let v7 : BitVec 32 := Scalar.muli v6 v2
  let v8 : BitVec 32 := Scalar.subi v4 v7
  let c0_i32_2 : BitVec 32 := 0#32
  let c0_i32_3 : BitVec 32 := 0#32
  ![v8.toNat, c0_i32_2.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, c0_i32_2.toNat]

def cc0_transform_4 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, c0_i32_2.toNat]

def cc0_transform_5 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c1 : Index := 1#32
  let v3 : BitVec 32 := pf.at 0 (Rect.unit (s := S2) ![1] S1.size inb_S2_S1_1) numel1_S1
  let v4 : BitVec 32 := Scalar.addi v3 v2
  let c1_1 : Index := 1#32
  let v5 : BitVec 32 := pf.at 0 (Rect.unit (s := S2) ![1] S1.size inb_S2_S1_1) numel1_S1
  let c2_i32 : BitVec 32 := 2#32
  let v6 : BitVec 32 := Scalar.muli c2_i32 v5
  let v7 : BitVec 32 := Scalar.muli v6 v2
  let v8 : BitVec 32 := Scalar.subi v4 v7
  let c0_i32_2 : BitVec 32 := 0#32
  let c0_i32_3 : BitVec 32 := 0#32
  ![v8.toNat, c0_i32_2.toNat]

def cc0_transform_6 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c1 : Index := 1#32
  let v3 : BitVec 32 := pf.at 0 (Rect.unit (s := S2) ![1] S1.size inb_S2_S1_1) numel1_S1
  let v4 : BitVec 32 := Scalar.addi v3 v2
  let c1_1 : Index := 1#32
  let v5 : BitVec 32 := pf.at 0 (Rect.unit (s := S2) ![1] S1.size inb_S2_S1_1) numel1_S1
  let c2_i32 : BitVec 32 := 2#32
  let v6 : BitVec 32 := Scalar.muli c2_i32 v5
  let v7 : BitVec 32 := Scalar.muli v6 v2
  let v8 : BitVec 32 := Scalar.subi v4 v7
  let c0_i32_2 : BitVec 32 := 0#32
  let c0_i32_3 : BitVec 32 := 0#32
  ![v8.toNat, c0_i32_2.toNat]

def cc0_transform_7 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c1 : Index := 1#32
  let v3 : BitVec 32 := pf.at 0 (Rect.unit (s := S2) ![1] S1.size inb_S2_S1_1) numel1_S1
  let v4 : BitVec 32 := Scalar.addi v3 v2
  let c1_1 : Index := 1#32
  let v5 : BitVec 32 := pf.at 0 (Rect.unit (s := S2) ![1] S1.size inb_S2_S1_1) numel1_S1
  let c2_i32 : BitVec 32 := 2#32
  let v6 : BitVec 32 := Scalar.muli c2_i32 v5
  let v7 : BitVec 32 := Scalar.muli v6 v2
  let v8 : BitVec 32 := Scalar.subi v4 v7
  let c0_i32_2 : BitVec 32 := 0#32
  let c0_i32_3 : BitVec 32 := 0#32
  ![v8.toNat, c0_i32_2.toNat]

def cc0_transform_8 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c1 : Index := 1#32
  let v3 : BitVec 32 := pf.at 0 (Rect.unit (s := S2) ![1] S1.size inb_S2_S1_1) numel1_S1
  let v4 : BitVec 32 := Scalar.addi v3 v2
  let c1_1 : Index := 1#32
  let v5 : BitVec 32 := pf.at 0 (Rect.unit (s := S2) ![1] S1.size inb_S2_S1_1) numel1_S1
  let c2_i32 : BitVec 32 := 2#32
  let v6 : BitVec 32 := Scalar.muli c2_i32 v5
  let v7 : BitVec 32 := Scalar.muli v6 v2
  let v8 : BitVec 32 := Scalar.subi v4 v7
  let c0_i32_2 : BitVec 32 := 0#32
  let c0_i32_3 : BitVec 32 := 0#32
  ![v8.toNat, c0_i32_2.toNat]

abbrev stage0_0 : Fin 2 → Memref sig .tc .vmem S5128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInRefIdeal.lean ====
abbrev S2 : Shape := ⟨1, ![2]⟩
abbrev S10256x128 : Shape := ⟨2, ![10256, 128]⟩
abbrev S5128x128 : Shape := ⟨2, ![5128, 128]⟩
abbrev S1 : Shape := ⟨1, ![1]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S2, .i32⟩
  | .hbm, ⟨1, _⟩ => ⟨S10256x128, .f32⟩
  | .hbm, ⟨2, _⟩ => ⟨S10256x128, .f32⟩
  | .hbm, ⟨3, _⟩ => ⟨S10256x128, .f32⟩
  | .hbm, ⟨4, _⟩ => ⟨S5128x128, .f32⟩
  | .hbm, ⟨5, _⟩ => ⟨S5128x128, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S10256x128, .f32⟩
  | .hbm, ⟨11, _⟩ => ⟨S10256x128, .f32⟩
  | .hbm, ⟨12, _⟩ => ⟨S10256x128, .f32⟩
  | .hbm, ⟨13, _⟩ => ⟨S_, .f32⟩
  | .hbm, ⟨14, _⟩ => ⟨S10256x128, .f32⟩
  | .hbm, ⟨15, _⟩ => ⟨S10256x128, .f32⟩
  | .hbm, ⟨16, _⟩ => ⟨S_, .f32⟩
  | .hbm, ⟨17, _⟩ => ⟨S10256x128, .f32⟩
  | .hbm, ⟨18, _⟩ => ⟨S10256x128, .f32⟩
  | .hbm, ⟨19, _⟩ => ⟨S10256x128, .f32⟩
  | .hbm, ⟨20, _⟩ => ⟨S_, .f32⟩
  | .hbm, ⟨21, _⟩ => ⟨S10256x128, .f32⟩
  | .hbm, ⟨22, _⟩ => ⟨S10256x128, .f32⟩
  | .hbm, ⟨23, _⟩ => ⟨S10256x128, .f32⟩
  | .hbm, ⟨24, _⟩ => ⟨S_, .f32⟩
  | .hbm, ⟨25, _⟩ => ⟨S10256x128, .f32⟩
  | .hbm, ⟨26, _⟩ => ⟨S10256x128, .f32⟩
  | .hbm, ⟨27, _⟩ => ⟨S10256x128, .f32⟩
  | .hbm, ⟨28, _⟩ => ⟨S_, .f32⟩
  | .hbm, ⟨29, _⟩ => ⟨S10256x128, .f32⟩
  | .hbm, ⟨30, _⟩ => ⟨S10256x128, .f32⟩
  | .hbm, ⟨31, _⟩ => ⟨S_, .f32⟩
  | .hbm, ⟨32, _⟩ => ⟨S10256x128, .f32⟩
  | .hbm, ⟨33, _⟩ => ⟨S10256x128, .f32⟩
  | .hbm, ⟨34, _⟩ => ⟨S10256x128, .f32⟩
  | .hbm, ⟨35, _⟩ => ⟨S_, .f32⟩
  | .hbm, ⟨36, _⟩ => ⟨S10256x128, .f32⟩
  | .hbm, ⟨37, _⟩ => ⟨S10256x128, .f32⟩
  | .hbm, ⟨38, _⟩ => ⟨S10256x128, .f32⟩
  | .hbm, ⟨39, _⟩ => ⟨S_, .f32⟩
  | .hbm, ⟨40, _⟩ => ⟨S10256x128, .f32⟩
  | .hbm, ⟨41, _⟩ => ⟨S10256x128, .f32⟩
  | .hbm, ⟨42, _⟩ => ⟨S10256x128, .f32⟩
  | .hbm, ⟨43, _⟩ => ⟨S_, .f32⟩
  | .hbm, ⟨44, _⟩ => ⟨S10256x128, .f32⟩
  | .hbm, ⟨45, _⟩ => ⟨S10256x128, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== SumSibling.lean ====
abbrev S2 : Shape := ⟨1, ![2]⟩
abbrev S4x10256x128 : Shape := ⟨3, ![4, 10256, 128]⟩
abbrev S4x5128x128 : Shape := ⟨3, ![4, 5128, 128]⟩
abbrev S1x5128x128 : Shape := ⟨3, ![1, 5128, 128]⟩
abbrev S1 : Shape := ⟨1, ![1]⟩
abbrev S5128x128 : Shape := ⟨2, ![5128, 128]⟩

abbrev nBuf : Space → Nat
  | .hbm => 3
  | .vmem => 6
  | .smem => 1
  | _ => 0

abbrev bufTy : (tb : Table) → Fin (tcTables nBuf tb) → BufTy
  | .hbm, ⟨0, _⟩ => ⟨S4x10256x128, .f32⟩
  | .hbm, ⟨1, _⟩ => ⟨S4x5128x128, .f32⟩
  | .hbm, ⟨2, _⟩ => ⟨S4x5128x128, .bf16⟩
  | .local _ .vmem, ⟨0, _⟩ => ⟨S1x5128x128, .f32⟩
  | .local _ .vmem, ⟨1, _⟩ => ⟨S1x5128x128, .f32⟩
  | .local _ .vmem, ⟨2, _⟩ => ⟨S1x5128x128, .f32⟩
  | .local _ .vmem, ⟨3, _⟩ => ⟨S1x5128x128, .f32⟩
  | .local _ .vmem, ⟨4, _⟩ => ⟨S1x5128x128, .bf16⟩
  | .local _ .vmem, ⟨5, _⟩ => ⟨S1x5128x128, .bf16⟩
  | .local _ .smem, ⟨0, _⟩ => ⟨S2, .i32⟩
  | _, _ => ⟨S4x10256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c4_i32 : BitVec 32 := 4#32
  let v1 : BitVec 1 := Scalar.cmpi .slt arg0 c4_i32
  let v2 : BitVec 1 := Scalar.andi v0 v1
  let v3 : BitVec 32 := Scalar.extui v2
  let c0_i32_0 : BitVec 32 := 0#32
  let v4 : BitVec 1 := Scalar.cmpi .ne v3 c0_i32_0
  v4

def cc0_transform_0 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c1 : Index := 1#32
  let v3 : BitVec 32 := pf.at 0 (Rect.unit (s := S2) ![1] S1.size inb_S2_S1_1) numel1_S1
  let c0_i32_1 : BitVec 32 := 0#32
  let c0_i32_2 : BitVec 32 := 0#32
  ![v2.toNat, v3.toNat, c0_i32_1.toNat]

def cc0_transform_1 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  let c0_i32_3 : BitVec 32 := 0#32
  ![v2.toNat, c0_i32_1.toNat, c0_i32_2.toNat]

def cc0_transform_2 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  let c0_i32_3 : BitVec 32 := 0#32
  ![v2.toNat, c0_i32_1.toNat, c0_i32_2.toNat]

abbrev stage0_0 : Fin 2 → Memref sig .tc .vmem S1x5128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x5128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x5128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumSiblingRefIdeal.lean ====
abbrev S2 : Shape := ⟨1, ![2]⟩
abbrev S4x10256x128 : Shape := ⟨3, ![4, 10256, 128]⟩
abbrev S4x5128x128 : Shape := ⟨3, ![4, 5128, 128]⟩
abbrev S1 : Shape := ⟨1, ![1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S2, .i32⟩
  | .hbm, ⟨1, _⟩ => ⟨S4x10256x128, .f32⟩
  | .hbm, ⟨2, _⟩ => ⟨S4x5128x128, .f32⟩
  | .hbm, ⟨3, _⟩ => ⟨S1, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S4x5128x128, .f32⟩
  | .hbm, ⟨8, _⟩ => ⟨S4x5128x128, .f32⟩
  | .hbm, ⟨9, _⟩ => ⟨S4x5128x128, .f32⟩
  | .hbm, ⟨10, _⟩ => ⟨S4x5128x128, .f32⟩
  | .hbm, ⟨11, _⟩ => ⟨S4x5128x128, .bf16⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== SumChips.lean ====
abbrev S2 : Shape := ⟨1, ![2]⟩
abbrev S4x10256x128 : Shape := ⟨3, ![4, 10256, 128]⟩
abbrev S4x5128x128 : Shape := ⟨3, ![4, 5128, 128]⟩
abbrev S3x5128x128 : Shape := ⟨3, ![3, 5128, 128]⟩
abbrev S5128x128 : Shape := ⟨2, ![5128, 128]⟩
abbrev S1x5128x128 : Shape := ⟨3, ![1, 5128, 128]⟩
abbrev S1 : Shape := ⟨1, ![1]⟩

abbrev nBuf : Space → Nat
  | .hbm => 4
  | .vmem => 4
  | .smem => 1
  | _ => 0

abbrev bufTy : (tb : Table) → Fin (tcTables nBuf tb) → BufTy
  | .hbm, ⟨0, _⟩ => ⟨S4x10256x128, .f32⟩
  | .hbm, ⟨1, _⟩ => ⟨S4x5128x128, .f32⟩
  | .hbm, ⟨2, _⟩ => ⟨S3x5128x128, .bf16⟩
  | .hbm, ⟨3, _⟩ => ⟨S5128x128, .f32⟩
  | .local _ .vmem, ⟨0, _⟩ => ⟨S1x5128x128, .f32⟩
  | .local _ .vmem, ⟨1, _⟩ => ⟨S1x5128x128, .f32⟩
  | .local _ .vmem, ⟨2, _⟩ => ⟨S3x5128x128, .bf16⟩
  | .local _ .vmem, ⟨3, _⟩ => ⟨S5128x128, .f32⟩
  | .local _ .smem, ⟨0, _⟩ => ⟨S2, .i32⟩
  | _, _ => ⟨S4x10256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c1_i32 : BitVec 32 := 1#32
  let v1 : BitVec 1 := Scalar.cmpi .slt arg0 c1_i32
  let v2 : BitVec 1 := Scalar.andi v0 v1
  let v3 : BitVec 32 := Scalar.extui v2
  let c0_i32_0 : BitVec 32 := 0#32
  let v4 : BitVec 1 := Scalar.cmpi .ne v3 c0_i32_0
  v4

def cc0_transform_0 (inb_S2_S1_0 : ∀ a, (![0] : Fin 1 → Nat) a + S1.size a ≤ S2.size a) (numel1_S1 : S1.numel = 1) (inb_S2_S1_1 : ∀ a, (![1] : Fin 1 → Nat) a + S1.size a ≤ S2.size a) (pf : pre0.Contents (Elt F)) (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0 : Index := 0#32
  let v3 : BitVec 32 := pf.at 0 (Rect.unit (s := S2) ![0] S1.size inb_S2_S1_0) numel1_S1
  let c1 : Index := 1#32
  let v4 : BitVec 32 := pf.at 0 (Rect.unit (s := S2) ![1] S1.size inb_S2_S1_1) numel1_S1
  let c0_i32_2 : BitVec 32 := 0#32
  let c0_i32_3 : BitVec 32 := 0#32
  ![v3.toNat, v4.toNat, c0_i32_2.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0 : Index := 0#32
  let v3 : BitVec 32 := pf.at 0 (Rect.unit (s := S2) ![0] S1.size inb_S2_S1_0) numel1_S1
  let c0_i32_2 : BitVec 32 := 0#32
  let c0_i32_3 : BitVec 32 := 0#32
  let c0_i32_4 : BitVec 32 := 0#32
  ![v3.toNat, c0_i32_2.toNat, c0_i32_3.toNat]

def cc0_transform_2 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  let c0_i32_5 : BitVec 32 := 0#32
  ![c0_i32_2.toNat, c0_i32_3.toNat, c0_i32_4.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, c0_i32_3.toNat]

abbrev stage0_0 : Fin 1 → Memref sig .tc .vmem S1x5128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x5128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x5128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== SumChipsRefIdeal.lean ====
abbrev S2 : Shape := ⟨1, ![2]⟩
abbrev S4x10256x128 : Shape := ⟨3, ![4, 10256, 128]⟩
abbrev S4x5128x128 : Shape := ⟨3, ![4, 5128, 128]⟩
abbrev S3x5128x128 : Shape := ⟨3, ![3, 5128, 128]⟩
abbrev S1 : Shape := ⟨1, ![1]⟩
abbrev S_ : Shape := ⟨0, ![]⟩
abbrev S1x5128x128 : Shape := ⟨3, ![1, 5128, 128]⟩
abbrev S5128x128 : Shape := ⟨2, ![5128, 128]⟩

abbrev nBuf : Space → Nat
  | .hbm => 62
  | .vmem => 0
  | .smem => 0
  | _ => 0

abbrev bufTy : (tb : Table) → Fin (tcTables nBuf tb) → BufTy
  | .hbm, ⟨0, _⟩ => ⟨S2, .i32⟩
  | .hbm, ⟨1, _⟩ => ⟨S4x10256x128, .f32⟩
  | .hbm, ⟨2, _⟩ => ⟨S4x5128x128, .f32⟩
  | .hbm, ⟨3, _⟩ => ⟨S3x5128x128, .bf16⟩
  | .hbm, ⟨4, _⟩ => ⟨S1, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S4x5128x128, .f32⟩
  | .hbm, ⟨9, _⟩ => ⟨S4x5128x128, .f32⟩
  | .hbm, ⟨10, _⟩ => ⟨S4x5128x128, .f32⟩
  | .hbm, ⟨11, _⟩ => ⟨S1, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S1x5128x128, .f32⟩
  | .hbm, ⟨16, _⟩ => ⟨S5128x128, .f32⟩
  | .hbm, ⟨17, _⟩ => ⟨S_, .i32⟩
  | .hbm, ⟨18, _⟩ => ⟨S_, .i1⟩
  | .hbm, ⟨19, _⟩ => ⟨S1x5128x128, .f32⟩
  | .hbm, ⟨20, _⟩ => ⟨S5128x128, .f32⟩
  | .hbm, ⟨21, _⟩ => ⟨S_, .i32⟩
  | .hbm, ⟨22, _⟩ => ⟨S_, .i1⟩
  | .hbm, ⟨23, _⟩ => ⟨S1x5128x128, .f32⟩
  | .hbm, ⟨24, _⟩ => ⟨S5128x128, .f32⟩
  | .hbm, ⟨25, _⟩ => ⟨S1x5128x128, .f32⟩
  | .hbm, ⟨26, _⟩ => ⟨S5128x128, .f32⟩
  | .hbm, ⟨27, _⟩ => ⟨S5128x128, .f32⟩
  | .hbm, ⟨28, _⟩ => ⟨S5128x128, .f32⟩
  | .hbm, ⟨29, _⟩ => ⟨S5128x128, .f32⟩
  | .hbm, ⟨30, _⟩ => ⟨S1, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S1x5128x128, .f32⟩
  | .hbm, ⟨35, _⟩ => ⟨S5128x128, .f32⟩
  | .hbm, ⟨36, _⟩ => ⟨S_, .i32⟩
  | .hbm, ⟨37, _⟩ => ⟨S_, .i1⟩
  | .hbm, ⟨38, _⟩ => ⟨S1x5128x128, .f32⟩
  | .hbm, ⟨39, _⟩ => ⟨S5128x128, .f32⟩
  | .hbm, ⟨40, _⟩ => ⟨S_, .i32⟩
  | .hbm, ⟨41, _⟩ => ⟨S_, .i1⟩
  | .hbm, ⟨42, _⟩ => ⟨S1x5128x128, .f32⟩
  | .hbm, ⟨43, _⟩ => ⟨S5128x128, .f32⟩
  | .hbm, ⟨44, _⟩ => ⟨S1x5128x128, .f32⟩
  | .hbm, ⟨45, _⟩ => ⟨S5128x128, .f32⟩
  | .hbm, ⟨46, _⟩ => ⟨S5128x128, .f32⟩
  | .hbm, ⟨47, _⟩ => ⟨S5128x128, .f32⟩
  | .hbm, ⟨48, _⟩ => ⟨S5128x128, .f32⟩
  | .hbm, ⟨49, _⟩ => ⟨S5128x128, .f32⟩
  | .hbm, ⟨50, _⟩ => ⟨S1x5128x128, .bf16⟩
  | .hbm, ⟨51, _⟩ => ⟨S5128x128, .bf16⟩
  | .hbm, ⟨52, _⟩ => ⟨S5128x128, .f32⟩
  | .hbm, ⟨53, _⟩ => ⟨S5128x128, .f32⟩
  | .hbm, ⟨54, _⟩ => ⟨S1x5128x128, .bf16⟩
  | .hbm, ⟨55, _⟩ => ⟨S5128x128, .bf16⟩
  | .hbm, ⟨56, _⟩ => ⟨S5128x128, .f32⟩
  | .hbm, ⟨57, _⟩ => ⟨S5128x128, .f32⟩
  | .hbm, ⟨58, _⟩ => ⟨S1x5128x128, .bf16⟩
  | .hbm, ⟨59, _⟩ => ⟨S5128x128, .bf16⟩
  | .hbm, ⟨60, _⟩ => ⟨S5128x128, .f32⟩
  | .hbm, ⟨61, _⟩ => ⟨S5128x128, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩

abbrev nD : Nat := 1
abbrev τ : Topo := Topo.v7x

variable {F : FTy → Type} [FloatOps F]
-- ==== Proof.Spec.lean ====
module
public import Idealize.ShloMosaic.PureOps.Ideal
public import Idealize.ShloMosaic.Lib.Pointwise

@[expose] public section

noncomputable section

/-! # What the calls compute, as functions of whole arrays over the extended reals

No program is named here: each definition is the mathematics of one gradient, read at coordinates. The kernels' result
arrays (`Proof/Gate.lean`, …) and the references' (`Proof/GateRef.lean`, …) are both shown to be these. -/

namespace Cert.Spec

open Idealize.ShloMosaic

/-- An array of two axes and one of three, over the extended reals. -/
abbrev A2 (a b : Nat) := (⟨2, ![a, b]⟩ : Shape).Idx → EReal
abbrev A3 (a b c : Nat) := (⟨3, ![a, b, c]⟩ : Shape).Idx → EReal

/-- A sum over the rows of an array cut into `n` blocks of `k`. -/
theorem sum_rows (n k : Nat) (g : Fin (n * k) → EReal) : ∑ r : Fin (n * k), g r
    = ∑ t : Fin n, ∑ r : Fin k, g ⟨t.val * k + r.val, by
        calc t.val * k + r.val < t.val * k + k := by omega
          _ = (t.val + 1) * k := by ring
          _ ≤ n * k := Nat.mul_le_mul_right k t.isLt⟩ := by
  rw [← Fintype.sum_prod_type', ← finProdFinEquiv.sum_comp]
  refine Finset.sum_congr rfl fun p _ => congrArg g (Fin.ext ?_)
  show p.2.val + k * p.1.val = p.1.val * k + p.2.val
  ring

/-- A sum over 1024 columns as the sums over four shards of 256. -/
theorem sum_shards (g : Fin 1024 → EReal) : ∑ j : Fin 1024, g j
    = ∑ j : Fin 256, g ⟨j.val, by omega⟩ + ∑ j : Fin 256, g ⟨256 + j.val, by omega⟩
      + ∑ j : Fin 256, g ⟨512 + j.val, by omega⟩ + ∑ j : Fin 256, g ⟨768 + j.val, by omega⟩ := by
  rw [sum_rows 4 256 g, Fin.sum_univ_four]
  refine congrArg₂ _ (congrArg₂ _ (congrArg₂ _ ?_ ?_) ?_) ?_ <;>
    exact Finset.sum_congr rfl fun j _ => congrArg g (Fin.ext (by simp))

/-- The constants of the programs, as numbers. -/
theorem two : Ideal.ofBits .f32 0x40000000#32 = 2 := by
  simp [Ideal.ofBits, Ideal.ieee, -EReal.coe_mul]; norm_num; rfl

/-! ## Matrix products -/

section Products

variable {m k n s : Nat}

/-- `a @ b`, `a @ bᵀ` and `aᵀ @ b`. -/
def mm (a : A2 m k) (b : A2 k n) : A2 m n := fun i => ∑ q : Fin k, a (ix2 (i 0) q) * b (ix2 q (i 1))
def mmT (a : A2 m k) (b : A2 n k) : A2 m n := fun i => ∑ q : Fin k, a (ix2 (i 0) q) * b (ix2 (i 1) q)
def tmm (a : A2 k m) (b : A2 k n) : A2 m n := fun i => ∑ q : Fin k, a (ix2 q (i 0)) * b (ix2 q (i 1))

/-- An array squared entry by entry, and its positive part. -/
def sq (a : A2 m k) : A2 m k := fun i => a i * a i
def relu (a : A2 m k) : A2 m k := fun i => max (a i) 0

/-- The gradient of `relu(u)²` times `w`, back to `u`: `d` the gradient of the product. -/
def dRelu2 (u : A2 m k) (w : A2 k n) (d : A2 m n) : A2 m k := fun i => mmT d w i * (2 * relu u i)

/-- Four column shards side by side, and an array's four column shards. -/
def columns (hs : 0 < s) (hn : n = 4 * s) (w : A3 4 k s) : A2 k n := fun i =>
  w (ix3 ⟨(i 1).val / s, (Nat.div_lt_iff_lt_mul hs).mpr (hn ▸ (i 1).isLt)⟩ (i 0) ⟨(i 1).val % s, Nat.mod_lt _ hs⟩)
def shards (hn : n = 4 * s) (a : A2 k n) : A3 4 k s := fun i =>
  a (ix2 (i 1) ⟨(i 0).val * s + (i 2).val, by
    have h0 : (i 0).val < 4 := (i 0).isLt
    have h2 : (i 2).val < s := (i 2).isLt
    calc (i 0).val * s + (i 2).val < (i 0).val * s + s := by omega
      _ = ((i 0).val + 1) * s := by ring
      _ ≤ 4 * s := Nat.mul_le_mul_right s h0
      _ = n := hn.symm⟩)

/-- A product with four column shards of 256, one shard's columns after the other. -/
theorem mm_columns (a : A2 m k) (w : A3 4 k 256) (r : Fin m) (j : Fin 1024) :
    mm a (columns (by decide) rfl w) (ix2 r j)
      = if h : j.val < 256 then ∑ q : Fin k, a (ix2 r q) * w (ix3 0 q ⟨j.val, h⟩)
        else if h : j.val - 256 < 256 then ∑ q : Fin k, a (ix2 r q) * w (ix3 1 q ⟨j.val - 256, h⟩)
        else if h : j.val - 256 - 256 < 256 then ∑ q : Fin k, a (ix2 r q) * w (ix3 2 q ⟨j.val - 256 - 256, h⟩)
        else ∑ q : Fin k, a (ix2 r q) * w (ix3 3 q ⟨j.val - 256 - 256 - 256, by omega⟩) := by
  have e (p : Fin 4) (q : Fin k) (l : Fin 256) (h : j.val = p.val * 256 + l.val) :
      a (ix2 r q) * columns (n := 1024) (by decide) rfl w (ix2 q j) = a (ix2 r q) * w (ix3 p q l) := by
    unfold columns
    rw [show (⟨(ix2 q j 1).val / 256, _⟩ : Fin 4) = p from Fin.ext (by show j.val / 256 = _; omega),
      show (⟨(ix2 q j 1).val % 256, _⟩ : Fin 256) = l from Fin.ext (by show j.val % 256 = _; omega)]
    rfl
  unfold mm
  split_ifs with h0 h1 h2
  · exact Finset.sum_congr rfl fun q _ => e 0 q _ (by simp)
  · exact Finset.sum_congr rfl fun q _ => e 1 q _ (by simp; omega)
  · exact Finset.sum_congr rfl fun q _ => e 2 q _ (by simp; omega)
  · exact Finset.sum_congr rfl fun q _ => e 3 q _ (by simp; omega)

end Products

/-! ## RMSNorm -/

section Norm

variable {m n : Nat}

/-- The two constants of the norm as the programs have them: the row length 1024, and the ε under the root. -/
def len : EReal := Ideal.ofBits .f32 0x44800000#32
def eps : EReal := Ideal.ofBits .f32 0x358637BD#32

/-- The reciprocal root of row `r`'s mean square. -/
def rstd (x : A2 m n) (r : Fin m) : EReal := Ideal.rsqrt (Ideal.div (∑ j : Fin n, x (ix2 r j) * x (ix2 r j)) len + eps)

/-- The rows normalised and scaled by `g`. -/
def norm (x : A2 m n) (g : A2 1 n) : A2 m n := fun i => x i * rstd x (i 0) * g (ix2 0 (i 1))

/-- The residual sum `x + a @ b`. -/
def resid {k : Nat} (x : A2 m n) (a : A2 m k) (b : A2 k n) : A2 m n := fun i => x i + mm a b i

end Norm

/-! ## The gated merge `σ(gl₀ + b₀)·o_fox + σ(gl₁ + b₁)·o_sb` and the output projection behind it -/

section Gate

variable (gl : A2 4096 2048) (b : A2 2 1024) (dx : A2 4096 1024) (w : A2 1024 1024)

/-- The gradient of the merged branches: the residual gradient times the transposed output projection. -/
def dMerged (r : Fin 4096) (j : Fin 1024) : EReal := ∑ k : Fin 1024, dx (ix2 r k) * w (ix2 j k)

/-- Gate `h` of the merge (0 forgetting attention, 1 stick-breaking attention). -/
def gate (h : Fin 2) (r : Fin 4096) (j : Fin 1024) : EReal :=
  Ideal.logistic (gl (ix2 r ⟨1024 * h.val + j.val, by omega⟩) + b (ix2 h j))

/-- The gradient of branch `h`'s merged output. -/
def dBranch (h : Fin 2) (r : Fin 4096) (j : Fin 1024) : EReal := dMerged dx w r j * gate gl b h r j

/-- The gradient of gate `h`'s logit, `o` the branch's output. -/
def dLogit (h : Fin 2) (o : A2 4096 1024) (r : Fin 4096) (j : Fin 1024) : EReal :=
  dMerged dx w r j * o (ix2 r j) * gate gl b h r j * (1 - gate gl b h r j)

/-- The merge itself, of the branches' projected outputs. -/
def merge (o0 o1 : A2 4096 1024) : A2 4096 1024 := fun i =>
  gate gl b 0 (i 0) (i 1) * o0 i + gate gl b 1 (i 0) (i 1) * o1 i

/-- The gradient of a branch's output as an array. -/
def gateDo (h : Fin 2) : A2 4096 1024 := fun i => dBranch gl b dx w h (i 0) (i 1)

/-- The gradient of the gate's logits: the two branches side by side. -/
def gateDgl (o0 o1 : A2 4096 1024) : A2 4096 2048 := fun i =>
  if h : (i 1).val < 1024 then dLogit gl b dx w 0 o0 (i 0) ⟨(i 1).val, h⟩
  else dLogit gl b dx w 1 o1 (i 0) ⟨(i 1).val - 1024, by have h1 : (i 1).val < 2048 := (i 1).isLt; omega⟩

/-- The gradient of the gate's bias: the logits' gradients summed over the tokens. -/
def gateDb (o0 o1 : A2 4096 1024) : A2 2 1024 := fun i =>
  if (i 0).val = 0 then ∑ r : Fin 4096, dLogit gl b dx w 0 o0 r (i 1)
  else ∑ r : Fin 4096, dLogit gl b dx w 1 o1 r (i 1)

/-- The gradient of the attention's output of branch `h`, back through the branch's own projection `wb`, which lies as
    four column shards of 256. -/
def gateDattn (h : Fin 2) (wb : A3 4 512 256) : A2 4096 512 := fun i =>
  ∑ j : Fin 1024, dBranch gl b dx w h (i 0) j
    * wb (ix3 ⟨j.val / 256, by omega⟩ (i 1) ⟨j.val % 256, by omega⟩)

/-- The same, one shard of the projection after the other. -/
theorem gateDattn_shards (h : Fin 2) (wb : A3 4 512 256) (i : (⟨2, ![4096, 512]⟩ : Shape).Idx) :
    gateDattn gl b dx w h wb i
      = ∑ j : Fin 256, dBranch gl b dx w h (i 0) ⟨j.val, by omega⟩ * wb (ix3 0 (i 1) j)
        + ∑ j : Fin 256, dBranch gl b dx w h (i 0) ⟨256 + j.val, by omega⟩ * wb (ix3 1 (i 1) j)
        + ∑ j : Fin 256, dBranch gl b dx w h (i 0) ⟨512 + j.val, by omega⟩ * wb (ix3 2 (i 1) j)
        + ∑ j : Fin 256, dBranch gl b dx w h (i 0) ⟨768 + j.val, by omega⟩ * wb (ix3 3 (i 1) j) := by
  unfold gateDattn
  rw [sum_shards]
  have e (k : Fin 4) (j : Fin 256) (q : Fin 1024) (hq : q.val = 256 * k.val + j.val) :
      wb (ix3 ⟨q.val / 256, by omega⟩ (i 1) ⟨q.val % 256, by omega⟩) = wb (ix3 k (i 1) j) := by
    rw [show (⟨q.val / 256, by omega⟩ : Fin 4) = k from Fin.ext (by show q.val / 256 = _; omega),
      show (⟨q.val % 256, by omega⟩ : Fin 256) = j from Fin.ext (by show q.val % 256 = _; omega)]
  refine congrArg₂ _ (congrArg₂ _ (congrArg₂ _ ?_ ?_) ?_) ?_
  · exact Finset.sum_congr rfl fun j _ => congrArg _ (e 0 j _ (by show j.val = 256 * 0 + j.val; omega))
  · exact Finset.sum_congr rfl fun j _ => congrArg _ (e 1 j _ rfl)
  · exact Finset.sum_congr rfl fun j _ => congrArg _ (e 2 j _ rfl)
  · exact Finset.sum_congr rfl fun j _ => congrArg _ (e 3 j _ rfl)

end Gate

end Cert.Spec

end
-- ==== Proof.Gate.lean ====
module

public import proofs.«01_k».proof.Proof.Gen.KernelIdeal.Value
public import Idealize.ShloMosaic.Lib.Pipeline.ValueKit
public import Idealize.ShloMosaic.Lib.Pointwise
public import Idealize.ShloMosaic.Lib.Pipeline.ReadBack
public import proofs.«01_k».proof.Proof.Spec

@[expose] public section

set_option maxRecDepth 16384

noncomputable section

namespace Cert.KernelIdeal.Gate

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Argument `k` of device `c`. -/
abbrev A0 : Spec.A2 4096 2048 := m ((c : Thread nD τ).loc main_arg0)
abbrev A1 : Spec.A2 2 1024 := m ((c : Thread nD τ).loc main_arg1)
abbrev A2 : Spec.A2 4096 1024 := m ((c : Thread nD τ).loc main_arg2)
abbrev A3 : Spec.A2 4096 1024 := m ((c : Thread nD τ).loc main_arg3)
abbrev A4 : Spec.A2 4096 1024 := m ((c : Thread nD τ).loc main_arg4)
abbrev A5 : Spec.A2 1024 1024 := m ((c : Thread nD τ).loc main_arg5)
abbrev A6 : Spec.A3 4 512 256 := m ((c : Thread nD τ).loc main_arg6)
abbrev A7 : Spec.A3 4 512 256 := m ((c : Thread nD τ).loc main_arg7)

/-- The windows' blocks by the grid point. -/
theorem idx (t : Fin cfg0.N) : win0_0.index t = ![t.val, 0] ∧ win0_1.index t = ![t.val, 1] ∧ win0_2.index t = ![0, 0]
    ∧ win0_3.index t = ![t.val, 0] ∧ win0_4.index t = ![t.val, 0] ∧ win0_5.index t = ![t.val, 0]
    ∧ win0_6.index t = ![0, 0] ∧ win0_7.index t = ![0, 0, 0] ∧ win0_8.index t = ![0, 0, 0] ∧ win0_9.index t = ![t.val, 0]
    ∧ win0_10.index t = ![t.val, 0] ∧ win0_11.index t = ![t.val, 0] ∧ win0_12.index t = ![0, 0]
    ∧ win0_13.index t = ![t.val, 0] ∧ win0_14.index t = ![t.val, 0] :=
  (by decide +kernel : ∀ t : Fin cfg0.N, win0_0.index t = ![t.val, 0] ∧ win0_1.index t = ![t.val, 1]
    ∧ win0_2.index t = ![0, 0] ∧ win0_3.index t = ![t.val, 0] ∧ win0_4.index t = ![t.val, 0] ∧ win0_5.index t = ![t.val, 0]
    ∧ win0_6.index t = ![0, 0] ∧ win0_7.index t = ![0, 0, 0] ∧ win0_8.index t = ![0, 0, 0] ∧ win0_9.index t = ![t.val, 0]
    ∧ win0_10.index t = ![t.val, 0] ∧ win0_11.index t = ![t.val, 0] ∧ win0_12.index t = ![0, 0]
    ∧ win0_13.index t = ![t.val, 0] ∧ win0_14.index t = ![t.val, 0]) t

/-- Row `r` of point `t`'s block of 512 rows. -/
abbrev row (t : Fin cfg0.N) (r : Fin 512) : Fin 4096 :=
  ⟨t.val * 512 + r.val, by have := t.isLt; have : cfg0.N = 8 := N_0; omega⟩

/-! ## The blocks of the operands read as the whole arrays -/

theorem b0 (t : Fin cfg0.N) (x : S512x1024.Idx) :
    (iblk m c 0 t : S512x1024.Idx → EReal) x = A0 m c (ix2 (row t (x 0)) ⟨1024 * (0 : Fin 2).val + (x 1).val, by have : (x 1).val < 1024 := (x 1).isLt; simp; omega⟩) := by
  blk_ext [iblk, V, idx t]
theorem b1 (t : Fin cfg0.N) (x : S512x1024.Idx) :
    (iblk m c 1 t : S512x1024.Idx → EReal) x = A0 m c (ix2 (row t (x 0)) ⟨1024 * (1 : Fin 2).val + (x 1).val, by have : (x 1).val < 1024 := (x 1).isLt; simp; omega⟩) := by
  blk_ext [iblk, V, idx t]
theorem b2 (t : Fin cfg0.N) (x : S2x1024.Idx) : (iblk m c 2 t : S2x1024.Idx → EReal) x = A1 m c x := by
  blk_ext [iblk, V, idx t]
theorem b3 (t : Fin cfg0.N) (x : S512x1024.Idx) :
    (iblk m c 3 t : S512x1024.Idx → EReal) x = A2 m c (ix2 (row t (x 0)) (x 1)) := by
  blk_ext [iblk, V, idx t]
theorem b4 (t : Fin cfg0.N) (x : S512x1024.Idx) :
    (iblk m c 4 t : S512x1024.Idx → EReal) x = A3 m c (ix2 (row t (x 0)) (x 1)) := by
  blk_ext [iblk, V, idx t]
theorem b5 (t : Fin cfg0.N) (x : S512x1024.Idx) :
    (iblk m c 5 t : S512x1024.Idx → EReal) x = A4 m c (ix2 (row t (x 0)) (x 1)) := by
  blk_ext [iblk, V, idx t]
theorem b6 (t : Fin cfg0.N) (x : S1024x1024.Idx) : (iblk m c 6 t : S1024x1024.Idx → EReal) x = A5 m c x := by
  blk_ext [iblk, V, idx t]
theorem b7 (t : Fin cfg0.N) (x : S4x512x256.Idx) : (iblk m c 7 t : S4x512x256.Idx → EReal) x = A6 m c x := by
  blk_ext [iblk, V, idx t]
theorem b8 (t : Fin cfg0.N) (x : S4x512x256.Idx) : (iblk m c 8 t : S4x512x256.Idx → EReal) x = A7 m c x := by
  blk_ext [iblk, V, idx t]

/-! ## The gradients of the branches' outputs -/

theorem out9 : (dats m 0 c).arrAt 9 cfg0.N = Spec.gateDo (A0 m c) (A1 m c) (A4 m c) (A5 m c) 0 := by
  refine (dats m 0 c).arrAt_eq_of_covers 9 _ (by decide +kernel) fun t hf y => ?_
  have e : ((cfg0.win 9).blk t).view.emb y = ix2 (row t (y 0)) (y 1) := by blk_ext [idx t]
  rw [e]
  blk_simp
  rw [after0_9]
  by_cases h0 : t.val % 8 = 0
  · rw [outsAt0_A m c t h0]
    frame_out
    pointwise [k0_pay4, k0_pay1, k0_pay2]
    rw [b0 m c t y]
    simp only [b2, b5, b6]
    rfl
  · rw [outsAt0_B m c t h0]
    frame_out
    pointwise [k0_pay4, k0_pay1, k0_pay2]
    rw [b0 m c t y]
    simp only [b2, b5, b6]
    rfl

theorem out10 : (dats m 0 c).arrAt 10 cfg0.N = Spec.gateDo (A0 m c) (A1 m c) (A4 m c) (A5 m c) 1 := by
  refine (dats m 0 c).arrAt_eq_of_covers 10 _ (by decide +kernel) fun t hf y => ?_
  have e : ((cfg0.win 10).blk t).view.emb y = ix2 (row t (y 0)) (y 1) := by blk_ext [idx t]
  rw [e]
  blk_simp
  rw [after0_10]
  by_cases h0 : t.val % 8 = 0
  · rw [outsAt0_A m c t h0]
    frame_out
    pointwise [k0_pay5, k0_pay1, k0_pay3]
    rw [b1 m c t y]
    simp only [b2, b5, b6]
    rfl
  · rw [outsAt0_B m c t h0]
    frame_out
    pointwise [k0_pay5, k0_pay1, k0_pay3]
    rw [b1 m c t y]
    simp only [b2, b5, b6]
    rfl

/-! ## The gradient of the gate's logits: the two column halves of a block are two stores -/

theorem dgl_left (t : Fin cfg0.N) (x : S512x1024.Idx) (r : Fin 512) (j : Fin 2048) (h0 : r.val = (x 0).val)
    (h1 : j.val = (x 1).val) :
    Spec.gateDgl (A0 m c) (A1 m c) (A4 m c) (A5 m c) (A2 m c) (A3 m c) (ix2 (row t r) j)
      = Spec.dLogit (A0 m c) (A1 m c) (A4 m c) (A5 m c) 0 (A2 m c) (row t (x 0)) (x 1) := by
  have hx : (x 1).val < 1024 := (x 1).isLt
  have er : r = x 0 := Fin.ext h0
  have ej : j = ⟨(x 1).val, by omega⟩ := Fin.ext h1
  rw [er, ej]
  unfold Spec.gateDgl
  exact dif_pos hx

theorem dgl_right (t : Fin cfg0.N) (x : S512x1024.Idx) (r : Fin 512) (j : Fin 2048) (h0 : r.val = (x 0).val)
    (h1 : j.val = 1024 + (x 1).val) :
    Spec.gateDgl (A0 m c) (A1 m c) (A4 m c) (A5 m c) (A2 m c) (A3 m c) (ix2 (row t r) j)
      = Spec.dLogit (A0 m c) (A1 m c) (A4 m c) (A5 m c) 1 (A3 m c) (row t (x 0)) (x 1) := by
  have hx : (x 1).val < 1024 := (x 1).isLt
  have er : r = x 0 := Fin.ext h0
  have ej : j = ⟨1024 + (x 1).val, by omega⟩ := Fin.ext h1
  rw [er, ej]
  unfold Spec.gateDgl
  refine (dif_neg (by show ¬1024 + (x 1).val < 1024; omega)).trans ?_
  exact congrArg _ (Fin.ext (by show 1024 + (x 1).val - 1024 = _; omega))

theorem out11 : (dats m 0 c).arrAt 11 cfg0.N = Spec.gateDgl (A0 m c) (A1 m c) (A4 m c) (A5 m c) (A2 m c) (A3 m c) := by
  refine (dats m 0 c).arrAt_eq_of_covers 11 _ (by decide +kernel) fun t hf y => ?_
  have e : ((cfg0.win 11).blk t).view.emb y = ix2 (row t (y 0)) (y 1) := by blk_ext [idx t]
  rw [e]
  blk_simp
  rw [after0_11]
  by_cases h : t.val % 8 = 0
  · rw [outsAt0_A m c t h]
    frame_out
    canon_tiles x h
    · pointwise [k0_pay14, k0_pay12, k0_pay1, k0_pay3]
      rw [b1 m c t x, b4 m c t x]
      simp only [b2, b5, b6]
      exact (dgl_right m c t x (y 0) (y 1) h0 h1).symm
    · pointwise [k0_pay13, k0_pay11, k0_pay1, k0_pay2]
      rw [b0 m c t x, b3 m c t x]
      simp only [b2, b5, b6]
      exact (dgl_left m c t x (y 0) (y 1) h0 (h1.trans (by omega)) ).symm
  · rw [outsAt0_B m c t h]
    frame_out
    canon_tiles x h
    · pointwise [k0_pay14, k0_pay12, k0_pay1, k0_pay3]
      rw [b1 m c t x, b4 m c t x]
      simp only [b2, b5, b6]
      exact (dgl_right m c t x (y 0) (y 1) h0 h1).symm
    · pointwise [k0_pay13, k0_pay11, k0_pay1, k0_pay2]
      rw [b0 m c t x, b3 m c t x]
      simp only [b2, b5, b6]
      exact (dgl_left m c t x (y 0) (y 1) h0 (h1.trans (by omega)) ).symm

/-! ## The gradient of the gate's bias: an accumulator over the grid's eight points -/

/-- What point `t` adds at entry `(h, j)`: the logits' gradients of its 512 tokens. -/
def term (t : Fin cfg0.N) (i : S2x1024.Idx) : EReal :=
  if (i 0).val = 0 then ∑ r : Fin 512, Spec.dLogit (A0 m c) (A1 m c) (A4 m c) (A5 m c) 0 (A2 m c) (row t r) (i 1)
  else ∑ r : Fin 512, Spec.dLogit (A0 m c) (A1 m c) (A4 m c) (A5 m c) 1 (A3 m c) (row t r) (i 1)

theorem term_0 (t : Fin cfg0.N) (j : Fin 1024) : term m c t (ix2 0 j)
    = ∑ r : Fin 512, Spec.dLogit (A0 m c) (A1 m c) (A4 m c) (A5 m c) 0 (A2 m c) (row t r) j := if_pos rfl
theorem term_1 (t : Fin cfg0.N) (j : Fin 1024) : term m c t (ix2 1 j)
    = ∑ r : Fin 512, Spec.dLogit (A0 m c) (A1 m c) (A4 m c) (A5 m c) 1 (A3 m c) (row t r) j := if_neg (by show ¬(1 : Nat) = 0; decide)

theorem acc_first (t : Fin cfg0.N) (h : t.val % 8 = 0) (j : S2x1024.Idx) :
    (outsAt0 m c t.val t.isLt).2.2.2.1 j = 0 + term m c t j := by
  rw [outsAt0_A m c t h]
  frame_out
  simp (disch := decide) only [View.readCov_skip, View.readCov_fill]
  refine View.canon_append_of_piecesOf (Val := Elt Ideal) (e := .f32) (s := S2x1024) (fun j => 0 + term m c t j) [_] [_, _] ⟨fun x => ?_, fun x => ?_, trivial⟩ j ?_
  · revert x; intro (x : S1x1024.Idx)
    have ex : (Rect.unit ![1, 0] ![1, 1024] inb_S2x1024_S1x1024_1_0).emb x = ix2 1 (x 1) := by
      refine funext fun a => Fin.ext ?_
      have hx : (x 0).val < 1 := (x 0).isLt
      match a with
      | ⟨0, _⟩ => show 1 + 1 * (x 0).val = 1; omega
      | ⟨1, _⟩ => show 0 + 1 * (x 1).val = (x 1).val; omega
    refine Eq.trans ?_ (congrArg (fun j => 0 + term m c t j) ex).symm
    refine Eq.trans ?_ (congrArg (0 + ·) (term_1 m c t (x 1)).symm)
    pointwise [k0_pay17, k0_pay15, k0_pay12, k0_pay1, k0_pay3]
    simp only [b1, b2, b4, b5, b6]
    rfl
  · revert x; intro (x : S1x1024.Idx)
    have ex : (Rect.unit ![0, 0] ![1, 1024] inb_S2x1024_S1x1024_0_0).emb x = ix2 0 (x 1) := by
      refine funext fun a => Fin.ext ?_
      have hx : (x 0).val < 1 := (x 0).isLt
      match a with
      | ⟨0, _⟩ => show 0 + 1 * (x 0).val = 0; omega
      | ⟨1, _⟩ => show 0 + 1 * (x 1).val = (x 1).val; omega
    refine Eq.trans ?_ (congrArg (fun j => 0 + term m c t j) ex).symm
    refine Eq.trans ?_ (congrArg (0 + ·) (term_0 m c t (x 1)).symm)
    pointwise [k0_pay16, k0_pay15, k0_pay11, k0_pay1, k0_pay2]
    simp only [b0, b2, b3, b5, b6]
    rfl
  · have hj : (j 0).val < 2 := (j 0).isLt
    have hj1 : (j 1).val < 1024 := (j 1).isLt
    by_cases h1 : (j 0).val = 1
    · refine ⟨_, List.mem_cons_self, (Rect.mem_set_unit (inb := inb_S2x1024_S1x1024_1_0)).mpr fun a => ?_⟩
      match a with
      | ⟨0, _⟩ => exact ⟨by show 1 ≤ (j 0).val; omega, by show (j 0).val < 1 + 1; omega⟩
      | ⟨1, _⟩ => exact ⟨Nat.zero_le _, by show (j 1).val < 0 + 1024; omega⟩
    · refine ⟨_, List.mem_cons_of_mem _ List.mem_cons_self, (Rect.mem_set_unit (inb := inb_S2x1024_S1x1024_0_0)).mpr fun a => ?_⟩
      match a with
      | ⟨0, _⟩ => exact ⟨Nat.zero_le _, by show (j 0).val < 0 + 1; omega⟩
      | ⟨1, _⟩ => exact ⟨Nat.zero_le _, by show (j 1).val < 0 + 1024; omega⟩

theorem acc_next (t : Fin cfg0.N) (h : ¬t.val % 8 = 0) (j : S2x1024.Idx) :
    (outsAt0 m c t.val t.isLt).2.2.2.1 j
      = (outsAt0 m c (t.val - 1) (Nat.lt_of_le_of_lt (Nat.sub_le _ _) t.isLt)).2.2.2.1 j + term m c t j := by
  rw [outsAt0_B m c t h]
  frame_out
  canon_tiles x h
  · have ej : j = ix2 1 (x 1) := by blk_ext
    subst ej
    refine Eq.trans ?_ (congrArg (_ + ·) (term_1 m c t (x 1)).symm)
    pointwise [k0_pay17, k0_pay15, k0_pay12, k0_pay1, k0_pay3]
    simp only [b1, b2, b4, b5, b6]
    rfl
  · have ej : j = ix2 0 (x 1) := by blk_ext
    subst ej
    refine Eq.trans ?_ (congrArg (_ + ·) (term_0 m c t (x 1)).symm)
    pointwise [k0_pay16, k0_pay15, k0_pay11, k0_pay1, k0_pay2]
    simp only [b0, b2, b3, b5, b6]
    rfl

theorem out12 : (dats m 0 c).arrAt 12 cfg0.N = Spec.gateDb (A0 m c) (A1 m c) (A4 m c) (A5 m c) (A2 m c) (A3 m c) := by
  refine (dats m 0 c).arrAt_eq_of_after_last 12 t0_7 (by decide +kernel) _ fun j => ?_
  blk_simp
  rw [after0_12]
  refine (Pipeline.eq_sum_fin_of_reset_step_apply_last (fun n h => (outsAt0 m c n h).2.2.2.1) 8 (fun _ => (0 : EReal)) (term m c)
    (acc_first m c) (acc_next m c) (by decide) t0_7 rfl j).trans ?_
  rw [zero_add]
  unfold term Spec.gateDb
  split_ifs
  · exact (Spec.sum_rows 8 512 fun r => Spec.dLogit (A0 m c) (A1 m c) (A4 m c) (A5 m c) 0 (A2 m c) r (j 1)).symm
  · exact (Spec.sum_rows 8 512 fun r => Spec.dLogit (A0 m c) (A1 m c) (A4 m c) (A5 m c) 1 (A3 m c) r (j 1)).symm

/-! ## The gradients of the two attentions' outputs: one product per column shard of the branch's projection -/

theorem out13 : (dats m 0 c).arrAt 13 cfg0.N = Spec.gateDattn (A0 m c) (A1 m c) (A4 m c) (A5 m c) 0 (A6 m c) := by
  refine (dats m 0 c).arrAt_eq_of_covers 13 _ (by decide +kernel) fun t hf y => ?_
  have e : ((cfg0.win 13).blk t).view.emb y = ix2 (row t (y 0)) (y 1) := by blk_ext [idx t]
  rw [e]
  blk_simp
  refine Eq.trans ?_ (Spec.gateDattn_shards _ _ _ _ _ _ _).symm
  rw [after0_13]
  by_cases h0 : t.val % 8 = 0
  · rw [outsAt0_A m c t h0]
    frame_out
    pointwise [k0_pay8, k0_pay7, k0_pay6, k0_pay4, k0_pay1, k0_pay2]
    simp only [b0, b2, b5, b6, b7]
    rfl
  · rw [outsAt0_B m c t h0]
    frame_out
    pointwise [k0_pay8, k0_pay7, k0_pay6, k0_pay4, k0_pay1, k0_pay2]
    simp only [b0, b2, b5, b6, b7]
    rfl

theorem out14 : (dats m 0 c).arrAt 14 cfg0.N = Spec.gateDattn (A0 m c) (A1 m c) (A4 m c) (A5 m c) 1 (A7 m c) := by
  refine (dats m 0 c).arrAt_eq_of_covers 14 _ (by decide +kernel) fun t hf y => ?_
  have e : ((cfg0.win 14).blk t).view.emb y = ix2 (row t (y 0)) (y 1) := by blk_ext [idx t]
  rw [e]
  blk_simp
  refine Eq.trans ?_ (Spec.gateDattn_shards _ _ _ _ _ _ _).symm
  rw [after0_14]
  by_cases h0 : t.val % 8 = 0
  · rw [outsAt0_A m c t h0]
    frame_out
    pointwise [k0_pay10, k0_pay9, k0_pay5, k0_pay1, k0_pay3]
    simp only [b1, b2, b5, b6, b8]
    rfl
  · rw [outsAt0_B m c t h0]
    frame_out
    pointwise [k0_pay10, k0_pay9, k0_pay5, k0_pay1, k0_pay3]
    simp only [b1, b2, b5, b6, b8]
    rfl

end Cert.KernelIdeal.Gate

end
-- ==== Proof.GateRef.lean ====
module
public import proofs.«01_k».proof.Proof.Spec
public import proofs.«01_k».proof.Proof.Gen.ReferenceIdeal.Run
public import proofs.«01_k».proof.Proof.Gen.ReferenceIdeal.Read
public import Idealize.ShloMosaic.Lib.Pipeline.ValueKit
public import Idealize.ShloMosaic.Lib.Pointwise
@[expose] public section
set_option maxRecDepth 16384
noncomputable section

/-! # The backward pass of the gated merge: the reference's six results are the same functions of its arguments (`Proof/Spec.lean`) -/

namespace Cert.ReferenceIdeal.Gate
open Cert.ReferenceIdeal Cert.ReferenceIdeal.Gen Idealize.ShloMosaic Idealize.ShloMosaic.TcCoe Idealize.SL.Sem
variable (x0 : (⟨S4096x2048, .f32⟩ : BufTy).Contents (Elt Ideal)) (x1 : (⟨S2x1024, .f32⟩ : BufTy).Contents (Elt Ideal)) (x2 x3 : (⟨S4096x1024, .f32⟩ : BufTy).Contents (Elt Ideal)) (x4 : (⟨S4096x1024, .bf16⟩ : BufTy).Contents (Elt Ideal)) (x5 : (⟨S1024x1024, .bf16⟩ : BufTy).Contents (Elt Ideal))
  (x6 x7 : (⟨S4x512x256, .bf16⟩ : BufTy).Contents (Elt Ideal))

/-- The host's sigmoid `1 / (1 + e⁻ˣ)` is the logistic function. -/
theorem sigmoid (x : EReal) : Ideal.div 1 (1 + Ideal.exp (-x)) = Ideal.logistic x := rfl

theorem dof : Read.val_main_v88 x0 x1 x4 x5 = Spec.gateDo x0 x1 x4 x5 0 := by
  funext i
  rw [← Read.val_main_v88_eq]
  pointwise
  rw [sigmoid, mul_comm]
  simp only [Spec.gateDo, Spec.dBranch, Spec.dMerged, Spec.gate]
  reads_congr <;> blk_ext!

theorem dos : Read.val_main_v89 x0 x1 x4 x5 = Spec.gateDo x0 x1 x4 x5 1 := by
  funext i
  rw [← Read.val_main_v89_eq]
  pointwise
  rw [sigmoid, mul_comm]
  simp only [Spec.gateDo, Spec.dBranch, Spec.dMerged, Spec.gate]
  reads_congr <;> blk_ext!

theorem dgl : Read.val_main_v90 x0 x1 x2 x3 x4 x5 = Spec.gateDgl x0 x1 x4 x5 x2 x3 := by
  funext i
  rw [← Read.val_main_v90_eq]
  pointwise
  simp only [sigmoid, ← mul_assoc]
  unfold Spec.gateDgl
  by_cases h : (i 1).val < 1024
  · rw [dif_neg (by omega), dif_pos h, dif_pos h, zero_add]
    simp only [Spec.dLogit, Spec.dMerged, Spec.gate]
    reads_congr <;> blk_ext!
  · have h1 : (i 1).val < 2048 := (i 1).isLt
    rw [dif_pos (by omega), dif_neg h, dif_neg h, add_zero]
    simp only [Spec.dLogit, Spec.dMerged, Spec.gate]
    reads_congr <;> blk_ext!

theorem db : Read.val_main_v80 x0 x1 x2 x3 x4 x5 = Spec.gateDb x0 x1 x4 x5 x2 x3 := by
  refine funext fun (i : S2x1024.Idx) => ?_
  rw [← Read.val_main_v80_eq]
  pointwise
  simp only [sigmoid, ← mul_assoc]
  unfold Spec.gateDb
  by_cases h : (i 0).val = 0
  · rw [dif_neg (by omega), dif_pos (by omega), if_pos h, zero_add]
    refine (Fintype.sum_unique _).trans (Finset.sum_congr rfl fun r _ => ?_)
    unfold Spec.dLogit Spec.dMerged Spec.gate
    reads_congr <;> blk_ext!
  · have h1 : (i 0).val < 2 := (i 0).isLt
    rw [dif_pos (by omega), dif_neg (by omega), if_neg h, add_zero]
    refine (Fintype.sum_unique _).trans (Finset.sum_congr rfl fun r _ => ?_)
    unfold Spec.dLogit Spec.dMerged Spec.gate
    reads_congr <;> blk_ext!

theorem dfox : Read.val_main_v91 x0 x1 x4 x5 x6 = Spec.gateDattn x0 x1 x4 x5 0 x6 := by
  funext i
  rw [← Read.val_main_v91_eq]
  pointwise
  simp only [sigmoid, Spec.gateDattn, Spec.dBranch, Spec.dMerged, Spec.gate]
  refine Finset.sum_congr rfl fun j _ => ?_
  rw [mul_comm (Ideal.logistic _)]
  split_ifs <;> (reads_congr <;> blk_ext!)

theorem dsb : Read.val_main_v92 x0 x1 x4 x5 x7 = Spec.gateDattn x0 x1 x4 x5 1 x7 := by
  funext i
  rw [← Read.val_main_v92_eq]
  pointwise
  simp only [sigmoid, Spec.gateDattn, Spec.dBranch, Spec.dMerged, Spec.gate]
  refine Finset.sum_congr rfl fun j _ => ?_
  rw [mul_comm (Ideal.logistic _)]
  split_ifs <;> (reads_congr <;> blk_ext!)
end Cert.ReferenceIdeal.Gate

end
-- ==== Proof.GateClaims.lean ====
module

public import proofs.«01_k».proof.Defs
public import proofs.«01_k».proof.Proof.Gen.Kernel
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gate
public import proofs.«01_k».proof.Proof.GateRef
public import Idealize.ShloMosaic.Adequacy
public import Idealize.ShloMosaic.Init

@[expose] public section

noncomputable section

/-! # The claims about the backward pass of the gated merge -/

namespace Cert.Proof.Gate

open Idealize.ShloMosaic Idealize.SL.Sem

theorem frame_kernel : Cert.quiescent_Kernel := fun m ρ _ => Cert.Kernel.Gen.frame m ρ

theorem frame_kernelIdeal : Cert.quiescent_KernelIdeal := fun m ρ _ => Cert.KernelIdeal.Gen.frame m ρ

theorem frame_referenceIdeal : Cert.quiescent_ReferenceIdeal := fun m ρ _ =>
  (θ_run Cert.ReferenceIdeal.defs _ _).mono (fun r h => ⟨fun c => (h c).2.2.2.2.2.2,
      Idealize.ShloMosaic.sem_eq_zero_of_no_sems (by decide) r.2⟩)
    (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨_, _, _, _, _, _, Cert.KernelIdeal.Value.run_blocks m ρ, ?_⟩
  refine (θ_run Cert.ReferenceIdeal.defs _ _).mono (fun r h c => ?_) (Cert.ReferenceIdeal.Value.run (F := Ideal) m' ρ')
  obtain ⟨h0, h1, h2, h3, h4, h5, hargs⟩ := h c
  obtain ⟨a0, a1, a2, a3, a4, a5, a6, a7⟩ := hagree c
  refine ⟨h0.trans ?_, h1.trans ?_, h2.trans ?_, h3.trans ?_, h4.trans ?_, h5.trans ?_, hargs⟩
  · rw [Cert.KernelIdeal.Gate.out9, a0, a1, a4, a5]
    exact (Cert.ReferenceIdeal.Read.val_main_v88_eq ..).trans (Cert.ReferenceIdeal.Gate.dof ..)
  · rw [Cert.KernelIdeal.Gate.out10, a0, a1, a4, a5]
    exact (Cert.ReferenceIdeal.Read.val_main_v89_eq ..).trans (Cert.ReferenceIdeal.Gate.dos ..)
  · rw [Cert.KernelIdeal.Gate.out11, a0, a1, a2, a3, a4, a5]
    exact (Cert.ReferenceIdeal.Read.val_main_v90_eq ..).trans (Cert.ReferenceIdeal.Gate.dgl ..)
  · rw [Cert.KernelIdeal.Gate.out12, a0, a1, a2, a3, a4, a5]
    exact (Cert.ReferenceIdeal.Read.val_main_v80_eq ..).trans (Cert.ReferenceIdeal.Gate.db ..)
  · rw [Cert.KernelIdeal.Gate.out13, a0, a1, a4, a5, a6]
    exact (Cert.ReferenceIdeal.Read.val_main_v91_eq ..).trans (Cert.ReferenceIdeal.Gate.dfox ..)
  · rw [Cert.KernelIdeal.Gate.out14, a0, a1, a4, a5, a7]
    exact (Cert.ReferenceIdeal.Read.val_main_v92_eq ..).trans (Cert.ReferenceIdeal.Gate.dsb ..)

end Cert.Proof.Gate

end
-- ==== Proof.DWDown.lean ====
module

public import proofs.«01_k».proof.Proof.Gen.DWDownIdeal.Value
public import Idealize.ShloMosaic.Lib.Pipeline.ValueKit
public import Idealize.ShloMosaic.Lib.Pointwise
public import Idealize.ShloMosaic.Lib.Pipeline.ReadBack
public import proofs.«01_k».proof.Proof.Spec

@[expose] public section

set_option maxRecDepth 16384

noncomputable section

/-! # The gradient of the MLP's down projection: what the kernel leaves in its result -/

namespace Cert.DWDownIdeal.Result

open Cert.DWDownIdeal Cert.DWDownIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The ReLU's result and the residual gradient, on device `c`. -/
abbrev A0 : Spec.A2 4096 4096 := m ((c : Thread nD τ).loc main_arg0)
abbrev A1 : Spec.A2 4096 1024 := m ((c : Thread nD τ).loc main_arg1)

/-- The windows' blocks by the grid point. -/
theorem idx (t : Fin cfg0.N) : win0_0.index t = ![t.val % 4, t.val / 4] ∧ win0_1.index t = ![t.val % 4, 0]
    ∧ win0_2.index t = ![t.val / 4, 0] :=
  (by decide +kernel : ∀ t : Fin cfg0.N, win0_0.index t = ![t.val % 4, t.val / 4] ∧ win0_1.index t = ![t.val % 4, 0]
    ∧ win0_2.index t = ![t.val / 4, 0]) t

/-- Token `r` of point `t`'s block, and row `j` of the result's. -/
abbrev tok (t : Fin cfg0.N) (r : Fin 1024) : Fin 4096 := ⟨t.val % 4 * 1024 + r.val, by omega⟩
abbrev row (t : Fin cfg0.N) (j : Fin 1024) : Fin 4096 :=
  ⟨t.val / 4 * 1024 + j.val, by have := t.isLt; have : cfg0.N = 16 := N_0; omega⟩

theorem b0 (t : Fin cfg0.N) (x : S1024x1024.Idx) :
    (iblk m c 0 t : S1024x1024.Idx → EReal) x = A0 m c (ix2 (tok t (x 0)) (row t (x 1))) := by
  blk_ext [iblk, V, idx t]
theorem b1 (t : Fin cfg0.N) (x : S1024x1024.Idx) :
    (iblk m c 1 t : S1024x1024.Idx → EReal) x = A1 m c (ix2 (tok t (x 0)) (x 1)) := by
  blk_ext [iblk, V, idx t]

/-- What point `t` adds to the accumulator: the products over its block of tokens. -/
def term (t : Fin cfg0.N) (y : S1024x1024.Idx) : EReal :=
  ∑ r : Fin 1024, A0 m c (ix2 (tok t r) (row t (y 0))) * A0 m c (ix2 (tok t r) (row t (y 0))) * A1 m c (ix2 (tok t r) (y 1))

theorem acc_first (t : Fin cfg0.N) (h : t.val % 4 = 0) (y : S1024x1024.Idx) :
    (outsAt0 m c t.val t.isLt).2 y = 0 + term m c t y := by
  have hN : t.val < 16 := lt_of_lt_of_eq t.isLt (show cfg0.N = 16 from N_0)
  rw [outsAt0_A m c t h (by omega) (by omega), zero_add]
  frame_out
  pointwise [k0_pay2, k0_pay1]
  simp only [b0, b1]
  rfl

theorem acc_next (t : Fin cfg0.N) (h : ¬t.val % 4 = 0) (y : S1024x1024.Idx) :
    (outsAt0 m c t.val t.isLt).2 y
      = (outsAt0 m c (t.val - 1) (Nat.lt_of_le_of_lt (Nat.sub_le _ _) t.isLt)).2 y + term m c t y := by
  have hN : t.val < 16 := lt_of_lt_of_eq t.isLt (show cfg0.N = 16 from N_0)
  by_cases h3 : t.val % 4 = 3
  · rw [outsAt0_C m c t h (by omega) h3]
    frame_out
    pointwise [k0_pay3, k0_pay1]
    simp only [b0, b1]
    exact congrArg₂ (· + ·) (congrFun ((Memref.isWhole_whole cc0_scratch0).read_unread _) y) rfl
  · rw [outsAt0_B m c t h (by omega) h3]
    frame_out
    pointwise [k0_pay3, k0_pay1]
    simp only [b0, b1]
    exact congrArg₂ (· + ·) (congrFun ((Memref.isWhole_whole cc0_scratch0).read_unread _) y) rfl

/-- At the last of its four points a block's accumulator holds the sum over all the tokens. -/
theorem acc_last (t : Fin cfg0.N) (h : t.val % 4 = 3) (y : S1024x1024.Idx) :
    (outsAt0 m c t.val t.isLt).2 y = Spec.tmm (Spec.sq (A0 m c)) (A1 m c) (ix2 (row t (y 0)) (y 1)) := by
  refine (Pipeline.eq_sum_fin_of_reset_step_apply_of_flush (fun n h => (outsAt0 m c n h).2) 4 (fun _ => (0 : EReal)) (term m c)
    (acc_first m c) (acc_next m c) t h y).trans ?_
  rw [zero_add]
  unfold Spec.tmm
  refine Eq.trans ?_ (Spec.sum_rows 4 1024 _).symm
  refine Finset.sum_congr rfl fun s _ => ?_
  unfold term Spec.sq
  refine Finset.sum_congr rfl fun r _ => ?_
  have hs : (4 * (t.val / 4) + s.val) % 4 = s.val := by omega
  have hd : (4 * (t.val / 4) + s.val) / 4 = t.val / 4 := by omega
  reads_congr <;> blk_ext!

/-- There the block of the result is stored: the accumulator. -/
theorem stored (t : Fin cfg0.N) (h : t.val % 4 = 3) (y : S1024x1024.Idx) :
    (outsAt0 m c t.val t.isLt).1 y = (outsAt0 m c t.val t.isLt).2 y := by
  rw [outsAt0_C m c t (by omega) (by omega) h]
  frame_out

theorem out : (dats m 0 c).arrAt 2 cfg0.N = Spec.tmm (Spec.sq (A0 m c)) (A1 m c) := by
  refine (dats m 0 c).arrAt_eq_of_covers 2 _ (by decide +kernel) fun t hf y => ?_
  have h3 : t.val % 4 = 3 := (flush0_2 t).mp hf
  have e : ((cfg0.win 2).blk t).view.emb y = ix2 (row t (y 0)) (y 1) := by blk_ext [idx t]
  rw [e]
  blk_simp
  rw [after0_2, stored m c t h3]
  exact acc_last m c t h3 y

end Cert.DWDownIdeal.Result

end
-- ==== Proof.DWDownRef.lean ====
module

public import proofs.«01_k».proof.Proof.Spec
public import proofs.«01_k».proof.Proof.Gen.DWDownRefIdeal.Run
public import proofs.«01_k».proof.Proof.Gen.DWDownRefIdeal.Read
public import Idealize.ShloMosaic.Lib.Pipeline.ValueKit
public import Idealize.ShloMosaic.Lib.Pointwise

@[expose] public section

set_option maxRecDepth 16384

noncomputable section

/-! # The gradient of the MLP's down projection: the reference's result is the same function of its arguments (`Proof/Spec.lean`) -/

namespace Cert.DWDownRefIdeal.Result

open Cert.DWDownRefIdeal Cert.DWDownRefIdeal.Gen Idealize.ShloMosaic Idealize.ShloMosaic.TcCoe Idealize.SL.Sem

theorem result (x0 : (⟨S4096x4096, .bf16⟩ : BufTy).Contents (Elt Ideal)) (x1 : (⟨S4096x1024, .bf16⟩ : BufTy).Contents (Elt Ideal)) :
    Read.val_main_v6 x0 x1 = Spec.tmm (Spec.sq x0) x1 := by
  refine funext fun (i : S4096x1024.Idx) => ?_
  rw [← Read.val_main_v6_eq]
  pointwise
  unfold Spec.tmm Spec.sq
  refine Finset.sum_congr rfl fun q _ => (mul_comm _ _).trans ?_
  reads_congr <;> blk_ext!

end Cert.DWDownRefIdeal.Result

end
-- ==== Proof.DWDownClaims.lean ====
module

public import proofs.«01_k».proof.Defs
public import proofs.«01_k».proof.Proof.Gen.DWDown
public import proofs.«01_k».proof.Proof.Gen.DWDown.Frame
public import proofs.«01_k».proof.Proof.Gen.DWDownIdeal.Value
public import proofs.«01_k».proof.Proof.Gen.DWDownRefIdeal.Run
public import proofs.«01_k».proof.Proof.Gen.DWDownRefIdeal.Read
public import proofs.«01_k».proof.Proof.DWDown
public import proofs.«01_k».proof.Proof.DWDownRef
public import Idealize.ShloMosaic.Adequacy
public import Idealize.ShloMosaic.Init

@[expose] public section

noncomputable section

/-! # The gradient of the MLP's down projection: the claims -/

namespace Cert.Proof.DWDown

open Idealize.ShloMosaic Idealize.SL.Sem

theorem frame_kernel : Cert.quiescent_DWDown := fun m ρ _ => Cert.DWDown.Gen.frame m ρ

theorem frame_kernelIdeal : Cert.quiescent_DWDownIdeal := fun m ρ _ => Cert.DWDownIdeal.Gen.frame m ρ

theorem frame_referenceIdeal : Cert.quiescent_DWDownRefIdeal := fun m ρ _ =>
  (θ_run Cert.DWDownRefIdeal.defs _ _).mono (fun r h => ⟨fun c => (h c).2,
      Idealize.ShloMosaic.sem_eq_zero_of_no_sems (by decide) r.2⟩)
    (Cert.DWDownRefIdeal.Value.run (F := Ideal) m ρ)

theorem preserves : Cert.preserves_DWDown_DWDownIdeal := trivial

theorem algebraic : Cert.algebraic_DWDownIdeal_DWDownRefIdeal := by
  intro m ρ m' ρ' _ hagree
  refine ⟨_, Cert.DWDownIdeal.Value.run_blocks m ρ, ?_⟩
  refine (θ_run Cert.DWDownRefIdeal.defs _ _).mono (fun r h c => ?_) (Cert.DWDownRefIdeal.Value.run (F := Ideal) m' ρ')
  obtain ⟨h0, hargs⟩ := h c
  obtain ⟨a0, a1⟩ := hagree c
  refine ⟨h0.trans ?_, hargs⟩
  · rw [Cert.DWDownIdeal.Result.out, a0, a1]
    exact (Cert.DWDownRefIdeal.Read.val_main_v6_eq ..).trans (Cert.DWDownRefIdeal.Result.result ..)

end Cert.Proof.DWDown

end
-- ==== Proof.DWUp.lean ====
module

public import proofs.«01_k».proof.Proof.Gen.DWUpIdeal.Value
public import Idealize.ShloMosaic.Lib.Pipeline.ValueKit
public import Idealize.ShloMosaic.Lib.Pointwise
public import Idealize.ShloMosaic.Lib.Pipeline.ReadBack
public import proofs.«01_k».proof.Proof.Spec

@[expose] public section

set_option maxRecDepth 16384

noncomputable section

/-! # The gradient of the MLP's up projection: what the kernel leaves in its result -/

namespace Cert.DWUpIdeal.Result

open Cert.DWUpIdeal Cert.DWUpIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The normalised activations and the gradient of the up projection's result, on device `c`. -/
abbrev A0 : Spec.A2 4096 1024 := m ((c : Thread nD τ).loc main_arg0)
abbrev A1 : Spec.A2 4096 4096 := m ((c : Thread nD τ).loc main_arg1)

/-- The windows' blocks by the grid point. -/
theorem idx (t : Fin cfg0.N) : win0_0.index t = ![t.val % 4, 0] ∧ win0_1.index t = ![t.val % 4, t.val / 4]
    ∧ win0_2.index t = ![t.val / 4, 0, 0] :=
  (by decide +kernel : ∀ t : Fin cfg0.N, win0_0.index t = ![t.val % 4, 0] ∧ win0_1.index t = ![t.val % 4, t.val / 4]
    ∧ win0_2.index t = ![t.val / 4, 0, 0]) t

/-- Token `r` of point `t`'s block, and column `j` of its shard. -/
abbrev tok (t : Fin cfg0.N) (r : Fin 1024) : Fin 4096 := ⟨t.val % 4 * 1024 + r.val, by omega⟩
abbrev col (t : Fin cfg0.N) (j : Fin 1024) : Fin 4096 :=
  ⟨t.val / 4 * 1024 + j.val, by have := t.isLt; have : cfg0.N = 16 := N_0; omega⟩
abbrev shard (t : Fin cfg0.N) : Fin 4 := ⟨t.val / 4, by have := t.isLt; have : cfg0.N = 16 := N_0; omega⟩

theorem b0 (t : Fin cfg0.N) (x : S1024x1024.Idx) :
    (iblk m c 0 t : S1024x1024.Idx → EReal) x = A0 m c (ix2 (tok t (x 0)) (x 1)) := by
  blk_ext [iblk, V, idx t]
theorem b1 (t : Fin cfg0.N) (x : S1024x1024.Idx) :
    (iblk m c 1 t : S1024x1024.Idx → EReal) x = A1 m c (ix2 (tok t (x 0)) (col t (x 1))) := by
  blk_ext [iblk, V, idx t]

/-- What point `t` adds to the accumulator: the products over its block of tokens. -/
def term (t : Fin cfg0.N) (y : S1024x1024.Idx) : EReal :=
  ∑ r : Fin 1024, A0 m c (ix2 (tok t r) (y 0)) * A1 m c (ix2 (tok t r) (col t (y 1)))

theorem acc_first (t : Fin cfg0.N) (h : t.val % 4 = 0) (y : S1024x1024.Idx) :
    (outsAt0 m c t.val t.isLt).2 y = 0 + term m c t y := by
  have hN : t.val < 16 := lt_of_lt_of_eq t.isLt (show cfg0.N = 16 from N_0)
  rw [outsAt0_A m c t h (by omega) (by omega), zero_add]
  frame_out
  pointwise [k0_pay2, k0_pay1]
  simp only [b0, b1]
  rfl

theorem acc_next (t : Fin cfg0.N) (h : ¬t.val % 4 = 0) (y : S1024x1024.Idx) :
    (outsAt0 m c t.val t.isLt).2 y
      = (outsAt0 m c (t.val - 1) (Nat.lt_of_le_of_lt (Nat.sub_le _ _) t.isLt)).2 y + term m c t y := by
  have hN : t.val < 16 := lt_of_lt_of_eq t.isLt (show cfg0.N = 16 from N_0)
  by_cases h3 : t.val % 4 = 3
  · rw [outsAt0_C m c t h (by omega) h3]
    frame_out
    pointwise [k0_pay3, k0_pay1]
    simp only [b0, b1]
    exact congrArg₂ (· + ·) (congrFun ((Memref.isWhole_whole cc0_scratch0).read_unread _) y) rfl
  · rw [outsAt0_B m c t h (by omega) h3]
    frame_out
    pointwise [k0_pay3, k0_pay1]
    simp only [b0, b1]
    exact congrArg₂ (· + ·) (congrFun ((Memref.isWhole_whole cc0_scratch0).read_unread _) y) rfl

/-- At the last of its four points a block's accumulator holds the sum over all the tokens. -/
theorem acc_last (t : Fin cfg0.N) (h : t.val % 4 = 3) (y : S1024x1024.Idx) :
    (outsAt0 m c t.val t.isLt).2 y = Spec.tmm (A0 m c) (A1 m c) (ix2 (y 0) (col t (y 1))) := by
  refine (Pipeline.eq_sum_fin_of_reset_step_apply_of_flush (fun n h => (outsAt0 m c n h).2) 4 (fun _ => (0 : EReal)) (term m c)
    (acc_first m c) (acc_next m c) t h y).trans ?_
  rw [zero_add]
  unfold Spec.tmm
  refine Eq.trans ?_ (Spec.sum_rows 4 1024 _).symm
  refine Finset.sum_congr rfl fun s _ => ?_
  unfold term
  refine Finset.sum_congr rfl fun r _ => ?_
  have hs : (4 * (t.val / 4) + s.val) % 4 = s.val := by omega
  have hd : (4 * (t.val / 4) + s.val) / 4 = t.val / 4 := by omega
  reads_congr <;> blk_ext!

/-- There the shard is stored: the accumulator. -/
theorem stored (t : Fin cfg0.N) (h : t.val % 4 = 3) (y : S1x1024x1024.Idx) :
    (outsAt0 m c t.val t.isLt).1 y = (outsAt0 m c t.val t.isLt).2 (ix2 (y 1) (y 2)) := by
  rw [outsAt0_C m c t (by omega) (by omega) h]
  frame_out
  pointwise [k0_pay4]

theorem out : (dats m 0 c).arrAt 2 cfg0.N = Spec.shards rfl (Spec.tmm (A0 m c) (A1 m c)) := by
  refine (dats m 0 c).arrAt_eq_of_covers 2 _ (by decide +kernel) fun t hf y => ?_
  have h3 : t.val % 4 = 3 := (flush0_2 t).mp hf
  have e : ((cfg0.win 2).blk t).view.emb y = ix3 (shard t) (y 1) (y 2) := by blk_ext [idx t]
  rw [e]
  blk_simp
  rw [after0_2, stored m c t h3]
  exact acc_last m c t h3 (ix2 (y 1) (y 2))

end Cert.DWUpIdeal.Result

end
-- ==== Proof.DWUpRef.lean ====
module

public import proofs.«01_k».proof.Proof.Spec
public import proofs.«01_k».proof.Proof.Gen.DWUpRefIdeal.Run
public import proofs.«01_k».proof.Proof.Gen.DWUpRefIdeal.Read
public import Idealize.ShloMosaic.Lib.Pipeline.ValueKit
public import Idealize.ShloMosaic.Lib.Pointwise

@[expose] public section

set_option maxRecDepth 16384

noncomputable section

/-! # The gradient of the MLP's up projection: the reference's result is the same function of its arguments (`Proof/Spec.lean`) -/

namespace Cert.DWUpRefIdeal.Result

open Cert.DWUpRefIdeal Cert.DWUpRefIdeal.Gen Idealize.ShloMosaic Idealize.ShloMosaic.TcCoe Idealize.SL.Sem

theorem result (x0 : (⟨S4096x1024, .bf16⟩ : BufTy).Contents (Elt Ideal)) (x1 : (⟨S4096x4096, .bf16⟩ : BufTy).Contents (Elt Ideal)) :
    Read.val_main_v29 x0 x1 = Spec.shards rfl (Spec.tmm x0 x1) := by
  refine funext fun (i : S4x1024x1024.Idx) => ?_
  have h0 : (i 0).val < 4 := (i 0).isLt
  rw [← Read.val_main_v29_eq]
  pointwise
  unfold Spec.shards Spec.tmm
  obtain h | h | h | h : (i 0).val = 0 ∨ (i 0).val = 1 ∨ (i 0).val = 2 ∨ (i 0).val = 3 := by omega
  · rw [dif_neg (by omega), dif_neg (by omega), dif_neg (by omega), dif_pos (by omega)]
    simp only [zero_add, add_zero]
    refine Finset.sum_congr rfl fun q _ => (mul_comm _ _).trans ?_
    reads_congr <;> blk_ext!
  · rw [dif_neg (by omega), dif_neg (by omega), dif_pos (by omega), dif_neg (by omega)]
    simp only [zero_add, add_zero]
    refine Finset.sum_congr rfl fun q _ => (mul_comm _ _).trans ?_
    reads_congr <;> blk_ext!
  · rw [dif_neg (by omega), dif_pos (by omega), dif_neg (by omega), dif_neg (by omega)]
    simp only [zero_add, add_zero]
    refine Finset.sum_congr rfl fun q _ => (mul_comm _ _).trans ?_
    reads_congr <;> blk_ext!
  · rw [dif_pos (by omega), dif_neg (by omega), dif_neg (by omega), dif_neg (by omega)]
    simp only [zero_add, add_zero]
    refine Finset.sum_congr rfl fun q _ => (mul_comm _ _).trans ?_
    reads_congr <;> blk_ext!

end Cert.DWUpRefIdeal.Result

end
-- ==== Proof.DWUpClaims.lean ====
module

public import proofs.«01_k».proof.Defs
public import proofs.«01_k».proof.Proof.Gen.DWUp
public import proofs.«01_k».proof.Proof.Gen.DWUp.Frame
public import proofs.«01_k».proof.Proof.Gen.DWUpIdeal.Value
public import proofs.«01_k».proof.Proof.Gen.DWUpRefIdeal.Run
public import proofs.«01_k».proof.Proof.Gen.DWUpRefIdeal.Read
public import proofs.«01_k».proof.Proof.DWUp
public import proofs.«01_k».proof.Proof.DWUpRef
public import Idealize.ShloMosaic.Adequacy
public import Idealize.ShloMosaic.Init

@[expose] public section

noncomputable section

/-! # The gradient of the MLP's up projection: the claims -/

namespace Cert.Proof.DWUp

open Idealize.ShloMosaic Idealize.SL.Sem

theorem frame_kernel : Cert.quiescent_DWUp := fun m ρ _ => Cert.DWUp.Gen.frame m ρ

theorem frame_kernelIdeal : Cert.quiescent_DWUpIdeal := fun m ρ _ => Cert.DWUpIdeal.Gen.frame m ρ

theorem frame_referenceIdeal : Cert.quiescent_DWUpRefIdeal := fun m ρ _ =>
  (θ_run Cert.DWUpRefIdeal.defs _ _).mono (fun r h => ⟨fun c => (h c).2,
      Idealize.ShloMosaic.sem_eq_zero_of_no_sems (by decide) r.2⟩)
    (Cert.DWUpRefIdeal.Value.run (F := Ideal) m ρ)

theorem preserves : Cert.preserves_DWUp_DWUpIdeal := trivial

theorem algebraic : Cert.algebraic_DWUpIdeal_DWUpRefIdeal := by
  intro m ρ m' ρ' _ hagree
  refine ⟨_, Cert.DWUpIdeal.Value.run_blocks m ρ, ?_⟩
  refine (θ_run Cert.DWUpRefIdeal.defs _ _).mono (fun r h c => ?_) (Cert.DWUpRefIdeal.Value.run (F := Ideal) m' ρ')
  obtain ⟨h0, hargs⟩ := h c
  obtain ⟨a0, a1⟩ := hagree c
  refine ⟨h0.trans ?_, hargs⟩
  · rw [Cert.DWUpIdeal.Result.out, a0, a1]
    exact (Cert.DWUpRefIdeal.Read.val_main_v29_eq ..).trans (Cert.DWUpRefIdeal.Result.result ..)

end Cert.Proof.DWUp

end
-- ==== Proof.MlpUp.lean ====
module

public import proofs.«01_k».proof.Proof.Gen.MlpUpIdeal.Value
public import Idealize.ShloMosaic.Lib.Pipeline.ValueKit
public import Idealize.ShloMosaic.Lib.Pointwise
public import Idealize.ShloMosaic.Lib.Pipeline.ReadBack
public import proofs.«01_k».proof.Proof.Spec

@[expose] public section

set_option maxRecDepth 16384

noncomputable section

/-! # The MLP's up projection and its ReLU: what the kernel leaves in its result -/

namespace Cert.MlpUpIdeal.Result

open Cert.MlpUpIdeal Cert.MlpUpIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The normalised activations and the projection's four column shards, on device `c`. -/
abbrev A0 : Spec.A2 4096 1024 := m ((c : Thread nD τ).loc main_arg0)
abbrev A1 : Spec.A3 4 1024 1024 := m ((c : Thread nD τ).loc main_arg1)

/-- The windows' blocks by the grid point. -/
theorem idx (t : Fin cfg0.N) : win0_0.index t = ![t.val / 4, 0] ∧ win0_1.index t = ![t.val % 4, 0, 0]
    ∧ win0_2.index t = ![t.val / 4, t.val % 4] :=
  (by decide +kernel : ∀ t : Fin cfg0.N, win0_0.index t = ![t.val / 4, 0] ∧ win0_1.index t = ![t.val % 4, 0, 0]
    ∧ win0_2.index t = ![t.val / 4, t.val % 4]) t

/-- Row `r` and column `j` of point `t`'s block. -/
abbrev row (t : Fin cfg0.N) (r : Fin 1024) : Fin 4096 :=
  ⟨t.val / 4 * 1024 + r.val, by have := t.isLt; have : cfg0.N = 16 := N_0; omega⟩
abbrev col (t : Fin cfg0.N) (j : Fin 1024) : Fin 4096 := ⟨t.val % 4 * 1024 + j.val, by omega⟩
abbrev shard (t : Fin cfg0.N) : Fin 4 := ⟨t.val % 4, by omega⟩

theorem b0 (t : Fin cfg0.N) (x : S1024x1024.Idx) :
    (iblk m c 0 t : S1024x1024.Idx → EReal) x = A0 m c (ix2 (row t (x 0)) (x 1)) := by
  blk_ext [iblk, V, idx t]
theorem b1 (t : Fin cfg0.N) (x : S1x1024x1024.Idx) :
    (iblk m c 1 t : S1x1024x1024.Idx → EReal) x = A1 m c (ix3 (shard t) (x 1) (x 2)) := by
  blk_ext [iblk, V, idx t]

theorem out : (dats m 0 c).arrAt 2 cfg0.N = Spec.relu (Spec.mm (A0 m c) (Spec.columns (by decide) rfl (A1 m c))) := by
  refine (dats m 0 c).arrAt_eq_of_covers 2 _ (by decide +kernel) fun t hf y => ?_
  have e : ((cfg0.win 2).blk t).view.emb y = ix2 (row t (y 0)) (col t (y 1)) := by blk_ext [idx t]
  rw [e]
  blk_simp
  rw [after0_2]
  frame_out
  pointwise [k0_pay1]
  simp only [b0, b1]
  unfold Spec.relu Spec.mm Spec.columns
  have hy : (y 1).val < 1024 := (y 1).isLt
  have hd : (t.val % 4 * 1024 + (y 1).val) / 1024 = t.val % 4 := by omega
  have hm : (t.val % 4 * 1024 + (y 1).val) % 1024 = (y 1).val := by omega
  reads_congr <;> (blk_ext! <;> rfl)

end Cert.MlpUpIdeal.Result

end
-- ==== Proof.MlpUpRef.lean ====
module

public import proofs.«01_k».proof.Proof.Spec
public import proofs.«01_k».proof.Proof.Gen.MlpUpRefIdeal.Run
public import proofs.«01_k».proof.Proof.Gen.MlpUpRefIdeal.Read
public import Idealize.ShloMosaic.Lib.Pipeline.ValueKit
public import Idealize.ShloMosaic.Lib.Pointwise

@[expose] public section

set_option maxRecDepth 16384

noncomputable section

/-! # The MLP's up projection and its ReLU: the reference's result is the same function of its arguments (`Proof/Spec.lean`) -/

namespace Cert.MlpUpRefIdeal.Result

open Cert.MlpUpRefIdeal Cert.MlpUpRefIdeal.Gen Idealize.ShloMosaic Idealize.ShloMosaic.TcCoe Idealize.SL.Sem

theorem result (x0 : (⟨S4096x1024, .bf16⟩ : BufTy).Contents (Elt Ideal)) (x1 : (⟨S4x1024x1024, .bf16⟩ : BufTy).Contents (Elt Ideal)) :
    Read.val_main_v13 x0 x1 = Spec.relu (Spec.mm x0 (Spec.columns (by decide) rfl x1)) := by
  refine funext fun (i : S4096x4096.Idx) => ?_
  have hi : (i 1).val < 4096 := (i 1).isLt
  rw [← Read.val_main_v13_eq]
  pointwise
  unfold Spec.relu Spec.mm Spec.columns
  refine congrArg (max · 0) (Finset.sum_congr rfl fun q _ => ?_)
  split_ifs <;> (reads_congr <;> blk_ext!)

end Cert.MlpUpRefIdeal.Result

end
-- ==== Proof.MlpUpClaims.lean ====
module

public import proofs.«01_k».proof.Defs
public import proofs.«01_k».proof.Proof.Gen.MlpUp
public import proofs.«01_k».proof.Proof.Gen.MlpUp.Frame
public import proofs.«01_k».proof.Proof.Gen.MlpUpIdeal.Value
public import proofs.«01_k».proof.Proof.Gen.MlpUpRefIdeal.Run
public import proofs.«01_k».proof.Proof.Gen.MlpUpRefIdeal.Read
public import proofs.«01_k».proof.Proof.MlpUp
public import proofs.«01_k».proof.Proof.MlpUpRef
public import Idealize.ShloMosaic.Adequacy
public import Idealize.ShloMosaic.Init

@[expose] public section

noncomputable section

/-! # The MLP's up projection and its ReLU: the claims -/

namespace Cert.Proof.MlpUp

open Idealize.ShloMosaic Idealize.SL.Sem

theorem frame_kernel : Cert.quiescent_MlpUp := fun m ρ _ => Cert.MlpUp.Gen.frame m ρ

theorem frame_kernelIdeal : Cert.quiescent_MlpUpIdeal := fun m ρ _ => Cert.MlpUpIdeal.Gen.frame m ρ

theorem frame_referenceIdeal : Cert.quiescent_MlpUpRefIdeal := fun m ρ _ =>
  (θ_run Cert.MlpUpRefIdeal.defs _ _).mono (fun r h => ⟨fun c => (h c).2,
      Idealize.ShloMosaic.sem_eq_zero_of_no_sems (by decide) r.2⟩)
    (Cert.MlpUpRefIdeal.Value.run (F := Ideal) m ρ)

theorem preserves : Cert.preserves_MlpUp_MlpUpIdeal := trivial

theorem algebraic : Cert.algebraic_MlpUpIdeal_MlpUpRefIdeal := by
  intro m ρ m' ρ' _ hagree
  refine ⟨_, Cert.MlpUpIdeal.Value.run_blocks m ρ, ?_⟩
  refine (θ_run Cert.MlpUpRefIdeal.defs _ _).mono (fun r h c => ?_) (Cert.MlpUpRefIdeal.Value.run (F := Ideal) m' ρ')
  obtain ⟨h0, hargs⟩ := h c
  obtain ⟨a0, a1⟩ := hagree c
  refine ⟨h0.trans ?_, hargs⟩
  · rw [Cert.MlpUpIdeal.Result.out, a0, a1]
    exact (Cert.MlpUpRefIdeal.Read.val_main_v13_eq ..).trans (Cert.MlpUpRefIdeal.Result.result ..)

end Cert.Proof.MlpUp

end
-- ==== Proof.DAct.lean ====
module

public import proofs.«01_k».proof.Proof.Gen.DActIdeal.Value
public import Idealize.ShloMosaic.Lib.Pipeline.ValueKit
public import Idealize.ShloMosaic.Lib.Pointwise
public import Idealize.ShloMosaic.Lib.Pipeline.ReadBack
public import proofs.«01_k».proof.Proof.Spec

@[expose] public section

set_option maxRecDepth 16384

noncomputable section

/-! # Back through the MLP's down projection and its squared ReLU: what the kernel leaves in its result -/

namespace Cert.DActIdeal.Result

open Cert.DActIdeal Cert.DActIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The up projection's result, the down projection and the residual gradient, on device `c`. -/
abbrev A0 : Spec.A2 4096 4096 := m ((c : Thread nD τ).loc main_arg0)
abbrev A1 : Spec.A2 4096 1024 := m ((c : Thread nD τ).loc main_arg1)
abbrev A2 : Spec.A2 4096 1024 := m ((c : Thread nD τ).loc main_arg2)

/-- The windows' blocks by the grid point. -/
theorem idx (t : Fin cfg0.N) : win0_0.index t = ![t.val / 4, 0] ∧ win0_1.index t = ![t.val % 4, 0]
    ∧ win0_2.index t = ![t.val / 4, t.val % 4] ∧ win0_3.index t = ![t.val / 4, t.val % 4] :=
  (by decide +kernel : ∀ t : Fin cfg0.N, win0_0.index t = ![t.val / 4, 0] ∧ win0_1.index t = ![t.val % 4, 0]
    ∧ win0_2.index t = ![t.val / 4, t.val % 4] ∧ win0_3.index t = ![t.val / 4, t.val % 4]) t

/-- Row `r` and column `j` of point `t`'s block. -/
abbrev row (t : Fin cfg0.N) (r : Fin 1024) : Fin 4096 :=
  ⟨t.val / 4 * 1024 + r.val, by have := t.isLt; have : cfg0.N = 16 := N_0; omega⟩
abbrev col (t : Fin cfg0.N) (j : Fin 1024) : Fin 4096 := ⟨t.val % 4 * 1024 + j.val, by omega⟩

theorem b0 (t : Fin cfg0.N) (x : S1024x1024.Idx) :
    (iblk m c 0 t : S1024x1024.Idx → EReal) x = A2 m c (ix2 (row t (x 0)) (x 1)) := by
  blk_ext [iblk, V, idx t]
theorem b1 (t : Fin cfg0.N) (x : S1024x1024.Idx) :
    (iblk m c 1 t : S1024x1024.Idx → EReal) x = A1 m c (ix2 (col t (x 0)) (x 1)) := by
  blk_ext [iblk, V, idx t]

/-- The ReLU's result, which the host computes. -/
theorem V_ar : (V m c main_v2 : S4096x4096.Idx → EReal) = Spec.relu (A0 m c) := by
  unfold_abbrev_sides
  after_results
  funext i
  pointwise
  rfl
theorem b2 (t : Fin cfg0.N) (x : S1024x1024.Idx) :
    (iblk m c 2 t : S1024x1024.Idx → EReal) x = Spec.relu (A0 m c) (ix2 (row t (x 0)) (col t (x 1))) := by
  have e : ((cfg0.win 2).blk t).view.emb x = ix2 (row t (x 0)) (col t (x 1)) := by blk_ext [idx t]
  exact (congrFun (V_ar m c) _).trans (congrArg _ e)

theorem out : (dats m 0 c).arrAt 3 cfg0.N = Spec.dRelu2 (A0 m c) (A1 m c) (A2 m c) := by
  refine (dats m 0 c).arrAt_eq_of_covers 3 _ (by decide +kernel) fun t hf y => ?_
  have e : ((cfg0.win 3).blk t).view.emb y = ix2 (row t (y 0)) (col t (y 1)) := by blk_ext [idx t]
  rw [e]
  blk_simp
  rw [after0_3]
  frame_out
  pointwise [k0_pay1]
  simp only [b0, b1, b2, Spec.two]
  rfl

end Cert.DActIdeal.Result

end
-- ==== Proof.DActRef.lean ====
module

public import proofs.«01_k».proof.Proof.Spec
public import proofs.«01_k».proof.Proof.Gen.DActRefIdeal.Run
public import proofs.«01_k».proof.Proof.Gen.DActRefIdeal.Read
public import Idealize.ShloMosaic.Lib.Pipeline.ValueKit
public import Idealize.ShloMosaic.Lib.Pointwise

@[expose] public section

set_option maxRecDepth 16384

noncomputable section

/-! # Back through the MLP's down projection and its squared ReLU: the reference's result is the same function of its arguments (`Proof/Spec.lean`) -/

namespace Cert.DActRefIdeal.Result

open Cert.DActRefIdeal Cert.DActRefIdeal.Gen Idealize.ShloMosaic Idealize.ShloMosaic.TcCoe Idealize.SL.Sem

theorem result (x0 : (⟨S4096x4096, .f32⟩ : BufTy).Contents (Elt Ideal)) (x1 x2 : (⟨S4096x1024, .bf16⟩ : BufTy).Contents (Elt Ideal)) :
    Read.val_main_v14 x0 x1 x2 = Spec.dRelu2 x0 x1 x2 := by
  refine funext fun (i : S4096x4096.Idx) => ?_
  rw [← Read.val_main_v14_eq]
  pointwise
  unfold Spec.dRelu2 Spec.mmT Spec.relu
  rw [Spec.two]
  by_cases h : 0 < x0 i
  · exact if_pos h
  · rw [if_neg h, max_eq_right (not_lt.mp h), mul_zero, mul_zero]

end Cert.DActRefIdeal.Result

end
-- ==== Proof.DActClaims.lean ====
module

public import proofs.«01_k».proof.Defs
public import proofs.«01_k».proof.Proof.Gen.DAct
public import proofs.«01_k».proof.Proof.Gen.DAct.Frame
public import proofs.«01_k».proof.Proof.Gen.DActIdeal.Value
public import proofs.«01_k».proof.Proof.Gen.DActRefIdeal.Run
public import proofs.«01_k».proof.Proof.Gen.DActRefIdeal.Read
public import proofs.«01_k».proof.Proof.DAct
public import proofs.«01_k».proof.Proof.DActRef
public import Idealize.ShloMosaic.Adequacy
public import Idealize.ShloMosaic.Init

@[expose] public section

noncomputable section

/-! # Back through the MLP's down projection and its squared ReLU: the claims -/

namespace Cert.Proof.DAct

open Idealize.ShloMosaic Idealize.SL.Sem

theorem frame_kernel : Cert.quiescent_DAct := fun m ρ _ => Cert.DAct.Gen.frame m ρ

theorem frame_kernelIdeal : Cert.quiescent_DActIdeal := fun m ρ _ => Cert.DActIdeal.Gen.frame m ρ

theorem frame_referenceIdeal : Cert.quiescent_DActRefIdeal := fun m ρ _ =>
  (θ_run Cert.DActRefIdeal.defs _ _).mono (fun r h => ⟨fun c => (h c).2,
      Idealize.ShloMosaic.sem_eq_zero_of_no_sems (by decide) r.2⟩)
    (Cert.DActRefIdeal.Value.run (F := Ideal) m ρ)

theorem preserves : Cert.preserves_DAct_DActIdeal := trivial

theorem algebraic : Cert.algebraic_DActIdeal_DActRefIdeal := by
  intro m ρ m' ρ' _ hagree
  refine ⟨_, Cert.DActIdeal.Value.run_blocks m ρ, ?_⟩
  refine (θ_run Cert.DActRefIdeal.defs _ _).mono (fun r h c => ?_) (Cert.DActRefIdeal.Value.run (F := Ideal) m' ρ')
  obtain ⟨h0, hargs⟩ := h c
  obtain ⟨a0, a1, a2⟩ := hagree c
  refine ⟨h0.trans ?_, hargs⟩
  · rw [Cert.DActIdeal.Result.out, a0, a1, a2]
    exact (Cert.DActRefIdeal.Read.val_main_v14_eq ..).trans (Cert.DActRefIdeal.Result.result ..)

end Cert.Proof.DAct

end
-- ==== Proof.MlpDown.lean ====
module

public import proofs.«01_k».proof.Proof.Gen.MlpDownIdeal.Value
public import Idealize.ShloMosaic.Lib.Pipeline.ValueKit
public import Idealize.ShloMosaic.Lib.Pointwise
public import Idealize.ShloMosaic.Lib.Pipeline.ReadBack
public import proofs.«01_k».proof.Proof.Spec

@[expose] public section

set_option maxRecDepth 16384

noncomputable section

/-! # The MLP's down projection, the residual sum and the RMSNorm: what the kernel leaves in its result -/

namespace Cert.MlpDownIdeal.Result

open Cert.MlpDownIdeal Cert.MlpDownIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The ReLU's result, the down projection, the residual and the norm's scale, on device `c`. -/
abbrev A0 : Spec.A2 4096 4096 := m ((c : Thread nD τ).loc main_arg0)
abbrev A1 : Spec.A2 4096 1024 := m ((c : Thread nD τ).loc main_arg1)
abbrev A2 : Spec.A2 4096 1024 := m ((c : Thread nD τ).loc main_arg2)
abbrev A3 : Spec.A2 1 1024 := m ((c : Thread nD τ).loc main_arg3)

/-- The windows' blocks by the grid point: eight blocks of 512 rows. -/
theorem idx (t : Fin cfg0.N) : win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0]) t

/-- Row `r` of point `t`'s block. -/
abbrev row (t : Fin cfg0.N) (r : Fin 512) : Fin 4096 :=
  ⟨t.val * 512 + r.val, by have := t.isLt; have : cfg0.N = 8 := N_0; omega⟩

theorem b0 (t : Fin cfg0.N) (x : S512x4096.Idx) :
    (iblk m c 0 t : S512x4096.Idx → EReal) x = A0 m c (ix2 (row t (x 0)) (x 1)) := by
  blk_ext [iblk, V, idx t]
theorem b1 (t : Fin cfg0.N) (x : S4096x1024.Idx) : (iblk m c 1 t : S4096x1024.Idx → EReal) x = A1 m c x := by
  blk_ext [iblk, V, idx t]
theorem b2 (t : Fin cfg0.N) (x : S512x1024.Idx) :
    (iblk m c 2 t : S512x1024.Idx → EReal) x = A2 m c (ix2 (row t (x 0)) (x 1)) := by
  blk_ext [iblk, V, idx t]
theorem b3 (t : Fin cfg0.N) (x : S1x1024.Idx) : (iblk m c 3 t : S1x1024.Idx → EReal) x = A3 m c x := by
  blk_ext [iblk, V, idx t]

/-- The residual sum. -/
theorem out4 : (dats m 0 c).arrAt 4 cfg0.N = Spec.resid (A2 m c) (Spec.sq (A0 m c)) (A1 m c) := by
  refine (dats m 0 c).arrAt_eq_of_covers 4 _ (by decide +kernel) fun t hf y => ?_
  have e : ((cfg0.win 4).blk t).view.emb y = ix2 (row t (y 0)) (y 1) := by blk_ext [idx t]
  rw [e]
  blk_simp
  rw [after0_4]
  frame_out
  pointwise [k0_pay1]
  simp only [b0, b1]
  rw [b2 m c t y]
  rfl

/-- Its norm. -/
theorem out5 : (dats m 0 c).arrAt 5 cfg0.N = Spec.norm (Spec.resid (A2 m c) (Spec.sq (A0 m c)) (A1 m c)) (A3 m c) := by
  refine (dats m 0 c).arrAt_eq_of_covers 5 _ (by decide +kernel) fun t hf y => ?_
  have e : ((cfg0.win 5).blk t).view.emb y = ix2 (row t (y 0)) (y 1) := by blk_ext [idx t]
  rw [e]
  blk_simp
  rw [after0_5]
  frame_out
  pointwise [k0_pay2, k0_pay1]
  simp only [b0, b1, b3]
  rw [b2 m c t y]
  simp only [b2]
  rfl

end Cert.MlpDownIdeal.Result

end
-- ==== Proof.MlpDownRef.lean ====
module

public import proofs.«01_k».proof.Proof.Spec
public import proofs.«01_k».proof.Proof.Gen.MlpDownRefIdeal.Run
public import proofs.«01_k».proof.Proof.Gen.MlpDownRefIdeal.Read
public import Idealize.ShloMosaic.Lib.Pipeline.ValueKit
public import Idealize.ShloMosaic.Lib.Pointwise

@[expose] public section

set_option maxRecDepth 16384

noncomputable section

/-! # The MLP's down projection, the residual sum and the RMSNorm: the reference's results are the same functions of its arguments (`Proof/Spec.lean`) -/

namespace Cert.MlpDownRefIdeal.Result

open Cert.MlpDownRefIdeal Cert.MlpDownRefIdeal.Gen Idealize.ShloMosaic Idealize.ShloMosaic.TcCoe Idealize.SL.Sem

variable (x0 : (⟨S4096x4096, .bf16⟩ : BufTy).Contents (Elt Ideal)) (x1 : (⟨S4096x1024, .bf16⟩ : BufTy).Contents (Elt Ideal)) (x2 : (⟨S4096x1024, .f32⟩ : BufTy).Contents (Elt Ideal)) (x3 : (⟨S1x1024, .f32⟩ : BufTy).Contents (Elt Ideal))

theorem sum : Read.val_main_v4 x0 x1 x2 = Spec.resid x2 (Spec.sq x0) x1 := by
  refine funext fun (i : S4096x1024.Idx) => ?_
  rw [← Read.val_main_v4_eq]
  pointwise
  unfold Spec.resid Spec.mm Spec.sq
  reads_congr <;> blk_ext!

theorem norm : Read.val_main_v17 x0 x1 x2 x3 = Spec.norm (Spec.resid x2 (Spec.sq x0) x1) x3 := by
  refine funext fun (i : S4096x1024.Idx) => ?_
  rw [← Read.val_main_v17_eq]
  pointwise
  unfold Spec.norm Spec.rstd Spec.resid Spec.mm Spec.sq Spec.len Spec.eps
  rfl

end Cert.MlpDownRefIdeal.Result

end
-- ==== Proof.MlpDownClaims.lean ====
module

public import proofs.«01_k».proof.Defs
public import proofs.«01_k».proof.Proof.Gen.MlpDown
public import proofs.«01_k».proof.Proof.Gen.MlpDown.Frame
public import proofs.«01_k».proof.Proof.Gen.MlpDownIdeal.Value
public import proofs.«01_k».proof.Proof.Gen.MlpDownRefIdeal.Run
public import proofs.«01_k».proof.Proof.Gen.MlpDownRefIdeal.Read
public import proofs.«01_k».proof.Proof.MlpDown
public import proofs.«01_k».proof.Proof.MlpDownRef
public import Idealize.ShloMosaic.Adequacy
public import Idealize.ShloMosaic.Init

@[expose] public section

noncomputable section

/-! # The MLP's down projection, the residual sum and the RMSNorm: the claims -/

namespace Cert.Proof.MlpDown

open Idealize.ShloMosaic Idealize.SL.Sem

theorem frame_kernel : Cert.quiescent_MlpDown := fun m ρ _ => Cert.MlpDown.Gen.frame m ρ

theorem frame_kernelIdeal : Cert.quiescent_MlpDownIdeal := fun m ρ _ => Cert.MlpDownIdeal.Gen.frame m ρ

theorem frame_referenceIdeal : Cert.quiescent_MlpDownRefIdeal := fun m ρ _ =>
  (θ_run Cert.MlpDownRefIdeal.defs _ _).mono (fun r h => ⟨fun c => (h c).2.2,
      Idealize.ShloMosaic.sem_eq_zero_of_no_sems (by decide) r.2⟩)
    (Cert.MlpDownRefIdeal.Value.run (F := Ideal) m ρ)

theorem preserves : Cert.preserves_MlpDown_MlpDownIdeal := trivial

theorem algebraic : Cert.algebraic_MlpDownIdeal_MlpDownRefIdeal := by
  intro m ρ m' ρ' _ hagree
  refine ⟨_, _, Cert.MlpDownIdeal.Value.run_blocks m ρ, ?_⟩
  refine (θ_run Cert.MlpDownRefIdeal.defs _ _).mono (fun r h c => ?_) (Cert.MlpDownRefIdeal.Value.run (F := Ideal) m' ρ')
  obtain ⟨h0, h1, hargs⟩ := h c
  obtain ⟨a0, a1, a2, a3⟩ := hagree c
  refine ⟨h0.trans ?_, h1.trans ?_, hargs⟩
  · rw [Cert.MlpDownIdeal.Result.out4, a0, a1, a2]
    exact (Cert.MlpDownRefIdeal.Read.val_main_v4_eq ..).trans (Cert.MlpDownRefIdeal.Result.sum ..)
  · rw [Cert.MlpDownIdeal.Result.out5, a0, a1, a2, a3]
    exact (Cert.MlpDownRefIdeal.Read.val_main_v17_eq ..).trans (Cert.MlpDownRefIdeal.Result.norm ..)

end Cert.Proof.MlpDown

end
-- ==== Proof.DWOut.lean ====
module

public import proofs.«01_k».proof.Proof.Gen.DWOutIdeal.Value
public import Idealize.ShloMosaic.Lib.Pipeline.ValueKit
public import Idealize.ShloMosaic.Lib.Pointwise
public import Idealize.ShloMosaic.Lib.Pipeline.ReadBack
public import proofs.«01_k».proof.Proof.Spec

@[expose] public section

set_option maxRecDepth 16384

noncomputable section

/-! # The gradient of the output projection: what the kernel leaves in its result -/

namespace Cert.DWOutIdeal.Result

open Cert.DWOutIdeal Cert.DWOutIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The merged branches and the residual gradient, on device `c`. -/
abbrev A0 : Spec.A2 4096 1024 := m ((c : Thread nD τ).loc main_arg0)
abbrev A1 : Spec.A2 4096 1024 := m ((c : Thread nD τ).loc main_arg1)

/-- The windows' blocks by the grid point. -/
theorem idx (t : Fin cfg0.N) : win0_0.index t = ![t.val % 4, 0] ∧ win0_1.index t = ![t.val % 4, 0] ∧ win0_2.index t = ![0, 0] :=
  (by decide +kernel : ∀ t : Fin cfg0.N, win0_0.index t = ![t.val % 4, 0] ∧ win0_1.index t = ![t.val % 4, 0] ∧ win0_2.index t = ![0, 0]) t

/-- Token `r` of point `t`'s block. -/
abbrev tok (t : Fin cfg0.N) (r : Fin 1024) : Fin 4096 := ⟨t.val % 4 * 1024 + r.val, by omega⟩

theorem b0 (t : Fin cfg0.N) (x : S1024x1024.Idx) :
    (iblk m c 0 t : S1024x1024.Idx → EReal) x = A0 m c (ix2 (tok t (x 0)) (x 1)) := by
  blk_ext [iblk, V, idx t]
theorem b1 (t : Fin cfg0.N) (x : S1024x1024.Idx) :
    (iblk m c 1 t : S1024x1024.Idx → EReal) x = A1 m c (ix2 (tok t (x 0)) (x 1)) := by
  blk_ext [iblk, V, idx t]

/-- What point `t` adds to the accumulator: the products over its block of tokens. -/
def term (t : Fin cfg0.N) (y : S1024x1024.Idx) : EReal :=
  ∑ r : Fin 1024, A0 m c (ix2 (tok t r) (y 0)) * A1 m c (ix2 (tok t r) (y 1))

theorem acc_first (t : Fin cfg0.N) (h : t.val % 4 = 0) (y : S1024x1024.Idx) :
    (outsAt0 m c t.val t.isLt).2 y = 0 + term m c t y := by
  have hN : t.val < 4 := lt_of_lt_of_eq t.isLt (show cfg0.N = 4 from N_0)
  rw [outsAt0_A m c t h (by omega) (by omega), zero_add]
  frame_out
  pointwise [k0_pay2, k0_pay1]
  simp only [b0, b1]
  rfl

theorem acc_next (t : Fin cfg0.N) (h : ¬t.val % 4 = 0) (y : S1024x1024.Idx) :
    (outsAt0 m c t.val t.isLt).2 y
      = (outsAt0 m c (t.val - 1) (Nat.lt_of_le_of_lt (Nat.sub_le _ _) t.isLt)).2 y + term m c t y := by
  have hN : t.val < 4 := lt_of_lt_of_eq t.isLt (show cfg0.N = 4 from N_0)
  by_cases h3 : t.val % 4 = 3
  · rw [outsAt0_C m c t h (by omega) h3]
    frame_out
    pointwise [k0_pay3, k0_pay1]
    simp only [b0, b1]
    exact congrArg₂ (· + ·) (congrFun ((Memref.isWhole_whole cc0_scratch0).read_unread _) y) rfl
  · rw [outsAt0_B m c t h (by omega) h3]
    frame_out
    pointwise [k0_pay3, k0_pay1]
    simp only [b0, b1]
    exact congrArg₂ (· + ·) (congrFun ((Memref.isWhole_whole cc0_scratch0).read_unread _) y) rfl

/-- At the last of its four points a block's accumulator holds the sum over all the tokens. -/
theorem acc_last (t : Fin cfg0.N) (h : t.val % 4 = 3) (y : S1024x1024.Idx) :
    (outsAt0 m c t.val t.isLt).2 y = Spec.tmm (A0 m c) (A1 m c) y := by
  refine (Pipeline.eq_sum_fin_of_reset_step_apply_of_flush (fun n h => (outsAt0 m c n h).2) 4 (fun _ => (0 : EReal)) (term m c)
    (acc_first m c) (acc_next m c) t h y).trans ?_
  rw [zero_add]
  unfold Spec.tmm
  refine Eq.trans ?_ (Spec.sum_rows 4 1024 _).symm
  refine Finset.sum_congr rfl fun s _ => ?_
  unfold term
  refine Finset.sum_congr rfl fun r _ => ?_
  have hs : (4 * (t.val / 4) + s.val) % 4 = s.val := by omega
  have hd : (4 * (t.val / 4) + s.val) / 4 = t.val / 4 := by omega
  reads_congr <;> blk_ext!

/-- There the block of the result is stored: the accumulator. -/
theorem stored (t : Fin cfg0.N) (h : t.val % 4 = 3) (y : S1024x1024.Idx) :
    (outsAt0 m c t.val t.isLt).1 y = (outsAt0 m c t.val t.isLt).2 y := by
  rw [outsAt0_C m c t (by omega) (by have := t.isLt; omega) h]
  frame_out

theorem out : (dats m 0 c).arrAt 2 cfg0.N = Spec.tmm (A0 m c) (A1 m c) := by
  refine (dats m 0 c).arrAt_eq_of_covers 2 _ (by decide +kernel) fun t hf y => ?_
  have h3 : t.val % 4 = 3 := (flush0_2 t).mp hf
  have e : ((cfg0.win 2).blk t).view.emb y = y := by blk_ext [idx t]
  rw [e]
  blk_simp
  rw [after0_2, stored m c t h3]
  exact acc_last m c t h3 y

end Cert.DWOutIdeal.Result

end
-- ==== Proof.DWOutRef.lean ====
module

public import proofs.«01_k».proof.Proof.Spec
public import proofs.«01_k».proof.Proof.Gen.DWOutRefIdeal.Run
public import proofs.«01_k».proof.Proof.Gen.DWOutRefIdeal.Read
public import Idealize.ShloMosaic.Lib.Pipeline.ValueKit
public import Idealize.ShloMosaic.Lib.Pointwise

@[expose] public section

set_option maxRecDepth 16384

noncomputable section

/-! # The gradient of the output projection: the reference's result is the same function of its arguments (`Proof/Spec.lean`) -/

namespace Cert.DWOutRefIdeal.Result

open Cert.DWOutRefIdeal Cert.DWOutRefIdeal.Gen Idealize.ShloMosaic Idealize.ShloMosaic.TcCoe Idealize.SL.Sem

theorem result (x0 : (⟨S4096x1024, .bf16⟩ : BufTy).Contents (Elt Ideal)) (x1 : (⟨S4096x1024, .bf16⟩ : BufTy).Contents (Elt Ideal)) :
    Read.val_main_v5 x0 x1 = Spec.tmm x0 x1 := by
  refine funext fun (i : S1024x1024.Idx) => ?_
  rw [← Read.val_main_v5_eq]
  pointwise
  unfold Spec.tmm
  refine Finset.sum_congr rfl fun q _ => (mul_comm _ _).trans ?_
  reads_congr <;> blk_ext!

end Cert.DWOutRefIdeal.Result

end
-- ==== Proof.DWOutClaims.lean ====
module

public import proofs.«01_k».proof.Defs
public import proofs.«01_k».proof.Proof.Gen.DWOut
public import proofs.«01_k».proof.Proof.Gen.DWOut.Frame
public import proofs.«01_k».proof.Proof.Gen.DWOutIdeal.Value
public import proofs.«01_k».proof.Proof.Gen.DWOutRefIdeal.Run
public import proofs.«01_k».proof.Proof.Gen.DWOutRefIdeal.Read
public import proofs.«01_k».proof.Proof.DWOut
public import proofs.«01_k».proof.Proof.DWOutRef
public import Idealize.ShloMosaic.Adequacy
public import Idealize.ShloMosaic.Init

@[expose] public section

noncomputable section

/-! # The gradient of the output projection: the claims -/

namespace Cert.Proof.DWOut

open Idealize.ShloMosaic Idealize.SL.Sem

theorem frame_kernel : Cert.quiescent_DWOut := fun m ρ _ => Cert.DWOut.Gen.frame m ρ

theorem frame_kernelIdeal : Cert.quiescent_DWOutIdeal := fun m ρ _ => Cert.DWOutIdeal.Gen.frame m ρ

theorem frame_referenceIdeal : Cert.quiescent_DWOutRefIdeal := fun m ρ _ =>
  (θ_run Cert.DWOutRefIdeal.defs _ _).mono (fun r h => ⟨fun c => (h c).2,
      Idealize.ShloMosaic.sem_eq_zero_of_no_sems (by decide) r.2⟩)
    (Cert.DWOutRefIdeal.Value.run (F := Ideal) m ρ)

theorem preserves : Cert.preserves_DWOut_DWOutIdeal := trivial

theorem algebraic : Cert.algebraic_DWOutIdeal_DWOutRefIdeal := by
  intro m ρ m' ρ' _ hagree
  refine ⟨_, Cert.DWOutIdeal.Value.run_blocks m ρ, ?_⟩
  refine (θ_run Cert.DWOutRefIdeal.defs _ _).mono (fun r h c => ?_) (Cert.DWOutRefIdeal.Value.run (F := Ideal) m' ρ')
  obtain ⟨h0, hargs⟩ := h c
  obtain ⟨a0, a1⟩ := hagree c
  refine ⟨h0.trans ?_, hargs⟩
  · rw [Cert.DWOutIdeal.Result.out, a0, a1]
    exact (Cert.DWOutRefIdeal.Read.val_main_v5_eq ..).trans (Cert.DWOutRefIdeal.Result.result ..)

end Cert.Proof.DWOut

end
-- ==== Proof.DWBranch.lean ====
module

public import proofs.«01_k».proof.Proof.Gen.DWBranchIdeal.Value
public import Idealize.ShloMosaic.Lib.Pipeline.ValueKit
public import Idealize.ShloMosaic.Lib.Pointwise
public import Idealize.ShloMosaic.Lib.Pipeline.ReadBack
public import proofs.«01_k».proof.Proof.Spec

@[expose] public section

set_option maxRecDepth 16384

noncomputable section

/-! # The gradient of a branch's projection: what the kernel leaves in its result -/

namespace Cert.DWBranchIdeal.Result

open Cert.DWBranchIdeal Cert.DWBranchIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The branch's output and the gradient of its projection, on device `c`. -/
abbrev A0 : Spec.A2 4096 512 := m ((c : Thread nD τ).loc main_arg0)
abbrev A1 : Spec.A2 4096 1024 := m ((c : Thread nD τ).loc main_arg1)

/-- The windows' blocks by the grid point. -/
theorem idx (t : Fin cfg0.N) : win0_0.index t = ![t.val % 4, 0] ∧ win0_1.index t = ![t.val % 4, 0]
    ∧ win0_2.index t = ![0, 0, 0] :=
  (by decide +kernel : ∀ t : Fin cfg0.N, win0_0.index t = ![t.val % 4, 0] ∧ win0_1.index t = ![t.val % 4, 0]
    ∧ win0_2.index t = ![0, 0, 0]) t

/-- Token `r` of point `t`'s block. -/
abbrev tok (t : Fin cfg0.N) (r : Fin 1024) : Fin 4096 := ⟨t.val % 4 * 1024 + r.val, by omega⟩

theorem b0 (t : Fin cfg0.N) (x : S1024x512.Idx) :
    (iblk m c 0 t : S1024x512.Idx → EReal) x = A0 m c (ix2 (tok t (x 0)) (x 1)) := by
  blk_ext [iblk, V, idx t]
theorem b1 (t : Fin cfg0.N) (x : S1024x1024.Idx) :
    (iblk m c 1 t : S1024x1024.Idx → EReal) x = A1 m c (ix2 (tok t (x 0)) (x 1)) := by
  blk_ext [iblk, V, idx t]

/-- What point `t` adds to the accumulator: the products over its block of tokens. -/
def term (t : Fin cfg0.N) (y : S512x1024.Idx) : EReal :=
  ∑ r : Fin 1024, A0 m c (ix2 (tok t r) (y 0)) * A1 m c (ix2 (tok t r) (y 1))

theorem acc_first (t : Fin cfg0.N) (h : t.val % 4 = 0) (y : S512x1024.Idx) :
    (outsAt0 m c t.val t.isLt).2 y = 0 + term m c t y := by
  have hN : t.val < 4 := lt_of_lt_of_eq t.isLt (show cfg0.N = 4 from N_0)
  rw [outsAt0_A m c t h (by omega) (by omega), zero_add]
  frame_out
  pointwise [k0_pay2, k0_pay1]
  simp only [b0, b1]
  rfl

theorem acc_next (t : Fin cfg0.N) (h : ¬t.val % 4 = 0) (y : S512x1024.Idx) :
    (outsAt0 m c t.val t.isLt).2 y
      = (outsAt0 m c (t.val - 1) (Nat.lt_of_le_of_lt (Nat.sub_le _ _) t.isLt)).2 y + term m c t y := by
  have hN : t.val < 4 := lt_of_lt_of_eq t.isLt (show cfg0.N = 4 from N_0)
  by_cases h3 : t.val % 4 = 3
  · rw [outsAt0_C m c t h (by omega) h3]
    frame_out
    pointwise [k0_pay3, k0_pay1]
    simp only [b0, b1]
    exact congrArg₂ (· + ·) (congrFun ((Memref.isWhole_whole cc0_scratch0).read_unread _) y) rfl
  · rw [outsAt0_B m c t h (by omega) h3]
    frame_out
    pointwise [k0_pay3, k0_pay1]
    simp only [b0, b1]
    exact congrArg₂ (· + ·) (congrFun ((Memref.isWhole_whole cc0_scratch0).read_unread _) y) rfl

/-- At the last of its four points a block's accumulator holds the sum over all the tokens. -/
theorem acc_last (t : Fin cfg0.N) (h : t.val % 4 = 3) (y : S512x1024.Idx) :
    (outsAt0 m c t.val t.isLt).2 y = Spec.tmm (A0 m c) (A1 m c) y := by
  refine (Pipeline.eq_sum_fin_of_reset_step_apply_of_flush (fun n h => (outsAt0 m c n h).2) 4 (fun _ => (0 : EReal)) (term m c)
    (acc_first m c) (acc_next m c) t h y).trans ?_
  rw [zero_add]
  unfold Spec.tmm
  refine Eq.trans ?_ (Spec.sum_rows 4 1024 _).symm
  refine Finset.sum_congr rfl fun s _ => ?_
  unfold term
  refine Finset.sum_congr rfl fun r _ => ?_
  have hs : (4 * (t.val / 4) + s.val) % 4 = s.val := by omega
  have hd : (4 * (t.val / 4) + s.val) / 4 = t.val / 4 := by omega
  reads_congr <;> blk_ext!

/-- There the four column shards are stored: the accumulator's four blocks of 256 columns. -/
theorem stored (t : Fin cfg0.N) (h : t.val % 4 = 3) (y : S4x512x256.Idx) :
    (outsAt0 m c t.val t.isLt).1 y = Spec.shards rfl ((outsAt0 m c t.val t.isLt).2 : Spec.A2 512 1024) y := by
  have hN : t.val < 4 := lt_of_lt_of_eq t.isLt (show cfg0.N = 4 from N_0)
  rw [outsAt0_C m c t (by omega) (by omega) h]
  frame_out
  canon_tiles x h
  · pointwise [k0_pay7]
    unfold Spec.shards
    reads_congr <;> blk_ext!
  · pointwise [k0_pay6]
    unfold Spec.shards
    reads_congr <;> blk_ext!
  · pointwise [k0_pay5]
    unfold Spec.shards
    reads_congr <;> blk_ext!
  · pointwise [k0_pay4]
    unfold Spec.shards
    reads_congr <;> blk_ext!

theorem out : (dats m 0 c).arrAt 2 cfg0.N = Spec.shards rfl (Spec.tmm (A0 m c) (A1 m c)) := by
  refine (dats m 0 c).arrAt_eq_of_covers 2 _ (by decide +kernel) fun t hf y => ?_
  have h3 : t.val % 4 = 3 := (flush0_2 t).mp hf
  have e : ((cfg0.win 2).blk t).view.emb y = y := by blk_ext [idx t]
  rw [e]
  blk_simp
  rw [after0_2, stored m c t h3]
  unfold Spec.shards
  exact acc_last m c t h3 _

end Cert.DWBranchIdeal.Result

end
-- ==== Proof.DWBranchRef.lean ====
module

public import proofs.«01_k».proof.Proof.Spec
public import proofs.«01_k».proof.Proof.Gen.DWBranchRefIdeal.Run
public import proofs.«01_k».proof.Proof.Gen.DWBranchRefIdeal.Read
public import Idealize.ShloMosaic.Lib.Pipeline.ValueKit
public import Idealize.ShloMosaic.Lib.Pointwise

@[expose] public section

set_option maxRecDepth 16384

noncomputable section

/-! # The gradient of a branch's projection: the reference's result is the same function of its arguments (`Proof/Spec.lean`) -/

namespace Cert.DWBranchRefIdeal.Result

open Cert.DWBranchRefIdeal Cert.DWBranchRefIdeal.Gen Idealize.ShloMosaic Idealize.ShloMosaic.TcCoe Idealize.SL.Sem

theorem result (x0 : (⟨S4096x512, .bf16⟩ : BufTy).Contents (Elt Ideal)) (x1 : (⟨S4096x1024, .bf16⟩ : BufTy).Contents (Elt Ideal)) :
    Read.val_main_v29 x0 x1 = Spec.shards rfl (Spec.tmm x0 x1) := by
  refine funext fun (i : S4x512x256.Idx) => ?_
  have h0 : (i 0).val < 4 := (i 0).isLt
  rw [← Read.val_main_v29_eq]
  pointwise
  unfold Spec.shards Spec.tmm
  obtain h | h | h | h : (i 0).val = 0 ∨ (i 0).val = 1 ∨ (i 0).val = 2 ∨ (i 0).val = 3 := by omega
  · rw [dif_neg (by omega), dif_neg (by omega), dif_neg (by omega), dif_pos (by omega)]
    simp only [zero_add, add_zero]
    refine Finset.sum_congr rfl fun q _ => (mul_comm _ _).trans ?_
    reads_congr <;> blk_ext!
  · rw [dif_neg (by omega), dif_neg (by omega), dif_pos (by omega), dif_neg (by omega)]
    simp only [zero_add, add_zero]
    refine Finset.sum_congr rfl fun q _ => (mul_comm _ _).trans ?_
    reads_congr <;> blk_ext!
  · rw [dif_neg (by omega), dif_pos (by omega), dif_neg (by omega), dif_neg (by omega)]
    simp only [zero_add, add_zero]
    refine Finset.sum_congr rfl fun q _ => (mul_comm _ _).trans ?_
    reads_congr <;> blk_ext!
  · rw [dif_pos (by omega), dif_neg (by omega), dif_neg (by omega), dif_neg (by omega)]
    simp only [zero_add, add_zero]
    refine Finset.sum_congr rfl fun q _ => (mul_comm _ _).trans ?_
    reads_congr <;> blk_ext!

end Cert.DWBranchRefIdeal.Result

end
-- ==== Proof.DWBranchClaims.lean ====
module

public import proofs.«01_k».proof.Defs
public import proofs.«01_k».proof.Proof.Gen.DWBranch
public import proofs.«01_k».proof.Proof.Gen.DWBranch.Frame
public import proofs.«01_k».proof.Proof.Gen.DWBranchIdeal.Value
public import proofs.«01_k».proof.Proof.Gen.DWBranchRefIdeal.Run
public import proofs.«01_k».proof.Proof.Gen.DWBranchRefIdeal.Read
public import proofs.«01_k».proof.Proof.DWBranch
public import proofs.«01_k».proof.Proof.DWBranchRef
public import Idealize.ShloMosaic.Adequacy
public import Idealize.ShloMosaic.Init

@[expose] public section

noncomputable section

/-! # The gradient of a branch's projection: the claims -/

namespace Cert.Proof.DWBranch

open Idealize.ShloMosaic Idealize.SL.Sem

theorem frame_kernel : Cert.quiescent_DWBranch := fun m ρ _ => Cert.DWBranch.Gen.frame m ρ

theorem frame_kernelIdeal : Cert.quiescent_DWBranchIdeal := fun m ρ _ => Cert.DWBranchIdeal.Gen.frame m ρ

theorem frame_referenceIdeal : Cert.quiescent_DWBranchRefIdeal := fun m ρ _ =>
  (θ_run Cert.DWBranchRefIdeal.defs _ _).mono (fun r h => ⟨fun c => (h c).2,
      Idealize.ShloMosaic.sem_eq_zero_of_no_sems (by decide) r.2⟩)
    (Cert.DWBranchRefIdeal.Value.run (F := Ideal) m ρ)

theorem preserves : Cert.preserves_DWBranch_DWBranchIdeal := trivial

theorem algebraic : Cert.algebraic_DWBranchIdeal_DWBranchRefIdeal := by
  intro m ρ m' ρ' _ hagree
  refine ⟨_, Cert.DWBranchIdeal.Value.run_blocks m ρ, ?_⟩
  refine (θ_run Cert.DWBranchRefIdeal.defs _ _).mono (fun r h c => ?_) (Cert.DWBranchRefIdeal.Value.run (F := Ideal) m' ρ')
  obtain ⟨h0, hargs⟩ := h c
  obtain ⟨a0, a1⟩ := hagree c
  refine ⟨h0.trans ?_, hargs⟩
  · rw [Cert.DWBranchIdeal.Result.out, a0, a1]
    exact (Cert.DWBranchRefIdeal.Read.val_main_v29_eq ..).trans (Cert.DWBranchRefIdeal.Result.result ..)

end Cert.Proof.DWBranch

end
-- ==== Proof.DWPle.lean ====
module

public import proofs.«01_k».proof.Proof.Gen.DWPleIdeal.Value
public import Idealize.ShloMosaic.Lib.Pipeline.ValueKit
public import Idealize.ShloMosaic.Lib.Pointwise
public import Idealize.ShloMosaic.Lib.Pipeline.ReadBack
public import proofs.«01_k».proof.Proof.Spec

@[expose] public section

set_option maxRecDepth 16384

noncomputable section

/-! # The gradient of the per-layer embedding's projection: what the kernel leaves in its result -/

namespace Cert.DWPleIdeal.Result

open Cert.DWPleIdeal Cert.DWPleIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The per-layer embedding and the gradient of its projection, on device `c`. -/
abbrev A0 : Spec.A2 4096 256 := m ((c : Thread nD τ).loc main_arg0)
abbrev A1 : Spec.A2 4096 1024 := m ((c : Thread nD τ).loc main_arg1)

/-- The windows' blocks by the grid point. -/
theorem idx (t : Fin cfg0.N) : win0_0.index t = ![t.val % 4, 0] ∧ win0_1.index t = ![t.val % 4, 0]
    ∧ win0_2.index t = ![0, 0, 0] :=
  (by decide +kernel : ∀ t : Fin cfg0.N, win0_0.index t = ![t.val % 4, 0] ∧ win0_1.index t = ![t.val % 4, 0]
    ∧ win0_2.index t = ![0, 0, 0]) t

/-- Token `r` of point `t`'s block. -/
abbrev tok (t : Fin cfg0.N) (r : Fin 1024) : Fin 4096 := ⟨t.val % 4 * 1024 + r.val, by omega⟩

theorem b0 (t : Fin cfg0.N) (x : S1024x256.Idx) :
    (iblk m c 0 t : S1024x256.Idx → EReal) x = A0 m c (ix2 (tok t (x 0)) (x 1)) := by
  blk_ext [iblk, V, idx t]
theorem b1 (t : Fin cfg0.N) (x : S1024x1024.Idx) :
    (iblk m c 1 t : S1024x1024.Idx → EReal) x = A1 m c (ix2 (tok t (x 0)) (x 1)) := by
  blk_ext [iblk, V, idx t]

/-- What point `t` adds to the accumulator: the products over its block of tokens. -/
def term (t : Fin cfg0.N) (y : S256x1024.Idx) : EReal :=
  ∑ r : Fin 1024, A0 m c (ix2 (tok t r) (y 0)) * A1 m c (ix2 (tok t r) (y 1))

theorem acc_first (t : Fin cfg0.N) (h : t.val % 4 = 0) (y : S256x1024.Idx) :
    (outsAt0 m c t.val t.isLt).2 y = 0 + term m c t y := by
  have hN : t.val < 4 := lt_of_lt_of_eq t.isLt (show cfg0.N = 4 from N_0)
  rw [outsAt0_A m c t h (by omega) (by omega), zero_add]
  frame_out
  pointwise [k0_pay2, k0_pay1]
  simp only [b0, b1]
  rfl

theorem acc_next (t : Fin cfg0.N) (h : ¬t.val % 4 = 0) (y : S256x1024.Idx) :
    (outsAt0 m c t.val t.isLt).2 y
      = (outsAt0 m c (t.val - 1) (Nat.lt_of_le_of_lt (Nat.sub_le _ _) t.isLt)).2 y + term m c t y := by
  have hN : t.val < 4 := lt_of_lt_of_eq t.isLt (show cfg0.N = 4 from N_0)
  by_cases h3 : t.val % 4 = 3
  · rw [outsAt0_C m c t h (by omega) h3]
    frame_out
    pointwise [k0_pay3, k0_pay1]
    simp only [b0, b1]
    exact congrArg₂ (· + ·) (congrFun ((Memref.isWhole_whole cc0_scratch0).read_unread _) y) rfl
  · rw [outsAt0_B m c t h (by omega) h3]
    frame_out
    pointwise [k0_pay3, k0_pay1]
    simp only [b0, b1]
    exact congrArg₂ (· + ·) (congrFun ((Memref.isWhole_whole cc0_scratch0).read_unread _) y) rfl

/-- At the last of its four points a block's accumulator holds the sum over all the tokens. -/
theorem acc_last (t : Fin cfg0.N) (h : t.val % 4 = 3) (y : S256x1024.Idx) :
    (outsAt0 m c t.val t.isLt).2 y = Spec.tmm (A0 m c) (A1 m c) y := by
  refine (Pipeline.eq_sum_fin_of_reset_step_apply_of_flush (fun n h => (outsAt0 m c n h).2) 4 (fun _ => (0 : EReal)) (term m c)
    (acc_first m c) (acc_next m c) t h y).trans ?_
  rw [zero_add]
  unfold Spec.tmm
  refine Eq.trans ?_ (Spec.sum_rows 4 1024 _).symm
  refine Finset.sum_congr rfl fun s _ => ?_
  unfold term
  refine Finset.sum_congr rfl fun r _ => ?_
  have hs : (4 * (t.val / 4) + s.val) % 4 = s.val := by omega
  have hd : (4 * (t.val / 4) + s.val) / 4 = t.val / 4 := by omega
  reads_congr <;> blk_ext!

/-- There the four column shards are stored: the accumulator's four blocks of 256 columns. -/
theorem stored (t : Fin cfg0.N) (h : t.val % 4 = 3) (y : S4x256x256.Idx) :
    (outsAt0 m c t.val t.isLt).1 y = Spec.shards rfl ((outsAt0 m c t.val t.isLt).2 : Spec.A2 256 1024) y := by
  have hN : t.val < 4 := lt_of_lt_of_eq t.isLt (show cfg0.N = 4 from N_0)
  rw [outsAt0_C m c t (by omega) (by omega) h]
  frame_out
  canon_tiles x h
  · pointwise [k0_pay7]
    unfold Spec.shards
    reads_congr <;> blk_ext!
  · pointwise [k0_pay6]
    unfold Spec.shards
    reads_congr <;> blk_ext!
  · pointwise [k0_pay5]
    unfold Spec.shards
    reads_congr <;> blk_ext!
  · pointwise [k0_pay4]
    unfold Spec.shards
    reads_congr <;> blk_ext!

theorem out : (dats m 0 c).arrAt 2 cfg0.N = Spec.shards rfl (Spec.tmm (A0 m c) (A1 m c)) := by
  refine (dats m 0 c).arrAt_eq_of_covers 2 _ (by decide +kernel) fun t hf y => ?_
  have h3 : t.val % 4 = 3 := (flush0_2 t).mp hf
  have e : ((cfg0.win 2).blk t).view.emb y = y := by blk_ext [idx t]
  rw [e]
  blk_simp
  rw [after0_2, stored m c t h3]
  unfold Spec.shards
  exact acc_last m c t h3 _

end Cert.DWPleIdeal.Result

end
-- ==== Proof.DWPleRef.lean ====
module

public import proofs.«01_k».proof.Proof.Spec
public import proofs.«01_k».proof.Proof.Gen.DWPleRefIdeal.Run
public import proofs.«01_k».proof.Proof.Gen.DWPleRefIdeal.Read
public import Idealize.ShloMosaic.Lib.Pipeline.ValueKit
public import Idealize.ShloMosaic.Lib.Pointwise

@[expose] public section

set_option maxRecDepth 16384

noncomputable section

/-! # The gradient of the per-layer embedding's projection: the reference's result is the same function of its arguments (`Proof/Spec.lean`) -/

namespace Cert.DWPleRefIdeal.Result

open Cert.DWPleRefIdeal Cert.DWPleRefIdeal.Gen Idealize.ShloMosaic Idealize.ShloMosaic.TcCoe Idealize.SL.Sem

theorem result (x0 : (⟨S4096x256, .f32⟩ : BufTy).Contents (Elt Ideal)) (x1 : (⟨S4096x1024, .bf16⟩ : BufTy).Contents (Elt Ideal)) :
    Read.val_main_v28 x0 x1 = Spec.shards rfl (Spec.tmm x0 x1) := by
  refine funext fun (i : S4x256x256.Idx) => ?_
  have h0 : (i 0).val < 4 := (i 0).isLt
  rw [← Read.val_main_v28_eq]
  pointwise
  unfold Spec.shards Spec.tmm
  obtain h | h | h | h : (i 0).val = 0 ∨ (i 0).val = 1 ∨ (i 0).val = 2 ∨ (i 0).val = 3 := by omega
  · rw [dif_neg (by omega), dif_neg (by omega), dif_neg (by omega), dif_pos (by omega)]
    simp only [zero_add, add_zero]
    refine Finset.sum_congr rfl fun q _ => (mul_comm _ _).trans ?_
    reads_congr <;> blk_ext!
  · rw [dif_neg (by omega), dif_neg (by omega), dif_pos (by omega), dif_neg (by omega)]
    simp only [zero_add, add_zero]
    refine Finset.sum_congr rfl fun q _ => (mul_comm _ _).trans ?_
    reads_congr <;> blk_ext!
  · rw [dif_neg (by omega), dif_pos (by omega), dif_neg (by omega), dif_neg (by omega)]
    simp only [zero_add, add_zero]
    refine Finset.sum_congr rfl fun q _ => (mul_comm _ _).trans ?_
    reads_congr <;> blk_ext!
  · rw [dif_pos (by omega), dif_neg (by omega), dif_neg (by omega), dif_neg (by omega)]
    simp only [zero_add, add_zero]
    refine Finset.sum_congr rfl fun q _ => (mul_comm _ _).trans ?_
    reads_congr <;> blk_ext!

end Cert.DWPleRefIdeal.Result

end
-- ==== Proof.DWPleClaims.lean ====
module

public import proofs.«01_k».proof.Defs
public import proofs.«01_k».proof.Proof.Gen.DWPle
public import proofs.«01_k».proof.Proof.Gen.DWPle.Frame
public import proofs.«01_k».proof.Proof.Gen.DWPleIdeal.Value
public import proofs.«01_k».proof.Proof.Gen.DWPleRefIdeal.Run
public import proofs.«01_k».proof.Proof.Gen.DWPleRefIdeal.Read
public import proofs.«01_k».proof.Proof.DWPle
public import proofs.«01_k».proof.Proof.DWPleRef
public import Idealize.ShloMosaic.Adequacy
public import Idealize.ShloMosaic.Init

@[expose] public section

noncomputable section

/-! # The gradient of the per-layer embedding's projection: the claims -/

namespace Cert.Proof.DWPle

open Idealize.ShloMosaic Idealize.SL.Sem

theorem frame_kernel : Cert.quiescent_DWPle := fun m ρ _ => Cert.DWPle.Gen.frame m ρ

theorem frame_kernelIdeal : Cert.quiescent_DWPleIdeal := fun m ρ _ => Cert.DWPleIdeal.Gen.frame m ρ

theorem frame_referenceIdeal : Cert.quiescent_DWPleRefIdeal := fun m ρ _ =>
  (θ_run Cert.DWPleRefIdeal.defs _ _).mono (fun r h => ⟨fun c => (h c).2,
      Idealize.ShloMosaic.sem_eq_zero_of_no_sems (by decide) r.2⟩)
    (Cert.DWPleRefIdeal.Value.run (F := Ideal) m ρ)

theorem preserves : Cert.preserves_DWPle_DWPleIdeal := trivial

theorem algebraic : Cert.algebraic_DWPleIdeal_DWPleRefIdeal := by
  intro m ρ m' ρ' _ hagree
  refine ⟨_, Cert.DWPleIdeal.Value.run_blocks m ρ, ?_⟩
  refine (θ_run Cert.DWPleRefIdeal.defs _ _).mono (fun r h c => ?_) (Cert.DWPleRefIdeal.Value.run (F := Ideal) m' ρ')
  obtain ⟨h0, hargs⟩ := h c
  obtain ⟨a0, a1⟩ := hagree c
  refine ⟨h0.trans ?_, hargs⟩
  · rw [Cert.DWPleIdeal.Result.out, a0, a1]
    exact (Cert.DWPleRefIdeal.Read.val_main_v28_eq ..).trans (Cert.DWPleRefIdeal.Result.result ..)

end Cert.Proof.DWPle

end
-- ==== Proof.ProjQkv.lean ====
module

public import proofs.«01_k».proof.Proof.Gen.ProjQkvIdeal.Value
public import Idealize.ShloMosaic.Lib.Pipeline.ValueKit
public import Idealize.ShloMosaic.Lib.Pointwise
public import Idealize.ShloMosaic.Lib.Pipeline.ReadBack
public import proofs.«01_k».proof.Proof.Spec

@[expose] public section

set_option maxRecDepth 16384

noncomputable section

/-! # The attentions' columns of the in-projection: what the kernel leaves in its result -/

namespace Cert.ProjQkvIdeal.Result

open Cert.ProjQkvIdeal Cert.ProjQkvIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The normalised activations and the projection's columns, on device `c`. -/
abbrev A0 : Spec.A2 4096 1024 := m ((c : Thread nD τ).loc main_arg0)
abbrev A1 : Spec.A2 1024 3072 := m ((c : Thread nD τ).loc main_arg1)

/-- The windows' blocks by the grid point. -/
theorem idx (t : Fin cfg0.N) : win0_0.index t = ![t.val / 3, 0] ∧ win0_1.index t = ![0, t.val % 3]
    ∧ win0_2.index t = ![t.val / 3, t.val % 3] :=
  (by decide +kernel : ∀ t : Fin cfg0.N, win0_0.index t = ![t.val / 3, 0] ∧ win0_1.index t = ![0, t.val % 3]
    ∧ win0_2.index t = ![t.val / 3, t.val % 3]) t

/-- Row `r` and column `j` of point `t`'s block. -/
abbrev row (t : Fin cfg0.N) (r : Fin 1024) : Fin 4096 :=
  ⟨t.val / 3 * 1024 + r.val, by have := t.isLt; have : cfg0.N = 12 := N_0; omega⟩
abbrev col (t : Fin cfg0.N) (j : Fin 1024) : Fin 3072 := ⟨t.val % 3 * 1024 + j.val, by omega⟩

theorem b0 (t : Fin cfg0.N) (x : S1024x1024.Idx) :
    (iblk m c 0 t : S1024x1024.Idx → EReal) x = A0 m c (ix2 (row t (x 0)) (x 1)) := by
  blk_ext [iblk, V, idx t]
theorem b1 (t : Fin cfg0.N) (x : S1024x1024.Idx) :
    (iblk m c 1 t : S1024x1024.Idx → EReal) x = A1 m c (ix2 (x 0) (col t (x 1))) := by
  blk_ext [iblk, V, idx t]

theorem out : (dats m 0 c).arrAt 2 cfg0.N = Spec.mm (A0 m c) (A1 m c) := by
  refine (dats m 0 c).arrAt_eq_of_covers 2 _ (by decide +kernel) fun t hf y => ?_
  have e : ((cfg0.win 2).blk t).view.emb y = ix2 (row t (y 0)) (col t (y 1)) := by blk_ext [idx t]
  rw [e]
  blk_simp
  rw [after0_2]
  frame_out
  pointwise [k0_pay1]
  simp only [b0, b1]
  rfl

end Cert.ProjQkvIdeal.Result

end
-- ==== Proof.ProjQkvRef.lean ====
module

public import proofs.«01_k».proof.Proof.Spec
public import proofs.«01_k».proof.Proof.Gen.ProjQkvRefIdeal.Run
public import proofs.«01_k».proof.Proof.Gen.ProjQkvRefIdeal.Read
public import Idealize.ShloMosaic.Lib.Pipeline.ValueKit
public import Idealize.ShloMosaic.Lib.Pointwise

@[expose] public section

set_option maxRecDepth 16384

noncomputable section

/-! # The attentions' columns of the in-projection: the reference's result is the same function of its arguments (`Proof/Spec.lean`) -/

namespace Cert.ProjQkvRefIdeal.Result

open Cert.ProjQkvRefIdeal Cert.ProjQkvRefIdeal.Gen Idealize.ShloMosaic Idealize.ShloMosaic.TcCoe Idealize.SL.Sem

theorem result (x0 : (⟨S4096x1024, .bf16⟩ : BufTy).Contents (Elt Ideal)) (x1 : (⟨S1024x3072, .bf16⟩ : BufTy).Contents (Elt Ideal)) :
    Read.val_main_v3 x0 x1 = Spec.mm x0 x1 := by
  refine funext fun (i : S4096x3072.Idx) => ?_
  rw [← Read.val_main_v3_eq]
  pointwise
  unfold Spec.mm
  reads_congr <;> blk_ext!

end Cert.ProjQkvRefIdeal.Result

end
-- ==== Proof.ProjQkvClaims.lean ====
module

public import proofs.«01_k».proof.Defs
public import proofs.«01_k».proof.Proof.Gen.ProjQkv
public import proofs.«01_k».proof.Proof.Gen.ProjQkv.Frame
public import proofs.«01_k».proof.Proof.Gen.ProjQkvIdeal.Value
public import proofs.«01_k».proof.Proof.Gen.ProjQkvRefIdeal.Run
public import proofs.«01_k».proof.Proof.Gen.ProjQkvRefIdeal.Read
public import proofs.«01_k».proof.Proof.ProjQkv
public import proofs.«01_k».proof.Proof.ProjQkvRef
public import Idealize.ShloMosaic.Adequacy
public import Idealize.ShloMosaic.Init

@[expose] public section

noncomputable section

/-! # The attentions' columns of the in-projection: the claims -/

namespace Cert.Proof.ProjQkv

open Idealize.ShloMosaic Idealize.SL.Sem

theorem frame_kernel : Cert.quiescent_ProjQkv := fun m ρ _ => Cert.ProjQkv.Gen.frame m ρ

theorem frame_kernelIdeal : Cert.quiescent_ProjQkvIdeal := fun m ρ _ => Cert.ProjQkvIdeal.Gen.frame m ρ

theorem frame_referenceIdeal : Cert.quiescent_ProjQkvRefIdeal := fun m ρ _ =>
  (θ_run Cert.ProjQkvRefIdeal.defs _ _).mono (fun r h => ⟨fun c => (h c).2,
      Idealize.ShloMosaic.sem_eq_zero_of_no_sems (by decide) r.2⟩)
    (Cert.ProjQkvRefIdeal.Value.run (F := Ideal) m ρ)

theorem preserves : Cert.preserves_ProjQkv_ProjQkvIdeal := trivial

theorem algebraic : Cert.algebraic_ProjQkvIdeal_ProjQkvRefIdeal := by
  intro m ρ m' ρ' _ hagree
  refine ⟨_, Cert.ProjQkvIdeal.Value.run_blocks m ρ, ?_⟩
  refine (θ_run Cert.ProjQkvRefIdeal.defs _ _).mono (fun r h c => ?_) (Cert.ProjQkvRefIdeal.Value.run (F := Ideal) m' ρ')
  obtain ⟨h0, hargs⟩ := h c
  obtain ⟨a0, a1⟩ := hagree c
  refine ⟨h0.trans ?_, hargs⟩
  · rw [Cert.ProjQkvIdeal.Result.out, a0, a1]
    exact (Cert.ProjQkvRefIdeal.Read.val_main_v3_eq ..).trans (Cert.ProjQkvRefIdeal.Result.result ..)

end Cert.Proof.ProjQkv

end
-- ==== Proof.ProjGate.lean ====
module

public import proofs.«01_k».proof.Proof.Gen.ProjGateIdeal.Value
public import Idealize.ShloMosaic.Lib.Pipeline.ValueKit
public import Idealize.ShloMosaic.Lib.Pointwise
public import Idealize.ShloMosaic.Lib.Pipeline.ReadBack
public import proofs.«01_k».proof.Proof.Spec

@[expose] public section

set_option maxRecDepth 16384

noncomputable section

/-! # The gate's columns of the in-projection: what the kernel leaves in its result -/

namespace Cert.ProjGateIdeal.Result

open Cert.ProjGateIdeal Cert.ProjGateIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The normalised activations and the projection's columns, on device `c`. -/
abbrev A0 : Spec.A2 4096 1024 := m ((c : Thread nD τ).loc main_arg0)
abbrev A1 : Spec.A2 1024 2048 := m ((c : Thread nD τ).loc main_arg1)

/-- The windows' blocks by the grid point. -/
theorem idx (t : Fin cfg0.N) : win0_0.index t = ![t.val / 2, 0] ∧ win0_1.index t = ![0, t.val % 2]
    ∧ win0_2.index t = ![t.val / 2, t.val % 2] :=
  (by decide +kernel : ∀ t : Fin cfg0.N, win0_0.index t = ![t.val / 2, 0] ∧ win0_1.index t = ![0, t.val % 2]
    ∧ win0_2.index t = ![t.val / 2, t.val % 2]) t

/-- Row `r` and column `j` of point `t`'s block. -/
abbrev row (t : Fin cfg0.N) (r : Fin 1024) : Fin 4096 :=
  ⟨t.val / 2 * 1024 + r.val, by have := t.isLt; have : cfg0.N = 8 := N_0; omega⟩
abbrev col (t : Fin cfg0.N) (j : Fin 1024) : Fin 2048 := ⟨t.val % 2 * 1024 + j.val, by omega⟩

theorem b0 (t : Fin cfg0.N) (x : S1024x1024.Idx) :
    (iblk m c 0 t : S1024x1024.Idx → EReal) x = A0 m c (ix2 (row t (x 0)) (x 1)) := by
  blk_ext [iblk, V, idx t]
theorem b1 (t : Fin cfg0.N) (x : S1024x1024.Idx) :
    (iblk m c 1 t : S1024x1024.Idx → EReal) x = A1 m c (ix2 (x 0) (col t (x 1))) := by
  blk_ext [iblk, V, idx t]

theorem out : (dats m 0 c).arrAt 2 cfg0.N = Spec.mm (A0 m c) (A1 m c) := by
  refine (dats m 0 c).arrAt_eq_of_covers 2 _ (by decide +kernel) fun t hf y => ?_
  have e : ((cfg0.win 2).blk t).view.emb y = ix2 (row t (y 0)) (col t (y 1)) := by blk_ext [idx t]
  rw [e]
  blk_simp
  rw [after0_2]
  frame_out
  pointwise [k0_pay1]
  simp only [b0, b1]
  rfl

end Cert.ProjGateIdeal.Result

end
-- ==== Proof.ProjGateRef.lean ====
module

public import proofs.«01_k».proof.Proof.Spec
public import proofs.«01_k».proof.Proof.Gen.ProjGateRefIdeal.Run
public import proofs.«01_k».proof.Proof.Gen.ProjGateRefIdeal.Read
public import Idealize.ShloMosaic.Lib.Pipeline.ValueKit
public import Idealize.ShloMosaic.Lib.Pointwise

@[expose] public section

set_option maxRecDepth 16384

noncomputable section

/-! # The gate's columns of the in-projection: the reference's result is the same function of its arguments (`Proof/Spec.lean`) -/

namespace Cert.ProjGateRefIdeal.Result

open Cert.ProjGateRefIdeal Cert.ProjGateRefIdeal.Gen Idealize.ShloMosaic Idealize.ShloMosaic.TcCoe Idealize.SL.Sem

theorem result (x0 : (⟨S4096x1024, .bf16⟩ : BufTy).Contents (Elt Ideal)) (x1 : (⟨S1024x2048, .bf16⟩ : BufTy).Contents (Elt Ideal)) :
    Read.val_main_v2 x0 x1 = Spec.mm x0 x1 := by
  refine funext fun (i : S4096x2048.Idx) => ?_
  rw [← Read.val_main_v2_eq]
  pointwise
  unfold Spec.mm
  reads_congr <;> blk_ext!

end Cert.ProjGateRefIdeal.Result

end
-- ==== Proof.ProjGateClaims.lean ====
module

public import proofs.«01_k».proof.Defs
public import proofs.«01_k».proof.Proof.Gen.ProjGate
public import proofs.«01_k».proof.Proof.Gen.ProjGate.Frame
public import proofs.«01_k».proof.Proof.Gen.ProjGateIdeal.Value
public import proofs.«01_k».proof.Proof.Gen.ProjGateRefIdeal.Run
public import proofs.«01_k».proof.Proof.Gen.ProjGateRefIdeal.Read
public import proofs.«01_k».proof.Proof.ProjGate
public import proofs.«01_k».proof.Proof.ProjGateRef
public import Idealize.ShloMosaic.Adequacy
public import Idealize.ShloMosaic.Init

@[expose] public section

noncomputable section

/-! # The gate's columns of the in-projection: the claims -/

namespace Cert.Proof.ProjGate

open Idealize.ShloMosaic Idealize.SL.Sem

theorem frame_kernel : Cert.quiescent_ProjGate := fun m ρ _ => Cert.ProjGate.Gen.frame m ρ

theorem frame_kernelIdeal : Cert.quiescent_ProjGateIdeal := fun m ρ _ => Cert.ProjGateIdeal.Gen.frame m ρ

theorem frame_referenceIdeal : Cert.quiescent_ProjGateRefIdeal := fun m ρ _ =>
  (θ_run Cert.ProjGateRefIdeal.defs _ _).mono (fun r h => ⟨fun c => (h c).2,
      Idealize.ShloMosaic.sem_eq_zero_of_no_sems (by decide) r.2⟩)
    (Cert.ProjGateRefIdeal.Value.run (F := Ideal) m ρ)

theorem preserves : Cert.preserves_ProjGate_ProjGateIdeal := trivial

theorem algebraic : Cert.algebraic_ProjGateIdeal_ProjGateRefIdeal := by
  intro m ρ m' ρ' _ hagree
  refine ⟨_, Cert.ProjGateIdeal.Value.run_blocks m ρ, ?_⟩
  refine (θ_run Cert.ProjGateRefIdeal.defs _ _).mono (fun r h c => ?_) (Cert.ProjGateRefIdeal.Value.run (F := Ideal) m' ρ')
  obtain ⟨h0, hargs⟩ := h c
  obtain ⟨a0, a1⟩ := hagree c
  refine ⟨h0.trans ?_, hargs⟩
  · rw [Cert.ProjGateIdeal.Result.out, a0, a1]
    exact (Cert.ProjGateRefIdeal.Read.val_main_v2_eq ..).trans (Cert.ProjGateRefIdeal.Result.result ..)

end Cert.Proof.ProjGate

end
-- ==== Proof.OutNorm.lean ====
module

public import proofs.«01_k».proof.Proof.Gen.OutNormIdeal.Value
public import Idealize.ShloMosaic.Lib.Pipeline.ValueKit
public import Idealize.ShloMosaic.Lib.Pointwise
public import Idealize.ShloMosaic.Lib.Pipeline.ReadBack
public import proofs.«01_k».proof.Proof.Spec

@[expose] public section

set_option maxRecDepth 16384

noncomputable section

/-! # The output projection, the residual sum and the RMSNorm: what the kernel leaves in its result -/

namespace Cert.OutNormIdeal.Result

open Cert.OutNormIdeal Cert.OutNormIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The merged branches, the output projection, the residual and the norm's scale, on device `c`. -/
abbrev A0 : Spec.A2 4096 1024 := m ((c : Thread nD τ).loc main_arg0)
abbrev A1 : Spec.A2 1024 1024 := m ((c : Thread nD τ).loc main_arg1)
abbrev A2 : Spec.A2 4096 1024 := m ((c : Thread nD τ).loc main_arg2)
abbrev A3 : Spec.A2 1 1024 := m ((c : Thread nD τ).loc main_arg3)

/-- The windows' blocks by the grid point: eight blocks of 512 rows. -/
theorem idx (t : Fin cfg0.N) : win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0]) t

/-- Row `r` of point `t`'s block. -/
abbrev row (t : Fin cfg0.N) (r : Fin 512) : Fin 4096 :=
  ⟨t.val * 512 + r.val, by have := t.isLt; have : cfg0.N = 8 := N_0; omega⟩

theorem b0 (t : Fin cfg0.N) (x : S512x1024.Idx) :
    (iblk m c 0 t : S512x1024.Idx → EReal) x = A0 m c (ix2 (row t (x 0)) (x 1)) := by
  blk_ext [iblk, V, idx t]
theorem b1 (t : Fin cfg0.N) (x : S1024x1024.Idx) : (iblk m c 1 t : S1024x1024.Idx → EReal) x = A1 m c x := by
  blk_ext [iblk, V, idx t]
theorem b2 (t : Fin cfg0.N) (x : S512x1024.Idx) :
    (iblk m c 2 t : S512x1024.Idx → EReal) x = A2 m c (ix2 (row t (x 0)) (x 1)) := by
  blk_ext [iblk, V, idx t]
theorem b3 (t : Fin cfg0.N) (x : S1x1024.Idx) : (iblk m c 3 t : S1x1024.Idx → EReal) x = A3 m c x := by
  blk_ext [iblk, V, idx t]

/-- The residual sum. -/
theorem out4 : (dats m 0 c).arrAt 4 cfg0.N = Spec.resid (A2 m c) (A0 m c) (A1 m c) := by
  refine (dats m 0 c).arrAt_eq_of_covers 4 _ (by decide +kernel) fun t hf y => ?_
  have e : ((cfg0.win 4).blk t).view.emb y = ix2 (row t (y 0)) (y 1) := by blk_ext [idx t]
  rw [e]
  blk_simp
  rw [after0_4]
  frame_out
  pointwise [k0_pay1]
  simp only [b0, b1]
  rw [b2 m c t y]
  rfl

/-- Its norm. -/
theorem out5 : (dats m 0 c).arrAt 5 cfg0.N = Spec.norm (Spec.resid (A2 m c) (A0 m c) (A1 m c)) (A3 m c) := by
  refine (dats m 0 c).arrAt_eq_of_covers 5 _ (by decide +kernel) fun t hf y => ?_
  have e : ((cfg0.win 5).blk t).view.emb y = ix2 (row t (y 0)) (y 1) := by blk_ext [idx t]
  rw [e]
  blk_simp
  rw [after0_5]
  frame_out
  pointwise [k0_pay2, k0_pay1]
  simp only [b0, b1, b3]
  rw [b2 m c t y]
  simp only [b2]
  rfl

end Cert.OutNormIdeal.Result

end
-- ==== Proof.OutNormRef.lean ====
module

public import proofs.«01_k».proof.Proof.Spec
public import proofs.«01_k».proof.Proof.Gen.OutNormRefIdeal.Run
public import proofs.«01_k».proof.Proof.Gen.OutNormRefIdeal.Read
public import Idealize.ShloMosaic.Lib.Pipeline.ValueKit
public import Idealize.ShloMosaic.Lib.Pointwise

@[expose] public section

set_option maxRecDepth 16384

noncomputable section

/-! # The output projection, the residual sum and the RMSNorm: the reference's results are the same functions of its arguments (`Proof/Spec.lean`) -/

namespace Cert.OutNormRefIdeal.Result

open Cert.OutNormRefIdeal Cert.OutNormRefIdeal.Gen Idealize.ShloMosaic Idealize.ShloMosaic.TcCoe Idealize.SL.Sem

variable (x0 : (⟨S4096x1024, .bf16⟩ : BufTy).Contents (Elt Ideal)) (x1 : (⟨S1024x1024, .bf16⟩ : BufTy).Contents (Elt Ideal)) (x2 : (⟨S4096x1024, .f32⟩ : BufTy).Contents (Elt Ideal)) (x3 : (⟨S1x1024, .f32⟩ : BufTy).Contents (Elt Ideal))

theorem sum : Read.val_main_v3 x0 x1 x2 = Spec.resid x2 x0 x1 := by
  refine funext fun (i : S4096x1024.Idx) => ?_
  rw [← Read.val_main_v3_eq]
  pointwise
  unfold Spec.resid Spec.mm
  reads_congr <;> blk_ext!

theorem norm : Read.val_main_v16 x0 x1 x2 x3 = Spec.norm (Spec.resid x2 x0 x1) x3 := by
  refine funext fun (i : S4096x1024.Idx) => ?_
  rw [← Read.val_main_v16_eq]
  pointwise
  unfold Spec.norm Spec.rstd Spec.resid Spec.mm Spec.len Spec.eps
  rfl

end Cert.OutNormRefIdeal.Result

end
-- ==== Proof.OutNormClaims.lean ====
module

public import proofs.«01_k».proof.Defs
public import proofs.«01_k».proof.Proof.Gen.OutNorm
public import proofs.«01_k».proof.Proof.Gen.OutNorm.Frame
public import proofs.«01_k».proof.Proof.Gen.OutNormIdeal.Value
public import proofs.«01_k».proof.Proof.Gen.OutNormRefIdeal.Run
public import proofs.«01_k».proof.Proof.Gen.OutNormRefIdeal.Read
public import proofs.«01_k».proof.Proof.OutNorm
public import proofs.«01_k».proof.Proof.OutNormRef
public import Idealize.ShloMosaic.Adequacy
public import Idealize.ShloMosaic.Init

@[expose] public section

noncomputable section

/-! # The output projection, the residual sum and the RMSNorm: the claims -/

namespace Cert.Proof.OutNorm

open Idealize.ShloMosaic Idealize.SL.Sem

theorem frame_kernel : Cert.quiescent_OutNorm := fun m ρ _ => Cert.OutNorm.Gen.frame m ρ

theorem frame_kernelIdeal : Cert.quiescent_OutNormIdeal := fun m ρ _ => Cert.OutNormIdeal.Gen.frame m ρ

theorem frame_referenceIdeal : Cert.quiescent_OutNormRefIdeal := fun m ρ _ =>
  (θ_run Cert.OutNormRefIdeal.defs _ _).mono (fun r h => ⟨fun c => (h c).2.2,
      Idealize.ShloMosaic.sem_eq_zero_of_no_sems (by decide) r.2⟩)
    (Cert.OutNormRefIdeal.Value.run (F := Ideal) m ρ)

theorem preserves : Cert.preserves_OutNorm_OutNormIdeal := trivial

theorem algebraic : Cert.algebraic_OutNormIdeal_OutNormRefIdeal := by
  intro m ρ m' ρ' _ hagree
  refine ⟨_, _, Cert.OutNormIdeal.Value.run_blocks m ρ, ?_⟩
  refine (θ_run Cert.OutNormRefIdeal.defs _ _).mono (fun r h c => ?_) (Cert.OutNormRefIdeal.Value.run (F := Ideal) m' ρ')
  obtain ⟨h0, h1, hargs⟩ := h c
  obtain ⟨a0, a1, a2, a3⟩ := hagree c
  refine ⟨h0.trans ?_, h1.trans ?_, hargs⟩
  · rw [Cert.OutNormIdeal.Result.out4, a0, a1, a2]
    exact (Cert.OutNormRefIdeal.Read.val_main_v3_eq ..).trans (Cert.OutNormRefIdeal.Result.sum ..)
  · rw [Cert.OutNormIdeal.Result.out5, a0, a1, a2, a3]
    exact (Cert.OutNormRefIdeal.Read.val_main_v16_eq ..).trans (Cert.OutNormRefIdeal.Result.norm ..)

end Cert.Proof.OutNorm

end
-- ==== Proof.GateFwd.lean ====
module

public import proofs.«01_k».proof.Proof.Gen.GateFwdIdeal.Value
public import Idealize.ShloMosaic.Lib.Pipeline.ValueKit
public import Idealize.ShloMosaic.Lib.Pointwise
public import Idealize.ShloMosaic.Lib.Pipeline.ReadBack
public import proofs.«01_k».proof.Proof.Spec

@[expose] public section

set_option maxRecDepth 16384

noncomputable section

/-! # The gated merge of the two branches: what the kernel leaves in its results -/

namespace Cert.GateFwdIdeal.Result

open Cert.GateFwdIdeal Cert.GateFwdIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The gate's logits and bias, the two attentions' outputs and the two branches' projections, on device `c`. -/
abbrev A0 : Spec.A2 4096 2048 := m ((c : Thread nD τ).loc main_arg0)
abbrev A1 : Spec.A2 2 1024 := m ((c : Thread nD τ).loc main_arg1)
abbrev A2 : Spec.A2 4096 512 := m ((c : Thread nD τ).loc main_arg2)
abbrev A3 : Spec.A2 4096 512 := m ((c : Thread nD τ).loc main_arg3)
abbrev A4 : Spec.A3 4 512 256 := m ((c : Thread nD τ).loc main_arg4)
abbrev A5 : Spec.A3 4 512 256 := m ((c : Thread nD τ).loc main_arg5)

/-- The windows' blocks by the grid point: eight blocks of 512 rows. -/
theorem idx (t : Fin cfg0.N) : win0_0.index t = ![t.val, 0] ∧ win0_1.index t = ![t.val, 1] ∧ win0_2.index t = ![0, 0]
    ∧ win0_3.index t = ![t.val, 0] ∧ win0_4.index t = ![t.val, 0] ∧ win0_5.index t = ![0, 0, 0]
    ∧ win0_6.index t = ![0, 0, 0] ∧ win0_7.index t = ![t.val, 0] ∧ win0_8.index t = ![t.val, 0] ∧ win0_9.index t = ![t.val, 0] :=
  (by decide +kernel : ∀ t : Fin cfg0.N, win0_0.index t = ![t.val, 0] ∧ win0_1.index t = ![t.val, 1] ∧ win0_2.index t = ![0, 0]
    ∧ win0_3.index t = ![t.val, 0] ∧ win0_4.index t = ![t.val, 0] ∧ win0_5.index t = ![0, 0, 0]
    ∧ win0_6.index t = ![0, 0, 0] ∧ win0_7.index t = ![t.val, 0] ∧ win0_8.index t = ![t.val, 0] ∧ win0_9.index t = ![t.val, 0]) t

/-- Row `r` of point `t`'s block. -/
abbrev row (t : Fin cfg0.N) (r : Fin 512) : Fin 4096 :=
  ⟨t.val * 512 + r.val, by have := t.isLt; have : cfg0.N = 8 := N_0; omega⟩

theorem b0 (t : Fin cfg0.N) (x : S512x1024.Idx) :
    (iblk m c 0 t : S512x1024.Idx → EReal) x
      = A0 m c (ix2 (row t (x 0)) ⟨1024 * (0 : Fin 2).val + (x 1).val, by have : (x 1).val < 1024 := (x 1).isLt; simp; omega⟩) := by
  blk_ext [iblk, V, idx t]
theorem b1 (t : Fin cfg0.N) (x : S512x1024.Idx) :
    (iblk m c 1 t : S512x1024.Idx → EReal) x
      = A0 m c (ix2 (row t (x 0)) ⟨1024 * (1 : Fin 2).val + (x 1).val, by have : (x 1).val < 1024 := (x 1).isLt; simp; omega⟩) := by
  blk_ext [iblk, V, idx t]
theorem b2 (t : Fin cfg0.N) (x : S2x1024.Idx) : (iblk m c 2 t : S2x1024.Idx → EReal) x = A1 m c x := by
  blk_ext [iblk, V, idx t]
theorem b3 (t : Fin cfg0.N) (x : S512x512.Idx) :
    (iblk m c 3 t : S512x512.Idx → EReal) x = A2 m c (ix2 (row t (x 0)) (x 1)) := by
  blk_ext [iblk, V, idx t]
theorem b4 (t : Fin cfg0.N) (x : S512x512.Idx) :
    (iblk m c 4 t : S512x512.Idx → EReal) x = A3 m c (ix2 (row t (x 0)) (x 1)) := by
  blk_ext [iblk, V, idx t]
theorem b5 (t : Fin cfg0.N) (x : S4x512x256.Idx) : (iblk m c 5 t : S4x512x256.Idx → EReal) x = A4 m c x := by
  blk_ext [iblk, V, idx t]
theorem b6 (t : Fin cfg0.N) (x : S4x512x256.Idx) : (iblk m c 6 t : S4x512x256.Idx → EReal) x = A5 m c x := by
  blk_ext [iblk, V, idx t]

/-- The forgetting attention, projected. -/
theorem out8 : (dats m 0 c).arrAt 8 cfg0.N = Spec.mm (A2 m c) (Spec.columns (by decide) rfl (A4 m c)) := by
  refine (dats m 0 c).arrAt_eq_of_covers 8 _ (by decide +kernel) fun t hf y => ?_
  have e : ((cfg0.win 8).blk t).view.emb y = ix2 (row t (y 0)) (y 1) := by blk_ext [idx t]
  rw [e]
  blk_simp
  rw [after0_8]
  frame_out
  pointwise [k0_pay6, k0_pay3]
  simp only [b3, b5]
  exact (Spec.mm_columns _ _ (row t (y 0)) (y 1)).symm
/-- The stick-breaking attention, projected. -/
theorem out9 : (dats m 0 c).arrAt 9 cfg0.N = Spec.mm (A3 m c) (Spec.columns (by decide) rfl (A5 m c)) := by
  refine (dats m 0 c).arrAt_eq_of_covers 9 _ (by decide +kernel) fun t hf y => ?_
  have e : ((cfg0.win 9).blk t).view.emb y = ix2 (row t (y 0)) (y 1) := by blk_ext [idx t]
  rw [e]
  blk_simp
  rw [after0_9]
  frame_out
  pointwise [k0_pay1, k0_pay7, k0_pay8, k0_pay4, k0_pay5]
  simp only [b4, b6]
  exact (Spec.mm_columns _ _ (row t (y 0)) (y 1)).symm
/-- The merge. -/
theorem out7 : (dats m 0 c).arrAt 7 cfg0.N = Spec.merge (A0 m c) (A1 m c) (Spec.mm (A2 m c) (Spec.columns (by decide) rfl (A4 m c))) (Spec.mm (A3 m c) (Spec.columns (by decide) rfl (A5 m c))) := by
  refine (dats m 0 c).arrAt_eq_of_covers 7 _ (by decide +kernel) fun t hf y => ?_
  have e : ((cfg0.win 7).blk t).view.emb y = ix2 (row t (y 0)) (y 1) := by blk_ext [idx t]
  rw [e]
  blk_simp
  rw [after0_7]
  frame_out
  pointwise [k0_pay2, k0_pay1, k0_pay6, k0_pay7, k0_pay8, k0_pay3, k0_pay4, k0_pay5]
  rw [b0 m c t y, b1 m c t y]
  simp only [b2, b3, b4, b5, b6]
  unfold Spec.merge
  refine congrArg₂ (· + ·) (congrArg _ ?_) (congrArg _ ?_)
  · exact (Spec.mm_columns _ _ (row t (y 0)) (y 1)).symm
  · exact (Spec.mm_columns _ _ (row t (y 0)) (y 1)).symm
end Cert.GateFwdIdeal.Result

end
-- ==== Proof.GateFwdRef.lean ====
module

public import proofs.«01_k».proof.Proof.Spec
public import proofs.«01_k».proof.Proof.Gen.GateFwdRefIdeal.Run
public import proofs.«01_k».proof.Proof.Gen.GateFwdRefIdeal.Read
public import Idealize.ShloMosaic.Lib.Pipeline.ValueKit
public import Idealize.ShloMosaic.Lib.Pointwise

@[expose] public section

set_option maxRecDepth 16384

noncomputable section

/-! # The gated merge of the two branches: the reference's results are the same functions of its arguments (`Proof/Spec.lean`) -/

namespace Cert.GateFwdRefIdeal.Result

open Cert.GateFwdRefIdeal Cert.GateFwdRefIdeal.Gen Idealize.ShloMosaic Idealize.ShloMosaic.TcCoe Idealize.SL.Sem

variable (x0 : (⟨S4096x2048, .f32⟩ : BufTy).Contents (Elt Ideal)) (x1 : (⟨S2x1024, .f32⟩ : BufTy).Contents (Elt Ideal)) (x2 x3 : (⟨S4096x512, .bf16⟩ : BufTy).Contents (Elt Ideal)) (x4 x5 : (⟨S4x512x256, .bf16⟩ : BufTy).Contents (Elt Ideal))

/-- The host's sigmoid `1 / (1 + e⁻ˣ)` is the logistic function. -/
theorem sigmoid (x : EReal) : Ideal.div 1 (1 + Ideal.exp (-x)) = Ideal.logistic x := rfl

theorem fox : Read.val_main_v11 x2 x4 = Spec.mm x2 (Spec.columns (by decide) rfl x4) := by
  refine funext fun (i : S4096x1024.Idx) => ?_
  have hi : (i 1).val < 1024 := (i 1).isLt
  rw [← Read.val_main_v11_eq]
  pointwise
  unfold Spec.mm Spec.columns
  refine Finset.sum_congr rfl fun q _ => ?_
  split_ifs <;> (reads_congr <;> blk_ext!)

theorem sb : Read.val_main_v23 x3 x5 = Spec.mm x3 (Spec.columns (by decide) rfl x5) := by
  refine funext fun (i : S4096x1024.Idx) => ?_
  have hi : (i 1).val < 1024 := (i 1).isLt
  rw [← Read.val_main_v23_eq]
  pointwise
  unfold Spec.mm Spec.columns
  refine Finset.sum_congr rfl fun q _ => ?_
  split_ifs <;> (reads_congr <;> blk_ext!)

theorem merge : Read.val_main_v51 x0 x1 x2 x3 x4 x5 = Spec.merge x0 x1 (Spec.mm x2 (Spec.columns (by decide) rfl x4)) (Spec.mm x3 (Spec.columns (by decide) rfl x5)) := by
  refine funext fun (i : S4096x1024.Idx) => ?_
  have hi : (i 1).val < 1024 := (i 1).isLt
  rw [← Read.val_main_v51_eq]
  pointwise
  unfold Spec.merge Spec.gate
  simp only [sigmoid]
  refine congrArg₂ (· + ·) (congrArg₂ (· * ·) ?_ ?_) (congrArg₂ (· * ·) ?_ ?_)
  · reads_congr <;> blk_ext!
  · unfold Spec.mm Spec.columns
    refine Finset.sum_congr rfl fun q _ => ?_
    split_ifs <;> (reads_congr <;> blk_ext!)
  · reads_congr <;> blk_ext!
  · unfold Spec.mm Spec.columns
    refine Finset.sum_congr rfl fun q _ => ?_
    split_ifs <;> (reads_congr <;> blk_ext!)

end Cert.GateFwdRefIdeal.Result

end
-- ==== Proof.GateFwdClaims.lean ====
module

public import proofs.«01_k».proof.Defs
public import proofs.«01_k».proof.Proof.Gen.GateFwd
public import proofs.«01_k».proof.Proof.Gen.GateFwd.Frame
public import proofs.«01_k».proof.Proof.Gen.GateFwdIdeal.Value
public import proofs.«01_k».proof.Proof.Gen.GateFwdRefIdeal.Run
public import proofs.«01_k».proof.Proof.Gen.GateFwdRefIdeal.Read
public import proofs.«01_k».proof.Proof.GateFwd
public import proofs.«01_k».proof.Proof.GateFwdRef
public import Idealize.ShloMosaic.Adequacy
public import Idealize.ShloMosaic.Init

@[expose] public section

noncomputable section

/-! # The gated merge of the two branches: the claims -/

namespace Cert.Proof.GateFwd

open Idealize.ShloMosaic Idealize.SL.Sem

theorem frame_kernel : Cert.quiescent_GateFwd := fun m ρ _ => Cert.GateFwd.Gen.frame m ρ

theorem frame_kernelIdeal : Cert.quiescent_GateFwdIdeal := fun m ρ _ => Cert.GateFwdIdeal.Gen.frame m ρ

theorem frame_referenceIdeal : Cert.quiescent_GateFwdRefIdeal := fun m ρ _ =>
  (θ_run Cert.GateFwdRefIdeal.defs _ _).mono (fun r h => ⟨fun c => (h c).2.2.2,
      Idealize.ShloMosaic.sem_eq_zero_of_no_sems (by decide) r.2⟩)
    (Cert.GateFwdRefIdeal.Value.run (F := Ideal) m ρ)

theorem preserves : Cert.preserves_GateFwd_GateFwdIdeal := trivial

theorem algebraic : Cert.algebraic_GateFwdIdeal_GateFwdRefIdeal := by
  intro m ρ m' ρ' _ hagree
  refine ⟨_, _, _, Cert.GateFwdIdeal.Value.run_blocks m ρ, ?_⟩
  refine (θ_run Cert.GateFwdRefIdeal.defs _ _).mono (fun r h c => ?_) (Cert.GateFwdRefIdeal.Value.run (F := Ideal) m' ρ')
  obtain ⟨h0, h1, h2, hargs⟩ := h c
  obtain ⟨a0, a1, a2, a3, a4, a5⟩ := hagree c
  refine ⟨h0.trans ?_, h1.trans ?_, h2.trans ?_, hargs⟩
  · rw [Cert.GateFwdIdeal.Result.out7, a0, a1, a2, a3, a4, a5]
    exact (Cert.GateFwdRefIdeal.Read.val_main_v51_eq ..).trans (Cert.GateFwdRefIdeal.Result.merge ..)
  · rw [Cert.GateFwdIdeal.Result.out8, a2, a4]
    exact (Cert.GateFwdRefIdeal.Read.val_main_v11_eq ..).trans (Cert.GateFwdRefIdeal.Result.fox ..)
  · rw [Cert.GateFwdIdeal.Result.out9, a3, a5]
    exact (Cert.GateFwdRefIdeal.Read.val_main_v23_eq ..).trans (Cert.GateFwdRefIdeal.Result.sb ..)

end Cert.Proof.GateFwd

end
-- ==== Proof.NormBack.lean ====
module
public import proofs.«01_k».proof.Proof.Spec

@[expose] public section

noncomputable section

/-! # RMSNorm differentiated

The gradient in closed form, and the chain of the reciprocal root's own derivative. The two agree over all of the
extended reals: the mean square plus ε is positive, so its reciprocal root is a non-negative number, and such a number
distributes over every sum. -/

namespace Cert.Spec

open Idealize.ShloMosaic

variable {m n : Nat}

/-- Back through the norm: `dh` the gradient of `norm x g`. -/
def normDx (dh x : A2 m n) (g : A2 1 n) : A2 m n := fun i =>
  rstd x (i 0) * (dh i * g (ix2 0 (i 1))
    - x i * rstd x (i 0) * Ideal.div (∑ k : Fin n, dh (ix2 (i 0) k) * g (ix2 0 k) * (x (ix2 (i 0) k) * rstd x (i 0))) len)

/-- The same beside a residual branch's gradient. -/
def normDxRes (dh x : A2 m n) (g : A2 1 n) (d : A2 m n) : A2 m n := fun i => normDx dh x g i + d i

/-- The gradient of the norm's scale. -/
def normDg (dh x : A2 m n) : A2 1 n := fun i => ∑ r : Fin m, dh (ix2 r (i 1)) * (x (ix2 r (i 1)) * rstd x r)

theorem len_eq : len = ((1024 : ℝ) : EReal) := by
  simp [len, Ideal.ofBits, Ideal.ieee, -EReal.coe_mul]; norm_num

theorem eps_pos : 0 < eps := by
  have h : eps = ((8796093 * 2 ^ (-43 : ℤ) : ℝ) : EReal) := by
    simp [eps, Ideal.ofBits, Ideal.ieee, -EReal.coe_mul]
  rw [h]
  exact_mod_cast (by positivity : (0 : ℝ) < 8796093 * 2 ^ (-43 : ℤ))

theorem half_neg : Ideal.ofBits .f32 0xBF000000#32 = ((-(1 / 2) : ℝ) : EReal) := by
  simp [Ideal.ofBits, Ideal.ieee, -EReal.coe_mul]; norm_num

theorem half : Ideal.ofBits .f32 0x3F000000#32 = ((1 / 2 : ℝ) : EReal) := by
  simp [Ideal.ofBits, Ideal.ieee, -EReal.coe_mul]; norm_num

theorem div_len (a : EReal) : Ideal.div a len = a * ((1 / 1024 : ℝ) : EReal) := by
  rw [len_eq, Ideal.div, if_neg (by norm_num), ← EReal.coe_inv, one_div]

/-- A square is not negative. -/
theorem sq_nonneg (a : EReal) : 0 ≤ a * a := by
  rcases le_total 0 a with h | h
  · exact mul_nonneg h h
  · rw [← neg_mul_neg]; exact mul_nonneg (EReal.neg_nonneg.mpr h) (EReal.neg_nonneg.mpr h)

/-- The mean square plus ε is positive. -/
theorem mean_pos (X : Fin n → EReal) : 0 < Ideal.div (∑ j, X j * X j) len + eps := by
  have h : 0 ≤ Ideal.div (∑ j, X j * X j) len := by
    rw [div_len]
    exact mul_nonneg (Finset.sum_nonneg fun j _ => sq_nonneg _) (by exact_mod_cast (by norm_num : (0 : ℝ) ≤ 1 / 1024))
  exact lt_of_lt_of_le eps_pos (le_add_of_nonneg_left h)

/-- A non-negative number goes into a sum. -/
theorem sum_mul_coe {ι : Type} (s : Finset ι) (f : ι → EReal) (a : ℝ) (ha : 0 ≤ a) :
    (∑ k ∈ s, f k) * (a : EReal) = ∑ k ∈ s, f k * (a : EReal) := by
  classical
  induction s using Finset.induction_on with
  | empty => simp
  | insert k s hk ih =>
    rw [Finset.sum_insert hk, Finset.sum_insert hk, ← ih, mul_comm, EReal.left_distrib_of_nonneg_of_ne_top
      (by exact_mod_cast ha) (EReal.coe_ne_top a), mul_comm, mul_comm (a : EReal) (∑ k ∈ s, f k)]

theorem rsqrt_top : Ideal.rsqrt ⊤ = 0 := rfl
theorem rsqrt_coe (w : ℝ) (hw : 0 < w) : Ideal.rsqrt (w : EReal) = (((Real.sqrt w)⁻¹ : ℝ) : EReal) := by
  show (if w < 0 then ⊥ else if w = 0 then ⊤ else (((Real.sqrt w)⁻¹ : ℝ) : EReal)) = _
  rw [if_neg (not_lt.mpr hw.le), if_neg hw.ne']

/-- The two forms of the gradient of one row: `D` the scaled gradient, `X` the row, `z` what is added. -/
theorem row_back (X D : Fin n → EReal) (z : EReal) (j : Fin n) (v : EReal) (hv : 0 < v) :
    Ideal.rsqrt v * (D j - X j * Ideal.rsqrt v * Ideal.div (∑ k, D k * (X k * Ideal.rsqrt v)) len) + z
      = z + D j * Ideal.rsqrt v
        + X j * (∑ _q : Fin 1, Ideal.div ((∑ k, X k * D k) * (Ideal.ofBits .f32 0xBF000000#32 * Ideal.div (Ideal.rsqrt v) v)) len)
        + (∑ _q : Fin 1, Ideal.div ((∑ k, X k * D k) * (Ideal.ofBits .f32 0xBF000000#32 * Ideal.div (Ideal.rsqrt v) v)) len) * X j := by
  simp only [Fin.sum_univ_one]
  induction v with
  | bot => simp at hv
  | top =>
    rw [rsqrt_top, div_len, div_len, show Ideal.div 0 ⊤ = 0 by simp [Ideal.div]]
    simp
  | coe w =>
    have hw : 0 < w := by exact_mod_cast hv
    have hs : (0 : ℝ) < (Real.sqrt w)⁻¹ := inv_pos.mpr (Real.sqrt_pos.mpr hw)
    have hp : (Real.sqrt w)⁻¹ / w = (Real.sqrt w)⁻¹ * (Real.sqrt w)⁻¹ * (Real.sqrt w)⁻¹ := by
      rw [← mul_inv, Real.mul_self_sqrt hw.le]; ring
    rw [rsqrt_coe w hw]
    generalize (Real.sqrt w)⁻¹ = p at hs hp
    have hd : Ideal.div (p : EReal) (w : EReal) = ((p * p * p : ℝ) : EReal) := by
      rw [Ideal.div, if_neg (by exact_mod_cast hw.ne'), ← EReal.coe_inv, ← EReal.coe_mul, ← hp, div_eq_mul_inv]
    have hS : ∑ k, D k * (X k * (p : EReal)) = (∑ k, X k * D k) * (p : EReal) := by
      rw [sum_mul_coe _ _ _ hs.le]
      exact Finset.sum_congr rfl fun k _ => by rw [mul_comm (X k) (D k), mul_assoc]
    rw [hd, half_neg, div_len, div_len, hS]
    generalize (∑ k, X k * D k) = S
    have hc : 0 ≤ p * p * p * (1 / 2048) := by positivity
    have hM : S * (((-(1 / 2) : ℝ) : EReal) * ((p * p * p : ℝ) : EReal)) * ((1 / 1024 : ℝ) : EReal)
        = -(S * ((p * p * p * (1 / 2048) : ℝ) : EReal)) := by
      rw [← EReal.coe_mul, mul_assoc, ← EReal.coe_mul, ← mul_neg, ← EReal.coe_neg]
      congr 2; ring
    have hK : (p : EReal) * (X j * p * (S * p * ((1 / 1024 : ℝ) : EReal)))
        = X j * S * ((p * p * p * (1 / 2048) : ℝ) : EReal) + X j * S * ((p * p * p * (1 / 2048) : ℝ) : EReal) := by
      rw [← EReal.left_distrib_of_nonneg (by exact_mod_cast hc) (by exact_mod_cast hc), ← EReal.coe_add]
      rw [show ((p * p * p * (1 / 2048) + p * p * p * (1 / 2048) : ℝ) : EReal)
        = (p : EReal) * (p : EReal) * (p : EReal) * ((1 / 1024 : ℝ) : EReal) by
          rw [← EReal.coe_mul, ← EReal.coe_mul, ← EReal.coe_mul]; congr 1; ring]
      ac_rfl
    rw [hM, sub_eq_add_neg, EReal.left_distrib_of_nonneg_of_ne_top (by exact_mod_cast hs.le) (EReal.coe_ne_top p), mul_neg,
      hK, mul_comm (-(S * _)) (X j), mul_neg, ← mul_assoc, mul_comm (p : EReal) (D j)]
    rw [EReal.neg_add]
    · rw [sub_eq_add_neg]; ac_rfl
    · exact (em _).elim (fun h => .inr (by rw [h]; exact bot_ne_top)) .inl
    · exact (em _).elim (fun h => .inr (by rw [h]; exact top_ne_bot)) .inl

/-- A product with the transpose of four column shards of 1024: one product per shard. -/
theorem mmT_columns (a : A2 m 4096) (w : A3 4 n 1024) (r : Fin m) (q : Fin n) :
    mmT a (columns (by decide) rfl w) (ix2 r q)
      = ∑ j : Fin 1024, a (ix2 r ⟨j.val, by omega⟩) * w (ix3 0 q j)
        + ∑ j : Fin 1024, a (ix2 r ⟨1024 + j.val, by omega⟩) * w (ix3 1 q j)
        + ∑ j : Fin 1024, a (ix2 r ⟨2048 + j.val, by omega⟩) * w (ix3 2 q j)
        + ∑ j : Fin 1024, a (ix2 r ⟨3072 + j.val, by omega⟩) * w (ix3 3 q j) := by
  have e (p : Fin 4) (j : Fin 1024) (l : Fin 4096) (h : l.val = p.val * 1024 + j.val) :
      columns (n := 4096) (by decide) rfl w (ix2 q l) = w (ix3 p q j) := by
    unfold columns
    rw [show (⟨(ix2 q l 1).val / 1024, _⟩ : Fin 4) = p from Fin.ext (by show l.val / 1024 = _; omega),
      show (⟨(ix2 q l 1).val % 1024, _⟩ : Fin 1024) = j from Fin.ext (by show l.val % 1024 = _; omega)]
    rfl
  unfold mmT
  rw [sum_rows 4 1024, Fin.sum_univ_four]
  refine congrArg₂ _ (congrArg₂ _ (congrArg₂ _ ?_ ?_) ?_) ?_ <;>
    refine Finset.sum_congr rfl fun j _ => congrArg₂ _ (congrArg a (congrArg (ix2 r) (Fin.ext ?_))) (e _ j _ ?_) <;> simp

end Cert.Spec

end
-- ==== Proof.DHMlp.lean ====
module

public import proofs.«01_k».proof.Proof.Gen.DHMlpIdeal.Value
public import Idealize.ShloMosaic.Lib.Pipeline.ValueKit
public import Idealize.ShloMosaic.Lib.Pointwise
public import Idealize.ShloMosaic.Lib.Pipeline.ReadBack
public import proofs.«01_k».proof.Proof.NormBack

@[expose] public section

set_option maxRecDepth 16384

noncomputable section

/-! # Back through the MLP's up projection and the norm before it: what the kernel leaves in its result -/

namespace Cert.DHMlpIdeal.Result

open Cert.DHMlpIdeal Cert.DHMlpIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The gradient of the up projection's result, the projection's column shards, the norm's input and scale, and the residual
    branch's gradient, on device `c`. -/
abbrev A0 : Spec.A2 4096 4096 := m ((c : Thread nD τ).loc main_arg0)
abbrev A1 : Spec.A3 4 1024 1024 := m ((c : Thread nD τ).loc main_arg1)
abbrev A2 : Spec.A2 4096 1024 := m ((c : Thread nD τ).loc main_arg2)
abbrev A3 : Spec.A2 1 1024 := m ((c : Thread nD τ).loc main_arg3)
abbrev A4 : Spec.A2 4096 1024 := m ((c : Thread nD τ).loc main_arg4)

/-- The windows' blocks by the grid point: eight blocks of 512 rows. -/
theorem idx (t : Fin cfg0.N) :
    win0_0.index t = ![t.val, 0] ∧ win0_1.index t = ![0, 0, 0] ∧ win0_2.index t = ![t.val, 1]
    ∧ win0_3.index t = ![1, 0, 0] ∧ win0_4.index t = ![t.val, 2] ∧ win0_5.index t = ![2, 0, 0]
    ∧ win0_6.index t = ![t.val, 3] ∧ win0_7.index t = ![3, 0, 0] ∧ win0_8.index t = ![t.val, 0]
    ∧ win0_9.index t = ![0, 0] ∧ win0_10.index t = ![t.val, 0] ∧ win0_11.index t = ![t.val, 0]
    ∧ win0_12.index t = ![t.val, 0] ∧ win0_13.index t = ![0, 0] :=
  (by decide +kernel : ∀ t : Fin cfg0.N,
    win0_0.index t = ![t.val, 0] ∧ win0_1.index t = ![0, 0, 0] ∧ win0_2.index t = ![t.val, 1]
    ∧ win0_3.index t = ![1, 0, 0] ∧ win0_4.index t = ![t.val, 2] ∧ win0_5.index t = ![2, 0, 0]
    ∧ win0_6.index t = ![t.val, 3] ∧ win0_7.index t = ![3, 0, 0] ∧ win0_8.index t = ![t.val, 0]
    ∧ win0_9.index t = ![0, 0] ∧ win0_10.index t = ![t.val, 0] ∧ win0_11.index t = ![t.val, 0]
    ∧ win0_12.index t = ![t.val, 0] ∧ win0_13.index t = ![0, 0]) t

/-- Row `r` of point `t`'s block. -/
abbrev row (t : Fin cfg0.N) (r : Fin 512) : Fin 4096 :=
  ⟨t.val * 512 + r.val, by have := t.isLt; have : cfg0.N = 8 := N_0; omega⟩

theorem b0 (t : Fin cfg0.N) (x : S512x1024.Idx) : (iblk m c 0 t : S512x1024.Idx → EReal) x
    = A0 m c (ix2 (row t (x 0)) ⟨(x 1).val, lt_of_lt_of_le (x 1).isLt (by decide : 1024 ≤ 4096)⟩) := by
  blk_ext [iblk, V, idx t]
theorem b1 (t : Fin cfg0.N) (x : S1x1024x1024.Idx) :
    (iblk m c 1 t : S1x1024x1024.Idx → EReal) x = A1 m c (ix3 0 (x 1) (x 2)) := by
  blk_ext [iblk, V, idx t]
theorem b2 (t : Fin cfg0.N) (x : S512x1024.Idx) : (iblk m c 2 t : S512x1024.Idx → EReal) x
    = A0 m c (ix2 (row t (x 0)) ⟨1024 + (x 1).val, Nat.add_lt_add_left (x 1).isLt 1024 |>.trans_le (by decide)⟩) := by
  blk_ext [iblk, V, idx t]
theorem b3 (t : Fin cfg0.N) (x : S1x1024x1024.Idx) :
    (iblk m c 3 t : S1x1024x1024.Idx → EReal) x = A1 m c (ix3 1 (x 1) (x 2)) := by
  blk_ext [iblk, V, idx t]
theorem b4 (t : Fin cfg0.N) (x : S512x1024.Idx) : (iblk m c 4 t : S512x1024.Idx → EReal) x
    = A0 m c (ix2 (row t (x 0)) ⟨2048 + (x 1).val, Nat.add_lt_add_left (x 1).isLt 2048 |>.trans_le (by decide)⟩) := by
  blk_ext [iblk, V, idx t]
theorem b5 (t : Fin cfg0.N) (x : S1x1024x1024.Idx) :
    (iblk m c 5 t : S1x1024x1024.Idx → EReal) x = A1 m c (ix3 2 (x 1) (x 2)) := by
  blk_ext [iblk, V, idx t]
theorem b6 (t : Fin cfg0.N) (x : S512x1024.Idx) : (iblk m c 6 t : S512x1024.Idx → EReal) x
    = A0 m c (ix2 (row t (x 0)) ⟨3072 + (x 1).val, Nat.add_lt_add_left (x 1).isLt 3072 |>.trans_le (by decide)⟩) := by
  blk_ext [iblk, V, idx t]
theorem b7 (t : Fin cfg0.N) (x : S1x1024x1024.Idx) :
    (iblk m c 7 t : S1x1024x1024.Idx → EReal) x = A1 m c (ix3 3 (x 1) (x 2)) := by
  blk_ext [iblk, V, idx t]
theorem b8 (t : Fin cfg0.N) (x : S512x1024.Idx) :
    (iblk m c 8 t : S512x1024.Idx → EReal) x = A2 m c (ix2 (row t (x 0)) (x 1)) := by
  blk_ext [iblk, V, idx t]
theorem b9 (t : Fin cfg0.N) (x : S1x1024.Idx) : (iblk m c 9 t : S1x1024.Idx → EReal) x = A3 m c x := by
  blk_ext [iblk, V, idx t]
theorem b10 (t : Fin cfg0.N) (x : S512x1024.Idx) :
    (iblk m c 10 t : S512x1024.Idx → EReal) x = A4 m c (ix2 (row t (x 0)) (x 1)) := by
  blk_ext [iblk, V, idx t]

/-- The gradient of the norm's result. -/
abbrev dh : Spec.A2 4096 1024 := Spec.mmT (A0 m c) (Spec.columns (by decide) rfl (A1 m c))

theorem dh_block (t : Fin cfg0.N) (y : S512x1024.Idx) :
    (k0_pay7 (iblk m c 0 t) (iblk m c 1 t) (iblk m c 2 t) (iblk m c 3 t) (iblk m c 4 t) (iblk m c 5 t) (iblk m c 6 t) (iblk m c 7 t) : S512x1024.Idx → EReal) y = dh m c (ix2 (row t (y 0)) (y 1)) := by
  pointwise [k0_pay7]
  simp only [b0, b1, b2, b3, b4, b5, b6, b7]
  exact (Spec.mmT_columns _ _ _ _).symm

theorem out11 : (dats m 0 c).arrAt 11 cfg0.N = Spec.normDxRes (dh m c) (A2 m c) (A3 m c) (A4 m c) := by
  refine (dats m 0 c).arrAt_eq_of_covers 11 _ (by decide +kernel) fun t hf y => ?_
  have e : ((cfg0.win 11).blk t).view.emb y = ix2 (row t (y 0)) (y 1) := by blk_ext [idx t]
  rw [e]
  blk_simp
  rw [after0_11]
  by_cases h0 : t.val % 8 = 0
  · rw [outsAt0_A m c t h0]
    frame_out
    pointwise [k0_pay3, k0_pay2, k0_pay1, k0_pay8]
    simp only [dh_block, b8, b9, b10]
    rfl
  · rw [outsAt0_B m c t h0]
    frame_out
    pointwise [k0_pay3, k0_pay2, k0_pay1, k0_pay8]
    simp only [dh_block, b8, b9, b10]
    rfl

theorem out12 : (dats m 0 c).arrAt 12 cfg0.N = Spec.normDxRes (dh m c) (A2 m c) (A3 m c) (A4 m c) := by
  refine (dats m 0 c).arrAt_eq_of_covers 12 _ (by decide +kernel) fun t hf y => ?_
  have e : ((cfg0.win 12).blk t).view.emb y = ix2 (row t (y 0)) (y 1) := by blk_ext [idx t]
  rw [e]
  blk_simp
  rw [after0_12]
  by_cases h0 : t.val % 8 = 0
  · rw [outsAt0_A m c t h0]
    frame_out
    pointwise [k0_pay4, k0_pay3, k0_pay2, k0_pay1, k0_pay8]
    simp only [dh_block, b8, b9, b10]
    rfl
  · rw [outsAt0_B m c t h0]
    frame_out
    pointwise [k0_pay4, k0_pay3, k0_pay2, k0_pay1, k0_pay8]
    simp only [dh_block, b8, b9, b10]
    rfl

/-! ## The gradient of the norm's scale, added up over the grid -/

/-- What point `t` adds: the scale's gradient over its 512 rows. -/
def term (t : Fin cfg0.N) (j : S1x1024.Idx) : EReal :=
  ∑ r : Fin 512, dh m c (ix2 (row t r) (j 1)) * (A2 m c (ix2 (row t r) (j 1)) * Spec.rstd (A2 m c) (row t r))

theorem acc_first (t : Fin cfg0.N) (h : t.val % 8 = 0) (j : S1x1024.Idx) :
    (outsAt0 m c t.val t.isLt).2.2 j = 0 + term m c t j := by
  rw [outsAt0_A m c t h]
  frame_out
  pointwise [k0_pay6, k0_pay5, k0_pay2, k0_pay1, k0_pay8]
  simp only [dh_block, b8]
  rfl

theorem acc_next (t : Fin cfg0.N) (h : ¬t.val % 8 = 0) (j : S1x1024.Idx) :
    (outsAt0 m c t.val t.isLt).2.2 j
      = (outsAt0 m c (t.val - 1) (Nat.lt_of_le_of_lt (Nat.sub_le _ _) t.isLt)).2.2 j + term m c t j := by
  rw [outsAt0_B m c t h]
  frame_out
  pointwise [k0_pay6, k0_pay2, k0_pay1, k0_pay8]
  simp only [dh_block, b8]
  rfl

theorem out13 : (dats m 0 c).arrAt 13 cfg0.N = Spec.normDg (dh m c) (A2 m c) := by
  refine (dats m 0 c).arrAt_eq_of_after_last 13 t0_7 (by decide +kernel) _ fun j => ?_
  blk_simp
  rw [after0_13]
  refine (Pipeline.eq_sum_fin_of_reset_step_apply_last (fun n h => (outsAt0 m c n h).2.2) 8 (fun _ => (0 : EReal)) (term m c)
    (acc_first m c) (acc_next m c) (by decide) t0_7 rfl j).trans ?_
  rw [zero_add]
  exact (Spec.sum_rows 8 512 fun r => dh m c (ix2 r (j 1)) * (A2 m c (ix2 r (j 1)) * Spec.rstd (A2 m c) r)).symm

end Cert.DHMlpIdeal.Result

end
-- ==== Proof.DHMlpRef.lean ====
module

public import proofs.«01_k».proof.Proof.NormBack
public import proofs.«01_k».proof.Proof.Gen.DHMlpRefIdeal.Run
public import proofs.«01_k».proof.Proof.Gen.DHMlpRefIdeal.Read
public import Idealize.ShloMosaic.Lib.Pipeline.ValueKit
public import Idealize.ShloMosaic.Lib.Pointwise

@[expose] public section

set_option maxRecDepth 16384

noncomputable section

/-! # Back through the MLP's up projection and the norm before it: the reference's result is the same function of its arguments (`Proof/Spec.lean`) -/

namespace Cert.DHMlpRefIdeal.Result

open Cert.DHMlpRefIdeal Cert.DHMlpRefIdeal.Gen Idealize.ShloMosaic Idealize.ShloMosaic.TcCoe Idealize.SL.Sem

variable (x0 : (⟨S4096x4096, .bf16⟩ : BufTy).Contents (Elt Ideal)) (x1 : (⟨S4x1024x1024, .bf16⟩ : BufTy).Contents (Elt Ideal))
  (x2 : (⟨S4096x1024, .f32⟩ : BufTy).Contents (Elt Ideal)) (x3 : (⟨S1x1024, .f32⟩ : BufTy).Contents (Elt Ideal))
  (x4 : (⟨S4096x1024, .f32⟩ : BufTy).Contents (Elt Ideal))

/-- The gradient of the norm's result, its column shards read one by one. -/
theorem dh (r : Fin 4096) (j : Fin 1024) :
    ∑ q : Fin 4096, x0 (ix2 r q) *
      (if h : q.val < 1024 then x1 (ix3 0 j ⟨q.val, h⟩)
        else if h : q.val - 1024 < 1024 then x1 (ix3 1 j ⟨q.val - 1024, h⟩)
        else if h : q.val - 1024 - 1024 < 1024 then x1 (ix3 2 j ⟨q.val - 1024 - 1024, h⟩)
        else x1 (ix3 3 j ⟨q.val - 1024 - 1024 - 1024, by omega⟩))
      = Spec.mmT (x0 : Spec.A2 4096 4096) (Spec.columns (by decide) rfl x1) (ix2 r j) := by
  unfold Spec.mmT Spec.columns
  refine Finset.sum_congr rfl fun q _ => congrArg (x0 (ix2 r q) * ·) ?_
  split_ifs <;> refine congrArg x1 (funext fun a => Fin.ext ?_) <;> fin_cases a <;> simp <;> omega

theorem grad : Read.val_main_v27 x0 x1 = Spec.mmT x0 (Spec.columns (by decide) rfl x1) := by
  refine funext fun (i : S4096x1024.Idx) => ?_
  obtain ⟨r, j, rfl⟩ : ∃ (r : Fin 4096) (j : Fin 1024), i = ix2 r j := ⟨i 0, i 1, by blk_ext⟩
  refine Eq.trans ?_ (dh x0 x1 r j)
  unfold Read.val_main_v27 Read.val_main_v26 Read.val_main_v24 Read.val_main_v23 Read.val_main_v22 Read.val_main_v21
    Read.val_main_v20 Read.val_main_v19 Read.val_main_v18 Read.val_main_v17 Read.val_main_v16 Read.val_main_v15
  pointwise

theorem dg : Read.val_main_v30 x0 x1 x2 = Spec.normDg (Spec.mmT x0 (Spec.columns (by decide) rfl x1)) x2 := by
  refine funext fun (i : S1x1024.Idx) => ?_
  obtain ⟨r, j, rfl⟩ : ∃ (r : Fin 1) (j : Fin 1024), i = ix2 r j := ⟨i 0, i 1, by blk_ext⟩
  unfold Read.val_main_v30 Read.val_main_v29 Read.val_main_v28
  rw [grad]
  unfold Read.val_main_v12 Read.val_main_v11 Read.val_main_v7 Read.val_main_v6 Read.val_main_v5 Read.val_main_v4 Read.val_main_v3
    Read.val_main_v2 Read.val_main_v1 Read.val_main_v0 Read.val_main_cst Read.val_main_cst_0 Read.val_main_cst_1 Read.val_main_cst_3
  pointwise
  exact Finset.sum_congr rfl fun k _ => mul_comm _ _

theorem dx : Read.val_main_v47 x0 x1 x2 x3 x4 = Spec.normDxRes (Spec.mmT x0 (Spec.columns (by decide) rfl x1)) x2 x3 x4 := by
  refine funext fun (i : S4096x1024.Idx) => ?_
  obtain ⟨r, j, rfl⟩ : ∃ (r : Fin 4096) (j : Fin 1024), i = ix2 r j := ⟨i 0, i 1, by blk_ext⟩
  refine Eq.trans ?_ (Spec.row_back (fun k => x2 (ix2 r k)) (fun k => Spec.mmT (x0 : Spec.A2 4096 4096) (Spec.columns (by decide) rfl x1) (ix2 r k) * x3 (ix2 0 k))
    (x4 (ix2 r j)) j _ (Spec.mean_pos fun k => x2 (ix2 r k))).symm
  unfold Read.val_main_v47 Read.val_main_v46 Read.val_main_v45 Read.val_main_v44 Read.val_main_v43 Read.val_main_v42
    Read.val_main_v41 Read.val_main_v39 Read.val_main_v38 Read.val_main_v37 Read.val_main_v35 Read.val_main_v34
    Read.val_main_v33 Read.val_main_v32
  rw [grad]
  unfold Read.val_main_v31 Read.val_main_v36 Read.val_main_v40 Read.val_main_v10 Read.val_main_v9 Read.val_main_v8
    Read.val_main_v7 Read.val_main_v6 Read.val_main_v5 Read.val_main_v4 Read.val_main_v3 Read.val_main_v2 Read.val_main_v1
    Read.val_main_v0 Read.val_main_cst Read.val_main_cst_0 Read.val_main_cst_1 Read.val_main_cst_2 Read.val_main_cst_4
    Read.val_main_cst_5 Read.val_main_cst_6
  pointwise
  rfl

theorem dxb : Read.val_main_v48 x0 x1 x2 x3 x4 = Spec.normDxRes (Spec.mmT x0 (Spec.columns (by decide) rfl x1)) x2 x3 x4 := by
  rw [← dx]
  refine funext fun (i : S4096x1024.Idx) => ?_
  rfl

end Cert.DHMlpRefIdeal.Result

end
-- ==== Proof.DHMlpClaims.lean ====
module

public import proofs.«01_k».proof.Defs
public import proofs.«01_k».proof.Proof.Gen.DHMlp
public import proofs.«01_k».proof.Proof.Gen.DHMlp.Frame
public import proofs.«01_k».proof.Proof.Gen.DHMlpIdeal.Value
public import proofs.«01_k».proof.Proof.Gen.DHMlpRefIdeal.Run
public import proofs.«01_k».proof.Proof.Gen.DHMlpRefIdeal.Read
public import proofs.«01_k».proof.Proof.DHMlp
public import proofs.«01_k».proof.Proof.DHMlpRef
public import Idealize.ShloMosaic.Adequacy
public import Idealize.ShloMosaic.Init

@[expose] public section

noncomputable section

/-! # Back through the MLP's up projection and the norm before it: the claims -/

namespace Cert.Proof.DHMlp

open Idealize.ShloMosaic Idealize.SL.Sem

theorem frame_kernel : Cert.quiescent_DHMlp := fun m ρ _ => Cert.DHMlp.Gen.frame m ρ

theorem frame_kernelIdeal : Cert.quiescent_DHMlpIdeal := fun m ρ _ => Cert.DHMlpIdeal.Gen.frame m ρ

theorem frame_referenceIdeal : Cert.quiescent_DHMlpRefIdeal := fun m ρ _ =>
  (θ_run Cert.DHMlpRefIdeal.defs _ _).mono (fun r h => ⟨fun c => (h c).2.2.2,
      Idealize.ShloMosaic.sem_eq_zero_of_no_sems (by decide) r.2⟩)
    (Cert.DHMlpRefIdeal.Value.run (F := Ideal) m ρ)

theorem preserves : Cert.preserves_DHMlp_DHMlpIdeal := trivial

theorem algebraic : Cert.algebraic_DHMlpIdeal_DHMlpRefIdeal := by
  intro m ρ m' ρ' _ hagree
  refine ⟨_, _, _, Cert.DHMlpIdeal.Value.run_blocks m ρ, ?_⟩
  refine (θ_run Cert.DHMlpRefIdeal.defs _ _).mono (fun r h c => ?_) (Cert.DHMlpRefIdeal.Value.run (F := Ideal) m' ρ')
  obtain ⟨h0, h1, h2, hargs⟩ := h c
  obtain ⟨a0, a1, a2, a3, a4⟩ := hagree c
  refine ⟨h0.trans ?_, h1.trans ?_, h2.trans ?_, hargs⟩
  · rw [Cert.DHMlpIdeal.Result.out11]
    refine (Cert.DHMlpRefIdeal.Read.val_main_v47_eq ..).trans ((Cert.DHMlpRefIdeal.Result.dx ..).trans ?_)
    rw [a0, a1, a2, a3, a4]
  · rw [Cert.DHMlpIdeal.Result.out12]
    refine (Cert.DHMlpRefIdeal.Read.val_main_v48_eq ..).trans ((Cert.DHMlpRefIdeal.Result.dxb ..).trans ?_)
    rw [a0, a1, a2, a3, a4]
  · rw [Cert.DHMlpIdeal.Result.out13]
    refine (Cert.DHMlpRefIdeal.Read.val_main_v30_eq ..).trans ((Cert.DHMlpRefIdeal.Result.dg ..).trans ?_)
    rw [a0, a1, a2]

end Cert.Proof.DHMlp

end
-- ==== Proof.DHPle.lean ====
module

public import proofs.«01_k».proof.Proof.Gen.DHPleIdeal.Value
public import Idealize.ShloMosaic.Lib.Pipeline.ValueKit
public import Idealize.ShloMosaic.Lib.Pointwise
public import Idealize.ShloMosaic.Lib.Pipeline.ReadBack
public import proofs.«01_k».proof.Proof.NormBack

@[expose] public section

set_option maxRecDepth 16384

noncomputable section

/-! # Back through the gated embedding's projection and the norm before it: what the kernel leaves in its result -/

namespace Cert.DHPleIdeal.Result

open Cert.DHPleIdeal Cert.DHPleIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The gradient of the gate's logits, the gate's projection, the norm's input and scale, and the residual branch's gradient,
    on device `c`. -/
abbrev A0 : Spec.A2 4096 1024 := m ((c : Thread nD τ).loc main_arg0)
abbrev A1 : Spec.A2 1024 1024 := m ((c : Thread nD τ).loc main_arg1)
abbrev A2 : Spec.A2 4096 1024 := m ((c : Thread nD τ).loc main_arg2)
abbrev A3 : Spec.A2 1 1024 := m ((c : Thread nD τ).loc main_arg3)
abbrev A4 : Spec.A2 4096 1024 := m ((c : Thread nD τ).loc main_arg4)

/-- The windows' blocks by the grid point: eight blocks of 512 rows. -/
theorem idx (t : Fin cfg0.N) :
    win0_0.index t = ![t.val, 0] ∧ win0_1.index t = ![0, 0] ∧ win0_2.index t = ![t.val, 0]
    ∧ win0_3.index t = ![0, 0] ∧ win0_4.index t = ![t.val, 0] ∧ win0_5.index t = ![t.val, 0]
    ∧ win0_6.index t = ![t.val, 0] ∧ win0_7.index t = ![0, 0] :=
  (by decide +kernel : ∀ t : Fin cfg0.N,
    win0_0.index t = ![t.val, 0] ∧ win0_1.index t = ![0, 0] ∧ win0_2.index t = ![t.val, 0]
    ∧ win0_3.index t = ![0, 0] ∧ win0_4.index t = ![t.val, 0] ∧ win0_5.index t = ![t.val, 0]
    ∧ win0_6.index t = ![t.val, 0] ∧ win0_7.index t = ![0, 0]) t

/-- Row `r` of point `t`'s block. -/
abbrev row (t : Fin cfg0.N) (r : Fin 512) : Fin 4096 :=
  ⟨t.val * 512 + r.val, by have := t.isLt; have : cfg0.N = 8 := N_0; omega⟩

theorem b0 (t : Fin cfg0.N) (x : S512x1024.Idx) :
    (iblk m c 0 t : S512x1024.Idx → EReal) x = A0 m c (ix2 (row t (x 0)) (x 1)) := by
  blk_ext [iblk, V, idx t]
theorem b1 (t : Fin cfg0.N) (x : S1024x1024.Idx) : (iblk m c 1 t : S1024x1024.Idx → EReal) x = A1 m c x := by
  blk_ext [iblk, V, idx t]
theorem b2 (t : Fin cfg0.N) (x : S512x1024.Idx) :
    (iblk m c 2 t : S512x1024.Idx → EReal) x = A2 m c (ix2 (row t (x 0)) (x 1)) := by
  blk_ext [iblk, V, idx t]
theorem b3 (t : Fin cfg0.N) (x : S1x1024.Idx) : (iblk m c 3 t : S1x1024.Idx → EReal) x = A3 m c x := by
  blk_ext [iblk, V, idx t]
theorem b4 (t : Fin cfg0.N) (x : S512x1024.Idx) :
    (iblk m c 4 t : S512x1024.Idx → EReal) x = A4 m c (ix2 (row t (x 0)) (x 1)) := by
  blk_ext [iblk, V, idx t]

/-- The gradient of the norm's result. -/
abbrev dh : Spec.A2 4096 1024 := Spec.mmT (A0 m c) (A1 m c)

theorem dh_block (t : Fin cfg0.N) (y : S512x1024.Idx) :
    (k0_pay3 (iblk m c 0 t) (iblk m c 1 t) : S512x1024.Idx → EReal) y = dh m c (ix2 (row t (y 0)) (y 1)) := by
  pointwise [k0_pay3]
  simp only [b0, b1]
  rfl

theorem out5 : (dats m 0 c).arrAt 5 cfg0.N = Spec.normDxRes (dh m c) (A2 m c) (A3 m c) (A4 m c) := by
  refine (dats m 0 c).arrAt_eq_of_covers 5 _ (by decide +kernel) fun t hf y => ?_
  have e : ((cfg0.win 5).blk t).view.emb y = ix2 (row t (y 0)) (y 1) := by blk_ext [idx t]
  rw [e]
  blk_simp
  rw [after0_5]
  by_cases h0 : t.val % 8 = 0
  · rw [outsAt0_A m c t h0]
    frame_out
    pointwise [k0_pay7, k0_pay5, k0_pay4]
    simp only [dh_block, b2, b3, b4]
    rfl
  · rw [outsAt0_B m c t h0]
    frame_out
    pointwise [k0_pay7, k0_pay5, k0_pay4]
    simp only [dh_block, b2, b3, b4]
    rfl

theorem out6 : (dats m 0 c).arrAt 6 cfg0.N = Spec.normDxRes (dh m c) (A2 m c) (A3 m c) (A4 m c) := by
  refine (dats m 0 c).arrAt_eq_of_covers 6 _ (by decide +kernel) fun t hf y => ?_
  have e : ((cfg0.win 6).blk t).view.emb y = ix2 (row t (y 0)) (y 1) := by blk_ext [idx t]
  rw [e]
  blk_simp
  rw [after0_6]
  by_cases h0 : t.val % 8 = 0
  · rw [outsAt0_A m c t h0]
    frame_out
    pointwise [k0_pay8, k0_pay7, k0_pay5, k0_pay4]
    simp only [dh_block, b2, b3, b4]
    rfl
  · rw [outsAt0_B m c t h0]
    frame_out
    pointwise [k0_pay8, k0_pay7, k0_pay5, k0_pay4]
    simp only [dh_block, b2, b3, b4]
    rfl

/-! ## The gradient of the norm's scale, added up over the grid -/

/-- What point `t` adds: the scale's gradient over its 512 rows. -/
def term (t : Fin cfg0.N) (j : S1x1024.Idx) : EReal :=
  ∑ r : Fin 512, dh m c (ix2 (row t r) (j 1)) * (A2 m c (ix2 (row t r) (j 1)) * Spec.rstd (A2 m c) (row t r))

theorem acc_first (t : Fin cfg0.N) (h : t.val % 8 = 0) (j : S1x1024.Idx) :
    (outsAt0 m c t.val t.isLt).2.2 j = 0 + term m c t j := by
  rw [outsAt0_A m c t h]
  frame_out
  pointwise [k0_pay2, k0_pay6, k0_pay1, k0_pay5, k0_pay4]
  simp only [dh_block, b2]
  rfl

theorem acc_next (t : Fin cfg0.N) (h : ¬t.val % 8 = 0) (j : S1x1024.Idx) :
    (outsAt0 m c t.val t.isLt).2.2 j
      = (outsAt0 m c (t.val - 1) (Nat.lt_of_le_of_lt (Nat.sub_le _ _) t.isLt)).2.2 j + term m c t j := by
  rw [outsAt0_B m c t h]
  frame_out
  pointwise [k0_pay2, k0_pay6, k0_pay5, k0_pay4]
  simp only [dh_block, b2]
  rfl

theorem out7 : (dats m 0 c).arrAt 7 cfg0.N = Spec.normDg (dh m c) (A2 m c) := by
  refine (dats m 0 c).arrAt_eq_of_after_last 7 t0_7 (by decide +kernel) _ fun j => ?_
  blk_simp
  rw [after0_7]
  refine (Pipeline.eq_sum_fin_of_reset_step_apply_last (fun n h => (outsAt0 m c n h).2.2) 8 (fun _ => (0 : EReal)) (term m c)
    (acc_first m c) (acc_next m c) (by decide) t0_7 rfl j).trans ?_
  rw [zero_add]
  exact (Spec.sum_rows 8 512 fun r => dh m c (ix2 r (j 1)) * (A2 m c (ix2 r (j 1)) * Spec.rstd (A2 m c) r)).symm

end Cert.DHPleIdeal.Result

end
-- ==== Proof.DHPleRef.lean ====
module

public import proofs.«01_k».proof.Proof.NormBack
public import proofs.«01_k».proof.Proof.Gen.DHPleRefIdeal.Run
public import proofs.«01_k».proof.Proof.Gen.DHPleRefIdeal.Read
public import Idealize.ShloMosaic.Lib.Pipeline.ValueKit
public import Idealize.ShloMosaic.Lib.Pointwise

@[expose] public section

set_option maxRecDepth 16384

noncomputable section

/-! # Back through the gated embedding's projection and the norm before it: the reference's result is the same function of its arguments (`Proof/Spec.lean`) -/

namespace Cert.DHPleRefIdeal.Result

open Cert.DHPleRefIdeal Cert.DHPleRefIdeal.Gen Idealize.ShloMosaic Idealize.ShloMosaic.TcCoe Idealize.SL.Sem

variable (x0 : (⟨S4096x1024, .bf16⟩ : BufTy).Contents (Elt Ideal)) (x1 : (⟨S1024x1024, .bf16⟩ : BufTy).Contents (Elt Ideal))
  (x2 : (⟨S4096x1024, .f32⟩ : BufTy).Contents (Elt Ideal)) (x3 : (⟨S1x1024, .f32⟩ : BufTy).Contents (Elt Ideal))
  (x4 : (⟨S4096x1024, .f32⟩ : BufTy).Contents (Elt Ideal))

/-- The gradient of the norm's result. -/
theorem dh (r : Fin 4096) (j : Fin 1024) :
    ∑ q, x0 (ix2 r q) * x1 (ix2 j q)
      = Spec.mmT (x0 : Spec.A2 4096 1024) x1 (ix2 r j) := by
  rfl

theorem grad : Read.val_main_v18 x0 x1 = Spec.mmT x0 x1 := by
  refine funext fun (i : S4096x1024.Idx) => ?_
  obtain ⟨r, j, rfl⟩ : ∃ (r : Fin 4096) (j : Fin 1024), i = ix2 r j := ⟨i 0, i 1, by blk_ext⟩
  refine Eq.trans ?_ (dh x0 x1 r j)
  unfold Read.val_main_v18 Read.val_main_v17 Read.val_main_v15
  pointwise

theorem dg : Read.val_main_v21 x0 x1 x2 = Spec.normDg (Spec.mmT x0 x1) x2 := by
  refine funext fun (i : S1x1024.Idx) => ?_
  obtain ⟨r, j, rfl⟩ : ∃ (r : Fin 1) (j : Fin 1024), i = ix2 r j := ⟨i 0, i 1, by blk_ext⟩
  unfold Read.val_main_v21 Read.val_main_v20 Read.val_main_v19
  rw [grad]
  unfold Read.val_main_v12 Read.val_main_v11 Read.val_main_v7 Read.val_main_v6 Read.val_main_v5 Read.val_main_v4 Read.val_main_v3
    Read.val_main_v2 Read.val_main_v1 Read.val_main_v0 Read.val_main_cst Read.val_main_cst_0 Read.val_main_cst_1 Read.val_main_cst_3
  pointwise
  exact Finset.sum_congr rfl fun k _ => mul_comm _ _

theorem dx : Read.val_main_v38 x0 x1 x2 x3 x4 = Spec.normDxRes (Spec.mmT x0 x1) x2 x3 x4 := by
  refine funext fun (i : S4096x1024.Idx) => ?_
  obtain ⟨r, j, rfl⟩ : ∃ (r : Fin 4096) (j : Fin 1024), i = ix2 r j := ⟨i 0, i 1, by blk_ext⟩
  refine Eq.trans ?_ (Spec.row_back (fun k => x2 (ix2 r k)) (fun k => Spec.mmT (x0 : Spec.A2 4096 1024) x1 (ix2 r k) * x3 (ix2 0 k))
    (x4 (ix2 r j)) j _ (Spec.mean_pos fun k => x2 (ix2 r k))).symm
  unfold Read.val_main_v38 Read.val_main_v37 Read.val_main_v36 Read.val_main_v35 Read.val_main_v34 Read.val_main_v33
    Read.val_main_v32 Read.val_main_v30 Read.val_main_v29 Read.val_main_v28 Read.val_main_v26 Read.val_main_v25
    Read.val_main_v24 Read.val_main_v23
  rw [grad]
  unfold Read.val_main_v22 Read.val_main_v27 Read.val_main_v31 Read.val_main_v10 Read.val_main_v9 Read.val_main_v8
    Read.val_main_v7 Read.val_main_v6 Read.val_main_v5 Read.val_main_v4 Read.val_main_v3 Read.val_main_v2 Read.val_main_v1
    Read.val_main_v0 Read.val_main_cst Read.val_main_cst_0 Read.val_main_cst_1 Read.val_main_cst_2 Read.val_main_cst_4
    Read.val_main_cst_5 Read.val_main_cst_6
  pointwise
  rfl

theorem dxb : Read.val_main_v39 x0 x1 x2 x3 x4 = Spec.normDxRes (Spec.mmT x0 x1) x2 x3 x4 := by
  rw [← dx]
  refine funext fun (i : S4096x1024.Idx) => ?_
  rfl

end Cert.DHPleRefIdeal.Result

end
-- ==== Proof.DHPleClaims.lean ====
module

public import proofs.«01_k».proof.Defs
public import proofs.«01_k».proof.Proof.Gen.DHPle
public import proofs.«01_k».proof.Proof.Gen.DHPle.Frame
public import proofs.«01_k».proof.Proof.Gen.DHPleIdeal.Value
public import proofs.«01_k».proof.Proof.Gen.DHPleRefIdeal.Run
public import proofs.«01_k».proof.Proof.Gen.DHPleRefIdeal.Read
public import proofs.«01_k».proof.Proof.DHPle
public import proofs.«01_k».proof.Proof.DHPleRef
public import Idealize.ShloMosaic.Adequacy
public import Idealize.ShloMosaic.Init

@[expose] public section

noncomputable section

/-! # Back through the gated embedding's projection and the norm before it: the claims -/

namespace Cert.Proof.DHPle

open Idealize.ShloMosaic Idealize.SL.Sem

theorem frame_kernel : Cert.quiescent_DHPle := fun m ρ _ => Cert.DHPle.Gen.frame m ρ

theorem frame_kernelIdeal : Cert.quiescent_DHPleIdeal := fun m ρ _ => Cert.DHPleIdeal.Gen.frame m ρ

theorem frame_referenceIdeal : Cert.quiescent_DHPleRefIdeal := fun m ρ _ =>
  (θ_run Cert.DHPleRefIdeal.defs _ _).mono (fun r h => ⟨fun c => (h c).2.2.2,
      Idealize.ShloMosaic.sem_eq_zero_of_no_sems (by decide) r.2⟩)
    (Cert.DHPleRefIdeal.Value.run (F := Ideal) m ρ)

theorem preserves : Cert.preserves_DHPle_DHPleIdeal := trivial

theorem algebraic : Cert.algebraic_DHPleIdeal_DHPleRefIdeal := by
  intro m ρ m' ρ' _ hagree
  refine ⟨_, _, _, Cert.DHPleIdeal.Value.run_blocks m ρ, ?_⟩
  refine (θ_run Cert.DHPleRefIdeal.defs _ _).mono (fun r h c => ?_) (Cert.DHPleRefIdeal.Value.run (F := Ideal) m' ρ')
  obtain ⟨h0, h1, h2, hargs⟩ := h c
  obtain ⟨a0, a1, a2, a3, a4⟩ := hagree c
  refine ⟨h0.trans ?_, h1.trans ?_, h2.trans ?_, hargs⟩
  · rw [Cert.DHPleIdeal.Result.out5]
    refine (Cert.DHPleRefIdeal.Read.val_main_v38_eq ..).trans ((Cert.DHPleRefIdeal.Result.dx ..).trans ?_)
    rw [a0, a1, a2, a3, a4]
  · rw [Cert.DHPleIdeal.Result.out6]
    refine (Cert.DHPleRefIdeal.Read.val_main_v39_eq ..).trans ((Cert.DHPleRefIdeal.Result.dxb ..).trans ?_)
    rw [a0, a1, a2, a3, a4]
  · rw [Cert.DHPleIdeal.Result.out7]
    refine (Cert.DHPleRefIdeal.Read.val_main_v21_eq ..).trans ((Cert.DHPleRefIdeal.Result.dg ..).trans ?_)
    rw [a0, a1, a2]

end Cert.Proof.DHPle

end
-- ==== Proof.HeadSpec.lean ====
module
public import proofs.«01_k».proof.Proof.NormBack

@[expose] public section

noncomputable section

/-! # The gated per-layer embedding, the final RMSNorm and the squared error behind it, with their gradients -/

namespace Cert.Spec

open Idealize.ShloMosaic

variable (x2 : A2 4096 1024) (h3 : A2 4096 1024) (p : A2 4096 256) (wg : A2 1024 1024) (wp : A3 4 256 256) (g : A2 1 1024)
  (tgt : A2 4096 1024)

/-- The embedding's gate and the embedding. -/
def pleGate : A2 4096 1024 := fun i => Ideal.logistic (mm h3 wg i)
def pleEmb : A2 4096 1024 := mm p (columns (by decide) rfl wp)

/-- The block's last residual sum. -/
def headX : A2 4096 1024 := fun i => x2 i + pleGate h3 wg i * pleEmb p wp i

/-- The error of the normalised rows, and the loss's gradient with respect to them. -/
def headErr : A2 4096 1024 := fun i => norm (headX x2 h3 p wg wp) g i - tgt i
def headDy : A2 4096 1024 := fun i => headErr x2 h3 p wg wp g tgt i * Ideal.ofBits .f32 0x3A800000#32

/-- The gradients: of the residual sum, of the gate's logit, of the embedding, and of the norm's scale. -/
def headDx : A2 4096 1024 := normDx (headDy x2 h3 p wg wp g tgt) (headX x2 h3 p wg wp) g
def headDpre : A2 4096 1024 := fun i => headDx x2 h3 p wg wp g tgt i * pleEmb p wp i * pleGate h3 wg i
  * (Ideal.ofBits .f32 0x3F800000#32 - pleGate h3 wg i)
def headDpe : A2 4096 1024 := fun i => headDx x2 h3 p wg wp g tgt i * pleGate h3 wg i
def headDg : A2 1 1024 := normDg (headDy x2 h3 p wg wp g tgt) (headX x2 h3 p wg wp)

/-- Half the mean square error of row `r`, and the loss: their sum, in each of 128 lanes. -/
def rowLoss (r : Fin 4096) : EReal :=
  Ideal.div (∑ j : Fin 1024, headErr x2 h3 p wg wp g tgt (ix2 r j) * headErr x2 h3 p wg wp g tgt (ix2 r j)) len
def headLoss : A2 1 128 := fun _ => Ideal.ofBits .f32 0x3F000000#32 * ∑ r : Fin 4096, rowLoss x2 h3 p wg wp g tgt r

theorem one : Ideal.ofBits .f32 0x3F800000#32 = 1 := by
  simp [Ideal.ofBits, Ideal.ieee, -EReal.coe_mul]; norm_num

theorem inv_len : Ideal.ofBits .f32 0x3A800000#32 = ((1 / 1024 : ℝ) : EReal) := by
  simp [Ideal.ofBits, Ideal.ieee, -EReal.coe_mul]; norm_num

/-- The loss's derivative by the chain of its factors is the error over the row length. -/
theorem dy_chain (e : EReal) :
    Ideal.div (Ideal.ofBits .f32 0x3F000000#32 * Ideal.ofBits .f32 0x3F800000#32) len * (Ideal.ofBits .f32 0x40000000#32 * e)
      = e * Ideal.ofBits .f32 0x3A800000#32 := by
  rw [div_len, half, one, two, inv_len, mul_one, ← EReal.coe_mul, ← mul_assoc, show (2 : EReal) = ((2 : ℝ) : EReal) from rfl,
    ← EReal.coe_mul, mul_comm]
  congr 2; norm_num

/-- The loss as sums over eight blocks of 512 rows, halved block by block. -/
theorem headLoss_blocks (f : Fin 4096 → EReal) :
    Ideal.ofBits .f32 0x3F000000#32 * ∑ r : Fin 4096, f r
      = ∑ t : Fin 8, Ideal.ofBits .f32 0x3F000000#32 * ∑ r : Fin 512, f ⟨t.val * 512 + r.val, by omega⟩ := by
  rw [sum_rows 8 512 f, half, mul_comm, sum_mul_coe _ _ _ (by norm_num)]
  exact Finset.sum_congr rfl fun t _ => mul_comm _ _

end Cert.Spec

end
-- ==== Proof.Head.lean ====
module

public import proofs.«01_k».proof.Proof.Gen.HeadIdeal.Value
public import Idealize.ShloMosaic.Lib.Pipeline.ValueKit
public import Idealize.ShloMosaic.Lib.Pointwise
public import Idealize.ShloMosaic.Lib.Pipeline.ReadBack
public import proofs.«01_k».proof.Proof.HeadSpec

@[expose] public section

set_option maxRecDepth 16384

noncomputable section

/-! # The gated embedding, the final norm and the loss: what the kernel leaves in its result -/

namespace Cert.HeadIdeal.Result

open Cert.HeadIdeal Cert.HeadIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The residual stream, its norm, the per-layer embedding's input, the gate's projection, the embedding's column shards, the
    final norm's scale and the targets, on device `c`. -/
abbrev A0 : Spec.A2 4096 1024 := m ((c : Thread nD τ).loc main_arg0)
abbrev A1 : Spec.A2 4096 1024 := m ((c : Thread nD τ).loc main_arg1)
abbrev A2 : Spec.A2 4096 256 := m ((c : Thread nD τ).loc main_arg2)
abbrev A3 : Spec.A2 1024 1024 := m ((c : Thread nD τ).loc main_arg3)
abbrev A4 : Spec.A3 4 256 256 := m ((c : Thread nD τ).loc main_arg4)
abbrev A5 : Spec.A2 1 1024 := m ((c : Thread nD τ).loc main_arg5)
abbrev A6 : Spec.A2 4096 1024 := m ((c : Thread nD τ).loc main_arg6)

/-- The windows' blocks by the grid point: eight blocks of 512 rows. -/
theorem idx (t : Fin cfg0.N) :
    win0_0.index t = ![t.val, 0] ∧ win0_1.index t = ![t.val, 0] ∧ win0_2.index t = ![t.val, 0]
    ∧ win0_3.index t = ![0, 0] ∧ win0_4.index t = ![0, 0, 0] ∧ win0_5.index t = ![0, 0]
    ∧ win0_6.index t = ![t.val, 0] ∧ win0_7.index t = ![t.val, 0] ∧ win0_8.index t = ![t.val, 0]
    ∧ win0_9.index t = ![t.val, 0] ∧ win0_10.index t = ![0, 0] ∧ win0_11.index t = ![0, 0] :=
  (by decide +kernel : ∀ t : Fin cfg0.N,
    win0_0.index t = ![t.val, 0] ∧ win0_1.index t = ![t.val, 0] ∧ win0_2.index t = ![t.val, 0]
    ∧ win0_3.index t = ![0, 0] ∧ win0_4.index t = ![0, 0, 0] ∧ win0_5.index t = ![0, 0]
    ∧ win0_6.index t = ![t.val, 0] ∧ win0_7.index t = ![t.val, 0] ∧ win0_8.index t = ![t.val, 0]
    ∧ win0_9.index t = ![t.val, 0] ∧ win0_10.index t = ![0, 0] ∧ win0_11.index t = ![0, 0]) t

/-- Row `r` of point `t`'s block. -/
abbrev row (t : Fin cfg0.N) (r : Fin 512) : Fin 4096 :=
  ⟨t.val * 512 + r.val, by have := t.isLt; have : cfg0.N = 8 := N_0; omega⟩

theorem b0 (t : Fin cfg0.N) (x : S512x1024.Idx) :
    (iblk m c 0 t : S512x1024.Idx → EReal) x = A0 m c (ix2 (row t (x 0)) (x 1)) := by
  blk_ext [iblk, V, idx t]
theorem b1 (t : Fin cfg0.N) (x : S512x1024.Idx) :
    (iblk m c 1 t : S512x1024.Idx → EReal) x = A1 m c (ix2 (row t (x 0)) (x 1)) := by
  blk_ext [iblk, V, idx t]
theorem b2 (t : Fin cfg0.N) (x : S512x256.Idx) :
    (iblk m c 2 t : S512x256.Idx → EReal) x = A2 m c (ix2 (row t (x 0)) (x 1)) := by
  blk_ext [iblk, V, idx t]
theorem b6 (t : Fin cfg0.N) (x : S512x1024.Idx) :
    (iblk m c 6 t : S512x1024.Idx → EReal) x = A6 m c (ix2 (row t (x 0)) (x 1)) := by
  blk_ext [iblk, V, idx t]
theorem b3 (t : Fin cfg0.N) (x : S1024x1024.Idx) : (iblk m c 3 t : S1024x1024.Idx → EReal) x = A3 m c x := by
  blk_ext [iblk, V, idx t]
theorem b4 (t : Fin cfg0.N) (x : S4x256x256.Idx) : (iblk m c 4 t : S4x256x256.Idx → EReal) x = A4 m c x := by
  blk_ext [iblk, V, idx t]
theorem b5 (t : Fin cfg0.N) (x : S1x1024.Idx) : (iblk m c 5 t : S1x1024.Idx → EReal) x = A5 m c x := by
  blk_ext [iblk, V, idx t]

/-! ## The blocks of the residual sum, of the error and of its gradient -/

theorem gate_block (t : Fin cfg0.N) (y : S512x1024.Idx) :
    (k0_pay6 (iblk m c 1 t) (iblk m c 3 t) : S512x1024.Idx → EReal) y
      = Spec.pleGate (A1 m c) (A3 m c) (ix2 (row t (y 0)) (y 1)) := by
  pointwise [k0_pay6]
  simp only [b1, b3]
  rfl

theorem emb_block (t : Fin cfg0.N) (y : S512x1024.Idx) :
    (k0_pay7 (iblk m c 2 t)
      (View.ld (iblk m c 4 t) (Rect.unit ![0, 0, 0] ![1, 256, 256] inb_S4x256x256_S1x256x256_0_0_0))
      (View.ld (iblk m c 4 t) (Rect.unit ![1, 0, 0] ![1, 256, 256] inb_S4x256x256_S1x256x256_1_0_0))
      (View.ld (iblk m c 4 t) (Rect.unit ![2, 0, 0] ![1, 256, 256] inb_S4x256x256_S1x256x256_2_0_0))
      (View.ld (iblk m c 4 t) (Rect.unit ![3, 0, 0] ![1, 256, 256] inb_S4x256x256_S1x256x256_3_0_0)) : S512x1024.Idx → EReal) y
      = Spec.pleEmb (A2 m c) (A4 m c) (ix2 (row t (y 0)) (y 1)) := by
  pointwise [k0_pay7]
  simp only [b2, b4]
  exact (Spec.mm_columns _ _ (row t (y 0)) (y 1)).symm

/-- Point `t`'s block of the residual sum, of its mean squares and of the error, as the body's terms. -/
abbrev xs (t : Fin cfg0.N) : FVec Ideal S512x1024 .f32 :=
  k0_pay8 (iblk m c 1 t) (iblk m c 3 t) (iblk m c 2 t)
      (View.ld (iblk m c 4 t) (Rect.unit ![0, 0, 0] ![1, 256, 256] inb_S4x256x256_S1x256x256_0_0_0))
      (View.ld (iblk m c 4 t) (Rect.unit ![1, 0, 0] ![1, 256, 256] inb_S4x256x256_S1x256x256_1_0_0))
      (View.ld (iblk m c 4 t) (Rect.unit ![2, 0, 0] ![1, 256, 256] inb_S4x256x256_S1x256x256_2_0_0))
      (View.ld (iblk m c 4 t) (Rect.unit ![3, 0, 0] ![1, 256, 256] inb_S4x256x256_S1x256x256_3_0_0)) (iblk m c 0 t)
abbrev ms (t : Fin cfg0.N) : FVec Ideal S512x1 .f32 :=
  k0_pay9 (iblk m c 1 t) (iblk m c 3 t) (iblk m c 2 t)
      (View.ld (iblk m c 4 t) (Rect.unit ![0, 0, 0] ![1, 256, 256] inb_S4x256x256_S1x256x256_0_0_0))
      (View.ld (iblk m c 4 t) (Rect.unit ![1, 0, 0] ![1, 256, 256] inb_S4x256x256_S1x256x256_1_0_0))
      (View.ld (iblk m c 4 t) (Rect.unit ![2, 0, 0] ![1, 256, 256] inb_S4x256x256_S1x256x256_2_0_0))
      (View.ld (iblk m c 4 t) (Rect.unit ![3, 0, 0] ![1, 256, 256] inb_S4x256x256_S1x256x256_3_0_0)) (iblk m c 0 t)

theorem x_block (t : Fin cfg0.N) (y : S512x1024.Idx) :
    (xs m c t : S512x1024.Idx → EReal) y = Spec.headX (A0 m c) (A1 m c) (A2 m c) (A3 m c) (A4 m c) (ix2 (row t (y 0)) (y 1)) := by
  unfold xs k0_pay8
  refine (congrArg₂ (· + ·) (b0 m c t y) (congrArg₂ (· * ·) (gate_block m c t y) (emb_block m c t y)))

theorem ms_block (t : Fin cfg0.N) (y : S512x1.Idx) :
    (ms m c t : S512x1.Idx → EReal) y = Ideal.div (∑ j : Fin 1024, Spec.headX (A0 m c) (A1 m c) (A2 m c) (A3 m c) (A4 m c) (ix2 (row t (y 0)) j)
      * Spec.headX (A0 m c) (A1 m c) (A2 m c) (A3 m c) (A4 m c) (ix2 (row t (y 0)) j)) Spec.len := by
  unfold ms
  pointwise [k0_pay9]
  have e := x_block m c t
  unfold xs at e
  simp only [e]
  rfl

theorem err_block (t : Fin cfg0.N) (y : S512x1024.Idx) :
    (k0_pay11 (xs m c t) (iblk m c 5 t) (ms m c t) k0_pay10 (iblk m c 6 t) : S512x1024.Idx → EReal) y
      = Spec.headErr (A0 m c) (A1 m c) (A2 m c) (A3 m c) (A4 m c) (A5 m c) (A6 m c) (ix2 (row t (y 0)) (y 1)) := by
  generalize hx : xs m c t = X
  generalize hm : ms m c t = M
  pointwise [k0_pay11, k0_pay10]
  subst hx hm
  simp only [x_block, ms_block, b5, b6]
  rfl

theorem dx_block (t : Fin cfg0.N) (y : S512x1024.Idx) :
    (k0_pay15 (xs m c t) (iblk m c 5 t) (ms m c t) k0_pay10 (iblk m c 6 t) : S512x1024.Idx → EReal) y
      = Spec.headDx (A0 m c) (A1 m c) (A2 m c) (A3 m c) (A4 m c) (A5 m c) (A6 m c) (ix2 (row t (y 0)) (y 1)) := by
  generalize hx : xs m c t = X
  generalize hm : ms m c t = M
  pointwise [k0_pay15, k0_pay14, k0_pay13, k0_pay12, k0_pay11, k0_pay10]
  subst hx hm
  simp only [x_block, ms_block, b5, b6]
  rfl

/-! ## The results of a block of rows each -/

theorem out7 : (dats m 0 c).arrAt 7 cfg0.N = Spec.headDx (A0 m c) (A1 m c) (A2 m c) (A3 m c) (A4 m c) (A5 m c) (A6 m c) := by
  refine (dats m 0 c).arrAt_eq_of_covers 7 _ (by decide +kernel) fun t hf y => ?_
  have e : ((cfg0.win 7).blk t).view.emb y = ix2 (row t (y 0)) (y 1) := by blk_ext [idx t]
  rw [e]
  blk_simp
  rw [after0_7]
  by_cases h0 : t.val % 8 = 0
  · rw [outsAt0_A m c t h0]
    frame_out
    exact dx_block m c t y
  · rw [outsAt0_B m c t h0]
    frame_out
    exact dx_block m c t y

theorem out8 : (dats m 0 c).arrAt 8 cfg0.N = Spec.headDpre (A0 m c) (A1 m c) (A2 m c) (A3 m c) (A4 m c) (A5 m c) (A6 m c) := by
  refine (dats m 0 c).arrAt_eq_of_covers 8 _ (by decide +kernel) fun t hf y => ?_
  have e : ((cfg0.win 8).blk t).view.emb y = ix2 (row t (y 0)) (y 1) := by blk_ext [idx t]
  rw [e]
  blk_simp
  rw [after0_8]
  by_cases h0 : t.val % 8 = 0
  · rw [outsAt0_A m c t h0]
    frame_out
    unfold k0_pay17
    refine (congrArg₂ (· * ·) (congrArg₂ (· * ·) (congrArg₂ (· * ·) (dx_block m c t y) (emb_block m c t y)) (gate_block m c t y))
      (congrArg (Ideal.ofBits .f32 0x3F800000#32 - ·) (gate_block m c t y)))
  · rw [outsAt0_B m c t h0]
    frame_out
    unfold k0_pay17
    refine (congrArg₂ (· * ·) (congrArg₂ (· * ·) (congrArg₂ (· * ·) (dx_block m c t y) (emb_block m c t y)) (gate_block m c t y))
      (congrArg (Ideal.ofBits .f32 0x3F800000#32 - ·) (gate_block m c t y)))

theorem out9 : (dats m 0 c).arrAt 9 cfg0.N = Spec.headDpe (A0 m c) (A1 m c) (A2 m c) (A3 m c) (A4 m c) (A5 m c) (A6 m c) := by
  refine (dats m 0 c).arrAt_eq_of_covers 9 _ (by decide +kernel) fun t hf y => ?_
  have e : ((cfg0.win 9).blk t).view.emb y = ix2 (row t (y 0)) (y 1) := by blk_ext [idx t]
  rw [e]
  blk_simp
  rw [after0_9]
  by_cases h0 : t.val % 8 = 0
  · rw [outsAt0_A m c t h0]
    frame_out
    unfold k0_pay1 k0_pay18
    refine congrArg₂ (· * ·) (dx_block m c t y) (gate_block m c t y)
  · rw [outsAt0_B m c t h0]
    frame_out
    unfold k0_pay1 k0_pay18
    refine congrArg₂ (· * ·) (dx_block m c t y) (gate_block m c t y)

/-! ## The gradient of the norm's scale and the loss, added up over the grid -/

/-- What point `t` adds to the scale's gradient, and to the loss. -/
def term (t : Fin cfg0.N) (j : S1x1024.Idx) : EReal :=
  ∑ r : Fin 512, Spec.headDy (A0 m c) (A1 m c) (A2 m c) (A3 m c) (A4 m c) (A5 m c) (A6 m c) (ix2 (row t r) (j 1))
    * (Spec.headX (A0 m c) (A1 m c) (A2 m c) (A3 m c) (A4 m c) (ix2 (row t r) (j 1)) * Spec.rstd (Spec.headX (A0 m c) (A1 m c) (A2 m c) (A3 m c) (A4 m c)) (row t r))
def lossTerm (t : Fin cfg0.N) (_ : S1x128.Idx) : EReal :=
  Ideal.ofBits .f32 0x3F000000#32 * ∑ r : Fin 512, Spec.rowLoss (A0 m c) (A1 m c) (A2 m c) (A3 m c) (A4 m c) (A5 m c) (A6 m c) (row t r)

theorem dg_block (t : Fin cfg0.N) (j : S1x1024.Idx) (a : Vec Ideal S1x1024 .f32) :
    (k0_pay4 (k0_pay16 (xs m c t) (iblk m c 5 t) (ms m c t) k0_pay10 (iblk m c 6 t)) a : S1x1024.Idx → EReal) j
      = a j + term m c t j := by
  generalize hx : xs m c t = X
  generalize hm : ms m c t = M
  pointwise [k0_pay4, k0_pay16, k0_pay14, k0_pay13, k0_pay12, k0_pay11, k0_pay10]
  subst hx hm
  simp only [x_block, ms_block, b5, b6]
  rfl

theorem loss_block (t : Fin cfg0.N) (j : S1x128.Idx) (a : Vec Ideal S1x128 .f32) :
    (k0_pay5 (k0_pay11 (xs m c t) (iblk m c 5 t) (ms m c t) k0_pay10 (iblk m c 6 t)) a : S1x128.Idx → EReal) j
      = a j + lossTerm m c t j := by
  have e := err_block m c t
  generalize k0_pay11 (xs m c t) (iblk m c 5 t) (ms m c t) k0_pay10 (iblk m c 6 t) = E at e
  pointwise [k0_pay5]
  simp only [e]
  rfl

theorem dg_first (t : Fin cfg0.N) (h : t.val % 8 = 0) (j : S1x1024.Idx) :
    (outsAt0 m c t.val t.isLt).2.2.2.1 j = 0 + term m c t j := by
  rw [outsAt0_A m c t h]
  frame_out
  refine (dg_block m c t j _).trans (congrArg (· + _) ?_)
  pointwise [k0_pay2]

theorem dg_next (t : Fin cfg0.N) (h : ¬t.val % 8 = 0) (j : S1x1024.Idx) :
    (outsAt0 m c t.val t.isLt).2.2.2.1 j
      = (outsAt0 m c (t.val - 1) (Nat.lt_of_le_of_lt (Nat.sub_le _ _) t.isLt)).2.2.2.1 j + term m c t j := by
  rw [outsAt0_B m c t h]
  frame_out
  exact dg_block m c t j _

theorem loss_first (t : Fin cfg0.N) (h : t.val % 8 = 0) (j : S1x128.Idx) :
    (outsAt0 m c t.val t.isLt).2.2.2.2 j = 0 + lossTerm m c t j := by
  rw [outsAt0_A m c t h]
  frame_out
  refine (loss_block m c t j _).trans (congrArg (· + _) ?_)
  pointwise [k0_pay3]

theorem loss_next (t : Fin cfg0.N) (h : ¬t.val % 8 = 0) (j : S1x128.Idx) :
    (outsAt0 m c t.val t.isLt).2.2.2.2 j
      = (outsAt0 m c (t.val - 1) (Nat.lt_of_le_of_lt (Nat.sub_le _ _) t.isLt)).2.2.2.2 j + lossTerm m c t j := by
  rw [outsAt0_B m c t h]
  frame_out
  exact loss_block m c t j _

theorem out10 : (dats m 0 c).arrAt 10 cfg0.N = Spec.headDg (A0 m c) (A1 m c) (A2 m c) (A3 m c) (A4 m c) (A5 m c) (A6 m c) := by
  refine (dats m 0 c).arrAt_eq_of_after_last 10 t0_7 (by decide +kernel) _ fun j => ?_
  blk_simp
  rw [after0_10]
  refine (Pipeline.eq_sum_fin_of_reset_step_apply_last (fun n h => (outsAt0 m c n h).2.2.2.1) 8 (fun _ => (0 : EReal)) (term m c)
    (dg_first m c) (dg_next m c) (by decide) t0_7 rfl j).trans ?_
  rw [zero_add]
  exact (Spec.sum_rows 8 512 fun r => Spec.headDy (A0 m c) (A1 m c) (A2 m c) (A3 m c) (A4 m c) (A5 m c) (A6 m c) (ix2 r (j 1))
    * (Spec.headX (A0 m c) (A1 m c) (A2 m c) (A3 m c) (A4 m c) (ix2 r (j 1)) * Spec.rstd (Spec.headX (A0 m c) (A1 m c) (A2 m c) (A3 m c) (A4 m c)) r)).symm

theorem out11 : (dats m 0 c).arrAt 11 cfg0.N = Spec.headLoss (A0 m c) (A1 m c) (A2 m c) (A3 m c) (A4 m c) (A5 m c) (A6 m c) := by
  refine (dats m 0 c).arrAt_eq_of_after_last 11 t0_7 (by decide +kernel) _ fun j => ?_
  blk_simp
  rw [after0_11]
  refine (Pipeline.eq_sum_fin_of_reset_step_apply_last (fun n h => (outsAt0 m c n h).2.2.2.2) 8 (fun _ => (0 : EReal)) (lossTerm m c)
    (loss_first m c) (loss_next m c) (by decide) t0_7 rfl j).trans ?_
  rw [zero_add]
  exact (Spec.headLoss_blocks fun r => Spec.rowLoss (A0 m c) (A1 m c) (A2 m c) (A3 m c) (A4 m c) (A5 m c) (A6 m c) r).symm

end Cert.HeadIdeal.Result

end
-- ==== Proof.HeadRef.lean ====
module

public import proofs.«01_k».proof.Proof.HeadSpec
public import proofs.«01_k».proof.Proof.Gen.HeadRefIdeal.Run
public import proofs.«01_k».proof.Proof.Gen.HeadRefIdeal.Read
public import Idealize.ShloMosaic.Lib.Pipeline.ValueKit
public import Idealize.ShloMosaic.Lib.Pointwise

@[expose] public section

set_option maxRecDepth 16384

noncomputable section

/-! # The gated embedding, the final norm and the loss: the reference's result is the same function of its arguments (`Proof/Spec.lean`) -/

namespace Cert.HeadRefIdeal.Result

open Cert.HeadRefIdeal Cert.HeadRefIdeal.Gen Idealize.ShloMosaic Idealize.ShloMosaic.TcCoe Idealize.SL.Sem

variable (x0 : (⟨S4096x1024, .f32⟩ : BufTy).Contents (Elt Ideal)) (x1 : (⟨S4096x1024, .bf16⟩ : BufTy).Contents (Elt Ideal))
  (x2 : (⟨S4096x256, .f32⟩ : BufTy).Contents (Elt Ideal)) (x3 : (⟨S1024x1024, .bf16⟩ : BufTy).Contents (Elt Ideal))
  (x4 : (⟨S4x256x256, .bf16⟩ : BufTy).Contents (Elt Ideal)) (x5 : (⟨S1x1024, .f32⟩ : BufTy).Contents (Elt Ideal))
  (x6 : (⟨S4096x1024, .f32⟩ : BufTy).Contents (Elt Ideal))

theorem gate : Read.val_main_v19 x1 x3 = Spec.pleGate x1 x3 := by
  refine funext fun (i : S4096x1024.Idx) => ?_
  obtain ⟨r, j, rfl⟩ : ∃ (r : Fin 4096) (j : Fin 1024), i = ix2 r j := ⟨i 0, i 1, by blk_ext⟩
  unfold Read.val_main_v19 Read.val_main_v18 Read.val_main_v17 Read.val_main_v16 Read.val_main_v15 Read.val_main_v14
    Read.val_main_v2 Read.val_main_v1 Read.val_main_v0 Read.val_main_cst_0 Read.val_main_cst
  pointwise
  rfl

/-- The embedding's product, its column shards read one by one. -/
theorem emb_row (r : Fin 4096) (j : Fin 1024) :
    ∑ q : Fin 256, x2 (ix2 r q) *
      (if h : j.val < 256 then x4 (ix3 0 q ⟨j.val, h⟩)
        else if h : j.val - 256 < 256 then x4 (ix3 1 q ⟨j.val - 256, h⟩)
        else if h : j.val - 256 - 256 < 256 then x4 (ix3 2 q ⟨j.val - 256 - 256, h⟩)
        else x4 (ix3 3 q ⟨j.val - 256 - 256 - 256, by omega⟩))
      = Spec.pleEmb x2 x4 (ix2 r j) := by
  unfold Spec.pleEmb Spec.mm Spec.columns
  refine Finset.sum_congr rfl fun q _ => congrArg (x2 (ix2 r q) * ·) ?_
  split_ifs <;> refine congrArg x4 (funext fun a => Fin.ext ?_) <;> fin_cases a <;> simp <;> omega

theorem emb : Read.val_main_v13 x2 x4 = Spec.pleEmb x2 x4 := by
  refine funext fun (i : S4096x1024.Idx) => ?_
  obtain ⟨r, j, rfl⟩ : ∃ (r : Fin 4096) (j : Fin 1024), i = ix2 r j := ⟨i 0, i 1, by blk_ext⟩
  refine Eq.trans ?_ (emb_row x2 x4 r j)
  unfold Read.val_main_v13 Read.val_main_v12 Read.val_main_v11 Read.val_main_v10 Read.val_main_v9 Read.val_main_v8
    Read.val_main_v7 Read.val_main_v6 Read.val_main_v5 Read.val_main_v4 Read.val_main_v3
  pointwise

theorem x : Read.val_main_v24 x0 x1 x2 x3 x4 = Spec.headX x0 x1 x2 x3 x4 := by
  unfold Read.val_main_v24 Read.val_main_v23
  rw [gate, emb]
  rfl

theorem err : Read.val_main_v40 x0 x1 x2 x3 x4 x5 x6 = Spec.headErr x0 x1 x2 x3 x4 x5 x6 := by
  refine funext fun (i : S4096x1024.Idx) => ?_
  obtain ⟨r, j, rfl⟩ : ∃ (r : Fin 4096) (j : Fin 1024), i = ix2 r j := ⟨i 0, i 1, by blk_ext⟩
  unfold Read.val_main_v40 Read.val_main_v39 Read.val_main_v38 Read.val_main_v37 Read.val_main_v36 Read.val_main_v32
    Read.val_main_v31 Read.val_main_v30 Read.val_main_v29 Read.val_main_v28 Read.val_main_v27 Read.val_main_v26
    Read.val_main_v25 Read.val_main_cst_2 Read.val_main_cst_3 Read.val_main_cst_4
  rw [x]
  pointwise
  rfl

theorem dy : Read.val_main_v54 x0 x1 x2 x3 x4 x5 x6 = Spec.headDy x0 x1 x2 x3 x4 x5 x6 := by
  refine funext fun (i : S4096x1024.Idx) => ?_
  obtain ⟨r, j, rfl⟩ : ∃ (r : Fin 4096) (j : Fin 1024), i = ix2 r j := ⟨i 0, i 1, by blk_ext⟩
  refine Eq.trans ?_ (Spec.dy_chain (Spec.headErr x0 x1 x2 x3 x4 x5 x6 (ix2 r j)))
  unfold Read.val_main_v54 Read.val_main_v53 Read.val_main_v52 Read.val_main_v51 Read.val_main_v50 Read.val_main_v49
    Read.val_main_v43 Read.val_main_v42 Read.val_main_cst_11 Read.val_main_cst_12 Read.val_main_cst_13
    Read.val_main_cst_6
  rw [err]
  pointwise
  rfl

theorem dg : Read.val_main_v57 x0 x1 x2 x3 x4 x5 x6 = Spec.headDg x0 x1 x2 x3 x4 x5 x6 := by
  refine funext fun (i : S1x1024.Idx) => ?_
  obtain ⟨r, j, rfl⟩ : ∃ (r : Fin 1) (j : Fin 1024), i = ix2 r j := ⟨i 0, i 1, by blk_ext⟩
  unfold Read.val_main_v57 Read.val_main_v56 Read.val_main_v55 Read.val_main_v37 Read.val_main_v36 Read.val_main_v32
    Read.val_main_v31 Read.val_main_v30 Read.val_main_v29 Read.val_main_v28 Read.val_main_v27 Read.val_main_v26
    Read.val_main_v25 Read.val_main_cst_2 Read.val_main_cst_3 Read.val_main_cst_4 Read.val_main_cst_14
  rw [dy, x]
  pointwise
  exact Finset.sum_congr rfl fun k _ => mul_comm _ _

theorem dx : Read.val_main_v73 x0 x1 x2 x3 x4 x5 x6 = Spec.headDx x0 x1 x2 x3 x4 x5 x6 := by
  refine funext fun (i : S4096x1024.Idx) => ?_
  obtain ⟨r, j, rfl⟩ : ∃ (r : Fin 4096) (j : Fin 1024), i = ix2 r j := ⟨i 0, i 1, by blk_ext⟩
  refine Eq.trans ?_ ((Spec.row_back (fun k => Spec.headX x0 x1 x2 x3 x4 (ix2 r k)) (fun k => Spec.headDy x0 x1 x2 x3 x4 x5 x6 (ix2 r k) * x5 (ix2 0 k))
    0 j _ (Spec.mean_pos fun k => Spec.headX x0 x1 x2 x3 x4 (ix2 r k))).symm.trans (add_zero _))
  unfold Read.val_main_v73 Read.val_main_v72 Read.val_main_v71 Read.val_main_v70 Read.val_main_v69 Read.val_main_v68
    Read.val_main_v67 Read.val_main_v66 Read.val_main_v65 Read.val_main_v64 Read.val_main_v63 Read.val_main_v62
    Read.val_main_v61 Read.val_main_v60 Read.val_main_v59 Read.val_main_v58 Read.val_main_v35 Read.val_main_v34
    Read.val_main_v33 Read.val_main_v32 Read.val_main_v31 Read.val_main_v30 Read.val_main_v29 Read.val_main_v28
    Read.val_main_v27 Read.val_main_v26 Read.val_main_v25 Read.val_main_cst_2 Read.val_main_cst_3
    Read.val_main_cst_4 Read.val_main_cst_15 Read.val_main_cst_5 Read.val_main_cst_16 Read.val_main_cst_17
  rw [dy, x]
  pointwise
  rfl

theorem dpre : Read.val_main_v77 x0 x1 x2 x3 x4 x5 x6 = Spec.headDpre x0 x1 x2 x3 x4 x5 x6 := by
  refine funext fun (i : S4096x1024.Idx) => ?_
  obtain ⟨r, j, rfl⟩ : ∃ (r : Fin 4096) (j : Fin 1024), i = ix2 r j := ⟨i 0, i 1, by blk_ext⟩
  unfold Read.val_main_v77 Read.val_main_v76 Read.val_main_v75 Read.val_main_v22 Read.val_main_v21 Read.val_main_v20
    Read.val_main_cst_1
  rw [dx, emb, gate]
  pointwise
  rw [Spec.headDpre, Spec.one]
  exact (mul_assoc _ _ _).symm

theorem dpe : Read.val_main_v78 x0 x1 x2 x3 x4 x5 x6 = Spec.headDpe x0 x1 x2 x3 x4 x5 x6 := by
  refine funext fun (i : S4096x1024.Idx) => ?_
  obtain ⟨r, j, rfl⟩ : ∃ (r : Fin 4096) (j : Fin 1024), i = ix2 r j := ⟨i 0, i 1, by blk_ext⟩
  unfold Read.val_main_v78 Read.val_main_v74
  rw [dx, gate]
  pointwise
  exact mul_comm _ _

theorem loss : Read.val_main_v79 x0 x1 x2 x3 x4 x5 x6 = Spec.headLoss x0 x1 x2 x3 x4 x5 x6 := by
  refine funext fun (i : S1x128.Idx) => ?_
  unfold Read.val_main_v79 Read.val_main_v48 Read.val_main_v47 Read.val_main_v46 Read.val_main_v45 Read.val_main_v44
    Read.val_main_v41 Read.val_main_cst_10 Read.val_main_cst_7 Read.val_main_cst_8 Read.val_main_cst_9
  rw [err]
  pointwise
  rfl

end Cert.HeadRefIdeal.Result

end
-- ==== Proof.HeadClaims.lean ====
module

public import proofs.«01_k».proof.Defs
public import proofs.«01_k».proof.Proof.Gen.Head
public import proofs.«01_k».proof.Proof.Gen.Head.Frame
public import proofs.«01_k».proof.Proof.Gen.HeadIdeal.Value
public import proofs.«01_k».proof.Proof.Gen.HeadRefIdeal.Run
public import proofs.«01_k».proof.Proof.Gen.HeadRefIdeal.Read
public import proofs.«01_k».proof.Proof.Head
public import proofs.«01_k».proof.Proof.HeadRef
public import Idealize.ShloMosaic.Adequacy
public import Idealize.ShloMosaic.Init

@[expose] public section

noncomputable section

/-! # The gated embedding, the final norm and the loss: the claims -/

namespace Cert.Proof.Head

open Idealize.ShloMosaic Idealize.SL.Sem

theorem frame_kernel : Cert.quiescent_Head := fun m ρ _ => Cert.Head.Gen.frame m ρ

theorem frame_kernelIdeal : Cert.quiescent_HeadIdeal := fun m ρ _ => Cert.HeadIdeal.Gen.frame m ρ

theorem frame_referenceIdeal : Cert.quiescent_HeadRefIdeal := fun m ρ _ =>
  (θ_run Cert.HeadRefIdeal.defs _ _).mono (fun r h => ⟨fun c => (h c).2.2.2.2.2,
      Idealize.ShloMosaic.sem_eq_zero_of_no_sems (by decide) r.2⟩)
    (Cert.HeadRefIdeal.Value.run (F := Ideal) m ρ)

theorem preserves : Cert.preserves_Head_HeadIdeal := trivial

theorem algebraic : Cert.algebraic_HeadIdeal_HeadRefIdeal := by
  intro m ρ m' ρ' _ hagree
  refine ⟨_, _, _, _, _, Cert.HeadIdeal.Value.run_blocks m ρ, ?_⟩
  refine (θ_run Cert.HeadRefIdeal.defs _ _).mono (fun r h c => ?_) (Cert.HeadRefIdeal.Value.run (F := Ideal) m' ρ')
  obtain ⟨h0, h1, h2, h3, h4, hargs⟩ := h c
  obtain ⟨a0, a1, a2, a3, a4, a5, a6⟩ := hagree c
  refine ⟨h0.trans ?_, h1.trans ?_, h2.trans ?_, h3.trans ?_, h4.trans ?_, hargs⟩
  · rw [Cert.HeadIdeal.Result.out7]
    refine (Cert.HeadRefIdeal.Read.val_main_v73_eq ..).trans ((Cert.HeadRefIdeal.Result.dx ..).trans ?_)
    rw [a0, a1, a2, a3, a4, a5, a6]
  · rw [Cert.HeadIdeal.Result.out8]
    refine (Cert.HeadRefIdeal.Read.val_main_v77_eq ..).trans ((Cert.HeadRefIdeal.Result.dpre ..).trans ?_)
    rw [a0, a1, a2, a3, a4, a5, a6]
  · rw [Cert.HeadIdeal.Result.out9]
    refine (Cert.HeadRefIdeal.Read.val_main_v78_eq ..).trans ((Cert.HeadRefIdeal.Result.dpe ..).trans ?_)
    rw [a0, a1, a2, a3, a4, a5, a6]
  · rw [Cert.HeadIdeal.Result.out10]
    refine (Cert.HeadRefIdeal.Read.val_main_v57_eq ..).trans ((Cert.HeadRefIdeal.Result.dg ..).trans ?_)
    rw [a0, a1, a2, a3, a4, a5, a6]
  · rw [Cert.HeadIdeal.Result.out11]
    refine (Cert.HeadRefIdeal.Read.val_main_v79_eq ..).trans ((Cert.HeadRefIdeal.Result.loss ..).trans ?_)
    rw [a0, a1, a2, a3, a4, a5, a6]

end Cert.Proof.Head

end
-- ==== Proof.ProjForget.lean ====
module

public import proofs.«01_k».proof.Proof.Gen.ProjForgetIdeal.Value
public import Idealize.ShloMosaic.Lib.Pipeline.ValueKit
public import Idealize.ShloMosaic.Lib.Pointwise
public import Idealize.ShloMosaic.Lib.Pipeline.ReadBack
public import proofs.«01_k».proof.Proof.Spec

@[expose] public section

set_option maxRecDepth 16384

noncomputable section

/-! # The forget gate's columns of the in-projection: what the kernel leaves in its result -/

namespace Cert.ProjForgetIdeal.Result

open Cert.ProjForgetIdeal Cert.ProjForgetIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The normalised activations and the projection's columns, on device `c`. -/
abbrev A0 : Spec.A2 4096 1024 := m ((c : Thread nD τ).loc main_arg0)
abbrev A1 : Spec.A2 1024 128 := m ((c : Thread nD τ).loc main_arg1)

/-- The windows' blocks by the grid point: four blocks of 1024 rows. -/
theorem idx (t : Fin cfg0.N) : win0_0.index t = ![t.val, 0] ∧ win0_1.index t = ![0, 0] ∧ win0_2.index t = ![t.val, 0] :=
  (by decide +kernel : ∀ t : Fin cfg0.N, win0_0.index t = ![t.val, 0] ∧ win0_1.index t = ![0, 0] ∧ win0_2.index t = ![t.val, 0]) t

/-- Row `r` of point `t`'s block. -/
abbrev row (t : Fin cfg0.N) (r : Fin 1024) : Fin 4096 :=
  ⟨t.val * 1024 + r.val, by have := t.isLt; have : cfg0.N = 4 := N_0; omega⟩

theorem b0 (t : Fin cfg0.N) (x : S1024x1024.Idx) :
    (iblk m c 0 t : S1024x1024.Idx → EReal) x = A0 m c (ix2 (row t (x 0)) (x 1)) := by
  blk_ext [iblk, V, idx t]
theorem b1 (t : Fin cfg0.N) (x : S1024x128.Idx) : (iblk m c 1 t : S1024x128.Idx → EReal) x = A1 m c x := by
  blk_ext [iblk, V, idx t]

theorem out : (dats m 0 c).arrAt 2 cfg0.N = Spec.mm (A0 m c) (A1 m c) := by
  refine (dats m 0 c).arrAt_eq_of_covers 2 _ (by decide +kernel) fun t hf y => ?_
  have e : ((cfg0.win 2).blk t).view.emb y = ix2 (row t (y 0)) (y 1) := by blk_ext [idx t]
  rw [e]
  blk_simp
  rw [after0_2]
  frame_out
  pointwise [k0_pay1]
  simp only [b0, b1]
  rfl

end Cert.ProjForgetIdeal.Result

end
-- ==== Proof.ProjForgetRef.lean ====
module

public import proofs.«01_k».proof.Proof.Spec
public import proofs.«01_k».proof.Proof.Gen.ProjForgetRefIdeal.Run
public import proofs.«01_k».proof.Proof.Gen.ProjForgetRefIdeal.Read
public import Idealize.ShloMosaic.Lib.Pipeline.ValueKit
public import Idealize.ShloMosaic.Lib.Pointwise

@[expose] public section

set_option maxRecDepth 16384

noncomputable section

/-! # The forget gate's columns of the in-projection: the reference's result is the same function of its arguments (`Proof/Spec.lean`) -/

namespace Cert.ProjForgetRefIdeal.Result

open Cert.ProjForgetRefIdeal Cert.ProjForgetRefIdeal.Gen Idealize.ShloMosaic Idealize.ShloMosaic.TcCoe Idealize.SL.Sem

theorem result (x0 : (⟨S4096x1024, .bf16⟩ : BufTy).Contents (Elt Ideal)) (x1 : (⟨S1024x128, .bf16⟩ : BufTy).Contents (Elt Ideal)) :
    Read.val_main_v2 x0 x1 = Spec.mm x0 x1 := by
  refine funext fun (i : S4096x128.Idx) => ?_
  rw [← Read.val_main_v2_eq]
  pointwise
  unfold Spec.mm
  reads_congr <;> blk_ext!

end Cert.ProjForgetRefIdeal.Result

end
-- ==== Proof.ProjForgetClaims.lean ====
module

public import proofs.«01_k».proof.Defs
public import proofs.«01_k».proof.Proof.Gen.ProjForget
public import proofs.«01_k».proof.Proof.Gen.ProjForget.Frame
public import proofs.«01_k».proof.Proof.Gen.ProjForgetIdeal.Value
public import proofs.«01_k».proof.Proof.Gen.ProjForgetRefIdeal.Run
public import proofs.«01_k».proof.Proof.Gen.ProjForgetRefIdeal.Read
public import proofs.«01_k».proof.Proof.ProjForget
public import proofs.«01_k».proof.Proof.ProjForgetRef
public import Idealize.ShloMosaic.Adequacy
public import Idealize.ShloMosaic.Init

@[expose] public section

noncomputable section

/-! # The forget gate's columns of the in-projection: the claims -/

namespace Cert.Proof.ProjForget

open Idealize.ShloMosaic Idealize.SL.Sem

theorem frame_kernel : Cert.quiescent_ProjForget := fun m ρ _ => Cert.ProjForget.Gen.frame m ρ

theorem frame_kernelIdeal : Cert.quiescent_ProjForgetIdeal := fun m ρ _ => Cert.ProjForgetIdeal.Gen.frame m ρ

theorem frame_referenceIdeal : Cert.quiescent_ProjForgetRefIdeal := fun m ρ _ =>
  (θ_run Cert.ProjForgetRefIdeal.defs _ _).mono (fun r h => ⟨fun c => (h c).2,
      Idealize.ShloMosaic.sem_eq_zero_of_no_sems (by decide) r.2⟩)
    (Cert.ProjForgetRefIdeal.Value.run (F := Ideal) m ρ)

theorem preserves : Cert.preserves_ProjForget_ProjForgetIdeal := trivial

theorem algebraic : Cert.algebraic_ProjForgetIdeal_ProjForgetRefIdeal := by
  intro m ρ m' ρ' _ hagree
  refine ⟨_, Cert.ProjForgetIdeal.Value.run_blocks m ρ, ?_⟩
  refine (θ_run Cert.ProjForgetRefIdeal.defs _ _).mono (fun r h c => ?_) (Cert.ProjForgetRefIdeal.Value.run (F := Ideal) m' ρ')
  obtain ⟨h0, hargs⟩ := h c
  obtain ⟨a0, a1⟩ := hagree c
  refine ⟨h0.trans ?_, hargs⟩
  · rw [Cert.ProjForgetIdeal.Result.out, a0, a1]
    exact (Cert.ProjForgetRefIdeal.Read.val_main_v2_eq ..).trans (Cert.ProjForgetRefIdeal.Result.result ..)

end Cert.Proof.ProjForget

end
-- ==== Proof.DWGateIdealRun.lean ====
/- What one grid point of the transposed product for the gate's input weights does: three triples of its body, one for
   the first block of rows of the sum (the product is stored), one for a middle block (the product is added) and one for
   the last block (the product is added and the tile goes out, 8 stores of every 8th row). -/
module

public import proofs.«01_k».proof.Proof.Gen.DWGateIdeal.Frame
public import proofs.«01_k».proof.Proof.Gen.DWGateIdeal.Skeleton
public import Idealize.ShloMosaic.Lib.Pipeline.ValueKit

@[expose] public section

set_option maxRecDepth 16384

noncomputable section

namespace Cert.DWGateIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DWGateIdeal Cert.DWGateIdeal.Gen

variable {F : FTy → Type} [FloatOps F]

local notation "𝕄" => MT nD τ sig Unit (Elt F) ℕ (UR sig nD τ) ℕ

/-- The three conditions of the body: the first, not the first, the last block of rows of a tile's sum. -/
abbrev isFirst (i : grid0.Coords) : Prop :=
  (Scalar.cmpi .ne (Scalar.extui (Scalar.cmpi .eq (BitVec.ofNat 32 (i 2).val) 0#32)) 0#32) = 1#1
abbrev isLater (i : grid0.Coords) : Prop :=
  (Scalar.cmpi .ne (Scalar.extui (Scalar.cmpi .sgt (BitVec.ofNat 32 (i 2).val) 0#32)) 0#32) = 1#1
abbrev isLast (i : grid0.Coords) : Prop := k0_cond3 i = 1#1

/-- The tile laid out at 128 lanes: row `8 r + q` of the block is columns `128 q …` of the tile's row `r`. -/
def wide (a : Vec F S1024x1024 .f32) : Vec F S8192x128 .f32 := fun y =>
  a (fun b => match b with
    | ⟨0, _⟩ => ⟨(y 0).val / 8, by have h : (y 0).val < 8192 := (y 0).isLt; show _ < 1024; omega⟩
    | ⟨1, _⟩ => ⟨(y 0).val % 8 * 128 + (y 1).val, by have h : (y 1).val < 128 := (y 1).isLt; show _ < 1024; omega⟩)

/-- Every row of the block is row `8 r + q` of one of the 8 stores. -/
theorem strided_cover (y : S8192x128.Idx) (q : ℕ) (inb) (hq : (y 0).val % 8 = q) :
    y ∈ (⟨(⟨![q, 0], S1024x128.size, ![8, 1], inb⟩ : LoadRect S8192x128), spos_8_1⟩ : Rect S8192x128).set := by
  refine (LoadRect.mem_set _).mpr fun a => ?_
  have h0 : (y 0).val < 8192 := (y 0).isLt
  have h1 : (y 1).val < 128 := (y 1).isLt
  match a with
  | ⟨0, _⟩ => exact ⟨(y 0).val / 8, by show _ < 1024; omega, by show (y 0).val = q + 8 * ((y 0).val / 8); omega⟩
  | ⟨1, _⟩ => exact ⟨(y 1).val, h1, by show (y 1).val = 0 + 1 * (y 1).val; omega⟩

/-- One strided store's payload is the laid out tile's at its own rows. -/
theorem strided_piece (a : Vec F S1024x1024 .f32) (q : ℕ) (hq : q < 8) (o : ℕ) (ho : o = q * 128) (sl) (inb)
    (x : S1024x128.Idx) :
    extractStridedSlice S1024x128 ![0, o] a sl x
      = wide a ((⟨(⟨![q, 0], S1024x128.size, ![8, 1], inb⟩ : LoadRect S8192x128), spos_8_1⟩ : Rect S8192x128).emb x) := by
  have h0 : (x 0).val < 1024 := (x 0).isLt
  have h1 : (x 1).val < 128 := (x 1).isLt
  unfold wide
  refine congrArg a (funext fun b => Fin.ext ?_)
  match b with
  | ⟨0, _⟩ => show 0 + (x 0).val = (q + 8 * (x 0).val) / 8; omega
  | ⟨1, _⟩ => show o + (x 1).val = (q + 8 * (x 0).val) % 8 * 128 + (0 + 1 * (x 1).val); omega

/-- The rows `8 r + q` of the block. -/
abbrev strip (q : ℕ) (inb : ∀ a, S1024x128.size a = 0 ∨ (![q, 0] : Fin 2 → ℕ) a + (![8, 1] : Fin 2 → ℕ) a * (S1024x128.size a - 1) < S8192x128.size a) : Rect S8192x128 := ⟨(⟨![q, 0], S1024x128.size, ![8, 1], inb⟩ : LoadRect S8192x128), spos_8_1⟩

/-- The 8 stores as pieces, the last first. -/
abbrev strips (a : Vec F S1024x1024 .f32) : List (View.Piece (Elt F) S8192x128 .f32) :=
  [⟨strip 7 inb_S8192x128_S1024x128_7_0_s_8_1, k0_pay11 a⟩, ⟨strip 6 inb_S8192x128_S1024x128_6_0_s_8_1, k0_pay10 a⟩, ⟨strip 5 inb_S8192x128_S1024x128_5_0_s_8_1, k0_pay9 a⟩, ⟨strip 4 inb_S8192x128_S1024x128_4_0_s_8_1, k0_pay8 a⟩, ⟨strip 3 inb_S8192x128_S1024x128_3_0_s_8_1, k0_pay7 a⟩, ⟨strip 2 inb_S8192x128_S1024x128_2_0_s_8_1, k0_pay6 a⟩, ⟨strip 1 inb_S8192x128_S1024x128_1_0_s_8_1, k0_pay5 a⟩, ⟨strip 0 inb_S8192x128_S1024x128_0_0_s_8_1, k0_pay4 a⟩]

theorem strips_agree (a : Vec F S1024x1024 .f32) :
    ∀ p ∈ strips a, ∀ x : p.1.shape.Idx, p.2 x = wide a (p.1.emb x) :=
  List.forall_mem_cons.mpr ⟨strided_piece a 7 (by decide) 896 rfl slices_S1024x1024_o0_896_S1024x128 _,
    List.forall_mem_cons.mpr ⟨strided_piece a 6 (by decide) 768 rfl slices_S1024x1024_o0_768_S1024x128 _,
    List.forall_mem_cons.mpr ⟨strided_piece a 5 (by decide) 640 rfl slices_S1024x1024_o0_640_S1024x128 _,
    List.forall_mem_cons.mpr ⟨strided_piece a 4 (by decide) 512 rfl slices_S1024x1024_o0_512_S1024x128 _,
    List.forall_mem_cons.mpr ⟨strided_piece a 3 (by decide) 384 rfl slices_S1024x1024_o0_384_S1024x128 _,
    List.forall_mem_cons.mpr ⟨strided_piece a 2 (by decide) 256 rfl slices_S1024x1024_o0_256_S1024x128 _,
    List.forall_mem_cons.mpr ⟨strided_piece a 1 (by decide) 128 rfl slices_S1024x1024_o0_128_S1024x128 _,
    List.forall_mem_cons.mpr ⟨strided_piece a 0 (by decide) 0 rfl slices_S1024x1024_o0_0_S1024x128 _,
    fun _ h => absurd h List.not_mem_nil⟩⟩⟩⟩⟩⟩⟩⟩

theorem strips_cover (a : Vec F S1024x1024 .f32) (y : S8192x128.Idx) : ∃ p ∈ strips a, y ∈ p.1.set := by
  have hq : (y 0).val % 8 = 7 ∨ (y 0).val % 8 = 6 ∨ (y 0).val % 8 = 5 ∨ (y 0).val % 8 = 4
      ∨ (y 0).val % 8 = 3 ∨ (y 0).val % 8 = 2 ∨ (y 0).val % 8 = 1 ∨ (y 0).val % 8 = 0 := by omega
  simp only [List.exists_mem_cons_iff]
  exact hq.imp (strided_cover y 7 _) <| Or.imp (strided_cover y 6 _) <| Or.imp (strided_cover y 5 _) <|
    Or.imp (strided_cover y 4 _) <| Or.imp (strided_cover y 3 _) <| Or.imp (strided_cover y 2 _) <|
    Or.imp (strided_cover y 1 _) fun h => Or.inl (strided_cover y 0 _ h)

/-- After the 8 stores the block holds the laid out tile. -/
theorem strips_read {sg : RefSig} {κ : Kind} {sp : Space} (v : View sg κ sp S8192x128 .f32) (f : v.ty.Contents (Elt F)) (a : Vec F S1024x1024 .f32) :
    v.read (Elt F) (v.writes (Elt F) f (strips a)) = wide a :=
  funext fun y => View.read_writes_apply_of_pieces v f (wide a) (strips a) (strips_agree a) y (strips_cover a y)

/-- A store of the whole tile covers it. -/
theorem whole_cover (w : Vec F S1024x1024 .f32) (y : S1024x1024.Idx) :
    ∃ p ∈ [(⟨Rect.unit ![0, 0] S1024x1024.size inb_S1024x1024_S1024x1024_0_0, w⟩ : View.Piece (Elt F) S1024x1024 .f32)], y ∈ p.1.set :=
  View.cover_of_tiledL _ S1024x1024.size (by sl_kernel_rfl) y

section
variable (c : Dev nD) (i : grid0.Coords)
  (arg3 : Memref sig .tc .vmem S1024x1024 .bf16) (harg3 : arg3.IsWhole) (arg4 : Memref sig .tc .vmem S1024x1024 .bf16) (harg4 : arg4.IsWhole)
  (arg5 : Memref sig .tc .vmem S8192x128 .f32) (harg5 : arg5.IsWhole) (arg6 : Memref sig .tc .vmem S1024x1024 .f32) (harg6 : arg6.IsWhole)
  (x0 : Vec F S1024x1024 .bf16) (x1 : Vec F S1024x1024 .bf16)

/-- The first block of rows: the accumulator is the product. -/
theorem run_first (h0 : isFirst i) (h1 : ¬isLater i) (h2 : ¬isLast i) (d5 : Vec F S8192x128 .f32) (E : Set ℕ) (K : PUnit → sProp 𝕄) :
    iprop(owns (c : Thread nD τ) arg3 fullShare x0 ∗ owns (c : Thread nD τ) arg4 fullShare x1 ∗ owns (c : Thread nD τ) arg5 fullShare d5
        ∗ (∃ d, owns (c : Thread nD τ) arg6 fullShare d)
        ∗ (iprop(owns (c : Thread nD τ) arg3 fullShare x0 ∗ owns (c : Thread nD τ) arg4 fullShare x1 ∗ owns (c : Thread nD τ) arg5 fullShare d5
            ∗ owns (c : Thread nD τ) arg6 fullShare (k0_pay2 x0 x1)) -∗ K ⟨⟩))
      ⊢ wp frame (wpE (defs₀ (F := F)) Variants.none c none) E (cc0_d_w_gate i arg3 harg3 arg4 harg4 arg5 harg5 arg6 harg6) K := by
  simp only [cc0_d_w_gate_eq_skeleton]; unfold cc0_d_w_gate_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1
  sl_exec (disch := first | sl_exact h0 | sl_exact h1 | sl_exact h2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact hf2
    iexact H2
  iexists _; isplitr
  swap; · iexact HS
  ipureintro
  rw [View.read_writes_eq_canon _ _ _ (whole_cover _)]
  frame_out

/-- A block of rows between: the product is added. -/
theorem run_middle (h0 : ¬isFirst i) (h1 : isLater i) (h2 : ¬isLast i) (d5 : Vec F S8192x128 .f32) (a : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare d5
        ∗ owns (c : Thread nD τ) arg6 fullShare a
        ∗ (iprop(owns (c : Thread nD τ) arg3 fullShare x0 ∗ owns (c : Thread nD τ) arg4 fullShare x1 ∗ owns (c : Thread nD τ) arg5 fullShare d5
            ∗ owns (c : Thread nD τ) arg6 fullShare (k0_pay3 x0 x1 a)) -∗ K ⟨⟩))
      ⊢ wp frame (wpE (defs₀ (F := F)) Variants.none c none) E (cc0_d_w_gate i arg3 harg3 arg4 harg4 arg5 harg5 arg6 harg6) K := by
  simp only [cc0_d_w_gate_eq_skeleton]; unfold cc0_d_w_gate_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg6.eq_unread hfs
  sl_exec (disch := first | sl_exact h0 | sl_exact h1 | sl_exact h2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact hf2
    iexact H2
  iexists _; isplitr
  swap; · iexact HS
  ipureintro
  rw [View.read_writes_eq_canon _ _ _ (whole_cover _)]
  frame_out

/-- The last block of rows: the product is added and the sum goes out. -/
theorem run_last (h0 : ¬isFirst i) (h1 : isLater i) (h2 : isLast i) (a : Vec F S1024x1024 .f32) (E : Set ℕ) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare a
        ∗ (iprop(owns (c : Thread nD τ) arg3 fullShare x0 ∗ owns (c : Thread nD τ) arg4 fullShare x1
            ∗ owns (c : Thread nD τ) arg5 fullShare (wide (k0_pay3 x0 x1 a))
            ∗ owns (c : Thread nD τ) arg6 fullShare (k0_pay3 x0 x1 a)) -∗ K ⟨⟩))
      ⊢ wp frame (wpE (defs₀ (F := F)) Variants.none c none) E (cc0_d_w_gate i arg3 harg3 arg4 harg4 arg5 harg5 arg6 harg6) K := by
  simp only [cc0_d_w_gate_eq_skeleton]; unfold cc0_d_w_gate_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | sl_exact h0 | sl_exact h1 | sl_exact h2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    have e : run_last.sl.v12 c arg3 harg3 arg4 harg4 arg6 harg6 x0 x1 a = k0_pay3 x0 x1 a := by
      unfold run_last.sl.v12
      frame_out
    rw [e]
    exact strips_read _ _ _
  iexists _; isplitr
  swap; · iexact HS
  ipureintro
  unfold run_last.sl.HS_1
  rw [View.read_writes_eq_canon _ _ _ (whole_cover _)]
  frame_out
end

end Cert.DWGateIdeal.Own

end
-- ==== Proof.DWGateIdealFrame.lean ====
/- The run of the transposed product for the gate's input weights from what its body does at one point: the accumulator
   carried from point to point, the array written back every fourth point, the arguments unchanged. -/
module

public import proofs.«01_k».proof.Proof.DWGateIdealRun

@[expose] public section

set_option maxRecDepth 16384

noncomputable section

namespace Cert.DWGateIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DWGateIdeal Cert.DWGateIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case each point is -/

theorem first_iff : ∀ t : Fin cfg0.N, isFirst (grid0.coords t) ↔ t.val % 4 = 0 :=
  (by decide +kernel : ∀ t : Fin grid0.N, isFirst (grid0.coords t) ↔ t.val % 4 = 0)

theorem later_iff : ∀ t : Fin cfg0.N, isLater (grid0.coords t) ↔ t.val % 4 ≠ 0 :=
  (by decide +kernel : ∀ t : Fin grid0.N, isLater (grid0.coords t) ↔ t.val % 4 ≠ 0)

theorem last_iff : ∀ t : Fin cfg0.N, isLast (grid0.coords t) ↔ t.val % 4 = 3 :=
  (by decide +kernel : ∀ t : Fin grid0.N, isLast (grid0.coords t) ↔ t.val % 4 = 3)

/-- The output's window is idle, and not written back, but at the last point of a tile. -/
theorem idle_out : ∀ t : Fin cfg0.N, t.val % 4 ≠ 3 → cfg0.idle 2 (grid0.coords t) = true := by decide +kernel
theorem keep_out : ∀ t : Fin cfg0.N, t.val % 4 ≠ 3 → (cfg0.win 2).flush t = false := by decide +kernel
theorem live_out : ∀ t : Fin cfg0.N, t.val % 4 = 3 → cfg0.idle 2 (grid0.coords t) = false := by decide +kernel
theorem live_lhs : ∀ t : Fin cfg0.N, cfg0.idle 0 (grid0.coords t) = false := fun _ => rfl
theorem live_rhs : ∀ t : Fin cfg0.N, cfg0.idle 1 (grid0.coords t) = false := fun _ => rfl

/-! ## What is held after each point -/

/-- The accumulator after point `n`: the product at a tile's first point, what was there plus the product at the others. -/
def acc (c : Dev nD) : (n : ℕ) → n < cfg0.N → Vec F S1024x1024 .f32
  | 0, h => k0_pay2 (iblk m c 0 ⟨0, h⟩) (iblk m c 1 ⟨0, h⟩)
  | n + 1, h =>
    if (n + 1) % 4 = 0 then k0_pay2 (iblk m c 0 ⟨n + 1, h⟩) (iblk m c 1 ⟨n + 1, h⟩)
    else k0_pay3 (iblk m c 0 ⟨n + 1, h⟩) (iblk m c 1 ⟨n + 1, h⟩) (acc c n (Nat.lt_of_succ_lt h))

theorem acc_first (c : Dev nD) (t : Fin cfg0.N) (h : t.val % 4 = 0) :
    acc m c t.val t.isLt = k0_pay2 (iblk m c 0 t) (iblk m c 1 t) := by
  obtain ⟨n, hn⟩ := t
  cases n with
  | zero => rfl
  | succ n => exact if_pos h

theorem acc_next (c : Dev nD) (t : Fin cfg0.N) (h : t.val % 4 ≠ 0) :
    acc m c t.val t.isLt = k0_pay3 (iblk m c 0 t) (iblk m c 1 t) (acc m c (t.val - 1) (Nat.lt_of_le_of_lt (Nat.sub_le _ _) t.isLt)) := by
  obtain ⟨n, hn⟩ := t
  cases n with
  | zero => exact absurd rfl h
  | succ n => exact if_neg h

/-- The kernel's own buffer between the points. -/
abbrev scr : Memref sig .tc .vmem S1024x1024 .f32 := Memref.whole cc0_scratch0

/-- The invariant before point `n`: at the first the buffer holds anything, later what the point before left. -/
def Inv (c : Dev nD) : (n : ℕ) → n ≤ cfg0.N → sProp 𝕄
  | 0, _ => Pipeline.ΦA spec0 c
  | n + 1, h => iprop(owns (c : Thread nD τ) scr fullShare (acc m c n h) ∗ (∃ r, prngReg c r))

theorem Inv_pos (c : Dev nD) (n : ℕ) (h : n ≤ cfg0.N) (hn : n ≠ 0) :
    Inv m c n h = iprop(owns (c : Thread nD τ) scr fullShare (acc m c (n - 1) (by omega)) ∗ (∃ r, prngReg c r)) := by
  cases n with
  | zero => exact absurd rfl hn
  | succ n => rfl

theorem start_eq (c : Dev nD) :
    (Pipeline.ΦA spec0 c : sProp 𝕄) = iprop((∃ d, owns (c : Thread nD τ) scr fullShare d) ∗ (∃ r, prngReg c r)) := by
  unfold Pipeline.ΦA
  rw [scopedRest0_eq]
  simp only [scr, owns_whole]
  rfl

/-- Before any point the buffer holds something. -/
theorem Inv_any (c : Dev nD) (n : ℕ) (h : n ≤ cfg0.N) :
    Inv m c n h ⊢ iprop((∃ d, owns (c : Thread nD τ) scr fullShare d) ∗ (∃ r, prngReg c r)) := by
  cases n with
  | zero => rw [← start_eq]; exact Idealize.SL.BI.Entails.refl _
  | succ n =>
    unfold Inv
    iintro ⟨HS, Hg⟩
    isplitl [HS]
    · iexists _; iexact HS
    iexact Hg

/-- The pipeline's data: the arrays as found, an input's block after the body as before it, the output's the laid out
    accumulator. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => wide (acc m c t.val t.isLt)
  Φ t := Inv m c t.val (Nat.le_of_lt_succ t.isLt)
  q _ := fullShare
  owed _ := 0

theorem A_eq (c : Dev nD) (w : Fin cfg0.W) : (dats m 0 c).A w = V m c (Pipeline.arrRef spec0 w) := by dsimp only [dats]

theorem Inv_at (c : Dev nD) (t : Fin cfg0.N) : (dats m 0 c).Φ t.castSucc = Inv m c t.val (Nat.le_of_lt t.isLt) := by
  dsimp only [dats]
  exact Pipeline.Dat.Φ_castSucc (Inv m c) t

theorem after_lhs (c : Dev nD) (t : Fin cfg0.N) : (dats m 0 c).after 0 t = iblk m c 0 t := by dsimp only [dats]
theorem after_rhs (c : Dev nD) (t : Fin cfg0.N) : (dats m 0 c).after 1 t = iblk m c 1 t := by dsimp only [dats]
theorem after_out (c : Dev nD) (t : Fin cfg0.N) : (dats m 0 c).after 2 t = wide (acc m c t.val t.isLt) := by dsimp only [dats]

theorem before_lhs (c : Dev nD) (t : Fin cfg0.N) (d) : (dats m 0 c).before 0 t d = iblk m c 0 t :=
  before0_0_of m (dats m 0 c) (A_eq m c 0) (after_lhs m c) t d
theorem before_rhs (c : Dev nD) (t : Fin cfg0.N) (d) : (dats m 0 c).before 1 t d = iblk m c 1 t :=
  before0_1_of m (dats m 0 c) (A_eq m c 1) (after_rhs m c) t d

/-! ## The body at any point -/

/-- A window's buffer at a point, as the pipeline passes it. -/
abbrev bufL (t : Fin cfg0.N) : Memref sig .tc .vmem S1024x1024 .bf16 := win0_0.stage (cfg0.slots t 0)
abbrev bufR (t : Fin cfg0.N) : Memref sig .tc .vmem S1024x1024 .bf16 := win0_1.stage (cfg0.slots t 1)
abbrev bufO (t : Fin cfg0.N) : Memref sig .tc .vmem S8192x128 .f32 := win0_2.stage (cfg0.slots t 2)

theorem body_at (c : Dev nD) (t : Fin cfg0.N) :
    iprop((dats m 0 c).Φ t.castSucc ∗ (dats m 0 c).owesAt () t.castSucc
      ∗ (∃ d, owns (c : Thread nD τ) (bufL t) fullShare ((dats m 0 c).before 0 t d))
      ∗ (∃ d, owns (c : Thread nD τ) (bufR t) fullShare ((dats m 0 c).before 1 t d))
      ∗ (∃ d, owns (c : Thread nD τ) (bufO t) fullShare ((dats m 0 c).before 2 t d)))
    ⊢ wp frame (wpE (defs₀ (F := F)) Variants.none c none) Set.univ (bodyAt0 t) (fun _ =>
      iprop((dats m 0 c).Φ t.succ ∗ (dats m 0 c).owesAt () t.succ
        ∗ (dats m 0 c).leavesExact 0 t ∗ (dats m 0 c).leavesExact 1 t ∗ (dats m 0 c).leavesExact 2 t)) := by
  unfold bodyAt0
  simp only [before_lhs, before_rhs]
  rw [show (dats m 0 c).owesAt () t.succ = (dats m 0 c).owesAt () t.castSucc from rfl,
    show (dats m 0 c).Φ t.succ = iprop(owns (c : Thread nD τ) scr fullShare (acc m c t.val t.isLt) ∗ (∃ r, prngReg c r)) from rfl,
    show (dats m 0 c).leavesExact 0 t = owns (c : Thread nD τ) (bufL t) fullShare ((dats m 0 c).after 0 t) from by
      unfold Dat.leavesExact; rw [live_lhs t], after_lhs,
    show (dats m 0 c).leavesExact 1 t = owns (c : Thread nD τ) (bufR t) fullShare ((dats m 0 c).after 1 t) from by
      unfold Dat.leavesExact; rw [live_rhs t], after_rhs, Inv_at]
  by_cases h0 : t.val % 4 = 0
  · have h2 : t.val % 4 ≠ 3 := by omega
    rw [Dat.leavesExact_idle (dats m 0 c) 2 t (idle_out t h2) (keep_out t h2), acc_first m c t h0]
    refine (BIClass.sep_mono (Inv_any m c _ _) (Idealize.SL.BI.Entails.refl _)).trans ?_
    iintro ⟨⟨HS, Hg⟩, Ho, ⟨%d0, H0⟩, ⟨%d1, H1⟩, ⟨%d2, H2⟩⟩
    iapply (run_first c (grid0.coords t) _ _ _ _ _ _ _ _ (iblk m c 0 t) (iblk m c 1 t) ((first_iff t).mpr h0)
      (fun h => (later_iff t).mp h h0) (fun h => h2 ((last_iff t).mp h)) _ Set.univ _)
    isplitl [H0]; · iexact H0
    isplitl [H1]; · iexact H1
    isplitl [H2]; · iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]; · iexact H1
    iexists _; iexact H2
  · have hz : t.val ≠ 0 := fun h => h0 (by omega)
    rw [Inv_pos m c _ _ hz]
    by_cases h2 : t.val % 4 = 3
    · rw [show (dats m 0 c).leavesExact 2 t = owns (c : Thread nD τ) (bufO t) fullShare ((dats m 0 c).after 2 t) from by
        unfold Dat.leavesExact; rw [live_out t h2], after_out, acc_next m c t h0]
      iintro ⟨⟨HS, Hg⟩, Ho, ⟨%d0, H0⟩, ⟨%d1, H1⟩, ⟨%d2, H2⟩⟩
      iapply (run_last c (grid0.coords t) _ _ _ _ _ _ _ _ (iblk m c 0 t) (iblk m c 1 t) (fun h => h0 ((first_iff t).mp h))
        ((later_iff t).mpr h0) ((last_iff t).mpr h2) _ Set.univ _)
      isplitl [H0]; · iexact H0
      isplitl [H1]; · iexact H1
      isplitl [H2]; · iexists _; iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexact H2
    · rw [Dat.leavesExact_idle (dats m 0 c) 2 t (idle_out t h2) (keep_out t h2), acc_next m c t h0]
      iintro ⟨⟨HS, Hg⟩, Ho, ⟨%d0, H0⟩, ⟨%d1, H1⟩, ⟨%d2, H2⟩⟩
      iapply (run_middle c (grid0.coords t) _ _ _ _ _ _ _ _ (iblk m c 0 t) (iblk m c 1 t) (fun h => h0 ((first_iff t).mp h))
        ((later_iff t).mpr h0) (fun h => h2 ((last_iff t).mp h)) _ _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexists _; iexact H2

/-- The program's definition of the body is the body at the point. -/
theorem body_call (t : Fin cfg0.N) : defs₀ (F := F) .tc cfg0.body (cfg0.bodyArgs t (cfg0.slots t)) = bodyAt0 t := by
  unfold defs₀
  rw [Defs.onTc_tc]

theorem body_ok (c : Dev nD) : BodyObligation (dats (F := F) m 0 c) (defs₀ (F := F)) Variants.none () Set.univ := fun t => by
  rw [bigSep_W0, bigSep_W0, body_call]
  exact triple_restated (body_at m c t) rfl .rfl fun _ => .rfl

theorem Inv_start (c : Dev nD) : Pipeline.ΦA spec0 c ⊢ (dats m 0 c).Φ 0 := by
  rw [show (dats m 0 c).Φ 0 = Pipeline.ΦA spec0 c from rfl]

theorem Inv_end (c : Dev nD) : (dats m 0 c).Φ (Fin.last cfg0.N) ⊢ Pipeline.ΦA spec0 c := by
  rw [start_eq, show (dats m 0 c).Φ (Fin.last cfg0.N) = Inv m c cfg0.N (Nat.le_refl _) from rfl]
  exact Inv_any m c _ _

/-! ## The run -/

-- the run's implicit arguments are found from its conclusion, through plain definitions in a type
set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_ok m c).loose) (hshare := fun c => (dats m 0 c).share_full fun _ => rfl)
    (howed := fun _ _ => rfl) (V := V m) (hmain := hmain m Variants.none) (hA := A_eq m) (hin := Inv_start m) (hout := Inv_end m)

/-- The argument arrays end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_quiet m ρ)))
    ((θ_run defs _ _).mono (fun _ h => h.2) (run_quiet m ρ))

/-- The result array holds what the points wrote back; the arguments are unchanged. -/
theorem run_out : θ_run defs (onTc (τ := τ) (main (F := F))) ⟨m, fun _ => 0, ρ⟩ fun r => ∀ c : Dev nD,
      r.2.mem ((c : Thread nD τ).loc main_v0) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h.1 c).1 2,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c)))⟩)
    (run_quiet m ρ)

end Cert.DWGateIdeal.Own

end
-- ==== Proof.Flat.lean ====
module

public import proofs.«01_k».proof.Proof.Spec

@[expose] public section

noncomputable section

/-! # A matrix of 1024 columns laid out at 128 lanes -/

namespace Cert.Spec

open Idealize.ShloMosaic

/-- The row and the column of the matrix an entry of the laid out array comes from. -/
abbrev flatRow {n n' : ℕ} (h : n' = 8 * n) (i : Fin n') : Fin n := ⟨i.val / 8, by omega⟩
abbrev flatCol {n' : ℕ} (i : Fin n') (l : Fin 128) : Fin 1024 := ⟨i.val % 8 * 128 + l.val, by omega⟩

/-- Row `8 r + q` holds columns `128 q …` of row `r`. -/
def flat {n n' : ℕ} (h : n' = 8 * n) (a : A2 n 1024) : A2 n' 128 := fun i => a (ix2 (flatRow h (i 0)) (flatCol (i 0) (i 1)))

end Cert.Spec

end
-- ==== Proof.DWGate.lean ====
module

public import proofs.«01_k».proof.Proof.DWGateIdealFrame
public import Idealize.ShloMosaic.Lib.Pipeline.ValueKit
public import Idealize.ShloMosaic.Lib.Pointwise
public import Idealize.ShloMosaic.Lib.Pipeline.ReadBack
public import proofs.«01_k».proof.Proof.Flat

@[expose] public section

set_option maxRecDepth 16384

noncomputable section

/-! # The gradient of the gate's input weights: what the kernel leaves in its result -/

namespace Cert.DWGateIdeal.Result

open Cert.DWGateIdeal Cert.DWGateIdeal.Gen Cert.DWGateIdeal.Own Idealize.ShloMosaic Idealize.ShloMosaic.TcCoe Idealize.SL.Sem
open Idealize.ShloMosaic.Pipeline (Dat)

variable (m : (ℓ : Loc nD τ sig) → Buf (Elt Ideal) ℓ) (c : Dev nD)

/-- The gates' gradient and the normed states, on device `c`. -/
abbrev A0 : Spec.A2 4096 2048 := m ((c : Thread nD τ).loc main_arg0)
abbrev A1 : Spec.A2 4096 1024 := m ((c : Thread nD τ).loc main_arg1)

/-- The windows' blocks by the grid point. -/
theorem idx (t : Fin cfg0.N) : win0_0.index t = ![t.val % 4, t.val / 4] ∧ win0_1.index t = ![t.val % 4, 0]
    ∧ win0_2.index t = ![t.val / 4, 0] :=
  (by decide +kernel : ∀ t : Fin cfg0.N, win0_0.index t = ![t.val % 4, t.val / 4] ∧ win0_1.index t = ![t.val % 4, 0]
    ∧ win0_2.index t = ![t.val / 4, 0]) t

/-- Token `r` of point `t`'s block, column `j` of the gates' gradient there, and row `j` of the result's block. -/
abbrev tok (t : Fin cfg0.N) (r : Fin 1024) : Fin 4096 := ⟨t.val % 4 * 1024 + r.val, by omega⟩
abbrev row (t : Fin cfg0.N) (j : Fin 1024) : Fin 2048 :=
  ⟨t.val / 4 * 1024 + j.val, by have := t.isLt; have : cfg0.N = 8 := N_0; omega⟩
abbrev outRow (t : Fin cfg0.N) (j : Fin 8192) : Fin 16384 :=
  ⟨t.val / 4 * 8192 + j.val, by have := t.isLt; have : cfg0.N = 8 := N_0; omega⟩

theorem b0 (t : Fin cfg0.N) (x : S1024x1024.Idx) :
    (iblk m c 0 t : S1024x1024.Idx → EReal) x = A0 m c (ix2 (tok t (x 0)) (row t (x 1))) := by
  blk_ext [iblk, V, idx t]
theorem b1 (t : Fin cfg0.N) (x : S1024x1024.Idx) :
    (iblk m c 1 t : S1024x1024.Idx → EReal) x = A1 m c (ix2 (tok t (x 0)) (x 1)) := by
  blk_ext [iblk, V, idx t]

/-- What point `t` adds to the accumulator: the products over its block of tokens. -/
def term (t : Fin cfg0.N) (y : S1024x1024.Idx) : EReal :=
  ∑ r : Fin 1024, A0 m c (ix2 (tok t r) (row t (y 0))) * A1 m c (ix2 (tok t r) (y 1))

theorem sum_first (t : Fin cfg0.N) (h : t.val % 4 = 0) (y : S1024x1024.Idx) :
    acc m c t.val t.isLt y = 0 + term m c t y := by
  rw [acc_first m c t h, zero_add]
  pointwise [k0_pay2, k0_pay1]
  simp only [b0, b1]
  rfl

theorem sum_next (t : Fin cfg0.N) (h : ¬t.val % 4 = 0) (y : S1024x1024.Idx) :
    acc m c t.val t.isLt y = acc m c (t.val - 1) (Nat.lt_of_le_of_lt (Nat.sub_le _ _) t.isLt) y + term m c t y := by
  rw [acc_next m c t h]
  generalize acc m c (t.val - 1) (Nat.lt_of_le_of_lt (Nat.sub_le _ _) t.isLt) = a
  pointwise [k0_pay3, k0_pay1]
  simp only [b0, b1]
  rfl

/-- At the last of its four points a tile's accumulator holds the sum over all the tokens. -/
theorem sum_last (t : Fin cfg0.N) (h : t.val % 4 = 3) (y : S1024x1024.Idx) :
    acc m c t.val t.isLt y = Spec.tmm (A0 m c) (A1 m c) (ix2 (row t (y 0)) (y 1)) := by
  refine (Pipeline.eq_sum_fin_of_reset_step_apply_of_flush (fun n h => acc m c n h) 4 (fun _ => (0 : EReal)) (term m c)
    (sum_first m c) (sum_next m c) t h y).trans ?_
  rw [zero_add]
  unfold Spec.tmm
  refine Eq.trans ?_ (Spec.sum_rows 4 1024 _).symm
  refine Finset.sum_congr rfl fun s _ => ?_
  unfold term
  refine Finset.sum_congr rfl fun r _ => ?_
  have hs : (4 * (t.val / 4) + s.val) % 4 = s.val := by omega
  have hd : (4 * (t.val / 4) + s.val) / 4 = t.val / 4 := by omega
  reads_congr <;> blk_ext!

theorem out : (dats m 0 c).arrAt 2 cfg0.N = Spec.flat rfl (Spec.tmm (A0 m c) (A1 m c)) := by
  refine (dats m 0 c).arrAt_eq_of_covers 2 _ (by decide +kernel) fun t hf y => ?_
  have h3 : t.val % 4 = 3 := (flush0_2 t).mp hf
  have e : ((cfg0.win 2).blk t).view.emb y = ix2 (outRow t (y 0)) (y 1) := by blk_ext [idx t]
  rw [e]
  blk_simp
  rw [after_out]
  refine (sum_last m c t h3 _).trans ?_
  unfold Spec.flat
  have h0 : (y 0).val < 8192 := (y 0).isLt
  refine congrArg (Spec.tmm (A0 m c) (A1 m c)) (funext fun a => Fin.ext ?_)
  match a with
  | ⟨0, _⟩ => show t.val / 4 * 1024 + (y 0).val / 8 = (t.val / 4 * 8192 + (y 0).val) / 8; omega
  | ⟨1, _⟩ => show (y 0).val % 8 * 128 + (y 1).val = (t.val / 4 * 8192 + (y 0).val) % 8 * 128 + (y 1).val; omega

end Cert.DWGateIdeal.Result

end
-- ==== Proof.DWGateRef.lean ====
module

public import proofs.«01_k».proof.Proof.Flat
public import proofs.«01_k».proof.Proof.Gen.DWGateRefIdeal.Run
public import proofs.«01_k».proof.Proof.Gen.DWGateRefIdeal.Read
public import Idealize.ShloMosaic.Lib.Pipeline.ValueKit
public import Idealize.ShloMosaic.Lib.Pointwise

@[expose] public section

set_option maxRecDepth 16384

noncomputable section

/-! # The gradient of the gate's input weights: the reference's result is the same function of its arguments (`Proof/Flat.lean`) -/

namespace Cert.DWGateRefIdeal.Result

open Cert.DWGateRefIdeal Cert.DWGateRefIdeal.Gen Idealize.ShloMosaic Idealize.ShloMosaic.TcCoe Idealize.SL.Sem

theorem product (x0 : (⟨S4096x2048, .bf16⟩ : BufTy).Contents (Elt Ideal)) (x1 : (⟨S4096x1024, .bf16⟩ : BufTy).Contents (Elt Ideal)) :
    Read.val_main_v4 x0 x1 = Spec.tmm x0 x1 := by
  refine funext fun (i : S2048x1024.Idx) => ?_
  unfold Read.val_main_v4 Read.val_main_v3 Read.val_main_v1
  pointwise
  unfold Spec.tmm
  refine Finset.sum_congr rfl fun q _ => ?_
  reads_congr <;> blk_ext!

theorem result (x0 : (⟨S4096x2048, .bf16⟩ : BufTy).Contents (Elt Ideal)) (x1 : (⟨S4096x1024, .bf16⟩ : BufTy).Contents (Elt Ideal)) :
    Read.val_main_v7 x0 x1 = Spec.flat rfl (Spec.tmm x0 x1) := by
  refine funext fun (i : S16384x128.Idx) => ?_
  rw [Read.val_main_v7_apply, Read.val_main_v6_apply, Read.val_main_v5_apply, product]
  have h0 : (i 0).val < 16384 := (i 0).isLt
  have h1 : (i 1).val < 128 := (i 1).isLt
  unfold Spec.flat
  refine congrArg (Spec.tmm x0 x1) (funext fun a => Fin.ext ?_)
  match a with
  | ⟨0, _⟩ => show ((i 0).val * 128 + (i 1).val) / 1024 = (i 0).val / 8; omega
  | ⟨1, _⟩ => show ((i 0).val * 128 + (i 1).val) % 1024 = (i 0).val % 8 * 128 + (i 1).val; omega

end Cert.DWGateRefIdeal.Result

end
-- ==== Proof.DWGateClaims.lean ====
module

public import proofs.«01_k».proof.Defs
public import proofs.«01_k».proof.Proof.Gen.DWGate
public import proofs.«01_k».proof.Proof.DWGateFrame
public import proofs.«01_k».proof.Proof.DWGateIdealFrame
public import proofs.«01_k».proof.Proof.Gen.DWGateRefIdeal.Run
public import proofs.«01_k».proof.Proof.Gen.DWGateRefIdeal.Read
public import proofs.«01_k».proof.Proof.DWGate
public import proofs.«01_k».proof.Proof.DWGateRef
public import Idealize.ShloMosaic.Adequacy
public import Idealize.ShloMosaic.Init

@[expose] public section

noncomputable section

/-! # The gradient of the gate's input weights: the claims -/

namespace Cert.Proof.DWGate

open Idealize.ShloMosaic Idealize.SL.Sem

theorem frame_kernel : Cert.quiescent_DWGate := fun m ρ _ => Cert.DWGate.Own.frame m ρ

theorem frame_kernelIdeal : Cert.quiescent_DWGateIdeal := fun m ρ _ => Cert.DWGateIdeal.Own.frame m ρ

theorem frame_referenceIdeal : Cert.quiescent_DWGateRefIdeal := fun m ρ _ =>
  (θ_run Cert.DWGateRefIdeal.defs _ _).mono (fun r h => ⟨fun c => (h c).2,
      Idealize.ShloMosaic.sem_eq_zero_of_no_sems (by decide) r.2⟩)
    (Cert.DWGateRefIdeal.Value.run (F := Ideal) m ρ)

theorem preserves : Cert.preserves_DWGate_DWGateIdeal := trivial

theorem algebraic : Cert.algebraic_DWGateIdeal_DWGateRefIdeal := by
  intro m ρ m' ρ' _ hagree
  refine ⟨_, Cert.DWGateIdeal.Own.run_out m ρ, ?_⟩
  refine (θ_run Cert.DWGateRefIdeal.defs _ _).mono (fun r h c => ?_) (Cert.DWGateRefIdeal.Value.run (F := Ideal) m' ρ')
  obtain ⟨h0, hargs⟩ := h c
  obtain ⟨a0, a1⟩ := hagree c
  refine ⟨h0.trans ?_, hargs⟩
  · rw [Cert.DWGateIdeal.Result.out, a0, a1]
    exact (Cert.DWGateRefIdeal.Read.val_main_v7_eq ..).trans (Cert.DWGateRefIdeal.Result.result ..)

end Cert.Proof.DWGate

end
-- ==== Proof.DWForgetIdealRun.lean ====
/- What one grid point of the transposed product for the forget gate's input weights does: three triples of its body, one for
   the first block of rows of the sum (the product is stored), one for a middle block (the product is added) and one for
   the last block (the product is added and the tile goes out, 8 stores of every 8th row). -/
module

public import proofs.«01_k».proof.Proof.Gen.DWForgetIdeal.Frame
public import proofs.«01_k».proof.Proof.Gen.DWForgetIdeal.Skeleton
public import Idealize.ShloMosaic.Lib.Pipeline.ValueKit

@[expose] public section

set_option maxRecDepth 16384

noncomputable section

namespace Cert.DWForgetIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DWForgetIdeal Cert.DWForgetIdeal.Gen

variable {F : FTy → Type} [FloatOps F]

local notation "𝕄" => MT nD τ sig Unit (Elt F) ℕ (UR sig nD τ) ℕ

/-- The three conditions of the body: the first, not the first, the last block of rows of a tile's sum. -/
abbrev isFirst (i : grid0.Coords) : Prop :=
  (Scalar.cmpi .ne (Scalar.extui (Scalar.cmpi .eq (BitVec.ofNat 32 (i 2).val) 0#32)) 0#32) = 1#1
abbrev isLater (i : grid0.Coords) : Prop :=
  (Scalar.cmpi .ne (Scalar.extui (Scalar.cmpi .sgt (BitVec.ofNat 32 (i 2).val) 0#32)) 0#32) = 1#1
abbrev isLast (i : grid0.Coords) : Prop := k0_cond3 i = 1#1

/-- The tile laid out at 128 lanes: row `8 r + q` of the block is columns `128 q …` of the tile's row `r`. -/
def wide (a : Vec F S128x1024 .f32) : Vec F S1024x128 .f32 := fun y =>
  a (fun b => match b with
    | ⟨0, _⟩ => ⟨(y 0).val / 8, by have h : (y 0).val < 1024 := (y 0).isLt; show _ < 128; omega⟩
    | ⟨1, _⟩ => ⟨(y 0).val % 8 * 128 + (y 1).val, by have h : (y 1).val < 128 := (y 1).isLt; show _ < 1024; omega⟩)

/-- Every row of the block is row `8 r + q` of one of the 8 stores. -/
theorem strided_cover (y : S1024x128.Idx) (q : ℕ) (inb) (hq : (y 0).val % 8 = q) :
    y ∈ (⟨(⟨![q, 0], S128x128.size, ![8, 1], inb⟩ : LoadRect S1024x128), spos_8_1⟩ : Rect S1024x128).set := by
  refine (LoadRect.mem_set _).mpr fun a => ?_
  have h0 : (y 0).val < 1024 := (y 0).isLt
  have h1 : (y 1).val < 128 := (y 1).isLt
  match a with
  | ⟨0, _⟩ => exact ⟨(y 0).val / 8, by show _ < 128; omega, by show (y 0).val = q + 8 * ((y 0).val / 8); omega⟩
  | ⟨1, _⟩ => exact ⟨(y 1).val, h1, by show (y 1).val = 0 + 1 * (y 1).val; omega⟩

/-- One strided store's payload is the laid out tile's at its own rows. -/
theorem strided_piece (a : Vec F S128x1024 .f32) (q : ℕ) (hq : q < 8) (o : ℕ) (ho : o = q * 128) (sl) (inb)
    (x : S128x128.Idx) :
    extractStridedSlice S128x128 ![0, o] a sl x
      = wide a ((⟨(⟨![q, 0], S128x128.size, ![8, 1], inb⟩ : LoadRect S1024x128), spos_8_1⟩ : Rect S1024x128).emb x) := by
  have h0 : (x 0).val < 128 := (x 0).isLt
  have h1 : (x 1).val < 128 := (x 1).isLt
  unfold wide
  refine congrArg a (funext fun b => Fin.ext ?_)
  match b with
  | ⟨0, _⟩ => show 0 + (x 0).val = (q + 8 * (x 0).val) / 8; omega
  | ⟨1, _⟩ => show o + (x 1).val = (q + 8 * (x 0).val) % 8 * 128 + (0 + 1 * (x 1).val); omega

/-- The rows `8 r + q` of the block. -/
abbrev strip (q : ℕ) (inb : ∀ a, S128x128.size a = 0 ∨ (![q, 0] : Fin 2 → ℕ) a + (![8, 1] : Fin 2 → ℕ) a * (S128x128.size a - 1) < S1024x128.size a) : Rect S1024x128 := ⟨(⟨![q, 0], S128x128.size, ![8, 1], inb⟩ : LoadRect S1024x128), spos_8_1⟩

/-- The 8 stores as pieces, the last first. -/
abbrev strips (a : Vec F S128x1024 .f32) : List (View.Piece (Elt F) S1024x128 .f32) :=
  [⟨strip 7 inb_S1024x128_S128x128_7_0_s_8_1, k0_pay11 a⟩, ⟨strip 6 inb_S1024x128_S128x128_6_0_s_8_1, k0_pay10 a⟩, ⟨strip 5 inb_S1024x128_S128x128_5_0_s_8_1, k0_pay9 a⟩, ⟨strip 4 inb_S1024x128_S128x128_4_0_s_8_1, k0_pay8 a⟩, ⟨strip 3 inb_S1024x128_S128x128_3_0_s_8_1, k0_pay7 a⟩, ⟨strip 2 inb_S1024x128_S128x128_2_0_s_8_1, k0_pay6 a⟩, ⟨strip 1 inb_S1024x128_S128x128_1_0_s_8_1, k0_pay5 a⟩, ⟨strip 0 inb_S1024x128_S128x128_0_0_s_8_1, k0_pay4 a⟩]

theorem strips_agree (a : Vec F S128x1024 .f32) :
    ∀ p ∈ strips a, ∀ x : p.1.shape.Idx, p.2 x = wide a (p.1.emb x) :=
  List.forall_mem_cons.mpr ⟨strided_piece a 7 (by decide) 896 rfl slices_S128x1024_o0_896_S128x128 _,
    List.forall_mem_cons.mpr ⟨strided_piece a 6 (by decide) 768 rfl slices_S128x1024_o0_768_S128x128 _,
    List.forall_mem_cons.mpr ⟨strided_piece a 5 (by decide) 640 rfl slices_S128x1024_o0_640_S128x128 _,
    List.forall_mem_cons.mpr ⟨strided_piece a 4 (by decide) 512 rfl slices_S128x1024_o0_512_S128x128 _,
    List.forall_mem_cons.mpr ⟨strided_piece a 3 (by decide) 384 rfl slices_S128x1024_o0_384_S128x128 _,
    List.forall_mem_cons.mpr ⟨strided_piece a 2 (by decide) 256 rfl slices_S128x1024_o0_256_S128x128 _,
    List.forall_mem_cons.mpr ⟨strided_piece a 1 (by decide) 128 rfl slices_S128x1024_o0_128_S128x128 _,
    List.forall_mem_cons.mpr ⟨strided_piece a 0 (by decide) 0 rfl slices_S128x1024_o0_0_S128x128 _,
    fun _ h => absurd h List.not_mem_nil⟩⟩⟩⟩⟩⟩⟩⟩

theorem strips_cover (a : Vec F S128x1024 .f32) (y : S1024x128.Idx) : ∃ p ∈ strips a, y ∈ p.1.set := by
  have hq : (y 0).val % 8 = 7 ∨ (y 0).val % 8 = 6 ∨ (y 0).val % 8 = 5 ∨ (y 0).val % 8 = 4
      ∨ (y 0).val % 8 = 3 ∨ (y 0).val % 8 = 2 ∨ (y 0).val % 8 = 1 ∨ (y 0).val % 8 = 0 := by omega
  simp only [List.exists_mem_cons_iff]
  exact hq.imp (strided_cover y 7 _) <| Or.imp (strided_cover y 6 _) <| Or.imp (strided_cover y 5 _) <|
    Or.imp (strided_cover y 4 _) <| Or.imp (strided_cover y 3 _) <| Or.imp (strided_cover y 2 _) <|
    Or.imp (strided_cover y 1 _) fun h => Or.inl (strided_cover y 0 _ h)

/-- After the 8 stores the block holds the laid out tile. -/
theorem strips_read {sg : RefSig} {κ : Kind} {sp : Space} (v : View sg κ sp S1024x128 .f32) (f : v.ty.Contents (Elt F)) (a : Vec F S128x1024 .f32) :
    v.read (Elt F) (v.writes (Elt F) f (strips a)) = wide a :=
  funext fun y => View.read_writes_apply_of_pieces v f (wide a) (strips a) (strips_agree a) y (strips_cover a y)

/-- A store of the whole tile covers it. -/
theorem whole_cover (w : Vec F S128x1024 .f32) (y : S128x1024.Idx) :
    ∃ p ∈ [(⟨Rect.unit ![0, 0] S128x1024.size inb_S128x1024_S128x1024_0_0, w⟩ : View.Piece (Elt F) S128x1024 .f32)], y ∈ p.1.set :=
  View.cover_of_tiledL _ S128x1024.size (by sl_kernel_rfl) y

section
variable (c : Dev nD) (i : grid0.Coords)
  (arg3 : Memref sig .tc .vmem S1024x128 .bf16) (harg3 : arg3.IsWhole) (arg4 : Memref sig .tc .vmem S1024x1024 .bf16) (harg4 : arg4.IsWhole)
  (arg5 : Memref sig .tc .vmem S1024x128 .f32) (harg5 : arg5.IsWhole) (arg6 : Memref sig .tc .vmem S128x1024 .f32) (harg6 : arg6.IsWhole)
  (x0 : Vec F S1024x128 .bf16) (x1 : Vec F S1024x1024 .bf16)

/-- The first block of rows: the accumulator is the product. -/
theorem run_first (h0 : isFirst i) (h1 : ¬isLater i) (h2 : ¬isLast i) (d5 : Vec F S1024x128 .f32) (E : Set ℕ) (K : PUnit → sProp 𝕄) :
    iprop(owns (c : Thread nD τ) arg3 fullShare x0 ∗ owns (c : Thread nD τ) arg4 fullShare x1 ∗ owns (c : Thread nD τ) arg5 fullShare d5
        ∗ (∃ d, owns (c : Thread nD τ) arg6 fullShare d)
        ∗ (iprop(owns (c : Thread nD τ) arg3 fullShare x0 ∗ owns (c : Thread nD τ) arg4 fullShare x1 ∗ owns (c : Thread nD τ) arg5 fullShare d5
            ∗ owns (c : Thread nD τ) arg6 fullShare (k0_pay2 x0 x1)) -∗ K ⟨⟩))
      ⊢ wp frame (wpE (defs₀ (F := F)) Variants.none c none) E (cc0_d_w_forget i arg3 harg3 arg4 harg4 arg5 harg5 arg6 harg6) K := by
  simp only [cc0_d_w_forget_eq_skeleton]; unfold cc0_d_w_forget_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1
  sl_exec (disch := first | sl_exact h0 | sl_exact h1 | sl_exact h2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact hf2
    iexact H2
  iexists _; isplitr
  swap; · iexact HS
  ipureintro
  rw [View.read_writes_eq_canon _ _ _ (whole_cover _)]
  frame_out

/-- A block of rows between: the product is added. -/
theorem run_middle (h0 : ¬isFirst i) (h1 : isLater i) (h2 : ¬isLast i) (d5 : Vec F S1024x128 .f32) (a : Vec F S128x1024 .f32) (E : Set ℕ) (K : PUnit → sProp 𝕄) :
    iprop(owns (c : Thread nD τ) arg3 fullShare x0 ∗ owns (c : Thread nD τ) arg4 fullShare x1 ∗ owns (c : Thread nD τ) arg5 fullShare d5
        ∗ owns (c : Thread nD τ) arg6 fullShare a
        ∗ (iprop(owns (c : Thread nD τ) arg3 fullShare x0 ∗ owns (c : Thread nD τ) arg4 fullShare x1 ∗ owns (c : Thread nD τ) arg5 fullShare d5
            ∗ owns (c : Thread nD τ) arg6 fullShare (k0_pay3 x0 x1 a)) -∗ K ⟨⟩))
      ⊢ wp frame (wpE (defs₀ (F := F)) Variants.none c none) E (cc0_d_w_forget i arg3 harg3 arg4 harg4 arg5 harg5 arg6 harg6) K := by
  simp only [cc0_d_w_forget_eq_skeleton]; unfold cc0_d_w_forget_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg6.eq_unread hfs
  sl_exec (disch := first | sl_exact h0 | sl_exact h1 | sl_exact h2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact hf2
    iexact H2
  iexists _; isplitr
  swap; · iexact HS
  ipureintro
  rw [View.read_writes_eq_canon _ _ _ (whole_cover _)]
  frame_out

/-- The last block of rows: the product is added and the sum goes out. -/
theorem run_last (h0 : ¬isFirst i) (h1 : isLater i) (h2 : isLast i) (a : Vec F S128x1024 .f32) (E : Set ℕ) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare a
        ∗ (iprop(owns (c : Thread nD τ) arg3 fullShare x0 ∗ owns (c : Thread nD τ) arg4 fullShare x1
            ∗ owns (c : Thread nD τ) arg5 fullShare (wide (k0_pay3 x0 x1 a))
            ∗ owns (c : Thread nD τ) arg6 fullShare (k0_pay3 x0 x1 a)) -∗ K ⟨⟩))
      ⊢ wp frame (wpE (defs₀ (F := F)) Variants.none c none) E (cc0_d_w_forget i arg3 harg3 arg4 harg4 arg5 harg5 arg6 harg6) K := by
  simp only [cc0_d_w_forget_eq_skeleton]; unfold cc0_d_w_forget_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | sl_exact h0 | sl_exact h1 | sl_exact h2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    have e : run_last.sl.v12 c arg3 harg3 arg4 harg4 arg6 harg6 x0 x1 a = k0_pay3 x0 x1 a := by
      unfold run_last.sl.v12
      frame_out
    rw [e]
    exact strips_read _ _ _
  iexists _; isplitr
  swap; · iexact HS
  ipureintro
  unfold run_last.sl.HS_1
  rw [View.read_writes_eq_canon _ _ _ (whole_cover _)]
  frame_out
end

end Cert.DWForgetIdeal.Own

end
-- ==== Proof.DWForgetIdealFrame.lean ====
/- The run of the transposed product for the forget gate's input weights from what its body does at one point: the accumulator
   carried from point to point, the array written back every fourth point, the arguments unchanged. -/
module

public import proofs.«01_k».proof.Proof.DWForgetIdealRun

@[expose] public section

set_option maxRecDepth 16384

noncomputable section

namespace Cert.DWForgetIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DWForgetIdeal Cert.DWForgetIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case each point is -/

theorem first_iff : ∀ t : Fin cfg0.N, isFirst (grid0.coords t) ↔ t.val % 4 = 0 :=
  (by decide +kernel : ∀ t : Fin grid0.N, isFirst (grid0.coords t) ↔ t.val % 4 = 0)

theorem later_iff : ∀ t : Fin cfg0.N, isLater (grid0.coords t) ↔ t.val % 4 ≠ 0 :=
  (by decide +kernel : ∀ t : Fin grid0.N, isLater (grid0.coords t) ↔ t.val % 4 ≠ 0)

theorem last_iff : ∀ t : Fin cfg0.N, isLast (grid0.coords t) ↔ t.val % 4 = 3 :=
  (by decide +kernel : ∀ t : Fin grid0.N, isLast (grid0.coords t) ↔ t.val % 4 = 3)

/-- The output's window is idle, and not written back, but at the last point of a tile. -/
theorem idle_out : ∀ t : Fin cfg0.N, t.val % 4 ≠ 3 → cfg0.idle 2 (grid0.coords t) = true := by decide +kernel
theorem keep_out : ∀ t : Fin cfg0.N, t.val % 4 ≠ 3 → (cfg0.win 2).flush t = false := by decide +kernel
theorem live_out : ∀ t : Fin cfg0.N, t.val % 4 = 3 → cfg0.idle 2 (grid0.coords t) = false := by decide +kernel
theorem live_lhs : ∀ t : Fin cfg0.N, cfg0.idle 0 (grid0.coords t) = false := fun _ => rfl
theorem live_rhs : ∀ t : Fin cfg0.N, cfg0.idle 1 (grid0.coords t) = false := fun _ => rfl

/-! ## What is held after each point -/

/-- The accumulator after point `n`: the product at a tile's first point, what was there plus the product at the others. -/
def acc (c : Dev nD) : (n : ℕ) → n < cfg0.N → Vec F S128x1024 .f32
  | 0, h => k0_pay2 (iblk m c 0 ⟨0, h⟩) (iblk m c 1 ⟨0, h⟩)
  | n + 1, h =>
    if (n + 1) % 4 = 0 then k0_pay2 (iblk m c 0 ⟨n + 1, h⟩) (iblk m c 1 ⟨n + 1, h⟩)
    else k0_pay3 (iblk m c 0 ⟨n + 1, h⟩) (iblk m c 1 ⟨n + 1, h⟩) (acc c n (Nat.lt_of_succ_lt h))

theorem acc_first (c : Dev nD) (t : Fin cfg0.N) (h : t.val % 4 = 0) :
    acc m c t.val t.isLt = k0_pay2 (iblk m c 0 t) (iblk m c 1 t) := by
  obtain ⟨n, hn⟩ := t
  cases n with
  | zero => rfl
  | succ n => exact if_pos h

theorem acc_next (c : Dev nD) (t : Fin cfg0.N) (h : t.val % 4 ≠ 0) :
    acc m c t.val t.isLt = k0_pay3 (iblk m c 0 t) (iblk m c 1 t) (acc m c (t.val - 1) (Nat.lt_of_le_of_lt (Nat.sub_le _ _) t.isLt)) := by
  obtain ⟨n, hn⟩ := t
  cases n with
  | zero => exact absurd rfl h
  | succ n => exact if_neg h

/-- The kernel's own buffer between the points. -/
abbrev scr : Memref sig .tc .vmem S128x1024 .f32 := Memref.whole cc0_scratch0

/-- The invariant before point `n`: at the first the buffer holds anything, later what the point before left. -/
def Inv (c : Dev nD) : (n : ℕ) → n ≤ cfg0.N → sProp 𝕄
  | 0, _ => Pipeline.ΦA spec0 c
  | n + 1, h => iprop(owns (c : Thread nD τ) scr fullShare (acc m c n h) ∗ (∃ r, prngReg c r))

theorem Inv_pos (c : Dev nD) (n : ℕ) (h : n ≤ cfg0.N) (hn : n ≠ 0) :
    Inv m c n h = iprop(owns (c : Thread nD τ) scr fullShare (acc m c (n - 1) (by omega)) ∗ (∃ r, prngReg c r)) := by
  cases n with
  | zero => exact absurd rfl hn
  | succ n => rfl

theorem start_eq (c : Dev nD) :
    (Pipeline.ΦA spec0 c : sProp 𝕄) = iprop((∃ d, owns (c : Thread nD τ) scr fullShare d) ∗ (∃ r, prngReg c r)) := by
  unfold Pipeline.ΦA
  rw [scopedRest0_eq]
  simp only [scr, owns_whole]
  rfl

/-- Before any point the buffer holds something. -/
theorem Inv_any (c : Dev nD) (n : ℕ) (h : n ≤ cfg0.N) :
    Inv m c n h ⊢ iprop((∃ d, owns (c : Thread nD τ) scr fullShare d) ∗ (∃ r, prngReg c r)) := by
  cases n with
  | zero => rw [← start_eq]; exact Idealize.SL.BI.Entails.refl _
  | succ n =>
    unfold Inv
    iintro ⟨HS, Hg⟩
    isplitl [HS]
    · iexists _; iexact HS
    iexact Hg

/-- The pipeline's data: the arrays as found, an input's block after the body as before it, the output's the laid out
    accumulator. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => wide (acc m c t.val t.isLt)
  Φ t := Inv m c t.val (Nat.le_of_lt_succ t.isLt)
  q _ := fullShare
  owed _ := 0

theorem A_eq (c : Dev nD) (w : Fin cfg0.W) : (dats m 0 c).A w = V m c (Pipeline.arrRef spec0 w) := by dsimp only [dats]

theorem Inv_at (c : Dev nD) (t : Fin cfg0.N) : (dats m 0 c).Φ t.castSucc = Inv m c t.val (Nat.le_of_lt t.isLt) := by
  dsimp only [dats]
  exact Pipeline.Dat.Φ_castSucc (Inv m c) t

theorem after_lhs (c : Dev nD) (t : Fin cfg0.N) : (dats m 0 c).after 0 t = iblk m c 0 t := by dsimp only [dats]
theorem after_rhs (c : Dev nD) (t : Fin cfg0.N) : (dats m 0 c).after 1 t = iblk m c 1 t := by dsimp only [dats]
theorem after_out (c : Dev nD) (t : Fin cfg0.N) : (dats m 0 c).after 2 t = wide (acc m c t.val t.isLt) := by dsimp only [dats]

theorem before_lhs (c : Dev nD) (t : Fin cfg0.N) (d) : (dats m 0 c).before 0 t d = iblk m c 0 t :=
  before0_0_of m (dats m 0 c) (A_eq m c 0) (after_lhs m c) t d
theorem before_rhs (c : Dev nD) (t : Fin cfg0.N) (d) : (dats m 0 c).before 1 t d = iblk m c 1 t :=
  before0_1_of m (dats m 0 c) (A_eq m c 1) (after_rhs m c) t d

/-! ## The body at any point -/

/-- A window's buffer at a point, as the pipeline passes it. -/
abbrev bufL (t : Fin cfg0.N) : Memref sig .tc .vmem S1024x128 .bf16 := win0_0.stage (cfg0.slots t 0)
abbrev bufR (t : Fin cfg0.N) : Memref sig .tc .vmem S1024x1024 .bf16 := win0_1.stage (cfg0.slots t 1)
abbrev bufO (t : Fin cfg0.N) : Memref sig .tc .vmem S1024x128 .f32 := win0_2.stage (cfg0.slots t 2)

theorem body_at (c : Dev nD) (t : Fin cfg0.N) :
    iprop((dats m 0 c).Φ t.castSucc ∗ (dats m 0 c).owesAt () t.castSucc
      ∗ (∃ d, owns (c : Thread nD τ) (bufL t) fullShare ((dats m 0 c).before 0 t d))
      ∗ (∃ d, owns (c : Thread nD τ) (bufR t) fullShare ((dats m 0 c).before 1 t d))
      ∗ (∃ d, owns (c : Thread nD τ) (bufO t) fullShare ((dats m 0 c).before 2 t d)))
    ⊢ wp frame (wpE (defs₀ (F := F)) Variants.none c none) Set.univ (bodyAt0 t) (fun _ =>
      iprop((dats m 0 c).Φ t.succ ∗ (dats m 0 c).owesAt () t.succ
        ∗ (dats m 0 c).leavesExact 0 t ∗ (dats m 0 c).leavesExact 1 t ∗ (dats m 0 c).leavesExact 2 t)) := by
  unfold bodyAt0
  simp only [before_lhs, before_rhs]
  rw [show (dats m 0 c).owesAt () t.succ = (dats m 0 c).owesAt () t.castSucc from rfl,
    show (dats m 0 c).Φ t.succ = iprop(owns (c : Thread nD τ) scr fullShare (acc m c t.val t.isLt) ∗ (∃ r, prngReg c r)) from rfl,
    show (dats m 0 c).leavesExact 0 t = owns (c : Thread nD τ) (bufL t) fullShare ((dats m 0 c).after 0 t) from by
      unfold Dat.leavesExact; rw [live_lhs t], after_lhs,
    show (dats m 0 c).leavesExact 1 t = owns (c : Thread nD τ) (bufR t) fullShare ((dats m 0 c).after 1 t) from by
      unfold Dat.leavesExact; rw [live_rhs t], after_rhs, Inv_at]
  by_cases h0 : t.val % 4 = 0
  · have h2 : t.val % 4 ≠ 3 := by omega
    rw [Dat.leavesExact_idle (dats m 0 c) 2 t (idle_out t h2) (keep_out t h2), acc_first m c t h0]
    refine (BIClass.sep_mono (Inv_any m c _ _) (Idealize.SL.BI.Entails.refl _)).trans ?_
    iintro ⟨⟨HS, Hg⟩, Ho, ⟨%d0, H0⟩, ⟨%d1, H1⟩, ⟨%d2, H2⟩⟩
    iapply (run_first c (grid0.coords t) _ _ _ _ _ _ _ _ (iblk m c 0 t) (iblk m c 1 t) ((first_iff t).mpr h0)
      (fun h => (later_iff t).mp h h0) (fun h => h2 ((last_iff t).mp h)) _ Set.univ _)
    isplitl [H0]; · iexact H0
    isplitl [H1]; · iexact H1
    isplitl [H2]; · iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]; · iexact H1
    iexists _; iexact H2
  · have hz : t.val ≠ 0 := fun h => h0 (by omega)
    rw [Inv_pos m c _ _ hz]
    by_cases h2 : t.val % 4 = 3
    · rw [show (dats m 0 c).leavesExact 2 t = owns (c : Thread nD τ) (bufO t) fullShare ((dats m 0 c).after 2 t) from by
        unfold Dat.leavesExact; rw [live_out t h2], after_out, acc_next m c t h0]
      iintro ⟨⟨HS, Hg⟩, Ho, ⟨%d0, H0⟩, ⟨%d1, H1⟩, ⟨%d2, H2⟩⟩
      iapply (run_last c (grid0.coords t) _ _ _ _ _ _ _ _ (iblk m c 0 t) (iblk m c 1 t) (fun h => h0 ((first_iff t).mp h))
        ((later_iff t).mpr h0) ((last_iff t).mpr h2) _ Set.univ _)
      isplitl [H0]; · iexact H0
      isplitl [H1]; · iexact H1
      isplitl [H2]; · iexists _; iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexact H2
    · rw [Dat.leavesExact_idle (dats m 0 c) 2 t (idle_out t h2) (keep_out t h2), acc_next m c t h0]
      iintro ⟨⟨HS, Hg⟩, Ho, ⟨%d0, H0⟩, ⟨%d1, H1⟩, ⟨%d2, H2⟩⟩
      iapply (run_middle c (grid0.coords t) _ _ _ _ _ _ _ _ (iblk m c 0 t) (iblk m c 1 t) (fun h => h0 ((first_iff t).mp h))
        ((later_iff t).mpr h0) (fun h => h2 ((last_iff t).mp h)) _ _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexists _; iexact H2

/-- The program's definition of the body is the body at the point. -/
theorem body_call (t : Fin cfg0.N) : defs₀ (F := F) .tc cfg0.body (cfg0.bodyArgs t (cfg0.slots t)) = bodyAt0 t := by
  unfold defs₀
  rw [Defs.onTc_tc]

theorem body_ok (c : Dev nD) : BodyObligation (dats (F := F) m 0 c) (defs₀ (F := F)) Variants.none () Set.univ := fun t => by
  rw [bigSep_W0, bigSep_W0, body_call]
  exact triple_restated (body_at m c t) rfl .rfl fun _ => .rfl

theorem Inv_start (c : Dev nD) : Pipeline.ΦA spec0 c ⊢ (dats m 0 c).Φ 0 := by
  rw [show (dats m 0 c).Φ 0 = Pipeline.ΦA spec0 c from rfl]

theorem Inv_end (c : Dev nD) : (dats m 0 c).Φ (Fin.last cfg0.N) ⊢ Pipeline.ΦA spec0 c := by
  rw [start_eq, show (dats m 0 c).Φ (Fin.last cfg0.N) = Inv m c cfg0.N (Nat.le_refl _) from rfl]
  exact Inv_any m c _ _

/-! ## The run -/

-- the run's implicit arguments are found from its conclusion, through plain definitions in a type
set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_ok m c).loose) (hshare := fun c => (dats m 0 c).share_full fun _ => rfl)
    (howed := fun _ _ => rfl) (V := V m) (hmain := hmain m Variants.none) (hA := A_eq m) (hin := Inv_start m) (hout := Inv_end m)

/-- The argument arrays end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_quiet m ρ)))
    ((θ_run defs _ _).mono (fun _ h => h.2) (run_quiet m ρ))

/-- The result array holds what the points wrote back; the arguments are unchanged. -/
theorem run_out : θ_run defs (onTc (τ := τ) (main (F := F))) ⟨m, fun _ => 0, ρ⟩ fun r => ∀ c : Dev nD,
      r.2.mem ((c : Thread nD τ).loc main_v0) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h.1 c).1 2,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c)))⟩)
    (run_quiet m ρ)

end Cert.DWForgetIdeal.Own

end
-- ==== Proof.DWForget.lean ====
module

public import proofs.«01_k».proof.Proof.DWForgetIdealFrame
public import Idealize.ShloMosaic.Lib.Pipeline.ValueKit
public import Idealize.ShloMosaic.Lib.Pointwise
public import Idealize.ShloMosaic.Lib.Pipeline.ReadBack
public import proofs.«01_k».proof.Proof.Flat

@[expose] public section

set_option maxRecDepth 16384

noncomputable section

/-! # The gradient of the forget gate's input weights: what the kernel leaves in its result -/

namespace Cert.DWForgetIdeal.Result

open Cert.DWForgetIdeal Cert.DWForgetIdeal.Gen Cert.DWForgetIdeal.Own Idealize.ShloMosaic Idealize.ShloMosaic.TcCoe Idealize.SL.Sem
open Idealize.ShloMosaic.Pipeline (Dat)

variable (m : (ℓ : Loc nD τ sig) → Buf (Elt Ideal) ℓ) (c : Dev nD)

/-- The forget gate's gradient and the normed states, on device `c`. -/
abbrev A0 : Spec.A2 4096 128 := m ((c : Thread nD τ).loc main_arg0)
abbrev A1 : Spec.A2 4096 1024 := m ((c : Thread nD τ).loc main_arg1)

/-- The windows' blocks by the grid point. -/
theorem idx (t : Fin cfg0.N) : win0_0.index t = ![t.val % 4, 0] ∧ win0_1.index t = ![t.val % 4, 0]
    ∧ win0_2.index t = ![0, 0] :=
  (by decide +kernel : ∀ t : Fin cfg0.N, win0_0.index t = ![t.val % 4, 0] ∧ win0_1.index t = ![t.val % 4, 0]
    ∧ win0_2.index t = ![0, 0]) t

/-- Token `r` of point `t`'s block. -/
abbrev tok (t : Fin cfg0.N) (r : Fin 1024) : Fin 4096 := ⟨t.val % 4 * 1024 + r.val, by omega⟩
theorem b0 (t : Fin cfg0.N) (x : S1024x128.Idx) :
    (iblk m c 0 t : S1024x128.Idx → EReal) x = A0 m c (ix2 (tok t (x 0)) (x 1)) := by
  blk_ext [iblk, V, idx t]
theorem b1 (t : Fin cfg0.N) (x : S1024x1024.Idx) :
    (iblk m c 1 t : S1024x1024.Idx → EReal) x = A1 m c (ix2 (tok t (x 0)) (x 1)) := by
  blk_ext [iblk, V, idx t]

/-- What point `t` adds to the accumulator: the products over its block of tokens. -/
def term (t : Fin cfg0.N) (y : S128x1024.Idx) : EReal :=
  ∑ r : Fin 1024, A0 m c (ix2 (tok t r) (y 0)) * A1 m c (ix2 (tok t r) (y 1))

theorem sum_first (t : Fin cfg0.N) (h : t.val % 4 = 0) (y : S128x1024.Idx) :
    acc m c t.val t.isLt y = 0 + term m c t y := by
  rw [acc_first m c t h, zero_add]
  pointwise [k0_pay2, k0_pay1]
  simp only [b0, b1]
  rfl

theorem sum_next (t : Fin cfg0.N) (h : ¬t.val % 4 = 0) (y : S128x1024.Idx) :
    acc m c t.val t.isLt y = acc m c (t.val - 1) (Nat.lt_of_le_of_lt (Nat.sub_le _ _) t.isLt) y + term m c t y := by
  rw [acc_next m c t h]
  generalize acc m c (t.val - 1) (Nat.lt_of_le_of_lt (Nat.sub_le _ _) t.isLt) = a
  pointwise [k0_pay3, k0_pay1]
  simp only [b0, b1]
  rfl

/-- At the last of its four points a tile's accumulator holds the sum over all the tokens. -/
theorem sum_last (t : Fin cfg0.N) (h : t.val % 4 = 3) (y : S128x1024.Idx) :
    acc m c t.val t.isLt y = Spec.tmm (A0 m c) (A1 m c) (ix2 (y 0) (y 1)) := by
  refine (Pipeline.eq_sum_fin_of_reset_step_apply_of_flush (fun n h => acc m c n h) 4 (fun _ => (0 : EReal)) (term m c)
    (sum_first m c) (sum_next m c) t h y).trans ?_
  rw [zero_add]
  unfold Spec.tmm
  refine Eq.trans ?_ (Spec.sum_rows 4 1024 _).symm
  refine Finset.sum_congr rfl fun s _ => ?_
  unfold term
  refine Finset.sum_congr rfl fun r _ => ?_
  have hs : (4 * (t.val / 4) + s.val) % 4 = s.val := by omega
  have hd : (4 * (t.val / 4) + s.val) / 4 = t.val / 4 := by omega
  reads_congr <;> blk_ext!

theorem out : (dats m 0 c).arrAt 2 cfg0.N = Spec.flat rfl (Spec.tmm (A0 m c) (A1 m c)) := by
  refine (dats m 0 c).arrAt_eq_of_covers 2 _ (by decide +kernel) fun t hf y => ?_
  have h3 : t.val % 4 = 3 := (flush0_2 t).mp hf
  have e : ((cfg0.win 2).blk t).view.emb y = ix2 (y 0) (y 1) := by blk_ext [idx t]
  rw [e]
  blk_simp
  rw [after_out]
  refine (sum_last m c t h3 _).trans ?_
  unfold Spec.flat
  refine congrArg (Spec.tmm (A0 m c) (A1 m c)) (funext fun a => Fin.ext ?_)
  match a with
  | ⟨0, _⟩ => show (y 0).val / 8 = (y 0).val / 8; rfl
  | ⟨1, _⟩ => show (y 0).val % 8 * 128 + (y 1).val = (y 0).val % 8 * 128 + (y 1).val; rfl

end Cert.DWForgetIdeal.Result

end
-- ==== Proof.DWForgetRef.lean ====
module

public import proofs.«01_k».proof.Proof.Flat
public import proofs.«01_k».proof.Proof.Gen.DWForgetRefIdeal.Run
public import proofs.«01_k».proof.Proof.Gen.DWForgetRefIdeal.Read
public import Idealize.ShloMosaic.Lib.Pipeline.ValueKit
public import Idealize.ShloMosaic.Lib.Pointwise

@[expose] public section

set_option maxRecDepth 16384

noncomputable section

/-! # The gradient of the forget gate's input weights: the reference's result is the same function of its arguments (`Proof/Flat.lean`) -/

namespace Cert.DWForgetRefIdeal.Result

open Cert.DWForgetRefIdeal Cert.DWForgetRefIdeal.Gen Idealize.ShloMosaic Idealize.ShloMosaic.TcCoe Idealize.SL.Sem

theorem product (x0 : (⟨S4096x128, .bf16⟩ : BufTy).Contents (Elt Ideal)) (x1 : (⟨S4096x1024, .bf16⟩ : BufTy).Contents (Elt Ideal)) :
    Read.val_main_v4 x0 x1 = Spec.tmm x0 x1 := by
  refine funext fun (i : S128x1024.Idx) => ?_
  unfold Read.val_main_v4 Read.val_main_v3 Read.val_main_v1
  pointwise
  unfold Spec.tmm
  refine Finset.sum_congr rfl fun q _ => ?_
  reads_congr <;> blk_ext!

theorem result (x0 : (⟨S4096x128, .bf16⟩ : BufTy).Contents (Elt Ideal)) (x1 : (⟨S4096x1024, .bf16⟩ : BufTy).Contents (Elt Ideal)) :
    Read.val_main_v7 x0 x1 = Spec.flat rfl (Spec.tmm x0 x1) := by
  refine funext fun (i : S1024x128.Idx) => ?_
  rw [Read.val_main_v7_apply, Read.val_main_v6_apply, Read.val_main_v5_apply, product]
  have h0 : (i 0).val < 1024 := (i 0).isLt
  have h1 : (i 1).val < 128 := (i 1).isLt
  unfold Spec.flat
  refine congrArg (Spec.tmm x0 x1) (funext fun a => Fin.ext ?_)
  match a with
  | ⟨0, _⟩ => show ((i 0).val * 128 + (i 1).val) / 1024 = (i 0).val / 8; omega
  | ⟨1, _⟩ => show ((i 0).val * 128 + (i 1).val) % 1024 = (i 0).val % 8 * 128 + (i 1).val; omega

end Cert.DWForgetRefIdeal.Result

end
-- ==== Proof.DWForgetClaims.lean ====
module

public import proofs.«01_k».proof.Defs
public import proofs.«01_k».proof.Proof.Gen.DWForget
public import proofs.«01_k».proof.Proof.DWForgetFrame
public import proofs.«01_k».proof.Proof.DWForgetIdealFrame
public import proofs.«01_k».proof.Proof.Gen.DWForgetRefIdeal.Run
public import proofs.«01_k».proof.Proof.Gen.DWForgetRefIdeal.Read
public import proofs.«01_k».proof.Proof.DWForget
public import proofs.«01_k».proof.Proof.DWForgetRef
public import Idealize.ShloMosaic.Adequacy
public import Idealize.ShloMosaic.Init

@[expose] public section

noncomputable section

/-! # The gradient of the forget gate's input weights: the claims -/

namespace Cert.Proof.DWForget

open Idealize.ShloMosaic Idealize.SL.Sem

theorem frame_kernel : Cert.quiescent_DWForget := fun m ρ _ => Cert.DWForget.Own.frame m ρ

theorem frame_kernelIdeal : Cert.quiescent_DWForgetIdeal := fun m ρ _ => Cert.DWForgetIdeal.Own.frame m ρ

theorem frame_referenceIdeal : Cert.quiescent_DWForgetRefIdeal := fun m ρ _ =>
  (θ_run Cert.DWForgetRefIdeal.defs _ _).mono (fun r h => ⟨fun c => (h c).2,
      Idealize.ShloMosaic.sem_eq_zero_of_no_sems (by decide) r.2⟩)
    (Cert.DWForgetRefIdeal.Value.run (F := Ideal) m ρ)

theorem preserves : Cert.preserves_DWForget_DWForgetIdeal := trivial

theorem algebraic : Cert.algebraic_DWForgetIdeal_DWForgetRefIdeal := by
  intro m ρ m' ρ' _ hagree
  refine ⟨_, Cert.DWForgetIdeal.Own.run_out m ρ, ?_⟩
  refine (θ_run Cert.DWForgetRefIdeal.defs _ _).mono (fun r h c => ?_) (Cert.DWForgetRefIdeal.Value.run (F := Ideal) m' ρ')
  obtain ⟨h0, hargs⟩ := h c
  obtain ⟨a0, a1⟩ := hagree c
  refine ⟨h0.trans ?_, hargs⟩
  · rw [Cert.DWForgetIdeal.Result.out, a0, a1]
    exact (Cert.DWForgetRefIdeal.Read.val_main_v7_eq ..).trans (Cert.DWForgetRefIdeal.Result.result ..)

end Cert.Proof.DWForget

end
-- ==== Proof.FoxPostSpec.lean ====
module

public import proofs.«01_k».proof.Proof.Spec

@[expose] public section

noncomputable section

/-! # Back through the forget gate and its scan: the mathematics -/

namespace Cert.Spec

open Idealize.ShloMosaic

/-- The sum of `V` from `n` to the end of a sequence of 2048 rows. -/
def tail (V : ℕ → EReal) (n : ℕ) : EReal := ∑ k ∈ Finset.Ico n 2048, V k

theorem tail_end (V : ℕ → EReal) : tail V 2048 = 0 := by simp [tail]

/-- The sum from a row inside a block of 256: the rest of the block, and what lies behind it. -/
theorem tail_block (V : ℕ → EReal) (a : ℕ) (ha : a + 256 ≤ 2048) (r : Fin 256) :
    tail V (a + r.val) = tail V (a + 256) + ∑ q : Fin 256, (if r.val ≤ q.val then 1 else 0) * V (a + q.val) := by
  have h : ∑ q : Fin 256, (if r.val ≤ q.val then 1 else 0) * V (a + q.val) = ∑ k ∈ Finset.Ico (a + r.val) (a + 256), V k := by
    have e : ∑ k ∈ Finset.Ico (a + r.val) (a + 256), V k = ∑ q ∈ Finset.Ico r.val 256, V (a + q) := by
      rw [Finset.sum_Ico_add, add_comm r.val, add_comm 256]
    rw [e, Finset.sum_fin_eq_sum_range, ← Finset.sum_filter_of_ne (s := Finset.range 256) (p := fun q => r.val ≤ q)]
    · refine Finset.sum_congr (by ext q; simp [and_comm]) fun q hq => ?_
      obtain ⟨h2, h1⟩ := Finset.mem_Ico.mp hq
      simp [h1, h2]
    · intro q hq hne
      by_contra hc
      simp [hc] at hne
  rw [h, add_comm (tail V (a + 256))]
  have hr := r.isLt
  exact (Finset.sum_Ico_consecutive V (Nat.add_le_add_left hr.le a) ha).symm

/-- The gate's gradient at one entry: the summed gradient times the slope of the gate's logarithm, on the eight heads' columns. -/
def dgate (s f b : EReal) (j : Fin 128) : EReal := if j.val < 8 then s * Ideal.logistic (0 - (f + b)) else 0

/-- What is summed along sequence `s` of head `j`: the row side's gradient less the column side's, which stand in column 64 j. -/
def scanIn (D0 D1 : A2 4096 512) (s : ℕ) (j : Fin 128) (n : ℕ) : EReal :=
  if h : s * 2048 + n < 4096 ∧ j.val < 8 then
    D1 (ix2 ⟨s * 2048 + n, h.1⟩ ⟨j.val * 64, by omega⟩) - D0 (ix2 ⟨s * 2048 + n, h.1⟩ ⟨j.val * 64, by omega⟩)
  else 0

/-- The gradient of the gate's pre-activation, two sequences of 2048 rows. -/
def foxDf (D0 D1 : A2 4096 512) (fl : A2 4096 128) (b : A2 1 128) : A2 4096 128 := fun y =>
  dgate (tail (scanIn D0 D1 ((y 0).val / 2048) (y 1)) ((y 0).val % 2048)) (fl y) (b (ix2 0 (y 1))) (y 1)

/-- The gradient of the gate's bias. -/
def foxDb (D0 D1 : A2 4096 512) (fl : A2 4096 128) (b : A2 1 128) : A2 1 128 := fun y =>
  ∑ r : Fin 4096, foxDf D0 D1 fl b (ix2 r (y 1))

/-- The heads' columns hold finite differences. -/
def FiniteIn (D0 D1 : A2 4096 512) : Prop :=
  ∀ (r : Fin 4096) (j : Fin 8), D1 (ix2 r ⟨j.val * 64, by omega⟩) - D0 (ix2 r ⟨j.val * 64, by omega⟩) ≠ ⊤
    ∧ D1 (ix2 r ⟨j.val * 64, by omega⟩) - D0 (ix2 r ⟨j.val * 64, by omega⟩) ≠ ⊥

theorem FiniteIn.parts {D0 D1 : A2 4096 512} (h : FiniteIn D0 D1) (s : ℕ) (j : Fin 128) (n : ℕ) :
    scanIn D0 D1 s j n - scanIn D0 D1 s j n = 0 := by
  unfold scanIn
  split_ifs with hn
  · exact EReal.sub_self (h ⟨_, hn.1⟩ ⟨j.val, hn.2⟩).1 (h ⟨_, hn.1⟩ ⟨j.val, hn.2⟩).2
  · exact EReal.sub_self EReal.zero_ne_top EReal.zero_ne_bot

end Cert.Spec
end
-- ==== Proof.FoxPostStep.lean ====
module

public import proofs.«01_k».proof.Proof.Gen.FoxPostIdeal.Skeleton
public import proofs.«01_k».proof.Proof.Gen.FoxPostIdeal
public import Idealize.ShloMosaic.Lib.Pipeline.ValueKit
public import Idealize.ShloMosaic.Lib.Pointwise
public import proofs.«01_k».proof.Proof.FoxPostSpec

@[expose] public section

set_option maxRecDepth 16384

noncomputable section

/-! # Back through the forget gate and its scan: one block of 256 rows

The body is written out for its eight blocks of rows, last block first. Here each block's stores are the same four
functions (`step`, `first`, `grad`, `addUp`) of its rows and of the row of sums that the block behind it hands on. -/

namespace Cert.FoxPostIdeal.Result

open Cert.FoxPostIdeal Cert.FoxPostIdeal.Gen Idealize.ShloMosaic Idealize.ShloMosaic.TcCoe Idealize.SL.Sem

/-- The sums of a block's rows from each row to the end of the sequence, `k` the sums behind the block. -/
def step (k : FVec Ideal S1x128 .f32) (x y : Vec Ideal S256x512 .f32) : FVec Ideal S256x128 .f32 :=
  k0_pay46 k0_pay4 k0_pay5 k x y
/-- What a block hands on: its first row. -/
def first (a : FVec Ideal S256x128 .f32) : FVec Ideal S1x128 .f32 := k0_pay47 a
/-- A block of the gate's gradient. -/
def grad (a : FVec Ideal S256x128 .f32) (f : Vec Ideal S256x128 .f32) (b : Vec Ideal S1x128 .f32) : FVec Ideal S256x128 .bf16 :=
  k0_pay49 (iota Kind.tc S256x128 32 [1] iota_S256x128_d1_w32) a f b
/-- The bias's gradient with a block added. -/
def addUp (a : FVec Ideal S256x128 .f32) (f : Vec Ideal S256x128 .f32) (b k : Vec Ideal S1x128 .f32) : FVec Ideal S1x128 .f32 :=
  k0_pay50 (iota Kind.tc S256x128 32 [1] iota_S256x128_d1_w32) a f b k

variable (x0 x1 : Vec Ideal S2048x512 .f32) (f : Vec Ideal S256x128 .f32) (b k : Vec Ideal S1x128 .f32)

/-- The sums of rows 1792 to 2047. -/
def A7 : FVec Ideal S256x128 .f32 :=
  step k0_pay6
    (View.ld x1 (Rect.unit ![1792, 0] ![256, 512] inb_S2048x512_S256x512_1792_0))
    (View.ld x0 (Rect.unit ![1792, 0] ![256, 512] inb_S2048x512_S256x512_1792_0))

theorem first_7 : k0_pay14 k0_pay5 k0_pay8 (k0_pay9 (View.ld x1 (Rect.unit ![1792, 0] ![256, 512] inb_S2048x512_S256x512_1792_0)) (View.ld x0 (Rect.unit ![1792, 0] ![256, 512] inb_S2048x512_S256x512_1792_0))) (k0_pay11 (View.ld x1 (Rect.unit ![1792, 0] ![256, 512] inb_S2048x512_S256x512_1792_0)) (View.ld x0 (Rect.unit ![1792, 0] ![256, 512] inb_S2048x512_S256x512_1792_0))) (k0_pay12 (View.ld x1 (Rect.unit ![1792, 0] ![256, 512] inb_S2048x512_S256x512_1792_0)) (View.ld x0 (Rect.unit ![1792, 0] ![256, 512] inb_S2048x512_S256x512_1792_0)))
    = first (A7 x0 x1) := rfl
theorem grad_7 : k0_pay16 k0_pay5 (iota Kind.tc S256x128 32 [1] iota_S256x128_d1_w32) k0_pay8 (k0_pay9 (View.ld x1 (Rect.unit ![1792, 0] ![256, 512] inb_S2048x512_S256x512_1792_0)) (View.ld x0 (Rect.unit ![1792, 0] ![256, 512] inb_S2048x512_S256x512_1792_0))) (k0_pay11 (View.ld x1 (Rect.unit ![1792, 0] ![256, 512] inb_S2048x512_S256x512_1792_0)) (View.ld x0 (Rect.unit ![1792, 0] ![256, 512] inb_S2048x512_S256x512_1792_0))) (k0_pay12 (View.ld x1 (Rect.unit ![1792, 0] ![256, 512] inb_S2048x512_S256x512_1792_0)) (View.ld x0 (Rect.unit ![1792, 0] ![256, 512] inb_S2048x512_S256x512_1792_0))) f b
    = grad (A7 x0 x1) f b := rfl
theorem add_7 : k0_pay17 k0_pay5 (iota Kind.tc S256x128 32 [1] iota_S256x128_d1_w32) k0_pay8 (k0_pay9 (View.ld x1 (Rect.unit ![1792, 0] ![256, 512] inb_S2048x512_S256x512_1792_0)) (View.ld x0 (Rect.unit ![1792, 0] ![256, 512] inb_S2048x512_S256x512_1792_0))) (k0_pay11 (View.ld x1 (Rect.unit ![1792, 0] ![256, 512] inb_S2048x512_S256x512_1792_0)) (View.ld x0 (Rect.unit ![1792, 0] ![256, 512] inb_S2048x512_S256x512_1792_0))) (k0_pay12 (View.ld x1 (Rect.unit ![1792, 0] ![256, 512] inb_S2048x512_S256x512_1792_0)) (View.ld x0 (Rect.unit ![1792, 0] ![256, 512] inb_S2048x512_S256x512_1792_0))) f b k
    = addUp (A7 x0 x1) f b k := rfl

/-- The sums of rows 1536 to 1791. -/
def A6 : FVec Ideal S256x128 .f32 :=
  step (first (A7 x0 x1))
    (View.ld x1 (Rect.unit ![1536, 0] ![256, 512] inb_S2048x512_S256x512_1536_0))
    (View.ld x0 (Rect.unit ![1536, 0] ![256, 512] inb_S2048x512_S256x512_1536_0))

theorem first_6 : k0_pay24 k0_pay4 k0_pay5 (first (A7 x0 x1)) k0_pay18 (k0_pay20 (View.ld x1 (Rect.unit ![1536, 0] ![256, 512] inb_S2048x512_S256x512_1536_0)) (View.ld x0 (Rect.unit ![1536, 0] ![256, 512] inb_S2048x512_S256x512_1536_0))) (k0_pay21 (View.ld x1 (Rect.unit ![1536, 0] ![256, 512] inb_S2048x512_S256x512_1536_0)) (View.ld x0 (Rect.unit ![1536, 0] ![256, 512] inb_S2048x512_S256x512_1536_0))) (k0_pay22 (View.ld x1 (Rect.unit ![1536, 0] ![256, 512] inb_S2048x512_S256x512_1536_0)) (View.ld x0 (Rect.unit ![1536, 0] ![256, 512] inb_S2048x512_S256x512_1536_0)))
    = first (A6 x0 x1) := rfl
theorem grad_6 : k0_pay26 k0_pay4 k0_pay5 (iota Kind.tc S256x128 32 [1] iota_S256x128_d1_w32) (first (A7 x0 x1)) k0_pay18 (k0_pay20 (View.ld x1 (Rect.unit ![1536, 0] ![256, 512] inb_S2048x512_S256x512_1536_0)) (View.ld x0 (Rect.unit ![1536, 0] ![256, 512] inb_S2048x512_S256x512_1536_0))) (k0_pay21 (View.ld x1 (Rect.unit ![1536, 0] ![256, 512] inb_S2048x512_S256x512_1536_0)) (View.ld x0 (Rect.unit ![1536, 0] ![256, 512] inb_S2048x512_S256x512_1536_0))) (k0_pay22 (View.ld x1 (Rect.unit ![1536, 0] ![256, 512] inb_S2048x512_S256x512_1536_0)) (View.ld x0 (Rect.unit ![1536, 0] ![256, 512] inb_S2048x512_S256x512_1536_0))) f b
    = grad (A6 x0 x1) f b := rfl
theorem add_6 : k0_pay27 (k0_pay25 k0_pay4 k0_pay5 (iota Kind.tc S256x128 32 [1] iota_S256x128_d1_w32) (first (A7 x0 x1)) k0_pay18 (k0_pay20 (View.ld x1 (Rect.unit ![1536, 0] ![256, 512] inb_S2048x512_S256x512_1536_0)) (View.ld x0 (Rect.unit ![1536, 0] ![256, 512] inb_S2048x512_S256x512_1536_0))) (k0_pay21 (View.ld x1 (Rect.unit ![1536, 0] ![256, 512] inb_S2048x512_S256x512_1536_0)) (View.ld x0 (Rect.unit ![1536, 0] ![256, 512] inb_S2048x512_S256x512_1536_0))) (k0_pay22 (View.ld x1 (Rect.unit ![1536, 0] ![256, 512] inb_S2048x512_S256x512_1536_0)) (View.ld x0 (Rect.unit ![1536, 0] ![256, 512] inb_S2048x512_S256x512_1536_0))) f b) k
    = addUp (A6 x0 x1) f b k := rfl

/-- The sums of rows 1280 to 1535. -/
def A5 : FVec Ideal S256x128 .f32 :=
  step (first (A6 x0 x1))
    (View.ld x1 (Rect.unit ![1280, 0] ![256, 512] inb_S2048x512_S256x512_1280_0))
    (View.ld x0 (Rect.unit ![1280, 0] ![256, 512] inb_S2048x512_S256x512_1280_0))

theorem after_5 : k0_pay28 k0_pay4 k0_pay5 (first (A6 x0 x1)) (View.ld x1 (Rect.unit ![1280, 0] ![256, 512] inb_S2048x512_S256x512_1280_0)) (View.ld x0 (Rect.unit ![1280, 0] ![256, 512] inb_S2048x512_S256x512_1280_0))
    = (A5 x0 x1) := rfl
theorem first_5 : k0_pay29 k0_pay4 k0_pay5 (first (A6 x0 x1)) (View.ld x1 (Rect.unit ![1280, 0] ![256, 512] inb_S2048x512_S256x512_1280_0)) (View.ld x0 (Rect.unit ![1280, 0] ![256, 512] inb_S2048x512_S256x512_1280_0))
    = first (A5 x0 x1) := rfl
theorem grad_5 : k0_pay31 (iota Kind.tc S256x128 32 [1] iota_S256x128_d1_w32) (A5 x0 x1) f b
    = grad (A5 x0 x1) f b := rfl
theorem add_5 : k0_pay32 (iota Kind.tc S256x128 32 [1] iota_S256x128_d1_w32) (A5 x0 x1) f b k
    = addUp (A5 x0 x1) f b k := rfl

/-- The sums of rows 1024 to 1279. -/
def A4 : FVec Ideal S256x128 .f32 :=
  step (first (A5 x0 x1))
    (View.ld x1 (Rect.unit ![1024, 0] ![256, 512] inb_S2048x512_S256x512_1024_0))
    (View.ld x0 (Rect.unit ![1024, 0] ![256, 512] inb_S2048x512_S256x512_1024_0))

theorem first_4 : k0_pay36 k0_pay5 (k0_pay33 k0_pay4 (View.ld x1 (Rect.unit ![1024, 0] ![256, 512] inb_S2048x512_S256x512_1024_0)) (View.ld x0 (Rect.unit ![1024, 0] ![256, 512] inb_S2048x512_S256x512_1024_0))) (k0_pay34 (first (A5 x0 x1)))
    = first (A4 x0 x1) := rfl
theorem grad_4 : k0_pay38 k0_pay5 (iota Kind.tc S256x128 32 [1] iota_S256x128_d1_w32) (k0_pay33 k0_pay4 (View.ld x1 (Rect.unit ![1024, 0] ![256, 512] inb_S2048x512_S256x512_1024_0)) (View.ld x0 (Rect.unit ![1024, 0] ![256, 512] inb_S2048x512_S256x512_1024_0))) (k0_pay34 (first (A5 x0 x1))) f b
    = grad (A4 x0 x1) f b := rfl
theorem add_4 : k0_pay39 k0_pay5 (iota Kind.tc S256x128 32 [1] iota_S256x128_d1_w32) (k0_pay33 k0_pay4 (View.ld x1 (Rect.unit ![1024, 0] ![256, 512] inb_S2048x512_S256x512_1024_0)) (View.ld x0 (Rect.unit ![1024, 0] ![256, 512] inb_S2048x512_S256x512_1024_0))) (k0_pay34 (first (A5 x0 x1))) f b k
    = addUp (A4 x0 x1) f b k := rfl

/-- The sums of rows 768 to 1023. -/
def A3 : FVec Ideal S256x128 .f32 :=
  step (first (A4 x0 x1))
    (View.ld x1 (Rect.unit ![768, 0] ![256, 512] inb_S2048x512_S256x512_768_0))
    (View.ld x0 (Rect.unit ![768, 0] ![256, 512] inb_S2048x512_S256x512_768_0))

theorem first_3 : k0_pay42 k0_pay4 k0_pay5 (first (A4 x0 x1)) k0_pay40 (View.ld x1 (Rect.unit ![768, 0] ![256, 512] inb_S2048x512_S256x512_768_0)) (View.ld x0 (Rect.unit ![768, 0] ![256, 512] inb_S2048x512_S256x512_768_0))
    = first (A3 x0 x1) := rfl
theorem grad_3 : k0_pay44 k0_pay4 k0_pay5 (iota Kind.tc S256x128 32 [1] iota_S256x128_d1_w32) (first (A4 x0 x1)) k0_pay40 (View.ld x1 (Rect.unit ![768, 0] ![256, 512] inb_S2048x512_S256x512_768_0)) (View.ld x0 (Rect.unit ![768, 0] ![256, 512] inb_S2048x512_S256x512_768_0)) f b
    = grad (A3 x0 x1) f b := rfl
theorem add_3 : k0_pay45 (k0_pay43 k0_pay4 k0_pay5 (iota Kind.tc S256x128 32 [1] iota_S256x128_d1_w32) (first (A4 x0 x1)) k0_pay40 (View.ld x1 (Rect.unit ![768, 0] ![256, 512] inb_S2048x512_S256x512_768_0)) (View.ld x0 (Rect.unit ![768, 0] ![256, 512] inb_S2048x512_S256x512_768_0)) f b) k
    = addUp (A3 x0 x1) f b k := rfl

/-- The sums of rows 512 to 767. -/
def A2 : FVec Ideal S256x128 .f32 :=
  step (first (A3 x0 x1))
    (View.ld x1 (Rect.unit ![512, 0] ![256, 512] inb_S2048x512_S256x512_512_0))
    (View.ld x0 (Rect.unit ![512, 0] ![256, 512] inb_S2048x512_S256x512_512_0))

theorem after_2 : k0_pay46 k0_pay4 k0_pay5 (first (A3 x0 x1)) (View.ld x1 (Rect.unit ![512, 0] ![256, 512] inb_S2048x512_S256x512_512_0)) (View.ld x0 (Rect.unit ![512, 0] ![256, 512] inb_S2048x512_S256x512_512_0))
    = (A2 x0 x1) := rfl
theorem first_2 : k0_pay47 (A2 x0 x1)
    = first (A2 x0 x1) := rfl
theorem grad_2 : k0_pay49 (iota Kind.tc S256x128 32 [1] iota_S256x128_d1_w32) (A2 x0 x1) f b
    = grad (A2 x0 x1) f b := rfl
theorem add_2 : k0_pay50 (iota Kind.tc S256x128 32 [1] iota_S256x128_d1_w32) (A2 x0 x1) f b k
    = addUp (A2 x0 x1) f b k := rfl

/-- The sums of rows 256 to 511. -/
def A1 : FVec Ideal S256x128 .f32 :=
  step (first (A2 x0 x1))
    (View.ld x1 (Rect.unit ![256, 0] ![256, 512] inb_S2048x512_S256x512_256_0))
    (View.ld x0 (Rect.unit ![256, 0] ![256, 512] inb_S2048x512_S256x512_256_0))

theorem first_1 : k0_pay58 k0_pay4 k0_pay5 (first (A2 x0 x1)) (k0_pay55 (View.ld x1 (Rect.unit ![256, 0] ![256, 512] inb_S2048x512_S256x512_256_0)) (View.ld x0 (Rect.unit ![256, 0] ![256, 512] inb_S2048x512_S256x512_256_0))) (k0_pay56 k0_pay4 (View.ld x1 (Rect.unit ![256, 0] ![256, 512] inb_S2048x512_S256x512_256_0)) (View.ld x0 (Rect.unit ![256, 0] ![256, 512] inb_S2048x512_S256x512_256_0))) (constant S256x128 .f32 0x00000000#32)
    = first (A1 x0 x1) := rfl
theorem grad_1 : k0_pay60 k0_pay4 k0_pay5 (iota Kind.tc S256x128 32 [1] iota_S256x128_d1_w32) (first (A2 x0 x1)) (k0_pay55 (View.ld x1 (Rect.unit ![256, 0] ![256, 512] inb_S2048x512_S256x512_256_0)) (View.ld x0 (Rect.unit ![256, 0] ![256, 512] inb_S2048x512_S256x512_256_0))) (k0_pay56 k0_pay4 (View.ld x1 (Rect.unit ![256, 0] ![256, 512] inb_S2048x512_S256x512_256_0)) (View.ld x0 (Rect.unit ![256, 0] ![256, 512] inb_S2048x512_S256x512_256_0))) (constant S256x128 .f32 0x00000000#32) f b
    = grad (A1 x0 x1) f b := rfl
theorem add_1 : k0_pay61 k0_pay4 k0_pay5 (iota Kind.tc S256x128 32 [1] iota_S256x128_d1_w32) (first (A2 x0 x1)) (k0_pay55 (View.ld x1 (Rect.unit ![256, 0] ![256, 512] inb_S2048x512_S256x512_256_0)) (View.ld x0 (Rect.unit ![256, 0] ![256, 512] inb_S2048x512_S256x512_256_0))) (k0_pay56 k0_pay4 (View.ld x1 (Rect.unit ![256, 0] ![256, 512] inb_S2048x512_S256x512_256_0)) (View.ld x0 (Rect.unit ![256, 0] ![256, 512] inb_S2048x512_S256x512_256_0))) (constant S256x128 .f32 0x00000000#32) f b k
    = addUp (A1 x0 x1) f b k := rfl

/-- The sums of rows 0 to 255. -/
def A0 : FVec Ideal S256x128 .f32 :=
  step (first (A1 x0 x1))
    (View.ld x1 (Rect.unit ![0, 0] ![256, 512] inb_S2048x512_S256x512_0_0))
    (View.ld x0 (Rect.unit ![0, 0] ![256, 512] inb_S2048x512_S256x512_0_0))

theorem grad_0 : k0_pay2 (k0_pay62 (iota Kind.tc S256x128 32 [1] iota_S256x128_d1_w32)) (k0_pay63 k0_pay4 k0_pay5 (first (A1 x0 x1)) (Scalar.ofBits .f32 0x00000000#32) (View.ld x1 (Rect.unit ![0, 0] ![256, 512] inb_S2048x512_S256x512_0_0)) (View.ld x0 (Rect.unit ![0, 0] ![256, 512] inb_S2048x512_S256x512_0_0)) f b)
    = grad (A0 x0 x1) f b := rfl
theorem add_0 : k0_pay3 (k0_pay62 (iota Kind.tc S256x128 32 [1] iota_S256x128_d1_w32)) (k0_pay63 k0_pay4 k0_pay5 (first (A1 x0 x1)) (Scalar.ofBits .f32 0x00000000#32) (View.ld x1 (Rect.unit ![0, 0] ![256, 512] inb_S2048x512_S256x512_0_0)) (View.ld x0 (Rect.unit ![0, 0] ![256, 512] inb_S2048x512_S256x512_0_0)) f b) k
    = addUp (A0 x0 x1) f b k := rfl

end Cert.FoxPostIdeal.Result

end
-- ==== Proof.FoxPostAt.lean ====
module

public import proofs.«01_k».proof.Proof.FoxPostStep

@[expose] public section

set_option maxRecDepth 16384

noncomputable section

/-! # Back through the forget gate and its scan: the entries of a block

The kernel splits each f32 difference into three parts, picks the heads' columns with a 0-1 matrix and sums with a
triangular one, part by part. With casts as identities the second and third part are differences of a finite number with
itself. -/

namespace Cert.FoxPostIdeal.Result

open Cert.FoxPostIdeal Cert.FoxPostIdeal.Gen Idealize.ShloMosaic Idealize.ShloMosaic.TcCoe Idealize.SL.Sem

theorem pick_word (l : Fin 512) (j : Fin 8) :
    IntOp.cmpi CmpIPredicate.eq (BitVec.ofNat 32 l.val) (IntOp.muli (BitVec.ofNat 32 j.val) 64#32) = if l.val = j.val * 64 then 1#1 else 0#1 :=
  (by decide +kernel : ∀ (l : Fin 512) (j : Fin 8), IntOp.cmpi CmpIPredicate.eq (BitVec.ofNat 32 l.val) (IntOp.muli (BitVec.ofNat 32 j.val) 64#32) = if l.val = j.val * 64 then 1#1 else 0#1) l j

theorem tri_word (l j : Fin 256) :
    IntOp.cmpi CmpIPredicate.sle (BitVec.ofNat 32 l.val) (BitVec.ofNat 32 j.val) = if l.val ≤ j.val then 1#1 else 0#1 :=
  (by decide +kernel : ∀ (l j : Fin 256), IntOp.cmpi CmpIPredicate.sle (BitVec.ofNat 32 l.val) (BitVec.ofNat 32 j.val) = if l.val ≤ j.val then 1#1 else 0#1) l j

theorem head_word (j : Fin 128) :
    IntOp.cmpi CmpIPredicate.slt (BitVec.ofNat 32 j.val) 8#32 = if j.val < 8 then 1#1 else 0#1 :=
  (by decide +kernel : ∀ j : Fin 128, IntOp.cmpi CmpIPredicate.slt (BitVec.ofNat 32 j.val) 8#32 = if j.val < 8 then 1#1 else 0#1) j

theorem pick_at (l : Fin 512) (j : Fin 128) (h : j.val < 8) :
    (k0_pay4 (F := Ideal) : S512x128.Idx → EReal) (ix2 l j) = if l.val = j.val * 64 then 1 else 0 := by
  pointwise [k0_pay4]
  rw [pick_word l ⟨j.val, h⟩]
  split_ifs
  · show (((1 : ℤ) : ℝ) : EReal) = 1
    norm_num
  · show (((0 : ℤ) : ℝ) : EReal) = 0
    norm_num

theorem tri_at (r q : Fin 256) :
    (k0_pay5 (F := Ideal) : S256x256.Idx → EReal) (ix2 r q) = if r.val ≤ q.val then 1 else 0 := by
  pointwise [k0_pay5]
  rw [tri_word]
  split_ifs
  · show (((1 : ℤ) : ℝ) : EReal) = 1
    norm_num
  · show (((0 : ℤ) : ℝ) : EReal) = 0
    norm_num

theorem pick_sum (g : Fin 512 → EReal) (j : Fin 128) (h : j.val < 8) :
    ∑ l : Fin 512, g l * (k0_pay4 (F := Ideal) : S512x128.Idx → EReal) (ix2 l j) = g ⟨j.val * 64, by omega⟩ := by
  rw [Finset.sum_eq_single ⟨j.val * 64, by omega⟩]
  · rw [pick_at _ _ h, if_pos rfl, mul_one]
  · intro l _ hl
    rw [pick_at _ _ h, if_neg fun e => hl (Fin.ext e), mul_zero]
  · intro hn; exact absurd (Finset.mem_univ _) hn

theorem step_at (k : FVec Ideal S1x128 .f32) (x y : Vec Ideal S256x512 .f32) (V : ℕ → EReal) (a : ℕ) (ha : a + 256 ≤ 2048)
    (j : Fin 128) (hj : j.val < 8)
    (hV : ∀ q : Fin 256, x (ix2 q ⟨j.val * 64, by omega⟩) - y (ix2 q ⟨j.val * 64, by omega⟩) = V (a + q.val))
    (hf : ∀ n, V n - V n = 0) (hk : k (ix2 0 j) = Spec.tail V (a + 256)) (r : Fin 256) :
    (step k x y : S256x128.Idx → EReal) (ix2 r j) = Spec.tail V (a + r.val) := by
  unfold step
  pointwise [k0_pay46]
  have e1 (q : Fin 256) : ∑ l : Fin 512, (x (ix2 q l) - y (ix2 q l)) * (k0_pay4 (F := Ideal) : S512x128.Idx → EReal) (ix2 l j) = V (a + q.val) :=
    (pick_sum _ j hj).trans (hV q)
  have e2 (q : Fin 256) : ∑ l : Fin 512, (x (ix2 q l) - y (ix2 q l) - (x (ix2 q l) - y (ix2 q l)))
      * (k0_pay4 (F := Ideal) : S512x128.Idx → EReal) (ix2 l j) = 0 :=
    (pick_sum _ j hj).trans (by rw [hV q, hf])
  have e3 (q : Fin 256) : ∑ l : Fin 512, (x (ix2 q l) - y (ix2 q l) - (x (ix2 q l) - y (ix2 q l))
      - (x (ix2 q l) - y (ix2 q l) - (x (ix2 q l) - y (ix2 q l))))
      * (k0_pay4 (F := Ideal) : S512x128.Idx → EReal) (ix2 l j) = 0 :=
    (pick_sum _ j hj).trans (by rw [hV q, hf, sub_zero])
  simp only [e1, e2, e3, add_zero, hf, sub_zero, mul_zero, Finset.sum_const_zero, tri_at]
  rw [hk, Spec.tail_block V a ha r]

theorem first_at (a : FVec Ideal S256x128 .f32) (j : Fin 128) : (first a : S1x128.Idx → EReal) (ix2 0 j) = a (ix2 0 j) := by
  unfold first
  pointwise [k0_pay47]

theorem grad_at (a : FVec Ideal S256x128 .f32) (f b) (r : Fin 256) (j : Fin 128) :
    (grad a f b : S256x128.Idx → EReal) (ix2 r j) = Spec.dgate (a (ix2 r j)) (f (ix2 r j)) (b (ix2 0 j)) j := by
  unfold grad Spec.dgate
  pointwise [k0_pay49, k0_pay48]
  rw [head_word]
  split_ifs <;> rfl

theorem addUp_at (a : FVec Ideal S256x128 .f32) (f b k) (j : Fin 128) : (addUp a f b k : S1x128.Idx → EReal) (ix2 0 j)
    = k (ix2 0 j) + ∑ r : Fin 256, Spec.dgate (a (ix2 r j)) (f (ix2 r j)) (b (ix2 0 j)) j := by
  unfold addUp Spec.dgate
  pointwise [k0_pay50, k0_pay48]
  rw [head_word]
  split_ifs <;> rfl

variable (x0 x1 : Vec Ideal S2048x512 .f32) (V : ℕ → EReal) (j : Fin 128) (hj : j.val < 8)
  (hV : ∀ n : Fin 2048, x1 (ix2 n ⟨j.val * 64, by omega⟩) - x0 (ix2 n ⟨j.val * 64, by omega⟩) = V n.val)
  (hf : ∀ n, V n - V n = 0)
include hV hf

theorem A7_at (r : Fin 256) : (A7 x0 x1 : S256x128.Idx → EReal) (ix2 r j) = Spec.tail V (1792 + r.val) := by
  refine step_at _ _ _ V 1792 (by decide) j hj (fun q => ?_) hf ?_ r
  · rw [← hV ⟨1792 + q.val, by omega⟩]
    pointwise
  · rw [Spec.tail_end]
    pointwise [k0_pay6]

theorem A6_at (r : Fin 256) : (A6 x0 x1 : S256x128.Idx → EReal) (ix2 r j) = Spec.tail V (1536 + r.val) := by
  refine step_at _ _ _ V 1536 (by decide) j hj (fun q => ?_) hf ?_ r
  · rw [← hV ⟨1536 + q.val, by omega⟩]
    pointwise
  · exact (first_at _ j).trans (A7_at x0 x1 V j hj hV hf 0)

theorem A5_at (r : Fin 256) : (A5 x0 x1 : S256x128.Idx → EReal) (ix2 r j) = Spec.tail V (1280 + r.val) := by
  refine step_at _ _ _ V 1280 (by decide) j hj (fun q => ?_) hf ?_ r
  · rw [← hV ⟨1280 + q.val, by omega⟩]
    pointwise
  · exact (first_at _ j).trans (A6_at x0 x1 V j hj hV hf 0)

theorem A4_at (r : Fin 256) : (A4 x0 x1 : S256x128.Idx → EReal) (ix2 r j) = Spec.tail V (1024 + r.val) := by
  refine step_at _ _ _ V 1024 (by decide) j hj (fun q => ?_) hf ?_ r
  · rw [← hV ⟨1024 + q.val, by omega⟩]
    pointwise
  · exact (first_at _ j).trans (A5_at x0 x1 V j hj hV hf 0)

theorem A3_at (r : Fin 256) : (A3 x0 x1 : S256x128.Idx → EReal) (ix2 r j) = Spec.tail V (768 + r.val) := by
  refine step_at _ _ _ V 768 (by decide) j hj (fun q => ?_) hf ?_ r
  · rw [← hV ⟨768 + q.val, by omega⟩]
    pointwise
  · exact (first_at _ j).trans (A4_at x0 x1 V j hj hV hf 0)

theorem A2_at (r : Fin 256) : (A2 x0 x1 : S256x128.Idx → EReal) (ix2 r j) = Spec.tail V (512 + r.val) := by
  refine step_at _ _ _ V 512 (by decide) j hj (fun q => ?_) hf ?_ r
  · rw [← hV ⟨512 + q.val, by omega⟩]
    pointwise
  · exact (first_at _ j).trans (A3_at x0 x1 V j hj hV hf 0)

theorem A1_at (r : Fin 256) : (A1 x0 x1 : S256x128.Idx → EReal) (ix2 r j) = Spec.tail V (256 + r.val) := by
  refine step_at _ _ _ V 256 (by decide) j hj (fun q => ?_) hf ?_ r
  · rw [← hV ⟨256 + q.val, by omega⟩]
    pointwise
  · exact (first_at _ j).trans (A2_at x0 x1 V j hj hV hf 0)

theorem A0_at (r : Fin 256) : (A0 x0 x1 : S256x128.Idx → EReal) (ix2 r j) = Spec.tail V (0 + r.val) := by
  refine step_at _ _ _ V 0 (by decide) j hj (fun q => ?_) hf ?_ r
  · rw [← hV ⟨0 + q.val, by omega⟩]
    pointwise
  · exact (first_at _ j).trans (A1_at x0 x1 V j hj hV hf 0)

end Cert.FoxPostIdeal.Result
end
-- ==== Proof.FoxPost.lean ====
module

public import proofs.«01_k».proof.Proof.Gen.FoxPostIdeal.Value
public import Idealize.ShloMosaic.Lib.Pipeline.ReadBack
public import proofs.«01_k».proof.Proof.FoxPostAt

@[expose] public section

set_option maxRecDepth 16384

noncomputable section

/-! # Back through the forget gate and its scan: what the kernel leaves in its results -/

namespace Cert.FoxPostIdeal.Result

open Cert.FoxPostIdeal Cert.FoxPostIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The column side's and the row side's gradients, the gate's pre-activations and its bias, on device `c`. -/
abbrev D0 : Spec.A2 4096 512 := m ((c : Thread nD τ).loc main_arg0)
abbrev D1 : Spec.A2 4096 512 := m ((c : Thread nD τ).loc main_arg1)
abbrev D2 : Spec.A2 4096 128 := m ((c : Thread nD τ).loc main_arg2)
abbrev D3 : Spec.A2 1 128 := m ((c : Thread nD τ).loc main_arg3)

/-- The windows' blocks by the grid point: one sequence of 2048 rows each. -/
theorem idx (t : Fin cfg0.N) :
    win0_0.index t = ![t.val, 0] ∧ win0_1.index t = ![t.val, 0] ∧ win0_2.index t = ![t.val, 0]
    ∧ win0_3.index t = ![0, 0] ∧ win0_4.index t = ![t.val, 0] ∧ win0_5.index t = ![0, 0] :=
  (by decide +kernel : ∀ t : Fin cfg0.N,
    win0_0.index t = ![t.val, 0] ∧ win0_1.index t = ![t.val, 0] ∧ win0_2.index t = ![t.val, 0]
    ∧ win0_3.index t = ![0, 0] ∧ win0_4.index t = ![t.val, 0] ∧ win0_5.index t = ![0, 0]) t

/-- Row `r` of point `t`'s block. -/
abbrev row (t : Fin cfg0.N) (r : Fin 2048) : Fin 4096 :=
  ⟨t.val * 2048 + r.val, by have := t.isLt; have : cfg0.N = 2 := N_0; omega⟩

theorem b0 (t : Fin cfg0.N) (x : S2048x512.Idx) :
    (iblk m c 0 t : S2048x512.Idx → EReal) x = D0 m c (ix2 (row t (x 0)) (x 1)) := by
  blk_ext [iblk, V, idx t]
theorem b1 (t : Fin cfg0.N) (x : S2048x512.Idx) :
    (iblk m c 1 t : S2048x512.Idx → EReal) x = D1 m c (ix2 (row t (x 0)) (x 1)) := by
  blk_ext [iblk, V, idx t]
theorem b2 (t : Fin cfg0.N) (x : S2048x128.Idx) :
    (iblk m c 2 t : S2048x128.Idx → EReal) x = D2 m c (ix2 (row t (x 0)) (x 1)) := by
  blk_ext [iblk, V, idx t]
theorem b3 (t : Fin cfg0.N) (x : S1x128.Idx) : (iblk m c 3 t : S1x128.Idx → EReal) x = D3 m c x := by
  blk_ext [iblk, V, idx t]

/-- The block of the gate's gradient over the arrays of one block. -/
def blockDf (D : Fin 128 → ℕ → EReal) (X2 : Vec Ideal S2048x128 .f32) (b : Vec Ideal S1x128 .f32) (y : S2048x128.Idx) : EReal :=
  Spec.dgate (Spec.tail (D (y 1)) (y 0).val) (X2 y) (b (ix2 0 (y 1))) (y 1)

theorem dgate_congr {s s' : EReal} (f b : EReal) {j : Fin 128} (h : j.val < 8 → s = s') : Spec.dgate s f b j = Spec.dgate s' f b j := by
  unfold Spec.dgate
  split_ifs with hj
  · rw [h hj]
  · rfl

variable {D : Fin 128 → ℕ → EReal} {X2 : Vec Ideal S2048x128 .f32} {b : Vec Ideal S1x128 .f32}

/-- One strip of 256 rows of the gate's gradient. -/
theorem strip {a : FVec Ideal S256x128 .f32} {o : ℕ} (ho : o + 256 ≤ 2048)
    (ha : ∀ (j : Fin 128), j.val < 8 → ∀ r : Fin 256, (a : S256x128.Idx → EReal) (ix2 r j) = Spec.tail (D j) (o + r.val))
    (inb : ∀ d, (![o, 0] : Fin 2 → ℕ) d + (![256, 128] : Fin 2 → ℕ) d ≤ S2048x128.size d) (x : S256x128.Idx) :
    (grad a (View.ld X2 (Rect.unit (s := S2048x128) ![o, 0] ![256, 128] inb)) b : S256x128.Idx → EReal) x
      = blockDf D X2 b ((Rect.unit (s := S2048x128) ![o, 0] ![256, 128] inb).emb x) := by
  obtain ⟨r, j, rfl⟩ : ∃ (r : Fin 256) (j : Fin 128), x = ix2 r j := ⟨x 0, x 1, by blk_ext⟩
  have e : (Rect.unit (s := S2048x128) ![o, 0] ![256, 128] inb).emb (ix2 r j) = (ix2 ⟨o + r.val, by omega⟩ j : S2048x128.Idx) := by
    funext d; apply Fin.ext
    match d with
    | 0 => show o + 1 * r.val = o + r.val; omega
    | 1 => show 0 + 1 * j.val = j.val; omega
  have el : View.ld X2 (Rect.unit (s := S2048x128) ![o, 0] ![256, 128] inb) (ix2 r j) = X2 (ix2 ⟨o + r.val, by omega⟩ j) := congrArg X2 e
  rw [grad_at, e, el]
  exact dgate_congr _ _ fun hj => ha j hj r

/-- What a strip adds to the bias's gradient. -/
theorem stripAdd {a : FVec Ideal S256x128 .f32} {o : ℕ} (ho : o + 256 ≤ 2048)
    (ha : ∀ (j : Fin 128), j.val < 8 → ∀ r : Fin 256, (a : S256x128.Idx → EReal) (ix2 r j) = Spec.tail (D j) (o + r.val))
    (inb : ∀ d, (![o, 0] : Fin 2 → ℕ) d + (![256, 128] : Fin 2 → ℕ) d ≤ S2048x128.size d) (k : Vec Ideal S1x128 .f32) (j : Fin 128) :
    (addUp a (View.ld X2 (Rect.unit (s := S2048x128) ![o, 0] ![256, 128] inb)) b k : S1x128.Idx → EReal) (ix2 0 j)
      = k (ix2 0 j) + ∑ r : Fin 256, blockDf D X2 b (ix2 ⟨o + r.val, by omega⟩ j) := by
  rw [addUp_at]
  congr 1
  refine Finset.sum_congr rfl fun r _ => ?_
  rw [← grad_at, strip ho ha inb]
  refine congrArg (blockDf D X2 b) ?_
  funext d; apply Fin.ext
  match d with
  | 0 => show o + 1 * r.val = o + r.val; omega
  | 1 => show 0 + 1 * j.val = j.val; omega

variable (hfin : Spec.FiniteIn (D0 m c) (D1 m c))

/-- What is summed along the sequence of point `t`. -/
abbrev W (t : Fin cfg0.N) (j : Fin 128) : ℕ → EReal := Spec.scanIn (D0 m c) (D1 m c) t.val j

theorem difference (t : Fin cfg0.N) (j : Fin 128) (hj : j.val < 8) (n : Fin 2048) :
    HSub.hSub (α := EReal) (β := EReal) (γ := EReal) ((iblk m c 1 t : S2048x512.Idx → EReal) (ix2 n ⟨j.val * 64, by omega⟩))
      ((iblk m c 0 t : S2048x512.Idx → EReal) (ix2 n ⟨j.val * 64, by omega⟩)) = W m c t j n.val := by
  rw [b0, b1]
  unfold W Spec.scanIn
  rw [dif_pos ⟨(row t n).isLt, hj⟩]
  rfl

include hfin
theorem a0 (t : Fin cfg0.N) (j : Fin 128) (hj : j.val < 8) (r : Fin 256) :
    (A0 (iblk m c 0 t) (iblk m c 1 t) : S256x128.Idx → EReal) (ix2 r j) = Spec.tail (W m c t j) (0 + r.val) :=
  A0_at _ _ _ j hj (difference m c t j hj) (hfin.parts t.val j) r
theorem a1 (t : Fin cfg0.N) (j : Fin 128) (hj : j.val < 8) (r : Fin 256) :
    (A1 (iblk m c 0 t) (iblk m c 1 t) : S256x128.Idx → EReal) (ix2 r j) = Spec.tail (W m c t j) (256 + r.val) :=
  A1_at _ _ _ j hj (difference m c t j hj) (hfin.parts t.val j) r
theorem a2 (t : Fin cfg0.N) (j : Fin 128) (hj : j.val < 8) (r : Fin 256) :
    (A2 (iblk m c 0 t) (iblk m c 1 t) : S256x128.Idx → EReal) (ix2 r j) = Spec.tail (W m c t j) (512 + r.val) :=
  A2_at _ _ _ j hj (difference m c t j hj) (hfin.parts t.val j) r
theorem a3 (t : Fin cfg0.N) (j : Fin 128) (hj : j.val < 8) (r : Fin 256) :
    (A3 (iblk m c 0 t) (iblk m c 1 t) : S256x128.Idx → EReal) (ix2 r j) = Spec.tail (W m c t j) (768 + r.val) :=
  A3_at _ _ _ j hj (difference m c t j hj) (hfin.parts t.val j) r
theorem a4 (t : Fin cfg0.N) (j : Fin 128) (hj : j.val < 8) (r : Fin 256) :
    (A4 (iblk m c 0 t) (iblk m c 1 t) : S256x128.Idx → EReal) (ix2 r j) = Spec.tail (W m c t j) (1024 + r.val) :=
  A4_at _ _ _ j hj (difference m c t j hj) (hfin.parts t.val j) r
theorem a5 (t : Fin cfg0.N) (j : Fin 128) (hj : j.val < 8) (r : Fin 256) :
    (A5 (iblk m c 0 t) (iblk m c 1 t) : S256x128.Idx → EReal) (ix2 r j) = Spec.tail (W m c t j) (1280 + r.val) :=
  A5_at _ _ _ j hj (difference m c t j hj) (hfin.parts t.val j) r
theorem a6 (t : Fin cfg0.N) (j : Fin 128) (hj : j.val < 8) (r : Fin 256) :
    (A6 (iblk m c 0 t) (iblk m c 1 t) : S256x128.Idx → EReal) (ix2 r j) = Spec.tail (W m c t j) (1536 + r.val) :=
  A6_at _ _ _ j hj (difference m c t j hj) (hfin.parts t.val j) r
theorem a7 (t : Fin cfg0.N) (j : Fin 128) (hj : j.val < 8) (r : Fin 256) :
    (A7 (iblk m c 0 t) (iblk m c 1 t) : S256x128.Idx → EReal) (ix2 r j) = Spec.tail (W m c t j) (1792 + r.val) :=
  A7_at _ _ _ j hj (difference m c t j hj) (hfin.parts t.val j) r
omit hfin

theorem block_eq (t : Fin cfg0.N) (y : S2048x128.Idx) :
    blockDf (W m c t) (iblk m c 2 t) (iblk m c 3 t) y = Spec.foxDf (D0 m c) (D1 m c) (D2 m c) (D3 m c) (ix2 (row t (y 0)) (y 1)) := by
  unfold blockDf Spec.foxDf
  rw [b2, b3]
  have h := (y 0).isLt
  have e1 : (t.val * 2048 + (y 0).val) / 2048 = t.val := by
    have : S2048x128.size 0 = 2048 := rfl
    omega
  have e2 : (t.val * 2048 + (y 0).val) % 2048 = (y 0).val := by
    have : S2048x128.size 0 = 2048 := rfl
    omega
  show _ = Spec.dgate (Spec.tail (Spec.scanIn _ _ ((t.val * 2048 + (y 0).val) / 2048) (y 1)) ((t.val * 2048 + (y 0).val) % 2048)) _ _ _
  rw [e1, e2]
  rfl

include hfin in
theorem block4 (t : Fin cfg0.N) (y : S2048x128.Idx) :
    (outsAt0 m c t.val t.isLt).1 y = blockDf (W m c t) (iblk m c 2 t) (iblk m c 3 t) y := by
  by_cases h0 : t.val % 2 = 0
  · rw [outsAt0_A m c t h0]
    frame_out
    simp only [first_7, grad_7, add_7, first_6, grad_6, add_6, after_5, first_5, grad_5, add_5, first_4, grad_4, add_4,
      first_3, grad_3, add_3, after_2, first_2, grad_2, add_2, first_1, grad_1, add_1, grad_0, add_0]
    refine View.canon_apply_of_pieces (Val := Elt Ideal) (e := .bf16) (blockDf (W m c t) (iblk m c 2 t) (iblk m c 3 t)) _ (?_) y
      (View.cover_of_tiledL (s := S2048x128) _ S256x128.size (by sl_kernel_rfl) y)
    exact List.forall_mem_cons.mpr ⟨fun x => strip (by decide) (a0 m c hfin t) _ x,
      List.forall_mem_cons.mpr ⟨fun x => strip (by decide) (a1 m c hfin t) _ x,
      List.forall_mem_cons.mpr ⟨fun x => strip (by decide) (a2 m c hfin t) _ x,
      List.forall_mem_cons.mpr ⟨fun x => strip (by decide) (a3 m c hfin t) _ x,
      List.forall_mem_cons.mpr ⟨fun x => strip (by decide) (a4 m c hfin t) _ x,
      List.forall_mem_cons.mpr ⟨fun x => strip (by decide) (a5 m c hfin t) _ x,
      List.forall_mem_cons.mpr ⟨fun x => strip (by decide) (a6 m c hfin t) _ x,
      List.forall_mem_cons.mpr ⟨fun x => strip (by decide) (a7 m c hfin t) _ x,
      fun p hp => absurd hp List.not_mem_nil⟩⟩⟩⟩⟩⟩⟩⟩
  · rw [outsAt0_B m c t h0]
    frame_out
    simp only [first_7, grad_7, add_7, first_6, grad_6, add_6, after_5, first_5, grad_5, add_5, first_4, grad_4, add_4,
      first_3, grad_3, add_3, after_2, first_2, grad_2, add_2, first_1, grad_1, add_1, grad_0, add_0]
    refine View.canon_apply_of_pieces (Val := Elt Ideal) (e := .bf16) (blockDf (W m c t) (iblk m c 2 t) (iblk m c 3 t)) _ (?_) y
      (View.cover_of_tiledL (s := S2048x128) _ S256x128.size (by sl_kernel_rfl) y)
    exact List.forall_mem_cons.mpr ⟨fun x => strip (by decide) (a0 m c hfin t) _ x,
      List.forall_mem_cons.mpr ⟨fun x => strip (by decide) (a1 m c hfin t) _ x,
      List.forall_mem_cons.mpr ⟨fun x => strip (by decide) (a2 m c hfin t) _ x,
      List.forall_mem_cons.mpr ⟨fun x => strip (by decide) (a3 m c hfin t) _ x,
      List.forall_mem_cons.mpr ⟨fun x => strip (by decide) (a4 m c hfin t) _ x,
      List.forall_mem_cons.mpr ⟨fun x => strip (by decide) (a5 m c hfin t) _ x,
      List.forall_mem_cons.mpr ⟨fun x => strip (by decide) (a6 m c hfin t) _ x,
      List.forall_mem_cons.mpr ⟨fun x => strip (by decide) (a7 m c hfin t) _ x,
      fun p hp => absurd hp List.not_mem_nil⟩⟩⟩⟩⟩⟩⟩⟩

include hfin in
theorem out4 : (dats m 0 c).arrAt 4 cfg0.N = Spec.foxDf (D0 m c) (D1 m c) (D2 m c) (D3 m c) := by
  refine (dats m 0 c).arrAt_eq_of_covers 4 _ (by decide +kernel) fun t hf y => ?_
  have e : ((cfg0.win 4).blk t).view.emb y = ix2 (row t (y 0)) (y 1) := by blk_ext [idx t]
  rw [e]
  blk_simp
  rw [after0_4]
  exact (block4 m c hfin t y).trans (block_eq m c t y)

/-! ## The gradient of the bias, added up over the strips and over the grid -/

/-- What point `t` adds. -/
def term (t : Fin cfg0.N) (j : S1x128.Idx) : EReal :=
  ∑ r : Fin 2048, Spec.foxDf (D0 m c) (D1 m c) (D2 m c) (D3 m c) (ix2 (row t r) (j 1))

theorem turn (k a b c d e f g h : EReal) : k + h + g + f + e + d + c + b + a = k + (a + b + c + d + e + f + g + h) := by abel

/-- Eight strips, the last one first, are a block. -/
theorem strips (f : Fin 2048 → EReal) (k : EReal) :
    k + (∑ r : Fin 256, f ⟨1792 + r.val, by omega⟩) + (∑ r : Fin 256, f ⟨1536 + r.val, by omega⟩)
      + (∑ r : Fin 256, f ⟨1280 + r.val, by omega⟩) + (∑ r : Fin 256, f ⟨1024 + r.val, by omega⟩)
      + (∑ r : Fin 256, f ⟨768 + r.val, by omega⟩) + (∑ r : Fin 256, f ⟨512 + r.val, by omega⟩)
      + (∑ r : Fin 256, f ⟨256 + r.val, by omega⟩) + (∑ r : Fin 256, f ⟨0 + r.val, by omega⟩) = k + ∑ r : Fin 2048, f r := by
  rw [Spec.sum_rows 8 256 f]
  exact (turn _ _ _ _ _ _ _ _ _).trans (congrArg (k + ·) (Fin.sum_univ_eight
    (fun i : Fin 8 => ∑ r : Fin 256, f ⟨i.val * 256 + r.val, by omega⟩)).symm)

include hfin in
theorem acc_first (t : Fin cfg0.N) (h : t.val % 2 = 0) (j : S1x128.Idx) :
    (outsAt0 m c t.val t.isLt).2 j = 0 + term m c t j := by
  obtain ⟨z, j, rfl⟩ : ∃ (z : Fin 1) (q : Fin 128), j = ix2 z q := ⟨j 0, j 1, by blk_ext⟩
  obtain rfl : z = 0 := Subsingleton.elim _ _
  rw [outsAt0_A m c t h]
  frame_out
  simp only [first_7, first_6, after_5, first_5, first_4, first_3, after_2, first_2, first_1]
  rw [add_7, add_6, add_5, add_4, add_3, add_2, add_1, add_0]
  rw [stripAdd (by decide) (a0 m c hfin t), stripAdd (by decide) (a1 m c hfin t), stripAdd (by decide) (a2 m c hfin t), stripAdd (by decide) (a3 m c hfin t), stripAdd (by decide) (a4 m c hfin t), stripAdd (by decide) (a5 m c hfin t), stripAdd (by decide) (a6 m c hfin t), stripAdd (by decide) (a7 m c hfin t)]
  refine (strips (fun r => blockDf (W m c t) (iblk m c 2 t) (iblk m c 3 t) (ix2 r j)) _).trans ?_
  refine congrArg₂ (· + ·) (by pointwise [k0_pay6]) (Finset.sum_congr rfl fun r _ => block_eq m c t _)

include hfin in
theorem acc_next (t : Fin cfg0.N) (h : ¬t.val % 2 = 0) (j : S1x128.Idx) :
    (outsAt0 m c t.val t.isLt).2 j
      = (outsAt0 m c (t.val - 1) (Nat.lt_of_le_of_lt (Nat.sub_le _ _) t.isLt)).2 j + term m c t j := by
  obtain ⟨z, j, rfl⟩ : ∃ (z : Fin 1) (q : Fin 128), j = ix2 z q := ⟨j 0, j 1, by blk_ext⟩
  obtain rfl : z = 0 := Subsingleton.elim _ _
  rw [outsAt0_B m c t h]
  frame_out
  simp only [first_7, first_6, after_5, first_5, first_4, first_3, after_2, first_2, first_1]
  rw [add_7, add_6, add_5, add_4, add_3, add_2, add_1, add_0]
  rw [stripAdd (by decide) (a0 m c hfin t), stripAdd (by decide) (a1 m c hfin t), stripAdd (by decide) (a2 m c hfin t), stripAdd (by decide) (a3 m c hfin t), stripAdd (by decide) (a4 m c hfin t), stripAdd (by decide) (a5 m c hfin t), stripAdd (by decide) (a6 m c hfin t), stripAdd (by decide) (a7 m c hfin t)]
  refine (strips (fun r => blockDf (W m c t) (iblk m c 2 t) (iblk m c 3 t) (ix2 r j)) _).trans ?_
  exact congrArg₂ (· + ·) rfl (Finset.sum_congr rfl fun r _ => block_eq m c t _)

include hfin in
theorem out5 : (dats m 0 c).arrAt 5 cfg0.N = Spec.foxDb (D0 m c) (D1 m c) (D2 m c) (D3 m c) := by
  refine (dats m 0 c).arrAt_eq_of_after_last 5 t0_1 (by decide +kernel) _ fun j => ?_
  blk_simp
  rw [after0_5]
  refine (Pipeline.eq_sum_fin_of_reset_step_apply_last (fun n h => (outsAt0 m c n h).2) 2 (fun _ => (0 : EReal)) (term m c)
    (acc_first m c hfin) (acc_next m c hfin) (by decide) t0_1 rfl j).trans ?_
  rw [zero_add]
  exact (Spec.sum_rows 2 2048 fun r => Spec.foxDf (D0 m c) (D1 m c) (D2 m c) (D3 m c) (ix2 r (j 1))).symm

end Cert.FoxPostIdeal.Result

end
-- ==== Proof.FoxPostRef.lean ====
module

public import proofs.«01_k».proof.Proof.FoxPostSpec
public import proofs.«01_k».proof.Proof.Gen.FoxPostRefIdeal.Run
public import proofs.«01_k».proof.Proof.Gen.FoxPostRefIdeal.Read
public import Idealize.ShloMosaic.Lib.Pipeline.ValueKit
public import Idealize.ShloMosaic.Lib.Pointwise

@[expose] public section

set_option maxRecDepth 16384

noncomputable section

/-! # Back through the forget gate and its scan: the reference's results are the same functions of its arguments -/

namespace Cert.FoxPostRefIdeal.Result

open Cert.FoxPostRefIdeal Cert.FoxPostRefIdeal.Gen Idealize.ShloMosaic Idealize.ShloMosaic.TcCoe Idealize.SL.Sem

theorem foldl_add {ι : Type} (g : ι → EReal) (L : List ι) (v : EReal) : L.foldl (fun r n => r + g n) v = v + (L.map g).sum := by
  induction L generalizing v with
  | nil => simp
  | cons a L ih => simp only [List.foldl_cons, ih, List.map_cons, List.sum_cons, add_assoc]

/-- A window of 2048 rows that starts at row `n` sums the rows from `n` on. -/
theorem window (x : FVec Ideal S2x2048x8 .f32) (z : FVec Ideal S_ .f32) (hz : z (Shape.Idx.first h_S_) = 0) (s : Fin 2) (n : Fin 2048) (h : Fin 8) :
    (Host.reduceWindowAdd ![1, 2048, 1] ![1, 1, 1] ![0, 0, 0] ![0, 2047, 0] x z
      reduceWindows_S2x2048x8_S2x2048x8_w1s1p0_0_w2048s1p0_2047_w1s1p0_0 h_S_ : S2x2048x8.Idx → EReal) (ix3 s n h)
      = ∑ w : Fin 2048, if hw : n.val + w.val < 2048 then x (ix3 s ⟨n.val + w.val, hw⟩ h) else 0 := by
  unfold Host.reduceWindowAdd
  rw [hz, Ideal.hostReduceWindowAdd_def]
  unfold Ideal.hostReduceWindowAdd Host.reduceWindow
  dsimp only
  rw [foldl_add, zero_add, ← Fin.sum_univ_def]
  refine Fintype.sum_equiv ((Shape.rowMajor (⟨3, ![1, 2048, 1]⟩ : Shape)).symm.trans
    (⟨fun i => i 1, fun w => ix3 0 w 0, fun i => by blk_ext, fun w => rfl⟩ : (⟨3, ![1, 2048, 1]⟩ : Shape).Idx ≃ Fin 2048)) _ _ fun i => ?_
  obtain ⟨p, rfl⟩ : ∃ p, i = Shape.rowMajor (⟨3, ![1, 2048, 1]⟩ : Shape) p := ⟨_, (Equiv.apply_symm_apply _ _).symm⟩
  obtain ⟨w, rfl⟩ : ∃ w : Fin 2048, p = ix3 0 w 0 := ⟨p 1, by blk_ext⟩
  simp only [Equiv.trans_apply, Equiv.symm_apply_apply]
  change _ = if hw : n.val + w.val < 2048 then x (ix3 s ⟨n.val + w.val, hw⟩ h) else 0
  by_cases hw : n.val + w.val < 2048
  · rw [dif_pos hw, dif_pos (fun a => match a with
      | 0 => ⟨Nat.zero_le _, by show s.val * 1 + 0 - 0 < 2; omega⟩
      | 1 => ⟨Nat.zero_le _, by show n.val * 1 + w.val - 0 < 2048; omega⟩
      | 2 => ⟨Nat.zero_le _, by show h.val * 1 + 0 - 0 < 8; omega⟩)]
    refine congrArg x (funext fun a => Fin.ext ?_)
    match a with
    | 0 => show s.val * 1 + 0 - 0 = s.val; omega
    | 1 => show n.val * 1 + w.val - 0 = n.val + w.val; omega
    | 2 => show h.val * 1 + 0 - 0 = h.val; omega
  · rw [dif_neg hw, dif_neg (fun hc => hw (by
      have h1 : n.val * 1 + w.val - 0 < 2048 := (hc 1).2
      omega))]

/-- … and so is the sum of a sequence from there to its end. -/
theorem window_tail (V : ℕ → EReal) (n : ℕ) :
    ∑ w : Fin 2048, (if n + w.val < 2048 then V (n + w.val) else 0) = Spec.tail V n := by
  unfold Spec.tail
  rw [Finset.sum_Ico_eq_sum_range, Fin.sum_univ_eq_sum_range (fun w => if n + w < 2048 then V (n + w) else 0) 2048,
    ← Finset.sum_subset (Finset.range_mono (Nat.sub_le 2048 n))]
  · exact Finset.sum_congr rfl fun w hw => if_pos (by have := Finset.mem_range.1 hw; omega)
  · intro w _ hw
    exact if_neg (by have : ¬w < 2048 - n := fun h => hw (Finset.mem_range.2 h); omega)

variable (x0 : (⟨S4096x512, .f32⟩ : BufTy).Contents (Elt Ideal)) (x1 : (⟨S4096x512, .f32⟩ : BufTy).Contents (Elt Ideal))
  (x2 : (⟨S4096x128, .f32⟩ : BufTy).Contents (Elt Ideal)) (x3 : (⟨S1x128, .f32⟩ : BufTy).Contents (Elt Ideal))

theorem zero_word : (FloatOps.sitofp (F := Ideal) .f32 0#32 : EReal) = 0 := by
  show (((0 : ℤ) : ℝ) : EReal) = 0
  norm_num

/-- The slope of the gate's logarithm, as the reference's backward pass has it: `e ^ (n - log (1 + e ^ n))`. -/
theorem slope (n : EReal) :
    Ideal.exp ((if n = ⊤ then 0 else n) - (if max n 0 + Ideal.log1p (Ideal.exp (-max n (-n))) = ⊤ then 0
      else max n 0 + Ideal.log1p (Ideal.exp (-max n (-n))))) = Ideal.logistic n := by
  induction n with
  | bot =>
    have e : Ideal.log1p (Ideal.exp (-max ⊥ (-⊥))) = 0 := by
      rw [EReal.neg_bot, max_eq_right bot_le, EReal.neg_top]
      show Ideal.log (1 + 0) = 0
      rw [add_zero]
      show (if (1 : ℝ) ≤ 0 then ⊥ else ((Real.log 1 : ℝ) : EReal)) = 0
      rw [if_neg (by norm_num), Real.log_one, EReal.coe_zero]
    rw [e, max_eq_right bot_le, add_zero, if_neg EReal.zero_ne_top, if_neg bot_ne_top, sub_zero, Ideal.logistic_bot]
    rfl
  | top =>
    have e : Ideal.log1p (Ideal.exp (-max ⊤ (-⊤))) = 0 := by
      rw [max_eq_left le_top, EReal.neg_top]
      show Ideal.log (1 + 0) = 0
      rw [add_zero]
      show (if (1 : ℝ) ≤ 0 then ⊥ else ((Real.log 1 : ℝ) : EReal)) = 0
      rw [if_neg (by norm_num), Real.log_one, EReal.coe_zero]
    rw [e, max_eq_left le_top, add_zero, if_pos rfl, sub_zero, Ideal.logistic_top]
    show ((Real.exp 0 : ℝ) : EReal) = 1
    rw [Real.exp_zero, EReal.coe_one]
  | coe r =>
    have e : Ideal.log1p (Ideal.exp (-max (r : EReal) (-r))) = ((Real.log (1 + Real.exp (-|r|)) : ℝ) : EReal) := by
      have e0 : -max (r : EReal) (-r) = ((-|r| : ℝ) : EReal) := by
        rw [← EReal.coe_neg, ← EReal.coe_strictMono.monotone.map_max, ← EReal.coe_neg]
        rfl
      rw [e0]
      show Ideal.log (((1 : ℝ) : EReal) + ((Real.exp (-|r|) : ℝ) : EReal)) = _
      rw [← EReal.coe_add]
      show (if 1 + Real.exp (-|r|) ≤ 0 then ⊥ else ((Real.log (1 + Real.exp (-|r|)) : ℝ) : EReal)) = _
      rw [if_neg (not_le.2 (by positivity))]
    have em : max (r : EReal) 0 = ((max r 0 : ℝ) : EReal) := by rw [EReal.coe_strictMono.monotone.map_max, EReal.coe_zero]
    rw [e, em, ← EReal.coe_add, if_neg (EReal.coe_ne_top _), if_neg (EReal.coe_ne_top _), ← EReal.coe_sub, Ideal.logistic_coe]
    show ((Real.exp _ : ℝ) : EReal) = _
    congr 1
    rw [Real.exp_sub, Real.exp_add, Real.exp_log (by positivity)]
    rcases le_total 0 r with h | h
    · rw [max_eq_left h, abs_of_nonneg h]
      have := Real.exp_pos r
      have : 0 < 1 + Real.exp (-r) := by positivity
      field_simp
    · rw [max_eq_right h, abs_of_nonpos h, neg_neg, Real.exp_zero, Real.exp_neg]
      have := Real.exp_pos r
      have : 0 < 1 + Real.exp r := by positivity
      field_simp
      ring

theorem inf_word : Ideal.ofBits .f32 2139095040#32 = ⊤ := by simp [Ideal.ofBits, Ideal.ieee]

theorem df_pos (r : Fin 4096) (j : Fin 128) (h : j.val < 8) : Spec.foxDf x0 x1 x2 x3 (ix2 r j)
    = Spec.tail (Spec.scanIn x0 x1 (r.val / 2048) j) (r.val % 2048) * Ideal.logistic (0 - (x2 (ix2 r j) + x3 (ix2 0 j))) := if_pos h
theorem df_neg (r : Fin 4096) (j : Fin 128) (h : ¬j.val < 8) : Spec.foxDf x0 x1 x2 x3 (ix2 r j) = 0 := if_neg h

theorem slope_at (r : Fin 4096) (j : Fin 8) :
    (Read.val_main_v7_1 x2 x3 : S4096x8.Idx → EReal) (ix2 r j)
      = Ideal.logistic (0 - (x2 (ix2 r ⟨j.val, by omega⟩) + x3 (ix2 0 ⟨j.val, by omega⟩))) := by
  unfold Read.val_main_v7_1 Read.val_main_call0_call0_v21 Read.val_main_call0_call0_v20
    Read.val_main_call0_call0_v19 Read.val_main_call0_call0_cst_3 Read.val_main_call0_call0_v18
    Read.val_main_call0_call0_v17 Read.val_main_call0_call0_cst_2 Read.val_main_call0_v1_0
    Read.val_main_call0_call0_v11 Read.val_main_call0_call0_v10 Read.val_main_call0_call0_v9
    Read.val_main_call0_call0_v8 Read.val_main_call0_call0_v7 Read.val_main_call0_call0_v1
    Read.val_main_call0_call0_v0 Read.val_main_call0_call0_v6 Read.val_main_call0_call0_v5
    Read.val_main_call0_call0_v4 Read.val_main_call0_call0_v3 Read.val_main_call0_call0_v2
    Read.val_main_call0_call0_cst Read.val_main_call0_call0_v16 Read.val_main_call0_call0_v15
    Read.val_main_call0_call0_cst_1 Read.val_main_call0_call0_v14 Read.val_main_call0_call0_v13
    Read.val_main_call0_call0_cst_0 Read.val_main_call0_v0 Read.val_main_v6 Read.val_main_v5 Read.val_main_v4
    Read.val_main_v3
  pointwise
  rw [zero_sub, inf_word]
  generalize -(x2 (ix2 r ⟨j.val, _⟩) + x3 (ix2 0 ⟨j.val, _⟩)) = n
  simp only [ne_eq, not_true, if_false]
  exact slope n

theorem differences (s : Fin 2) (n : Fin 2048) (j : Fin 8) :
    (Read.val_main_v2 x0 x1 : S2x2048x8.Idx → EReal) (ix3 s n j) = Spec.scanIn x0 x1 s.val ⟨j.val, by omega⟩ n.val := by
  unfold Read.val_main_v2 Read.val_main_v1 Read.val_main_v0
  pointwise
  unfold Spec.scanIn
  rw [dif_pos ⟨by omega, j.isLt⟩]
  have e : (⟨64 * j.val, by omega⟩ : Fin 512) = ⟨j.val * 64, by omega⟩ := Fin.ext (Nat.mul_comm _ _)
  rw [e]

theorem sums (r : Fin 4096) (j : Fin 8) :
    (Read.val_main_v11 x0 x1 : S4096x8.Idx → EReal) (ix2 r j)
      = Spec.tail (Spec.scanIn x0 x1 (r.val / 2048) ⟨j.val, by omega⟩) (r.val % 2048) := by
  rw [Read.val_main_v11_apply]
  have e : Read.idx_main_v11 (ix2 r j) = ix3 ⟨r.val / 2048, by omega⟩ ⟨r.val % 2048, by omega⟩ j := by
    funext a; apply Fin.ext
    match a with
    | 0 => show (r.val * 8 + j.val) / 16384 = r.val / 2048; omega
    | 1 => show (r.val * 8 + j.val) / 8 % 2048 = r.val % 2048; omega
    | 2 => show (r.val * 8 + j.val) % 8 = j.val; omega
  rw [e]
  refine (window _ _ (by unfold Read.val_main_call2_call0_v0 Read.val_main_call2_call0_cst; pointwise) _ _ _).trans ?_
  rw [← window_tail]
  refine Finset.sum_congr rfl fun w _ => ?_
  by_cases hw : r.val % 2048 + w.val < 2048
  · rw [dif_pos hw, if_pos hw, differences]
  · rw [dif_neg hw, if_neg hw]

theorem gradient (r : Fin 4096) (j : Fin 8) :
    (Read.val_main_v12 x0 x1 x2 x3 : S4096x8.Idx → EReal) (ix2 r j)
      = Spec.tail (Spec.scanIn x0 x1 (r.val / 2048) ⟨j.val, by omega⟩) (r.val % 2048)
        * Ideal.logistic (0 - (x2 (ix2 r ⟨j.val, by omega⟩) + x3 (ix2 0 ⟨j.val, by omega⟩))) := by
  rw [Read.val_main_v12_apply, Read.val_main_call3_v1_apply, Read.val_main_call3_v0_apply, slope_at, sums]
  show -(-_ * _) = _
  rw [EReal.neg_mul, neg_neg]

theorem result16 : (Read.val_main_v16 x0 x1 x2 x3 : S4096x128.Idx → EReal) = Spec.foxDf x0 x1 x2 x3 := by
  refine funext fun (i : S4096x128.Idx) => ?_
  obtain ⟨r, j, rfl⟩ : ∃ (r : Fin 4096) (j : Fin 128), i = ix2 r j := ⟨i 0, i 1, by blk_ext⟩
  unfold Read.val_main_v16 Read.val_main_v15 Read.val_main_call4_v0 Read.val_main_c
  pointwise
  by_cases h : j.val < 8
  · rw [dif_pos h, df_pos x0 x1 x2 x3 r j h]
    exact gradient x0 x1 x2 x3 r ⟨j.val, h⟩
  · rw [dif_neg h, df_neg x0 x1 x2 x3 r j h]
    exact zero_word

theorem result17 : (Read.val_main_v17 x0 x1 x2 x3 : S1x128.Idx → EReal) = Spec.foxDb x0 x1 x2 x3 := by
  refine funext fun (i : S1x128.Idx) => ?_
  obtain ⟨r, j, rfl⟩ : ∃ (r : Fin 1) (j : Fin 128), i = ix2 r j := ⟨i 0, i 1, by blk_ext⟩
  unfold Read.val_main_v17 Read.val_main_call5_v0 Read.val_main_c_0 Read.val_main_v14 Read.val_main_v13
    Read.val_main_cst
  pointwise
  show _ = ∑ k : Fin 4096, Spec.foxDf x0 x1 x2 x3 (ix2 k j)
  by_cases h : j.val < 8
  · rw [dif_pos h]
    exact Finset.sum_congr rfl fun k _ => (gradient x0 x1 x2 x3 k ⟨j.val, h⟩).trans (df_pos x0 x1 x2 x3 k j h).symm
  · rw [dif_neg h, Finset.sum_eq_zero fun k _ => df_neg x0 x1 x2 x3 k j h]
    exact zero_word

end Cert.FoxPostRefIdeal.Result
end
-- ==== Proof.FoxPostClaims.lean ====
module
public import proofs.«01_k».proof.Defs
public import proofs.«01_k».proof.Proof.Gen.FoxPost
public import proofs.«01_k».proof.Proof.Gen.FoxPost.Frame
public import proofs.«01_k».proof.Proof.Gen.FoxPostIdeal.Value
public import proofs.«01_k».proof.Proof.Gen.FoxPostRefIdeal.Run
public import proofs.«01_k».proof.Proof.Gen.FoxPostRefIdeal.Read
public import proofs.«01_k».proof.Proof.Gen.Pre_finite_differences
public import proofs.«01_k».proof.Proof.FoxPost
public import proofs.«01_k».proof.Proof.FoxPostRef
public import Idealize.ShloMosaic.Adequacy
public import Idealize.ShloMosaic.Init

@[expose] public section
noncomputable section

/-!
# The backward pass of the forget gate's scan: the claims

The precondition is read once, as the statement that the differences the kernel splits are finite numbers; the rest joins the
two runs at the sums of `FoxPostSpec`.
-/

namespace Cert.Proof.FoxPost
open Idealize.ShloMosaic Idealize.SL.Sem

theorem frame_kernel : Cert.quiescent_FoxPost := fun m ρ _ => Cert.FoxPost.Gen.frame m ρ

theorem frame_kernelIdeal : Cert.quiescent_FoxPostIdeal := fun m ρ _ => Cert.FoxPostIdeal.Gen.frame m ρ

theorem frame_kernelIdeal_finite : Cert.quiescent_FoxPostIdeal_pre_finite_differences := fun m ρ _ => Cert.FoxPostIdeal.Gen.frame m ρ

theorem frame_referenceIdeal : Cert.quiescent_FoxPostRefIdeal := fun m ρ _ =>
  (θ_run Cert.FoxPostRefIdeal.defs _ _).mono (fun r h => ⟨fun c => (h c).2.2, Idealize.ShloMosaic.sem_eq_zero_of_no_sems (by decide) r.2⟩)
    (Cert.FoxPostRefIdeal.Value.run (F := Ideal) m ρ)

theorem frame_referenceIdeal_finite : Cert.quiescent_FoxPostRefIdeal_pre_finite_differences := fun m ρ _ =>
  (θ_run Cert.FoxPostRefIdeal.defs _ _).mono (fun r h => ⟨fun c => (h c).2.2, Idealize.ShloMosaic.sem_eq_zero_of_no_sems (by decide) r.2⟩)
    (Cert.FoxPostRefIdeal.Value.run (F := Ideal) m ρ)

theorem preserves : Cert.preserves_FoxPost_FoxPostIdeal := trivial

/-- A number whose absolute value is below the top element is neither of the two infinite ones. -/
theorem finite_of_abs {v : EReal} (h : max v (-v) < ⊤) : v ≠ ⊤ ∧ v ≠ ⊥ := by
  constructor
  · rintro rfl
    simp at h
  · rintro rfl
    simp at h

/-- What the printed precondition says of the two arrays of sums. -/
theorem finite_of_pre (x0 x1 : Spec.A2 4096 512) (x2 : Spec.A2 4096 128) (x3 : Spec.A2 1 128)
    (h : Cert.Pre_finite_differences.fn (F := Ideal) x0 x1 x2 x3 = fun _ => 1#1) : Spec.FiniteIn x0 x1 := by
  intro r j
  have hp := congrFun h (ix2 r j)
  simp only [Cert.Pre_finite_differences.fn, cmpf, Host.absf, Host.slice, broadcastInDim, constant, subf] at hp
  have e : (fun a : Fin 2 => (⟨(![0, 0] : Fin 2 → ℕ) a + (![1, 64] : Fin 2 → ℕ) a * ((ix2 r j : Cert.Pre_finite_differences.S4096x8.Idx) (Fin.cast rfl a)).val,
      match a with | 0 => by simp | 1 => by have := j.isLt; simp; omega⟩ : Fin ((![4096, 512] : Fin 2 → ℕ) a)))
      = ix2 r ⟨j.val * 64, by omega⟩ :=
    funext fun a => Fin.ext (match a with | 0 => by simp | 1 => by simp [Nat.mul_comm])
  have hv : Ideal.cmp .olt (max (x1 (ix2 r ⟨j.val * 64, by omega⟩) - x0 (ix2 r ⟨j.val * 64, by omega⟩))
      (-(x1 (ix2 r ⟨j.val * 64, by omega⟩) - x0 (ix2 r ⟨j.val * 64, by omega⟩)))) (Ideal.ofBits .f32 2139095040#32) = 1#1 :=
    (congrArg (fun i : Cert.Pre_finite_differences.S4096x512.Idx =>
      Ideal.cmp .olt (max (x1 i - x0 i) (-(x1 i - x0 i))) (Ideal.ofBits .f32 2139095040#32)) e).symm.trans hp
  rw [Cert.FoxPostRefIdeal.Result.inf_word] at hv
  refine finite_of_abs ?_
  by_contra hn
  simp [Ideal.cmp, hn] at hv

theorem algebraic : Cert.algebraic_FoxPostIdeal_FoxPostRefIdeal_pre_finite_differences := by
  intro m ρ m' ρ' hpre hagree
  refine ⟨_, _, Cert.FoxPostIdeal.Value.run_blocks m ρ, ?_⟩
  refine (θ_run Cert.FoxPostRefIdeal.defs _ _).mono (fun r h c => ?_) (Cert.FoxPostRefIdeal.Value.run (F := Ideal) m' ρ')
  obtain ⟨h0, h1, hargs⟩ := h c
  obtain ⟨a0, a1, a2, a3⟩ := hagree c
  have hfin := finite_of_pre _ _ _ _ (hpre c)
  refine ⟨h0.trans ?_, h1.trans ?_, hargs⟩
  · rw [Cert.FoxPostIdeal.Result.out4 m c hfin]
    refine (Cert.FoxPostRefIdeal.Read.val_main_v16_eq ..).trans ((Cert.FoxPostRefIdeal.Result.result16 ..).trans ?_)
    rw [a0, a1, a2, a3]
  · rw [Cert.FoxPostIdeal.Result.out5 m c hfin]
    refine (Cert.FoxPostRefIdeal.Read.val_main_v17_eq ..).trans ((Cert.FoxPostRefIdeal.Result.result17 ..).trans ?_)
    rw [a0, a1, a2, a3]

end Cert.Proof.FoxPost
-- ==== Proof.FoxPrepStep.lean ====
module

public import proofs.«01_k».proof.Proof.Gen.FoxPrepIdeal.Frame
public import Idealize.ShloMosaic.Lib.Pipeline.ValueKit
public import Idealize.ShloMosaic.Lib.Pointwise

@[expose] public section

set_option maxRecDepth 16384

noncomputable section

/-! # The forget gate's sums: one block of 256 rows

The body is written out for its eight blocks of rows. Here each block's two stores are the same two functions (`wide`,
`rows`) of the block's logarithms and of the sums that the block before it hands on. -/

namespace Cert.FoxPrepIdeal.Result

open Cert.FoxPrepIdeal Cert.FoxPrepIdeal.Gen Idealize.ShloMosaic Idealize.ShloMosaic.TcCoe Idealize.SL.Sem

/-- The gates' logarithms in a block. -/
def logs (x : Vec Ideal S256x128 .f32) (b : Vec Ideal S1x128 .f32) : FVec Ideal S256x128 .f32 :=
  k0_pay21 (iota .tc S256x128 32 [1] iota_S256x128_d1_w32) x b
/-- A row of sums beside each of a block's rows. -/
def spread (k : FVec Ideal S1x512 .f32) : FVec Ideal S256x512 .f32 :=
  addf (broadcast S256x512 (Scalar.ofBits .f32 0x00000000#32)) (broadcastTo S256x512 k broadcasts_S1x512_S256x512)
/-- The sums up to each row of a block, each head's 64 times, `k` the sums before the block. -/
def wide (l : FVec Ideal S256x128 .f32) (k : FVec Ideal S1x512 .f32) : FVec Ideal S256x512 .f32 :=
  k0_pay28 k0_pay3 k0_pay5 l (spread k)
/-- The same sums, a head in each row. -/
def rows (l : FVec Ideal S256x128 .f32) (k : FVec Ideal S128x1 .f32) : FVec Ideal S128x256 .f32 :=
  k0_pay29 k0_pay4 k l k0_pay23
/-- What a block hands on. -/
def lastRow (w : FVec Ideal S256x512 .f32) : FVec Ideal S1x512 .f32 :=
  extractStridedSlice S1x512 ![255, 0] w slices_S256x512_o255_0_S1x512
def lastCol (r : FVec Ideal S128x256 .f32) : FVec Ideal S128x1 .f32 :=
  extractStridedSlice S128x1 ![0, 255] r slices_S128x256_o0_255_S128x1
/-- The eight heads' rows. -/
def heads (r : FVec Ideal S128x256 .f32) : FVec Ideal S8x256 .f32 :=
  extractStridedSlice S8x256 ![0, 0] r slices_S128x256_o0_0_S8x256

variable (x0 : Vec Ideal S2048x128 .f32) (x1 : Vec Ideal S1x128 .f32)

def L0 : FVec Ideal S256x128 .f32 := logs (View.ld x0 r0_0) (View.ld x1 r0_1)
def W0 : FVec Ideal S256x512 .f32 := wide (L0 x0 x1) k0_pay6
def R0 : FVec Ideal S128x256 .f32 := rows (L0 x0 x1) k0_pay7
def L1 : FVec Ideal S256x128 .f32 := logs (View.ld x0 r0_4) (View.ld x1 r0_1)
def W1 : FVec Ideal S256x512 .f32 := wide (L1 x0 x1) (lastRow (W0 x0 x1))
def R1 : FVec Ideal S128x256 .f32 := rows (L1 x0 x1) (lastCol (R0 x0 x1))
def L2 : FVec Ideal S256x128 .f32 := logs (View.ld x0 r0_7) (View.ld x1 r0_1)
def W2 : FVec Ideal S256x512 .f32 := wide (L2 x0 x1) (lastRow (W1 x0 x1))
def R2 : FVec Ideal S128x256 .f32 := rows (L2 x0 x1) (lastCol (R1 x0 x1))
def L3 : FVec Ideal S256x128 .f32 := logs (View.ld x0 r0_10) (View.ld x1 r0_1)
def W3 : FVec Ideal S256x512 .f32 := wide (L3 x0 x1) (lastRow (W2 x0 x1))
def R3 : FVec Ideal S128x256 .f32 := rows (L3 x0 x1) (lastCol (R2 x0 x1))
def L4 : FVec Ideal S256x128 .f32 := logs (View.ld x0 r0_13) (View.ld x1 r0_1)
def W4 : FVec Ideal S256x512 .f32 := wide (L4 x0 x1) (lastRow (W3 x0 x1))
def R4 : FVec Ideal S128x256 .f32 := rows (L4 x0 x1) (lastCol (R3 x0 x1))
def L5 : FVec Ideal S256x128 .f32 := logs (View.ld x0 r0_16) (View.ld x1 r0_1)
def W5 : FVec Ideal S256x512 .f32 := wide (L5 x0 x1) (lastRow (W4 x0 x1))
def R5 : FVec Ideal S128x256 .f32 := rows (L5 x0 x1) (lastCol (R4 x0 x1))
def L6 : FVec Ideal S256x128 .f32 := logs (View.ld x0 r0_19) (View.ld x1 r0_1)
def W6 : FVec Ideal S256x512 .f32 := wide (L6 x0 x1) (lastRow (W5 x0 x1))
def R6 : FVec Ideal S128x256 .f32 := rows (L6 x0 x1) (lastCol (R5 x0 x1))
def L7 : FVec Ideal S256x128 .f32 := logs (View.ld x0 r0_22) (View.ld x1 r0_1)
def W7 : FVec Ideal S256x512 .f32 := wide (L7 x0 x1) (lastRow (W6 x0 x1))
def R7 : FVec Ideal S128x256 .f32 := rows (L7 x0 x1) (lastCol (R6 x0 x1))

theorem w0 : k0_pay17 (k0_pay104 x0 x1) (k0_pay106 x0 x1) (k0_pay108 x0 x1) (k0_pay110 x0 x1)
    = W0 x0 x1 := rfl
theorem r0 : k0_pay19 (k0_pay105 x0 x1) (k0_pay108 x0 x1) (k0_pay109 x0 x1) (k0_pay111 x0 x1)
    = heads (R0 x0 x1) := rfl

theorem w1 : k0_pay28 (k0_pay104 x0 x1) (k0_pay106 x0 x1) (k0_pay113 x0 x1) (k0_pay114 x0 x1)
    = W1 x0 x1 := rfl
theorem r1 : k0_pay30 (k0_pay105 x0 x1) (k0_pay112 x0 x1) (k0_pay113 x0 x1) (k0_pay115 x0 x1)
    = heads (R1 x0 x1) := rfl

theorem w2 : k0_pay122 x0 x1
    = W2 x0 x1 := rfl
theorem r2 : k0_pay44 (k0_pay105 x0 x1) (k0_pay120 x0 x1) (k0_pay121 x0 x1) (k0_pay119 x0 x1)
    = heads (R2 x0 x1) := rfl

theorem w3 : k0_pay53 (k0_pay104 x0 x1) (k0_pay106 x0 x1) (k0_pay123 x0 x1) (k0_pay125 x0 x1) (k0_pay126 x0 x1) (k0_pay127 x0 x1)
    = W3 x0 x1 := rfl
theorem r3 : k0_pay55 (k0_pay105 x0 x1) (k0_pay124 x0 x1) (k0_pay125 x0 x1) (k0_pay126 x0 x1) (k0_pay127 x0 x1)
    = heads (R3 x0 x1) := rfl

theorem w4 : k0_pay67 (k0_pay104 x0 x1) (k0_pay106 x0 x1) (k0_pay128 x0 x1) (k0_pay130 x0 x1) (k0_pay131 x0 x1) (k0_pay132 x0 x1)
    = W4 x0 x1 := rfl
theorem r4 : k0_pay69 (k0_pay105 x0 x1) (k0_pay129 x0 x1) (k0_pay130 x0 x1) (k0_pay131 x0 x1) (k0_pay132 x0 x1)
    = heads (R4 x0 x1) := rfl

theorem w5 : k0_pay77 (k0_pay104 x0 x1) (k0_pay106 x0 x1) (k0_pay136 x0 x1) (k0_pay137 x0 x1) (k0_pay138 x0 x1)
    = W5 x0 x1 := rfl
theorem r5 : k0_pay79 (k0_pay105 x0 x1) (k0_pay134 x0 x1) (k0_pay135 x0 x1) (k0_pay136 x0 x1) (k0_pay137 x0 x1) (k0_pay133 x0 x1)
    = heads (R5 x0 x1) := rfl

theorem w6 : k0_pay90 (k0_pay104 x0 x1) (k0_pay106 x0 x1) (k0_pay139 x0 x1) (k0_pay141 x0 x1) (k0_pay142 x0 x1) (k0_pay143 x0 x1)
    = W6 x0 x1 := rfl
theorem r6 : k0_pay92 (k0_pay105 x0 x1) (k0_pay140 x0 x1) (k0_pay141 x0 x1) (k0_pay142 x0 x1) (k0_pay143 x0 x1)
    = heads (R6 x0 x1) := rfl

theorem w7 : k0_pay1 (k0_pay104 x0 x1) (k0_pay106 x0 x1) (k0_pay145 x0 x1) (k0_pay102 (k0_pay104 x0 x1) (k0_pay106 x0 x1) (k0_pay93 (k0_pay104 x0 x1) (k0_pay106 x0 x1) (k0_pay139 x0 x1) (k0_pay141 x0 x1) (k0_pay142 x0 x1) (k0_pay143 x0 x1)) (k0_pay144 x0 x1) (View.ld x0 r0_22) (View.ld x1 r0_1))
    = W7 x0 x1 := rfl
theorem r7 : k0_pay2 (k0_pay105 x0 x1) (k0_pay99 (k0_pay144 x0 x1) (View.ld x0 r0_22) (View.ld x1 r0_1)) (k0_pay145 x0 x1) (k0_pay101 (k0_pay105 x0 x1) (k0_pay94 (k0_pay105 x0 x1) (k0_pay140 x0 x1) (k0_pay141 x0 x1) (k0_pay142 x0 x1) (k0_pay143 x0 x1)) (k0_pay144 x0 x1) (View.ld x0 r0_22) (View.ld x1 r0_1))
    = heads (R7 x0 x1) := rfl

end Cert.FoxPrepIdeal.Result

end
-- ==== Proof.FoxPrepSpec.lean ====
module

public import proofs.«01_k».proof.Proof.Spec

@[expose] public section

noncomputable section

/-! # The forget gate's logarithms and their sums: the mathematics -/

namespace Cert.Spec

open Idealize.ShloMosaic

/-- The sum of the first `n` values. -/
def head (V : ℕ → EReal) (n : ℕ) : EReal := ∑ k ∈ Finset.range n, V k

theorem head_start (V : ℕ → EReal) : head V 0 = 0 := by simp [head]

/-- The sum up to a row inside a block of 256: what lies before the block, and the block's rows so far. -/
theorem head_block (V : ℕ → EReal) (a : ℕ) (r : Fin 256) :
    head V (a + r.val + 1) = head V a + ∑ q : Fin 256, (if q.val ≤ r.val then 1 else 0) * V (a + q.val) := by
  have h : ∑ q : Fin 256, (if q.val ≤ r.val then 1 else 0) * V (a + q.val) = ∑ q ∈ Finset.range (r.val + 1), V (a + q) := by
    rw [Finset.sum_fin_eq_sum_range, ← Finset.sum_filter_of_ne (s := Finset.range 256) (p := fun q => q ≤ r.val)]
    · refine Finset.sum_congr ?_ fun q hq => ?_
      · ext q
        have := r.isLt
        simp only [Finset.mem_filter, Finset.mem_range]
        omega
      · have := Finset.mem_range.mp hq
        have := r.isLt
        simp only [show q < 256 by omega, show q ≤ r.val by omega, dif_pos, if_pos, one_mul]
    · intro q hq hne
      by_contra hc
      simp [hc] at hne
  rw [h, head, add_assoc, Finset.sum_range_add]
  rfl

/-- The logarithm of the logistic function, as a sum that does not overflow. -/
def logSigmoid (v : EReal) : EReal := 0 - (max (0 - v) 0 + Ideal.log (1 + Ideal.exp (0 - max v (-v))))

theorem log_coe {r : ℝ} (h : 0 < r) : Ideal.log (r : EReal) = (Real.log r : EReal) := if_neg (not_le.mpr h)

theorem zero_sub_coe (r : ℝ) : (0 : EReal) - (r : EReal) = ((-r : ℝ) : EReal) := by
  rw [zero_sub, EReal.coe_neg]

theorem logSigmoid_top : logSigmoid ⊤ = 0 := by
  have e : Ideal.exp (0 - max ⊤ (-⊤)) = 0 := by
    rw [show (0 : EReal) - max ⊤ (-⊤) = ⊥ by simp]
    rfl
  have l : Ideal.log 1 = 0 := (log_coe one_pos).trans (by simp)
  unfold logSigmoid
  rw [e, add_zero, l, show (0 : EReal) - ⊤ = ⊥ by simp]
  simp

theorem logSigmoid_coe (x : ℝ) : ∃ r : ℝ, logSigmoid (x : EReal) = (r : EReal) := by
  have e : max (x : EReal) (-(x : EReal)) = ((max x (-x) : ℝ) : EReal) := by
    rw [← EReal.coe_neg]
    exact (EReal.coe_strictMono.monotone.map_max).symm
  have e' : max ((-x : ℝ) : EReal) 0 = ((max (-x) 0 : ℝ) : EReal) := (EReal.coe_strictMono.monotone.map_max).symm
  have l : Ideal.log (1 + ((Real.exp (-(max x (-x))) : ℝ) : EReal)) = (Real.log (1 + Real.exp (-(max x (-x)))) : EReal) := by
    rw [show (1 : EReal) + ((Real.exp (-(max x (-x))) : ℝ) : EReal) = ((1 + Real.exp (-(max x (-x))) : ℝ) : EReal) from rfl]
    exact log_coe (by positivity)
  refine ⟨-(max (-x) 0 + Real.log (1 + Real.exp (-(max x (-x))))), ?_⟩
  unfold logSigmoid
  rw [e, zero_sub_coe, zero_sub_coe, e', show Ideal.exp ((-(max x (-x)) : ℝ) : EReal) = ((Real.exp (-(max x (-x))) : ℝ) : EReal) from rfl, l,
    ← EReal.coe_add, zero_sub_coe]

theorem logSigmoid_bot : logSigmoid ⊥ = ⊥ := by
  have e : Ideal.exp (0 - max ⊥ (-⊥)) = 0 := by
    rw [show (0 : EReal) - max ⊥ (-⊥) = ⊥ by simp]
    rfl
  have l : Ideal.log 1 = 0 := (log_coe one_pos).trans (by simp)
  unfold logSigmoid
  rw [e, add_zero, l, show (0 : EReal) - ⊥ = ⊤ by simp]
  simp

/-- It is finite, or the gate is shut. -/
theorem logSigmoid_sub (v : EReal) : logSigmoid v - logSigmoid v = 0 ∨ logSigmoid v = ⊥ := by
  have fin (r : ℝ) : (r : EReal) - (r : EReal) = 0 := by
    rw [← EReal.coe_sub, sub_self]
    rfl
  induction v with
  | bot => exact Or.inr logSigmoid_bot
  | top => exact Or.inl (by rw [logSigmoid_top]; simp)
  | coe x =>
    obtain ⟨r, hr⟩ := logSigmoid_coe x
    exact Or.inl (by rw [hr, fin])

/-- The parts that are differences of a number with itself add nothing to a partial sum: where the number is finite they are
zero, and where it is not the sum is already minus infinity. -/
theorem parts_sum (k : EReal) (w V : Fin 256 → EReal) (hw : ∀ q, w q = 0 ∨ w q = 1) (hV : ∀ q, V q - V q = 0 ∨ V q = ⊥) :
    k + ∑ q, w q * V q + ∑ q, w q * (V q - V q) + ∑ q, w q * (V q - V q - (V q - V q)) = k + ∑ q, w q * V q := by
  by_cases h : ∃ q, w q = 1 ∧ V q = ⊥
  · obtain ⟨q, h1, h2⟩ := h
    have e : ∑ q, w q * V q = ⊥ := by
      rw [← Finset.add_sum_erase _ _ (Finset.mem_univ q), h1, h2, one_mul, EReal.bot_add]
    rw [e, EReal.add_bot, EReal.bot_add, EReal.bot_add]
  · have z (q : Fin 256) : w q = 0 ∨ V q - V q = 0 :=
      (hw q).imp_right fun h1 => (hV q).resolve_right fun h2 => h ⟨q, h1, h2⟩
    have e2 : ∑ q, w q * (V q - V q) = 0 := Finset.sum_eq_zero fun q _ => by
      rcases z q with h | h <;> rw [h] <;> simp
    have e3 : ∑ q, w q * (V q - V q - (V q - V q)) = 0 := Finset.sum_eq_zero fun q _ => by
      rcases z q with h | h <;> rw [h] <;> simp
    rw [e2, e3, add_zero, add_zero]

/-- The logarithms along sequence `s` of head `j`. -/
def gateLog (f : A2 4096 128) (b : A2 1 128) (s : ℕ) (j : Fin 8) (n : ℕ) : EReal :=
  if h : s * 2048 + n < 4096 then
    logSigmoid (f (ix2 ⟨s * 2048 + n, h⟩ ⟨j.val, by omega⟩) + b (ix2 0 ⟨j.val, by omega⟩))
  else 0

/-- The sums up to each row of its sequence, each head's 64 times. -/
def foxWide (f : A2 4096 128) (b : A2 1 128) : A2 4096 512 := fun y =>
  head (gateLog f b ((y 0).val / 2048) ⟨(y 1).val / 64, Nat.div_lt_of_lt_mul (y 1).isLt⟩) ((y 0).val % 2048 + 1)

/-- The same sums, a head of a sequence in each row. -/
def foxRows (f : A2 4096 128) (b : A2 1 128) : A2 16 2048 := fun y =>
  head (gateLog f b ((y 0).val / 8) ⟨(y 0).val % 8, Nat.mod_lt _ (by decide)⟩) ((y 1).val + 1)

theorem gateLog_parts (f : A2 4096 128) (b : A2 1 128) (s : ℕ) (j : Fin 8) (n : ℕ) :
    gateLog f b s j n - gateLog f b s j n = 0 ∨ gateLog f b s j n = ⊥ := by
  unfold gateLog
  split_ifs
  · exact logSigmoid_sub _
  · exact Or.inl (by simp)

end Cert.Spec

end
-- ==== Proof.FoxPrepAt.lean ====
module

public import proofs.«01_k».proof.Proof.FoxPrepStep
public import proofs.«01_k».proof.Proof.FoxPrepSpec

@[expose] public section

set_option maxRecDepth 16384

noncomputable section

/-! # The forget gate's sums: the entries of a block

The kernel splits each logarithm into three parts and sums with a triangular 0-1 matrix, part by part. With casts as
identities the second and third part are differences of a number with itself. -/

namespace Cert.FoxPrepIdeal.Result

open Cert.FoxPrepIdeal Cert.FoxPrepIdeal.Gen Idealize.ShloMosaic Idealize.ShloMosaic.TcCoe Idealize.SL.Sem

theorem tri_word (l j : Fin 256) :
    IntOp.cmpi CmpIPredicate.sle (BitVec.ofNat 32 l.val) (BitVec.ofNat 32 j.val) = if l.val ≤ j.val then 1#1 else 0#1 :=
  (by decide +kernel : ∀ (l j : Fin 256), IntOp.cmpi CmpIPredicate.sle (BitVec.ofNat 32 l.val) (BitVec.ofNat 32 j.val) = if l.val ≤ j.val then 1#1 else 0#1) l j

theorem head_word (j : Fin 128) :
    IntOp.cmpi CmpIPredicate.slt (BitVec.ofNat 32 j.val) 8#32 = if j.val < 8 then 1#1 else 0#1 :=
  (by decide +kernel : ∀ j : Fin 128, IntOp.cmpi CmpIPredicate.slt (BitVec.ofNat 32 j.val) 8#32 = if j.val < 8 then 1#1 else 0#1) j

theorem lower_at (r q : Fin 256) :
    (k0_pay3 (F := Ideal) : S256x256.Idx → EReal) (ix2 r q) = if q.val ≤ r.val then 1 else 0 := by
  pointwise [k0_pay3]
  rw [tri_word]
  split_ifs
  · show (((1 : ℤ) : ℝ) : EReal) = 1
    norm_num
  · show (((0 : ℤ) : ℝ) : EReal) = 0
    norm_num

theorem upper_at (q n : Fin 256) :
    (k0_pay4 (F := Ideal) : S256x256.Idx → EReal) (ix2 q n) = if q.val ≤ n.val then 1 else 0 := by
  pointwise [k0_pay4]
  rw [tri_word]
  split_ifs
  · show (((1 : ℤ) : ℝ) : EReal) = 1
    norm_num
  · show (((0 : ℤ) : ℝ) : EReal) = 0
    norm_num

/-- The head of a column, by the floor of a division. -/
theorem group_word (j : Fin 512) :
    (Scalar.select
            (IntOp.andi
              (IntOp.cmpi CmpIPredicate.ne
                (IntOp.subi (BitVec.setWidth 32 (IntOp.cmpi CmpIPredicate.sgt (BitVec.ofNat 32 j.val) 0#32))
                  (BitVec.setWidth 32 (IntOp.cmpi CmpIPredicate.slt (BitVec.ofNat 32 j.val) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 j.val) 64#32) 0#32))
            (IntOp.subi (IntOp.divsi ArithUnit.vector (BitVec.ofNat 32 j.val) 64#32) 1#32)
            (IntOp.divsi ArithUnit.vector (BitVec.ofNat 32 j.val) 64#32)) = BitVec.ofNat 32 (j.val / 64) :=
  (by decide +kernel : ∀ j : Fin 512, (Scalar.select
            (IntOp.andi
              (IntOp.cmpi CmpIPredicate.ne
                (IntOp.subi (BitVec.setWidth 32 (IntOp.cmpi CmpIPredicate.sgt (BitVec.ofNat 32 j.val) 0#32))
                  (BitVec.setWidth 32 (IntOp.cmpi CmpIPredicate.slt (BitVec.ofNat 32 j.val) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 j.val) 64#32) 0#32))
            (IntOp.subi (IntOp.divsi ArithUnit.vector (BitVec.ofNat 32 j.val) 64#32) 1#32)
            (IntOp.divsi ArithUnit.vector (BitVec.ofNat 32 j.val) 64#32)) = BitVec.ofNat 32 (j.val / 64)) j

theorem equal_word (k : Fin 8) (l : Fin 128) :
    IntOp.cmpi CmpIPredicate.eq (BitVec.ofNat 32 k.val) (BitVec.ofNat 32 l.val) = if l.val = k.val then 1#1 else 0#1 :=
  (by decide +kernel : ∀ (k : Fin 8) (l : Fin 128), IntOp.cmpi CmpIPredicate.eq (BitVec.ofNat 32 k.val) (BitVec.ofNat 32 l.val) = if l.val = k.val then 1#1 else 0#1) k l

theorem expand_at (l : Fin 128) (j : Fin 512) :
    (k0_pay5 (F := Ideal) : S128x512.Idx → EReal) (ix2 l j) = if l.val = j.val / 64 then 1 else 0 := by
  pointwise [k0_pay5]
  refine (congrArg (fun w => FloatOps.sitofp (F := Ideal) FTy.f32 (BitVec.setWidth 32 (IntOp.cmpi CmpIPredicate.eq w (BitVec.ofNat 32 l.val))))
    (group_word j)).trans ?_
  rw [equal_word ⟨j.val / 64, by omega⟩ l]
  split_ifs
  · show (((1 : ℤ) : ℝ) : EReal) = 1
    norm_num
  · show (((0 : ℤ) : ℝ) : EReal) = 0
    norm_num

theorem logs_at (x b) (r : Fin 256) (j : Fin 128) :
    (logs x b : S256x128.Idx → EReal) (ix2 r j) = if j.val < 8 then Spec.logSigmoid (x (ix2 r j) + b (ix2 0 j)) else 0 := by
  unfold logs Spec.logSigmoid
  pointwise [k0_pay21]
  rw [head_word]
  split_ifs <;> rfl

theorem expand_sum (g : Fin 128 → EReal) (j : Fin 512) :
    ∑ l : Fin 128, g l * (k0_pay5 (F := Ideal) : S128x512.Idx → EReal) (ix2 l j) = g ⟨j.val / 64, by omega⟩ := by
  rw [Finset.sum_eq_single ⟨j.val / 64, by omega⟩]
  · rw [expand_at, if_pos rfl, mul_one]
  · intro l _ hl
    rw [expand_at, if_neg fun e => hl (Fin.ext e), mul_zero]
  · intro hn; exact absurd (Finset.mem_univ _) hn

theorem wide_at (l : FVec Ideal S256x128 .f32) (k : FVec Ideal S1x512 .f32) (V : ℕ → EReal) (a : ℕ) (j : Fin 512)
    (hV : ∀ q : Fin 256, (l : S256x128.Idx → EReal) (ix2 q ⟨j.val / 64, by omega⟩) = V (a + q.val))
    (hf : ∀ n, V n - V n = 0 ∨ V n = ⊥) (hk : (k : S1x512.Idx → EReal) (ix2 0 j) = Spec.head V a) (r : Fin 256) :
    (wide l k : S256x512.Idx → EReal) (ix2 r j) = Spec.head V (a + r.val + 1) := by
  unfold wide spread
  pointwise [k0_pay28, k0_pay24, k0_pay25, k0_pay26, k0_pay27]
  have e1 (q : Fin 256) : ∑ m : Fin 128, (l : S256x128.Idx → EReal) (ix2 q m) * (k0_pay5 (F := Ideal) : S128x512.Idx → EReal) (ix2 m j) = V (a + q.val) :=
    (expand_sum _ j).trans (hV q)
  have e2 (q : Fin 256) : ∑ m : Fin 128, HMul.hMul (α := EReal) (β := EReal) (γ := EReal) (HSub.hSub (α := EReal) (β := EReal) (γ := EReal)
      ((l : S256x128.Idx → EReal) (ix2 q m)) ((l : S256x128.Idx → EReal) (ix2 q m))) ((k0_pay5 (F := Ideal) : S128x512.Idx → EReal) (ix2 m j))
      = V (a + q.val) - V (a + q.val) :=
    (expand_sum (fun m => (HSub.hSub (α := EReal) (β := EReal) (γ := EReal) ((l : S256x128.Idx → EReal) (ix2 q m)) ((l : S256x128.Idx → EReal) (ix2 q m)))) j).trans
      (by rw [hV q])
  have e3 (q : Fin 256) : ∑ m : Fin 128, HMul.hMul (α := EReal) (β := EReal) (γ := EReal) (HSub.hSub (α := EReal) (β := EReal) (γ := EReal)
      (HSub.hSub (α := EReal) (β := EReal) (γ := EReal) ((l : S256x128.Idx → EReal) (ix2 q m)) ((l : S256x128.Idx → EReal) (ix2 q m)))
      (HSub.hSub (α := EReal) (β := EReal) (γ := EReal) ((l : S256x128.Idx → EReal) (ix2 q m)) ((l : S256x128.Idx → EReal) (ix2 q m))))
      ((k0_pay5 (F := Ideal) : S128x512.Idx → EReal) (ix2 m j)) = V (a + q.val) - V (a + q.val) - (V (a + q.val) - V (a + q.val)) :=
    (expand_sum (fun m => HSub.hSub (α := EReal) (β := EReal) (γ := EReal)
      (HSub.hSub (α := EReal) (β := EReal) (γ := EReal) ((l : S256x128.Idx → EReal) (ix2 q m)) ((l : S256x128.Idx → EReal) (ix2 q m)))
      (HSub.hSub (α := EReal) (β := EReal) (γ := EReal) ((l : S256x128.Idx → EReal) (ix2 q m)) ((l : S256x128.Idx → EReal) (ix2 q m)))) j).trans
      (by rw [hV q])
  simp only [e1, e2, e3, lower_at]
  rw [hk, Spec.head_block V a r]
  exact Spec.parts_sum _ (fun q => if q.val ≤ r.val then 1 else 0) (fun q => V (a + q.val)) (fun q => by split_ifs <;> simp) fun q => hf _

theorem rows_at (l : FVec Ideal S256x128 .f32) (k : FVec Ideal S128x1 .f32) (V : ℕ → EReal) (a : ℕ) (j : Fin 128)
    (hV : ∀ q : Fin 256, (l : S256x128.Idx → EReal) (ix2 q j) = V (a + q.val))
    (hf : ∀ n, V n - V n = 0 ∨ V n = ⊥) (hk : (k : S128x1.Idx → EReal) (ix2 j 0) = Spec.head V a) (n : Fin 256) :
    (rows l k : S128x256.Idx → EReal) (ix2 j n) = Spec.head V (a + n.val + 1) := by
  unfold rows
  pointwise [k0_pay29, k0_pay23, k0_pay24, k0_pay25, k0_pay26, k0_pay27]
  simp only [hV, upper_at]
  rw [hk, Spec.head_block V a n]
  refine Eq.trans ?_ (Spec.parts_sum _ (fun q => if q.val ≤ n.val then 1 else 0) (fun q => V (a + q.val)) (fun q => by split_ifs <;> simp) fun q => hf _)
  refine congrArg₂ (· + ·) (congrArg₂ (· + ·) (congrArg₂ (· + ·) rfl ?_) ?_) ?_ <;>
    exact Finset.sum_congr rfl fun q _ => mul_comm _ _

/-! ## Block after block -/

theorem lastRow_at (w) (j : Fin 512) : (lastRow w : S1x512.Idx → EReal) (ix2 0 j) = w (ix2 255 j) := by
  pointwise [lastRow]
theorem lastCol_at (w) (j : Fin 128) : (lastCol w : S128x1.Idx → EReal) (ix2 j 0) = w (ix2 j 255) := by
  pointwise [lastCol]
theorem heads_at (w) (j : Fin 8) (n : Fin 256) : (heads w : S8x256.Idx → EReal) (ix2 j n) = w (ix2 ⟨j.val, by omega⟩ n) := by
  pointwise [heads]

theorem logs_block {x0 : Vec Ideal S2048x128 .f32} {x1 : Vec Ideal S1x128 .f32} {V : ℕ → EReal} {o : ℕ} (ho : o + 256 ≤ 2048)
    (inb : ∀ d, (![o, 0] : Fin 2 → ℕ) d + (![256, 128] : Fin 2 → ℕ) d ≤ S2048x128.size d) (j : Fin 128) (hj : j.val < 8)
    (hX : ∀ n : Fin 2048, Spec.logSigmoid (x0 (ix2 n j) + x1 (ix2 0 j)) = V n.val) (q : Fin 256) :
    (logs (View.ld x0 (Rect.unit (s := S2048x128) ![o, 0] ![256, 128] inb)) (View.ld x1 r0_1) : S256x128.Idx → EReal) (ix2 q j) = V (o + q.val) := by
  have e : View.ld x0 (Rect.unit (s := S2048x128) ![o, 0] ![256, 128] inb) (ix2 q j) = x0 (ix2 ⟨o + q.val, by omega⟩ j) := by
    refine congrArg x0 (funext fun d => Fin.ext ?_)
    match d with
    | 0 => show o + 1 * q.val = o + q.val; omega
    | 1 => show 0 + 1 * j.val = j.val; omega
  have e' : View.ld x1 r0_1 (ix2 0 j) = x1 (ix2 0 j) := by
    refine congrArg x1 (funext fun d => Fin.ext ?_)
    match d with
    | 0 => rfl
    | 1 => show 0 + 1 * j.val = j.val; omega
  rw [logs_at, if_pos hj, e, e']
  exact hX _

variable (x0 : Vec Ideal S2048x128 .f32) (x1 : Vec Ideal S1x128 .f32) (V : ℕ → EReal) (hf : ∀ n, V n - V n = 0 ∨ V n = ⊥)

section
variable (j : Fin 512)
  (hX : ∀ n : Fin 2048, Spec.logSigmoid (x0 (ix2 n ⟨j.val / 64, by omega⟩) + x1 (ix2 0 ⟨j.val / 64, by omega⟩)) = V n.val)
include hf hX
theorem W0_at (r : Fin 256) : (W0 x0 x1 : S256x512.Idx → EReal) (ix2 r j) = Spec.head V (0 + r.val + 1) :=
  wide_at _ _ V 0 j (logs_block (by decide) _ _ (by show j.val / 64 < 8; omega) hX) hf (by rw [Spec.head_start]; pointwise [k0_pay6]) r
theorem W1_at (r : Fin 256) : (W1 x0 x1 : S256x512.Idx → EReal) (ix2 r j) = Spec.head V (256 + r.val + 1) :=
  wide_at _ _ V 256 j (logs_block (by decide) _ _ (by show j.val / 64 < 8; omega) hX) hf ((lastRow_at _ _).trans (W0_at x0 x1 V hf j hX 255)) r
theorem W2_at (r : Fin 256) : (W2 x0 x1 : S256x512.Idx → EReal) (ix2 r j) = Spec.head V (512 + r.val + 1) :=
  wide_at _ _ V 512 j (logs_block (by decide) _ _ (by show j.val / 64 < 8; omega) hX) hf ((lastRow_at _ _).trans (W1_at x0 x1 V hf j hX 255)) r
theorem W3_at (r : Fin 256) : (W3 x0 x1 : S256x512.Idx → EReal) (ix2 r j) = Spec.head V (768 + r.val + 1) :=
  wide_at _ _ V 768 j (logs_block (by decide) _ _ (by show j.val / 64 < 8; omega) hX) hf ((lastRow_at _ _).trans (W2_at x0 x1 V hf j hX 255)) r
theorem W4_at (r : Fin 256) : (W4 x0 x1 : S256x512.Idx → EReal) (ix2 r j) = Spec.head V (1024 + r.val + 1) :=
  wide_at _ _ V 1024 j (logs_block (by decide) _ _ (by show j.val / 64 < 8; omega) hX) hf ((lastRow_at _ _).trans (W3_at x0 x1 V hf j hX 255)) r
theorem W5_at (r : Fin 256) : (W5 x0 x1 : S256x512.Idx → EReal) (ix2 r j) = Spec.head V (1280 + r.val + 1) :=
  wide_at _ _ V 1280 j (logs_block (by decide) _ _ (by show j.val / 64 < 8; omega) hX) hf ((lastRow_at _ _).trans (W4_at x0 x1 V hf j hX 255)) r
theorem W6_at (r : Fin 256) : (W6 x0 x1 : S256x512.Idx → EReal) (ix2 r j) = Spec.head V (1536 + r.val + 1) :=
  wide_at _ _ V 1536 j (logs_block (by decide) _ _ (by show j.val / 64 < 8; omega) hX) hf ((lastRow_at _ _).trans (W5_at x0 x1 V hf j hX 255)) r
theorem W7_at (r : Fin 256) : (W7 x0 x1 : S256x512.Idx → EReal) (ix2 r j) = Spec.head V (1792 + r.val + 1) :=
  wide_at _ _ V 1792 j (logs_block (by decide) _ _ (by show j.val / 64 < 8; omega) hX) hf ((lastRow_at _ _).trans (W6_at x0 x1 V hf j hX 255)) r
end

section
variable (j : Fin 128) (hj : j.val < 8) (hX : ∀ n : Fin 2048, Spec.logSigmoid (x0 (ix2 n j) + x1 (ix2 0 j)) = V n.val)
include hf hX hj
theorem R0_at (n : Fin 256) : (R0 x0 x1 : S128x256.Idx → EReal) (ix2 j n) = Spec.head V (0 + n.val + 1) :=
  rows_at _ _ V 0 j (logs_block (by decide) _ j hj hX) hf (by rw [Spec.head_start]; pointwise [k0_pay7]) n
theorem R1_at (n : Fin 256) : (R1 x0 x1 : S128x256.Idx → EReal) (ix2 j n) = Spec.head V (256 + n.val + 1) :=
  rows_at _ _ V 256 j (logs_block (by decide) _ j hj hX) hf ((lastCol_at _ _).trans (R0_at x0 x1 V hf j hj hX 255)) n
theorem R2_at (n : Fin 256) : (R2 x0 x1 : S128x256.Idx → EReal) (ix2 j n) = Spec.head V (512 + n.val + 1) :=
  rows_at _ _ V 512 j (logs_block (by decide) _ j hj hX) hf ((lastCol_at _ _).trans (R1_at x0 x1 V hf j hj hX 255)) n
theorem R3_at (n : Fin 256) : (R3 x0 x1 : S128x256.Idx → EReal) (ix2 j n) = Spec.head V (768 + n.val + 1) :=
  rows_at _ _ V 768 j (logs_block (by decide) _ j hj hX) hf ((lastCol_at _ _).trans (R2_at x0 x1 V hf j hj hX 255)) n
theorem R4_at (n : Fin 256) : (R4 x0 x1 : S128x256.Idx → EReal) (ix2 j n) = Spec.head V (1024 + n.val + 1) :=
  rows_at _ _ V 1024 j (logs_block (by decide) _ j hj hX) hf ((lastCol_at _ _).trans (R3_at x0 x1 V hf j hj hX 255)) n
theorem R5_at (n : Fin 256) : (R5 x0 x1 : S128x256.Idx → EReal) (ix2 j n) = Spec.head V (1280 + n.val + 1) :=
  rows_at _ _ V 1280 j (logs_block (by decide) _ j hj hX) hf ((lastCol_at _ _).trans (R4_at x0 x1 V hf j hj hX 255)) n
theorem R6_at (n : Fin 256) : (R6 x0 x1 : S128x256.Idx → EReal) (ix2 j n) = Spec.head V (1536 + n.val + 1) :=
  rows_at _ _ V 1536 j (logs_block (by decide) _ j hj hX) hf ((lastCol_at _ _).trans (R5_at x0 x1 V hf j hj hX 255)) n
theorem R7_at (n : Fin 256) : (R7 x0 x1 : S128x256.Idx → EReal) (ix2 j n) = Spec.head V (1792 + n.val + 1) :=
  rows_at _ _ V 1792 j (logs_block (by decide) _ j hj hX) hf ((lastCol_at _ _).trans (R6_at x0 x1 V hf j hj hX 255)) n
end

end Cert.FoxPrepIdeal.Result

end
-- ==== Proof.FoxPrep.lean ====
module

public import proofs.«01_k».proof.Proof.Gen.FoxPrepIdeal.Value
public import Idealize.ShloMosaic.Lib.Pipeline.ReadBack
public import proofs.«01_k».proof.Proof.FoxPrepAt

@[expose] public section

set_option maxRecDepth 16384

noncomputable section

/-! # The forget gate's sums: what the kernel leaves in its results -/

namespace Cert.FoxPrepIdeal.Result

open Cert.FoxPrepIdeal Cert.FoxPrepIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The gate's pre-activations and its bias, on device `c`. -/
abbrev D0 : Spec.A2 4096 128 := m ((c : Thread nD τ).loc main_arg0)
abbrev D1 : Spec.A2 1 128 := m ((c : Thread nD τ).loc main_arg1)

/-- The windows' blocks by the grid point: one sequence each. -/
theorem idx (t : Fin cfg0.N) :
    win0_0.index t = ![t.val, 0] ∧ win0_1.index t = ![0, 0] ∧ win0_2.index t = ![t.val, 0] ∧ win0_3.index t = ![t.val, 0] :=
  (by decide +kernel : ∀ t : Fin cfg0.N,
    win0_0.index t = ![t.val, 0] ∧ win0_1.index t = ![0, 0] ∧ win0_2.index t = ![t.val, 0] ∧ win0_3.index t = ![t.val, 0]) t

/-- Row `r` of point `t`'s block, and its row for head `j`. -/
abbrev row (t : Fin cfg0.N) (r : Fin 2048) : Fin 4096 :=
  ⟨t.val * 2048 + r.val, by have := t.isLt; have : cfg0.N = 2 := N_0; omega⟩
abbrev headRow (t : Fin cfg0.N) (j : Fin 8) : Fin 16 :=
  ⟨t.val * 8 + j.val, by have := t.isLt; have : cfg0.N = 2 := N_0; omega⟩

theorem b0 (t : Fin cfg0.N) (x : S2048x128.Idx) :
    (iblk m c 0 t : S2048x128.Idx → EReal) x = D0 m c (ix2 (row t (x 0)) (x 1)) := by
  blk_ext [iblk, V, idx t]
theorem b1 (t : Fin cfg0.N) (x : S1x128.Idx) : (iblk m c 1 t : S1x128.Idx → EReal) x = D1 m c x := by
  blk_ext [iblk, V, idx t]

/-- The logarithms along the sequence of point `t`. -/
abbrev G (t : Fin cfg0.N) (j : Fin 8) : ℕ → EReal := Spec.gateLog (D0 m c) (D1 m c) t.val j

theorem gate (t : Fin cfg0.N) (j : Fin 8) (n : Fin 2048) :
    Spec.logSigmoid (HAdd.hAdd (α := EReal) (β := EReal) (γ := EReal) ((iblk m c 0 t : S2048x128.Idx → EReal) (ix2 n ⟨j.val, by omega⟩))
      ((iblk m c 1 t : S1x128.Idx → EReal) (ix2 0 ⟨j.val, by omega⟩))) = G m c t j n.val := by
  rw [b0, b1]
  unfold G Spec.gateLog
  rw [dif_pos (row t n).isLt]
  rfl

/-- The two blocks of results. -/
def blockWide (g : Fin 8 → ℕ → EReal) (y : S2048x512.Idx) : EReal :=
  Spec.head (g ⟨(y 1).val / 64, Nat.div_lt_of_lt_mul (y 1).isLt⟩) ((y 0).val + 1)
def blockRows (g : Fin 8 → ℕ → EReal) (y : S8x2048.Idx) : EReal := Spec.head (g (y 0)) ((y 1).val + 1)

theorem wideStrip {g : Fin 8 → ℕ → EReal} {w : FVec Ideal S256x512 .f32} {o : ℕ}
    (hw : ∀ (j : Fin 512) (r : Fin 256), (w : S256x512.Idx → EReal) (ix2 r j) = Spec.head (g ⟨j.val / 64, by omega⟩) (o + r.val + 1))
    (inb : ∀ d, (![o, 0] : Fin 2 → ℕ) d + (![256, 512] : Fin 2 → ℕ) d ≤ S2048x512.size d) (x : S256x512.Idx) :
    (w : S256x512.Idx → EReal) x = blockWide g ((Rect.unit (s := S2048x512) ![o, 0] ![256, 512] inb).emb x) := by
  obtain ⟨r, j, rfl⟩ : ∃ (r : Fin 256) (j : Fin 512), x = ix2 r j := ⟨x 0, x 1, by blk_ext⟩
  have h : o + 256 ≤ 2048 := inb 0
  have e : (Rect.unit (s := S2048x512) ![o, 0] ![256, 512] inb).emb (ix2 r j) = (ix2 ⟨o + r.val, by omega⟩ j : S2048x512.Idx) := by
    funext d; apply Fin.ext
    match d with
    | 0 => show o + 1 * r.val = o + r.val; omega
    | 1 => show 0 + 1 * j.val = j.val; omega
  rw [e]
  exact hw j r

theorem rowStrip {g : Fin 8 → ℕ → EReal} {w : FVec Ideal S8x256 .f32} {o : ℕ}
    (hw : ∀ (j : Fin 8) (n : Fin 256), (w : S8x256.Idx → EReal) (ix2 j n) = Spec.head (g j) (o + n.val + 1))
    (inb : ∀ d, (![0, o] : Fin 2 → ℕ) d + (![8, 256] : Fin 2 → ℕ) d ≤ S8x2048.size d) (x : S8x256.Idx) :
    (w : S8x256.Idx → EReal) x = blockRows g ((Rect.unit (s := S8x2048) ![0, o] ![8, 256] inb).emb x) := by
  obtain ⟨j, n, rfl⟩ : ∃ (j : Fin 8) (n : Fin 256), x = ix2 j n := ⟨x 0, x 1, by blk_ext⟩
  have h : o + 256 ≤ 2048 := inb 1
  have e : (Rect.unit (s := S8x2048) ![0, o] ![8, 256] inb).emb (ix2 j n) = (ix2 j ⟨o + n.val, by omega⟩ : S8x2048.Idx) := by
    funext d; apply Fin.ext
    match d with
    | 0 => show 0 + 1 * j.val = j.val; omega
    | 1 => show o + 1 * n.val = o + n.val; omega
  rw [e]
  exact hw j n

section
variable {x0 : Vec Ideal S2048x128 .f32} {x1 : Vec Ideal S1x128 .f32} {g : Fin 8 → ℕ → EReal} (hf : ∀ j n, g j n - g j n = 0 ∨ g j n = ⊥)
  (hX : ∀ (j : Fin 8) (n : Fin 2048), Spec.logSigmoid (x0 (ix2 n ⟨j.val, by omega⟩) + x1 (ix2 0 ⟨j.val, by omega⟩)) = g j n.val)
include hf hX
theorem wideStrip0 (inb : ∀ d, (![0, 0] : Fin 2 → ℕ) d + (![256, 512] : Fin 2 → ℕ) d ≤ S2048x512.size d) (x : S256x512.Idx) :
    (W0 x0 x1 : S256x512.Idx → EReal) x = blockWide g ((Rect.unit (s := S2048x512) ![0, 0] ![256, 512] inb).emb x) :=
  wideStrip (fun j r => W0_at x0 x1 (g ⟨j.val / 64, by omega⟩) (hf _) j (hX ⟨j.val / 64, by omega⟩) r) inb x
theorem rowStrip0 (inb : ∀ d, (![0, 0] : Fin 2 → ℕ) d + (![8, 256] : Fin 2 → ℕ) d ≤ S8x2048.size d) (x : S8x256.Idx) :
    (heads (R0 x0 x1) : S8x256.Idx → EReal) x = blockRows g ((Rect.unit (s := S8x2048) ![0, 0] ![8, 256] inb).emb x) :=
  rowStrip (fun j n => (heads_at (R0 x0 x1) j n).trans (R0_at x0 x1 (g j) (hf j) ⟨j.val, by omega⟩ j.isLt (hX j) n)) inb x
theorem wideStrip1 (inb : ∀ d, (![256, 0] : Fin 2 → ℕ) d + (![256, 512] : Fin 2 → ℕ) d ≤ S2048x512.size d) (x : S256x512.Idx) :
    (W1 x0 x1 : S256x512.Idx → EReal) x = blockWide g ((Rect.unit (s := S2048x512) ![256, 0] ![256, 512] inb).emb x) :=
  wideStrip (fun j r => W1_at x0 x1 (g ⟨j.val / 64, by omega⟩) (hf _) j (hX ⟨j.val / 64, by omega⟩) r) inb x
theorem rowStrip1 (inb : ∀ d, (![0, 256] : Fin 2 → ℕ) d + (![8, 256] : Fin 2 → ℕ) d ≤ S8x2048.size d) (x : S8x256.Idx) :
    (heads (R1 x0 x1) : S8x256.Idx → EReal) x = blockRows g ((Rect.unit (s := S8x2048) ![0, 256] ![8, 256] inb).emb x) :=
  rowStrip (fun j n => (heads_at (R1 x0 x1) j n).trans (R1_at x0 x1 (g j) (hf j) ⟨j.val, by omega⟩ j.isLt (hX j) n)) inb x
theorem wideStrip2 (inb : ∀ d, (![512, 0] : Fin 2 → ℕ) d + (![256, 512] : Fin 2 → ℕ) d ≤ S2048x512.size d) (x : S256x512.Idx) :
    (W2 x0 x1 : S256x512.Idx → EReal) x = blockWide g ((Rect.unit (s := S2048x512) ![512, 0] ![256, 512] inb).emb x) :=
  wideStrip (fun j r => W2_at x0 x1 (g ⟨j.val / 64, by omega⟩) (hf _) j (hX ⟨j.val / 64, by omega⟩) r) inb x
theorem rowStrip2 (inb : ∀ d, (![0, 512] : Fin 2 → ℕ) d + (![8, 256] : Fin 2 → ℕ) d ≤ S8x2048.size d) (x : S8x256.Idx) :
    (heads (R2 x0 x1) : S8x256.Idx → EReal) x = blockRows g ((Rect.unit (s := S8x2048) ![0, 512] ![8, 256] inb).emb x) :=
  rowStrip (fun j n => (heads_at (R2 x0 x1) j n).trans (R2_at x0 x1 (g j) (hf j) ⟨j.val, by omega⟩ j.isLt (hX j) n)) inb x
theorem wideStrip3 (inb : ∀ d, (![768, 0] : Fin 2 → ℕ) d + (![256, 512] : Fin 2 → ℕ) d ≤ S2048x512.size d) (x : S256x512.Idx) :
    (W3 x0 x1 : S256x512.Idx → EReal) x = blockWide g ((Rect.unit (s := S2048x512) ![768, 0] ![256, 512] inb).emb x) :=
  wideStrip (fun j r => W3_at x0 x1 (g ⟨j.val / 64, by omega⟩) (hf _) j (hX ⟨j.val / 64, by omega⟩) r) inb x
theorem rowStrip3 (inb : ∀ d, (![0, 768] : Fin 2 → ℕ) d + (![8, 256] : Fin 2 → ℕ) d ≤ S8x2048.size d) (x : S8x256.Idx) :
    (heads (R3 x0 x1) : S8x256.Idx → EReal) x = blockRows g ((Rect.unit (s := S8x2048) ![0, 768] ![8, 256] inb).emb x) :=
  rowStrip (fun j n => (heads_at (R3 x0 x1) j n).trans (R3_at x0 x1 (g j) (hf j) ⟨j.val, by omega⟩ j.isLt (hX j) n)) inb x
theorem wideStrip4 (inb : ∀ d, (![1024, 0] : Fin 2 → ℕ) d + (![256, 512] : Fin 2 → ℕ) d ≤ S2048x512.size d) (x : S256x512.Idx) :
    (W4 x0 x1 : S256x512.Idx → EReal) x = blockWide g ((Rect.unit (s := S2048x512) ![1024, 0] ![256, 512] inb).emb x) :=
  wideStrip (fun j r => W4_at x0 x1 (g ⟨j.val / 64, by omega⟩) (hf _) j (hX ⟨j.val / 64, by omega⟩) r) inb x
theorem rowStrip4 (inb : ∀ d, (![0, 1024] : Fin 2 → ℕ) d + (![8, 256] : Fin 2 → ℕ) d ≤ S8x2048.size d) (x : S8x256.Idx) :
    (heads (R4 x0 x1) : S8x256.Idx → EReal) x = blockRows g ((Rect.unit (s := S8x2048) ![0, 1024] ![8, 256] inb).emb x) :=
  rowStrip (fun j n => (heads_at (R4 x0 x1) j n).trans (R4_at x0 x1 (g j) (hf j) ⟨j.val, by omega⟩ j.isLt (hX j) n)) inb x
theorem wideStrip5 (inb : ∀ d, (![1280, 0] : Fin 2 → ℕ) d + (![256, 512] : Fin 2 → ℕ) d ≤ S2048x512.size d) (x : S256x512.Idx) :
    (W5 x0 x1 : S256x512.Idx → EReal) x = blockWide g ((Rect.unit (s := S2048x512) ![1280, 0] ![256, 512] inb).emb x) :=
  wideStrip (fun j r => W5_at x0 x1 (g ⟨j.val / 64, by omega⟩) (hf _) j (hX ⟨j.val / 64, by omega⟩) r) inb x
theorem rowStrip5 (inb : ∀ d, (![0, 1280] : Fin 2 → ℕ) d + (![8, 256] : Fin 2 → ℕ) d ≤ S8x2048.size d) (x : S8x256.Idx) :
    (heads (R5 x0 x1) : S8x256.Idx → EReal) x = blockRows g ((Rect.unit (s := S8x2048) ![0, 1280] ![8, 256] inb).emb x) :=
  rowStrip (fun j n => (heads_at (R5 x0 x1) j n).trans (R5_at x0 x1 (g j) (hf j) ⟨j.val, by omega⟩ j.isLt (hX j) n)) inb x
theorem wideStrip6 (inb : ∀ d, (![1536, 0] : Fin 2 → ℕ) d + (![256, 512] : Fin 2 → ℕ) d ≤ S2048x512.size d) (x : S256x512.Idx) :
    (W6 x0 x1 : S256x512.Idx → EReal) x = blockWide g ((Rect.unit (s := S2048x512) ![1536, 0] ![256, 512] inb).emb x) :=
  wideStrip (fun j r => W6_at x0 x1 (g ⟨j.val / 64, by omega⟩) (hf _) j (hX ⟨j.val / 64, by omega⟩) r) inb x
theorem rowStrip6 (inb : ∀ d, (![0, 1536] : Fin 2 → ℕ) d + (![8, 256] : Fin 2 → ℕ) d ≤ S8x2048.size d) (x : S8x256.Idx) :
    (heads (R6 x0 x1) : S8x256.Idx → EReal) x = blockRows g ((Rect.unit (s := S8x2048) ![0, 1536] ![8, 256] inb).emb x) :=
  rowStrip (fun j n => (heads_at (R6 x0 x1) j n).trans (R6_at x0 x1 (g j) (hf j) ⟨j.val, by omega⟩ j.isLt (hX j) n)) inb x
theorem wideStrip7 (inb : ∀ d, (![1792, 0] : Fin 2 → ℕ) d + (![256, 512] : Fin 2 → ℕ) d ≤ S2048x512.size d) (x : S256x512.Idx) :
    (W7 x0 x1 : S256x512.Idx → EReal) x = blockWide g ((Rect.unit (s := S2048x512) ![1792, 0] ![256, 512] inb).emb x) :=
  wideStrip (fun j r => W7_at x0 x1 (g ⟨j.val / 64, by omega⟩) (hf _) j (hX ⟨j.val / 64, by omega⟩) r) inb x
theorem rowStrip7 (inb : ∀ d, (![0, 1792] : Fin 2 → ℕ) d + (![8, 256] : Fin 2 → ℕ) d ≤ S8x2048.size d) (x : S8x256.Idx) :
    (heads (R7 x0 x1) : S8x256.Idx → EReal) x = blockRows g ((Rect.unit (s := S8x2048) ![0, 1792] ![8, 256] inb).emb x) :=
  rowStrip (fun j n => (heads_at (R7 x0 x1) j n).trans (R7_at x0 x1 (g j) (hf j) ⟨j.val, by omega⟩ j.isLt (hX j) n)) inb x

theorem block2 (y : S2048x512.Idx) : out0_2 x0 x1 y = blockWide g y := by
  unfold out0_2
  rw [w7, w6, w5, w4, w3, w2, w1, w0]
  refine View.canon_apply_of_pieces (Val := Elt Ideal) (e := .f32) (blockWide g) _ (?_) y
    (View.cover_of_tiledL (s := S2048x512) _ S256x512.size (by sl_kernel_rfl) y)
  exact List.forall_mem_cons.mpr ⟨fun x => wideStrip7 hf hX inb_S2048x512_S256x512_1792_0 x,
      List.forall_mem_cons.mpr ⟨fun x => wideStrip6 hf hX inb_S2048x512_S256x512_1536_0 x,
      List.forall_mem_cons.mpr ⟨fun x => wideStrip5 hf hX inb_S2048x512_S256x512_1280_0 x,
      List.forall_mem_cons.mpr ⟨fun x => wideStrip4 hf hX inb_S2048x512_S256x512_1024_0 x,
      List.forall_mem_cons.mpr ⟨fun x => wideStrip3 hf hX inb_S2048x512_S256x512_768_0 x,
      List.forall_mem_cons.mpr ⟨fun x => wideStrip2 hf hX inb_S2048x512_S256x512_512_0 x,
      List.forall_mem_cons.mpr ⟨fun x => wideStrip1 hf hX inb_S2048x512_S256x512_256_0 x,
      List.forall_mem_cons.mpr ⟨fun x => wideStrip0 hf hX inb_S2048x512_S256x512_0_0 x,
      fun p hp => absurd hp List.not_mem_nil⟩⟩⟩⟩⟩⟩⟩⟩

theorem block3 (y : S8x2048.Idx) : out0_3 x0 x1 y = blockRows g y := by
  unfold out0_3
  rw [r7, r6, r5, r4, r3, r2, r1, r0]
  refine View.canon_apply_of_pieces (Val := Elt Ideal) (e := .f32) (blockRows g) _ (?_) y
    (View.cover_of_tiledL (s := S8x2048) _ S8x256.size (by sl_kernel_rfl) y)
  exact List.forall_mem_cons.mpr ⟨fun x => rowStrip7 hf hX inb_S8x2048_S8x256_0_1792 x,
      List.forall_mem_cons.mpr ⟨fun x => rowStrip6 hf hX inb_S8x2048_S8x256_0_1536 x,
      List.forall_mem_cons.mpr ⟨fun x => rowStrip5 hf hX inb_S8x2048_S8x256_0_1280 x,
      List.forall_mem_cons.mpr ⟨fun x => rowStrip4 hf hX inb_S8x2048_S8x256_0_1024 x,
      List.forall_mem_cons.mpr ⟨fun x => rowStrip3 hf hX inb_S8x2048_S8x256_0_768 x,
      List.forall_mem_cons.mpr ⟨fun x => rowStrip2 hf hX inb_S8x2048_S8x256_0_512 x,
      List.forall_mem_cons.mpr ⟨fun x => rowStrip1 hf hX inb_S8x2048_S8x256_0_256 x,
      List.forall_mem_cons.mpr ⟨fun x => rowStrip0 hf hX inb_S8x2048_S8x256_0_0 x,
      fun p hp => absurd hp List.not_mem_nil⟩⟩⟩⟩⟩⟩⟩⟩
end

theorem wide_eq (t : Fin cfg0.N) (y : S2048x512.Idx) :
    blockWide (G m c t) y = Spec.foxWide (D0 m c) (D1 m c) (ix2 (row t (y 0)) (y 1)) := by
  obtain ⟨r, j, rfl⟩ : ∃ (r : Fin 2048) (j : Fin 512), y = ix2 r j := ⟨y 0, y 1, by blk_ext⟩
  show Spec.head (Spec.gateLog _ _ t.val _) (r.val + 1)
    = Spec.head (Spec.gateLog _ _ ((t.val * 2048 + r.val) / 2048) _) ((t.val * 2048 + r.val) % 2048 + 1)
  rw [show (t.val * 2048 + r.val) / 2048 = t.val by omega, show (t.val * 2048 + r.val) % 2048 = r.val by omega]
  rfl

theorem rows_eq (t : Fin cfg0.N) (y : S8x2048.Idx) :
    blockRows (G m c t) y = Spec.foxRows (D0 m c) (D1 m c) (ix2 (headRow t (y 0)) (y 1)) := by
  obtain ⟨j, n, rfl⟩ : ∃ (j : Fin 8) (n : Fin 2048), y = ix2 j n := ⟨y 0, y 1, by blk_ext⟩
  have e : (⟨(t.val * 8 + j.val) % 8, Nat.mod_lt _ (by decide)⟩ : Fin 8) = j := Fin.ext (by show (t.val * 8 + j.val) % 8 = j.val; omega)
  show Spec.head (Spec.gateLog _ _ t.val j) (n.val + 1)
    = Spec.head (Spec.gateLog _ _ ((t.val * 8 + j.val) / 8) ⟨(t.val * 8 + j.val) % 8, Nat.mod_lt _ (by decide)⟩) (n.val + 1)
  rw [e, show (t.val * 8 + j.val) / 8 = t.val by omega]

theorem out2 : (dats m 0 c).arrAt 2 cfg0.N = Spec.foxWide (D0 m c) (D1 m c) := by
  refine (dats m 0 c).arrAt_eq_of_covers 2 _ (by decide +kernel) fun t hf y => ?_
  have e : ((cfg0.win 2).blk t).view.emb y = ix2 (row t (y 0)) (y 1) := by blk_ext [idx t]
  rw [e]
  blk_simp
  rw [after0_2]
  exact (block2 (Spec.gateLog_parts _ _ t.val) (gate m c t) y).trans (wide_eq m c t y)

theorem out3 : (dats m 0 c).arrAt 3 cfg0.N = Spec.foxRows (D0 m c) (D1 m c) := by
  refine (dats m 0 c).arrAt_eq_of_covers 3 _ (by decide +kernel) fun t hf y => ?_
  have e : ((cfg0.win 3).blk t).view.emb y = ix2 (headRow t (y 0)) (y 1) := by blk_ext [idx t]
  rw [e]
  blk_simp
  rw [after0_3]
  exact (block3 (Spec.gateLog_parts _ _ t.val) (gate m c t) y).trans (rows_eq m c t y)

end Cert.FoxPrepIdeal.Result

end
-- ==== Proof.FoxPrepRef.lean ====
module

public import proofs.«01_k».proof.Proof.FoxPrepSpec
public import proofs.«01_k».proof.Proof.Gen.FoxPrepRefIdeal.Run
public import proofs.«01_k».proof.Proof.Gen.FoxPrepRefIdeal.Read
public import Idealize.ShloMosaic.Lib.Pipeline.ValueKit
public import Idealize.ShloMosaic.Lib.Pointwise

@[expose] public section

set_option maxRecDepth 16384

noncomputable section

/-! # The forget gate's sums: the reference's results are the same functions of its arguments -/

namespace Cert.FoxPrepRefIdeal.Result

open Cert.FoxPrepRefIdeal Cert.FoxPrepRefIdeal.Gen Idealize.ShloMosaic Idealize.ShloMosaic.TcCoe Idealize.SL.Sem

theorem foldl_add {ι : Type} (g : ι → EReal) (L : List ι) (v : EReal) : L.foldl (fun r n => r + g n) v = v + (L.map g).sum := by
  induction L generalizing v with
  | nil => simp
  | cons a L ih => simp only [List.foldl_cons, ih, List.map_cons, List.sum_cons, add_assoc]

/-- A window of 2048 entries that ends at entry `n` sums the entries up to `n`. -/
theorem window (x : FVec Ideal S2x8x2048 .f32) (z : FVec Ideal S_ .f32) (hz : z (Shape.Idx.first h_S_) = 0) (s : Fin 2) (h : Fin 8) (n : Fin 2048) :
    (Host.reduceWindowAdd ![1, 1, 2048] ![1, 1, 1] ![0, 0, 2047] ![0, 0, 0] x z
      reduceWindows_S2x8x2048_S2x8x2048_w1s1p0_0_w1s1p0_0_w2048s1p2047_0 h_S_ : S2x8x2048.Idx → EReal) (ix3 s h n)
      = ∑ w : Fin 2048, if hw : 2047 ≤ n.val + w.val then x (ix3 s h ⟨n.val + w.val - 2047, by omega⟩) else 0 := by
  unfold Host.reduceWindowAdd
  rw [hz, Ideal.hostReduceWindowAdd_def]
  unfold Ideal.hostReduceWindowAdd Host.reduceWindow
  dsimp only
  rw [foldl_add, zero_add, ← Fin.sum_univ_def]
  refine Fintype.sum_equiv ((Shape.rowMajor (⟨3, ![1, 1, 2048]⟩ : Shape)).symm.trans
    (⟨fun i => i 2, fun w => ix3 0 0 w, fun i => by blk_ext, fun w => rfl⟩ : (⟨3, ![1, 1, 2048]⟩ : Shape).Idx ≃ Fin 2048)) _ _ fun i => ?_
  obtain ⟨p, rfl⟩ : ∃ p, i = Shape.rowMajor (⟨3, ![1, 1, 2048]⟩ : Shape) p := ⟨_, (Equiv.apply_symm_apply _ _).symm⟩
  obtain ⟨w, rfl⟩ : ∃ w : Fin 2048, p = ix3 0 0 w := ⟨p 2, by blk_ext⟩
  simp only [Equiv.trans_apply, Equiv.symm_apply_apply]
  change _ = if hw : 2047 ≤ n.val + w.val then x (ix3 s h ⟨n.val + w.val - 2047, by omega⟩) else 0
  by_cases hw : 2047 ≤ n.val + w.val
  · rw [dif_pos hw, dif_pos (fun a => match a with
      | 0 => ⟨Nat.zero_le _, by show s.val * 1 + 0 - 0 < 2; omega⟩
      | 1 => ⟨Nat.zero_le _, by show h.val * 1 + 0 - 0 < 8; omega⟩
      | 2 => ⟨by show 2047 ≤ n.val * 1 + w.val; omega, by show n.val * 1 + w.val - 2047 < 2048; omega⟩)]
    refine congrArg x (funext fun a => Fin.ext ?_)
    match a with
    | 0 => show s.val * 1 + 0 - 0 = s.val; omega
    | 1 => show h.val * 1 + 0 - 0 = h.val; omega
    | 2 => show n.val * 1 + w.val - 2047 = n.val + w.val - 2047; omega
  · rw [dif_neg hw, dif_neg (fun hc => hw (by
      have h1 : 2047 ≤ n.val * 1 + w.val := (hc 2).1
      omega))]

/-- … and so is the sum of a sequence up to there. -/
theorem window_head (V : ℕ → EReal) (n : Fin 2048) :
    ∑ w : Fin 2048, (if 2047 ≤ n.val + w.val then V (n.val + w.val - 2047) else 0) = Spec.head V (n.val + 1) := by
  unfold Spec.head
  have hn := n.isLt
  rw [Fin.sum_univ_eq_sum_range (fun w => if 2047 ≤ n.val + w then V (n.val + w - 2047) else 0) 2048, ← Finset.sum_filter]
  refine Finset.sum_bij' (fun w _ => n.val + w - 2047) (fun k _ => 2047 - n.val + k) ?_ ?_ ?_ ?_ ?_
  · intro w hw
    simp only [Finset.mem_filter, Finset.mem_range] at hw ⊢
    omega
  · intro k hk
    simp only [Finset.mem_filter, Finset.mem_range] at hk ⊢
    omega
  · intro w hw
    simp only [Finset.mem_filter, Finset.mem_range] at hw ⊢
    omega
  · intro k hk
    simp only [Finset.mem_range] at hk ⊢
    omega
  · intro w _
    rfl

variable (x0 : (⟨S4096x128, .f32⟩ : BufTy).Contents (Elt Ideal)) (x1 : (⟨S1x128, .f32⟩ : BufTy).Contents (Elt Ideal))

theorem log_at (r : Fin 4096) (j : Fin 8) :
    (Read.val_main_v4 x0 x1 : S4096x8.Idx → EReal) (ix2 r j)
      = Spec.logSigmoid (x0 (ix2 r ⟨j.val, by omega⟩) + x1 (ix2 0 ⟨j.val, by omega⟩)) := by
  unfold Read.val_main_v4 Read.val_main_call0_v1 Read.val_main_call0_call0_v11 Read.val_main_call0_call0_v10
    Read.val_main_call0_call0_v9 Read.val_main_call0_call0_v8 Read.val_main_call0_call0_v7 Read.val_main_call0_call0_v6
    Read.val_main_call0_call0_v5 Read.val_main_call0_call0_v4 Read.val_main_call0_call0_v3 Read.val_main_call0_call0_v2
    Read.val_main_call0_call0_v1 Read.val_main_call0_call0_v0 Read.val_main_call0_call0_cst Read.val_main_call0_v0
    Read.val_main_v3 Read.val_main_v2 Read.val_main_v1 Read.val_main_v0
  pointwise
  generalize x0 (ix2 r ⟨j.val, _⟩) + x1 (ix2 0 ⟨j.val, _⟩) = n
  rw [if_neg (not_not.mpr rfl)]
  show -(max (-n) 0 + Ideal.log (1 + Ideal.exp (-max (-n) (- -n)))) = 0 - (max (0 - n) 0 + Ideal.log (1 + Ideal.exp (0 - max n (-n))))
  rw [zero_sub, zero_sub, zero_sub, neg_neg, max_comm (-n) n]

theorem logs_at (s : Fin 2) (j : Fin 8) (n : Fin 2048) :
    (Read.val_main_v6 x0 x1 : S2x8x2048.Idx → EReal) (ix3 s j n) = Spec.gateLog x0 x1 s.val j n.val := by
  rw [Read.val_main_v6_apply, Read.val_main_v5_apply]
  have e : Read.idx_main_v5 (Read.idx_main_v6 (ix3 s j n)) = ix2 ⟨s.val * 2048 + n.val, by omega⟩ j := by
    funext a; apply Fin.ext
    match a with
    | 0 => show ((s.val * 2048 + n.val) * 8 + j.val) / 8 = s.val * 2048 + n.val; omega
    | 1 => show ((s.val * 2048 + n.val) * 8 + j.val) % 8 = j.val; omega
  rw [e, log_at]
  unfold Spec.gateLog
  rw [dif_pos (by omega)]

theorem sums (s : Fin 2) (j : Fin 8) (n : Fin 2048) :
    (Read.val_main_v7 x0 x1 : S2x8x2048.Idx → EReal) (ix3 s j n) = Spec.head (Spec.gateLog x0 x1 s.val j) (n.val + 1) := by
  refine (window _ _ (by unfold Read.val_main_call1_call0_v0 Read.val_main_call1_call0_cst; pointwise) _ _ _).trans ?_
  rw [← window_head]
  refine Finset.sum_congr rfl fun w _ => ?_
  by_cases hw : 2047 ≤ n.val + w.val
  · rw [dif_pos hw, if_pos hw, logs_at]
  · rw [dif_neg hw, if_neg hw]

theorem result11 : (Read.val_main_v11 x0 x1 : S4096x512.Idx → EReal) = Spec.foxWide x0 x1 := by
  refine funext fun (i : S4096x512.Idx) => ?_
  obtain ⟨r, j, rfl⟩ : ∃ (r : Fin 4096) (j : Fin 512), i = ix2 r j := ⟨i 0, i 1, by blk_ext⟩
  rw [Read.val_main_v11_apply, Read.val_main_v10_apply, Read.val_main_v9_apply, Read.val_main_v8_apply]
  have e : Read.idx_main_v8 (Read.idx_main_v9 (Read.idx_main_v10 (Read.idx_main_v11 (ix2 r j))))
      = ix3 ⟨r.val / 2048, by omega⟩ ⟨j.val / 64, by omega⟩ ⟨r.val % 2048, by omega⟩ := by
    funext a; apply Fin.ext
    match a with
    | 0 => show ((r.val * 512 + j.val) / 512 * 8 + (r.val * 512 + j.val) / 64 % 8) / 16384 = r.val / 2048; omega
    | 1 => show ((r.val * 512 + j.val) / 512 * 8 + (r.val * 512 + j.val) / 64 % 8) % 8 = j.val / 64; omega
    | 2 => show ((r.val * 512 + j.val) / 512 * 8 + (r.val * 512 + j.val) / 64 % 8) / 8 % 2048 = r.val % 2048; omega
  rw [e, sums]
  rfl

theorem result12 : (Read.val_main_v12 x0 x1 : S16x2048.Idx → EReal) = Spec.foxRows x0 x1 := by
  refine funext fun (i : S16x2048.Idx) => ?_
  obtain ⟨r, n, rfl⟩ : ∃ (r : Fin 16) (n : Fin 2048), i = ix2 r n := ⟨i 0, i 1, by blk_ext⟩
  rw [Read.val_main_v12_apply]
  have e : Read.idx_main_v12 (ix2 r n) = ix3 ⟨r.val / 8, by omega⟩ ⟨r.val % 8, by omega⟩ n := by
    funext a; apply Fin.ext
    match a with
    | 0 => show (r.val * 2048 + n.val) / 16384 = r.val / 8; omega
    | 1 => show (r.val * 2048 + n.val) / 2048 % 8 = r.val % 8; omega
    | 2 => show (r.val * 2048 + n.val) % 2048 = n.val; omega
  rw [e, sums]
  rfl

end Cert.FoxPrepRefIdeal.Result

end
-- ==== Proof.FoxPrepClaims.lean ====
module
public import proofs.«01_k».proof.Defs
public import proofs.«01_k».proof.Proof.Gen.FoxPrep
public import proofs.«01_k».proof.Proof.Gen.FoxPrep.Frame
public import proofs.«01_k».proof.Proof.Gen.FoxPrepIdeal.Value
public import proofs.«01_k».proof.Proof.Gen.FoxPrepRefIdeal.Run
public import proofs.«01_k».proof.Proof.Gen.FoxPrepRefIdeal.Read
public import proofs.«01_k».proof.Proof.FoxPrep
public import proofs.«01_k».proof.Proof.FoxPrepRef
public import Idealize.ShloMosaic.Adequacy
public import Idealize.ShloMosaic.Init

@[expose] public section
noncomputable section

/-!
# The forget gate's sums: the claims

Both runs end at the sums of `FoxPrepSpec`, whatever the arguments: a gate that is shut makes the same sums minus infinity in both.
-/

namespace Cert.Proof.FoxPrep
open Idealize.ShloMosaic Idealize.SL.Sem

theorem frame_kernel : Cert.quiescent_FoxPrep := fun m ρ _ => Cert.FoxPrep.Gen.frame m ρ

theorem frame_kernelIdeal : Cert.quiescent_FoxPrepIdeal := fun m ρ _ => Cert.FoxPrepIdeal.Gen.frame m ρ

theorem frame_referenceIdeal : Cert.quiescent_FoxPrepRefIdeal := fun m ρ _ =>
  (θ_run Cert.FoxPrepRefIdeal.defs _ _).mono (fun r h => ⟨fun c => (h c).2.2, Idealize.ShloMosaic.sem_eq_zero_of_no_sems (by decide) r.2⟩)
    (Cert.FoxPrepRefIdeal.Value.run (F := Ideal) m ρ)

theorem preserves : Cert.preserves_FoxPrep_FoxPrepIdeal := trivial

theorem algebraic : Cert.algebraic_FoxPrepIdeal_FoxPrepRefIdeal := by
  intro m ρ m' ρ' hpre hagree
  refine ⟨_, _, Cert.FoxPrepIdeal.Value.run_blocks m ρ, ?_⟩
  refine (θ_run Cert.FoxPrepRefIdeal.defs _ _).mono (fun r h c => ?_) (Cert.FoxPrepRefIdeal.Value.run (F := Ideal) m' ρ')
  obtain ⟨h0, h1, hargs⟩ := h c
  obtain ⟨a0, a1⟩ := hagree c
  refine ⟨h0.trans ?_, h1.trans ?_, hargs⟩
  · rw [Cert.FoxPrepIdeal.Result.out2 m c]
    refine (Cert.FoxPrepRefIdeal.Read.val_main_v11_eq ..).trans ((Cert.FoxPrepRefIdeal.Result.result11 ..).trans ?_)
    rw [a0, a1]
  · rw [Cert.FoxPrepIdeal.Result.out3 m c]
    refine (Cert.FoxPrepRefIdeal.Read.val_main_v12_eq ..).trans ((Cert.FoxPrepRefIdeal.Result.result12 ..).trans ?_)
    rw [a0, a1]

end Cert.Proof.FoxPrep
-- ==== Proof.AdamVecClaims.lean ====
module
public import proofs.«01_k».proof.Defs
public import proofs.«01_k».proof.Proof.Gen.AdamVec
public import proofs.«01_k».proof.Proof.Gen.AdamVec.Frame
public import proofs.«01_k».proof.Proof.Gen.AdamVecIdeal.Value
public import proofs.«01_k».proof.Proof.Gen.AdamVecRefIdeal.Run
public import proofs.«01_k».proof.Proof.Gen.AdamVecRefIdeal.Read
public import Idealize.ShloMosaic.Adequacy
public import Idealize.ShloMosaic.Init

@[expose] public section
noncomputable section

/-!
# The optimiser's step of the packed vectors: the claims

Kernel and reference are the same operations at every index.
-/

namespace Cert.Proof.AdamVec
open Idealize.ShloMosaic Idealize.SL.Sem

theorem frame_kernel : Cert.quiescent_AdamVec := fun m ρ _ => Cert.AdamVec.Gen.frame m ρ

theorem frame_kernelIdeal : Cert.quiescent_AdamVecIdeal := fun m ρ _ => Cert.AdamVecIdeal.Gen.frame m ρ

theorem frame_referenceIdeal : Cert.quiescent_AdamVecRefIdeal := fun m ρ _ =>
  (θ_run Cert.AdamVecRefIdeal.defs _ _).mono (fun r h => ⟨fun c => (h c).2.2.2, Idealize.ShloMosaic.sem_eq_zero_of_no_sems (by decide) r.2⟩)
    (Cert.AdamVecRefIdeal.Value.run (F := Ideal) m ρ)

theorem preserves : Cert.preserves_AdamVec_AdamVecIdeal := trivial

theorem algebraic : Cert.algebraic_AdamVecIdeal_AdamVecRefIdeal := by
  intro m ρ m' ρ' _ hagree
  refine ⟨_, _, _, Cert.AdamVecIdeal.Value.run m ρ, ?_⟩
  refine (θ_run Cert.AdamVecRefIdeal.defs _ _).mono (fun r h c => ?_) (Cert.AdamVecRefIdeal.Value.run (F := Ideal) m' ρ')
  obtain ⟨h0, h1, h2, hargs⟩ := h c
  obtain ⟨a0, a1, a2, a3⟩ := hagree c
  refine ⟨h0.trans ?_, h1.trans ?_, h2.trans ?_, hargs⟩
  · rw [a0, a1, a2, a3]
    rfl
  · rw [a1, a2]
    rfl
  · rw [a1, a3]
    rfl

end Cert.Proof.AdamVec
-- ==== Proof.AdamBigRef.lean ====
module

public import proofs.«01_k».proof.Proof.Gen.AdamBigRefIdeal.Run
public import proofs.«01_k».proof.Proof.Gen.AdamBigRefIdeal.Read
public import Idealize.ShloMosaic.Lib.Pipeline.Value
public import proofs.«01_k».proof.Proof.Spec
public import Idealize.ShloMosaic.Lib.Pointwise

@[expose] public section

noncomputable section

/-! # The optimiser's step of a large weight, at an index, and the reference as it -/

namespace Cert.Spec

open Idealize.ShloMosaic

/-- The first moment after the gradient `g`. -/
def adamM (m g : Ideal .f32) : Ideal .f32 :=
  FloatOps.addf (FloatOps.mulf (FloatOps.ofBits .f32 0x3F666666#32) m) (FloatOps.mulf (FloatOps.ofBits .f32 0x3DCCCCCD#32) g)

/-- The second moment after the gradient `g`. -/
def adamV (v g : Ideal .f32) : Ideal .f32 :=
  FloatOps.addf (FloatOps.mulf (FloatOps.ofBits .f32 0x3F7FBE77#32) v)
    (FloatOps.mulf (FloatOps.ofBits .f32 0x3A83126F#32) (FloatOps.mulf g g))

/-- The step of a weight `w` whose moments are `m` and `v` after the gradient. -/
def adamStep (w m v : Ideal .f32) : Ideal .f32 :=
  FloatOps.mulf (FloatOps.ofBits .f32 0xBA83126F#32)
    (FloatOps.addf
      (FloatOps.divf (FloatOps.divf m (FloatOps.ofBits .f32 0x3F26BD02#32))
        (FloatOps.addf (FloatOps.sqrt (FloatOps.divf v (FloatOps.ofBits .f32 0x3C231ACC#32))) (FloatOps.ofBits .f32 0x322BCC77#32)))
      (FloatOps.mulf (FloatOps.ofBits .f32 0x3C23D70A#32) w))

/-- The gradient whose half `p` is the core's own and whose other half is the other core's. -/
def halves (p : ℕ) (mine theirs : A2 512 1024) : A2 1024 1024 := fun i =>
  if (i 0).val / 512 = p then mine (ix2 ⟨(i 0).val % 512, Nat.mod_lt _ (by decide)⟩ (i 1))
  else theirs (ix2 ⟨(i 0).val % 512, Nat.mod_lt _ (by decide)⟩ (i 1))

end Cert.Spec

namespace Cert.AdamBigRefIdeal.Closed

open Cert.AdamBigRefIdeal Cert.AdamBigRefIdeal.Gen Cert.AdamBigRefIdeal.Read Idealize.ShloMosaic Idealize.ShloMosaic.TcCoe Idealize.SL.Sem

variable (x0 : S2.Idx → BitVec 32) (x1 x2 x3 : Spec.A2 1024 1024) (x4 x5 : Spec.A2 512 1024)

/-- The index of the core's number in the place. -/
abbrev second : S2.Idx := fun a => match a with | ⟨0, _⟩ => (⟨1, by decide⟩ : Fin 2)

/-- Two halves one above the other. -/
theorem stacked (a b : Spec.A2 512 1024) (i : S1024x1024.Idx) :
    concatenate S1024x1024 0 [⟨S512x1024, a⟩, ⟨S512x1024, b⟩] concatenates_S512x1024_S512x1024_S1024x1024_d0 i
      = Spec.halves 0 a b i := by
  have h0 : (i 0).val < 1024 := (i 0).isLt
  unfold Spec.halves
  by_cases h : (i 0).val / 512 = 0
  · rw [if_pos h]
    refine concatenate_pair_apply_left (t := S1024x1024) (s₁ := S512x1024) (s₂ := S512x1024) 0 a b _ i rfl _ fun q => ?_
    match q with
    | ⟨0, _⟩ => show (i 0).val % 512 = (i 0).val; omega
    | ⟨1, _⟩ => rfl
  · rw [if_neg h]
    refine concatenate_pair_apply_right (t := S1024x1024) (s₁ := S512x1024) (s₂ := S512x1024) 0 a b _ i rfl rfl _ (fun q hq => ?_) ?_
    · match q with
      | ⟨0, _⟩ => exact absurd rfl hq
      | ⟨1, _⟩ => rfl
    · show (i 0).val % 512 + 512 = (i 0).val
      omega

theorem halves_swap (a b : Spec.A2 512 1024) (i : S1024x1024.Idx) : Spec.halves 0 b a i = Spec.halves 1 a b i := by
  have h0 : (i 0).val < 1024 := (i 0).isLt
  unfold Spec.halves
  by_cases h : (i 0).val / 512 = 0
  · rw [if_pos h, if_neg (by omega)]
  · rw [if_neg h, if_pos (by omega)]

/-- The core's number as the reference reads it. -/
theorem core (z : S_.Idx) : val_main_v1 (F := Ideal) x0 z = x0 second := by
  unfold val_main_v1 shapeCast
  rw [val_main_v0_apply]
  refine congrArg x0 (funext fun a => Fin.ext ?_)
  match a with
  | ⟨0, _⟩ =>
    generalize (Shape.reshapeEquiv shapeCasts_S1_S_) z = w
    have : (w 0).val < 1 := (w 0).isLt
    show 1 + (w 0).val = 1
    omega

theorem grad (p : ℕ) (hp : p < 2) (h : x0 second = BitVec.ofNat 32 p) :
    val_main_v5 (F := Ideal) x0 x4 x5 = Spec.halves p x4 x5 := by
  funext i
  unfold val_main_v5
  show Scalar.select (broadcastInDim S1024x1024 ![] bcast_S_S1024x1024 (val_main_v2 (F := Ideal) x0) i) _ _ = _
  rw [broadcastInDim_apply _ bcast_S_S1024x1024 _ i (fun a => a.elim0) (fun a => a.elim0), val_main_v2_apply, core, h]
  have : p = 0 ∨ p = 1 := by omega
  rcases this with rfl | rfl
  · exact stacked x4 x5 i
  · exact (stacked x5 x4 i).trans (halves_swap x4 x5 i)

theorem moment1 (i : S1024x1024.Idx) :
    val_main_v10 (F := Ideal) x0 x2 x4 x5 i = Spec.adamM (x2 i) (val_main_v5 (F := Ideal) x0 x4 x5 i) := rfl

theorem moment2 (i : S1024x1024.Idx) :
    val_main_v16 (F := Ideal) x0 x3 x4 x5 i = Spec.adamV (x3 i) (val_main_v5 (F := Ideal) x0 x4 x5 i) := rfl

theorem step (i : S1024x1024.Idx) :
    val_main_v29 (F := Ideal) x0 x1 x2 x3 x4 x5 i
      = Spec.adamStep (x1 i) (val_main_v10 (F := Ideal) x0 x2 x4 x5 i) (val_main_v16 (F := Ideal) x0 x3 x4 x5 i) := rfl

end Cert.AdamBigRefIdeal.Closed

end
-- ==== Proof.AdamBig.lean ====
module

public import proofs.«01_k».proof.Proof.Gen.AdamBigIdeal.Flash
public import Idealize.ShloMosaic.Lib.Pipeline.ValueKit
public import Idealize.ShloMosaic.Lib.Pointwise
public import Idealize.ShloMosaic.Lib.Decide
public import Idealize.ShloMosaic.Lib.Pipeline.ReadBack
public import proofs.«01_k».proof.Proof.AdamBigRef

@[expose] public section

set_option maxRecDepth 16384

noncomputable section

/-! # The optimiser's step of a large weight: what the kernel leaves in its results

The grid's first point takes the half of the weight that the core's own gradient is of, its second the other half. -/

namespace Cert.AdamBigIdeal.Result

open Cert.AdamBigIdeal Cert.AdamBigIdeal.Gen Idealize.ShloMosaic Idealize.ShloMosaic.TcCoe Idealize.SL.Sem
open Idealize.ShloMosaic.Pipeline (Dat)

variable (ch : Fin 8) (m : (ℓ : Loc nD τ sig) → Buf (Elt Ideal) ℓ) (ρ : Dev nD → PrngReg) (c : Dev nD)

abbrev A1 : Spec.A2 1024 1024 := m ((c : Thread nD τ).loc main_arg1)
abbrev A2 : Spec.A2 1024 1024 := m ((c : Thread nD τ).loc main_arg2)
abbrev A3 : Spec.A2 1024 1024 := m ((c : Thread nD τ).loc main_arg3)
abbrev A4 : Spec.A2 512 1024 := m ((c : Thread nD τ).loc main_arg4)
abbrev A5 : Spec.A2 512 1024 := m ((c : Thread nD τ).loc main_arg5)

/-- The windows' blocks by the grid point: on core `ch % 2`, point `t` has the half `(ch + t) % 2`. -/
theorem idx : ∀ (ch : Fin 8) (t : Fin (cfgA ch).N),
    ((cfgA ch).win 0).index t = ![(ch.val + t.val) % 2, 0] ∧ ((cfgA ch).win 1).index t = ![(ch.val + t.val) % 2, 0]
    ∧ ((cfgA ch).win 2).index t = ![(ch.val + t.val) % 2, 0] ∧ ((cfgA ch).win 3).index t = ![0, 0]
    ∧ ((cfgA ch).win 4).index t = ![0, 0] ∧ ((cfgA ch).win 5).index t = ![(ch.val + t.val) % 2, 0]
    ∧ ((cfgA ch).win 6).index t = ![(ch.val + t.val) % 2, 0] ∧ ((cfgA ch).win 7).index t = ![(ch.val + t.val) % 2, 0]
    ∧ ((cfgA ch).win 8).index t = ![(ch.val + t.val) % 2, 0] := by
  have key : ∀ (ch : Fin 8) (t : Fin (cfgA ch).N),
    ((((cfgA ch).win 0).index t : Fin 2 → ℕ) (0 : Fin 2) = (ch.val + t.val) % 2 ∧ (((cfgA ch).win 0).index t : Fin 2 → ℕ) (1 : Fin 2) = 0)
    ∧ ((((cfgA ch).win 1).index t : Fin 2 → ℕ) (0 : Fin 2) = (ch.val + t.val) % 2 ∧ (((cfgA ch).win 1).index t : Fin 2 → ℕ) (1 : Fin 2) = 0)
    ∧ ((((cfgA ch).win 2).index t : Fin 2 → ℕ) (0 : Fin 2) = (ch.val + t.val) % 2 ∧ (((cfgA ch).win 2).index t : Fin 2 → ℕ) (1 : Fin 2) = 0)
    ∧ ((((cfgA ch).win 3).index t : Fin 2 → ℕ) (0 : Fin 2) = 0 ∧ (((cfgA ch).win 3).index t : Fin 2 → ℕ) (1 : Fin 2) = 0)
    ∧ ((((cfgA ch).win 4).index t : Fin 2 → ℕ) (0 : Fin 2) = 0 ∧ (((cfgA ch).win 4).index t : Fin 2 → ℕ) (1 : Fin 2) = 0)
    ∧ ((((cfgA ch).win 5).index t : Fin 2 → ℕ) (0 : Fin 2) = (ch.val + t.val) % 2 ∧ (((cfgA ch).win 5).index t : Fin 2 → ℕ) (1 : Fin 2) = 0)
    ∧ ((((cfgA ch).win 6).index t : Fin 2 → ℕ) (0 : Fin 2) = (ch.val + t.val) % 2 ∧ (((cfgA ch).win 6).index t : Fin 2 → ℕ) (1 : Fin 2) = 0)
    ∧ ((((cfgA ch).win 7).index t : Fin 2 → ℕ) (0 : Fin 2) = (ch.val + t.val) % 2 ∧ (((cfgA ch).win 7).index t : Fin 2 → ℕ) (1 : Fin 2) = 0)
    ∧ ((((cfgA ch).win 8).index t : Fin 2 → ℕ) (0 : Fin 2) = (ch.val + t.val) % 2 ∧ (((cfgA ch).win 8).index t : Fin 2 → ℕ) (1 : Fin 2) = 0) := by decide +kernel
  have two : ∀ {f : Fin 2 → ℕ} {a b : ℕ}, f 0 = a ∧ f 1 = b → f = ![a, b] := fun {f a b} h =>
    funext fun i => match i with | 0 => h.1 | 1 => h.2
  intro ch t
  obtain ⟨k0, k1, k2, k3, k4, k5, k6, k7, k8⟩ := key ch t
  exact ⟨two k0, two k1, two k2, two k3, two k4, two k5, two k6, two k7, two k8⟩

theorem point : ∀ (ch : Fin 8) (t : Fin (cfgA ch).N), t.val < 2 ∧ (crd ch t 0).val = t.val := by decide +kernel

theorem covers : ∀ ch : Fin 8, ((cfgA ch).win 5).Covers ∧ ((cfgA ch).win 6).Covers ∧ ((cfgA ch).win 7).Covers
    ∧ ((cfgA ch).win 8).Covers := by decide +kernel

/-- Row `r` of point `t`'s half. -/
abbrev row (t : Fin (cfgA ch).N) (r : Fin 512) : Fin 1024 := ⟨(ch.val + t.val) % 2 * 512 + r.val, by omega⟩

theorem b0 (t : Fin (cfgA ch).N) (x : S512x1024.Idx) :
    (iblk ch m ρ c 0 t : S512x1024.Idx → EReal) x = A1 m c (ix2 (row ch t (x 0)) (x 1)) := by
  blk_ext [iblk, idx ch t]
theorem b1 (t : Fin (cfgA ch).N) (x : S512x1024.Idx) :
    (iblk ch m ρ c 1 t : S512x1024.Idx → EReal) x = A2 m c (ix2 (row ch t (x 0)) (x 1)) := by
  blk_ext [iblk, idx ch t]
theorem b2 (t : Fin (cfgA ch).N) (x : S512x1024.Idx) :
    (iblk ch m ρ c 2 t : S512x1024.Idx → EReal) x = A3 m c (ix2 (row ch t (x 0)) (x 1)) := by
  blk_ext [iblk, idx ch t]
theorem b3 (t : Fin (cfgA ch).N) (x : S512x1024.Idx) :
    (iblk ch m ρ c 3 t : S512x1024.Idx → EReal) x = A4 m c x := by
  blk_ext [iblk, idx ch t]
theorem b4 (t : Fin (cfgA ch).N) (x : S512x1024.Idx) :
    (iblk ch m ρ c 4 t : S512x1024.Idx → EReal) x = A5 m c x := by
  blk_ext [iblk, idx ch t]

theorem after5 (t : Fin (cfgA ch).N) : (dats ch m ρ 0 c).after 5 t
    = k0_pay1 (BitVec.ofNat 32 (crd ch t 0).val) (iblk ch m ρ c 3 t) (iblk ch m ρ c 4 t) := by
  rw [after0_5, traj0_eq, step0_A]
  unfold out0_A_5
  frame_out
  simp only [View.read_rep]
  rfl
theorem after6 (t : Fin (cfgA ch).N) : (dats ch m ρ 0 c).after 6 t
    = k0_pay4 (BitVec.ofNat 32 (crd ch t 0).val) (iblk ch m ρ c 3 t) (iblk ch m ρ c 4 t)
        (iblk ch m ρ c 0 t) (iblk ch m ρ c 1 t) (iblk ch m ρ c 2 t) := by
  rw [after0_6, traj0_eq, step0_A]
  unfold out0_A_6
  frame_out
  simp only [View.read_rep]
  rfl
theorem after7 (t : Fin (cfgA ch).N) : (dats ch m ρ 0 c).after 7 t
    = k0_pay2 (BitVec.ofNat 32 (crd ch t 0).val) (iblk ch m ρ c 3 t) (iblk ch m ρ c 4 t) (iblk ch m ρ c 1 t) := by
  rw [after0_7, traj0_eq, step0_A]
  unfold out0_A_7
  frame_out
  simp only [View.read_rep]
  rfl
theorem after8 (t : Fin (cfgA ch).N) : (dats ch m ρ 0 c).after 8 t
    = k0_pay3 (BitVec.ofNat 32 (crd ch t 0).val) (iblk ch m ρ c 3 t) (iblk ch m ρ c 4 t) (iblk ch m ρ c 2 t) := by
  rw [after0_8, traj0_eq, step0_A]
  unfold out0_A_8
  frame_out
  simp only [View.read_rep]
  rfl

/-- The gradient a point takes, at a row of its half. -/
theorem grad (t : Fin (cfgA ch).N) (y : S512x1024.Idx) :
    k0_pay1 (F := Ideal) (BitVec.ofNat 32 (crd ch t 0).val) (iblk ch m ρ c 3 t) (iblk ch m ρ c 4 t) y
      = Spec.halves (ch.val % 2) (A4 m c) (A5 m c) (ix2 (row ch t (y 0)) (y 1)) := by
  obtain ⟨h2, hp⟩ := point ch t
  have h0 : (y 0).val < 512 := (y 0).isLt
  have hy : y = ix2 (y 0) (y 1) := eq_ix2 y
  unfold Spec.halves
  have hm : (⟨((ch.val + t.val) % 2 * 512 + (y 0).val) % 512, Nat.mod_lt _ (by decide)⟩ : Fin 512) = y 0 :=
    Fin.ext (by show _ % 512 = _; omega)
  rw [hp]
  unfold k0_pay1
  rcases (by omega : t.val = 0 ∨ t.val = 1) with h | h
  · rw [if_pos (by show ((ch.val + t.val) % 2 * 512 + (y 0).val) / 512 = ch.val % 2; omega), h]
    refine (b3 ch m ρ c t y).trans (congrArg (A4 m c) (hy.trans ?_))
    exact congrArg (fun r => ix2 r (y 1)) hm.symm
  · rw [if_neg (by show ¬((ch.val + t.val) % 2 * 512 + (y 0).val) / 512 = ch.val % 2; omega), h]
    refine (b4 ch m ρ c t y).trans (congrArg (A5 m c) (hy.trans ?_))
    exact congrArg (fun r => ix2 r (y 1)) hm.symm

/-- The gradient, the new moments and the step, at an index of the whole weight. -/
def G : Spec.A2 1024 1024 := Spec.halves (ch.val % 2) (A4 m c) (A5 m c)
def M : Spec.A2 1024 1024 := fun i => Spec.adamM (A2 m c i) (G ch m c i)
def V : Spec.A2 1024 1024 := fun i => Spec.adamV (A3 m c i) (G ch m c i)
def D : Spec.A2 1024 1024 := fun i => Spec.adamStep (A1 m c i) (M ch m c i) (V ch m c i)

theorem out_g : (dats ch m ρ 0 c).arrAt 5 (cfgA ch).N = G ch m c := by
  refine (dats ch m ρ 0 c).arrAt_eq_of_covers 5 _ (covers ch).1 fun t hf (y : S512x1024.Idx) => ?_
  have e : (((cfgA ch).win 5).blk t).view.emb y = ix2 (row ch t (y 0)) (y 1) := by blk_ext [idx ch t]
  rw [e]
  blk_simp
  rw [after5]
  exact grad ch m ρ c t y

theorem out_m : (dats ch m ρ 0 c).arrAt 7 (cfgA ch).N = M ch m c := by
  refine (dats ch m ρ 0 c).arrAt_eq_of_covers 7 _ (covers ch).2.2.1 fun t hf (y : S512x1024.Idx) => ?_
  have e : (((cfgA ch).win 7).blk t).view.emb y = ix2 (row ch t (y 0)) (y 1) := by blk_ext [idx ch t]
  rw [e]
  blk_simp
  rw [after7]
  show Spec.adamM _ _ = Spec.adamM _ _
  exact congrArg₂ Spec.adamM (b1 ch m ρ c t y) (grad ch m ρ c t y)

theorem out_v : (dats ch m ρ 0 c).arrAt 8 (cfgA ch).N = V ch m c := by
  refine (dats ch m ρ 0 c).arrAt_eq_of_covers 8 _ (covers ch).2.2.2 fun t hf (y : S512x1024.Idx) => ?_
  have e : (((cfgA ch).win 8).blk t).view.emb y = ix2 (row ch t (y 0)) (y 1) := by blk_ext [idx ch t]
  rw [e]
  blk_simp
  rw [after8]
  exact congrArg₂ Spec.adamV (b2 ch m ρ c t y) (grad ch m ρ c t y)

theorem out_d : (dats ch m ρ 0 c).arrAt 6 (cfgA ch).N = D ch m c := by
  refine (dats ch m ρ 0 c).arrAt_eq_of_covers 6 _ (covers ch).2.1 fun t hf (y : S512x1024.Idx) => ?_
  have e : (((cfgA ch).win 6).blk t).view.emb y = ix2 (row ch t (y 0)) (y 1) := by blk_ext [idx ch t]
  rw [e]
  blk_simp
  rw [after6]
  have hm := congrArg₂ Spec.adamM (b1 ch m ρ c t y) (grad ch m ρ c t y)
  have hv := congrArg₂ Spec.adamV (b2 ch m ρ c t y) (grad ch m ρ c t y)
  refine (show _ = Spec.adamStep _ (Spec.adamM _ _) (Spec.adamV _ _) from rfl).trans ?_
  rw [hm, hv, b0]
  rfl

end Cert.AdamBigIdeal.Result

end
-- ==== Proof.AdamBigClaims.lean ====
module
public import proofs.«01_k».proof.Defs
public import proofs.«01_k».proof.Proof.Gen.AdamBig
public import proofs.«01_k».proof.Proof.Gen.AdamBig.Flash
public import proofs.«01_k».proof.Proof.Gen.AdamBigIdeal.Flash
public import proofs.«01_k».proof.Proof.Gen.AdamBigRefIdeal.Run
public import proofs.«01_k».proof.Proof.Gen.AdamBigRefIdeal.Read
public import proofs.«01_k».proof.Proof.Gen.Pre_place_named
public import proofs.«01_k».proof.Proof.AdamBig
public import proofs.«01_k».proof.Proof.AdamBigRef
public import Idealize.ShloMosaic.Adequacy
public import Idealize.ShloMosaic.Init

@[expose] public section
noncomputable section

/-!
# The optimiser's step of a large weight: the claims

The precondition says the place is one of eight; the kernel's run is one of eight by the place, and each is joined with the
reference at the halves of the gradient.
-/

namespace Cert.Proof.AdamBig
open Idealize.ShloMosaic Idealize.ShloMosaic.TcCoe Idealize.SL.Sem

theorem both {a b : BitVec 1} (h : IntOp.andi a b = 1#1) : a = 1#1 ∧ b = 1#1 := by
  revert h a b
  decide

/-- A word the signed order has between zero and a small bound is one of the naturals below it. -/
theorem small {w : BitVec 32} {n : ℕ} (hn : n ≤ 4) (h0 : IntOp.cmpi .sge w 0#32 = 1#1)
    (h1 : IntOp.cmpi .slt w (BitVec.ofNat 32 n) = 1#1) : w.toNat < n := by
  have e0 : 0 ≤ w.toInt := by
    by_contra h
    simp [IntOp.cmpi, BitVec.sle, h] at h0
  have e1 : w.toInt < (BitVec.ofNat 32 n).toInt := by
    by_contra h
    simp [IntOp.cmpi, BitVec.slt, h] at h1
  have hw := w.isLt
  rw [BitVec.toInt_eq_toNat_cond] at e0 e1
  rw [BitVec.toInt_eq_toNat_cond, BitVec.toNat_ofNat] at e1
  have hm : n % 2 ^ 32 = n := Nat.mod_eq_of_lt (by omega)
  rw [hm] at e1
  split_ifs at e0 e1 <;> omega

/-- The one index of an array of one word. -/
abbrev only : Cert.Pre_place_named.S1.Idx := fun a => match a with | ⟨0, _⟩ => (⟨0, by decide⟩ : Fin 1)

/-- The place the printed precondition admits is a device's. -/
theorem named {F : FTy → Type} [FloatOps F] (x0 : Cert.Pre_place_named.S2.Idx → BitVec 32) (x1 x2 x3 : FVec F Cert.Pre_place_named.S1024x1024 .f32)
    (x4 x5 : FVec F Cert.Pre_place_named.S512x1024 .f32)
    (h : Cert.Pre_place_named.fn (F := F) x0 x1 x2 x3 x4 x5 = fun _ => 1#1) :
    ∃ ch : Fin 8, x0 = Cert.AdamBig.Gen.pinT_0 ch := by
  have hp := congrFun h only
  obtain ⟨hp, d1⟩ := both hp
  obtain ⟨hp, d0⟩ := both hp
  obtain ⟨c0, c1⟩ := both hp
  have e0 : ∀ i : Cert.Pre_place_named.S2.Idx, (i 0).val = 0 →
      extractStridedSlice Cert.Pre_place_named.S1 ![0] x0 Cert.Pre_place_named.Facts.slices_S2_S1_0 only = x0 i :=
    fun i hi => congrArg x0 (funext fun a => Fin.ext (match a with | ⟨0, _⟩ => hi.symm))
  have e1 : ∀ i : Cert.Pre_place_named.S2.Idx, (i 0).val = 1 →
      extractStridedSlice Cert.Pre_place_named.S1 ![1] x0 Cert.Pre_place_named.Facts.slices_S2_S1_1 only = x0 i :=
    fun i hi => congrArg x0 (funext fun a => Fin.ext (match a with | ⟨0, _⟩ => hi.symm))
  have hc : (extractStridedSlice Cert.Pre_place_named.S1 ![0] x0 Cert.Pre_place_named.Facts.slices_S2_S1_0 only).toNat < 4 :=
    small (n := 4) (by decide) c0 c1
  have hd : (extractStridedSlice Cert.Pre_place_named.S1 ![1] x0 Cert.Pre_place_named.Facts.slices_S2_S1_1 only).toNat < 2 :=
    small (n := 2) (by decide) d0 d1
  generalize hC : extractStridedSlice Cert.Pre_place_named.S1 ![0] x0 Cert.Pre_place_named.Facts.slices_S2_S1_0 only = C at hc e0
  generalize hD : extractStridedSlice Cert.Pre_place_named.S1 ![1] x0 Cert.Pre_place_named.Facts.slices_S2_S1_1 only = D at hd e1
  refine ⟨⟨2 * C.toNat + D.toNat, by omega⟩, funext fun i => ?_⟩
  have hi : (i 0).val < 2 := (i 0).isLt
  have words : ∀ a : Fin 4, ∀ b : Fin 2,
      IntOp.divsi .host (BitVec.ofNat 32 (2 * a.val + b.val)) 2#32 = BitVec.ofNat 32 a.val
      ∧ IntOp.subi (BitVec.ofNat 32 (2 * a.val + b.val)) (IntOp.muli 2#32 (IntOp.divsi .host (BitVec.ofNat 32 (2 * a.val + b.val)) 2#32))
          = BitVec.ofNat 32 b.val := by decide +kernel
  obtain ⟨w0, w1⟩ := words ⟨C.toNat, hc⟩ ⟨D.toNat, hd⟩
  unfold Cert.AdamBig.Gen.pinT_0
  rcases (by omega : (i 0).val = 0 ∨ (i 0).val = 1) with hz | hz
  · rw [if_pos (by omega), ← e0 i hz]
    exact ((BitVec.ofNat_toNat 32 C).symm.trans (by simp)).trans w0.symm |>.trans rfl
  · rw [if_neg (by omega), ← e1 i hz]
    exact ((BitVec.ofNat_toNat 32 D).symm.trans (by simp)).trans w1.symm |>.trans rfl

theorem pinned (m : (ℓ : Loc Cert.AdamBig.nD Cert.AdamBig.τ Cert.AdamBig.sig) → Buf (Elt Bits) ℓ) (h : Cert.Pre_AdamBig m) :
    ∃ ch : Fin 8, Cert.AdamBig.Gen.Pinned ch m := by
  obtain ⟨ch, e⟩ := named (F := Bits) _ _ _ _ _ _ (h 0)
  exact ⟨ch, fun c => (Subsingleton.elim c 0) ▸ e⟩

theorem pinnedIdeal (m : (ℓ : Loc Cert.AdamBigIdeal.nD Cert.AdamBigIdeal.τ Cert.AdamBigIdeal.sig) → Buf (Elt Ideal) ℓ)
    (h : Cert.Pre_AdamBigIdeal m) : ∃ ch : Fin 8, Cert.AdamBigIdeal.Gen.Pinned ch m := by
  obtain ⟨ch, e⟩ := named (F := Ideal) _ _ _ _ _ _ (h 0)
  exact ⟨ch, fun c => (Subsingleton.elim c 0) ▸ e⟩

theorem frame_kernel : Cert.quiescent_AdamBig := fun m ρ hpre => by
  obtain ⟨ch, hp⟩ := pinned m hpre
  exact Cert.AdamBig.Gen.frame ch m ρ hp

theorem frame_kernelIdeal : Cert.quiescent_AdamBigIdeal := fun m ρ hpre => by
  obtain ⟨ch, hp⟩ := pinnedIdeal m hpre
  exact Cert.AdamBigIdeal.Gen.frame ch m ρ hp

theorem frame_referenceIdeal : Cert.quiescent_AdamBigRefIdeal := fun m ρ _ =>
  (θ_run Cert.AdamBigRefIdeal.defs _ _).mono (fun r h => ⟨fun c => (h c).2.2.2.2, Idealize.ShloMosaic.sem_eq_zero_of_no_sems (by decide) r.2⟩)
    (Cert.AdamBigRefIdeal.Value.run (F := Ideal) m ρ)

theorem frame_referenceIdeal_named : Cert.quiescent_AdamBigRefIdeal_pre_place_named := fun m ρ _ =>
  (θ_run Cert.AdamBigRefIdeal.defs _ _).mono (fun r h => ⟨fun c => (h c).2.2.2.2, Idealize.ShloMosaic.sem_eq_zero_of_no_sems (by decide) r.2⟩)
    (Cert.AdamBigRefIdeal.Value.run (F := Ideal) m ρ)

theorem preserves : Cert.preserves_AdamBig_AdamBigIdeal := trivial

/-- The core's number in a device's place. -/
theorem core_word : ∀ ch : Fin 8, Cert.AdamBigIdeal.Gen.pinT_0 ch Cert.AdamBigRefIdeal.Closed.second = BitVec.ofNat 32 (ch.val % 2) := by
  decide +kernel

theorem algebraic : Cert.algebraic_AdamBigIdeal_AdamBigRefIdeal := by
  intro m ρ m' ρ' hpre hagree
  obtain ⟨ch, hp⟩ := pinnedIdeal m hpre
  refine ⟨fun c => Cert.AdamBigIdeal.Result.G ch m c, fun c => Cert.AdamBigIdeal.Result.D ch m c,
    fun c => Cert.AdamBigIdeal.Result.M ch m c, fun c => Cert.AdamBigIdeal.Result.V ch m c,
    (θ_run Cert.AdamBigIdeal.defs _ _).mono (fun r h c => ?_)
      (θ_run_and (Cert.AdamBigIdeal.Gen.unchanged ch m ρ hp) (Cert.AdamBigIdeal.Gen.run_main ch m ρ hp)), ?_⟩
  · obtain ⟨hargs, hq⟩ := h
    exact ⟨((hq c).1 5).trans (Cert.AdamBigIdeal.Result.out_g ch m ρ c), ((hq c).1 6).trans (Cert.AdamBigIdeal.Result.out_d ch m ρ c),
      ((hq c).1 7).trans (Cert.AdamBigIdeal.Result.out_m ch m ρ c), ((hq c).1 8).trans (Cert.AdamBigIdeal.Result.out_v ch m ρ c), hargs c⟩
  · refine (θ_run Cert.AdamBigRefIdeal.defs _ _).mono (fun r h c => ?_) (Cert.AdamBigRefIdeal.Value.run (F := Ideal) m' ρ')
    obtain ⟨h0, h1, h2, h3, hargs⟩ := h c
    obtain ⟨a0, a1, a2, a3, a4, a5⟩ := hagree c
    have hx := (congrFun (hp c) Cert.AdamBigRefIdeal.Closed.second).trans (core_word ch)
    have hg := Cert.AdamBigRefIdeal.Closed.grad _ (Cert.AdamBigIdeal.Result.A4 m c) (Cert.AdamBigIdeal.Result.A5 m c)
      (ch.val % 2) (Nat.mod_lt _ (by decide)) hx
    have hm : Cert.AdamBigRefIdeal.Read.val_main_v10 (F := Ideal) _ (Cert.AdamBigIdeal.Result.A2 m c) (Cert.AdamBigIdeal.Result.A4 m c)
        (Cert.AdamBigIdeal.Result.A5 m c) = Cert.AdamBigIdeal.Result.M ch m c :=
      funext fun i => (Cert.AdamBigRefIdeal.Closed.moment1 _ _ _ _ i).trans (congrArg (Spec.adamM _) (congrFun hg i))
    have hv : Cert.AdamBigRefIdeal.Read.val_main_v16 (F := Ideal) _ (Cert.AdamBigIdeal.Result.A3 m c) (Cert.AdamBigIdeal.Result.A4 m c)
        (Cert.AdamBigIdeal.Result.A5 m c) = Cert.AdamBigIdeal.Result.V ch m c :=
      funext fun i => (Cert.AdamBigRefIdeal.Closed.moment2 _ _ _ _ i).trans (congrArg (Spec.adamV _) (congrFun hg i))
    refine ⟨h0.trans ?_, h1.trans ?_, h2.trans ?_, h3.trans ?_, hargs⟩
    · rw [a0, a4, a5]
      exact (Cert.AdamBigRefIdeal.Read.val_main_v5_eq ..).trans hg
    · rw [a0, a1, a2, a3, a4, a5]
      refine (Cert.AdamBigRefIdeal.Read.val_main_v29_eq ..).trans (funext fun i => ?_)
      exact (Cert.AdamBigRefIdeal.Closed.step _ _ _ _ _ _ i).trans
        (congrArg₂ (Spec.adamStep _) (congrFun hm i) (congrFun hv i))
    · rw [a0, a2, a4, a5]
      exact (Cert.AdamBigRefIdeal.Read.val_main_v10_eq ..).trans hm
    · rw [a0, a3, a4, a5]
      exact (Cert.AdamBigRefIdeal.Read.val_main_v16_eq ..).trans hv

end Cert.Proof.AdamBig
-- ==== Proof.AdamInRef.lean ====
module

public import proofs.«01_k».proof.Proof.Gen.AdamInRefIdeal.Run
public import proofs.«01_k».proof.Proof.Gen.AdamInRefIdeal.Read
public import Idealize.ShloMosaic.Lib.Pipeline.Value
public import proofs.«01_k».proof.Proof.AdamBigRef
public import Idealize.ShloMosaic.Lib.Pointwise

@[expose] public section

noncomputable section

/-! # The optimiser's step of the first projection's weight, at an index, and the reference as it -/

namespace Cert.Spec

open Idealize.ShloMosaic

/-- The gradient whose half `p` is the core's own and whose other half is the other core's. -/
def halvesIn (p : ℕ) (mine theirs : A2 5128 128) : A2 10256 128 := fun i =>
  if (i 0).val / 5128 = p then mine (ix2 ⟨(i 0).val % 5128, Nat.mod_lt _ (by decide)⟩ (i 1))
  else theirs (ix2 ⟨(i 0).val % 5128, Nat.mod_lt _ (by decide)⟩ (i 1))

end Cert.Spec

namespace Cert.AdamInRefIdeal.Closed

open Cert.AdamInRefIdeal Cert.AdamInRefIdeal.Gen Cert.AdamInRefIdeal.Read Idealize.ShloMosaic Idealize.ShloMosaic.TcCoe Idealize.SL.Sem

variable (x0 : S2.Idx → BitVec 32) (x1 x2 x3 : Spec.A2 10256 128) (x4 x5 : Spec.A2 5128 128)

/-- The index of the core's number in the place. -/
abbrev second : S2.Idx := fun a => match a with | ⟨0, _⟩ => (⟨1, by decide⟩ : Fin 2)

/-- Two halves one above the other. -/
theorem stacked (a b : Spec.A2 5128 128) (i : S10256x128.Idx) :
    concatenate S10256x128 0 [⟨S5128x128, a⟩, ⟨S5128x128, b⟩] concatenates_S5128x128_S5128x128_S10256x128_d0 i
      = Spec.halvesIn 0 a b i := by
  have h0 : (i 0).val < 10256 := (i 0).isLt
  unfold Spec.halvesIn
  by_cases h : (i 0).val / 5128 = 0
  · rw [if_pos h]
    refine concatenate_pair_apply_left (t := S10256x128) (s₁ := S5128x128) (s₂ := S5128x128) 0 a b _ i rfl _ fun q => ?_
    match q with
    | ⟨0, _⟩ => show (i 0).val % 5128 = (i 0).val; omega
    | ⟨1, _⟩ => rfl
  · rw [if_neg h]
    refine concatenate_pair_apply_right (t := S10256x128) (s₁ := S5128x128) (s₂ := S5128x128) 0 a b _ i rfl rfl _ (fun q hq => ?_) ?_
    · match q with
      | ⟨0, _⟩ => exact absurd rfl hq
      | ⟨1, _⟩ => rfl
    · show (i 0).val % 5128 + 5128 = (i 0).val
      omega

theorem halves_swap (a b : Spec.A2 5128 128) (i : S10256x128.Idx) : Spec.halvesIn 0 b a i = Spec.halvesIn 1 a b i := by
  have h0 : (i 0).val < 10256 := (i 0).isLt
  unfold Spec.halvesIn
  by_cases h : (i 0).val / 5128 = 0
  · rw [if_pos h, if_neg (by omega)]
  · rw [if_neg h, if_pos (by omega)]

/-- The core's number as the reference reads it. -/
theorem core (z : S_.Idx) : val_main_v1 (F := Ideal) x0 z = x0 second := by
  unfold val_main_v1 shapeCast
  rw [val_main_v0_apply]
  refine congrArg x0 (funext fun a => Fin.ext ?_)
  match a with
  | ⟨0, _⟩ =>
    generalize (Shape.reshapeEquiv shapeCasts_S1_S_) z = w
    have : (w 0).val < 1 := (w 0).isLt
    show 1 + (w 0).val = 1
    omega

theorem grad (p : ℕ) (hp : p < 2) (h : x0 second = BitVec.ofNat 32 p) :
    val_main_v5 (F := Ideal) x0 x4 x5 = Spec.halvesIn p x4 x5 := by
  funext i
  unfold val_main_v5
  show Scalar.select (broadcastInDim S10256x128 ![] bcast_S_S10256x128 (val_main_v2 (F := Ideal) x0) i) _ _ = _
  rw [broadcastInDim_apply _ bcast_S_S10256x128 _ i (fun a => a.elim0) (fun a => a.elim0), val_main_v2_apply, core, h]
  have : p = 0 ∨ p = 1 := by omega
  rcases this with rfl | rfl
  · exact stacked x4 x5 i
  · exact (stacked x5 x4 i).trans (halves_swap x4 x5 i)

theorem moment1 (i : S10256x128.Idx) :
    val_main_v10 (F := Ideal) x0 x2 x4 x5 i = Spec.adamM (x2 i) (val_main_v5 (F := Ideal) x0 x4 x5 i) := rfl

theorem moment2 (i : S10256x128.Idx) :
    val_main_v16 (F := Ideal) x0 x3 x4 x5 i = Spec.adamV (x3 i) (val_main_v5 (F := Ideal) x0 x4 x5 i) := rfl

theorem step (i : S10256x128.Idx) :
    val_main_v29 (F := Ideal) x0 x1 x2 x3 x4 x5 i
      = Spec.adamStep (x1 i) (val_main_v10 (F := Ideal) x0 x2 x4 x5 i) (val_main_v16 (F := Ideal) x0 x3 x4 x5 i) := rfl

end Cert.AdamInRefIdeal.Closed

end
-- ==== Proof.AdamIn.lean ====
module

public import proofs.«01_k».proof.Proof.Gen.AdamInIdeal.Flash
public import Idealize.ShloMosaic.Lib.Pipeline.ValueKit
public import Idealize.ShloMosaic.Lib.Pointwise
public import Idealize.ShloMosaic.Lib.Decide
public import Idealize.ShloMosaic.Lib.Pipeline.ReadBack
public import proofs.«01_k».proof.Proof.AdamInRef

@[expose] public section

set_option maxRecDepth 16384

noncomputable section

/-! # The optimiser's step of the first projection's weight: what the kernel leaves in its results

The grid's first point takes the half of the weight that the core's own gradient is of, its second the other half. -/

namespace Cert.AdamInIdeal.Result

open Cert.AdamInIdeal Cert.AdamInIdeal.Gen Idealize.ShloMosaic Idealize.ShloMosaic.TcCoe Idealize.SL.Sem
open Idealize.ShloMosaic.Pipeline (Dat)

variable (ch : Fin 8) (m : (ℓ : Loc nD τ sig) → Buf (Elt Ideal) ℓ) (ρ : Dev nD → PrngReg) (c : Dev nD)

abbrev A1 : Spec.A2 10256 128 := m ((c : Thread nD τ).loc main_arg1)
abbrev A2 : Spec.A2 10256 128 := m ((c : Thread nD τ).loc main_arg2)
abbrev A3 : Spec.A2 10256 128 := m ((c : Thread nD τ).loc main_arg3)
abbrev A4 : Spec.A2 5128 128 := m ((c : Thread nD τ).loc main_arg4)
abbrev A5 : Spec.A2 5128 128 := m ((c : Thread nD τ).loc main_arg5)

/-- The windows' blocks by the grid point: on core `ch % 2`, point `t` has the half `(ch + t) % 2`. -/
theorem idx : ∀ (ch : Fin 8) (t : Fin (cfgA ch).N),
    ((cfgA ch).win 0).index t = ![(ch.val + t.val) % 2, 0] ∧ ((cfgA ch).win 1).index t = ![(ch.val + t.val) % 2, 0]
    ∧ ((cfgA ch).win 2).index t = ![(ch.val + t.val) % 2, 0] ∧ ((cfgA ch).win 3).index t = ![0, 0]
    ∧ ((cfgA ch).win 4).index t = ![0, 0] ∧ ((cfgA ch).win 5).index t = ![(ch.val + t.val) % 2, 0]
    ∧ ((cfgA ch).win 6).index t = ![(ch.val + t.val) % 2, 0] ∧ ((cfgA ch).win 7).index t = ![(ch.val + t.val) % 2, 0]
    ∧ ((cfgA ch).win 8).index t = ![(ch.val + t.val) % 2, 0] := by
  have key : ∀ (ch : Fin 8) (t : Fin (cfgA ch).N),
    ((((cfgA ch).win 0).index t : Fin 2 → ℕ) (0 : Fin 2) = (ch.val + t.val) % 2 ∧ (((cfgA ch).win 0).index t : Fin 2 → ℕ) (1 : Fin 2) = 0)
    ∧ ((((cfgA ch).win 1).index t : Fin 2 → ℕ) (0 : Fin 2) = (ch.val + t.val) % 2 ∧ (((cfgA ch).win 1).index t : Fin 2 → ℕ) (1 : Fin 2) = 0)
    ∧ ((((cfgA ch).win 2).index t : Fin 2 → ℕ) (0 : Fin 2) = (ch.val + t.val) % 2 ∧ (((cfgA ch).win 2).index t : Fin 2 → ℕ) (1 : Fin 2) = 0)
    ∧ ((((cfgA ch).win 3).index t : Fin 2 → ℕ) (0 : Fin 2) = 0 ∧ (((cfgA ch).win 3).index t : Fin 2 → ℕ) (1 : Fin 2) = 0)
    ∧ ((((cfgA ch).win 4).index t : Fin 2 → ℕ) (0 : Fin 2) = 0 ∧ (((cfgA ch).win 4).index t : Fin 2 → ℕ) (1 : Fin 2) = 0)
    ∧ ((((cfgA ch).win 5).index t : Fin 2 → ℕ) (0 : Fin 2) = (ch.val + t.val) % 2 ∧ (((cfgA ch).win 5).index t : Fin 2 → ℕ) (1 : Fin 2) = 0)
    ∧ ((((cfgA ch).win 6).index t : Fin 2 → ℕ) (0 : Fin 2) = (ch.val + t.val) % 2 ∧ (((cfgA ch).win 6).index t : Fin 2 → ℕ) (1 : Fin 2) = 0)
    ∧ ((((cfgA ch).win 7).index t : Fin 2 → ℕ) (0 : Fin 2) = (ch.val + t.val) % 2 ∧ (((cfgA ch).win 7).index t : Fin 2 → ℕ) (1 : Fin 2) = 0)
    ∧ ((((cfgA ch).win 8).index t : Fin 2 → ℕ) (0 : Fin 2) = (ch.val + t.val) % 2 ∧ (((cfgA ch).win 8).index t : Fin 2 → ℕ) (1 : Fin 2) = 0) := by decide +kernel
  have two : ∀ {f : Fin 2 → ℕ} {a b : ℕ}, f 0 = a ∧ f 1 = b → f = ![a, b] := fun {f a b} h =>
    funext fun i => match i with | 0 => h.1 | 1 => h.2
  intro ch t
  obtain ⟨k0, k1, k2, k3, k4, k5, k6, k7, k8⟩ := key ch t
  exact ⟨two k0, two k1, two k2, two k3, two k4, two k5, two k6, two k7, two k8⟩

theorem point : ∀ (ch : Fin 8) (t : Fin (cfgA ch).N), t.val < 2 ∧ (crd ch t 0).val = t.val := by decide +kernel

theorem covers : ∀ ch : Fin 8, ((cfgA ch).win 5).Covers ∧ ((cfgA ch).win 6).Covers ∧ ((cfgA ch).win 7).Covers
    ∧ ((cfgA ch).win 8).Covers := by decide +kernel

/-- Row `r` of point `t`'s half. -/
abbrev row (t : Fin (cfgA ch).N) (r : Fin 5128) : Fin 10256 := ⟨(ch.val + t.val) % 2 * 5128 + r.val, by omega⟩

theorem b0 (t : Fin (cfgA ch).N) (x : S5128x128.Idx) :
    (iblk ch m ρ c 0 t : S5128x128.Idx → EReal) x = A1 m c (ix2 (row ch t (x 0)) (x 1)) := by
  blk_ext [iblk, idx ch t]
theorem b1 (t : Fin (cfgA ch).N) (x : S5128x128.Idx) :
    (iblk ch m ρ c 1 t : S5128x128.Idx → EReal) x = A2 m c (ix2 (row ch t (x 0)) (x 1)) := by
  blk_ext [iblk, idx ch t]
theorem b2 (t : Fin (cfgA ch).N) (x : S5128x128.Idx) :
    (iblk ch m ρ c 2 t : S5128x128.Idx → EReal) x = A3 m c (ix2 (row ch t (x 0)) (x 1)) := by
  blk_ext [iblk, idx ch t]
theorem b3 (t : Fin (cfgA ch).N) (x : S5128x128.Idx) :
    (iblk ch m ρ c 3 t : S5128x128.Idx → EReal) x = A4 m c x := by
  blk_ext [iblk, idx ch t]
theorem b4 (t : Fin (cfgA ch).N) (x : S5128x128.Idx) :
    (iblk ch m ρ c 4 t : S5128x128.Idx → EReal) x = A5 m c x := by
  blk_ext [iblk, idx ch t]

theorem after5 (t : Fin (cfgA ch).N) : (dats ch m ρ 0 c).after 5 t
    = k0_pay1 (BitVec.ofNat 32 (crd ch t 0).val) (iblk ch m ρ c 3 t) (iblk ch m ρ c 4 t) := by
  rw [after0_5, traj0_eq, step0_A]
  unfold out0_A_5
  frame_out
  simp only [View.read_rep]
  rfl
theorem after6 (t : Fin (cfgA ch).N) : (dats ch m ρ 0 c).after 6 t
    = k0_pay4 (BitVec.ofNat 32 (crd ch t 0).val) (iblk ch m ρ c 3 t) (iblk ch m ρ c 4 t)
        (iblk ch m ρ c 0 t) (iblk ch m ρ c 1 t) (iblk ch m ρ c 2 t) := by
  rw [after0_6, traj0_eq, step0_A]
  unfold out0_A_6
  frame_out
  simp only [View.read_rep]
  rfl
theorem after7 (t : Fin (cfgA ch).N) : (dats ch m ρ 0 c).after 7 t
    = k0_pay2 (BitVec.ofNat 32 (crd ch t 0).val) (iblk ch m ρ c 3 t) (iblk ch m ρ c 4 t) (iblk ch m ρ c 1 t) := by
  rw [after0_7, traj0_eq, step0_A]
  unfold out0_A_7
  frame_out
  simp only [View.read_rep]
  rfl
theorem after8 (t : Fin (cfgA ch).N) : (dats ch m ρ 0 c).after 8 t
    = k0_pay3 (BitVec.ofNat 32 (crd ch t 0).val) (iblk ch m ρ c 3 t) (iblk ch m ρ c 4 t) (iblk ch m ρ c 2 t) := by
  rw [after0_8, traj0_eq, step0_A]
  unfold out0_A_8
  frame_out
  simp only [View.read_rep]
  rfl

/-- The gradient a point takes, at a row of its half. -/
theorem grad (t : Fin (cfgA ch).N) (y : S5128x128.Idx) :
    k0_pay1 (F := Ideal) (BitVec.ofNat 32 (crd ch t 0).val) (iblk ch m ρ c 3 t) (iblk ch m ρ c 4 t) y
      = Spec.halvesIn (ch.val % 2) (A4 m c) (A5 m c) (ix2 (row ch t (y 0)) (y 1)) := by
  obtain ⟨h2, hp⟩ := point ch t
  have h0 : (y 0).val < 5128 := (y 0).isLt
  have hy : y = ix2 (y 0) (y 1) := eq_ix2 y
  unfold Spec.halvesIn
  have hm : (⟨((ch.val + t.val) % 2 * 5128 + (y 0).val) % 5128, Nat.mod_lt _ (by decide)⟩ : Fin 5128) = y 0 :=
    Fin.ext (by show _ % 5128 = _; omega)
  rw [hp]
  unfold k0_pay1
  rcases (by omega : t.val = 0 ∨ t.val = 1) with h | h
  · rw [if_pos (by show ((ch.val + t.val) % 2 * 5128 + (y 0).val) / 5128 = ch.val % 2; omega), h]
    refine (b3 ch m ρ c t y).trans (congrArg (A4 m c) (hy.trans ?_))
    exact congrArg (fun r => ix2 r (y 1)) hm.symm
  · rw [if_neg (by show ¬((ch.val + t.val) % 2 * 5128 + (y 0).val) / 5128 = ch.val % 2; omega), h]
    refine (b4 ch m ρ c t y).trans (congrArg (A5 m c) (hy.trans ?_))
    exact congrArg (fun r => ix2 r (y 1)) hm.symm

/-- The gradient, the new moments and the step, at an index of the whole weight. -/
def G : Spec.A2 10256 128 := Spec.halvesIn (ch.val % 2) (A4 m c) (A5 m c)
def M : Spec.A2 10256 128 := fun i => Spec.adamM (A2 m c i) (G ch m c i)
def V : Spec.A2 10256 128 := fun i => Spec.adamV (A3 m c i) (G ch m c i)
def D : Spec.A2 10256 128 := fun i => Spec.adamStep (A1 m c i) (M ch m c i) (V ch m c i)

theorem out_g : (dats ch m ρ 0 c).arrAt 5 (cfgA ch).N = G ch m c := by
  refine (dats ch m ρ 0 c).arrAt_eq_of_covers 5 _ (covers ch).1 fun t hf (y : S5128x128.Idx) => ?_
  have e : (((cfgA ch).win 5).blk t).view.emb y = ix2 (row ch t (y 0)) (y 1) := by blk_ext [idx ch t]
  rw [e]
  blk_simp
  rw [after5]
  exact grad ch m ρ c t y

theorem out_m : (dats ch m ρ 0 c).arrAt 7 (cfgA ch).N = M ch m c := by
  refine (dats ch m ρ 0 c).arrAt_eq_of_covers 7 _ (covers ch).2.2.1 fun t hf (y : S5128x128.Idx) => ?_
  have e : (((cfgA ch).win 7).blk t).view.emb y = ix2 (row ch t (y 0)) (y 1) := by blk_ext [idx ch t]
  rw [e]
  blk_simp
  rw [after7]
  show Spec.adamM _ _ = Spec.adamM _ _
  exact congrArg₂ Spec.adamM (b1 ch m ρ c t y) (grad ch m ρ c t y)

theorem out_v : (dats ch m ρ 0 c).arrAt 8 (cfgA ch).N = V ch m c := by
  refine (dats ch m ρ 0 c).arrAt_eq_of_covers 8 _ (covers ch).2.2.2 fun t hf (y : S5128x128.Idx) => ?_
  have e : (((cfgA ch).win 8).blk t).view.emb y = ix2 (row ch t (y 0)) (y 1) := by blk_ext [idx ch t]
  rw [e]
  blk_simp
  rw [after8]
  exact congrArg₂ Spec.adamV (b2 ch m ρ c t y) (grad ch m ρ c t y)

theorem out_d : (dats ch m ρ 0 c).arrAt 6 (cfgA ch).N = D ch m c := by
  refine (dats ch m ρ 0 c).arrAt_eq_of_covers 6 _ (covers ch).2.1 fun t hf (y : S5128x128.Idx) => ?_
  have e : (((cfgA ch).win 6).blk t).view.emb y = ix2 (row ch t (y 0)) (y 1) := by blk_ext [idx ch t]
  rw [e]
  blk_simp
  rw [after6]
  have hm := congrArg₂ Spec.adamM (b1 ch m ρ c t y) (grad ch m ρ c t y)
  have hv := congrArg₂ Spec.adamV (b2 ch m ρ c t y) (grad ch m ρ c t y)
  refine (show _ = Spec.adamStep _ (Spec.adamM _ _) (Spec.adamV _ _) from rfl).trans ?_
  rw [hm, hv, b0]
  rfl

end Cert.AdamInIdeal.Result

end
-- ==== Proof.AdamInClaims.lean ====
module
public import proofs.«01_k».proof.Defs
public import proofs.«01_k».proof.Proof.Gen.AdamIn
public import proofs.«01_k».proof.Proof.Gen.AdamIn.Flash
public import proofs.«01_k».proof.Proof.Gen.AdamInIdeal.Flash
public import proofs.«01_k».proof.Proof.Gen.AdamInRefIdeal.Run
public import proofs.«01_k».proof.Proof.Gen.AdamInRefIdeal.Read
public import proofs.«01_k».proof.Proof.Gen.Pre_place_named_in
public import proofs.«01_k».proof.Proof.AdamBigClaims
public import proofs.«01_k».proof.Proof.AdamIn
public import proofs.«01_k».proof.Proof.AdamInRef
public import Idealize.ShloMosaic.Adequacy
public import Idealize.ShloMosaic.Init

@[expose] public section
noncomputable section

/-!
# The optimiser's step of the first projection's weight: the claims

The precondition says the place is one of eight; the kernel's run is one of eight by the place, and each is joined with the
reference at the halves of the gradient.
-/

namespace Cert.Proof.AdamIn
open Idealize.ShloMosaic Idealize.ShloMosaic.TcCoe Idealize.SL.Sem
open Cert.Proof.AdamBig (both small)

/-- The one index of an array of one word. -/
abbrev only : Cert.Pre_place_named_in.S1.Idx := fun a => match a with | ⟨0, _⟩ => (⟨0, by decide⟩ : Fin 1)

/-- The place the printed precondition admits is a device's. -/
theorem named {F : FTy → Type} [FloatOps F] (x0 : Cert.Pre_place_named_in.S2.Idx → BitVec 32) (x1 x2 x3 : FVec F Cert.Pre_place_named_in.S10256x128 .f32)
    (x4 x5 : FVec F Cert.Pre_place_named_in.S5128x128 .f32)
    (h : Cert.Pre_place_named_in.fn (F := F) x0 x1 x2 x3 x4 x5 = fun _ => 1#1) :
    ∃ ch : Fin 8, x0 = Cert.AdamIn.Gen.pinT_0 ch := by
  have hp := congrFun h only
  obtain ⟨hp, d1⟩ := both hp
  obtain ⟨hp, d0⟩ := both hp
  obtain ⟨c0, c1⟩ := both hp
  have e0 : ∀ i : Cert.Pre_place_named_in.S2.Idx, (i 0).val = 0 →
      extractStridedSlice Cert.Pre_place_named_in.S1 ![0] x0 Cert.Pre_place_named_in.Facts.slices_S2_S1_0 only = x0 i :=
    fun i hi => congrArg x0 (funext fun a => Fin.ext (match a with | ⟨0, _⟩ => hi.symm))
  have e1 : ∀ i : Cert.Pre_place_named_in.S2.Idx, (i 0).val = 1 →
      extractStridedSlice Cert.Pre_place_named_in.S1 ![1] x0 Cert.Pre_place_named_in.Facts.slices_S2_S1_1 only = x0 i :=
    fun i hi => congrArg x0 (funext fun a => Fin.ext (match a with | ⟨0, _⟩ => hi.symm))
  have hc : (extractStridedSlice Cert.Pre_place_named_in.S1 ![0] x0 Cert.Pre_place_named_in.Facts.slices_S2_S1_0 only).toNat < 4 :=
    small (n := 4) (by decide) c0 c1
  have hd : (extractStridedSlice Cert.Pre_place_named_in.S1 ![1] x0 Cert.Pre_place_named_in.Facts.slices_S2_S1_1 only).toNat < 2 :=
    small (n := 2) (by decide) d0 d1
  generalize hC : extractStridedSlice Cert.Pre_place_named_in.S1 ![0] x0 Cert.Pre_place_named_in.Facts.slices_S2_S1_0 only = C at hc e0
  generalize hD : extractStridedSlice Cert.Pre_place_named_in.S1 ![1] x0 Cert.Pre_place_named_in.Facts.slices_S2_S1_1 only = D at hd e1
  refine ⟨⟨2 * C.toNat + D.toNat, by omega⟩, funext fun i => ?_⟩
  have hi : (i 0).val < 2 := (i 0).isLt
  have words : ∀ a : Fin 4, ∀ b : Fin 2,
      IntOp.divsi .host (BitVec.ofNat 32 (2 * a.val + b.val)) 2#32 = BitVec.ofNat 32 a.val
      ∧ IntOp.subi (BitVec.ofNat 32 (2 * a.val + b.val)) (IntOp.muli 2#32 (IntOp.divsi .host (BitVec.ofNat 32 (2 * a.val + b.val)) 2#32))
          = BitVec.ofNat 32 b.val := by decide +kernel
  obtain ⟨w0, w1⟩ := words ⟨C.toNat, hc⟩ ⟨D.toNat, hd⟩
  unfold Cert.AdamIn.Gen.pinT_0
  rcases (by omega : (i 0).val = 0 ∨ (i 0).val = 1) with hz | hz
  · rw [if_pos (by omega), ← e0 i hz]
    exact ((BitVec.ofNat_toNat 32 C).symm.trans (by simp)).trans w0.symm |>.trans rfl
  · rw [if_neg (by omega), ← e1 i hz]
    exact ((BitVec.ofNat_toNat 32 D).symm.trans (by simp)).trans w1.symm |>.trans rfl

theorem pinned (m : (ℓ : Loc Cert.AdamIn.nD Cert.AdamIn.τ Cert.AdamIn.sig) → Buf (Elt Bits) ℓ) (h : Cert.Pre_AdamIn m) :
    ∃ ch : Fin 8, Cert.AdamIn.Gen.Pinned ch m := by
  obtain ⟨ch, e⟩ := named (F := Bits) _ _ _ _ _ _ (h 0)
  exact ⟨ch, fun c => (Subsingleton.elim c 0) ▸ e⟩

theorem pinnedIdeal (m : (ℓ : Loc Cert.AdamInIdeal.nD Cert.AdamInIdeal.τ Cert.AdamInIdeal.sig) → Buf (Elt Ideal) ℓ)
    (h : Cert.Pre_AdamInIdeal m) : ∃ ch : Fin 8, Cert.AdamInIdeal.Gen.Pinned ch m := by
  obtain ⟨ch, e⟩ := named (F := Ideal) _ _ _ _ _ _ (h 0)
  exact ⟨ch, fun c => (Subsingleton.elim c 0) ▸ e⟩

theorem frame_kernel : Cert.quiescent_AdamIn := fun m ρ hpre => by
  obtain ⟨ch, hp⟩ := pinned m hpre
  exact Cert.AdamIn.Gen.frame ch m ρ hp

theorem frame_kernelIdeal : Cert.quiescent_AdamInIdeal := fun m ρ hpre => by
  obtain ⟨ch, hp⟩ := pinnedIdeal m hpre
  exact Cert.AdamInIdeal.Gen.frame ch m ρ hp

theorem frame_referenceIdeal : Cert.quiescent_AdamInRefIdeal := fun m ρ _ =>
  (θ_run Cert.AdamInRefIdeal.defs _ _).mono (fun r h => ⟨fun c => (h c).2.2.2.2, Idealize.ShloMosaic.sem_eq_zero_of_no_sems (by decide) r.2⟩)
    (Cert.AdamInRefIdeal.Value.run (F := Ideal) m ρ)

theorem frame_referenceIdeal_named : Cert.quiescent_AdamInRefIdeal_pre_place_named_in := fun m ρ _ =>
  (θ_run Cert.AdamInRefIdeal.defs _ _).mono (fun r h => ⟨fun c => (h c).2.2.2.2, Idealize.ShloMosaic.sem_eq_zero_of_no_sems (by decide) r.2⟩)
    (Cert.AdamInRefIdeal.Value.run (F := Ideal) m ρ)

theorem preserves : Cert.preserves_AdamIn_AdamInIdeal := trivial

/-- The core's number in a device's place. -/
theorem core_word : ∀ ch : Fin 8, Cert.AdamInIdeal.Gen.pinT_0 ch Cert.AdamInRefIdeal.Closed.second = BitVec.ofNat 32 (ch.val % 2) := by
  decide +kernel

theorem algebraic : Cert.algebraic_AdamInIdeal_AdamInRefIdeal := by
  intro m ρ m' ρ' hpre hagree
  obtain ⟨ch, hp⟩ := pinnedIdeal m hpre
  refine ⟨fun c => Cert.AdamInIdeal.Result.G ch m c, fun c => Cert.AdamInIdeal.Result.D ch m c,
    fun c => Cert.AdamInIdeal.Result.M ch m c, fun c => Cert.AdamInIdeal.Result.V ch m c,
    (θ_run Cert.AdamInIdeal.defs _ _).mono (fun r h c => ?_)
      (θ_run_and (Cert.AdamInIdeal.Gen.unchanged ch m ρ hp) (Cert.AdamInIdeal.Gen.run_main ch m ρ hp)), ?_⟩
  · obtain ⟨hargs, hq⟩ := h
    exact ⟨((hq c).1 5).trans (Cert.AdamInIdeal.Result.out_g ch m ρ c), ((hq c).1 6).trans (Cert.AdamInIdeal.Result.out_d ch m ρ c),
      ((hq c).1 7).trans (Cert.AdamInIdeal.Result.out_m ch m ρ c), ((hq c).1 8).trans (Cert.AdamInIdeal.Result.out_v ch m ρ c), hargs c⟩
  · refine (θ_run Cert.AdamInRefIdeal.defs _ _).mono (fun r h c => ?_) (Cert.AdamInRefIdeal.Value.run (F := Ideal) m' ρ')
    obtain ⟨h0, h1, h2, h3, hargs⟩ := h c
    obtain ⟨a0, a1, a2, a3, a4, a5⟩ := hagree c
    have hx := (congrFun (hp c) Cert.AdamInRefIdeal.Closed.second).trans (core_word ch)
    have hg := Cert.AdamInRefIdeal.Closed.grad _ (Cert.AdamInIdeal.Result.A4 m c) (Cert.AdamInIdeal.Result.A5 m c)
      (ch.val % 2) (Nat.mod_lt _ (by decide)) hx
    have hm : Cert.AdamInRefIdeal.Read.val_main_v10 (F := Ideal) _ (Cert.AdamInIdeal.Result.A2 m c) (Cert.AdamInIdeal.Result.A4 m c)
        (Cert.AdamInIdeal.Result.A5 m c) = Cert.AdamInIdeal.Result.M ch m c :=
      funext fun i => (Cert.AdamInRefIdeal.Closed.moment1 _ _ _ _ i).trans (congrArg (Spec.adamM _) (congrFun hg i))
    have hv : Cert.AdamInRefIdeal.Read.val_main_v16 (F := Ideal) _ (Cert.AdamInIdeal.Result.A3 m c) (Cert.AdamInIdeal.Result.A4 m c)
        (Cert.AdamInIdeal.Result.A5 m c) = Cert.AdamInIdeal.Result.V ch m c :=
      funext fun i => (Cert.AdamInRefIdeal.Closed.moment2 _ _ _ _ i).trans (congrArg (Spec.adamV _) (congrFun hg i))
    refine ⟨h0.trans ?_, h1.trans ?_, h2.trans ?_, h3.trans ?_, hargs⟩
    · rw [a0, a4, a5]
      exact (Cert.AdamInRefIdeal.Read.val_main_v5_eq ..).trans hg
    · rw [a0, a1, a2, a3, a4, a5]
      refine (Cert.AdamInRefIdeal.Read.val_main_v29_eq ..).trans (funext fun i => ?_)
      exact (Cert.AdamInRefIdeal.Closed.step _ _ _ _ _ _ i).trans
        (congrArg₂ (Spec.adamStep _) (congrFun hm i) (congrFun hv i))
    · rw [a0, a2, a4, a5]
      exact (Cert.AdamInRefIdeal.Read.val_main_v10_eq ..).trans hm
    · rw [a0, a3, a4, a5]
      exact (Cert.AdamInRefIdeal.Read.val_main_v16_eq ..).trans hv

end Cert.Proof.AdamIn
-- ==== Proof.SumSibling.lean ====
module

public import proofs.«01_k».proof.Proof.Gen.SumSibling.Frame
public import proofs.«01_k».proof.Proof.Gen.SumSiblingIdeal.Frame
public import Idealize.ShloMosaic.Lib.Pipeline.ValueKit
public import Idealize.ShloMosaic.Lib.Pointwise
public import Idealize.ShloMosaic.Lib.Decide
public import Idealize.ShloMosaic.Lib.Pipeline.ReadBack
public import proofs.«01_k».proof.Proof.Spec

@[expose] public section

set_option maxRecDepth 16384

noncomputable section

/-! # The sum with the sibling core's gradient: what the kernel leaves in its result

The blocks of the slots lie where the place's second word, the core's number, puts them; they are inside the array for a core's
number, and a grid point adds what was received to the core's half of the slot. -/

namespace Cert.SumSibling.Result

open Cert.SumSibling Cert.SumSibling.Gen Idealize.ShloMosaic Idealize.ShloMosaic.TcCoe Idealize.SL.Sem

/-- The index of the core's number in the place. -/
abbrev second : S2.Idx := fun a => match a with | ⟨0, _⟩ => (⟨1, by decide⟩ : Fin 2)

/-- The slot's block at a grid point of core `k`. -/
theorem slot {F : FTy → Type} [FloatOps F] (pf : pre0.Contents (Elt F)) (k : ℕ) (hk : k < 2)
    (h : (pf 0 : S2.Idx → BitVec 32) second = BitVec.ofNat 32 k) (i : grid0.Coords) :
    cc0_transform_0 inb_S2_S1_1 numel1_S1 pf i = ![(i 0).val, k, 0] := by
  have e : pf.at 0 (Rect.unit (s := S2) ![1] S1.size inb_S2_S1_1) numel1_S1 = BitVec.ofNat 32 k :=
    (congrArg (pf 0 : S2.Idx → BitVec 32) (show (Rect.unit (s := S2) ![1] S1.size inb_S2_S1_1).emb _ = second from
      funext fun a => match a with | ⟨0, _⟩ => Fin.ext rfl)).trans h
  have p : ∀ i : grid0.Coords, cc0_transform_1 i 0 = (i 0).val := by decide +kernel
  unfold cc0_transform_0
  rw [e]
  funext a
  match a with
  | ⟨0, _⟩ => exact p i
  | ⟨1, _⟩ =>
    show (BitVec.ofNat 32 k).toNat = k
    rw [BitVec.toNat_ofNat]
    exact Nat.mod_eq_of_lt (by omega)
  | ⟨2, _⟩ => rfl

theorem inside {F : FTy → Type} [FloatOps F] (pf : pre0.Contents (Elt F)) (k : ℕ) (hk : k < 2)
    (h : (pf 0 : S2.Idx → BitVec 32) second = BitVec.ofNat 32 k) : ok0 pf := fun i => by
  refine ⟨?_, .inl rfl⟩
  rw [slot pf k hk h i]
  have hi : (i 0).val < 4 := (i 0).isLt
  intro a
  match a with
  | ⟨0, _⟩ => show ((i 0).val + 1) * 1 ≤ 4; omega
  | ⟨1, _⟩ => show (k + 1) * 5128 ≤ 10256; omega
  | ⟨2, _⟩ => show (0 + 1) * 128 ≤ 128; omega

end Cert.SumSibling.Result

namespace Cert.SumSiblingIdeal.Result

open Cert.SumSiblingIdeal Cert.SumSiblingIdeal.Gen Idealize.ShloMosaic Idealize.ShloMosaic.TcCoe Idealize.SL.Sem

/-- The index of the core's number in the place. -/
abbrev second : S2.Idx := fun a => match a with | ⟨0, _⟩ => (⟨1, by decide⟩ : Fin 2)

/-- The slot's block at a grid point of core `k`. -/
theorem slot {F : FTy → Type} [FloatOps F] (pf : pre0.Contents (Elt F)) (k : ℕ) (hk : k < 2)
    (h : (pf 0 : S2.Idx → BitVec 32) second = BitVec.ofNat 32 k) (i : grid0.Coords) :
    cc0_transform_0 inb_S2_S1_1 numel1_S1 pf i = ![(i 0).val, k, 0] := by
  have e : pf.at 0 (Rect.unit (s := S2) ![1] S1.size inb_S2_S1_1) numel1_S1 = BitVec.ofNat 32 k :=
    (congrArg (pf 0 : S2.Idx → BitVec 32) (show (Rect.unit (s := S2) ![1] S1.size inb_S2_S1_1).emb _ = second from
      funext fun a => match a with | ⟨0, _⟩ => Fin.ext rfl)).trans h
  have p : ∀ i : grid0.Coords, cc0_transform_1 i 0 = (i 0).val := by decide +kernel
  unfold cc0_transform_0
  rw [e]
  funext a
  match a with
  | ⟨0, _⟩ => exact p i
  | ⟨1, _⟩ =>
    show (BitVec.ofNat 32 k).toNat = k
    rw [BitVec.toNat_ofNat]
    exact Nat.mod_eq_of_lt (by omega)
  | ⟨2, _⟩ => rfl

theorem inside {F : FTy → Type} [FloatOps F] (pf : pre0.Contents (Elt F)) (k : ℕ) (hk : k < 2)
    (h : (pf 0 : S2.Idx → BitVec 32) second = BitVec.ofNat 32 k) : ok0 pf := fun i => by
  refine ⟨?_, .inl rfl⟩
  rw [slot pf k hk h i]
  have hi : (i 0).val < 4 := (i 0).isLt
  intro a
  match a with
  | ⟨0, _⟩ => show ((i 0).val + 1) * 1 ≤ 4; omega
  | ⟨1, _⟩ => show (k + 1) * 5128 ≤ 10256; omega
  | ⟨2, _⟩ => show (0 + 1) * 128 ≤ 128; omega

open Idealize.ShloMosaic.Pipeline (Dat)

/-- Row `r` of core `k`'s half of a slot. -/
abbrev half (k : ℕ) (hk : k < 2) (r : Fin 5128) : Fin 10256 := ⟨k * 5128 + r.val, by omega⟩

variable (m : (ℓ : Loc nD τ sig) → Buf (Elt Ideal) ℓ) (c : Dev nD) (hO : Ok m) (k : ℕ) (hk : k < 2)
  (hw : (tbl m 0 : S2.Idx → BitVec 32) second = BitVec.ofNat 32 k)

abbrev A1 : S4x10256x128.Idx → EReal := m ((c : Thread nD τ).loc main_arg1)
abbrev A2 : S4x5128x128.Idx → EReal := m ((c : Thread nD τ).loc main_arg2)

theorem coord : ∀ t : Fin grid0.N, t.val < 4 ∧ (grid0.coords t 0).val = t.val := by decide +kernel

include hk hw in
theorem idx0 (t : Fin (cfgM m hO).N) : ((cfgM m hO).win 0).index t = ![t.val, k, 0] := by
  refine (slot (tbl m) k hk hw (grid0.coords t)).trans ?_
  rw [(coord t).2]

theorem three {f : Fin 3 → ℕ} {a b d : ℕ} (h : f 0 = a ∧ f 1 = b ∧ f 2 = d) : f = ![a, b, d] :=
  funext fun i => match i with | 0 => h.1 | 1 => h.2.1 | 2 => h.2.2

theorem flat : ∀ t : Fin grid0.N, (cc0_transform_1 (grid0.coords t) 0 = t.val ∧ cc0_transform_1 (grid0.coords t) 1 = 0
    ∧ cc0_transform_1 (grid0.coords t) 2 = 0) ∧ (cc0_transform_2 (grid0.coords t) 0 = t.val
    ∧ cc0_transform_2 (grid0.coords t) 1 = 0 ∧ cc0_transform_2 (grid0.coords t) 2 = 0) := by decide +kernel

theorem idx1 (t : Fin (cfgM m hO).N) : ((cfgM m hO).win 1).index t = ![t.val, 0, 0] := three (flat t).1
theorem idx2 (t : Fin (cfgM m hO).N) : ((cfgM m hO).win 2).index t = ![t.val, 0, 0] := three (flat t).2

abbrev at_ (t : Fin (cfgM m hO).N) : Fin 4 := ⟨t.val, (coord t).1⟩

include hk hw in
theorem b0 (t : Fin (cfgM m hO).N) (x : S1x5128x128.Idx) :
    (iblk m hO c 0 t : S1x5128x128.Idx → EReal) x = A1 m c (ix3 (at_ m hO t) (half k hk (x 1)) (x 2)) := by
  have hx : (x 0).val < 1 := (x 0).isLt
  blk_ext [iblk, idx0 m hO k hk hw t]
theorem b1 (t : Fin (cfgM m hO).N) (x : S1x5128x128.Idx) :
    (iblk m hO c 1 t : S1x5128x128.Idx → EReal) x = A2 m c (ix3 (at_ m hO t) (x 1) (x 2)) := by
  have hx : (x 0).val < 1 := (x 0).isLt
  blk_ext [iblk, idx1 m hO t]

theorem stored (c : Dev nD) (i : grid0.Coords) (a2 : Memref sig .tc .vmem S1x5128x128 .f32) (h2 : a2.IsWhole)
    (a3 : Memref sig .tc .vmem S1x5128x128 .f32) (h3 : a3.IsWhole) (a4 : Memref sig .tc .vmem S1x5128x128 .bf16) (h4 : a4.IsWhole)
    (hc : cond0_0 i) (x0 x1 : Vec Ideal S1x5128x128 .f32) (xt : TbBuf0 (F := Ideal) c tbM0_0) :
    out0_A_2 c i a2 h2 a3 h3 a4 h4 hc x0 x1 xt = k0_pay1 x0 x1 := by
  unfold out0_A_2
  frame_out

theorem after2 (t : Fin (cfgM m hO).N) : (dats m hO 0 c).after 2 t
    = k0_pay1 (iblk m hO c 0 t) (iblk m hO c 1 t) :=
  (after0_2 m hO c t).trans (stored ..)

/-- The sum at an index of the whole result. -/
def G (k : ℕ) (hk : k < 2) : S4x5128x128.Idx → EReal := fun i =>
  FloatOps.addf (F := Ideal) (φ := .f32) (A1 m c (ix3 (i 0) (half k hk (i 1)) (i 2))) (A2 m c i)

/-- The result's blocks do not depend on the table. -/
abbrev zeros : (pcfg0 (F := Ideal)).Adm := ⟨fun j => match j with | 0 => (fun _ => 0#32 : S2.Idx → BitVec 32), inside _ 0 (by decide) rfl⟩

theorem covers : ((cfgM m hO).win 2).Covers :=
  (by decide +kernel : ((cfg0 zeros).win 2).Covers)

include hk hw in
theorem out : (dats m hO 0 c).arrAt 2 (cfgM m hO).N = G m c k hk := by
  refine (dats m hO 0 c).arrAt_eq_of_covers 2 _ (covers m hO) fun t hf (y : S1x5128x128.Idx) => ?_
  have hy : (y 0).val < 1 := (y 0).isLt
  have e : (((cfgM m hO).win 2).blk t).view.emb y = ix3 (at_ m hO t) (y 1) (y 2) := by blk_ext [idx2 m hO t]
  rw [e]
  blk_simp
  rw [after2]
  have h0 := b0 m c hO k hk hw t y
  have h1 := b1 m c hO t y
  have pay : ∀ (u v : Vec Ideal S1x5128x128 .f32) (y : S1x5128x128.Idx), k0_pay1 (F := Ideal) u v y
      = FloatOps.addf (F := Ideal) (φ := .f32) (u y) (v y) := fun u v y => by
    show FloatOps.addf (F := Ideal) (φ := .f32)
        (shapeCast S1x5128x128 (shapeCast S5128x128 u shapeCasts_S1x5128x128_S5128x128) shapeCasts_S5128x128_S1x5128x128 y)
        (shapeCast S1x5128x128 (shapeCast S5128x128 v shapeCasts_S1x5128x128_S5128x128) shapeCasts_S5128x128_S1x5128x128 y) = _
    rw [shapeCast_shapeCast, shapeCast_shapeCast]
  refine (pay _ _ y).trans ?_
  exact congrArg₂ _ h0 h1

end Cert.SumSiblingIdeal.Result

end
-- ==== Proof.SumSiblingClaims.lean ====
module
public import proofs.«01_k».proof.Defs
public import proofs.«01_k».proof.Proof.Gen.SumSibling
public import proofs.«01_k».proof.Proof.Gen.SumSibling.Frame
public import proofs.«01_k».proof.Proof.Gen.SumSiblingIdeal.Frame
public import proofs.«01_k».proof.Proof.Gen.SumSiblingRefIdeal.Run
public import proofs.«01_k».proof.Proof.Gen.SumSiblingRefIdeal.Read
public import proofs.«01_k».proof.Proof.Gen.Pre_place_named_sibling
public import proofs.«01_k».proof.Proof.SumSibling
public import proofs.«01_k».proof.Proof.AdamBigClaims
public import Idealize.ShloMosaic.Adequacy
public import Idealize.ShloMosaic.Init

@[expose] public section
noncomputable section

/-!
# The sum with the sibling core's gradient: the claims

The precondition says the place names a core; the slots' blocks are then inside their array, and the reference's choice between
the two halves is the block the kernel reads.
-/

namespace Cert.Proof.SumSibling
open Idealize.ShloMosaic Idealize.ShloMosaic.TcCoe Idealize.SL.Sem
open Cert.Proof.AdamBig (both small)
open Cert.SumSiblingRefIdeal Cert.SumSiblingRefIdeal.Gen Cert.SumSiblingRefIdeal.Read

/-- The one index of an array of one word. -/
abbrev only : Cert.Pre_place_named_sibling.S1.Idx := fun a => match a with | ⟨0, _⟩ => (⟨0, by decide⟩ : Fin 1)

/-- The core the printed precondition admits. -/
theorem named {F : FTy → Type} [FloatOps F] (x0 : Cert.Pre_place_named_sibling.S2.Idx → BitVec 32)
    (x1 : FVec F Cert.Pre_place_named_sibling.S4x10256x128 .f32) (x2 : FVec F Cert.Pre_place_named_sibling.S4x5128x128 .f32)
    (h : Cert.Pre_place_named_sibling.fn (F := F) x0 x1 x2 = fun _ => 1#1) :
    ∃ k : ℕ, k < 2 ∧ x0 Cert.SumSibling.Result.second = BitVec.ofNat 32 k := by
  have hp := congrFun h only
  obtain ⟨d0, d1⟩ := both hp
  have hd : (extractStridedSlice Cert.Pre_place_named_sibling.S1 ![1] x0 Cert.Pre_place_named_sibling.Facts.slices_S2_S1_1 only).toNat < 2 :=
    small (n := 2) (by decide) d0 d1
  have e : extractStridedSlice Cert.Pre_place_named_sibling.S1 ![1] x0 Cert.Pre_place_named_sibling.Facts.slices_S2_S1_1 only
      = x0 Cert.SumSibling.Result.second :=
    congrArg x0 (funext fun a => Fin.ext (match a with | ⟨0, _⟩ => rfl))
  rw [e] at hd
  refine ⟨_, hd, BitVec.eq_of_toNat_eq ?_⟩
  rw [BitVec.toNat_ofNat]
  omega

theorem core (m : (ℓ : Loc Cert.SumSibling.nD Cert.SumSibling.τ Cert.SumSibling.sig) → Buf (Elt Bits) ℓ) (h : Cert.Pre_SumSibling m) :
    Cert.SumSibling.Gen.Ok m := by
  obtain ⟨k, hk, e⟩ := named (F := Bits) _ _ _ (h 0)
  exact Cert.SumSibling.Result.inside _ k hk e

theorem coreIdeal (m : (ℓ : Loc Cert.SumSiblingIdeal.nD Cert.SumSiblingIdeal.τ Cert.SumSiblingIdeal.sig) → Buf (Elt Ideal) ℓ)
    (h : Cert.Pre_SumSiblingIdeal m) : ∃ k : ℕ, k < 2
      ∧ (Cert.SumSiblingIdeal.Gen.tbl m 0 : Cert.SumSiblingIdeal.S2.Idx → BitVec 32) Cert.SumSiblingIdeal.Result.second = BitVec.ofNat 32 k :=
  named (F := Ideal) _ _ _ (h 0)

theorem frame_kernel : Cert.quiescent_SumSibling := fun m ρ hpre => Cert.SumSibling.Gen.frame m ρ (core m hpre)

theorem frame_kernelIdeal : Cert.quiescent_SumSiblingIdeal := fun m ρ hpre => by
  obtain ⟨k, hk, e⟩ := coreIdeal m hpre
  exact Cert.SumSiblingIdeal.Gen.frame m ρ (Cert.SumSiblingIdeal.Result.inside _ k hk e)

theorem frame_referenceIdeal : Cert.quiescent_SumSiblingRefIdeal := fun m ρ _ =>
  (θ_run Cert.SumSiblingRefIdeal.defs _ _).mono (fun r h => ⟨fun c => (h c).2, Idealize.ShloMosaic.sem_eq_zero_of_no_sems (by decide) r.2⟩)
    (Cert.SumSiblingRefIdeal.Value.run (F := Ideal) m ρ)

theorem frame_referenceIdeal_named : Cert.quiescent_SumSiblingRefIdeal_pre_place_named_sibling := fun m ρ _ =>
  (θ_run Cert.SumSiblingRefIdeal.defs _ _).mono (fun r h => ⟨fun c => (h c).2, Idealize.ShloMosaic.sem_eq_zero_of_no_sems (by decide) r.2⟩)
    (Cert.SumSiblingRefIdeal.Value.run (F := Ideal) m ρ)

theorem preserves : Cert.preserves_SumSibling_SumSiblingIdeal := trivial

/-- The core's number as the reference reads it. -/
theorem word (x0 : S2.Idx → BitVec 32) (z : S_.Idx) : val_main_v1 (F := Ideal) x0 z = x0 Cert.SumSibling.Result.second := by
  unfold val_main_v1 shapeCast
  rw [val_main_v0_apply]
  refine congrArg x0 (funext fun a => Fin.ext ?_)
  match a with
  | ⟨0, _⟩ =>
    generalize (Shape.reshapeEquiv shapeCasts_S1_S_) z = w
    have : (w 0).val < 1 := (w 0).isLt
    show 1 + (w 0).val = 1
    omega

/-- The half of the slots the reference takes on core `k`. -/
theorem taken (x0 : S2.Idx → BitVec 32) (x1 : S4x10256x128.Idx → EReal) (k : ℕ) (hk : k < 2)
    (h : x0 Cert.SumSibling.Result.second = BitVec.ofNat 32 k) (i : S4x5128x128.Idx) :
    val_main_v5 (F := Ideal) x0 x1 i = x1 (ix3 (i 0) (Cert.SumSiblingIdeal.Result.half k hk (i 1)) (i 2)) := by
  unfold val_main_v5
  show Scalar.select (broadcastInDim S4x5128x128 ![] bcast_S_S4x5128x128 (val_main_v2 (F := Ideal) x0) i) _ _ = _
  rw [broadcastInDim_apply _ bcast_S_S4x5128x128 _ i (fun a => a.elim0) (fun a => a.elim0), val_main_v2_apply, word, h]
  rcases (by omega : k = 0 ∨ k = 1) with rfl | rfl
  · refine (val_main_v3_apply (F := Ideal) x1 i).trans (congrArg x1 (funext fun a => Fin.ext ?_))
    match a with
    | ⟨0, _⟩ => rfl
    | ⟨1, _⟩ => show (i 1).val = 0 * 5128 + (i 1).val; omega
    | ⟨2, _⟩ => rfl
  · refine (val_main_v4_apply (F := Ideal) x1 i).trans (congrArg x1 (funext fun a => Fin.ext ?_))
    match a with
    | ⟨0, _⟩ => rfl
    | ⟨1, _⟩ => show 5128 + (i 1).val = 1 * 5128 + (i 1).val; omega
    | ⟨2, _⟩ => rfl

theorem algebraic : Cert.algebraic_SumSiblingIdeal_SumSiblingRefIdeal := by
  intro m ρ m' ρ' hpre hagree
  obtain ⟨k, hk, hw⟩ := coreIdeal m hpre
  have hO : Cert.SumSiblingIdeal.Gen.Ok m := Cert.SumSiblingIdeal.Result.inside _ k hk hw
  refine ⟨fun c => Cert.SumSiblingIdeal.Result.G m c k hk,
    (θ_run Cert.SumSiblingIdeal.defs _ _).mono (fun r h c => ?_)
      (θ_run_and (Cert.SumSiblingIdeal.Gen.unchanged m ρ hO) (Cert.SumSiblingIdeal.Gen.run_main m ρ hO)), ?_⟩
  · obtain ⟨hargs, hq⟩ := h
    exact ⟨((hq c).1 2).trans (Cert.SumSiblingIdeal.Result.out m c hO k hk hw), hargs c⟩
  · refine (θ_run Cert.SumSiblingRefIdeal.defs _ _).mono (fun r h c => ?_) (Cert.SumSiblingRefIdeal.Value.run (F := Ideal) m' ρ')
    obtain ⟨h0, hargs⟩ := h c
    obtain ⟨a0, a1, a2⟩ := hagree c
    refine ⟨h0.trans ?_, hargs⟩
    rw [a0, a1, a2]
    refine (val_main_v7_eq ..).trans (funext fun i => ?_)
    have hc : c = 0 := Subsingleton.elim c 0
    subst hc
    exact congrArg (fun a => FloatOps.addf (F := Ideal) (φ := .f32) a _) (taken _ _ k hk hw i)

end Cert.Proof.SumSibling
-- ==== Proof.SumChips.lean ====
module

public import proofs.«01_k».proof.Proof.Gen.SumChips.Frame
public import proofs.«01_k».proof.Proof.Gen.SumChipsIdeal.Frame
public import Idealize.ShloMosaic.Lib.Pipeline.ValueKit
public import Idealize.ShloMosaic.Lib.Pointwise
public import Idealize.ShloMosaic.Lib.Decide
public import Idealize.ShloMosaic.Lib.Pipeline.ReadBack
public import proofs.«01_k».proof.Proof.Spec

@[expose] public section

set_option maxRecDepth 16384

noncomputable section

/-! # The sum with the other chips' gradients: what the kernel leaves in its result

The place's two words, the chip's number and the core's, choose the block of the slots and the block of what the other core sent.
The one grid point adds the two, and then what the three other chips sent, in order. -/

namespace Cert.SumChips.Result

open Cert.SumChips Cert.SumChips.Gen Idealize.ShloMosaic Idealize.ShloMosaic.TcCoe Idealize.SL.Sem

/-- The index of the chip's number in the place, and of the core's. -/
abbrev first : S2.Idx := fun a => match a with | ⟨0, _⟩ => (⟨0, by decide⟩ : Fin 2)
abbrev second : S2.Idx := fun a => match a with | ⟨0, _⟩ => (⟨1, by decide⟩ : Fin 2)

theorem chip_at {F : FTy → Type} [FloatOps F] (pf : pre0.Contents (Elt F)) (p : ℕ)
    (h : (pf 0 : S2.Idx → BitVec 32) first = BitVec.ofNat 32 p) :
    pf.at 0 (Rect.unit (s := S2) ![0] S1.size inb_S2_S1_0) numel1_S1 = BitVec.ofNat 32 p :=
  (congrArg (pf 0 : S2.Idx → BitVec 32) (show (Rect.unit (s := S2) ![0] S1.size inb_S2_S1_0).emb _ = first from
    funext fun a => match a with | ⟨0, _⟩ => Fin.ext rfl)).trans h

theorem core_at {F : FTy → Type} [FloatOps F] (pf : pre0.Contents (Elt F)) (k : ℕ)
    (h : (pf 0 : S2.Idx → BitVec 32) second = BitVec.ofNat 32 k) :
    pf.at 0 (Rect.unit (s := S2) ![1] S1.size inb_S2_S1_1) numel1_S1 = BitVec.ofNat 32 k :=
  (congrArg (pf 0 : S2.Idx → BitVec 32) (show (Rect.unit (s := S2) ![1] S1.size inb_S2_S1_1).emb _ = second from
    funext fun a => match a with | ⟨0, _⟩ => Fin.ext rfl)).trans h

theorem nat_word {n : ℕ} (h : n < 4) : (BitVec.ofNat 32 n).toNat = n := by
  rw [BitVec.toNat_ofNat]
  exact Nat.mod_eq_of_lt (by omega)

/-- The blocks of chip `p` and core `k`: of the slots, and of what was received. -/
theorem slot {F : FTy → Type} [FloatOps F] (pf : pre0.Contents (Elt F)) (p k : ℕ) (hp : p < 4) (hk : k < 2)
    (h0 : (pf 0 : S2.Idx → BitVec 32) first = BitVec.ofNat 32 p) (h1 : (pf 0 : S2.Idx → BitVec 32) second = BitVec.ofNat 32 k)
    (i : grid0.Coords) : cc0_transform_0 inb_S2_S1_0 numel1_S1 inb_S2_S1_1 pf i = ![p, k, 0] := by
  unfold cc0_transform_0
  rw [chip_at pf p h0, core_at pf k h1]
  funext a
  match a with
  | ⟨0, _⟩ => exact nat_word hp
  | ⟨1, _⟩ => exact nat_word (by omega)
  | ⟨2, _⟩ => rfl

theorem got {F : FTy → Type} [FloatOps F] (pf : pre0.Contents (Elt F)) (p : ℕ) (hp : p < 4)
    (h0 : (pf 0 : S2.Idx → BitVec 32) first = BitVec.ofNat 32 p) (i : grid0.Coords) :
    cc0_transform_1 inb_S2_S1_0 numel1_S1 pf i = ![p, 0, 0] := by
  unfold cc0_transform_1
  rw [chip_at pf p h0]
  funext a
  match a with
  | ⟨0, _⟩ => exact nat_word hp
  | ⟨1, _⟩ => rfl
  | ⟨2, _⟩ => rfl

theorem inside {F : FTy → Type} [FloatOps F] (pf : pre0.Contents (Elt F)) (p k : ℕ) (hp : p < 4) (hk : k < 2)
    (h0 : (pf 0 : S2.Idx → BitVec 32) first = BitVec.ofNat 32 p) (h1 : (pf 0 : S2.Idx → BitVec 32) second = BitVec.ofNat 32 k) :
    ok0 pf := by
  refine ⟨fun i => ⟨?_, .inl rfl⟩, fun i => ⟨?_, .inl rfl⟩⟩
  · rw [slot pf p k hp hk h0 h1 i]
    intro a
    match a with
    | ⟨0, _⟩ => show (p + 1) * 1 ≤ 4; omega
    | ⟨1, _⟩ => show (k + 1) * 5128 ≤ 10256; omega
    | ⟨2, _⟩ => show (0 + 1) * 128 ≤ 128; omega
  · rw [got pf p hp h0 i]
    intro a
    match a with
    | ⟨0, _⟩ => show (p + 1) * 1 ≤ 4; omega
    | ⟨1, _⟩ => show (0 + 1) * 5128 ≤ 5128; omega
    | ⟨2, _⟩ => show (0 + 1) * 128 ≤ 128; omega

end Cert.SumChips.Result

namespace Cert.SumChipsIdeal.Result

open Cert.SumChipsIdeal Cert.SumChipsIdeal.Gen Idealize.ShloMosaic Idealize.ShloMosaic.TcCoe Idealize.SL.Sem

/-- The index of the chip's number in the place, and of the core's. -/
abbrev first : S2.Idx := fun a => match a with | ⟨0, _⟩ => (⟨0, by decide⟩ : Fin 2)
abbrev second : S2.Idx := fun a => match a with | ⟨0, _⟩ => (⟨1, by decide⟩ : Fin 2)

theorem chip_at {F : FTy → Type} [FloatOps F] (pf : pre0.Contents (Elt F)) (p : ℕ)
    (h : (pf 0 : S2.Idx → BitVec 32) first = BitVec.ofNat 32 p) :
    pf.at 0 (Rect.unit (s := S2) ![0] S1.size inb_S2_S1_0) numel1_S1 = BitVec.ofNat 32 p :=
  (congrArg (pf 0 : S2.Idx → BitVec 32) (show (Rect.unit (s := S2) ![0] S1.size inb_S2_S1_0).emb _ = first from
    funext fun a => match a with | ⟨0, _⟩ => Fin.ext rfl)).trans h

theorem core_at {F : FTy → Type} [FloatOps F] (pf : pre0.Contents (Elt F)) (k : ℕ)
    (h : (pf 0 : S2.Idx → BitVec 32) second = BitVec.ofNat 32 k) :
    pf.at 0 (Rect.unit (s := S2) ![1] S1.size inb_S2_S1_1) numel1_S1 = BitVec.ofNat 32 k :=
  (congrArg (pf 0 : S2.Idx → BitVec 32) (show (Rect.unit (s := S2) ![1] S1.size inb_S2_S1_1).emb _ = second from
    funext fun a => match a with | ⟨0, _⟩ => Fin.ext rfl)).trans h

theorem nat_word {n : ℕ} (h : n < 4) : (BitVec.ofNat 32 n).toNat = n := by
  rw [BitVec.toNat_ofNat]
  exact Nat.mod_eq_of_lt (by omega)

/-- The blocks of chip `p` and core `k`: of the slots, and of what was received. -/
theorem slot {F : FTy → Type} [FloatOps F] (pf : pre0.Contents (Elt F)) (p k : ℕ) (hp : p < 4) (hk : k < 2)
    (h0 : (pf 0 : S2.Idx → BitVec 32) first = BitVec.ofNat 32 p) (h1 : (pf 0 : S2.Idx → BitVec 32) second = BitVec.ofNat 32 k)
    (i : grid0.Coords) : cc0_transform_0 inb_S2_S1_0 numel1_S1 inb_S2_S1_1 pf i = ![p, k, 0] := by
  unfold cc0_transform_0
  rw [chip_at pf p h0, core_at pf k h1]
  funext a
  match a with
  | ⟨0, _⟩ => exact nat_word hp
  | ⟨1, _⟩ => exact nat_word (by omega)
  | ⟨2, _⟩ => rfl

theorem got {F : FTy → Type} [FloatOps F] (pf : pre0.Contents (Elt F)) (p : ℕ) (hp : p < 4)
    (h0 : (pf 0 : S2.Idx → BitVec 32) first = BitVec.ofNat 32 p) (i : grid0.Coords) :
    cc0_transform_1 inb_S2_S1_0 numel1_S1 pf i = ![p, 0, 0] := by
  unfold cc0_transform_1
  rw [chip_at pf p h0]
  funext a
  match a with
  | ⟨0, _⟩ => exact nat_word hp
  | ⟨1, _⟩ => rfl
  | ⟨2, _⟩ => rfl

theorem inside {F : FTy → Type} [FloatOps F] (pf : pre0.Contents (Elt F)) (p k : ℕ) (hp : p < 4) (hk : k < 2)
    (h0 : (pf 0 : S2.Idx → BitVec 32) first = BitVec.ofNat 32 p) (h1 : (pf 0 : S2.Idx → BitVec 32) second = BitVec.ofNat 32 k) :
    ok0 pf := by
  refine ⟨fun i => ⟨?_, .inl rfl⟩, fun i => ⟨?_, .inl rfl⟩⟩
  · rw [slot pf p k hp hk h0 h1 i]
    intro a
    match a with
    | ⟨0, _⟩ => show (p + 1) * 1 ≤ 4; omega
    | ⟨1, _⟩ => show (k + 1) * 5128 ≤ 10256; omega
    | ⟨2, _⟩ => show (0 + 1) * 128 ≤ 128; omega
  · rw [got pf p hp h0 i]
    intro a
    match a with
    | ⟨0, _⟩ => show (p + 1) * 1 ≤ 4; omega
    | ⟨1, _⟩ => show (0 + 1) * 5128 ≤ 5128; omega
    | ⟨2, _⟩ => show (0 + 1) * 128 ≤ 128; omega

open Idealize.ShloMosaic.Pipeline (Dat)

/-- Row `r` of core `k`'s half of a slot. -/
abbrev half (k : ℕ) (hk : k < 2) (r : Fin 5128) : Fin 10256 := ⟨k * 5128 + r.val, by omega⟩

variable (m : (ℓ : Loc nD τ sig) → Buf (Elt Ideal) ℓ) (c : Dev nD) (hO : Ok m) (p k : ℕ) (hp : p < 4) (hk : k < 2)
  (h0 : (tbl m 0 : S2.Idx → BitVec 32) first = BitVec.ofNat 32 p) (h1 : (tbl m 0 : S2.Idx → BitVec 32) second = BitVec.ofNat 32 k)

abbrev A1 : S4x10256x128.Idx → EReal := m ((c : Thread nD τ).loc main_arg1)
abbrev A2 : S4x5128x128.Idx → EReal := m ((c : Thread nD τ).loc main_arg2)
abbrev A3 : S3x5128x128.Idx → EReal := m ((c : Thread nD τ).loc main_arg3)

include hp hk h0 h1 in
theorem idx0 (t : Fin (cfgM m hO).N) : ((cfgM m hO).win 0).index t = ![p, k, 0] :=
  slot (tbl m) p k hp hk h0 h1 (grid0.coords t)
include hp h0 in
theorem idx1 (t : Fin (cfgM m hO).N) : ((cfgM m hO).win 1).index t = ![p, 0, 0] :=
  got (tbl m) p hp h0 (grid0.coords t)

theorem three {f : Fin 3 → ℕ} {a b d : ℕ} (h : f 0 = a ∧ f 1 = b ∧ f 2 = d) : f = ![a, b, d] :=
  funext fun i => match i with | 0 => h.1 | 1 => h.2.1 | 2 => h.2.2
theorem two {f : Fin 2 → ℕ} {a b : ℕ} (h : f 0 = a ∧ f 1 = b) : f = ![a, b] :=
  funext fun i => match i with | 0 => h.1 | 1 => h.2

theorem flat : ∀ t : Fin grid0.N, (cc0_transform_2 (grid0.coords t) 0 = 0 ∧ cc0_transform_2 (grid0.coords t) 1 = 0
    ∧ cc0_transform_2 (grid0.coords t) 2 = 0) ∧ (cc0_transform_3 (grid0.coords t) 0 = 0
    ∧ cc0_transform_3 (grid0.coords t) 1 = 0) := by decide +kernel

theorem idx2 (t : Fin (cfgM m hO).N) : ((cfgM m hO).win 2).index t = ![0, 0, 0] := three (flat t).1
theorem idx3 (t : Fin (cfgM m hO).N) : ((cfgM m hO).win 3).index t = ![0, 0] := two (flat t).2

include hp hk h0 h1 in
theorem b0 (t : Fin (cfgM m hO).N) (x : S1x5128x128.Idx) :
    (iblk m hO c 0 t : S1x5128x128.Idx → EReal) x = A1 m c (ix3 ⟨p, hp⟩ (half k hk (x 1)) (x 2)) := by
  have hx : (x 0).val < 1 := (x 0).isLt
  blk_ext [iblk, idx0 m hO p k hp hk h0 h1 t]
include hp h0 in
theorem b1 (t : Fin (cfgM m hO).N) (x : S1x5128x128.Idx) :
    (iblk m hO c 1 t : S1x5128x128.Idx → EReal) x = A2 m c (ix3 ⟨p, hp⟩ (x 1) (x 2)) := by
  have hx : (x 0).val < 1 := (x 0).isLt
  blk_ext [iblk, idx1 m hO p hp h0 t]
theorem b2 (t : Fin (cfgM m hO).N) (x : S3x5128x128.Idx) :
    (iblk m hO c 2 t : S3x5128x128.Idx → EReal) x = A3 m c x := by
  blk_ext [iblk, idx2 m hO t]

/-- What chip `r` of the three others sent. -/
abbrev sent (x : Vec Ideal S3x5128x128 .bf16) (r : Fin 3) : Vec Ideal S1x5128x128 .bf16 := fun y => x (ix3 r (y 1) (y 2))

theorem stored (c : Dev nD) (i : grid0.Coords) (a2 : Memref sig .tc .vmem S1x5128x128 .f32) (h2 : a2.IsWhole)
    (a3 : Memref sig .tc .vmem S1x5128x128 .f32) (h3 : a3.IsWhole) (a4 : Memref sig .tc .vmem S3x5128x128 .bf16) (h4 : a4.IsWhole)
    (a5 : Memref sig .tc .vmem S5128x128 .f32) (h5 : a5.IsWhole)
    (hc : cond0_0 i) (x0 x1 : Vec Ideal S1x5128x128 .f32) (x2 : Vec Ideal S3x5128x128 .bf16) (xt : TbBuf0 (F := Ideal) c tbM0_0) :
    out0_A_3 c i a2 h2 a3 h3 a4 h4 a5 h5 hc x0 x1 x2 xt = k0_pay1 x0 x1 (sent x2 0) (sent x2 1) (sent x2 2) := by
  have row : ∀ (r : Fin 3) (hr : ∀ a, (![r.val, 0, 0] : Fin 3 → ℕ) a + S1x5128x128.size a ≤ S3x5128x128.size a),
      (fun y => x2 ((Rect.unit (s := S3x5128x128) ![r.val, 0, 0] S1x5128x128.size hr).emb y)) = sent x2 r := fun r hr => by
    funext y
    have hy : (y 0).val < 1 := (y 0).isLt
    refine congrArg x2 (funext fun a => Fin.ext ?_)
    match a with
    | ⟨0, _⟩ => show r.val + 1 * (y 0).val = r.val; omega
    | ⟨1, _⟩ => show 0 + 1 * (y 1).val = (y 1).val; omega
    | ⟨2, _⟩ => show 0 + 1 * (y 2).val = (y 2).val; omega
  unfold out0_A_3
  frame_out
  rw [← row 0 (by decide), ← row 1 (by decide), ← row 2 (by decide)]
  rfl

theorem after3 (t : Fin (cfgM m hO).N) : (dats m hO 0 c).after 3 t
    = k0_pay1 (iblk m hO c 0 t) (iblk m hO c 1 t) (sent (iblk m hO c 2 t) 0) (sent (iblk m hO c 2 t) 1) (sent (iblk m hO c 2 t) 2) :=
  (after0_3 m hO c t).trans (stored ..)

/-- The index of a block of one slot that an index of the result is. -/
abbrev lift (y : S5128x128.Idx) : S1x5128x128.Idx := ix3 0 (y 0) (y 1)

theorem dropped (α : Type) (u : S1x5128x128.Idx → α) (y : S5128x128.Idx) :
    shapeCast S5128x128 u shapeCasts_S1x5128x128_S5128x128 y = u (lift y) := by
  refine (shapeCast_dropUnit_apply ![5128, 128] u shapeCasts_S1x5128x128_S5128x128 y).trans (congrArg u (funext fun a => Fin.ext ?_))
  match a with
  | ⟨0, _⟩ => rfl
  | ⟨1, _⟩ => rfl
  | ⟨2, _⟩ => rfl

theorem pay (u v : Vec Ideal S1x5128x128 .f32) (w0 w1 w2 : Vec Ideal S1x5128x128 .bf16) (y : S5128x128.Idx) :
    k0_pay1 (F := Ideal) u v w0 w1 w2 y = (((u (lift y) + v (lift y) : EReal) + w0 (lift y) : EReal) + w1 (lift y) : EReal) + w2 (lift y) := by
  show (((shapeCast S5128x128 u shapeCasts_S1x5128x128_S5128x128 y + shapeCast S5128x128 v shapeCasts_S1x5128x128_S5128x128 y : EReal)
    + shapeCast S5128x128 w0 shapeCasts_S1x5128x128_S5128x128 y : EReal) + shapeCast S5128x128 w1 shapeCasts_S1x5128x128_S5128x128 y : EReal)
    + shapeCast S5128x128 w2 shapeCasts_S1x5128x128_S5128x128 y = _
  rw [dropped, dropped, dropped, dropped, dropped]

/-- The sum at an index of the result. -/
def G (p k : ℕ) (hp : p < 4) (hk : k < 2) : S5128x128.Idx → EReal := fun i =>
  (((A1 m c (ix3 ⟨p, hp⟩ (half k hk (i 0)) (i 1)) + A2 m c (ix3 ⟨p, hp⟩ (i 0) (i 1)) : EReal)
    + A3 m c (ix3 0 (i 0) (i 1)) : EReal) + A3 m c (ix3 1 (i 0) (i 1)) : EReal) + A3 m c (ix3 2 (i 0) (i 1))

/-- The result's block does not depend on the table. -/
abbrev zeros : (pcfg0 (F := Ideal)).Adm :=
  ⟨fun j => match j with | 0 => (fun _ => 0#32 : S2.Idx → BitVec 32), inside _ 0 0 (by decide) (by decide) rfl rfl⟩

theorem covers : ((cfgM m hO).win 3).Covers :=
  (by decide +kernel : ((cfg0 zeros).win 3).Covers)

include h0 h1 in
theorem out : (dats m hO 0 c).arrAt 3 (cfgM m hO).N = G m c p k hp hk := by
  refine (dats m hO 0 c).arrAt_eq_of_covers 3 _ (covers m hO) fun t hf (y : S5128x128.Idx) => ?_
  have e : (((cfgM m hO).win 3).blk t).view.emb y = y := by blk_ext [idx3 m hO t]
  rw [e]
  blk_simp
  rw [after3]
  refine (pay _ _ _ _ _ y).trans ?_
  rw [b0 m c hO p k hp hk h0 h1 t, b1 m c hO p hp h0 t]
  exact congrArg₂ _ (congrArg₂ _ (congrArg₂ _ rfl (b2 m c hO t _)) (b2 m c hO t _)) (b2 m c hO t _)

end Cert.SumChipsIdeal.Result

end
-- ==== Proof.SumChipsClaims.lean ====
module
public import proofs.«01_k».proof.Defs
public import proofs.«01_k».proof.Proof.Gen.SumChips
public import proofs.«01_k».proof.Proof.Gen.SumChips.Frame
public import proofs.«01_k».proof.Proof.Gen.SumChipsIdeal.Frame
public import proofs.«01_k».proof.Proof.Gen.SumChipsRefIdeal.Run
public import proofs.«01_k».proof.Proof.Gen.SumChipsRefIdeal.Read
public import proofs.«01_k».proof.Proof.Gen.Pre_place_named_chips
public import proofs.«01_k».proof.Proof.SumChips
public import proofs.«01_k».proof.Proof.AdamBigClaims
public import Idealize.ShloMosaic.Adequacy
public import Idealize.ShloMosaic.Init

@[expose] public section
noncomputable section

/-!
# The sum with the other chips' gradients: the claims

The precondition says the place names a chip and a core; the blocks that they choose are then inside their arrays, and the
reference's choices among the chips and between the halves are the blocks the kernel reads.
-/

namespace Cert.Proof.SumChips
open Idealize.ShloMosaic Idealize.ShloMosaic.TcCoe Idealize.SL.Sem
open Cert.Proof.AdamBig (both small)
open Cert.SumChipsRefIdeal Cert.SumChipsRefIdeal.Gen Cert.SumChipsRefIdeal.Read

/-- The one index of an array of one word. -/
abbrev only : Cert.Pre_place_named_chips.S1.Idx := fun a => match a with | ⟨0, _⟩ => (⟨0, by decide⟩ : Fin 1)

/-- The chip and the core the printed precondition admits. -/
theorem named {F : FTy → Type} [FloatOps F] (x0 : Cert.Pre_place_named_chips.S2.Idx → BitVec 32)
    (x1 : FVec F Cert.Pre_place_named_chips.S4x10256x128 .f32) (x2 : FVec F Cert.Pre_place_named_chips.S4x5128x128 .f32)
    (x3 : FVec F Cert.Pre_place_named_chips.S3x5128x128 .bf16)
    (h : Cert.Pre_place_named_chips.fn (F := F) x0 x1 x2 x3 = fun _ => 1#1) :
    ∃ p k : ℕ, p < 4 ∧ k < 2 ∧ x0 Cert.SumChips.Result.first = BitVec.ofNat 32 p
      ∧ x0 Cert.SumChips.Result.second = BitVec.ofNat 32 k := by
  have hp := congrFun h only
  obtain ⟨hp, d1⟩ := both hp
  obtain ⟨hp, d0⟩ := both hp
  obtain ⟨c0, c1⟩ := both hp
  have hc : (extractStridedSlice Cert.Pre_place_named_chips.S1 ![0] x0 Cert.Pre_place_named_chips.Facts.slices_S2_S1_0 only).toNat < 4 :=
    small (n := 4) (by decide) c0 c1
  have hd : (extractStridedSlice Cert.Pre_place_named_chips.S1 ![1] x0 Cert.Pre_place_named_chips.Facts.slices_S2_S1_1 only).toNat < 2 :=
    small (n := 2) (by decide) d0 d1
  have e0 : extractStridedSlice Cert.Pre_place_named_chips.S1 ![0] x0 Cert.Pre_place_named_chips.Facts.slices_S2_S1_0 only
      = x0 Cert.SumChips.Result.first :=
    congrArg x0 (funext fun a => Fin.ext (match a with | ⟨0, _⟩ => rfl))
  have e1 : extractStridedSlice Cert.Pre_place_named_chips.S1 ![1] x0 Cert.Pre_place_named_chips.Facts.slices_S2_S1_1 only
      = x0 Cert.SumChips.Result.second :=
    congrArg x0 (funext fun a => Fin.ext (match a with | ⟨0, _⟩ => rfl))
  rw [e0] at hc
  rw [e1] at hd
  refine ⟨_, _, hc, hd, BitVec.eq_of_toNat_eq ?_, BitVec.eq_of_toNat_eq ?_⟩
  · rw [BitVec.toNat_ofNat]
    omega
  · rw [BitVec.toNat_ofNat]
    omega

theorem place (m : (ℓ : Loc Cert.SumChips.nD Cert.SumChips.τ Cert.SumChips.sig) → Buf (Elt Bits) ℓ) (h : Cert.Pre_SumChips m) :
    Cert.SumChips.Gen.Ok m := by
  obtain ⟨p, k, hp, hk, e0, e1⟩ := named (F := Bits) _ _ _ _ (h 0)
  exact Cert.SumChips.Result.inside _ p k hp hk e0 e1

theorem placeIdeal (m : (ℓ : Loc Cert.SumChipsIdeal.nD Cert.SumChipsIdeal.τ Cert.SumChipsIdeal.sig) → Buf (Elt Ideal) ℓ)
    (h : Cert.Pre_SumChipsIdeal m) : ∃ p k : ℕ, p < 4 ∧ k < 2
      ∧ (Cert.SumChipsIdeal.Gen.tbl m 0 : Cert.SumChipsIdeal.S2.Idx → BitVec 32) Cert.SumChipsIdeal.Result.first = BitVec.ofNat 32 p
      ∧ (Cert.SumChipsIdeal.Gen.tbl m 0 : Cert.SumChipsIdeal.S2.Idx → BitVec 32) Cert.SumChipsIdeal.Result.second = BitVec.ofNat 32 k :=
  named (F := Ideal) _ _ _ _ (h 0)

theorem frame_kernel : Cert.quiescent_SumChips := fun m ρ hpre => Cert.SumChips.Gen.frame m ρ (place m hpre)

theorem frame_kernelIdeal : Cert.quiescent_SumChipsIdeal := fun m ρ hpre => by
  obtain ⟨p, k, hp, hk, e0, e1⟩ := placeIdeal m hpre
  exact Cert.SumChipsIdeal.Gen.frame m ρ (Cert.SumChipsIdeal.Result.inside _ p k hp hk e0 e1)

theorem frame_referenceIdeal : Cert.quiescent_SumChipsRefIdeal := fun m ρ _ =>
  (θ_run Cert.SumChipsRefIdeal.defs _ _).mono (fun r h => ⟨fun c => (h c).2, Idealize.ShloMosaic.sem_eq_zero_of_no_sems (by decide) r.2⟩)
    (Cert.SumChipsRefIdeal.Value.run (F := Ideal) m ρ)

theorem frame_referenceIdeal_named : Cert.quiescent_SumChipsRefIdeal_pre_place_named_chips := fun m ρ _ =>
  (θ_run Cert.SumChipsRefIdeal.defs _ _).mono (fun r h => ⟨fun c => (h c).2, Idealize.ShloMosaic.sem_eq_zero_of_no_sems (by decide) r.2⟩)
    (Cert.SumChipsRefIdeal.Value.run (F := Ideal) m ρ)

theorem preserves : Cert.preserves_SumChips_SumChipsIdeal := trivial

/-- The core's number as the reference reads it. -/
theorem word (x0 : S2.Idx → BitVec 32) (z : S_.Idx) : val_main_v1 (F := Ideal) x0 z = x0 Cert.SumChips.Result.second := by
  unfold val_main_v1 shapeCast
  rw [val_main_v0_apply]
  refine congrArg x0 (funext fun a => Fin.ext ?_)
  match a with
  | ⟨0, _⟩ =>
    generalize (Shape.reshapeEquiv shapeCasts_S1_S_) z = w
    have : (w 0).val < 1 := (w 0).isLt
    show 1 + (w 0).val = 1
    omega

/-- The half of the slots the reference takes on core `k`. -/
theorem taken (x0 : S2.Idx → BitVec 32) (x1 : S4x10256x128.Idx → EReal) (k : ℕ) (hk : k < 2)
    (h : x0 Cert.SumChips.Result.second = BitVec.ofNat 32 k) (i : S4x5128x128.Idx) :
    val_main_v5 (F := Ideal) x0 x1 i = x1 (ix3 (i 0) (Cert.SumChipsIdeal.Result.half k hk (i 1)) (i 2)) := by
  unfold val_main_v5
  show Scalar.select (broadcastInDim S4x5128x128 ![] bcast_S_S4x5128x128 (val_main_v2 (F := Ideal) x0) i) _ _ = _
  rw [broadcastInDim_apply _ bcast_S_S4x5128x128 _ i (fun a => a.elim0) (fun a => a.elim0), val_main_v2_apply, word, h]
  rcases (by omega : k = 0 ∨ k = 1) with rfl | rfl
  · refine (val_main_v3_apply (F := Ideal) x1 i).trans (congrArg x1 (funext fun a => Fin.ext ?_))
    match a with
    | ⟨0, _⟩ => rfl
    | ⟨1, _⟩ => show (i 1).val = 0 * 5128 + (i 1).val; omega
    | ⟨2, _⟩ => rfl
  · refine (val_main_v4_apply (F := Ideal) x1 i).trans (congrArg x1 (funext fun a => Fin.ext ?_))
    match a with
    | ⟨0, _⟩ => rfl
    | ⟨1, _⟩ => show 5128 + (i 1).val = 1 * 5128 + (i 1).val; omega
    | ⟨2, _⟩ => rfl

/-- The chip's number as the reference reads it, twice. -/
theorem word7 (x0 : S2.Idx → BitVec 32) (z : S_.Idx) : val_main_v7 (F := Ideal) x0 z = x0 Cert.SumChips.Result.first := by
  unfold val_main_v7 shapeCast
  rw [val_main_v6_apply]
  refine congrArg x0 (funext fun a => Fin.ext ?_)
  match a with
  | ⟨0, _⟩ =>
    generalize (Shape.reshapeEquiv shapeCasts_S1_S_) z = w
    have : (w 0).val < 1 := (w 0).isLt
    show (w 0).val = 0
    omega
theorem word23 (x0 : S2.Idx → BitVec 32) (z : S_.Idx) : val_main_v23 (F := Ideal) x0 z = x0 Cert.SumChips.Result.first :=
  word7 x0 z

/-- Slot `r` of four, of which the reference takes one by the chip's number. -/
abbrev at_ (r : Fin 4) (i : S5128x128.Idx) : S4x5128x128.Idx := ix3 r (i 0) (i 1)

/-- A choice of a whole array by one bit, at an index. -/
theorem choice (b : S_.Idx → BitVec 1) (u v : S5128x128.Idx → EReal) (i : S5128x128.Idx) :
    select (broadcastInDim S5128x128 ![] bcast_S_S5128x128 b) u v i = Scalar.select (b (fun a => a.elim0)) (u i) (v i) := by
  show Scalar.select (broadcastInDim S5128x128 ![] bcast_S_S5128x128 b i) _ _ = _
  rw [broadcastInDim_apply _ bcast_S_S5128x128 b i (fun a => a.elim0) (fun a => a.elim0)]

/-- The index of a slot's member that a row and a column of the slot are, by their place in the slot. -/
theorem flattened {n : ℕ} (i : S5128x128.Idx) (r : Fin n) (j : (⟨3, ![n, 5128, 128]⟩ : Shape).Idx) (h0 : (j 0).val = r.val)
    (h1 : (j 1).val = ((i 0).val * 128 + (i 1).val) / 128 % 5128) (h2 : (j 2).val = ((i 0).val * 128 + (i 1).val) % 128) :
    j = ix3 r (i 0) (i 1) := by
  have a0 : (i 0).val < 5128 := (i 0).isLt
  have a1 : (i 1).val < 128 := (i 1).isLt
  refine funext fun a => Fin.ext ?_
  match a with
  | ⟨0, _⟩ => exact h0
  | ⟨1, _⟩ => exact h1.trans (by show _ = (i 0).val; omega)
  | ⟨2, _⟩ => exact h2.trans (by show _ = (i 1).val; omega)

theorem own (x0 : S2.Idx → BitVec 32) (x1 : S4x10256x128.Idx → EReal) (p : ℕ) (hp : p < 4)
    (h : x0 Cert.SumChips.Result.first = BitVec.ofNat 32 p) (i : S5128x128.Idx) :
    val_main_v21 (F := Ideal) x0 x1 i = val_main_v5 (F := Ideal) x0 x1 (at_ ⟨p, hp⟩ i) := by
  have e0 : val_main_v10 (F := Ideal) x0 x1 i = val_main_v5 (F := Ideal) x0 x1 (at_ 0 i) := by
    rw [val_main_v10_apply, val_main_v9_apply]
    exact congrArg _ (flattened i _ _ rfl rfl rfl)
  have e1 : val_main_v13 (F := Ideal) x0 x1 i = val_main_v5 (F := Ideal) x0 x1 (at_ 1 i) := by
    rw [val_main_v13_apply, val_main_v12_apply]
    exact congrArg _ (flattened i _ _ rfl rfl rfl)
  have e2 : val_main_v16 (F := Ideal) x0 x1 i = val_main_v5 (F := Ideal) x0 x1 (at_ 2 i) := by
    rw [val_main_v16_apply, val_main_v15_apply]
    exact congrArg _ (flattened i _ _ rfl rfl rfl)
  have e3 : val_main_v18 (F := Ideal) x0 x1 i = val_main_v5 (F := Ideal) x0 x1 (at_ 3 i) := by
    rw [val_main_v18_apply, val_main_v17_apply]
    exact congrArg _ (flattened i _ _ rfl rfl rfl)
  unfold val_main_v21
  rw [choice, val_main_v8_apply, word7]
  unfold val_main_v20
  rw [choice, val_main_v11_apply, word7]
  unfold val_main_v19
  rw [choice, val_main_v14_apply, word7, e0, e1, e2, e3, h]
  rcases (by omega : p = 0 ∨ p = 1 ∨ p = 2 ∨ p = 3) with rfl | rfl | rfl | rfl <;> rfl

theorem received (x0 : S2.Idx → BitVec 32) (x2 : S4x5128x128.Idx → EReal) (p : ℕ) (hp : p < 4)
    (h : x0 Cert.SumChips.Result.first = BitVec.ofNat 32 p) (i : S5128x128.Idx) :
    val_main_v37 (F := Ideal) x0 x2 i = x2 (at_ ⟨p, hp⟩ i) := by
  have e0 : val_main_v26 (F := Ideal) x2 i = x2 (at_ 0 i) := by
    rw [val_main_v26_apply, val_main_v25_apply]
    exact congrArg _ (flattened i _ _ rfl rfl rfl)
  have e1 : val_main_v29 (F := Ideal) x2 i = x2 (at_ 1 i) := by
    rw [val_main_v29_apply, val_main_v28_apply]
    exact congrArg _ (flattened i _ _ rfl rfl rfl)
  have e2 : val_main_v32 (F := Ideal) x2 i = x2 (at_ 2 i) := by
    rw [val_main_v32_apply, val_main_v31_apply]
    exact congrArg _ (flattened i _ _ rfl rfl rfl)
  have e3 : val_main_v34 (F := Ideal) x2 i = x2 (at_ 3 i) := by
    rw [val_main_v34_apply, val_main_v33_apply]
    exact congrArg _ (flattened i _ _ rfl rfl rfl)
  unfold val_main_v37
  rw [choice, val_main_v24_apply, word23]
  unfold val_main_v36
  rw [choice, val_main_v27_apply, word23]
  unfold val_main_v35
  rw [choice, val_main_v30_apply, word23, e0, e1, e2, e3, h]
  rcases (by omega : p = 0 ∨ p = 1 ∨ p = 2 ∨ p = 3) with rfl | rfl | rfl | rfl <;> rfl

/-- What the three other chips sent. -/
theorem others (x3 : S3x5128x128.Idx → EReal) (i : S5128x128.Idx) :
    val_main_v40 (F := Ideal) x3 i = x3 (ix3 0 (i 0) (i 1)) ∧ val_main_v44 (F := Ideal) x3 i = x3 (ix3 1 (i 0) (i 1))
      ∧ val_main_v48 (F := Ideal) x3 i = x3 (ix3 2 (i 0) (i 1)) := by
  refine ⟨?_, ?_, ?_⟩
  · rw [val_main_v40_apply, val_main_v39_apply]
    exact congrArg _ (flattened i _ _ rfl rfl rfl)
  · rw [val_main_v44_apply, val_main_v43_apply]
    exact congrArg _ (flattened i _ _ rfl rfl rfl)
  · rw [val_main_v48_apply, val_main_v47_apply]
    exact congrArg _ (flattened i _ _ rfl rfl rfl)

/-- The reference's sum at an index. -/
theorem summed (x0 : S2.Idx → BitVec 32) (x1 : S4x10256x128.Idx → EReal) (x2 : S4x5128x128.Idx → EReal) (x3 : S3x5128x128.Idx → EReal)
    (p k : ℕ) (hp : p < 4) (hk : k < 2) (h0 : x0 Cert.SumChips.Result.first = BitVec.ofNat 32 p)
    (h1 : x0 Cert.SumChips.Result.second = BitVec.ofNat 32 k) (i : S5128x128.Idx) :
    val_main_v50 (F := Ideal) x0 x1 x2 x3 i
      = (((x1 (ix3 ⟨p, hp⟩ (Cert.SumChipsIdeal.Result.half k hk (i 0)) (i 1)) + x2 (ix3 ⟨p, hp⟩ (i 0) (i 1)) : EReal)
        + x3 (ix3 0 (i 0) (i 1)) : EReal) + x3 (ix3 1 (i 0) (i 1)) : EReal) + x3 (ix3 2 (i 0) (i 1)) := by
  obtain ⟨o0, o1, o2⟩ := others x3 i
  show (((val_main_v21 (F := Ideal) x0 x1 i + val_main_v37 (F := Ideal) x0 x2 i : EReal) + val_main_v40 (F := Ideal) x3 i : EReal)
    + val_main_v44 (F := Ideal) x3 i : EReal) + val_main_v48 (F := Ideal) x3 i = _
  rw [own x0 x1 p hp h0 i, taken x0 x1 k hk h1, received x0 x2 p hp h0 i, o0, o1, o2]
  rfl

theorem algebraic : Cert.algebraic_SumChipsIdeal_SumChipsRefIdeal := by
  intro m ρ m' ρ' hpre hagree
  obtain ⟨p, k, hp, hk, w0, w1⟩ := placeIdeal m hpre
  have hO : Cert.SumChipsIdeal.Gen.Ok m := Cert.SumChipsIdeal.Result.inside _ p k hp hk w0 w1
  refine ⟨fun c => Cert.SumChipsIdeal.Result.G m c p k hp hk,
    (θ_run Cert.SumChipsIdeal.defs _ _).mono (fun r h c => ?_)
      (θ_run_and (Cert.SumChipsIdeal.Gen.unchanged m ρ hO) (Cert.SumChipsIdeal.Gen.run_main m ρ hO)), ?_⟩
  · obtain ⟨hargs, hq⟩ := h
    exact ⟨((hq c).1 3).trans (Cert.SumChipsIdeal.Result.out m c hO p k hp hk w0 w1), hargs c⟩
  · refine (θ_run Cert.SumChipsRefIdeal.defs _ _).mono (fun r h c => ?_) (Cert.SumChipsRefIdeal.Value.run (F := Ideal) m' ρ')
    obtain ⟨h0, hargs⟩ := h c
    obtain ⟨a0, a1, a2, a3⟩ := hagree c
    refine ⟨h0.trans ?_, hargs⟩
    refine (val_main_v50_eq m' c).trans ?_
    rw [a0, a1, a2, a3]
    have hc : c = 0 := Subsingleton.elim c 0
    subst hc
    exact funext fun i => summed _ _ _ _ p k hp hk w0 w1 i

end Cert.Proof.SumChips
-- ==== Proof.lean ====
module

public import proofs.«01_k».proof.Defs
public import proofs.«01_k».proof.Proof.GateClaims
public import proofs.«01_k».proof.Proof.DWDownClaims
public import proofs.«01_k».proof.Proof.DWUpClaims
public import proofs.«01_k».proof.Proof.MlpUpClaims
public import proofs.«01_k».proof.Proof.DActClaims
public import proofs.«01_k».proof.Proof.MlpDownClaims
public import proofs.«01_k».proof.Proof.DWOutClaims
public import proofs.«01_k».proof.Proof.DWBranchClaims
public import proofs.«01_k».proof.Proof.DWPleClaims
public import proofs.«01_k».proof.Proof.ProjQkvClaims
public import proofs.«01_k».proof.Proof.ProjGateClaims
public import proofs.«01_k».proof.Proof.OutNormClaims
public import proofs.«01_k».proof.Proof.GateFwdClaims
public import proofs.«01_k».proof.Proof.DHMlpClaims
public import proofs.«01_k».proof.Proof.DHPleClaims
public import proofs.«01_k».proof.Proof.HeadClaims
public import proofs.«01_k».proof.Proof.ProjForgetClaims
public import proofs.«01_k».proof.Proof.DWGateClaims
public import proofs.«01_k».proof.Proof.DWForgetClaims
public import proofs.«01_k».proof.Proof.FoxPostClaims
public import proofs.«01_k».proof.Proof.FoxPrepClaims
public import proofs.«01_k».proof.Proof.AdamVecClaims
public import proofs.«01_k».proof.Proof.AdamBigClaims
public import proofs.«01_k».proof.Proof.AdamInClaims
public import proofs.«01_k».proof.Proof.SumSiblingClaims
public import proofs.«01_k».proof.Proof.SumChipsClaims
public import Idealize.ShloMosaic.Adequacy
public import Idealize.ShloMosaic.Init

@[expose] public section

noncomputable section

namespace Cert.Proof

/-- Every claim about every call: the programs' side conditions, then the frames, the preservations and the values. -/
theorem claim : Cert.Claim := ⟨
  Cert.Kernel.Gen.facts, Cert.KernelIdeal.Gen.facts, Cert.ReferenceIdeal.Gen.facts,
  Cert.DWDown.Gen.facts, Cert.DWDownIdeal.Gen.facts, Cert.DWDownRefIdeal.Gen.facts,
  Cert.DWUp.Gen.facts, Cert.DWUpIdeal.Gen.facts, Cert.DWUpRefIdeal.Gen.facts,
  Cert.MlpUp.Gen.facts, Cert.MlpUpIdeal.Gen.facts, Cert.MlpUpRefIdeal.Gen.facts,
  Cert.DAct.Gen.facts, Cert.DActIdeal.Gen.facts, Cert.DActRefIdeal.Gen.facts,
  Cert.MlpDown.Gen.facts, Cert.MlpDownIdeal.Gen.facts, Cert.MlpDownRefIdeal.Gen.facts,
  Cert.DWOut.Gen.facts, Cert.DWOutIdeal.Gen.facts, Cert.DWOutRefIdeal.Gen.facts,
  Cert.DWBranch.Gen.facts, Cert.DWBranchIdeal.Gen.facts, Cert.DWBranchRefIdeal.Gen.facts,
  Cert.DWPle.Gen.facts, Cert.DWPleIdeal.Gen.facts, Cert.DWPleRefIdeal.Gen.facts,
  Cert.ProjQkv.Gen.facts, Cert.ProjQkvIdeal.Gen.facts, Cert.ProjQkvRefIdeal.Gen.facts,
  Cert.ProjGate.Gen.facts, Cert.ProjGateIdeal.Gen.facts, Cert.ProjGateRefIdeal.Gen.facts,
  Cert.OutNorm.Gen.facts, Cert.OutNormIdeal.Gen.facts, Cert.OutNormRefIdeal.Gen.facts,
  Cert.GateFwd.Gen.facts, Cert.GateFwdIdeal.Gen.facts, Cert.GateFwdRefIdeal.Gen.facts,
  Cert.DHMlp.Gen.facts, Cert.DHMlpIdeal.Gen.facts, Cert.DHMlpRefIdeal.Gen.facts,
  Cert.DHPle.Gen.facts, Cert.DHPleIdeal.Gen.facts, Cert.DHPleRefIdeal.Gen.facts,
  Cert.Head.Gen.facts, Cert.HeadIdeal.Gen.facts, Cert.HeadRefIdeal.Gen.facts,
  Cert.ProjForget.Gen.facts, Cert.ProjForgetIdeal.Gen.facts, Cert.ProjForgetRefIdeal.Gen.facts,
  Cert.DWGate.Gen.facts, Cert.DWGateIdeal.Gen.facts, Cert.DWGateRefIdeal.Gen.facts,
  Cert.DWForget.Gen.facts, Cert.DWForgetIdeal.Gen.facts, Cert.DWForgetRefIdeal.Gen.facts,
  Cert.FoxPost.Gen.facts, Cert.FoxPostIdeal.Gen.facts, Cert.FoxPostRefIdeal.Gen.facts,
  Cert.FoxPrep.Gen.facts, Cert.FoxPrepIdeal.Gen.facts, Cert.FoxPrepRefIdeal.Gen.facts,
  Cert.AdamVec.Gen.facts, Cert.AdamVecIdeal.Gen.facts, Cert.AdamVecRefIdeal.Gen.facts,
  Cert.AdamBig.Gen.facts, Cert.AdamBigIdeal.Gen.facts, Cert.AdamBigRefIdeal.Gen.facts,
  Cert.AdamIn.Gen.facts, Cert.AdamInIdeal.Gen.facts, Cert.AdamInRefIdeal.Gen.facts,
  Cert.SumSibling.Gen.facts, Cert.SumSiblingIdeal.Gen.facts, Cert.SumSiblingRefIdeal.Gen.facts,
  Cert.SumChips.Gen.facts, Cert.SumChipsIdeal.Gen.facts, Cert.SumChipsRefIdeal.Gen.facts,
  Cert.Pre_finite_differences.Gen.facts, Cert.Pre_place_named.Gen.facts, Cert.Pre_place_named_in.Gen.facts, Cert.Pre_place_named_sibling.Gen.facts, Cert.Pre_place_named_chips.Gen.facts,
  Gate.frame_kernel, Gate.frame_kernelIdeal, Gate.frame_referenceIdeal,
  DWDown.frame_kernel, DWDown.frame_kernelIdeal, DWDown.frame_referenceIdeal,
  DWUp.frame_kernel, DWUp.frame_kernelIdeal, DWUp.frame_referenceIdeal,
  MlpUp.frame_kernel, MlpUp.frame_kernelIdeal, MlpUp.frame_referenceIdeal,
  DAct.frame_kernel, DAct.frame_kernelIdeal, DAct.frame_referenceIdeal,
  MlpDown.frame_kernel, MlpDown.frame_kernelIdeal, MlpDown.frame_referenceIdeal,
  DWOut.frame_kernel, DWOut.frame_kernelIdeal, DWOut.frame_referenceIdeal,
  DWBranch.frame_kernel, DWBranch.frame_kernelIdeal, DWBranch.frame_referenceIdeal,
  DWPle.frame_kernel, DWPle.frame_kernelIdeal, DWPle.frame_referenceIdeal,
  ProjQkv.frame_kernel, ProjQkv.frame_kernelIdeal, ProjQkv.frame_referenceIdeal,
  ProjGate.frame_kernel, ProjGate.frame_kernelIdeal, ProjGate.frame_referenceIdeal,
  OutNorm.frame_kernel, OutNorm.frame_kernelIdeal, OutNorm.frame_referenceIdeal,
  GateFwd.frame_kernel, GateFwd.frame_kernelIdeal, GateFwd.frame_referenceIdeal,
  DHMlp.frame_kernel, DHMlp.frame_kernelIdeal, DHMlp.frame_referenceIdeal,
  DHPle.frame_kernel, DHPle.frame_kernelIdeal, DHPle.frame_referenceIdeal,
  Head.frame_kernel, Head.frame_kernelIdeal, Head.frame_referenceIdeal,
  ProjForget.frame_kernel, ProjForget.frame_kernelIdeal, ProjForget.frame_referenceIdeal,
  DWGate.frame_kernel, DWGate.frame_kernelIdeal, DWGate.frame_referenceIdeal,
  DWForget.frame_kernel, DWForget.frame_kernelIdeal, DWForget.frame_referenceIdeal,
  FoxPost.frame_kernel, FoxPost.frame_kernelIdeal, FoxPost.frame_kernelIdeal_finite,
  FoxPost.frame_referenceIdeal, FoxPost.frame_referenceIdeal_finite,
  FoxPrep.frame_kernel, FoxPrep.frame_kernelIdeal, FoxPrep.frame_referenceIdeal,
  AdamVec.frame_kernel, AdamVec.frame_kernelIdeal, AdamVec.frame_referenceIdeal,
  AdamBig.frame_kernel, AdamBig.frame_kernelIdeal, AdamBig.frame_referenceIdeal, AdamBig.frame_referenceIdeal_named,
  AdamIn.frame_kernel, AdamIn.frame_kernelIdeal, AdamIn.frame_referenceIdeal, AdamIn.frame_referenceIdeal_named,
  SumSibling.frame_kernel, SumSibling.frame_kernelIdeal, SumSibling.frame_referenceIdeal, SumSibling.frame_referenceIdeal_named,
  SumChips.frame_kernel, SumChips.frame_kernelIdeal, SumChips.frame_referenceIdeal, SumChips.frame_referenceIdeal_named,
  Gate.preserves, Gate.algebraic, DWDown.preserves, DWDown.algebraic, DWUp.preserves, DWUp.algebraic, MlpUp.preserves,
  MlpUp.algebraic, DAct.preserves, DAct.algebraic, MlpDown.preserves, MlpDown.algebraic, DWOut.preserves,
  DWOut.algebraic, DWBranch.preserves, DWBranch.algebraic, DWPle.preserves, DWPle.algebraic, ProjQkv.preserves,
  ProjQkv.algebraic, ProjGate.preserves, ProjGate.algebraic, OutNorm.preserves, OutNorm.algebraic, GateFwd.preserves,
  GateFwd.algebraic, DHMlp.preserves, DHMlp.algebraic, DHPle.preserves, DHPle.algebraic, Head.preserves,
  Head.algebraic, ProjForget.preserves, ProjForget.algebraic, DWGate.preserves, DWGate.algebraic, DWForget.preserves,
  DWForget.algebraic, FoxPost.preserves, FoxPost.algebraic, FoxPrep.preserves, FoxPrep.algebraic, AdamVec.preserves,
  AdamVec.algebraic, AdamBig.preserves, AdamBig.algebraic, AdamIn.preserves, AdamIn.algebraic, SumSibling.preserves,
  SumSibling.algebraic, SumChips.preserves, SumChips.algebraic⟩

end Cert.Proof

end
